-- ==== Defs.lean ====
def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_pre [hPre_mix_pre : Cert.Pre_mix_pre.Facts] (m : (ℓ : Loc Cert.MixIdeal.nD Cert.MixIdeal.τ Cert.MixIdeal.sig) → Buf (Elt Ideal) ℓ) : Prop :=
  ∀ c : Dev Cert.MixIdeal.nD,
    (Cert.Pre_mix_pre.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_pre [hPre_mix_pre : Cert.Pre_mix_pre.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_pre.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_pre [hPre_out_pre : Cert.Pre_out_pre.Facts] (m : (ℓ : Loc Cert.OutIdeal.nD Cert.OutIdeal.τ Cert.OutIdeal.sig) → Buf (Elt Ideal) ℓ) : Prop :=
  ∀ c : Dev Cert.OutIdeal.nD,
    (Cert.Pre_out_pre.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_pre [hPre_out_pre : Cert.Pre_out_pre.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_pre.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_pre [hPre_in_pre : Cert.Pre_in_pre.Facts] (m : (ℓ : Loc Cert.InIdeal.nD Cert.InIdeal.τ Cert.InIdeal.sig) → Buf (Elt Ideal) ℓ) : Prop :=
  ∀ c : Dev Cert.InIdeal.nD,
    (Cert.Pre_in_pre.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_pre [hPre_in_pre : Cert.Pre_in_pre.Facts] (m : (ℓ : Loc Cert.InRefIdeal.nD Cert.InRefIdeal.τ Cert.InRefIdeal.sig) → Buf (Elt Ideal) ℓ) : Prop :=
  ∀ c : Dev Cert.InRefIdeal.nD,
    (Cert.Pre_in_pre.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))) = (fun _ => 1#1)

def Pre_InFirst (m : (ℓ : Loc Cert.InFirst.nD Cert.InFirst.τ Cert.InFirst.sig) → Buf (Elt Bits) ℓ) : Prop :=
  True

def Pre_InFirstIdeal (m : (ℓ : Loc Cert.InFirstIdeal.nD Cert.InFirstIdeal.τ Cert.InFirstIdeal.sig) → Buf (Elt Ideal) ℓ) : Prop :=
  True

def Pre_InFirstRefIdeal (m : (ℓ : Loc Cert.InFirstRefIdeal.nD Cert.InFirstRefIdeal.τ Cert.InFirstRefIdeal.sig) → Buf (Elt Ideal) ℓ) : Prop :=
  True

def Pre_InLast (m : (ℓ : Loc Cert.InLast.nD Cert.InLast.τ Cert.InLast.sig) → Buf (Elt Bits) ℓ) : Prop :=
  True

def Pre_InLastIdeal (m : (ℓ : Loc Cert.InLastIdeal.nD Cert.InLastIdeal.τ Cert.InLastIdeal.sig) → Buf (Elt Ideal) ℓ) : Prop :=
  True

def Pre_InLastRefIdeal (m : (ℓ : Loc Cert.InLastRefIdeal.nD Cert.InLastRefIdeal.τ Cert.InLastRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_fwd_pre [hPre_mix_fwd_pre : Cert.Pre_mix_fwd_pre.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_fwd_pre.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_mix_fwd_pre [hPre_mix_fwd_pre : Cert.Pre_mix_fwd_pre.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_mix_fwd_pre.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_mix_pre [hMixIdeal : Cert.MixIdeal.Facts] [hPre_mix_pre : Cert.Pre_mix_pre.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_pre m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mix_pre [hMixRefIdeal : Cert.MixRefIdeal.Facts] [hPre_mix_pre : Cert.Pre_mix_pre.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_pre m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutIdeal_pre_out_pre [hOutIdeal : Cert.OutIdeal.Facts] [hPre_out_pre : Cert.Pre_out_pre.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_pre m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_OutRefIdeal_pre_out_pre [hOutRefIdeal : Cert.OutRefIdeal.Facts] [hPre_out_pre : Cert.Pre_out_pre.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_pre m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InIdeal_pre_in_pre [hInIdeal : Cert.InIdeal.Facts] [hPre_in_pre : Cert.Pre_in_pre.Facts] : Prop :=
  ∀ (m : (ℓ : Loc Cert.InIdeal.nD Cert.InIdeal.τ Cert.InIdeal.sig) → Buf (Elt Ideal) ℓ) (g : Dev Cert.InIdeal.nD → PrngReg), Pre_InIdeal_in_pre m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_InRefIdeal_pre_in_pre [hInRefIdeal : Cert.InRefIdeal.Facts] [hPre_in_pre : Cert.Pre_in_pre.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_pre m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_InFirst [hInFirst : Cert.InFirst.Facts] : Prop :=
  ∀ (m : (ℓ : Loc Cert.InFirst.nD Cert.InFirst.τ Cert.InFirst.sig) → Buf (Elt Bits) ℓ) (g : Dev Cert.InFirst.nD → PrngReg), Pre_InFirst m →
    θ_run (Cert.InFirst.defs (F := Bits)) (onTc (τ := Cert.InFirst.τ) (Cert.InFirst.main (F := Bits))) ⟨m, fun _ => 0, g⟩ (fun r => (∀ c : Dev Cert.InFirst.nD,
      r.2.mem ((c.tc : Thread Cert.InFirst.nD Cert.InFirst.τ).loc Cert.InFirst.main_arg0) = m ((c.tc : Thread Cert.InFirst.nD Cert.InFirst.τ).loc Cert.InFirst.main_arg0)
      ∧ r.2.mem ((c.tc : Thread Cert.InFirst.nD Cert.InFirst.τ).loc Cert.InFirst.main_arg1) = m ((c.tc : Thread Cert.InFirst.nD Cert.InFirst.τ).loc Cert.InFirst.main_arg1)
      ∧ r.2.mem ((c.tc : Thread Cert.InFirst.nD Cert.InFirst.τ).loc Cert.InFirst.main_arg2) = m ((c.tc : Thread Cert.InFirst.nD Cert.InFirst.τ).loc Cert.InFirst.main_arg2)
      ∧ r.2.mem ((c.tc : Thread Cert.InFirst.nD Cert.InFirst.τ).loc Cert.InFirst.main_arg3) = m ((c.tc : Thread Cert.InFirst.nD Cert.InFirst.τ).loc Cert.InFirst.main_arg3)
      ∧ r.2.mem ((c.tc : Thread Cert.InFirst.nD Cert.InFirst.τ).loc Cert.InFirst.main_arg4) = m ((c.tc : Thread Cert.InFirst.nD Cert.InFirst.τ).loc Cert.InFirst.main_arg4)
      ∧ r.2.mem ((c.tc : Thread Cert.InFirst.nD Cert.InFirst.τ).loc Cert.InFirst.main_arg5) = m ((c.tc : Thread Cert.InFirst.nD Cert.InFirst.τ).loc Cert.InFirst.main_arg5)
      ∧ r.2.mem ((c.tc : Thread Cert.InFirst.nD Cert.InFirst.τ).loc Cert.InFirst.main_arg6) = m ((c.tc : Thread Cert.InFirst.nD Cert.InFirst.τ).loc Cert.InFirst.main_arg6)
      ∧ r.2.mem ((c.tc : Thread Cert.InFirst.nD Cert.InFirst.τ).loc Cert.InFirst.main_arg7) = m ((c.tc : Thread Cert.InFirst.nD Cert.InFirst.τ).loc Cert.InFirst.main_arg7)
      ∧ r.2.mem ((c.tc : Thread Cert.InFirst.nD Cert.InFirst.τ).loc Cert.InFirst.main_arg8) = m ((c.tc : Thread Cert.InFirst.nD Cert.InFirst.τ).loc Cert.InFirst.main_arg8)
      ∧ r.2.mem ((c.tc : Thread Cert.InFirst.nD Cert.InFirst.τ).loc Cert.InFirst.main_arg9) = m ((c.tc : Thread Cert.InFirst.nD Cert.InFirst.τ).loc Cert.InFirst.main_arg9)
      ∧ r.2.mem ((c.tc : Thread Cert.InFirst.nD Cert.InFirst.τ).loc Cert.InFirst.main_arg10) = m ((c.tc : Thread Cert.InFirst.nD Cert.InFirst.τ).loc Cert.InFirst.main_arg10)
      ∧ r.2.mem ((c.tc : Thread Cert.InFirst.nD Cert.InFirst.τ).loc Cert.InFirst.main_arg11) = m ((c.tc : Thread Cert.InFirst.nD Cert.InFirst.τ).loc Cert.InFirst.main_arg11)
      ∧ r.2.mem ((c.tc : Thread Cert.InFirst.nD Cert.InFirst.τ).loc Cert.InFirst.main_arg12) = m ((c.tc : Thread Cert.InFirst.nD Cert.InFirst.τ).loc Cert.InFirst.main_arg12)
      ∧ r.2.mem ((c.tc : Thread Cert.InFirst.nD Cert.InFirst.τ).loc Cert.InFirst.main_arg13) = m ((c.tc : Thread Cert.InFirst.nD Cert.InFirst.τ).loc Cert.InFirst.main_arg13)
      ∧ r.2.mem ((c.tc : Thread Cert.InFirst.nD Cert.InFirst.τ).loc Cert.InFirst.main_arg14) = m ((c.tc : Thread Cert.InFirst.nD Cert.InFirst.τ).loc Cert.InFirst.main_arg14)
      ∧ r.2.mem ((c.tc : Thread Cert.InFirst.nD Cert.InFirst.τ).loc Cert.InFirst.main_arg15) = m ((c.tc : Thread Cert.InFirst.nD Cert.InFirst.τ).loc Cert.InFirst.main_arg15)
      ∧ r.2.mem ((c.tc : Thread Cert.InFirst.nD Cert.InFirst.τ).loc Cert.InFirst.main_arg16) = m ((c.tc : Thread Cert.InFirst.nD Cert.InFirst.τ).loc Cert.InFirst.main_arg16)
      ∧ r.2.mem ((c.tc : Thread Cert.InFirst.nD Cert.InFirst.τ).loc Cert.InFirst.main_arg17) = m ((c.tc : Thread Cert.InFirst.nD Cert.InFirst.τ).loc Cert.InFirst.main_arg17)
      ∧ r.2.mem ((c.tc : Thread Cert.InFirst.nD Cert.InFirst.τ).loc Cert.InFirst.main_arg18) = m ((c.tc : Thread Cert.InFirst.nD Cert.InFirst.τ).loc Cert.InFirst.main_arg18))
      ∧ r.2.sem = fun _ => 0)

def quiescent_InFirstIdeal [hInFirstIdeal : Cert.InFirstIdeal.Facts] : Prop :=
  ∀ (m : (ℓ : Loc Cert.InFirstIdeal.nD Cert.InFirstIdeal.τ Cert.InFirstIdeal.sig) → Buf (Elt Ideal) ℓ) (g : Dev Cert.InFirstIdeal.nD → PrngReg), Pre_InFirstIdeal m →
    θ_run (Cert.InFirstIdeal.defs (F := Ideal)) (onTc (τ := Cert.InFirstIdeal.τ) (Cert.InFirstIdeal.main (F := Ideal))) ⟨m, fun _ => 0, g⟩ (fun r => (∀ c : Dev Cert.InFirstIdeal.nD,
      r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
      ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
      ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
      ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3)
      ∧ r.2.mem ((c.tc : Thread Cert.InFirstIdeal.nD Cert.InFirstIdeal.τ).loc Cert.InFirstIdeal.main_arg4) = m ((c.tc : Thread Cert.InFirstIdeal.nD Cert.InFirstIdeal.τ).loc Cert.InFirstIdeal.main_arg4)
      ∧ r.2.mem ((c.tc : Thread Cert.InFirstIdeal.nD Cert.InFirstIdeal.τ).loc Cert.InFirstIdeal.main_arg5) = m ((c.tc : Thread Cert.InFirstIdeal.nD Cert.InFirstIdeal.τ).loc Cert.InFirstIdeal.main_arg5)
      ∧ r.2.mem ((c.tc : Thread Cert.InFirstIdeal.nD Cert.InFirstIdeal.τ).loc Cert.InFirstIdeal.main_arg6) = m ((c.tc : Thread Cert.InFirstIdeal.nD Cert.InFirstIdeal.τ).loc Cert.InFirstIdeal.main_arg6)
      ∧ r.2.mem ((c.tc : Thread Cert.InFirstIdeal.nD Cert.InFirstIdeal.τ).loc Cert.InFirstIdeal.main_arg7) = m ((c.tc : Thread Cert.InFirstIdeal.nD Cert.InFirstIdeal.τ).loc Cert.InFirstIdeal.main_arg7)
      ∧ r.2.mem ((c.tc : Thread Cert.InFirstIdeal.nD Cert.InFirstIdeal.τ).loc Cert.InFirstIdeal.main_arg8) = m ((c.tc : Thread Cert.InFirstIdeal.nD Cert.InFirstIdeal.τ).loc Cert.InFirstIdeal.main_arg8)
      ∧ r.2.mem ((c.tc : Thread Cert.InFirstIdeal.nD Cert.InFirstIdeal.τ).loc Cert.InFirstIdeal.main_arg9) = m ((c.tc : Thread Cert.InFirstIdeal.nD Cert.InFirstIdeal.τ).loc Cert.InFirstIdeal.main_arg9)
      ∧ r.2.mem ((c.tc : Thread Cert.InFirstIdeal.nD Cert.InFirstIdeal.τ).loc Cert.InFirstIdeal.main_arg10) = m ((c.tc : Thread Cert.InFirstIdeal.nD Cert.InFirstIdeal.τ).loc Cert.InFirstIdeal.main_arg10)
      ∧ r.2.mem ((c.tc : Thread Cert.InFirstIdeal.nD Cert.InFirstIdeal.τ).loc Cert.InFirstIdeal.main_arg11) = m ((c.tc : Thread Cert.InFirstIdeal.nD Cert.InFirstIdeal.τ).loc Cert.InFirstIdeal.main_arg11)
      ∧ r.2.mem ((c.tc : Thread Cert.InFirstIdeal.nD Cert.InFirstIdeal.τ).loc Cert.InFirstIdeal.main_arg12) = m ((c.tc : Thread Cert.InFirstIdeal.nD Cert.InFirstIdeal.τ).loc Cert.InFirstIdeal.main_arg12)
      ∧ r.2.mem ((c.tc : Thread Cert.InFirstIdeal.nD Cert.InFirstIdeal.τ).loc Cert.InFirstIdeal.main_arg13) = m ((c.tc : Thread Cert.InFirstIdeal.nD Cert.InFirstIdeal.τ).loc Cert.InFirstIdeal.main_arg13)
      ∧ r.2.mem ((c.tc : Thread Cert.InFirstIdeal.nD Cert.InFirstIdeal.τ).loc Cert.InFirstIdeal.main_arg14) = m ((c.tc : Thread Cert.InFirstIdeal.nD Cert.InFirstIdeal.τ).loc Cert.InFirstIdeal.main_arg14)
      ∧ r.2.mem ((c.tc : Thread Cert.InFirstIdeal.nD Cert.InFirstIdeal.τ).loc Cert.InFirstIdeal.main_arg15) = m ((c.tc : Thread Cert.InFirstIdeal.nD Cert.InFirstIdeal.τ).loc Cert.InFirstIdeal.main_arg15)
      ∧ r.2.mem ((c.tc : Thread Cert.InFirstIdeal.nD Cert.InFirstIdeal.τ).loc Cert.InFirstIdeal.main_arg16) = m ((c.tc : Thread Cert.InFirstIdeal.nD Cert.InFirstIdeal.τ).loc Cert.InFirstIdeal.main_arg16)
      ∧ r.2.mem ((c.tc : Thread Cert.InFirstIdeal.nD Cert.InFirstIdeal.τ).loc Cert.InFirstIdeal.main_arg17) = m ((c.tc : Thread Cert.InFirstIdeal.nD Cert.InFirstIdeal.τ).loc Cert.InFirstIdeal.main_arg17)
      ∧ r.2.mem ((c.tc : Thread Cert.InFirstIdeal.nD Cert.InFirstIdeal.τ).loc Cert.InFirstIdeal.main_arg18) = m ((c.tc : Thread Cert.InFirstIdeal.nD Cert.InFirstIdeal.τ).loc Cert.InFirstIdeal.main_arg18))
      ∧ r.2.sem = fun _ => 0)

def quiescent_InFirstRefIdeal [hInFirstRefIdeal : Cert.InFirstRefIdeal.Facts] : Prop :=
  ∀ (m : (ℓ : Loc Cert.InFirstRefIdeal.nD Cert.InFirstRefIdeal.τ Cert.InFirstRefIdeal.sig) → Buf (Elt Ideal) ℓ) (g : Dev Cert.InFirstRefIdeal.nD → PrngReg), Pre_InFirstRefIdeal m →
    θ_run (Cert.InFirstRefIdeal.defs (F := Ideal)) (onTc (τ := Cert.InFirstRefIdeal.τ) (Cert.InFirstRefIdeal.main (F := Ideal))) ⟨m, fun _ => 0, g⟩ (fun r => (∀ c : Dev Cert.InFirstRefIdeal.nD,
      r.2.mem ((c.tc : Thread Cert.InFirstRefIdeal.nD Cert.InFirstRefIdeal.τ).loc Cert.InFirstRefIdeal.main_arg0) = m ((c.tc : Thread Cert.InFirstRefIdeal.nD Cert.InFirstRefIdeal.τ).loc Cert.InFirstRefIdeal.main_arg0)
      ∧ r.2.mem ((c.tc : Thread Cert.InFirstRefIdeal.nD Cert.InFirstRefIdeal.τ).loc Cert.InFirstRefIdeal.main_arg1) = m ((c.tc : Thread Cert.InFirstRefIdeal.nD Cert.InFirstRefIdeal.τ).loc Cert.InFirstRefIdeal.main_arg1)
      ∧ r.2.mem ((c.tc : Thread Cert.InFirstRefIdeal.nD Cert.InFirstRefIdeal.τ).loc Cert.InFirstRefIdeal.main_arg2) = m ((c.tc : Thread Cert.InFirstRefIdeal.nD Cert.InFirstRefIdeal.τ).loc Cert.InFirstRefIdeal.main_arg2)
      ∧ r.2.mem ((c.tc : Thread Cert.InFirstRefIdeal.nD Cert.InFirstRefIdeal.τ).loc Cert.InFirstRefIdeal.main_arg3) = m ((c.tc : Thread Cert.InFirstRefIdeal.nD Cert.InFirstRefIdeal.τ).loc Cert.InFirstRefIdeal.main_arg3)
      ∧ r.2.mem ((c.tc : Thread Cert.InFirstRefIdeal.nD Cert.InFirstRefIdeal.τ).loc Cert.InFirstRefIdeal.main_arg4) = m ((c.tc : Thread Cert.InFirstRefIdeal.nD Cert.InFirstRefIdeal.τ).loc Cert.InFirstRefIdeal.main_arg4)
      ∧ r.2.mem ((c.tc : Thread Cert.InFirstRefIdeal.nD Cert.InFirstRefIdeal.τ).loc Cert.InFirstRefIdeal.main_arg5) = m ((c.tc : Thread Cert.InFirstRefIdeal.nD Cert.InFirstRefIdeal.τ).loc Cert.InFirstRefIdeal.main_arg5)
      ∧ r.2.mem ((c.tc : Thread Cert.InFirstRefIdeal.nD Cert.InFirstRefIdeal.τ).loc Cert.InFirstRefIdeal.main_arg6) = m ((c.tc : Thread Cert.InFirstRefIdeal.nD Cert.InFirstRefIdeal.τ).loc Cert.InFirstRefIdeal.main_arg6)
      ∧ r.2.mem ((c.tc : Thread Cert.InFirstRefIdeal.nD Cert.InFirstRefIdeal.τ).loc Cert.InFirstRefIdeal.main_arg7) = m ((c.tc : Thread Cert.InFirstRefIdeal.nD Cert.InFirstRefIdeal.τ).loc Cert.InFirstRefIdeal.main_arg7)
      ∧ r.2.mem ((c.tc : Thread Cert.InFirstRefIdeal.nD Cert.InFirstRefIdeal.τ).loc Cert.InFirstRefIdeal.main_arg8) = m ((c.tc : Thread Cert.InFirstRefIdeal.nD Cert.InFirstRefIdeal.τ).loc Cert.InFirstRefIdeal.main_arg8)
      ∧ r.2.mem ((c.tc : Thread Cert.InFirstRefIdeal.nD Cert.InFirstRefIdeal.τ).loc Cert.InFirstRefIdeal.main_arg9) = m ((c.tc : Thread Cert.InFirstRefIdeal.nD Cert.InFirstRefIdeal.τ).loc Cert.InFirstRefIdeal.main_arg9)
      ∧ r.2.mem ((c.tc : Thread Cert.InFirstRefIdeal.nD Cert.InFirstRefIdeal.τ).loc Cert.InFirstRefIdeal.main_arg10) = m ((c.tc : Thread Cert.InFirstRefIdeal.nD Cert.InFirstRefIdeal.τ).loc Cert.InFirstRefIdeal.main_arg10)
      ∧ r.2.mem ((c.tc : Thread Cert.InFirstRefIdeal.nD Cert.InFirstRefIdeal.τ).loc Cert.InFirstRefIdeal.main_arg11) = m ((c.tc : Thread Cert.InFirstRefIdeal.nD Cert.InFirstRefIdeal.τ).loc Cert.InFirstRefIdeal.main_arg11)
      ∧ r.2.mem ((c.tc : Thread Cert.InFirstRefIdeal.nD Cert.InFirstRefIdeal.τ).loc Cert.InFirstRefIdeal.main_arg12) = m ((c.tc : Thread Cert.InFirstRefIdeal.nD Cert.InFirstRefIdeal.τ).loc Cert.InFirstRefIdeal.main_arg12)
      ∧ r.2.mem ((c.tc : Thread Cert.InFirstRefIdeal.nD Cert.InFirstRefIdeal.τ).loc Cert.InFirstRefIdeal.main_arg13) = m ((c.tc : Thread Cert.InFirstRefIdeal.nD Cert.InFirstRefIdeal.τ).loc Cert.InFirstRefIdeal.main_arg13)
      ∧ r.2.mem ((c.tc : Thread Cert.InFirstRefIdeal.nD Cert.InFirstRefIdeal.τ).loc Cert.InFirstRefIdeal.main_arg14) = m ((c.tc : Thread Cert.InFirstRefIdeal.nD Cert.InFirstRefIdeal.τ).loc Cert.InFirstRefIdeal.main_arg14)
      ∧ r.2.mem ((c.tc : Thread Cert.InFirstRefIdeal.nD Cert.InFirstRefIdeal.τ).loc Cert.InFirstRefIdeal.main_arg15) = m ((c.tc : Thread Cert.InFirstRefIdeal.nD Cert.InFirstRefIdeal.τ).loc Cert.InFirstRefIdeal.main_arg15)
      ∧ r.2.mem ((c.tc : Thread Cert.InFirstRefIdeal.nD Cert.InFirstRefIdeal.τ).loc Cert.InFirstRefIdeal.main_arg16) = m ((c.tc : Thread Cert.InFirstRefIdeal.nD Cert.InFirstRefIdeal.τ).loc Cert.InFirstRefIdeal.main_arg16)
      ∧ r.2.mem ((c.tc : Thread Cert.InFirstRefIdeal.nD Cert.InFirstRefIdeal.τ).loc Cert.InFirstRefIdeal.main_arg17) = m ((c.tc : Thread Cert.InFirstRefIdeal.nD Cert.InFirstRefIdeal.τ).loc Cert.InFirstRefIdeal.main_arg17)
      ∧ r.2.mem ((c.tc : Thread Cert.InFirstRefIdeal.nD Cert.InFirstRefIdeal.τ).loc Cert.InFirstRefIdeal.main_arg18) = m ((c.tc : Thread Cert.InFirstRefIdeal.nD Cert.InFirstRefIdeal.τ).loc Cert.InFirstRefIdeal.main_arg18))
      ∧ r.2.sem = fun _ => 0)

def quiescent_InLast [hInLast : Cert.InLast.Facts] : Prop :=
  ∀ (m : (ℓ : Loc Cert.InLast.nD Cert.InLast.τ Cert.InLast.sig) → Buf (Elt Bits) ℓ) (g : Dev Cert.InLast.nD → PrngReg), Pre_InLast m →
    θ_run (Cert.InLast.defs (F := Bits)) (onTc (τ := Cert.InLast.τ) (Cert.InLast.main (F := Bits))) ⟨m, fun _ => 0, g⟩ (fun r => (∀ c : Dev Cert.InLast.nD,
      r.2.mem ((c.tc : Thread Cert.InLast.nD Cert.InLast.τ).loc Cert.InLast.main_arg0) = m ((c.tc : Thread Cert.InLast.nD Cert.InLast.τ).loc Cert.InLast.main_arg0)
      ∧ r.2.mem ((c.tc : Thread Cert.InLast.nD Cert.InLast.τ).loc Cert.InLast.main_arg1) = m ((c.tc : Thread Cert.InLast.nD Cert.InLast.τ).loc Cert.InLast.main_arg1)
      ∧ r.2.mem ((c.tc : Thread Cert.InLast.nD Cert.InLast.τ).loc Cert.InLast.main_arg2) = m ((c.tc : Thread Cert.InLast.nD Cert.InLast.τ).loc Cert.InLast.main_arg2)
      ∧ r.2.mem ((c.tc : Thread Cert.InLast.nD Cert.InLast.τ).loc Cert.InLast.main_arg3) = m ((c.tc : Thread Cert.InLast.nD Cert.InLast.τ).loc Cert.InLast.main_arg3)
      ∧ r.2.mem ((c.tc : Thread Cert.InLast.nD Cert.InLast.τ).loc Cert.InLast.main_arg4) = m ((c.tc : Thread Cert.InLast.nD Cert.InLast.τ).loc Cert.InLast.main_arg4)
      ∧ r.2.mem ((c.tc : Thread Cert.InLast.nD Cert.InLast.τ).loc Cert.InLast.main_arg5) = m ((c.tc : Thread Cert.InLast.nD Cert.InLast.τ).loc Cert.InLast.main_arg5)
      ∧ r.2.mem ((c.tc : Thread Cert.InLast.nD Cert.InLast.τ).loc Cert.InLast.main_arg6) = m ((c.tc : Thread Cert.InLast.nD Cert.InLast.τ).loc Cert.InLast.main_arg6)
      ∧ r.2.mem ((c.tc : Thread Cert.InLast.nD Cert.InLast.τ).loc Cert.InLast.main_arg7) = m ((c.tc : Thread Cert.InLast.nD Cert.InLast.τ).loc Cert.InLast.main_arg7)
      ∧ r.2.mem ((c.tc : Thread Cert.InLast.nD Cert.InLast.τ).loc Cert.InLast.main_arg8) = m ((c.tc : Thread Cert.InLast.nD Cert.InLast.τ).loc Cert.InLast.main_arg8)
      ∧ r.2.mem ((c.tc : Thread Cert.InLast.nD Cert.InLast.τ).loc Cert.InLast.main_arg9) = m ((c.tc : Thread Cert.InLast.nD Cert.InLast.τ).loc Cert.InLast.main_arg9)
      ∧ r.2.mem ((c.tc : Thread Cert.InLast.nD Cert.InLast.τ).loc Cert.InLast.main_arg10) = m ((c.tc : Thread Cert.InLast.nD Cert.InLast.τ).loc Cert.InLast.main_arg10)
      ∧ r.2.mem ((c.tc : Thread Cert.InLast.nD Cert.InLast.τ).loc Cert.InLast.main_arg11) = m ((c.tc : Thread Cert.InLast.nD Cert.InLast.τ).loc Cert.InLast.main_arg11)
      ∧ r.2.mem ((c.tc : Thread Cert.InLast.nD Cert.InLast.τ).loc Cert.InLast.main_arg12) = m ((c.tc : Thread Cert.InLast.nD Cert.InLast.τ).loc Cert.InLast.main_arg12)
      ∧ r.2.mem ((c.tc : Thread Cert.InLast.nD Cert.InLast.τ).loc Cert.InLast.main_arg13) = m ((c.tc : Thread Cert.InLast.nD Cert.InLast.τ).loc Cert.InLast.main_arg13)
      ∧ r.2.mem ((c.tc : Thread Cert.InLast.nD Cert.InLast.τ).loc Cert.InLast.main_arg14) = m ((c.tc : Thread Cert.InLast.nD Cert.InLast.τ).loc Cert.InLast.main_arg14)
      ∧ r.2.mem ((c.tc : Thread Cert.InLast.nD Cert.InLast.τ).loc Cert.InLast.main_arg15) = m ((c.tc : Thread Cert.InLast.nD Cert.InLast.τ).loc Cert.InLast.main_arg15)
      ∧ r.2.mem ((c.tc : Thread Cert.InLast.nD Cert.InLast.τ).loc Cert.InLast.main_arg16) = m ((c.tc : Thread Cert.InLast.nD Cert.InLast.τ).loc Cert.InLast.main_arg16)
      ∧ r.2.mem ((c.tc : Thread Cert.InLast.nD Cert.InLast.τ).loc Cert.InLast.main_arg17) = m ((c.tc : Thread Cert.InLast.nD Cert.InLast.τ).loc Cert.InLast.main_arg17)
      ∧ r.2.mem ((c.tc : Thread Cert.InLast.nD Cert.InLast.τ).loc Cert.InLast.main_arg18) = m ((c.tc : Thread Cert.InLast.nD Cert.InLast.τ).loc Cert.InLast.main_arg18)
      ∧ r.2.mem ((c.tc : Thread Cert.InLast.nD Cert.InLast.τ).loc Cert.InLast.main_arg19) = m ((c.tc : Thread Cert.InLast.nD Cert.InLast.τ).loc Cert.InLast.main_arg19)
      ∧ r.2.mem ((c.tc : Thread Cert.InLast.nD Cert.InLast.τ).loc Cert.InLast.main_arg20) = m ((c.tc : Thread Cert.InLast.nD Cert.InLast.τ).loc Cert.InLast.main_arg20)
      ∧ r.2.mem ((c.tc : Thread Cert.InLast.nD Cert.InLast.τ).loc Cert.InLast.main_arg21) = m ((c.tc : Thread Cert.InLast.nD Cert.InLast.τ).loc Cert.InLast.main_arg21)
      ∧ r.2.mem ((c.tc : Thread Cert.InLast.nD Cert.InLast.τ).loc Cert.InLast.main_arg22) = m ((c.tc : Thread Cert.InLast.nD Cert.InLast.τ).loc Cert.InLast.main_arg22)
      ∧ r.2.mem ((c.tc : Thread Cert.InLast.nD Cert.InLast.τ).loc Cert.InLast.main_arg23) = m ((c.tc : Thread Cert.InLast.nD Cert.InLast.τ).loc Cert.InLast.main_arg23)
      ∧ r.2.mem ((c.tc : Thread Cert.InLast.nD Cert.InLast.τ).loc Cert.InLast.main_arg24) = m ((c.tc : Thread Cert.InLast.nD Cert.InLast.τ).loc Cert.InLast.main_arg24)
      ∧ r.2.mem ((c.tc : Thread Cert.InLast.nD Cert.InLast.τ).loc Cert.InLast.main_arg25) = m ((c.tc : Thread Cert.InLast.nD Cert.InLast.τ).loc Cert.InLast.main_arg25)
      ∧ r.2.mem ((c.tc : Thread Cert.InLast.nD Cert.InLast.τ).loc Cert.InLast.main_arg26) = m ((c.tc : Thread Cert.InLast.nD Cert.InLast.τ).loc Cert.InLast.main_arg26))
      ∧ r.2.sem = fun _ => 0)

def quiescent_InLastIdeal [hInLastIdeal : Cert.InLastIdeal.Facts] : Prop :=
  ∀ (m : (ℓ : Loc Cert.InLastIdeal.nD Cert.InLastIdeal.τ Cert.InLastIdeal.sig) → Buf (Elt Ideal) ℓ) (g : Dev Cert.InLastIdeal.nD → PrngReg), Pre_InLastIdeal m →
    θ_run (Cert.InLastIdeal.defs (F := Ideal)) (onTc (τ := Cert.InLastIdeal.τ) (Cert.InLastIdeal.main (F := Ideal))) ⟨m, fun _ => 0, g⟩ (fun r => (∀ c : Dev Cert.InLastIdeal.nD,
      r.2.mem ((c.tc : Thread Cert.InLastIdeal.nD Cert.InLastIdeal.τ).loc Cert.InLastIdeal.main_arg0) = m ((c.tc : Thread Cert.InLastIdeal.nD Cert.InLastIdeal.τ).loc Cert.InLastIdeal.main_arg0)
      ∧ r.2.mem ((c.tc : Thread Cert.InLastIdeal.nD Cert.InLastIdeal.τ).loc Cert.InLastIdeal.main_arg1) = m ((c.tc : Thread Cert.InLastIdeal.nD Cert.InLastIdeal.τ).loc Cert.InLastIdeal.main_arg1)
      ∧ r.2.mem ((c.tc : Thread Cert.InLastIdeal.nD Cert.InLastIdeal.τ).loc Cert.InLastIdeal.main_arg2) = m ((c.tc : Thread Cert.InLastIdeal.nD Cert.InLastIdeal.τ).loc Cert.InLastIdeal.main_arg2)
      ∧ r.2.mem ((c.tc : Thread Cert.InLastIdeal.nD Cert.InLastIdeal.τ).loc Cert.InLastIdeal.main_arg3) = m ((c.tc : Thread Cert.InLastIdeal.nD Cert.InLastIdeal.τ).loc Cert.InLastIdeal.main_arg3)
      ∧ r.2.mem ((c.tc : Thread Cert.InLastIdeal.nD Cert.InLastIdeal.τ).loc Cert.InLastIdeal.main_arg4) = m ((c.tc : Thread Cert.InLastIdeal.nD Cert.InLastIdeal.τ).loc Cert.InLastIdeal.main_arg4)
      ∧ r.2.mem ((c.tc : Thread Cert.InLastIdeal.nD Cert.InLastIdeal.τ).loc Cert.InLastIdeal.main_arg5) = m ((c.tc : Thread Cert.InLastIdeal.nD Cert.InLastIdeal.τ).loc Cert.InLastIdeal.main_arg5)
      ∧ r.2.mem ((c.tc : Thread Cert.InLastIdeal.nD Cert.InLastIdeal.τ).loc Cert.InLastIdeal.main_arg6) = m ((c.tc : Thread Cert.InLastIdeal.nD Cert.InLastIdeal.τ).loc Cert.InLastIdeal.main_arg6)
      ∧ r.2.mem ((c.tc : Thread Cert.InLastIdeal.nD Cert.InLastIdeal.τ).loc Cert.InLastIdeal.main_arg7) = m ((c.tc : Thread Cert.InLastIdeal.nD Cert.InLastIdeal.τ).loc Cert.InLastIdeal.main_arg7)
      ∧ r.2.mem ((c.tc : Thread Cert.InLastIdeal.nD Cert.InLastIdeal.τ).loc Cert.InLastIdeal.main_arg8) = m ((c.tc : Thread Cert.InLastIdeal.nD Cert.InLastIdeal.τ).loc Cert.InLastIdeal.main_arg8)
      ∧ r.2.mem ((c.tc : Thread Cert.InLastIdeal.nD Cert.InLastIdeal.τ).loc Cert.InLastIdeal.main_arg9) = m ((c.tc : Thread Cert.InLastIdeal.nD Cert.InLastIdeal.τ).loc Cert.InLastIdeal.main_arg9)
      ∧ r.2.mem ((c.tc : Thread Cert.InLastIdeal.nD Cert.InLastIdeal.τ).loc Cert.InLastIdeal.main_arg10) = m ((c.tc : Thread Cert.InLastIdeal.nD Cert.InLastIdeal.τ).loc Cert.InLastIdeal.main_arg10)
      ∧ r.2.mem ((c.tc : Thread Cert.InLastIdeal.nD Cert.InLastIdeal.τ).loc Cert.InLastIdeal.main_arg11) = m ((c.tc : Thread Cert.InLastIdeal.nD Cert.InLastIdeal.τ).loc Cert.InLastIdeal.main_arg11)
      ∧ r.2.mem ((c.tc : Thread Cert.InLastIdeal.nD Cert.InLastIdeal.τ).loc Cert.InLastIdeal.main_arg12) = m ((c.tc : Thread Cert.InLastIdeal.nD Cert.InLastIdeal.τ).loc Cert.InLastIdeal.main_arg12)
      ∧ r.2.mem ((c.tc : Thread Cert.InLastIdeal.nD Cert.InLastIdeal.τ).loc Cert.InLastIdeal.main_arg13) = m ((c.tc : Thread Cert.InLastIdeal.nD Cert.InLastIdeal.τ).loc Cert.InLastIdeal.main_arg13)
      ∧ r.2.mem ((c.tc : Thread Cert.InLastIdeal.nD Cert.InLastIdeal.τ).loc Cert.InLastIdeal.main_arg14) = m ((c.tc : Thread Cert.InLastIdeal.nD Cert.InLastIdeal.τ).loc Cert.InLastIdeal.main_arg14)
      ∧ r.2.mem ((c.tc : Thread Cert.InLastIdeal.nD Cert.InLastIdeal.τ).loc Cert.InLastIdeal.main_arg15) = m ((c.tc : Thread Cert.InLastIdeal.nD Cert.InLastIdeal.τ).loc Cert.InLastIdeal.main_arg15)
      ∧ r.2.mem ((c.tc : Thread Cert.InLastIdeal.nD Cert.InLastIdeal.τ).loc Cert.InLastIdeal.main_arg16) = m ((c.tc : Thread Cert.InLastIdeal.nD Cert.InLastIdeal.τ).loc Cert.InLastIdeal.main_arg16)
      ∧ r.2.mem ((c.tc : Thread Cert.InLastIdeal.nD Cert.InLastIdeal.τ).loc Cert.InLastIdeal.main_arg17) = m ((c.tc : Thread Cert.InLastIdeal.nD Cert.InLastIdeal.τ).loc Cert.InLastIdeal.main_arg17)
      ∧ r.2.mem ((c.tc : Thread Cert.InLastIdeal.nD Cert.InLastIdeal.τ).loc Cert.InLastIdeal.main_arg18) = m ((c.tc : Thread Cert.InLastIdeal.nD Cert.InLastIdeal.τ).loc Cert.InLastIdeal.main_arg18)
      ∧ r.2.mem ((c.tc : Thread Cert.InLastIdeal.nD Cert.InLastIdeal.τ).loc Cert.InLastIdeal.main_arg19) = m ((c.tc : Thread Cert.InLastIdeal.nD Cert.InLastIdeal.τ).loc Cert.InLastIdeal.main_arg19)
      ∧ r.2.mem ((c.tc : Thread Cert.InLastIdeal.nD Cert.InLastIdeal.τ).loc Cert.InLastIdeal.main_arg20) = m ((c.tc : Thread Cert.InLastIdeal.nD Cert.InLastIdeal.τ).loc Cert.InLastIdeal.main_arg20)
      ∧ r.2.mem ((c.tc : Thread Cert.InLastIdeal.nD Cert.InLastIdeal.τ).loc Cert.InLastIdeal.main_arg21) = m ((c.tc : Thread Cert.InLastIdeal.nD Cert.InLastIdeal.τ).loc Cert.InLastIdeal.main_arg21)
      ∧ r.2.mem ((c.tc : Thread Cert.InLastIdeal.nD Cert.InLastIdeal.τ).loc Cert.InLastIdeal.main_arg22) = m ((c.tc : Thread Cert.InLastIdeal.nD Cert.InLastIdeal.τ).loc Cert.InLastIdeal.main_arg22)
      ∧ r.2.mem ((c.tc : Thread Cert.InLastIdeal.nD Cert.InLastIdeal.τ).loc Cert.InLastIdeal.main_arg23) = m ((c.tc : Thread Cert.InLastIdeal.nD Cert.InLastIdeal.τ).loc Cert.InLastIdeal.main_arg23)
      ∧ r.2.mem ((c.tc : Thread Cert.InLastIdeal.nD Cert.InLastIdeal.τ).loc Cert.InLastIdeal.main_arg24) = m ((c.tc : Thread Cert.InLastIdeal.nD Cert.InLastIdeal.τ).loc Cert.InLastIdeal.main_arg24)
      ∧ r.2.mem ((c.tc : Thread Cert.InLastIdeal.nD Cert.InLastIdeal.τ).loc Cert.InLastIdeal.main_arg25) = m ((c.tc : Thread Cert.InLastIdeal.nD Cert.InLastIdeal.τ).loc Cert.InLastIdeal.main_arg25)
      ∧ r.2.mem ((c.tc : Thread Cert.InLastIdeal.nD Cert.InLastIdeal.τ).loc Cert.InLastIdeal.main_arg26) = m ((c.tc : Thread Cert.InLastIdeal.nD Cert.InLastIdeal.τ).loc Cert.InLastIdeal.main_arg26))
      ∧ r.2.sem = fun _ => 0)

def quiescent_InLastRefIdeal [hInLastRefIdeal : Cert.InLastRefIdeal.Facts] : Prop :=
  ∀ (m : (ℓ : Loc Cert.InLastRefIdeal.nD Cert.InLastRefIdeal.τ Cert.InLastRefIdeal.sig) → Buf (Elt Ideal) ℓ) (g : Dev Cert.InLastRefIdeal.nD → PrngReg), Pre_InLastRefIdeal m →
    θ_run (Cert.InLastRefIdeal.defs (F := Ideal)) (onTc (τ := Cert.InLastRefIdeal.τ) (Cert.InLastRefIdeal.main (F := Ideal))) ⟨m, fun _ => 0, g⟩ (fun r => (∀ c : Dev Cert.InLastRefIdeal.nD,
      r.2.mem ((c.tc : Thread Cert.InLastRefIdeal.nD Cert.InLastRefIdeal.τ).loc Cert.InLastRefIdeal.main_arg0) = m ((c.tc : Thread Cert.InLastRefIdeal.nD Cert.InLastRefIdeal.τ).loc Cert.InLastRefIdeal.main_arg0)
      ∧ r.2.mem ((c.tc : Thread Cert.InLastRefIdeal.nD Cert.InLastRefIdeal.τ).loc Cert.InLastRefIdeal.main_arg1) = m ((c.tc : Thread Cert.InLastRefIdeal.nD Cert.InLastRefIdeal.τ).loc Cert.InLastRefIdeal.main_arg1)
      ∧ r.2.mem ((c.tc : Thread Cert.InLastRefIdeal.nD Cert.InLastRefIdeal.τ).loc Cert.InLastRefIdeal.main_arg2) = m ((c.tc : Thread Cert.InLastRefIdeal.nD Cert.InLastRefIdeal.τ).loc Cert.InLastRefIdeal.main_arg2)
      ∧ r.2.mem ((c.tc : Thread Cert.InLastRefIdeal.nD Cert.InLastRefIdeal.τ).loc Cert.InLastRefIdeal.main_arg3) = m ((c.tc : Thread Cert.InLastRefIdeal.nD Cert.InLastRefIdeal.τ).loc Cert.InLastRefIdeal.main_arg3)
      ∧ r.2.mem ((c.tc : Thread Cert.InLastRefIdeal.nD Cert.InLastRefIdeal.τ).loc Cert.InLastRefIdeal.main_arg4) = m ((c.tc : Thread Cert.InLastRefIdeal.nD Cert.InLastRefIdeal.τ).loc Cert.InLastRefIdeal.main_arg4)
      ∧ r.2.mem ((c.tc : Thread Cert.InLastRefIdeal.nD Cert.InLastRefIdeal.τ).loc Cert.InLastRefIdeal.main_arg5) = m ((c.tc : Thread Cert.InLastRefIdeal.nD Cert.InLastRefIdeal.τ).loc Cert.InLastRefIdeal.main_arg5)
      ∧ r.2.mem ((c.tc : Thread Cert.InLastRefIdeal.nD Cert.InLastRefIdeal.τ).loc Cert.InLastRefIdeal.main_arg6) = m ((c.tc : Thread Cert.InLastRefIdeal.nD Cert.InLastRefIdeal.τ).loc Cert.InLastRefIdeal.main_arg6)
      ∧ r.2.mem ((c.tc : Thread Cert.InLastRefIdeal.nD Cert.InLastRefIdeal.τ).loc Cert.InLastRefIdeal.main_arg7) = m ((c.tc : Thread Cert.InLastRefIdeal.nD Cert.InLastRefIdeal.τ).loc Cert.InLastRefIdeal.main_arg7)
      ∧ r.2.mem ((c.tc : Thread Cert.InLastRefIdeal.nD Cert.InLastRefIdeal.τ).loc Cert.InLastRefIdeal.main_arg8) = m ((c.tc : Thread Cert.InLastRefIdeal.nD Cert.InLastRefIdeal.τ).loc Cert.InLastRefIdeal.main_arg8)
      ∧ r.2.mem ((c.tc : Thread Cert.InLastRefIdeal.nD Cert.InLastRefIdeal.τ).loc Cert.InLastRefIdeal.main_arg9) = m ((c.tc : Thread Cert.InLastRefIdeal.nD Cert.InLastRefIdeal.τ).loc Cert.InLastRefIdeal.main_arg9)
      ∧ r.2.mem ((c.tc : Thread Cert.InLastRefIdeal.nD Cert.InLastRefIdeal.τ).loc Cert.InLastRefIdeal.main_arg10) = m ((c.tc : Thread Cert.InLastRefIdeal.nD Cert.InLastRefIdeal.τ).loc Cert.InLastRefIdeal.main_arg10)
      ∧ r.2.mem ((c.tc : Thread Cert.InLastRefIdeal.nD Cert.InLastRefIdeal.τ).loc Cert.InLastRefIdeal.main_arg11) = m ((c.tc : Thread Cert.InLastRefIdeal.nD Cert.InLastRefIdeal.τ).loc Cert.InLastRefIdeal.main_arg11)
      ∧ r.2.mem ((c.tc : Thread Cert.InLastRefIdeal.nD Cert.InLastRefIdeal.τ).loc Cert.InLastRefIdeal.main_arg12) = m ((c.tc : Thread Cert.InLastRefIdeal.nD Cert.InLastRefIdeal.τ).loc Cert.InLastRefIdeal.main_arg12)
      ∧ r.2.mem ((c.tc : Thread Cert.InLastRefIdeal.nD Cert.InLastRefIdeal.τ).loc Cert.InLastRefIdeal.main_arg13) = m ((c.tc : Thread Cert.InLastRefIdeal.nD Cert.InLastRefIdeal.τ).loc Cert.InLastRefIdeal.main_arg13)
      ∧ r.2.mem ((c.tc : Thread Cert.InLastRefIdeal.nD Cert.InLastRefIdeal.τ).loc Cert.InLastRefIdeal.main_arg14) = m ((c.tc : Thread Cert.InLastRefIdeal.nD Cert.InLastRefIdeal.τ).loc Cert.InLastRefIdeal.main_arg14)
      ∧ r.2.mem ((c.tc : Thread Cert.InLastRefIdeal.nD Cert.InLastRefIdeal.τ).loc Cert.InLastRefIdeal.main_arg15) = m ((c.tc : Thread Cert.InLastRefIdeal.nD Cert.InLastRefIdeal.τ).loc Cert.InLastRefIdeal.main_arg15)
      ∧ r.2.mem ((c.tc : Thread Cert.InLastRefIdeal.nD Cert.InLastRefIdeal.τ).loc Cert.InLastRefIdeal.main_arg16) = m ((c.tc : Thread Cert.InLastRefIdeal.nD Cert.InLastRefIdeal.τ).loc Cert.InLastRefIdeal.main_arg16)
      ∧ r.2.mem ((c.tc : Thread Cert.InLastRefIdeal.nD Cert.InLastRefIdeal.τ).loc Cert.InLastRefIdeal.main_arg17) = m ((c.tc : Thread Cert.InLastRefIdeal.nD Cert.InLastRefIdeal.τ).loc Cert.InLastRefIdeal.main_arg17)
      ∧ r.2.mem ((c.tc : Thread Cert.InLastRefIdeal.nD Cert.InLastRefIdeal.τ).loc Cert.InLastRefIdeal.main_arg18) = m ((c.tc : Thread Cert.InLastRefIdeal.nD Cert.InLastRefIdeal.τ).loc Cert.InLastRefIdeal.main_arg18)
      ∧ r.2.mem ((c.tc : Thread Cert.InLastRefIdeal.nD Cert.InLastRefIdeal.τ).loc Cert.InLastRefIdeal.main_arg19) = m ((c.tc : Thread Cert.InLastRefIdeal.nD Cert.InLastRefIdeal.τ).loc Cert.InLastRefIdeal.main_arg19)
      ∧ r.2.mem ((c.tc : Thread Cert.InLastRefIdeal.nD Cert.InLastRefIdeal.τ).loc Cert.InLastRefIdeal.main_arg20) = m ((c.tc : Thread Cert.InLastRefIdeal.nD Cert.InLastRefIdeal.τ).loc Cert.InLastRefIdeal.main_arg20)
      ∧ r.2.mem ((c.tc : Thread Cert.InLastRefIdeal.nD Cert.InLastRefIdeal.τ).loc Cert.InLastRefIdeal.main_arg21) = m ((c.tc : Thread Cert.InLastRefIdeal.nD Cert.InLastRefIdeal.τ).loc Cert.InLastRefIdeal.main_arg21)
      ∧ r.2.mem ((c.tc : Thread Cert.InLastRefIdeal.nD Cert.InLastRefIdeal.τ).loc Cert.InLastRefIdeal.main_arg22) = m ((c.tc : Thread Cert.InLastRefIdeal.nD Cert.InLastRefIdeal.τ).loc Cert.InLastRefIdeal.main_arg22)
      ∧ r.2.mem ((c.tc : Thread Cert.InLastRefIdeal.nD Cert.InLastRefIdeal.τ).loc Cert.InLastRefIdeal.main_arg23) = m ((c.tc : Thread Cert.InLastRefIdeal.nD Cert.InLastRefIdeal.τ).loc Cert.InLastRefIdeal.main_arg23)
      ∧ r.2.mem ((c.tc : Thread Cert.InLastRefIdeal.nD Cert.InLastRefIdeal.τ).loc Cert.InLastRefIdeal.main_arg24) = m ((c.tc : Thread Cert.InLastRefIdeal.nD Cert.InLastRefIdeal.τ).loc Cert.InLastRefIdeal.main_arg24)
      ∧ r.2.mem ((c.tc : Thread Cert.InLastRefIdeal.nD Cert.InLastRefIdeal.τ).loc Cert.InLastRefIdeal.main_arg25) = m ((c.tc : Thread Cert.InLastRefIdeal.nD Cert.InLastRefIdeal.τ).loc Cert.InLastRefIdeal.main_arg25)
      ∧ r.2.mem ((c.tc : Thread Cert.InLastRefIdeal.nD Cert.InLastRefIdeal.τ).loc Cert.InLastRefIdeal.main_arg26) = m ((c.tc : Thread Cert.InLastRefIdeal.nD Cert.InLastRefIdeal.τ).loc Cert.InLastRefIdeal.main_arg26))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_MixFwdIdeal_pre_mix_fwd_pre [hMixFwdIdeal : Cert.MixFwdIdeal.Facts] [hPre_mix_fwd_pre : Cert.Pre_mix_fwd_pre.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_fwd_pre m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3))
      ∧ r.2.sem = fun _ => 0)

def quiescent_MixFwdRefIdeal_pre_mix_fwd_pre [hMixFwdRefIdeal : Cert.MixFwdRefIdeal.Facts] [hPre_mix_fwd_pre : Cert.Pre_mix_fwd_pre.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_mix_fwd_pre m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)) (v2 : (c : Dev Cert.AdaIdeal.nD) → Buf (Elt Ideal) ((c.tc : Thread Cert.AdaIdeal.nD Cert.AdaIdeal.τ).loc Cert.AdaIdeal.main_v0_2)) (v3 : (c : Dev Cert.AdaIdeal.nD) → Buf (Elt Ideal) ((c.tc : Thread Cert.AdaIdeal.nD Cert.AdaIdeal.τ).loc Cert.AdaIdeal.main_v0_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_v0_2) = v2 c
          ∧ r.2.mem ((c.tc : Thread Cert.AdaIdeal.nD Cert.AdaIdeal.τ).loc Cert.AdaIdeal.main_v0_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_v29) = v1 c
          ∧ r.2.mem ((c.tc : Thread Cert.AdaRefIdeal.nD Cert.AdaRefIdeal.τ).loc Cert.AdaRefIdeal.main_v10) = v2 c
          ∧ r.2.mem ((c.tc : Thread Cert.AdaRefIdeal.nD Cert.AdaRefIdeal.τ).loc Cert.AdaRefIdeal.main_v16) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Mix_MixIdeal : Prop :=
  True

def algebraic_MixIdeal_MixRefIdeal_pre_mix_pre [hMixIdeal : Cert.MixIdeal.Facts] [hMixRefIdeal : Cert.MixRefIdeal.Facts] [hPre_mix_pre : Cert.Pre_mix_pre.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_pre m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v62_0)) (v1 : (c : Dev Cert.MixIdeal.nD) → Buf (Elt Ideal) ((c.tc : Thread Cert.MixIdeal.nD Cert.MixIdeal.τ).loc Cert.MixIdeal.main_v62_1)) (v2 : (c : Dev Cert.MixIdeal.nD) → Buf (Elt Ideal) ((c.tc : Thread Cert.MixIdeal.nD Cert.MixIdeal.τ).loc Cert.MixIdeal.main_v62_2)) (v3 : (c : Dev Cert.MixIdeal.nD) → Buf (Elt Ideal) ((c.tc : Thread Cert.MixIdeal.nD Cert.MixIdeal.τ).loc Cert.MixIdeal.main_v62_3)) (v4 : (c : Dev Cert.MixIdeal.nD) → Buf (Elt Ideal) ((c.tc : Thread Cert.MixIdeal.nD Cert.MixIdeal.τ).loc Cert.MixIdeal.main_v62_4)) (v5 : (c : Dev Cert.MixIdeal.nD) → Buf (Elt Ideal) ((c.tc : Thread Cert.MixIdeal.nD Cert.MixIdeal.τ).loc Cert.MixIdeal.main_v62_5)) (v6 : (c : Dev Cert.MixIdeal.nD) → Buf (Elt Ideal) ((c.tc : Thread Cert.MixIdeal.nD Cert.MixIdeal.τ).loc Cert.MixIdeal.main_v62_6)) (v7 : (c : Dev Cert.MixIdeal.nD) → Buf (Elt Ideal) ((c.tc : Thread Cert.MixIdeal.nD Cert.MixIdeal.τ).loc Cert.MixIdeal.main_v62_7)) (v8 : (c : Dev Cert.MixIdeal.nD) → Buf (Elt Ideal) ((c.tc : Thread Cert.MixIdeal.nD Cert.MixIdeal.τ).loc Cert.MixIdeal.main_v62_8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v62_0) = v0 c
          ∧ r.2.mem ((c.tc : Thread Cert.MixIdeal.nD Cert.MixIdeal.τ).loc Cert.MixIdeal.main_v62_1) = v1 c
          ∧ r.2.mem ((c.tc : Thread Cert.MixIdeal.nD Cert.MixIdeal.τ).loc Cert.MixIdeal.main_v62_2) = v2 c
          ∧ r.2.mem ((c.tc : Thread Cert.MixIdeal.nD Cert.MixIdeal.τ).loc Cert.MixIdeal.main_v62_3) = v3 c
          ∧ r.2.mem ((c.tc : Thread Cert.MixIdeal.nD Cert.MixIdeal.τ).loc Cert.MixIdeal.main_v62_4) = v4 c
          ∧ r.2.mem ((c.tc : Thread Cert.MixIdeal.nD Cert.MixIdeal.τ).loc Cert.MixIdeal.main_v62_5) = v5 c
          ∧ r.2.mem ((c.tc : Thread Cert.MixIdeal.nD Cert.MixIdeal.τ).loc Cert.MixIdeal.main_v62_6) = v6 c
          ∧ r.2.mem ((c.tc : Thread Cert.MixIdeal.nD Cert.MixIdeal.τ).loc Cert.MixIdeal.main_v62_7) = v7 c
          ∧ r.2.mem ((c.tc : Thread Cert.MixIdeal.nD Cert.MixIdeal.τ).loc Cert.MixIdeal.main_v62_8) = v8 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v236) = v0 c
          ∧ r.2.mem ((c.tc : Thread Cert.MixRefIdeal.nD Cert.MixRefIdeal.τ).loc Cert.MixRefIdeal.main_v238) = v1 c
          ∧ r.2.mem ((c.tc : Thread Cert.MixRefIdeal.nD Cert.MixRefIdeal.τ).loc Cert.MixRefIdeal.main_v240) = v2 c
          ∧ r.2.mem ((c.tc : Thread Cert.MixRefIdeal.nD Cert.MixRefIdeal.τ).loc Cert.MixRefIdeal.main_v242) = v3 c
          ∧ r.2.mem ((c.tc : Thread Cert.MixRefIdeal.nD Cert.MixRefIdeal.τ).loc Cert.MixRefIdeal.main_v244) = v4 c
          ∧ r.2.mem ((c.tc : Thread Cert.MixRefIdeal.nD Cert.MixRefIdeal.τ).loc Cert.MixRefIdeal.main_v246) = v5 c
          ∧ r.2.mem ((c.tc : Thread Cert.MixRefIdeal.nD Cert.MixRefIdeal.τ).loc Cert.MixRefIdeal.main_v248) = v6 c
          ∧ r.2.mem ((c.tc : Thread Cert.MixRefIdeal.nD Cert.MixRefIdeal.τ).loc Cert.MixRefIdeal.main_v249) = v7 c
          ∧ r.2.mem ((c.tc : Thread Cert.MixRefIdeal.nD Cert.MixRefIdeal.τ).loc Cert.MixRefIdeal.main_v250) = v8 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Out_OutIdeal : Prop :=
  True

def algebraic_OutIdeal_OutRefIdeal_pre_out_pre [hOutIdeal : Cert.OutIdeal.Facts] [hOutRefIdeal : Cert.OutRefIdeal.Facts] [hPre_out_pre : Cert.Pre_out_pre.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_pre m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v16_0)) (v1 : (c : Dev Cert.OutIdeal.nD) → Buf (Elt Ideal) ((c.tc : Thread Cert.OutIdeal.nD Cert.OutIdeal.τ).loc Cert.OutIdeal.main_v16_1)) (v2 : (c : Dev Cert.OutIdeal.nD) → Buf (Elt Ideal) ((c.tc : Thread Cert.OutIdeal.nD Cert.OutIdeal.τ).loc Cert.OutIdeal.main_v16_2)) (v3 : (c : Dev Cert.OutIdeal.nD) → Buf (Elt Ideal) ((c.tc : Thread Cert.OutIdeal.nD Cert.OutIdeal.τ).loc Cert.OutIdeal.main_v16_3)) (v4 : (c : Dev Cert.OutIdeal.nD) → Buf (Elt Ideal) ((c.tc : Thread Cert.OutIdeal.nD Cert.OutIdeal.τ).loc Cert.OutIdeal.main_v16_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v16_0) = v0 c
          ∧ r.2.mem ((c.tc : Thread Cert.OutIdeal.nD Cert.OutIdeal.τ).loc Cert.OutIdeal.main_v16_1) = v1 c
          ∧ r.2.mem ((c.tc : Thread Cert.OutIdeal.nD Cert.OutIdeal.τ).loc Cert.OutIdeal.main_v16_2) = v2 c
          ∧ r.2.mem ((c.tc : Thread Cert.OutIdeal.nD Cert.OutIdeal.τ).loc Cert.OutIdeal.main_v16_3) = v3 c
          ∧ r.2.mem ((c.tc : Thread Cert.OutIdeal.nD Cert.OutIdeal.τ).loc Cert.OutIdeal.main_v16_4) = v4 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v63) = v0 c
          ∧ r.2.mem ((c.tc : Thread Cert.OutRefIdeal.nD Cert.OutRefIdeal.τ).loc Cert.OutRefIdeal.main_v64) = v1 c
          ∧ r.2.mem ((c.tc : Thread Cert.OutRefIdeal.nD Cert.OutRefIdeal.τ).loc Cert.OutRefIdeal.main_v65) = v2 c
          ∧ r.2.mem ((c.tc : Thread Cert.OutRefIdeal.nD Cert.OutRefIdeal.τ).loc Cert.OutRefIdeal.main_v66) = v3 c
          ∧ r.2.mem ((c.tc : Thread Cert.OutRefIdeal.nD Cert.OutRefIdeal.τ).loc Cert.OutRefIdeal.main_v67) = v4 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_In_InIdeal : Prop :=
  True

def algebraic_InIdeal_InRefIdeal_pre_in_pre [hInIdeal : Cert.InIdeal.Facts] [hInRefIdeal : Cert.InRefIdeal.Facts] [hPre_in_pre : Cert.Pre_in_pre.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_pre m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)) (v3 : (c : Dev Cert.InIdeal.nD) → Buf (Elt Ideal) ((c.tc : Thread Cert.InIdeal.nD Cert.InIdeal.τ).loc Cert.InIdeal.main_v5_3)) (v4 : (c : Dev Cert.InIdeal.nD) → Buf (Elt Ideal) ((c.tc : Thread Cert.InIdeal.nD Cert.InIdeal.τ).loc Cert.InIdeal.main_v5_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_v5_3) = v3 c
          ∧ r.2.mem ((c.tc : Thread Cert.InIdeal.nD Cert.InIdeal.τ).loc Cert.InIdeal.main_v5_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v68) = v0 c
          ∧ r.2.mem ((c.tc : Thread Cert.InRefIdeal.nD Cert.InRefIdeal.τ).loc Cert.InRefIdeal.main_v71) = v1 c
          ∧ r.2.mem ((c.tc : Thread Cert.InRefIdeal.nD Cert.InRefIdeal.τ).loc Cert.InRefIdeal.main_v72) = v2 c
          ∧ r.2.mem ((c.tc : Thread Cert.InRefIdeal.nD Cert.InRefIdeal.τ).loc Cert.InRefIdeal.main_v73) = v3 c
          ∧ r.2.mem ((c.tc : Thread Cert.InRefIdeal.nD Cert.InRefIdeal.τ).loc Cert.InRefIdeal.main_v74) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10))

def preserves_InFirst_InFirstIdeal : Prop :=
  True

def preserves_InLast_InLastIdeal : Prop :=
  True

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v44) = v0 c
          ∧ r.2.mem ((c.tc : Thread Cert.LossRefIdeal.nD Cert.LossRefIdeal.τ).loc Cert.LossRefIdeal.main_v45) = v1 c
          ∧ r.2.mem ((c.tc : Thread Cert.LossRefIdeal.nD Cert.LossRefIdeal.τ).loc Cert.LossRefIdeal.main_v46) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_MixFwd_MixFwdIdeal : Prop :=
  True

def algebraic_MixFwdIdeal_MixFwdRefIdeal_pre_mix_fwd_pre [hMixFwdIdeal : Cert.MixFwdIdeal.Facts] [hMixFwdRefIdeal : Cert.MixFwdRefIdeal.Facts] [hPre_mix_fwd_pre : Cert.Pre_mix_fwd_pre.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_mix_fwd_pre m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)) →
    ∃ (v0 : (c : Dev Cert.MixFwdIdeal.nD) → Buf (Elt Ideal) ((c.tc : Thread Cert.MixFwdIdeal.nD Cert.MixFwdIdeal.τ).loc Cert.MixFwdIdeal.main_v3_0)) (v1 : (c : Dev Cert.MixFwdIdeal.nD) → Buf (Elt Ideal) ((c.tc : Thread Cert.MixFwdIdeal.nD Cert.MixFwdIdeal.τ).loc Cert.MixFwdIdeal.main_v3_1)) (v2 : (c : Dev Cert.MixFwdIdeal.nD) → Buf (Elt Ideal) ((c.tc : Thread Cert.MixFwdIdeal.nD Cert.MixFwdIdeal.τ).loc Cert.MixFwdIdeal.main_v3_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v3_0) = v0 c
          ∧ r.2.mem ((c.tc : Thread Cert.MixFwdIdeal.nD Cert.MixFwdIdeal.τ).loc Cert.MixFwdIdeal.main_v3_1) = v1 c
          ∧ r.2.mem ((c.tc : Thread Cert.MixFwdIdeal.nD Cert.MixFwdIdeal.τ).loc Cert.MixFwdIdeal.main_v3_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v107) = v0 c
          ∧ r.2.mem ((c.tc : Thread Cert.MixFwdRefIdeal.nD Cert.MixFwdRefIdeal.τ).loc Cert.MixFwdRefIdeal.main_v108) = v1 c
          ∧ r.2.mem ((c.tc : Thread Cert.MixFwdRefIdeal.nD Cert.MixFwdRefIdeal.τ).loc Cert.MixFwdRefIdeal.main_v164) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v31) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v6_0)) (v1 : (c : Dev Cert.OutFwdIdeal.nD) → Buf (Elt Ideal) ((c.tc : Thread Cert.OutFwdIdeal.nD Cert.OutFwdIdeal.τ).loc Cert.OutFwdIdeal.main_v6_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v6_0) = v0 c
          ∧ r.2.mem ((c.tc : Thread Cert.OutFwdIdeal.nD Cert.OutFwdIdeal.τ).loc Cert.OutFwdIdeal.main_v6_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v28) = v0 c
          ∧ r.2.mem ((c.tc : Thread Cert.OutFwdRefIdeal.nD Cert.OutFwdRefIdeal.τ).loc Cert.OutFwdRefIdeal.main_v29) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def Claim : Prop :=
  ∃ (hAda : Cert.Ada.Facts) (hAdaIdeal : Cert.AdaIdeal.Facts) (hAdaRefIdeal : Cert.AdaRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hInFirst : Cert.InFirst.Facts) (hInFirstIdeal : Cert.InFirstIdeal.Facts) (hInFirstRefIdeal : Cert.InFirstRefIdeal.Facts) (hInLast : Cert.InLast.Facts) (hInLastIdeal : Cert.InLastIdeal.Facts) (hInLastRefIdeal : Cert.InLastRefIdeal.Facts) (hLoss : Cert.Loss.Facts) (hLossIdeal : Cert.LossIdeal.Facts) (hLossRefIdeal : Cert.LossRefIdeal.Facts) (hMixFwd : Cert.MixFwd.Facts) (hMixFwdIdeal : Cert.MixFwdIdeal.Facts) (hMixFwdRefIdeal : Cert.MixFwdRefIdeal.Facts) (hProj : Cert.Proj.Facts) (hProjIdeal : Cert.ProjIdeal.Facts) (hProjRefIdeal : Cert.ProjRefIdeal.Facts) (hOutFwd : Cert.OutFwd.Facts) (hOutFwdIdeal : Cert.OutFwdIdeal.Facts) (hOutFwdRefIdeal : Cert.OutFwdRefIdeal.Facts) (hPre_mix_pre : Cert.Pre_mix_pre.Facts) (hPre_out_pre : Cert.Pre_out_pre.Facts) (hPre_in_pre : Cert.Pre_in_pre.Facts) (hPre_mix_fwd_pre : Cert.Pre_mix_fwd_pre.Facts),
    quiescent_Ada (hAda := hAda)
    ∧ quiescent_AdaIdeal (hAdaIdeal := hAdaIdeal)
    ∧ quiescent_AdaRefIdeal (hAdaRefIdeal := hAdaRefIdeal)
    ∧ quiescent_Mix (hMix := hMix)
    ∧ quiescent_MixIdeal (hMixIdeal := hMixIdeal)
    ∧ quiescent_MixIdeal_pre_mix_pre (hMixIdeal := hMixIdeal) (hPre_mix_pre := hPre_mix_pre)
    ∧ quiescent_MixRefIdeal (hMixRefIdeal := hMixRefIdeal)
    ∧ quiescent_MixRefIdeal_pre_mix_pre (hMixRefIdeal := hMixRefIdeal) (hPre_mix_pre := hPre_mix_pre)
    ∧ quiescent_Out (hOut := hOut)
    ∧ quiescent_OutIdeal (hOutIdeal := hOutIdeal)
    ∧ quiescent_OutIdeal_pre_out_pre (hOutIdeal := hOutIdeal) (hPre_out_pre := hPre_out_pre)
    ∧ quiescent_OutRefIdeal (hOutRefIdeal := hOutRefIdeal)
    ∧ quiescent_OutRefIdeal_pre_out_pre (hOutRefIdeal := hOutRefIdeal) (hPre_out_pre := hPre_out_pre)
    ∧ quiescent_In (hIn := hIn)
    ∧ quiescent_InIdeal (hInIdeal := hInIdeal)
    ∧ quiescent_InIdeal_pre_in_pre (hInIdeal := hInIdeal) (hPre_in_pre := hPre_in_pre)
    ∧ quiescent_InRefIdeal (hInRefIdeal := hInRefIdeal)
    ∧ quiescent_InRefIdeal_pre_in_pre (hInRefIdeal := hInRefIdeal) (hPre_in_pre := hPre_in_pre)
    ∧ quiescent_InFirst (hInFirst := hInFirst)
    ∧ quiescent_InFirstIdeal (hInFirstIdeal := hInFirstIdeal)
    ∧ quiescent_InFirstRefIdeal (hInFirstRefIdeal := hInFirstRefIdeal)
    ∧ quiescent_InLast (hInLast := hInLast)
    ∧ quiescent_InLastIdeal (hInLastIdeal := hInLastIdeal)
    ∧ quiescent_InLastRefIdeal (hInLastRefIdeal := hInLastRefIdeal)
    ∧ quiescent_Loss (hLoss := hLoss)
    ∧ quiescent_LossIdeal (hLossIdeal := hLossIdeal)
    ∧ quiescent_LossRefIdeal (hLossRefIdeal := hLossRefIdeal)
    ∧ quiescent_MixFwd (hMixFwd := hMixFwd)
    ∧ quiescent_MixFwdIdeal (hMixFwdIdeal := hMixFwdIdeal)
    ∧ quiescent_MixFwdIdeal_pre_mix_fwd_pre (hMixFwdIdeal := hMixFwdIdeal) (hPre_mix_fwd_pre := hPre_mix_fwd_pre)
    ∧ quiescent_MixFwdRefIdeal (hMixFwdRefIdeal := hMixFwdRefIdeal)
    ∧ quiescent_MixFwdRefIdeal_pre_mix_fwd_pre (hMixFwdRefIdeal := hMixFwdRefIdeal) (hPre_mix_fwd_pre := hPre_mix_fwd_pre)
    ∧ quiescent_Proj (hProj := hProj)
    ∧ quiescent_ProjIdeal (hProjIdeal := hProjIdeal)
    ∧ quiescent_ProjRefIdeal (hProjRefIdeal := hProjRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ preserves_Ada_AdaIdeal
    ∧ algebraic_AdaIdeal_AdaRefIdeal (hAdaIdeal := hAdaIdeal) (hAdaRefIdeal := hAdaRefIdeal)
    ∧ preserves_Mix_MixIdeal
    ∧ algebraic_MixIdeal_MixRefIdeal_pre_mix_pre (hMixIdeal := hMixIdeal) (hMixRefIdeal := hMixRefIdeal) (hPre_mix_pre := hPre_mix_pre)
    ∧ preserves_Out_OutIdeal
    ∧ algebraic_OutIdeal_OutRefIdeal_pre_out_pre (hOutIdeal := hOutIdeal) (hOutRefIdeal := hOutRefIdeal) (hPre_out_pre := hPre_out_pre)
    ∧ preserves_In_InIdeal
    ∧ algebraic_InIdeal_InRefIdeal_pre_in_pre (hInIdeal := hInIdeal) (hInRefIdeal := hInRefIdeal) (hPre_in_pre := hPre_in_pre)
    ∧ preserves_InFirst_InFirstIdeal
    ∧ preserves_InLast_InLastIdeal
    ∧ preserves_Loss_LossIdeal
    ∧ algebraic_LossIdeal_LossRefIdeal (hLossIdeal := hLossIdeal) (hLossRefIdeal := hLossRefIdeal)
    ∧ preserves_MixFwd_MixFwdIdeal
    ∧ algebraic_MixFwdIdeal_MixFwdRefIdeal_pre_mix_fwd_pre (hMixFwdIdeal := hMixFwdIdeal) (hMixFwdRefIdeal := hMixFwdRefIdeal) (hPre_mix_fwd_pre := hPre_mix_fwd_pre)
    ∧ preserves_Proj_ProjIdeal
    ∧ algebraic_ProjIdeal_ProjRefIdeal (hProjIdeal := hProjIdeal) (hProjRefIdeal := hProjRefIdeal)
    ∧ preserves_OutFwd_OutFwdIdeal
    ∧ algebraic_OutFwdIdeal_OutFwdRefIdeal (hOutFwdIdeal := hOutFwdIdeal) (hOutFwdRefIdeal := hOutFwdRefIdeal)
-- ==== Pre_in_pre.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4x3072 : S_.BroadcastsInDim S4x3072 (![] : Fin 0 → Fin S4x3072.rank)
  reducesTo_S4x3072_S_d0_1 : S4x3072.ReducesTo [0, 1] S_
  bcast_S_S4x1024 : S_.BroadcastsInDim S4x1024 (![] : Fin 0 → Fin S4x1024.rank)
  reducesTo_S4x1024_S_d0_1 : S4x1024.ReducesTo [0, 1] S_
  bcast_S_S4x1024x3072 : S_.BroadcastsInDim S4x1024x3072 (![] : Fin 0 → Fin S4x1024x3072.rank)
  reducesTo_S4x1024x3072_S_d0_1_2 : S4x1024x3072.ReducesTo [0, 1, 2] S_

variable [Facts]

def fn_part3 {F : FTy → Type} [FloatOps F] (main_v49 : IVec S_ 1) (main_v52 : IVec S4x1024x3072 1) : IVec S_ 1 :=
  let main_c_17 : IVec S_ 1 := constantI S_ 1 1#1
  let main_v53 : IVec S_ 1 := (fun x v => Host.reduce IntOp.andi x v reducesTo_S4x1024x3072_S_d0_1_2 h_S_) main_v52 main_c_17
  let main_v54 : IVec S_ 1 := andi main_v49 main_v53
  main_v54

def fn_part2 {F : FTy → Type} [FloatOps F] (main_arg8 : FVec F S4x3072 .f32) (main_arg9 : FVec F S4x1024 .f32) (main_arg10 : FVec F S4x1024x3072 .f32) (main_v34 : IVec S_ 1) (main_v35 : FVec F S2048x1024 .f32) : IVec S_ 1 :=
  let main_cst_10 : FVec F S_ .f32 := constant S_ .f32 0x7F800000#32
  let main_v36 : FVec F S2048x1024 .f32 := broadcastInDim S2048x1024 ![] bcast_S_S2048x1024 main_cst_10
  let main_v37 : IVec S2048x1024 1 := cmpf .olt main_v35 main_v36
  let main_c_11 : IVec S_ 1 := constantI S_ 1 1#1
  let main_v38 : IVec S_ 1 := (fun x v => Host.reduce IntOp.andi x v reducesTo_S2048x1024_S_d0_1 h_S_) main_v37 main_c_11
  let main_v39 : IVec S_ 1 := andi main_v34 main_v38
  let main_v40 : FVec F S4x3072 .f32 := Host.absf main_arg8
  let main_cst_12 : FVec F S_ .f32 := constant S_ .f32 0x7F800000#32
  let main_v41 : FVec F S4x3072 .f32 := broadcastInDim S4x3072 ![] bcast_S_S4x3072 main_cst_12
  let main_v42 : IVec S4x3072 1 := cmpf .olt main_v40 main_v41
  let main_c_13 : IVec S_ 1 := constantI S_ 1 1#1
  let main_v43 : IVec S_ 1 := (fun x v => Host.reduce IntOp.andi x v reducesTo_S4x3072_S_d0_1 h_S_) main_v42 main_c_13
  let main_v44 : IVec S_ 1 := andi main_v39 main_v43
  let main_v45 : FVec F S4x1024 .f32 := Host.absf main_arg9
  let main_cst_14 : FVec F S_ .f32 := constant S_ .f32 0x7F800000#32
  let main_v46 : FVec F S4x1024 .f32 := broadcastInDim S4x1024 ![] bcast_S_S4x1024 main_cst_14
  let main_v47 : IVec S4x1024 1 := cmpf .olt main_v45 main_v46
  let main_c_15 : IVec S_ 1 := constantI S_ 1 1#1
  let main_v48 : IVec S_ 1 := (fun x v => Host.reduce IntOp.andi x v reducesTo_S4x1024_S_d0_1 h_S_) main_v47 main_c_15
  let main_v49 : IVec S_ 1 := andi main_v44 main_v48
  let main_v50 : FVec F S4x1024x3072 .f32 := Host.absf main_arg10
  let main_cst_16 : FVec F S_ .f32 := constant S_ .f32 0x7F800000#32
  let main_v51 : FVec F S4x1024x3072 .f32 := broadcastInDim S4x1024x3072 ![] bcast_S_S4x1024x3072 main_cst_16
  let main_v52 : IVec S4x1024x3072 1 := cmpf .olt main_v50 main_v51
  fn_part3 (F := F) main_v49 main_v52

def fn_part1 {F : FTy → Type} [FloatOps F] (main_arg4 : FVec F S2048x512 .bf16) (main_arg5 : FVec F S2048x512 .bf16) (main_arg6 : FVec F S2048x1024 .f32) (main_arg8 : FVec F S4x3072 .f32) (main_arg9 : FVec F S4x1024 .f32) (main_arg10 : FVec F S4x1024x3072 .f32) (main_v16 : IVec S_ 1) (main_v17 : FVec F S2048x512 .f32) : IVec S_ 1 :=
  let main_v18 : FVec F S2048x512 .f32 := Host.absf main_v17
  let main_cst_4 : FVec F S_ .f32 := constant S_ .f32 0x7F800000#32
  let main_v19 : FVec F S2048x512 .f32 := broadcastInDim S2048x512 ![] bcast_S_S2048x512 main_cst_4
  let main_v20 : IVec S2048x512 1 := cmpf .olt main_v18 main_v19
  let main_c_5 : IVec S_ 1 := constantI S_ 1 1#1
  let main_v21 : IVec S_ 1 := (fun x v => Host.reduce IntOp.andi x v reducesTo_S2048x512_S_d0_1 h_S_) main_v20 main_c_5
  let main_v22 : IVec S_ 1 := andi main_v16 main_v21
  let main_v23 : FVec F S2048x512 .f32 := (extf .f32 · bitsLt_bf16_f32) main_arg4
  let main_v24 : FVec F S2048x512 .f32 := Host.absf main_v23
  let main_cst_6 : FVec F S_ .f32 := constant S_ .f32 0x7F800000#32
  let main_v25 : FVec F S2048x512 .f32 := broadcastInDim S2048x512 ![] bcast_S_S2048x512 main_cst_6
  let main_v26 : IVec S2048x512 1 := cmpf .olt main_v24 main_v25
  let main_c_7 : IVec S_ 1 := constantI S_ 1 1#1
  let main_v27 : IVec S_ 1 := (fun x v => Host.reduce IntOp.andi x v reducesTo_S2048x512_S_d0_1 h_S_) main_v26 main_c_7
  let main_v28 : IVec S_ 1 := andi main_v22 main_v27
  let main_v29 : FVec F S2048x512 .f32 := (extf .f32 · bitsLt_bf16_f32) main_arg5
  let main_v30 : FVec F S2048x512 .f32 := Host.absf main_v29
  let main_cst_8 : FVec F S_ .f32 := constant S_ .f32 0x7F800000#32
  let main_v31 : FVec F S2048x512 .f32 := broadcastInDim S2048x512 ![] bcast_S_S2048x512 main_cst_8
  let main_v32 : IVec S2048x512 1 := cmpf .olt main_v30 main_v31
  let main_c_9 : IVec S_ 1 := constantI S_ 1 1#1
  let main_v33 : IVec S_ 1 := (fun x v => Host.reduce IntOp.andi x v reducesTo_S2048x512_S_d0_1 h_S_) main_v32 main_c_9
  let main_v34 : IVec S_ 1 := andi main_v28 main_v33
  let main_v35 : FVec F S2048x1024 .f32 := Host.absf main_arg6
  fn_part2 (F := F) main_arg8 main_arg9 main_arg10 main_v34 main_v35

def fn {F : FTy → Type} [FloatOps F] (main_arg0 : FVec F S2048x512 .bf16) (main_arg1 : FVec F S2048x512 .bf16) (main_arg2 : FVec F S2048x512 .bf16) (main_arg3 : FVec F S2048x512 .bf16) (main_arg4 : FVec F S2048x512 .bf16) (main_arg5 : FVec F S2048x512 .bf16) (main_arg6 : FVec F S2048x1024 .f32) (main_arg7 : FVec F S2048x1024 .f32) (main_arg8 : FVec F S4x3072 .f32) (main_arg9 : FVec F S4x1024 .f32) (main_arg10 : FVec F S4x1024x3072 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x512 .f32 := (extf .f32 · bitsLt_bf16_f32) main_arg2
  let main_v12 : FVec F S2048x512 .f32 := Host.absf main_v11
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  let main_v17 : FVec F S2048x512 .f32 := (extf .f32 · bitsLt_bf16_f32) main_arg3
  fn_part1 (F := F) main_arg4 main_arg5 main_arg6 main_arg8 main_arg9 main_arg10 main_v16 main_v17
-- ==== Pre_mix_fwd_pre.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S_ : Shape := ⟨0, ![]⟩

class Facts : Prop where
  bitsLt_bf16_f32 : FTy.bits .bf16 < FTy.bits .f32
  bcast_S_S2048x3072 : S_.BroadcastsInDim S2048x3072 (![] : Fin 0 → Fin S2048x3072.rank)
  reducesTo_S2048x3072_S_d0_1 : S2048x3072.ReducesTo [0, 1] S_
  h_S_ : 0 < S_.numel

variable [Facts]

def fn {F : FTy → Type} [FloatOps F] (main_arg0 : FVec F S2048x3072 .bf16) (main_arg1 : FVec F S4x3x512 .f32) (main_arg2 : FVec F S4x4x128x128 .f32) (main_arg3 : FVec F S4x512 .f32) : IVec S_ 1 :=
  let main_v0 : FVec F S2048x3072 .f32 := (extf .f32 · bitsLt_bf16_f32) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  main_v4
-- ==== Pre_mix_pre.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S2048x512 : Shape := ⟨2, ![2048, 512]⟩
abbrev S_ : Shape := ⟨0, ![]⟩

class Facts : Prop where
  bitsLt_bf16_f32 : FTy.bits .bf16 < FTy.bits .f32
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S4x3x512 : S_.BroadcastsInDim S4x3x512 (![] : Fin 0 → Fin S4x3x512.rank)
  reducesTo_S4x3x512_S_d0_1_2 : S4x3x512.ReducesTo [0, 1, 2] S_
  bcast_S_S4x4x128x128 : S_.BroadcastsInDim S4x4x128x128 (![] : Fin 0 → Fin S4x4x128x128.rank)
  reducesTo_S4x4x128x128_S_d0_1_2_3 : S4x4x128x128.ReducesTo [0, 1, 2, 3] S_
  bcast_S_S4x512 : S_.BroadcastsInDim S4x512 (![] : Fin 0 → Fin S4x512.rank)
  reducesTo_S4x512_S_d0_1 : S4x512.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S2048x512 .bf16) (main_arg5 : FVec F S2048x512 .bf16) (main_v14 : IVec S_ 1) (main_v15 : FVec F S4x512 .f32) (main_v16 : FVec F S4x512 .f32) : IVec S_ 1 :=
  let main_v17 : IVec S4x512 1 := cmpf .olt main_v15 main_v16
  let main_c_5 : IVec S_ 1 := constantI S_ 1 1#1
  let main_v18 : IVec S_ 1 := (fun x v => Host.reduce IntOp.andi x v reducesTo_S4x512_S_d0_1 h_S_) main_v17 main_c_5
  let main_v19 : IVec S_ 1 := andi main_v14 main_v18
  let main_v20 : FVec F S2048x512 .f32 := (extf .f32 · bitsLt_bf16_f32) main_arg4
  let main_v21 : FVec F S2048x512 .f32 := Host.absf main_v20
  let main_cst_6 : FVec F S_ .f32 := constant S_ .f32 0x7F800000#32
  let main_v22 : FVec F S2048x512 .f32 := broadcastInDim S2048x512 ![] bcast_S_S2048x512 main_cst_6
  let main_v23 : IVec S2048x512 1 := cmpf .olt main_v21 main_v22
  let main_c_7 : IVec S_ 1 := constantI S_ 1 1#1
  let main_v24 : IVec S_ 1 := (fun x v => Host.reduce IntOp.andi x v reducesTo_S2048x512_S_d0_1 h_S_) main_v23 main_c_7
  let main_v25 : IVec S_ 1 := andi main_v19 main_v24
  let main_v26 : FVec F S2048x512 .f32 := (extf .f32 · bitsLt_bf16_f32) main_arg5
  let main_v27 : FVec F S2048x512 .f32 := Host.absf main_v26
  let main_cst_8 : FVec F S_ .f32 := constant S_ .f32 0x7F800000#32
  let main_v28 : FVec F S2048x512 .f32 := broadcastInDim S2048x512 ![] bcast_S_S2048x512 main_cst_8
  let main_v29 : IVec S2048x512 1 := cmpf .olt main_v27 main_v28
  let main_c_9 : IVec S_ 1 := constantI S_ 1 1#1
  let main_v30 : IVec S_ 1 := (fun x v => Host.reduce IntOp.andi x v reducesTo_S2048x512_S_d0_1 h_S_) main_v29 main_c_9
  let main_v31 : IVec S_ 1 := andi main_v25 main_v30
  main_v31

def fn {F : FTy → Type} [FloatOps F] (main_arg0 : FVec F S2048x3072 .bf16) (main_arg1 : FVec F S4x3x512 .f32) (main_arg2 : FVec F S4x4x128x128 .f32) (main_arg3 : FVec F S4x512 .f32) (main_arg4 : FVec F S2048x512 .bf16) (main_arg5 : FVec F S2048x512 .bf16) : IVec S_ 1 :=
  let main_v0 : FVec F S2048x3072 .f32 := (extf .f32 · bitsLt_bf16_f32) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S4x3x512 .f32 := Host.absf main_arg1
  let main_cst_0 : FVec F S_ .f32 := constant S_ .f32 0x7F800000#32
  let main_v6 : FVec F S4x3x512 .f32 := broadcastInDim S4x3x512 ![] bcast_S_S4x3x512 main_cst_0
  let main_v7 : IVec S4x3x512 1 := cmpf .olt main_v5 main_v6
  let main_c_1 : IVec S_ 1 := constantI S_ 1 1#1
  let main_v8 : IVec S_ 1 := (fun x v => Host.reduce IntOp.andi x v reducesTo_S4x3x512_S_d0_1_2 h_S_) main_v7 main_c_1
  let main_v9 : IVec S_ 1 := andi main_v4 main_v8
  let main_v10 : FVec F S4x4x128x128 .f32 := Host.absf main_arg2
  let main_cst_2 : FVec F S_ .f32 := constant S_ .f32 0x7F800000#32
  let main_v11 : FVec F S4x4x128x128 .f32 := broadcastInDim S4x4x128x128 ![] bcast_S_S4x4x128x128 main_cst_2
  let main_v12 : IVec S4x4x128x128 1 := cmpf .olt main_v10 main_v11
  let main_c_3 : IVec S_ 1 := constantI S_ 1 1#1
  let main_v13 : IVec S_ 1 := (fun x v => Host.reduce IntOp.andi x v reducesTo_S4x4x128x128_S_d0_1_2_3 h_S_) main_v12 main_c_3
  let main_v14 : IVec S_ 1 := andi main_v9 main_v13
  let main_v15 : FVec F S4x512 .f32 := Host.absf main_arg3
  let main_cst_4 : FVec F S_ .f32 := constant S_ .f32 0x7F800000#32
  let main_v16 : FVec F S4x512 .f32 := broadcastInDim S4x512 ![] bcast_S_S4x512 main_cst_4
  fn_part1 (F := F) main_arg4 main_arg5 main_v14 main_v15 main_v16
-- ==== Pre_out_pre.lean ====
abbrev S2048x1024 : Shape := ⟨2, ![2048, 1024]⟩
abbrev S2048x512 : Shape := ⟨2, ![2048, 512]⟩
abbrev S4x1024x1024 : Shape := ⟨3, ![4, 1024, 1024]⟩
abbrev S4x3072 : Shape := ⟨2, ![4, 3072]⟩
abbrev S4x1024 : Shape := ⟨2, ![4, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x3072 .f32) (main_arg5 : FVec F S4x1024 .f32) (main_v15 : IVec S_ 1) (main_v16 : FVec F S4x1024x1024 .f32) (main_cst_4 : FVec F S_ .f32) : IVec S_ 1 :=
  let main_v17 : FVec F S4x1024x1024 .f32 := broadcastInDim S4x1024x1024 ![] bcast_S_S4x1024x1024 main_cst_4
  let main_v18 : IVec S4x1024x1024 1 := cmpf .olt main_v16 main_v17
  let main_c_5 : IVec S_ 1 := constantI S_ 1 1#1
  let main_v19 : IVec S_ 1 := (fun x v => Host.reduce IntOp.andi x v reducesTo_S4x1024x1024_S_d0_1_2 h_S_) main_v18 main_c_5
  let main_v20 : IVec S_ 1 := andi main_v15 main_v19
  let main_v21 : FVec F S4x3072 .f32 := Host.absf main_arg4
  let main_cst_6 : FVec F S_ .f32 := constant S_ .f32 0x7F800000#32
  let main_v22 : FVec F S4x3072 .f32 := broadcastInDim S4x3072 ![] bcast_S_S4x3072 main_cst_6
  let main_v23 : IVec S4x3072 1 := cmpf .olt main_v21 main_v22
  let main_c_7 : IVec S_ 1 := constantI S_ 1 1#1
  let main_v24 : IVec S_ 1 := (fun x v => Host.reduce IntOp.andi x v reducesTo_S4x3072_S_d0_1 h_S_) main_v23 main_c_7
  let main_v25 : IVec S_ 1 := andi main_v20 main_v24
  let main_v26 : FVec F S4x1024 .f32 := Host.absf main_arg5
  let main_cst_8 : FVec F S_ .f32 := constant S_ .f32 0x7F800000#32
  let main_v27 : FVec F S4x1024 .f32 := broadcastInDim S4x1024 ![] bcast_S_S4x1024 main_cst_8
  let main_v28 : IVec S4x1024 1 := cmpf .olt main_v26 main_v27
  let main_c_9 : IVec S_ 1 := constantI S_ 1 1#1
  let main_v29 : IVec S_ 1 := (fun x v => Host.reduce IntOp.andi x v reducesTo_S4x1024_S_d0_1 h_S_) main_v28 main_c_9
  let main_v30 : IVec S_ 1 := andi main_v25 main_v29
  main_v30

def fn {F : FTy → Type} [FloatOps F] (main_arg0 : FVec F S2048x1024 .f32) (main_arg1 : FVec F S2048x512 .bf16) (main_arg2 : FVec F S2048x512 .bf16) (main_arg3 : FVec F S4x1024x1024 .f32) (main_arg4 : FVec F S4x3072 .f32) (main_arg5 : FVec F S4x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v3 main_v8
  let main_v10 : FVec F S2048x512 .f32 := (extf .f32 · bitsLt_bf16_f32) main_arg2
  let main_v11 : FVec F S2048x512 .f32 := Host.absf main_v10
  let main_cst_2 : FVec F S_ .f32 := constant S_ .f32 0x7F800000#32
  let main_v12 : FVec F S2048x512 .f32 := broadcastInDim S2048x512 ![] bcast_S_S2048x512 main_cst_2
  let main_v13 : IVec S2048x512 1 := cmpf .olt main_v11 main_v12
  let main_c_3 : IVec S_ 1 := constantI S_ 1 1#1
  let main_v14 : IVec S_ 1 := (fun x v => Host.reduce IntOp.andi x v reducesTo_S2048x512_S_d0_1 h_S_) main_v13 main_c_3
  let main_v15 : IVec S_ 1 := andi main_v9 main_v14
  let main_v16 : FVec F S4x1024x1024 .f32 := Host.absf main_arg3
  let main_cst_4 : FVec F S_ .f32 := constant S_ .f32 0x7F800000#32
  fn_part1 (F := F) main_arg4 main_arg5 main_v15 main_v16 main_cst_4
-- ==== Ada.lean ====
abbrev S8x1024 : Shape := ⟨2, ![8, 1024]⟩
abbrev S4x8x768 : Shape := ⟨3, ![4, 8, 768]⟩
abbrev S4x1024x768 : Shape := ⟨3, ![4, 1024, 768]⟩
abbrev S8x512 : Shape := ⟨2, ![8, 512]⟩
abbrev S1x8x768 : Shape := ⟨3, ![1, 8, 768]⟩
abbrev S1x512x768 : Shape := ⟨3, ![1, 512, 768]⟩
abbrev S16x512 : Shape := ⟨2, ![16, 512]⟩
abbrev S8x768 : Shape := ⟨2, ![8, 768]⟩
abbrev S16x768 : Shape := ⟨2, ![16, 768]⟩
abbrev S512x768 : Shape := ⟨2, ![512, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S8x512, .f32⟩
  | .local _ .vmem, ⟨1, _⟩ => ⟨S8x512, .f32⟩
  | .local _ .vmem, ⟨2, _⟩ => ⟨S1x8x768, .f32⟩
  | .local _ .vmem, ⟨3, _⟩ => ⟨S1x8x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaRefIdeal.lean ====
abbrev S8x1024 : Shape := ⟨2, ![8, 1024]⟩
abbrev S4x8x768 : Shape := ⟨3, ![4, 8, 768]⟩
abbrev S4x1024x768 : Shape := ⟨3, ![4, 1024, 768]⟩
abbrev S_ : Shape := ⟨0, ![]⟩
abbrev S4x768x8 : Shape := ⟨3, ![4, 768, 8]⟩
abbrev S4x768x1024 : Shape := ⟨3, ![4, 768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S4x768x8, .f32⟩
  | .hbm, ⟨15, _⟩ => ⟨S4x8x768, .f32⟩
  | .hbm, ⟨16, _⟩ => ⟨S4x768x8, .f32⟩
  | .hbm, ⟨17, _⟩ => ⟨S4x768x1024, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S_, .f32⟩
  | .hbm, ⟨38, _⟩ => ⟨S4x1024x768, .f32⟩
  | .hbm, ⟨39, _⟩ => ⟨S4x1024x768, .f32⟩
  | .hbm, ⟨40, _⟩ => ⟨S4x1024x768, .f32⟩
  | .hbm, ⟨41, _⟩ => ⟨S_, .f32⟩
  | .hbm, ⟨42, _⟩ => ⟨S4x1024x768, .f32⟩
  | .hbm, ⟨43, _⟩ => ⟨S4x1024x768, .f32⟩
  | .hbm, ⟨44, _⟩ => ⟨S4x1024x768, .f32⟩
  | .hbm, ⟨45, _⟩ => ⟨S_, .f32⟩
  | .hbm, ⟨46, _⟩ => ⟨S4x1024x768, .f32⟩
  | .hbm, ⟨47, _⟩ => ⟨S4x1024x768, .f32⟩
  | .hbm, ⟨48, _⟩ => ⟨S4x1024x768, .f32⟩
  | .hbm, ⟨49, _⟩ => ⟨S_, .f32⟩
  | .hbm, ⟨50, _⟩ => ⟨S4x1024x768, .f32⟩
  | .hbm, ⟨51, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Mix.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S2048x512 : Shape := ⟨2, ![2048, 512]⟩
abbrev S2048 : Shape := ⟨1, ![2048]⟩
abbrev S_ : Shape := ⟨0, ![]⟩
abbrev S2048x1 : Shape := ⟨2, ![2048, 1]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x3x4x128 : Shape := ⟨4, ![4, 3, 4, 128]⟩
abbrev S4x4x3x128 : Shape := ⟨4, ![4, 4, 3, 128]⟩
abbrev S4x1x512 : Shape := ⟨3, ![4, 1, 512]⟩
abbrev S4x3x128 : Shape := ⟨3, ![4, 3, 128]⟩
abbrev S4x128x128 : Shape := ⟨3, ![4, 128, 128]⟩
abbrev S1x512 : Shape := ⟨2, ![1, 512]⟩
abbrev S1x1x3x128 : Shape := ⟨4, ![1, 1, 3, 128]⟩
abbrev S1x1x128x128 : Shape := ⟨4, ![1, 1, 128, 128]⟩
abbrev S1x1x128 : Shape := ⟨3, ![1, 1, 128]⟩
abbrev S1x3x128 : Shape := ⟨3, ![1, 3, 128]⟩
abbrev S1x128x128 : Shape := ⟨3, ![1, 128, 128]⟩
abbrev S1x128 : Shape := ⟨2, ![1, 128]⟩
abbrev S2064x128 : Shape := ⟨2, ![2064, 128]⟩
abbrev S1x1x1x128 : Shape := ⟨4, ![1, 1, 1, 128]⟩
abbrev S64x128 : Shape := ⟨2, ![64, 128]⟩
abbrev S80x128 : Shape := ⟨2, ![80, 128]⟩
abbrev S8x8x128 : Shape := ⟨3, ![8, 8, 128]⟩
abbrev S72x128 : Shape := ⟨2, ![72, 128]⟩
abbrev S128 : Shape := ⟨1, ![128]⟩
abbrev S128x128 : Shape := ⟨2, ![128, 128]⟩
abbrev S16x8x128 : Shape := ⟨3, ![16, 8, 128]⟩
abbrev S144x128 : Shape := ⟨2, ![144, 128]⟩

abbrev nBuf : Space → Nat
  | .hbm => 95
  | .vmem => 43
  | .smem => 0
  | _ => 0

abbrev bufTy : (tb : Table) → Fin (tcTables nBuf tb) → BufTy
  | .hbm, ⟨0, _⟩ => ⟨S2048x3072, .bf16⟩
  | .hbm, ⟨1, _⟩ => ⟨S4x3x512, .f32⟩
  | .hbm, ⟨2, _⟩ => ⟨S4x4x128x128, .f32⟩
  | .hbm, ⟨3, _⟩ => ⟨S4x512, .f32⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S2048x512, .f32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .f32⟩
  | .hbm, ⟨13, _⟩ => ⟨S2048x1, .f32⟩
  | .hbm, ⟨14, _⟩ => ⟨S2048x128, .f32⟩
  | .hbm, ⟨15, _⟩ => ⟨S_, .f32⟩
  | .hbm, ⟨16, _⟩ => ⟨S_, .f32⟩
  | .hbm, ⟨17, _⟩ => ⟨S2048x128, .f32⟩
  | .hbm, ⟨18, _⟩ => ⟨S_, .f32⟩
  | .hbm, ⟨19, _⟩ => ⟨S2x128, .f32⟩
  | .hbm, ⟨20, _⟩ => ⟨S2046x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S_, .f32⟩
  | .hbm, ⟨32, _⟩ => ⟨S2048x128, .f32⟩
  | .hbm, ⟨33, _⟩ => ⟨S_, .f32⟩
  | .hbm, ⟨34, _⟩ => ⟨S4x128, .f32⟩
  | .hbm, ⟨35, _⟩ => ⟨S2044x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x128, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S_, .f32⟩
  | .hbm, ⟨46, _⟩ => ⟨S_, .f32⟩
  | .hbm, ⟨47, _⟩ => ⟨S2048x128, .f32⟩
  | .hbm, ⟨48, _⟩ => ⟨S_, .f32⟩
  | .hbm, ⟨49, _⟩ => ⟨S8x128, .f32⟩
  | .hbm, ⟨50, _⟩ => ⟨S2040x128, .f32⟩
  | .hbm, ⟨51, _⟩ => ⟨S2048x128, .f32⟩
  | .hbm, ⟨52, _⟩ => ⟨S2048x128, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S2048x128, .f32⟩
  | .hbm, ⟨57, _⟩ => ⟨S2048x128, .f32⟩
  | .hbm, ⟨58, _⟩ => ⟨S2048x128, .f32⟩
  | .hbm, ⟨59, _⟩ => ⟨S2048x128, .f32⟩
  | .hbm, ⟨60, _⟩ => ⟨S_, .f32⟩
  | .hbm, ⟨61, _⟩ => ⟨S_, .f32⟩
  | .hbm, ⟨62, _⟩ => ⟨S2048x128, .f32⟩
  | .hbm, ⟨63, _⟩ => ⟨S_, .f32⟩
  | .hbm, ⟨64, _⟩ => ⟨S16x128, .f32⟩
  | .hbm, ⟨65, _⟩ => ⟨S2032x128, .f32⟩
  | .hbm, ⟨66, _⟩ => ⟨S2048x128, .f32⟩
  | .hbm, ⟨67, _⟩ => ⟨S2048x128, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S2048x1x128, .f32⟩
  | .hbm, ⟨75, _⟩ => ⟨S2048x1x128, .f32⟩
  | .hbm, ⟨76, _⟩ => ⟨S2048x1x128, .f32⟩
  | .hbm, ⟨77, _⟩ => ⟨S2048x1x128, .f32⟩
  | .hbm, ⟨78, _⟩ => ⟨S2048x4x128, .f32⟩
  | .hbm, ⟨79, _⟩ => ⟨S2048x4x128, .bf16⟩
  | .hbm, ⟨80, _⟩ => ⟨S2048x512, .bf16⟩
  | .hbm, ⟨81, _⟩ => ⟨S4x3x4x128, .f32⟩
  | .hbm, ⟨82, _⟩ => ⟨S4x4x3x128, .f32⟩
  | .hbm, ⟨83, _⟩ => ⟨S4x1x512, .f32⟩
  | .hbm, ⟨84, _⟩ => ⟨S_, .f32⟩
  | .hbm, ⟨85, _⟩ => ⟨S8x128, .f32⟩
  | .hbm, ⟨86, _⟩ => ⟨S2048x512, .bf16⟩
  | .hbm, ⟨87, _⟩ => ⟨S2048x512, .bf16⟩
  | .hbm, ⟨88, _⟩ => ⟨S2048x512, .bf16⟩
  | .hbm, ⟨89, _⟩ => ⟨S2048x512, .bf16⟩
  | .hbm, ⟨90, _⟩ => ⟨S2048x512, .bf16⟩
  | .hbm, ⟨91, _⟩ => ⟨S2048x512, .bf16⟩
  | .hbm, ⟨92, _⟩ => ⟨S4x3x128, .f32⟩
  | .hbm, ⟨93, _⟩ => ⟨S4x128x128, .bf16⟩
  | .hbm, ⟨94, _⟩ => ⟨S1x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1x3x128, .f32⟩
  | .local _ .vmem, ⟨17, _⟩ => ⟨S1x1x3x128, .f32⟩
  | .local _ .vmem, ⟨18, _⟩ => ⟨S1x1x128x128, .f32⟩
  | .local _ .vmem, ⟨19, _⟩ => ⟨S1x1x128x128, .f32⟩
  | .local _ .vmem, ⟨20, _⟩ => ⟨S1x1x128, .f32⟩
  | .local _ .vmem, ⟨21, _⟩ => ⟨S1x1x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S1x3x128, .f32⟩
  | .local _ .vmem, ⟨35, _⟩ => ⟨S1x3x128, .f32⟩
  | .local _ .vmem, ⟨36, _⟩ => ⟨S1x128x128, .bf16⟩
  | .local _ .vmem, ⟨37, _⟩ => ⟨S1x128x128, .bf16⟩
  | .local _ .vmem, ⟨38, _⟩ => ⟨S1x128, .f32⟩
  | .local _ .vmem, ⟨39, _⟩ => ⟨S1x128, .f32⟩
  | .local _ .vmem, ⟨40, _⟩ => ⟨S2048x128, .f32⟩
  | .local _ .vmem, ⟨41, _⟩ => ⟨S2048x128, .bf16⟩
  | .local _ .vmem, ⟨42, _⟩ => ⟨S2064x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_call0_cst : Ref sig .tc := ⟨.hbm, 15, rfl⟩
abbrev main_call0_call0_v0 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_call0_cst : Ref sig .tc := ⟨.hbm, 30, rfl⟩
abbrev main_call1_call0_v0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call2_call0_cst : Ref sig .tc := ⟨.hbm, 45, rfl⟩
abbrev main_call2_call0_v0 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call3_call0_cst : Ref sig .tc := ⟨.hbm, 60, rfl⟩
abbrev main_call3_call0_v0 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62_0 : Ref sig .tc := ⟨.hbm, 86, rfl⟩
abbrev main_v62_1 : Ref sig .tc := ⟨.hbm, 87, rfl⟩
abbrev main_v62_2 : Ref sig .tc := ⟨.hbm, 88, rfl⟩
abbrev main_v62_3 : Ref sig .tc := ⟨.hbm, 89, rfl⟩
abbrev main_v62_4 : Ref sig .tc := ⟨.hbm, 90, rfl⟩
abbrev main_v62_5 : Ref sig .tc := ⟨.hbm, 91, rfl⟩
abbrev main_v62_6 : Ref sig .tc := ⟨.hbm, 92, rfl⟩
abbrev main_v62_7 : Ref sig .tc := ⟨.hbm, 93, rfl⟩
abbrev main_v62_8 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_14 : BitVec 32 := 0#32
  let c32_i32 : BitVec 32 := 32#32
  let v22 : BitVec 32 := Scalar.addi c0_i32_14 c32_i32
  let c1_i32 : BitVec 32 := 1#32
  ⟨c0_i32_14, v22, c1_i32⟩
def k0_mult1 (k0_t1 : Fin k0_t1_loop.trips) : BitVec 32 :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  v40
def k0_mult2 (k0_t1 : Fin k0_t1_loop.trips) : BitVec 32 :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  let v41 : BitVec 32 := v40
  let c16_i32 : BitVec 32 := 16#32
  let v42 : BitVec 32 := Scalar.subi v41 c16_i32
  let c0_i32_28 : BitVec 32 := 0#32
  let v43 : BitVec 32 := Scalar.maxsi v42 c0_i32_28
  v43
def k0_off1 (k0_t1 : Fin k0_t1_loop.trips) : Fin 2 → Nat :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  let v41 : BitVec 32 := v40
  let c16_i32 : BitVec 32 := 16#32
  let v42 : BitVec 32 := Scalar.subi v41 c16_i32
  let c0_i32_28 : BitVec 32 := 0#32
  let v43 : BitVec 32 := Scalar.maxsi v42 c0_i32_28
  let v44 : BitVec 32 := v43
  let v46 : Index := Scalar.indexCast v44
  let c0_30 : Index := 0#32
  ![v46.toNat, 0]
def k0_off2 (k0_t1 : Fin k0_t1_loop.trips) : Fin 2 → Nat :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  let v41 : BitVec 32 := v40
  let v51 : Index := Scalar.indexCast v41
  let c0_32 : Index := 0#32
  ![v51.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult3 (k0_t2 : Fin k0_t2_loop.trips) : BitVec 32 :=
  let c0_i32_16 : BitVec 32 := 0#32
  let c1_i32 : BitVec 32 := 1#32
  let arg25 : BitVec 32 := Scf.iv c0_i32_16 c1_i32 k0_t2
  let c128_i32 : BitVec 32 := 128#32
  let v50 : BitVec 32 := Scalar.muli arg25 c128_i32
  v50
def k0_off3 (k0_t2 : Fin k0_t2_loop.trips) : Fin 2 → Nat :=
  let c0_i32_16 : BitVec 32 := 0#32
  let c1_i32 : BitVec 32 := 1#32
  let arg25 : BitVec 32 := Scf.iv c0_i32_16 c1_i32 k0_t2
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t3_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult4 (k0_t3 : Fin k0_t3_loop.trips) : BitVec 32 :=
  let c0_i32_36 : BitVec 32 := 0#32
  let c1_i32_38 : BitVec 32 := 1#32
  let arg25 : BitVec 32 := Scf.iv c0_i32_36 c1_i32_38 k0_t3
  let c128_i32 : BitVec 32 := 128#32
  let v50 : BitVec 32 := Scalar.muli arg25 c128_i32
  v50
def k0_off4 (k0_t3 : Fin k0_t3_loop.trips) : Fin 2 → Nat :=
  let c0_i32_36 : BitVec 32 := 0#32
  let c1_i32_38 : BitVec 32 := 1#32
  let arg25 : BitVec 32 := Scf.iv c0_i32_36 c1_i32_38 k0_t3
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off5 (k0_t3 : Fin k0_t3_loop.trips) : Fin 2 → Nat :=
  let c0_i32_36 : BitVec 32 := 0#32
  let c1_i32_38 : BitVec 32 := 1#32
  let arg25 : BitVec 32 := Scf.iv c0_i32_36 c1_i32_38 k0_t3
  let c128_i32 : BitVec 32 := 128#32
  let v50 : BitVec 32 := Scalar.muli arg25 c128_i32
  let v51 : BitVec 32 := v50
  let v69 : Index := Scalar.indexCast v51
  let c0_42 : Index := 0#32
  ![v69.toNat, 0]
def k0_cond3 (i : grid0.Coords) : BitVec 1 :=
  let arg0 : BitVec 32 := BitVec.ofNat 32 (i 0).val
  let c5_i32 : BitVec 32 := 5#32
  let v6 : BitVec 1 := Scalar.cmpi .eq arg0 c5_i32
  let v7 : BitVec 32 := Scalar.extui v6
  let c0_i32_2 : BitVec 32 := 0#32
  let v8 : BitVec 1 := Scalar.cmpi .ne v7 c0_i32_2
  v8

@[reducible] def k0_t4_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult5 (k0_t4 : Fin k0_t4_loop.trips) : BitVec 32 :=
  let c0_i32_16 : BitVec 32 := 0#32
  let c1_i32 : BitVec 32 := 1#32
  let arg25 : BitVec 32 := Scf.iv c0_i32_16 c1_i32 k0_t4
  let c128_i32 : BitVec 32 := 128#32
  let v50 : BitVec 32 := Scalar.muli arg25 c128_i32
  v50
def k0_off6 (k0_t4 : Fin k0_t4_loop.trips) : Fin 2 → Nat :=
  let c0_i32_16 : BitVec 32 := 0#32
  let c1_i32 : BitVec 32 := 1#32
  let arg25 : BitVec 32 := Scf.iv c0_i32_16 c1_i32 k0_t4
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t5_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult6 (k0_t5 : Fin k0_t5_loop.trips) : BitVec 32 :=
  let c0_i32_36 : BitVec 32 := 0#32
  let c1_i32_38 : BitVec 32 := 1#32
  let arg25 : BitVec 32 := Scf.iv c0_i32_36 c1_i32_38 k0_t5
  let c128_i32 : BitVec 32 := 128#32
  let v50 : BitVec 32 := Scalar.muli arg25 c128_i32
  v50
def k0_off7 (k0_t5 : Fin k0_t5_loop.trips) : Fin 2 → Nat :=
  let c0_i32_36 : BitVec 32 := 0#32
  let c1_i32_38 : BitVec 32 := 1#32
  let arg25 : BitVec 32 := Scf.iv c0_i32_36 c1_i32_38 k0_t5
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off8 (k0_t5 : Fin k0_t5_loop.trips) : Fin 2 → Nat :=
  let c0_i32_36 : BitVec 32 := 0#32
  let c1_i32_38 : BitVec 32 := 1#32
  let arg25 : BitVec 32 := Scf.iv c0_i32_36 c1_i32_38 k0_t5
  let c128_i32 : BitVec 32 := 128#32
  let v50 : BitVec 32 := Scalar.muli arg25 c128_i32
  let v51 : BitVec 32 := v50
  let v71 : Index := Scalar.indexCast v51
  let c0_43 : Index := 0#32
  ![v71.toNat, 0]
def k0_cond4 (i : grid0.Coords) : BitVec 1 :=
  let arg0 : BitVec 32 := BitVec.ofNat 32 (i 0).val
  let c6_i32 : BitVec 32 := 6#32
  let v9 : BitVec 1 := Scalar.cmpi .eq arg0 c6_i32
  let v10 : BitVec 32 := Scalar.extui v9
  let c0_i32_3 : BitVec 32 := 0#32
  let v11 : BitVec 1 := Scalar.cmpi .ne v10 c0_i32_3
  v11

@[reducible] def k0_t6_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult7 (k0_t6 : Fin k0_t6_loop.trips) : BitVec 32 :=
  let c0_i32_16 : BitVec 32 := 0#32
  let c1_i32 : BitVec 32 := 1#32
  let arg25 : BitVec 32 := Scf.iv c0_i32_16 c1_i32 k0_t6
  let c128_i32 : BitVec 32 := 128#32
  let v50 : BitVec 32 := Scalar.muli arg25 c128_i32
  v50
def k0_off9 (k0_t6 : Fin k0_t6_loop.trips) : Fin 2 → Nat :=
  let c0_i32_16 : BitVec 32 := 0#32
  let c1_i32 : BitVec 32 := 1#32
  let arg25 : BitVec 32 := Scf.iv c0_i32_16 c1_i32 k0_t6
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t7_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult8 (k0_t7 : Fin k0_t7_loop.trips) : BitVec 32 :=
  let c0_i32_36 : BitVec 32 := 0#32
  let c1_i32_38 : BitVec 32 := 1#32
  let arg25 : BitVec 32 := Scf.iv c0_i32_36 c1_i32_38 k0_t7
  let c128_i32 : BitVec 32 := 128#32
  let v50 : BitVec 32 := Scalar.muli arg25 c128_i32
  v50
def k0_off10 (k0_t7 : Fin k0_t7_loop.trips) : Fin 2 → Nat :=
  let c0_i32_36 : BitVec 32 := 0#32
  let c1_i32_38 : BitVec 32 := 1#32
  let arg25 : BitVec 32 := Scf.iv c0_i32_36 c1_i32_38 k0_t7
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off11 (k0_t7 : Fin k0_t7_loop.trips) : Fin 2 → Nat :=
  let c0_i32_36 : BitVec 32 := 0#32
  let c1_i32_38 : BitVec 32 := 1#32
  let arg25 : BitVec 32 := Scf.iv c0_i32_36 c1_i32_38 k0_t7
  let c128_i32 : BitVec 32 := 128#32
  let v50 : BitVec 32 := Scalar.muli arg25 c128_i32
  let v51 : BitVec 32 := v50
  let v73 : Index := Scalar.indexCast v51
  let c0_42 : Index := 0#32
  ![v73.toNat, 0]
def k0_cond5 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_4 : BitVec 32 := 0#32
  let v14 : BitVec 1 := Scalar.cmpi .ne v13 c0_i32_4
  v14

@[reducible] def k0_t8_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult9 (k0_t8 : Fin k0_t8_loop.trips) : BitVec 32 :=
  let c0_i32_16 : BitVec 32 := 0#32
  let c1_i32 : BitVec 32 := 1#32
  let arg25 : BitVec 32 := Scf.iv c0_i32_16 c1_i32 k0_t8
  let c128_i32 : BitVec 32 := 128#32
  let v50 : BitVec 32 := Scalar.muli arg25 c128_i32
  v50
def k0_off12 (k0_t8 : Fin k0_t8_loop.trips) : Fin 2 → Nat :=
  let c0_i32_16 : BitVec 32 := 0#32
  let c1_i32 : BitVec 32 := 1#32
  let arg25 : BitVec 32 := Scf.iv c0_i32_16 c1_i32 k0_t8
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t9_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult10 (k0_t9 : Fin k0_t9_loop.trips) : BitVec 32 :=
  let c0_i32_36 : BitVec 32 := 0#32
  let c1_i32_38 : BitVec 32 := 1#32
  let arg25 : BitVec 32 := Scf.iv c0_i32_36 c1_i32_38 k0_t9
  let c128_i32 : BitVec 32 := 128#32
  let v50 : BitVec 32 := Scalar.muli arg25 c128_i32
  v50
def k0_off13 (k0_t9 : Fin k0_t9_loop.trips) : Fin 2 → Nat :=
  let c0_i32_36 : BitVec 32 := 0#32
  let c1_i32_38 : BitVec 32 := 1#32
  let arg25 : BitVec 32 := Scf.iv c0_i32_36 c1_i32_38 k0_t9
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off14 (k0_t9 : Fin k0_t9_loop.trips) : Fin 2 → Nat :=
  let c0_i32_36 : BitVec 32 := 0#32
  let c1_i32_38 : BitVec 32 := 1#32
  let arg25 : BitVec 32 := Scf.iv c0_i32_36 c1_i32_38 k0_t9
  let c128_i32 : BitVec 32 := 128#32
  let v50 : BitVec 32 := Scalar.muli arg25 c128_i32
  let v51 : BitVec 32 := v50
  let v75 : Index := Scalar.indexCast v51
  let c0_43 : Index := 0#32
  ![v75.toNat, 0]
def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.addi v0 c4_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c8_i32 : BitVec 32 := 8#32
  let v1 : BitVec 32 := Scalar.addi v0 c8_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c12_i32 : BitVec 32 := 12#32
  let v1 : BitVec 32 := Scalar.addi v0 c12_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c20_i32 : BitVec 32 := 20#32
  let v2 : BitVec 32 := Scalar.addi v1 c20_i32
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 4 → Nat :=
  let arg0 : BitVec 32 := BitVec.ofNat 32 (i 0).val
  let c3_i32 : BitVec 32 := 3#32
  let v0 : BitVec 32 := Scalar.minsi arg0 c3_i32
  let c2_i32 : BitVec 32 := 2#32
  let c0_i32 : BitVec 32 := 0#32
  let c0_i32_0 : BitVec 32 := 0#32
  let c0_i32_1 : BitVec 32 := 0#32
  ![v0.toNat, c2_i32.toNat, c0_i32.toNat, c0_i32_0.toNat]

def cc0_transform_9 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  let c0_i32_2 : BitVec 32 := 0#32
  ![c2_i32.toNat, v1.toNat, c0_i32_0.toNat, c0_i32_1.toNat]

def cc0_transform_10 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, c0_i32_0.toNat, v1.toNat]

def cc0_transform_12 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_17 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_18 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_20 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x3x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixRefIdeal.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S2048x512 : Shape := ⟨2, ![2048, 512]⟩
abbrev S2048x1024 : Shape := ⟨2, ![2048, 1024]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S_ : Shape := ⟨0, ![]⟩
abbrev S2x512 : Shape := ⟨2, ![2, 512]⟩
abbrev S2046x512 : Shape := ⟨2, ![2046, 512]⟩
abbrev S2047x512 : Shape := ⟨2, ![2047, 512]⟩
abbrev S2048 : Shape := ⟨1, ![2048]⟩
abbrev S2048x1 : Shape := ⟨2, ![2048, 1]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S4x2048x128 : Shape := ⟨3, ![4, 2048, 128]⟩
abbrev S3x4x128 : Shape := ⟨3, ![3, 4, 128]⟩
abbrev S4x3x128 : Shape := ⟨3, ![4, 3, 128]⟩

abbrev nBuf : Space → Nat
  | .hbm => 347
  | .vmem => 0
  | .smem => 0
  | _ => 0

abbrev hbmTy0_0 (i : Nat) : BufTy := match i % 128 with
  | 0 => ⟨S2048x3072, .bf16⟩
  | 1 => ⟨S4x3x512, .f32⟩
  | 2 => ⟨S4x4x128x128, .f32⟩
  | 3 => ⟨S4x512, .f32⟩
  | 4 => ⟨S2048x512, .bf16⟩
  | 5 => ⟨S2048x512, .bf16⟩
  | 6 => ⟨S2048x1024, .bf16⟩
  | 7 => ⟨S2048x1024, .f32⟩
  | 8 => ⟨S2048x3072, .f32⟩
  | 9 => ⟨S1x3x512, .f32⟩
  | 10 => ⟨S3x512, .f32⟩
  | 11 => ⟨S1x4x128x128, .f32⟩
  | 12 => ⟨S4x128x128, .f32⟩
  | 13 => ⟨S1x512, .f32⟩
  | 14 => ⟨S512, .f32⟩
  | 15 => ⟨S2048x512, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S1x512, .f32⟩
  | 23 => ⟨S512, .f32⟩
  | 24 => ⟨S_, .f32⟩
  | 25 => ⟨S2x512, .f32⟩
  | 26 => ⟨S2046x512, .f32⟩
  | 27 => ⟨S2048x512, .f32⟩
  | 28 => ⟨S_, .f32⟩
  | 29 => ⟨S2x512, .f32⟩
  | 30 => ⟨S1x512, .f32⟩
  | 31 => ⟨S2048x512, .f32⟩
  | 32 => ⟨S2048x512, .f32⟩
  | 33 => ⟨S1x512, .f32⟩
  | 34 => ⟨S512, .f32⟩
  | 35 => ⟨S_, .f32⟩
  | 36 => ⟨S1x512, .f32⟩
  | 37 => ⟨S2047x512, .f32⟩
  | 38 => ⟨S2048x512, .f32⟩
  | 39 => ⟨S_, .f32⟩
  | 40 => ⟨S1x512, .f32⟩
  | 41 => ⟨S1x512, .f32⟩
  | 42 => ⟨S2048x512, .f32⟩
  | 43 => ⟨S2048x512, .f32⟩
  | 44 => ⟨S2048x512, .f32⟩
  | 45 => ⟨S1x512, .f32⟩
  | 46 => ⟨S512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S2048x512, .f32⟩
  | 54 => ⟨S_, .f32⟩
  | 55 => ⟨S2048x512, .f32⟩
  | 56 => ⟨S2048x512, .f32⟩
  | 57 => ⟨S_, .f32⟩
  | 58 => ⟨S2048x512, .f32⟩
  | 59 => ⟨S2048x512, .f32⟩
  | 60 => ⟨S_, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048, .i32⟩
  | 67 => ⟨S_, .i32⟩
  | 68 => ⟨S2048, .i32⟩
  | 69 => ⟨S2048, .i32⟩
  | 70 => ⟨S2048, .f32⟩
  | 71 => ⟨S2048x1, .f32⟩
  | 72 => ⟨S2048x128, .f32⟩
  | 73 => ⟨S_, .f32⟩
  | 74 => ⟨S_, .f32⟩
  | 75 => ⟨S2048x128, .f32⟩
  | 76 => ⟨S_, .f32⟩
  | 77 => ⟨S2x128, .f32⟩
  | 78 => ⟨S2046x128, .f32⟩
  | 79 => ⟨S2048x128, .f32⟩
  | 80 => ⟨S_, .f32⟩
  | 81 => ⟨S2x128, .f32⟩
  | 82 => ⟨S2048x128, .f32⟩
  | 83 => ⟨S_, .f32⟩
  | 84 => ⟨S2048x1, .f32⟩
  | 85 => ⟨S2048x1, .f32⟩
  | 86 => ⟨S2048x128, .f32⟩
  | 87 => ⟨S2048x128, .f32⟩
  | 88 => ⟨S2048x128, .f32⟩
  | 89 => ⟨S2048x128, .f32⟩
  | 90 => ⟨S_, .f32⟩
  | 91 => ⟨S_, .f32⟩
  | 92 => ⟨S2048x128, .f32⟩
  | 93 => ⟨S_, .f32⟩
  | 94 => ⟨S4x128, .f32⟩
  | 95 => ⟨S2044x128, .f32⟩
  | 96 => ⟨S2048x128, .f32⟩
  | 97 => ⟨S_, .f32⟩
  | 98 => ⟨S4x128, .f32⟩
  | 99 => ⟨S2048x128, .f32⟩
  | 100 => ⟨S_, .f32⟩
  | 101 => ⟨S2048x1, .f32⟩
  | 102 => ⟨S2048x1, .f32⟩
  | 103 => ⟨S2048x128, .f32⟩
  | 104 => ⟨S2048x128, .f32⟩
  | 105 => ⟨S2048x128, .f32⟩
  | 106 => ⟨S2048x128, .f32⟩
  | 107 => ⟨S_, .f32⟩
  | 108 => ⟨S_, .f32⟩
  | 109 => ⟨S2048x128, .f32⟩
  | 110 => ⟨S_, .f32⟩
  | 111 => ⟨S8x128, .f32⟩
  | 112 => ⟨S2040x128, .f32⟩
  | 113 => ⟨S2048x128, .f32⟩
  | 114 => ⟨S_, .f32⟩
  | 115 => ⟨S8x128, .f32⟩
  | 116 => ⟨S2048x128, .f32⟩
  | 117 => ⟨S_, .f32⟩
  | 118 => ⟨S2048x1, .f32⟩
  | 119 => ⟨S2048x1, .f32⟩
  | 120 => ⟨S2048x128, .f32⟩
  | 121 => ⟨S2048x128, .f32⟩
  | 122 => ⟨S2048x128, .f32⟩
  | 123 => ⟨S2048x128, .f32⟩
  | 124 => ⟨S_, .f32⟩
  | 125 => ⟨S_, .f32⟩
  | 126 => ⟨S2048x128, .f32⟩
  | 127 => ⟨S_, .f32⟩
  | _ => ⟨S2048x3072, .bf16⟩

abbrev hbmTy0_1 (i : Nat) : BufTy := match i % 128 with
  | 0 => ⟨S16x128, .f32⟩
  | 1 => ⟨S2032x128, .f32⟩
  | 2 => ⟨S2048x128, .f32⟩
  | 3 => ⟨S_, .f32⟩
  | 4 => ⟨S16x128, .f32⟩
  | 5 => ⟨S2048x128, .f32⟩
  | 6 => ⟨S_, .f32⟩
  | 7 => ⟨S2048x1, .f32⟩
  | 8 => ⟨S2048x1, .f32⟩
  | 9 => ⟨S2048x128, .f32⟩
  | 10 => ⟨S2048x128, .f32⟩
  | 11 => ⟨S2048x128, .f32⟩
  | 12 => ⟨S2048x1x128, .f32⟩
  | 13 => ⟨S2048x1x128, .f32⟩
  | 14 => ⟨S2048x1x128, .f32⟩
  | 15 => ⟨S2048x1x128, .f32⟩
  | 16 => ⟨S2048x4x128, .f32⟩
  | 17 => ⟨S4x128x2048, .f32⟩
  | 18 => ⟨S2048x4x128, .f32⟩
  | 19 => ⟨S2048x512, .f32⟩
  | 20 => ⟨S1x512, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x1024, .f32⟩
  | 38 => ⟨S2048x512, .f32⟩
  | 39 => ⟨S2048x512, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S_, .f32⟩
  | 48 => ⟨S512, .f32⟩
  | 49 => ⟨S1x512, .f32⟩
  | 50 => ⟨S2048x512, .f32⟩
  | 51 => ⟨S2048x512, .f32⟩
  | 52 => ⟨S_, .f32⟩
  | 53 => ⟨S512, .f32⟩
  | 54 => ⟨S2048x4x128, .f32⟩
  | 55 => ⟨S4x128x2048, .f32⟩
  | 56 => ⟨S4x2048x128, .f32⟩
  | 57 => ⟨S2048x4x128, .f32⟩
  | 58 => ⟨S4x128x128, .f32⟩
  | 59 => ⟨S4x128x128, .f32⟩
  | 60 => ⟨S2048x1x128, .f32⟩
  | 61 => ⟨S2048x128, .f32⟩
  | 62 => ⟨S2048x1x128, .f32⟩
  | 63 => ⟨S2048x128, .f32⟩
  | 64 => ⟨S2048x1x128, .f32⟩
  | 65 => ⟨S2048x128, .f32⟩
  | 66 => ⟨S2048x1x128, .f32⟩
  | 67 => ⟨S2048x128, .f32⟩
  | 68 => ⟨S2048x128, .f32⟩
  | 69 => ⟨S2048x128, .f32⟩
  | 70 => ⟨S2048x128, .f32⟩
  | 71 => ⟨S2048x128, .f32⟩
  | 72 => ⟨S16x128, .f32⟩
  | 73 => ⟨S2032x128, .f32⟩
  | 74 => ⟨S_, .f32⟩
  | 75 => ⟨S2048x128, .f32⟩
  | 76 => ⟨S2048x128, .f32⟩
  | 77 => ⟨S_, .f32⟩
  | 78 => ⟨S_, .f32⟩
  | 79 => ⟨S2048x128, .f32⟩
  | 80 => ⟨S2048x128, .f32⟩
  | 81 => ⟨S_, .f32⟩
  | 82 => ⟨S2048x512, .f32⟩
  | 83 => ⟨S2048x128, .f32⟩
  | 84 => ⟨S2048x128, .f32⟩
  | 85 => ⟨S2048x128, .f32⟩
  | 86 => ⟨S2048x128, .f32⟩
  | 87 => ⟨S8x128, .f32⟩
  | 88 => ⟨S2040x128, .f32⟩
  | 89 => ⟨S_, .f32⟩
  | 90 => ⟨S2048x128, .f32⟩
  | 91 => ⟨S2048x128, .f32⟩
  | 92 => ⟨S_, .f32⟩
  | 93 => ⟨S_, .f32⟩
  | 94 => ⟨S2048x128, .f32⟩
  | 95 => ⟨S2048x128, .f32⟩
  | 96 => ⟨S_, .f32⟩
  | 97 => ⟨S2048x512, .f32⟩
  | 98 => ⟨S2048x512, .f32⟩
  | 99 => ⟨S2048x128, .f32⟩
  | 100 => ⟨S2048x128, .f32⟩
  | 101 => ⟨S2048x128, .f32⟩
  | 102 => ⟨S2048x128, .f32⟩
  | 103 => ⟨S4x128, .f32⟩
  | 104 => ⟨S2044x128, .f32⟩
  | 105 => ⟨S_, .f32⟩
  | 106 => ⟨S2048x128, .f32⟩
  | 107 => ⟨S2048x128, .f32⟩
  | 108 => ⟨S_, .f32⟩
  | 109 => ⟨S_, .f32⟩
  | 110 => ⟨S2048x128, .f32⟩
  | 111 => ⟨S2048x128, .f32⟩
  | 112 => ⟨S_, .f32⟩
  | 113 => ⟨S2048x512, .f32⟩
  | 114 => ⟨S2048x512, .f32⟩
  | 115 => ⟨S2048x128, .f32⟩
  | 116 => ⟨S2048x128, .f32⟩
  | 117 => ⟨S2048x128, .f32⟩
  | 118 => ⟨S2048x128, .f32⟩
  | 119 => ⟨S2x128, .f32⟩
  | 120 => ⟨S2046x128, .f32⟩
  | 121 => ⟨S_, .f32⟩
  | 122 => ⟨S2048x128, .f32⟩
  | 123 => ⟨S2048x128, .f32⟩
  | 124 => ⟨S_, .f32⟩
  | 125 => ⟨S_, .f32⟩
  | 126 => ⟨S2048x128, .f32⟩
  | 127 => ⟨S2048x128, .f32⟩
  | _ => ⟨S2048x3072, .bf16⟩

abbrev hbmTy0_2 (i : Nat) : BufTy := match i % 128 with
  | 0 => ⟨S_, .f32⟩
  | 1 => ⟨S2048x512, .f32⟩
  | 2 => ⟨S2048x512, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S2048x512, .f32⟩
  | 14 => ⟨S_, .f32⟩
  | 15 => ⟨S512, .f32⟩
  | 16 => ⟨S1x512, .f32⟩
  | 17 => ⟨S_, .f32⟩
  | 18 => ⟨S512, .f32⟩
  | 19 => ⟨S1x512, .f32⟩
  | 20 => ⟨S_, .f32⟩
  | 21 => ⟨S3x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S_, .f32⟩
  | 29 => ⟨S512, .f32⟩
  | 30 => ⟨S1x512, .f32⟩
  | 31 => ⟨S2047x512, .f32⟩
  | 32 => ⟨S_, .f32⟩
  | 33 => ⟨S2048x512, .f32⟩
  | 34 => ⟨S2048x512, .f32⟩
  | 35 => ⟨S1x512, .f32⟩
  | 36 => ⟨S_, .f32⟩
  | 37 => ⟨S3x512, .f32⟩
  | 38 => ⟨S3x512, .f32⟩
  | 39 => ⟨S2048x512, .f32⟩
  | 40 => ⟨S2048x512, .f32⟩
  | 41 => ⟨S2048x512, .f32⟩
  | 42 => ⟨S_, .f32⟩
  | 43 => ⟨S512, .f32⟩
  | 44 => ⟨S1x512, .f32⟩
  | 45 => ⟨S_, .f32⟩
  | 46 => ⟨S512, .f32⟩
  | 47 => ⟨S2x512, .f32⟩
  | 48 => ⟨S2046x512, .f32⟩
  | 49 => ⟨S_, .f32⟩
  | 50 => ⟨S2048x512, .f32⟩
  | 51 => ⟨S2048x512, .f32⟩
  | 52 => ⟨S1x512, .f32⟩
  | 53 => ⟨S_, .f32⟩
  | 54 => ⟨S3x512, .f32⟩
  | 55 => ⟨S3x512, .f32⟩
  | 56 => ⟨S2048x512, .f32⟩
  | 57 => ⟨S2048x512, .f32⟩
  | 58 => ⟨S_, .f32⟩
  | 59 => ⟨S2048x3072, .f32⟩
  | 60 => ⟨S_, .f32⟩
  | 61 => ⟨S2048x3072, .f32⟩
  | 62 => ⟨S2048x3072, .f32⟩
  | 63 => ⟨S_, .f32⟩
  | 64 => ⟨S2048x3072, .f32⟩
  | 65 => ⟨S2048x3072, .f32⟩
  | 66 => ⟨S_, .f32⟩
  | 67 => ⟨S2048x3072, .f32⟩
  | 68 => ⟨S2048x3072, .f32⟩
  | 69 => ⟨S_, .f32⟩
  | 70 => ⟨S2048x3072, .f32⟩
  | 71 => ⟨S2048x3072, .f32⟩
  | 72 => ⟨S_, .f32⟩
  | 73 => ⟨S2048x3072, .f32⟩
  | 74 => ⟨S2048x3072, .f32⟩
  | 75 => ⟨S2048x512, .f32⟩
  | 76 => ⟨S2048x512, .bf16⟩
  | 77 => ⟨S2048x512, .f32⟩
  | 78 => ⟨S2048x512, .bf16⟩
  | 79 => ⟨S2048x512, .f32⟩
  | 80 => ⟨S2048x512, .bf16⟩
  | 81 => ⟨S2048x512, .f32⟩
  | 82 => ⟨S2048x512, .bf16⟩
  | 83 => ⟨S2048x512, .f32⟩
  | 84 => ⟨S2048x512, .bf16⟩
  | 85 => ⟨S2048x512, .f32⟩
  | 86 => ⟨S2048x512, .bf16⟩
  | 87 => ⟨S3x4x128, .f32⟩
  | 88 => ⟨S4x3x128, .f32⟩
  | 89 => ⟨S4x128x128, .bf16⟩
  | 90 => ⟨S1x512, .f32⟩
  | _ => ⟨S2048x3072, .bf16⟩

abbrev hbmTy (i : Nat) : BufTy := match i / 128 with
  | 0 => hbmTy0_0 i
  | 1 => hbmTy0_1 i
  | 2 => hbmTy0_2 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v42_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v42_1 : Ref sig .tc := ⟨.hbm, 63, rfl⟩
abbrev main_v42_0 : Ref sig .tc := ⟨.hbm, 64, rfl⟩
abbrev main_v43 : Ref sig .tc := ⟨.hbm, 65, rfl⟩
abbrev main_v44 : Ref sig .tc := ⟨.hbm, 66, rfl⟩
abbrev main_c : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_call0_cst : Ref sig .tc := ⟨.hbm, 73, rfl⟩
abbrev main_call1_call0_v0 : Ref sig .tc := ⟨.hbm, 74, rfl⟩
abbrev main_v50 : Ref sig .tc := ⟨.hbm, 75, rfl⟩
abbrev main_cst_3 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_cst_5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call2_call0_cst : Ref sig .tc := ⟨.hbm, 90, rfl⟩
abbrev main_call2_call0_v0 : Ref sig .tc := ⟨.hbm, 91, rfl⟩
abbrev main_v62 : Ref sig .tc := ⟨.hbm, 92, rfl⟩
abbrev main_cst_6 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_7 : Ref sig .tc := ⟨.hbm, 97, rfl⟩
abbrev main_v66 : Ref sig .tc := ⟨.hbm, 98, rfl⟩
abbrev main_v67 : Ref sig .tc := ⟨.hbm, 99, rfl⟩
abbrev main_cst_8 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call3_call0_cst : Ref sig .tc := ⟨.hbm, 107, rfl⟩
abbrev main_call3_call0_v0 : Ref sig .tc := ⟨.hbm, 108, rfl⟩
abbrev main_v74 : Ref sig .tc := ⟨.hbm, 109, rfl⟩
abbrev main_cst_9 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_10 : Ref sig .tc := ⟨.hbm, 114, rfl⟩
abbrev main_v78 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call4_call0_cst : Ref sig .tc := ⟨.hbm, 124, rfl⟩
abbrev main_call4_call0_v0 : Ref sig .tc := ⟨.hbm, 125, rfl⟩
abbrev main_v86 : Ref sig .tc := ⟨.hbm, 126, rfl⟩
abbrev main_cst_12 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_13 : Ref sig .tc := ⟨.hbm, 131, rfl⟩
abbrev main_v90 : Ref sig .tc := ⟨.hbm, 132, rfl⟩
abbrev main_v91 : Ref sig .tc := ⟨.hbm, 133, rfl⟩
abbrev main_cst_14 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call5_v0 : Ref sig .tc := ⟨.hbm, 151, rfl⟩
abbrev main_call5_v1 : Ref sig .tc := ⟨.hbm, 152, rfl⟩
abbrev main_call5_cst : Ref sig .tc := ⟨.hbm, 153, rfl⟩
abbrev main_call5_v2 : Ref sig .tc := ⟨.hbm, 154, rfl⟩
abbrev main_call5_v3 : Ref sig .tc := ⟨.hbm, 155, rfl⟩
abbrev main_call5_cst_0 : Ref sig .tc := ⟨.hbm, 156, rfl⟩
abbrev main_call5_v4 : Ref sig .tc := ⟨.hbm, 157, rfl⟩
abbrev main_v108_2 : Ref sig .tc := ⟨.hbm, 158, rfl⟩
abbrev main_call5_cst_1 : Ref sig .tc := ⟨.hbm, 159, rfl⟩
abbrev main_call5_v6 : Ref sig .tc := ⟨.hbm, 160, rfl⟩
abbrev main_call5_v7 : Ref sig .tc := ⟨.hbm, 161, rfl⟩
abbrev main_v108_1 : Ref sig .tc := ⟨.hbm, 162, rfl⟩
abbrev main_v108_0 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_v115 : Ref sig .tc := ⟨.hbm, 173, rfl⟩
abbrev main_v116 : Ref sig .tc := ⟨.hbm, 174, rfl⟩
abbrev main_cst_15 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_16 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_17 : Ref sig .tc := ⟨.hbm, 202, rfl⟩
abbrev main_v142 : Ref sig .tc := ⟨.hbm, 203, rfl⟩
abbrev main_v143 : Ref sig .tc := ⟨.hbm, 204, rfl⟩
abbrev main_call7_call0_cst : Ref sig .tc := ⟨.hbm, 205, rfl⟩
abbrev main_call7_call0_v0 : Ref sig .tc := ⟨.hbm, 206, rfl⟩
abbrev main_v144 : Ref sig .tc := ⟨.hbm, 207, rfl⟩
abbrev main_v145 : Ref sig .tc := ⟨.hbm, 208, rfl⟩
abbrev main_cst_18 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_19 : Ref sig .tc := ⟨.hbm, 217, rfl⟩
abbrev main_v153 : Ref sig .tc := ⟨.hbm, 218, rfl⟩
abbrev main_v154 : Ref sig .tc := ⟨.hbm, 219, rfl⟩
abbrev main_call8_call0_cst : Ref sig .tc := ⟨.hbm, 220, rfl⟩
abbrev main_call8_call0_v0 : Ref sig .tc := ⟨.hbm, 221, rfl⟩
abbrev main_v155 : Ref sig .tc := ⟨.hbm, 222, rfl⟩
abbrev main_v156 : Ref sig .tc := ⟨.hbm, 223, rfl⟩
abbrev main_cst_20 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_cst_21 : Ref sig .tc := ⟨.hbm, 233, rfl⟩
abbrev main_v165 : Ref sig .tc := ⟨.hbm, 234, rfl⟩
abbrev main_v166 : Ref sig .tc := ⟨.hbm, 235, rfl⟩
abbrev main_call9_call0_cst : Ref sig .tc := ⟨.hbm, 236, rfl⟩
abbrev main_call9_call0_v0 : Ref sig .tc := ⟨.hbm, 237, rfl⟩
abbrev main_v167 : Ref sig .tc := ⟨.hbm, 238, rfl⟩
abbrev main_v168 : Ref sig .tc := ⟨.hbm, 239, rfl⟩
abbrev main_cst_22 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_23 : Ref sig .tc := ⟨.hbm, 249, rfl⟩
abbrev main_v177 : Ref sig .tc := ⟨.hbm, 250, rfl⟩
abbrev main_v178 : Ref sig .tc := ⟨.hbm, 251, rfl⟩
abbrev main_call10_call0_cst : Ref sig .tc := ⟨.hbm, 252, rfl⟩
abbrev main_call10_call0_v0 : Ref sig .tc := ⟨.hbm, 253, rfl⟩
abbrev main_v179 : Ref sig .tc := ⟨.hbm, 254, rfl⟩
abbrev main_v180 : Ref sig .tc := ⟨.hbm, 255, rfl⟩
abbrev main_cst_24 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_call11_v0 : Ref sig .tc := ⟨.hbm, 261, rfl⟩
abbrev main_call11_v1 : Ref sig .tc := ⟨.hbm, 262, rfl⟩
abbrev main_call11_v2 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_cst_25 : Ref sig .tc := ⟨.hbm, 270, rfl⟩
abbrev main_v191 : Ref sig .tc := ⟨.hbm, 271, rfl⟩
abbrev main_v192 : Ref sig .tc := ⟨.hbm, 272, rfl⟩
abbrev main_cst_26 : Ref sig .tc := ⟨.hbm, 273, rfl⟩
abbrev main_v193 : Ref sig .tc := ⟨.hbm, 274, rfl⟩
abbrev main_v194 : Ref sig .tc := ⟨.hbm, 275, rfl⟩
abbrev main_cst_27 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_cst_28 : Ref sig .tc := ⟨.hbm, 281, rfl⟩
abbrev main_v199 : Ref sig .tc := ⟨.hbm, 282, rfl⟩
abbrev main_v200 : Ref sig .tc := ⟨.hbm, 283, rfl⟩
abbrev main_cst_29 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_cst_30 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_cst_31 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_cst_32 : Ref sig .tc := ⟨.hbm, 298, rfl⟩
abbrev main_v212 : Ref sig .tc := ⟨.hbm, 299, rfl⟩
abbrev main_v213 : Ref sig .tc := ⟨.hbm, 300, rfl⟩
abbrev main_cst_33 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_cst_34 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_cst_35 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_cst_36 : Ref sig .tc := ⟨.hbm, 314, rfl⟩
abbrev main_v224 : Ref sig .tc := ⟨.hbm, 315, rfl⟩
abbrev main_cst_37 : Ref sig .tc := ⟨.hbm, 316, rfl⟩
abbrev main_v225 : Ref sig .tc := ⟨.hbm, 317, rfl⟩
abbrev main_v226 : Ref sig .tc := ⟨.hbm, 318, rfl⟩
abbrev main_cst_38 : Ref sig .tc := ⟨.hbm, 319, rfl⟩
abbrev main_v227 : Ref sig .tc := ⟨.hbm, 320, rfl⟩
abbrev main_v228 : Ref sig .tc := ⟨.hbm, 321, rfl⟩
abbrev main_cst_39 : Ref sig .tc := ⟨.hbm, 322, rfl⟩
abbrev main_v229 : Ref sig .tc := ⟨.hbm, 323, rfl⟩
abbrev main_v230 : Ref sig .tc := ⟨.hbm, 324, rfl⟩
abbrev main_cst_40 : Ref sig .tc := ⟨.hbm, 325, rfl⟩
abbrev main_v231 : Ref sig .tc := ⟨.hbm, 326, rfl⟩
abbrev main_v232 : Ref sig .tc := ⟨.hbm, 327, rfl⟩
abbrev main_cst_41 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩

abbrev nD : Nat := 1
abbrev τ : Topo := Topo.v7x

variable {F : FTy → Type} [FloatOps F]
-- ==== Out.lean ====
abbrev S2048x1024 : Shape := ⟨2, ![2048, 1024]⟩
abbrev S2048x512 : Shape := ⟨2, ![2048, 512]⟩
abbrev S4x1024x1024 : Shape := ⟨3, ![4, 1024, 1024]⟩
abbrev S4x3072 : Shape := ⟨2, ![4, 3072]⟩
abbrev S4x1024 : Shape := ⟨2, ![4, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S4x3x1x1024 : Shape := ⟨4, ![4, 3, 1, 1024]⟩
abbrev S4x1x1024 : Shape := ⟨3, ![4, 1, 1024]⟩
abbrev S_ : Shape := ⟨0, ![]⟩
abbrev S8x128 : Shape := ⟨2, ![8, 128]⟩
abbrev S1x1024 : Shape := ⟨2, ![1, 1024]⟩
abbrev S512x512 : Shape := ⟨2, ![512, 512]⟩
abbrev S1x1x1x1024 : Shape := ⟨4, ![1, 1, 1, 1024]⟩
abbrev S1x1x1024 : Shape := ⟨3, ![1, 1, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 28
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S4x1024x1024, .f32⟩
  | .hbm, ⟨4, _⟩ => ⟨S4x3072, .f32⟩
  | .hbm, ⟨5, _⟩ => ⟨S4x1024, .f32⟩
  | .hbm, ⟨6, _⟩ => ⟨S2048x512, .f32⟩
  | .hbm, ⟨7, _⟩ => ⟨S1x512x1024, .f32⟩
  | .hbm, ⟨8, _⟩ => ⟨S512x1024, .f32⟩
  | .hbm, ⟨9, _⟩ => ⟨S2048x1024, .f32⟩
  | .hbm, ⟨10, _⟩ => ⟨S2048x512, .f32⟩
  | .hbm, ⟨11, _⟩ => ⟨S1x512x1024, .f32⟩
  | .hbm, ⟨12, _⟩ => ⟨S512x1024, .f32⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S1x1024x1024, .f32⟩
  | .hbm, ⟨17, _⟩ => ⟨S1024x1024, .f32⟩
  | .hbm, ⟨18, _⟩ => ⟨S1024x1024, .bf16⟩
  | .hbm, ⟨19, _⟩ => ⟨S4x3x1x1024, .f32⟩
  | .hbm, ⟨20, _⟩ => ⟨S4x1x1024, .f32⟩
  | .hbm, ⟨21, _⟩ => ⟨S_, .f32⟩
  | .hbm, ⟨22, _⟩ => ⟨S8x128, .f32⟩
  | .hbm, ⟨23, _⟩ => ⟨S2048x512, .bf16⟩
  | .hbm, ⟨24, _⟩ => ⟨S2048x512, .bf16⟩
  | .hbm, ⟨25, _⟩ => ⟨S1024x1024, .bf16⟩
  | .hbm, ⟨26, _⟩ => ⟨S1x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1x1x1024, .f32⟩
  | .local _ .vmem, ⟨10, _⟩ => ⟨S1x1x1024, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v67 : BitVec 1 := Scalar.cmpi .eq arg0 c3_i32
  let v68 : BitVec 32 := Scalar.extui v67
  let c0_i32_40 : BitVec 32 := 0#32
  let v69 : BitVec 1 := Scalar.cmpi .ne v68 c0_i32_40
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S2048x1024 : Shape := ⟨2, ![2048, 1024]⟩
abbrev S2048x512 : Shape := ⟨2, ![2048, 512]⟩
abbrev S4x1024x1024 : Shape := ⟨3, ![4, 1024, 1024]⟩
abbrev S4x3072 : Shape := ⟨2, ![4, 3072]⟩
abbrev S4x1024 : Shape := ⟨2, ![4, 1024]⟩
abbrev S1x3072 : Shape := ⟨2, ![1, 3072]⟩
abbrev S3072 : Shape := ⟨1, ![3072]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S4x1024x1024, .f32⟩
  | .hbm, ⟨4, _⟩ => ⟨S4x3072, .f32⟩
  | .hbm, ⟨5, _⟩ => ⟨S4x1024, .f32⟩
  | .hbm, ⟨6, _⟩ => ⟨S1x3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048x512, .f32⟩
  | .hbm, ⟨12, _⟩ => ⟨S2048x512, .f32⟩
  | .hbm, ⟨13, _⟩ => ⟨S1x1024x1024, .f32⟩
  | .hbm, ⟨14, _⟩ => ⟨S1024x1024, .f32⟩
  | .hbm, ⟨15, _⟩ => ⟨S1x1024, .f32⟩
  | .hbm, ⟨16, _⟩ => ⟨S1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1024x1024, .f32⟩
  | .hbm, ⟨76, _⟩ => ⟨S1024x1024, .f32⟩
  | .hbm, ⟨77, _⟩ => ⟨S2048x1024, .f32⟩
  | .hbm, ⟨78, _⟩ => ⟨S2048x512, .f32⟩
  | .hbm, ⟨79, _⟩ => ⟨S2048x512, .f32⟩
  | .hbm, ⟨80, _⟩ => ⟨S2048x512, .bf16⟩
  | .hbm, ⟨81, _⟩ => ⟨S2048x512, .bf16⟩
  | .hbm, ⟨82, _⟩ => ⟨S1024x1024, .bf16⟩
  | .hbm, ⟨83, _⟩ => ⟨S1x1024, .f32⟩
  | .hbm, ⟨84, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== In.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S4x3x1x1024 : Shape := ⟨4, ![4, 3, 1, 1024]⟩
abbrev S4x1x1024 : Shape := ⟨3, ![4, 1, 1024]⟩
abbrev S4x1024x768 : Shape := ⟨3, ![4, 1024, 768]⟩
abbrev S1x1024 : Shape := ⟨2, ![1, 1024]⟩
abbrev S256x512 : Shape := ⟨2, ![256, 512]⟩
abbrev S256x1024 : Shape := ⟨2, ![256, 1024]⟩
abbrev S1x1x1x1024 : Shape := ⟨4, ![1, 1, 1, 1024]⟩
abbrev S1x1x1024 : Shape := ⟨3, ![1, 1, 1024]⟩
abbrev S8x1024 : Shape := ⟨2, ![8, 1024]⟩
abbrev S256 : Shape := ⟨1, ![256]⟩
abbrev S256x1 : Shape := ⟨2, ![256, 1]⟩
abbrev S1024x512 : Shape := ⟨2, ![1024, 512]⟩
abbrev S1x1024x256 : Shape := ⟨3, ![1, 1024, 256]⟩
abbrev S1024x256 : Shape := ⟨2, ![1024, 256]⟩
abbrev S256x256 : Shape := ⟨2, ![256, 256]⟩
abbrev S32x8x1024 : Shape := ⟨3, ![32, 8, 1024]⟩
abbrev S1024 : Shape := ⟨1, ![1024]⟩

abbrev nBuf : Space → Nat
  | .hbm => 21
  | .vmem => 29
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S4x3072, .f32⟩
  | .hbm, ⟨9, _⟩ => ⟨S4x1024, .f32⟩
  | .hbm, ⟨10, _⟩ => ⟨S4x1024x3072, .f32⟩
  | .hbm, ⟨11, _⟩ => ⟨S1x1024x3072, .f32⟩
  | .hbm, ⟨12, _⟩ => ⟨S1024x3072, .f32⟩
  | .hbm, ⟨13, _⟩ => ⟨S1024x3072, .bf16⟩
  | .hbm, ⟨14, _⟩ => ⟨S4x3x1x1024, .f32⟩
  | .hbm, ⟨15, _⟩ => ⟨S4x1x1024, .f32⟩
  | .hbm, ⟨16, _⟩ => ⟨S2048x1024, .f32⟩
  | .hbm, ⟨17, _⟩ => ⟨S4x1024x768, .bf16⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1024x3072, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1024, .f32⟩
  | .local _ .vmem, ⟨20, _⟩ => ⟨S256x1024, .f32⟩
  | .local _ .vmem, ⟨21, _⟩ => ⟨S256x1024, .f32⟩
  | .local _ .vmem, ⟨22, _⟩ => ⟨S4x1024x768, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S4x1024x768, .f32⟩
  | .local _ .vmem, ⟨27, _⟩ => ⟨S8x1024, .f32⟩
  | .local _ .vmem, ⟨28, _⟩ => ⟨S8x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v184 : BitVec 1 := Scalar.cmpi .eq arg0 c7_i32
  let v185 : BitVec 32 := Scalar.extui v184
  let c0_i32_161 : BitVec 32 := 0#32
  let v186 : BitVec 1 := Scalar.cmpi .ne v185 c0_i32_161
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_10 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InRefIdeal.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S1x3072 : Shape := ⟨2, ![1, 3072]⟩
abbrev S3072 : Shape := ⟨1, ![3072]⟩
abbrev S1024 : Shape := ⟨1, ![1024]⟩
abbrev S2048x3072 : Shape := ⟨2, ![2048, 3072]⟩
abbrev S1x1024 : Shape := ⟨2, ![1, 1024]⟩
abbrev S1x1024x3072 : Shape := ⟨3, ![1, 1024, 3072]⟩
abbrev S1024x3072 : Shape := ⟨2, ![1024, 3072]⟩
abbrev S_ : Shape := ⟨0, ![]⟩
abbrev S2048 : Shape := ⟨1, ![2048]⟩
abbrev S2048x1 : Shape := ⟨2, ![2048, 1]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 100
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S4x3072, .f32⟩
  | .hbm, ⟨9, _⟩ => ⟨S4x1024, .f32⟩
  | .hbm, ⟨10, _⟩ => ⟨S4x1024x3072, .f32⟩
  | .hbm, ⟨11, _⟩ => ⟨S1x3072, .f32⟩
  | .hbm, ⟨12, _⟩ => ⟨S3072, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S2048x3072, .bf16⟩
  | .hbm, ⟨17, _⟩ => ⟨S2048x3072, .f32⟩
  | .hbm, ⟨18, _⟩ => ⟨S1x1024, .f32⟩
  | .hbm, ⟨19, _⟩ => ⟨S1024, .f32⟩
  | .hbm, ⟨20, _⟩ => ⟨S1x1024x3072, .f32⟩
  | .hbm, ⟨21, _⟩ => ⟨S1024x3072, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x3072, .f32⟩
  | .hbm, ⟨52, _⟩ => ⟨S3072x1024, .f32⟩
  | .hbm, ⟨53, _⟩ => ⟨S1024x3072, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S1024x4x768, .f32⟩
  | .hbm, ⟨95, _⟩ => ⟨S4x1024x768, .f32⟩
  | .hbm, ⟨96, _⟩ => ⟨S4x1024x768, .bf16⟩
  | .hbm, ⟨97, _⟩ => ⟨S1x1024, .f32⟩
  | .hbm, ⟨98, _⟩ => ⟨S1x1024, .f32⟩
  | .hbm, ⟨99, _⟩ => ⟨S1x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== InFirst.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S4x1024x768 : Shape := ⟨3, ![4, 1024, 768]⟩
abbrev S4x256x1024 : Shape := ⟨3, ![4, 256, 1024]⟩
abbrev S1x1024x3072 : Shape := ⟨3, ![1, 1024, 3072]⟩
abbrev S1024x3072 : Shape := ⟨2, ![1024, 3072]⟩
abbrev S4x3x1x1024 : Shape := ⟨4, ![4, 3, 1, 1024]⟩
abbrev S4x1x1024 : Shape := ⟨3, ![4, 1, 1024]⟩
abbrev S1x1024 : Shape := ⟨2, ![1, 1024]⟩
abbrev S256x512 : Shape := ⟨2, ![256, 512]⟩
abbrev S256x1024 : Shape := ⟨2, ![256, 1024]⟩
abbrev S1x1x1x1024 : Shape := ⟨4, ![1, 1, 1, 1024]⟩
abbrev S1x1x1024 : Shape := ⟨3, ![1, 1, 1024]⟩
abbrev S1x128x768 : Shape := ⟨3, ![1, 128, 768]⟩
abbrev S1x32x1024 : Shape := ⟨3, ![1, 32, 1024]⟩
abbrev S8x1024 : Shape := ⟨2, ![8, 1024]⟩
abbrev S256 : Shape := ⟨1, ![256]⟩
abbrev S256x1 : Shape := ⟨2, ![256, 1]⟩
abbrev S1024x512 : Shape := ⟨2, ![1024, 512]⟩
abbrev S1x1024x256 : Shape := ⟨3, ![1, 1024, 256]⟩
abbrev S1024x256 : Shape := ⟨2, ![1024, 256]⟩
abbrev S256x256 : Shape := ⟨2, ![256, 256]⟩
abbrev S1x16x768 : Shape := ⟨3, ![1, 16, 768]⟩
abbrev S16x768 : Shape := ⟨2, ![16, 768]⟩
abbrev S1x8x1024 : Shape := ⟨3, ![1, 8, 1024]⟩
abbrev S32x8x1024 : Shape := ⟨3, ![32, 8, 1024]⟩
abbrev S1024 : Shape := ⟨1, ![1024]⟩

abbrev nBuf : Space → Nat
  | .hbm => 37
  | .vmem => 61
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S4x3072, .f32⟩
  | .hbm, ⟨9, _⟩ => ⟨S4x1024, .f32⟩
  | .hbm, ⟨10, _⟩ => ⟨S4x1024x3072, .f32⟩
  | .hbm, ⟨11, _⟩ => ⟨S4x1024x768, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S1x1024x3072, .f32⟩
  | .hbm, ⟨20, _⟩ => ⟨S1024x3072, .f32⟩
  | .hbm, ⟨21, _⟩ => ⟨S1024x3072, .bf16⟩
  | .hbm, ⟨22, _⟩ => ⟨S4x3x1x1024, .f32⟩
  | .hbm, ⟨23, _⟩ => ⟨S4x1x1024, .f32⟩
  | .hbm, ⟨24, _⟩ => ⟨S2048x1024, .f32⟩
  | .hbm, ⟨25, _⟩ => ⟨S4x1024x768, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4x1024x768, .f32⟩
  | .hbm, ⟨30, _⟩ => ⟨S4x1024x768, .f32⟩
  | .hbm, ⟨31, _⟩ => ⟨S4x1024x768, .f32⟩
  | .hbm, ⟨32, _⟩ => ⟨S4x1024x768, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1024x3072, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1024, .f32⟩
  | .local _ .vmem, ⟨20, _⟩ => ⟨S1x128x768, .f32⟩
  | .local _ .vmem, ⟨21, _⟩ => ⟨S1x128x768, .f32⟩
  | .local _ .vmem, ⟨22, _⟩ => ⟨S1x128x768, .f32⟩
  | .local _ .vmem, ⟨23, _⟩ => ⟨S1x128x768, .f32⟩
  | .local _ .vmem, ⟨24, _⟩ => ⟨S1x128x768, .f32⟩
  | .local _ .vmem, ⟨25, _⟩ => ⟨S1x128x768, .f32⟩
  | .local _ .vmem, ⟨26, _⟩ => ⟨S1x128x768, .f32⟩
  | .local _ .vmem, ⟨27, _⟩ => ⟨S1x128x768, .f32⟩
  | .local _ .vmem, ⟨28, _⟩ => ⟨S1x32x1024, .f32⟩
  | .local _ .vmem, ⟨29, _⟩ => ⟨S1x32x1024, .f32⟩
  | .local _ .vmem, ⟨30, _⟩ => ⟨S1x32x1024, .f32⟩
  | .local _ .vmem, ⟨31, _⟩ => ⟨S1x32x1024, .f32⟩
  | .local _ .vmem, ⟨32, _⟩ => ⟨S1x32x1024, .f32⟩
  | .local _ .vmem, ⟨33, _⟩ => ⟨S1x32x1024, .f32⟩
  | .local _ .vmem, ⟨34, _⟩ => ⟨S1x32x1024, .f32⟩
  | .local _ .vmem, ⟨35, _⟩ => ⟨S1x32x1024, .f32⟩
  | .local _ .vmem, ⟨36, _⟩ => ⟨S256x1024, .f32⟩
  | .local _ .vmem, ⟨37, _⟩ => ⟨S256x1024, .f32⟩
  | .local _ .vmem, ⟨38, _⟩ => ⟨S4x1024x768, .bf16⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x128x768, .f32⟩
  | .local _ .vmem, ⟨43, _⟩ => ⟨S1x128x768, .f32⟩
  | .local _ .vmem, ⟨44, _⟩ => ⟨S1x128x768, .f32⟩
  | .local _ .vmem, ⟨45, _⟩ => ⟨S1x128x768, .f32⟩
  | .local _ .vmem, ⟨46, _⟩ => ⟨S1x128x768, .f32⟩
  | .local _ .vmem, ⟨47, _⟩ => ⟨S1x128x768, .f32⟩
  | .local _ .vmem, ⟨48, _⟩ => ⟨S1x128x768, .f32⟩
  | .local _ .vmem, ⟨49, _⟩ => ⟨S1x128x768, .f32⟩
  | .local _ .vmem, ⟨50, _⟩ => ⟨S1x32x1024, .f32⟩
  | .local _ .vmem, ⟨51, _⟩ => ⟨S1x32x1024, .f32⟩
  | .local _ .vmem, ⟨52, _⟩ => ⟨S1x32x1024, .f32⟩
  | .local _ .vmem, ⟨53, _⟩ => ⟨S1x32x1024, .f32⟩
  | .local _ .vmem, ⟨54, _⟩ => ⟨S1x32x1024, .f32⟩
  | .local _ .vmem, ⟨55, _⟩ => ⟨S1x32x1024, .f32⟩
  | .local _ .vmem, ⟨56, _⟩ => ⟨S1x32x1024, .f32⟩
  | .local _ .vmem, ⟨57, _⟩ => ⟨S1x32x1024, .f32⟩
  | .local _ .vmem, ⟨58, _⟩ => ⟨S4x1024x768, .f32⟩
  | .local _ .vmem, ⟨59, _⟩ => ⟨S8x1024, .f32⟩
  | .local _ .vmem, ⟨60, _⟩ => ⟨S8x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5_0 : Ref sig .tc := ⟨.hbm, 24, rfl⟩
abbrev main_v5_1 : Ref sig .tc := ⟨.hbm, 25, rfl⟩
abbrev main_v5_2 : Ref sig .tc := ⟨.hbm, 26, rfl⟩
abbrev main_v5_3 : Ref sig .tc := ⟨.hbm, 27, rfl⟩
abbrev main_v5_4 : Ref sig .tc := ⟨.hbm, 28, rfl⟩
abbrev main_v5_5 : Ref sig .tc := ⟨.hbm, 29, rfl⟩
abbrev main_v5_6 : Ref sig .tc := ⟨.hbm, 30, rfl⟩
abbrev main_v5_7 : Ref sig .tc := ⟨.hbm, 31, rfl⟩
abbrev main_v5_8 : Ref sig .tc := ⟨.hbm, 32, rfl⟩
abbrev main_v5_9 : Ref sig .tc := ⟨.hbm, 33, rfl⟩
abbrev main_v5_10 : Ref sig .tc := ⟨.hbm, 34, rfl⟩
abbrev main_v5_11 : Ref sig .tc := ⟨.hbm, 35, rfl⟩
abbrev main_v5_12 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg28_1 : Ref sig .tc := ⟨.vmem, 49, rfl⟩
abbrev cc0_stg29_0 : Ref sig .tc := ⟨.vmem, 50, rfl⟩
abbrev cc0_stg29_1 : Ref sig .tc := ⟨.vmem, 51, rfl⟩
abbrev cc0_stg30_0 : Ref sig .tc := ⟨.vmem, 52, rfl⟩
abbrev cc0_stg30_1 : Ref sig .tc := ⟨.vmem, 53, rfl⟩
abbrev cc0_stg31_0 : Ref sig .tc := ⟨.vmem, 54, rfl⟩
abbrev cc0_stg31_1 : Ref sig .tc := ⟨.vmem, 55, rfl⟩
abbrev cc0_stg32_0 : Ref sig .tc := ⟨.vmem, 56, rfl⟩
abbrev cc0_stg32_1 : Ref sig .tc := ⟨.vmem, 57, rfl⟩
abbrev cc0_scratch0 : Ref sig .tc := ⟨.vmem, 58, rfl⟩
abbrev cc0_scratch1 : Ref sig .tc := ⟨.vmem, 59, rfl⟩
abbrev cc0_scratch2 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem22_0 : DmaSem sig := 39
abbrev cc0_sem23_0 : DmaSem sig := 40
abbrev cc0_sem24_0 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem27_1 : DmaSem sig := 47
abbrev cc0_sem28_0 : DmaSem sig := 48
abbrev cc0_sem28_1 : DmaSem sig := 49
abbrev cc0_sem29_0 : DmaSem sig := 50
abbrev cc0_sem29_1 : DmaSem sig := 51
abbrev cc0_sem30_0 : DmaSem sig := 52
abbrev cc0_sem30_1 : DmaSem sig := 53
abbrev cc0_sem31_0 : DmaSem sig := 54
abbrev cc0_sem31_1 : DmaSem sig := 55
abbrev cc0_sem32_0 : DmaSem sig := 56
abbrev cc0_sem32_1 : DmaSem sig := 57

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v712 : BitVec 1 := Scalar.cmpi .eq arg0 c7_i32
  let v713 : BitVec 32 := Scalar.extui v712
  let c0_i32_548 : BitVec 32 := 0#32
  let v714 : BitVec 1 := Scalar.cmpi .ne v713 c0_i32_548
  v714

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_18 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_19 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_26 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_27 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_28 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_29 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_30 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_31 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_32 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x1024x768 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x128x768 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x768 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128x768 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x128x768 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x32x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x32x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x32x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== InFirstRefIdeal.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S4x1024x768 : Shape := ⟨3, ![4, 1024, 768]⟩
abbrev S4x256x1024 : Shape := ⟨3, ![4, 256, 1024]⟩
abbrev S1x3072 : Shape := ⟨2, ![1, 3072]⟩
abbrev S3072 : Shape := ⟨1, ![3072]⟩
abbrev S1024 : Shape := ⟨1, ![1024]⟩
abbrev S2048x3072 : Shape := ⟨2, ![2048, 3072]⟩
abbrev S1x1024 : Shape := ⟨2, ![1, 1024]⟩
abbrev S1x1024x3072 : Shape := ⟨3, ![1, 1024, 3072]⟩
abbrev S1024x3072 : Shape := ⟨2, ![1024, 3072]⟩
abbrev S_ : Shape := ⟨0, ![]⟩
abbrev S2048 : Shape := ⟨1, ![2048]⟩
abbrev S2048x1 : Shape := ⟨2, ![2048, 1]⟩
abbrev S3072x1024 : Shape := ⟨2, ![3072, 1024]⟩
abbrev S1024x4x768 : Shape := ⟨3, ![1024, 4, 768]⟩

abbrev nBuf : Space → Nat
  | .hbm => 174
  | .vmem => 0
  | .smem => 0
  | _ => 0

abbrev hbmTy0_0 (i : Nat) : BufTy := match i % 128 with
  | 0 => ⟨S2048x512, .bf16⟩
  | 1 => ⟨S2048x512, .bf16⟩
  | 2 => ⟨S2048x512, .bf16⟩
  | 3 => ⟨S2048x512, .bf16⟩
  | 4 => ⟨S2048x512, .bf16⟩
  | 5 => ⟨S2048x512, .bf16⟩
  | 6 => ⟨S2048x1024, .f32⟩
  | 7 => ⟨S2048x1024, .f32⟩
  | 8 => ⟨S4x3072, .f32⟩
  | 9 => ⟨S4x1024, .f32⟩
  | 10 => ⟨S4x1024x3072, .f32⟩
  | 11 => ⟨S4x1024x768, .f32⟩
  | 12 => ⟨S4x1024x768, .f32⟩
  | 13 => ⟨S4x1024x768, .f32⟩
  | 14 => ⟨S4x1024x768, .f32⟩
  | 15 => ⟨S4x256x1024, .f32⟩
  | 16 => ⟨S4x256x1024, .f32⟩
  | 17 => ⟨S4x256x1024, .f32⟩
  | 18 => ⟨S4x256x1024, .f32⟩
  | 19 => ⟨S1x3072, .f32⟩
  | 20 => ⟨S3072, .f32⟩
  | 21 => ⟨S1024, .f32⟩
  | 22 => ⟨S1024, .f32⟩
  | 23 => ⟨S1024, .f32⟩
  | 24 => ⟨S2048x3072, .bf16⟩
  | 25 => ⟨S2048x3072, .f32⟩
  | 26 => ⟨S1x1024, .f32⟩
  | 27 => ⟨S1024, .f32⟩
  | 28 => ⟨S1x1024x3072, .f32⟩
  | 29 => ⟨S1024x3072, .f32⟩
  | 30 => ⟨S2048x1024, .f32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S2048x1024, .f32⟩
  | 46 => ⟨S2048x1024, .f32⟩
  | 47 => ⟨S1x1024, .f32⟩
  | 48 => ⟨S2048x1024, .f32⟩
  | 49 => ⟨S2048x1024, .f32⟩
  | 50 => ⟨S_, .f32⟩
  | 51 => ⟨S1024, .f32⟩
  | 52 => ⟨S1024, .f32⟩
  | 53 => ⟨S1x1024, .f32⟩
  | 54 => ⟨S2048x1024, .f32⟩
  | 55 => ⟨S2048x1024, .f32⟩
  | 56 => ⟨S1x1024, .f32⟩
  | 57 => ⟨S2048x1024, .f32⟩
  | 58 => ⟨S2048x1024, .f32⟩
  | 59 => ⟨S2048x3072, .f32⟩
  | 60 => ⟨S3072x1024, .f32⟩
  | 61 => ⟨S1024x3072, .f32⟩
  | 62 => ⟨S2048x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S2048x1024, .f32⟩
  | 69 => ⟨S_, .f32⟩
  | 70 => ⟨S1024, .f32⟩
  | 71 => ⟨S1x1024, .f32⟩
  | 72 => ⟨S2048x1024, .f32⟩
  | 73 => ⟨S2048x1024, .f32⟩
  | 74 => ⟨S_, .f32⟩
  | 75 => ⟨S1024, .f32⟩
  | 76 => ⟨S2048x1024, .f32⟩
  | 77 => ⟨S_, .f32⟩
  | 78 => ⟨S1024, .f32⟩
  | 79 => ⟨S1x1024, .f32⟩
  | 80 => ⟨S2048x1024, .f32⟩
  | 81 => ⟨S2048x1024, .f32⟩
  | 82 => ⟨S_, .f32⟩
  | 83 => ⟨S1024, .f32⟩
  | 84 => ⟨S2048x1024, .f32⟩
  | 85 => ⟨S_, .f32⟩
  | 86 => ⟨S2048, .f32⟩
  | 87 => ⟨S2048x1, .f32⟩
  | 88 => ⟨S2048x1024, .f32⟩
  | 89 => ⟨S2048x1024, .f32⟩
  | 90 => ⟨S2048x1024, .f32⟩
  | 91 => ⟨S2048x1, .f32⟩
  | 92 => ⟨S_, .f32⟩
  | 93 => ⟨S2048x1, .f32⟩
  | 94 => ⟨S2048x1, .f32⟩
  | 95 => ⟨S_, .f32⟩
  | 96 => ⟨S2048, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S1024x4x768, .f32⟩
  | 103 => ⟨S4x1024x768, .f32⟩
  | 104 => ⟨S4x1024x768, .bf16⟩
  | 105 => ⟨S1x1024, .f32⟩
  | 106 => ⟨S1x1024, .f32⟩
  | 107 => ⟨S1x1024, .f32⟩
  | 108 => ⟨S_, .f32⟩
  | 109 => ⟨S4x1024x768, .f32⟩
  | 110 => ⟨S4x1024x768, .f32⟩
  | 111 => ⟨S_, .f32⟩
  | 112 => ⟨S4x1024x768, .f32⟩
  | 113 => ⟨S4x1024x768, .f32⟩
  | 114 => ⟨S4x1024x768, .f32⟩
  | 115 => ⟨S_, .f32⟩
  | 116 => ⟨S4x1024x768, .f32⟩
  | 117 => ⟨S4x1024x768, .f32⟩
  | 118 => ⟨S4x1024x768, .f32⟩
  | 119 => ⟨S_, .f32⟩
  | 120 => ⟨S4x1024x768, .f32⟩
  | 121 => ⟨S4x1024x768, .f32⟩
  | 122 => ⟨S4x1024x768, .f32⟩
  | 123 => ⟨S_, .f32⟩
  | 124 => ⟨S4x1024x768, .f32⟩
  | 125 => ⟨S4x1024x768, .f32⟩
  | 126 => ⟨S_, .f32⟩
  | 127 => ⟨S4x1024x768, .f32⟩
  | _ => ⟨S2048x512, .bf16⟩

abbrev hbmTy0_1 (i : Nat) : BufTy := match i % 128 with
  | 0 => ⟨S4x1024x768, .f32⟩
  | 1 => ⟨S4x1024x768, .f32⟩
  | 2 => ⟨S_, .f32⟩
  | 3 => ⟨S4x1024x768, .f32⟩
  | 4 => ⟨S4x1024x768, .f32⟩
  | 5 => ⟨S4x1024x768, .f32⟩
  | 6 => ⟨S_, .f32⟩
  | 7 => ⟨S4x1024x768, .f32⟩
  | 8 => ⟨S4x1024x768, .f32⟩
  | 9 => ⟨S4x1024x768, .f32⟩
  | 10 => ⟨S_, .f32⟩
  | 11 => ⟨S4x1024x768, .f32⟩
  | 12 => ⟨S4x1024x768, .f32⟩
  | 13 => ⟨S_, .f32⟩
  | 14 => ⟨S4x256x1024, .f32⟩
  | 15 => ⟨S4x256x1024, .f32⟩
  | 16 => ⟨S_, .f32⟩
  | 17 => ⟨S4x256x1024, .f32⟩
  | 18 => ⟨S4x256x1024, .f32⟩
  | 19 => ⟨S4x256x1024, .f32⟩
  | 20 => ⟨S_, .f32⟩
  | 21 => ⟨S4x256x1024, .f32⟩
  | 22 => ⟨S4x256x1024, .f32⟩
  | 23 => ⟨S4x256x1024, .f32⟩
  | 24 => ⟨S_, .f32⟩
  | 25 => ⟨S4x256x1024, .f32⟩
  | 26 => ⟨S4x256x1024, .f32⟩
  | 27 => ⟨S4x256x1024, .f32⟩
  | 28 => ⟨S_, .f32⟩
  | 29 => ⟨S4x256x1024, .f32⟩
  | 30 => ⟨S4x256x1024, .f32⟩
  | 31 => ⟨S_, .f32⟩
  | 32 => ⟨S4x256x1024, .f32⟩
  | 33 => ⟨S4x256x1024, .f32⟩
  | 34 => ⟨S4x256x1024, .f32⟩
  | 35 => ⟨S_, .f32⟩
  | 36 => ⟨S4x256x1024, .f32⟩
  | 37 => ⟨S4x256x1024, .f32⟩
  | 38 => ⟨S4x256x1024, .f32⟩
  | 39 => ⟨S_, .f32⟩
  | 40 => ⟨S4x256x1024, .f32⟩
  | 41 => ⟨S4x256x1024, .f32⟩
  | 42 => ⟨S4x256x1024, .f32⟩
  | 43 => ⟨S_, .f32⟩
  | 44 => ⟨S4x256x1024, .f32⟩
  | 45 => ⟨S4x256x1024, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_cst_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_cst_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_25 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_26 : Ref sig .tc := ⟨.hbm, 156, rfl⟩
abbrev main_v110 : Ref sig .tc := ⟨.hbm, 157, rfl⟩
abbrev main_v111 : Ref sig .tc := ⟨.hbm, 158, rfl⟩
abbrev main_cst_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_28 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_29 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_30 : Ref sig .tc := ⟨.hbm, 171, rfl⟩
abbrev main_v121 : Ref sig .tc := ⟨.hbm, 172, rfl⟩
abbrev main_v122 : Ref sig .tc := ⟨.hbm, 173, rfl⟩

abbrev nD : Nat := 1
abbrev τ : Topo := Topo.v7x

variable {F : FTy → Type} [FloatOps F]
-- ==== InLast.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S4x1024x768 : Shape := ⟨3, ![4, 1024, 768]⟩
abbrev S4x256x1024 : Shape := ⟨3, ![4, 256, 1024]⟩
abbrev S1x1024x3072 : Shape := ⟨3, ![1, 1024, 3072]⟩
abbrev S1024x3072 : Shape := ⟨2, ![1024, 3072]⟩
abbrev S4x3x1x1024 : Shape := ⟨4, ![4, 3, 1, 1024]⟩
abbrev S4x1x1024 : Shape := ⟨3, ![4, 1, 1024]⟩
abbrev S1x1024 : Shape := ⟨2, ![1, 1024]⟩
abbrev S256x512 : Shape := ⟨2, ![256, 512]⟩
abbrev S256x1024 : Shape := ⟨2, ![256, 1024]⟩
abbrev S1x1x1x1024 : Shape := ⟨4, ![1, 1, 1, 1024]⟩
abbrev S1x1x1024 : Shape := ⟨3, ![1, 1, 1024]⟩
abbrev S1x128x768 : Shape := ⟨3, ![1, 128, 768]⟩
abbrev S1x32x1024 : Shape := ⟨3, ![1, 32, 1024]⟩
abbrev S8x1024 : Shape := ⟨2, ![8, 1024]⟩
abbrev S256 : Shape := ⟨1, ![256]⟩
abbrev S256x1 : Shape := ⟨2, ![256, 1]⟩
abbrev S1024x512 : Shape := ⟨2, ![1024, 512]⟩
abbrev S1x1024x256 : Shape := ⟨3, ![1, 1024, 256]⟩
abbrev S1024x256 : Shape := ⟨2, ![1024, 256]⟩
abbrev S256x256 : Shape := ⟨2, ![256, 256]⟩
abbrev S1x16x768 : Shape := ⟨3, ![1, 16, 768]⟩
abbrev S16x768 : Shape := ⟨2, ![16, 768]⟩
abbrev S1x8x1024 : Shape := ⟨3, ![1, 8, 1024]⟩
abbrev S32x8x1024 : Shape := ⟨3, ![32, 8, 1024]⟩
abbrev S1024 : Shape := ⟨1, ![1024]⟩

abbrev nBuf : Space → Nat
  | .hbm => 45
  | .vmem => 61
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S4x3072, .f32⟩
  | .hbm, ⟨9, _⟩ => ⟨S4x1024, .f32⟩
  | .hbm, ⟨10, _⟩ => ⟨S4x1024x3072, .f32⟩
  | .hbm, ⟨11, _⟩ => ⟨S4x1024x768, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S4x1024x768, .f32⟩
  | .hbm, ⟨20, _⟩ => ⟨S4x1024x768, .f32⟩
  | .hbm, ⟨21, _⟩ => ⟨S4x1024x768, .f32⟩
  | .hbm, ⟨22, _⟩ => ⟨S4x1024x768, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S1x1024x3072, .f32⟩
  | .hbm, ⟨28, _⟩ => ⟨S1024x3072, .f32⟩
  | .hbm, ⟨29, _⟩ => ⟨S1024x3072, .bf16⟩
  | .hbm, ⟨30, _⟩ => ⟨S4x3x1x1024, .f32⟩
  | .hbm, ⟨31, _⟩ => ⟨S4x1x1024, .f32⟩
  | .hbm, ⟨32, _⟩ => ⟨S2048x1024, .f32⟩
  | .hbm, ⟨33, _⟩ => ⟨S4x1024x768, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S4x1024x768, .f32⟩
  | .hbm, ⟨38, _⟩ => ⟨S4x1024x768, .f32⟩
  | .hbm, ⟨39, _⟩ => ⟨S4x1024x768, .f32⟩
  | .hbm, ⟨40, _⟩ => ⟨S4x1024x768, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S4x256x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1024x3072, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1024, .f32⟩
  | .local _ .vmem, ⟨20, _⟩ => ⟨S1x128x768, .f32⟩
  | .local _ .vmem, ⟨21, _⟩ => ⟨S1x128x768, .f32⟩
  | .local _ .vmem, ⟨22, _⟩ => ⟨S1x128x768, .f32⟩
  | .local _ .vmem, ⟨23, _⟩ => ⟨S1x128x768, .f32⟩
  | .local _ .vmem, ⟨24, _⟩ => ⟨S1x128x768, .f32⟩
  | .local _ .vmem, ⟨25, _⟩ => ⟨S1x128x768, .f32⟩
  | .local _ .vmem, ⟨26, _⟩ => ⟨S1x128x768, .f32⟩
  | .local _ .vmem, ⟨27, _⟩ => ⟨S1x128x768, .f32⟩
  | .local _ .vmem, ⟨28, _⟩ => ⟨S1x32x1024, .f32⟩
  | .local _ .vmem, ⟨29, _⟩ => ⟨S1x32x1024, .f32⟩
  | .local _ .vmem, ⟨30, _⟩ => ⟨S1x32x1024, .f32⟩
  | .local _ .vmem, ⟨31, _⟩ => ⟨S1x32x1024, .f32⟩
  | .local _ .vmem, ⟨32, _⟩ => ⟨S1x32x1024, .f32⟩
  | .local _ .vmem, ⟨33, _⟩ => ⟨S1x32x1024, .f32⟩
  | .local _ .vmem, ⟨34, _⟩ => ⟨S1x32x1024, .f32⟩
  | .local _ .vmem, ⟨35, _⟩ => ⟨S1x32x1024, .f32⟩
  | .local _ .vmem, ⟨36, _⟩ => ⟨S256x1024, .f32⟩
  | .local _ .vmem, ⟨37, _⟩ => ⟨S256x1024, .f32⟩
  | .local _ .vmem, ⟨38, _⟩ => ⟨S4x1024x768, .bf16⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x128x768, .f32⟩
  | .local _ .vmem, ⟨43, _⟩ => ⟨S1x128x768, .f32⟩
  | .local _ .vmem, ⟨44, _⟩ => ⟨S1x128x768, .f32⟩
  | .local _ .vmem, ⟨45, _⟩ => ⟨S1x128x768, .f32⟩
  | .local _ .vmem, ⟨46, _⟩ => ⟨S1x128x768, .f32⟩
  | .local _ .vmem, ⟨47, _⟩ => ⟨S1x128x768, .f32⟩
  | .local _ .vmem, ⟨48, _⟩ => ⟨S1x128x768, .f32⟩
  | .local _ .vmem, ⟨49, _⟩ => ⟨S1x128x768, .f32⟩
  | .local _ .vmem, ⟨50, _⟩ => ⟨S1x32x1024, .f32⟩
  | .local _ .vmem, ⟨51, _⟩ => ⟨S1x32x1024, .f32⟩
  | .local _ .vmem, ⟨52, _⟩ => ⟨S1x32x1024, .f32⟩
  | .local _ .vmem, ⟨53, _⟩ => ⟨S1x32x1024, .f32⟩
  | .local _ .vmem, ⟨54, _⟩ => ⟨S1x32x1024, .f32⟩
  | .local _ .vmem, ⟨55, _⟩ => ⟨S1x32x1024, .f32⟩
  | .local _ .vmem, ⟨56, _⟩ => ⟨S1x32x1024, .f32⟩
  | .local _ .vmem, ⟨57, _⟩ => ⟨S1x32x1024, .f32⟩
  | .local _ .vmem, ⟨58, _⟩ => ⟨S4x1024x768, .f32⟩
  | .local _ .vmem, ⟨59, _⟩ => ⟨S8x1024, .f32⟩
  | .local _ .vmem, ⟨60, _⟩ => ⟨S8x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5_0 : Ref sig .tc := ⟨.hbm, 32, rfl⟩
abbrev main_v5_1 : Ref sig .tc := ⟨.hbm, 33, rfl⟩
abbrev main_v5_2 : Ref sig .tc := ⟨.hbm, 34, rfl⟩
abbrev main_v5_3 : Ref sig .tc := ⟨.hbm, 35, rfl⟩
abbrev main_v5_4 : Ref sig .tc := ⟨.hbm, 36, rfl⟩
abbrev main_v5_5 : Ref sig .tc := ⟨.hbm, 37, rfl⟩
abbrev main_v5_6 : Ref sig .tc := ⟨.hbm, 38, rfl⟩
abbrev main_v5_7 : Ref sig .tc := ⟨.hbm, 39, rfl⟩
abbrev main_v5_8 : Ref sig .tc := ⟨.hbm, 40, rfl⟩
abbrev main_v5_9 : Ref sig .tc := ⟨.hbm, 41, rfl⟩
abbrev main_v5_10 : Ref sig .tc := ⟨.hbm, 42, rfl⟩
abbrev main_v5_11 : Ref sig .tc := ⟨.hbm, 43, rfl⟩
abbrev main_v5_12 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg28_1 : Ref sig .tc := ⟨.vmem, 49, rfl⟩
abbrev cc0_stg29_0 : Ref sig .tc := ⟨.vmem, 50, rfl⟩
abbrev cc0_stg29_1 : Ref sig .tc := ⟨.vmem, 51, rfl⟩
abbrev cc0_stg30_0 : Ref sig .tc := ⟨.vmem, 52, rfl⟩
abbrev cc0_stg30_1 : Ref sig .tc := ⟨.vmem, 53, rfl⟩
abbrev cc0_stg31_0 : Ref sig .tc := ⟨.vmem, 54, rfl⟩
abbrev cc0_stg31_1 : Ref sig .tc := ⟨.vmem, 55, rfl⟩
abbrev cc0_stg32_0 : Ref sig .tc := ⟨.vmem, 56, rfl⟩
abbrev cc0_stg32_1 : Ref sig .tc := ⟨.vmem, 57, rfl⟩
abbrev cc0_scratch0 : Ref sig .tc := ⟨.vmem, 58, rfl⟩
abbrev cc0_scratch1 : Ref sig .tc := ⟨.vmem, 59, rfl⟩
abbrev cc0_scratch2 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem22_0 : DmaSem sig := 39
abbrev cc0_sem23_0 : DmaSem sig := 40
abbrev cc0_sem24_0 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem27_1 : DmaSem sig := 47
abbrev cc0_sem28_0 : DmaSem sig := 48
abbrev cc0_sem28_1 : DmaSem sig := 49
abbrev cc0_sem29_0 : DmaSem sig := 50
abbrev cc0_sem29_1 : DmaSem sig := 51
abbrev cc0_sem30_0 : DmaSem sig := 52
abbrev cc0_sem30_1 : DmaSem sig := 53
abbrev cc0_sem31_0 : DmaSem sig := 54
abbrev cc0_sem31_1 : DmaSem sig := 55
abbrev cc0_sem32_0 : DmaSem sig := 56
abbrev cc0_sem32_1 : DmaSem sig := 57

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v712 : BitVec 1 := Scalar.cmpi .eq arg0 c7_i32
  let v713 : BitVec 32 := Scalar.extui v712
  let c0_i32_548 : BitVec 32 := 0#32
  let v714 : BitVec 1 := Scalar.cmpi .ne v713 c0_i32_548
  v714

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_13 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_14 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_15 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_16 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_17 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_18 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_19 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_34 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_35 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_36 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_37 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_38 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_39 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_40 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x1024x768 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x128x768 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x768 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128x768 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x128x768 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x32x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x32x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x32x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== InLastRefIdeal.lean ====
abbrev S2048x512 : Shape := ⟨2, ![2048, 512]⟩
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S4x1024x768 : Shape := ⟨3, ![4, 1024, 768]⟩
abbrev S4x256x1024 : Shape := ⟨3, ![4, 256, 1024]⟩
abbrev S1x3072 : Shape := ⟨2, ![1, 3072]⟩
abbrev S3072 : Shape := ⟨1, ![3072]⟩
abbrev S1024 : Shape := ⟨1, ![1024]⟩
abbrev S2048x3072 : Shape := ⟨2, ![2048, 3072]⟩
abbrev S1x1024 : Shape := ⟨2, ![1, 1024]⟩
abbrev S1x1024x3072 : Shape := ⟨3, ![1, 1024, 3072]⟩
abbrev S1024x3072 : Shape := ⟨2, ![1024, 3072]⟩
abbrev S_ : Shape := ⟨0, ![]⟩
abbrev S2048 : Shape := ⟨1, ![2048]⟩
abbrev S2048x1 : Shape := ⟨2, ![2048, 1]⟩
abbrev S3072x1024 : Shape := ⟨2, ![3072, 1024]⟩
abbrev S1024x4x768 : Shape := ⟨3, ![1024, 4, 768]⟩
abbrev S1x1024x768 : Shape := ⟨3, ![1, 1024, 768]⟩
abbrev S1024x768 : Shape := ⟨2, ![1024, 768]⟩
abbrev S1x256x1024 : Shape := ⟨3, ![1, 256, 1024]⟩
abbrev S256x1024 : Shape := ⟨2, ![256, 1024]⟩
abbrev S2x1024x768 : Shape := ⟨3, ![2, 1024, 768]⟩
abbrev S2x256x1024 : Shape := ⟨3, ![2, 256, 1024]⟩

abbrev nBuf : Space → Nat
  | .hbm => 234
  | .vmem => 0
  | .smem => 0
  | _ => 0

abbrev hbmTy0_0 (i : Nat) : BufTy := match i % 128 with
  | 0 => ⟨S2048x512, .bf16⟩
  | 1 => ⟨S2048x512, .bf16⟩
  | 2 => ⟨S2048x512, .bf16⟩
  | 3 => ⟨S2048x512, .bf16⟩
  | 4 => ⟨S2048x512, .bf16⟩
  | 5 => ⟨S2048x512, .bf16⟩
  | 6 => ⟨S2048x1024, .f32⟩
  | 7 => ⟨S2048x1024, .f32⟩
  | 8 => ⟨S4x3072, .f32⟩
  | 9 => ⟨S4x1024, .f32⟩
  | 10 => ⟨S4x1024x3072, .f32⟩
  | 11 => ⟨S4x1024x768, .f32⟩
  | 12 => ⟨S4x1024x768, .f32⟩
  | 13 => ⟨S4x1024x768, .f32⟩
  | 14 => ⟨S4x1024x768, .f32⟩
  | 15 => ⟨S4x256x1024, .f32⟩
  | 16 => ⟨S4x256x1024, .f32⟩
  | 17 => ⟨S4x256x1024, .f32⟩
  | 18 => ⟨S4x256x1024, .f32⟩
  | 19 => ⟨S4x1024x768, .f32⟩
  | 20 => ⟨S4x1024x768, .f32⟩
  | 21 => ⟨S4x1024x768, .f32⟩
  | 22 => ⟨S4x1024x768, .f32⟩
  | 23 => ⟨S4x256x1024, .f32⟩
  | 24 => ⟨S4x256x1024, .f32⟩
  | 25 => ⟨S4x256x1024, .f32⟩
  | 26 => ⟨S4x256x1024, .f32⟩
  | 27 => ⟨S1x3072, .f32⟩
  | 28 => ⟨S3072, .f32⟩
  | 29 => ⟨S1024, .f32⟩
  | 30 => ⟨S1024, .f32⟩
  | 31 => ⟨S1024, .f32⟩
  | 32 => ⟨S2048x3072, .bf16⟩
  | 33 => ⟨S2048x3072, .f32⟩
  | 34 => ⟨S1x1024, .f32⟩
  | 35 => ⟨S1024, .f32⟩
  | 36 => ⟨S1x1024x3072, .f32⟩
  | 37 => ⟨S1024x3072, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048x1, .f32⟩
  | 47 => ⟨S2048x1, .f32⟩
  | 48 => ⟨S2048x1, .f32⟩
  | 49 => ⟨S2048x1, .f32⟩
  | 50 => ⟨S_, .f32⟩
  | 51 => ⟨S2048x1, .f32⟩
  | 52 => ⟨S2048x1, .f32⟩
  | 53 => ⟨S2048x1024, .f32⟩
  | 54 => ⟨S2048x1024, .f32⟩
  | 55 => ⟨S1x1024, .f32⟩
  | 56 => ⟨S2048x1024, .f32⟩
  | 57 => ⟨S2048x1024, .f32⟩
  | 58 => ⟨S_, .f32⟩
  | 59 => ⟨S1024, .f32⟩
  | 60 => ⟨S1024, .f32⟩
  | 61 => ⟨S1x1024, .f32⟩
  | 62 => ⟨S2048x1024, .f32⟩
  | 63 => ⟨S2048x1024, .f32⟩
  | 64 => ⟨S1x1024, .f32⟩
  | 65 => ⟨S2048x1024, .f32⟩
  | 66 => ⟨S2048x1024, .f32⟩
  | 67 => ⟨S2048x3072, .f32⟩
  | 68 => ⟨S3072x1024, .f32⟩
  | 69 => ⟨S1024x3072, .f32⟩
  | 70 => ⟨S2048x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S2048x1024, .f32⟩
  | 77 => ⟨S_, .f32⟩
  | 78 => ⟨S1024, .f32⟩
  | 79 => ⟨S1x1024, .f32⟩
  | 80 => ⟨S2048x1024, .f32⟩
  | 81 => ⟨S2048x1024, .f32⟩
  | 82 => ⟨S_, .f32⟩
  | 83 => ⟨S1024, .f32⟩
  | 84 => ⟨S2048x1024, .f32⟩
  | 85 => ⟨S_, .f32⟩
  | 86 => ⟨S1024, .f32⟩
  | 87 => ⟨S1x1024, .f32⟩
  | 88 => ⟨S2048x1024, .f32⟩
  | 89 => ⟨S2048x1024, .f32⟩
  | 90 => ⟨S_, .f32⟩
  | 91 => ⟨S1024, .f32⟩
  | 92 => ⟨S2048x1024, .f32⟩
  | 93 => ⟨S_, .f32⟩
  | 94 => ⟨S2048, .f32⟩
  | 95 => ⟨S2048x1, .f32⟩
  | 96 => ⟨S2048x1024, .f32⟩
  | 97 => ⟨S2048x1024, .f32⟩
  | 98 => ⟨S2048x1024, .f32⟩
  | 99 => ⟨S2048x1, .f32⟩
  | 100 => ⟨S_, .f32⟩
  | 101 => ⟨S2048x1, .f32⟩
  | 102 => ⟨S2048x1, .f32⟩
  | 103 => ⟨S_, .f32⟩
  | 104 => ⟨S2048, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S1024x4x768, .f32⟩
  | 111 => ⟨S4x1024x768, .f32⟩
  | 112 => ⟨S4x1024x768, .bf16⟩
  | 113 => ⟨S1x1024x768, .f32⟩
  | 114 => ⟨S1024x768, .f32⟩
  | 115 => ⟨S1x1024x768, .f32⟩
  | 116 => ⟨S1024x768, .f32⟩
  | 117 => ⟨S1x1024x768, .f32⟩
  | 118 => ⟨S1024x768, .f32⟩
  | 119 => ⟨S1x1024x768, .f32⟩
  | 120 => ⟨S1024x768, .f32⟩
  | 121 => ⟨S1x1024x768, .f32⟩
  | 122 => ⟨S1024x768, .f32⟩
  | 123 => ⟨S_, .f32⟩
  | 124 => ⟨S1024x768, .f32⟩
  | 125 => ⟨S1024x768, .f32⟩
  | 126 => ⟨S_, .f32⟩
  | 127 => ⟨S1024x768, .f32⟩
  | _ => ⟨S2048x512, .bf16⟩

abbrev hbmTy0_1 (i : Nat) : BufTy := match i % 128 with
  | 0 => ⟨S1024x768, .f32⟩
  | 1 => ⟨S1024x768, .f32⟩
  | 2 => ⟨S_, .f32⟩
  | 3 => ⟨S1024x768, .f32⟩
  | 4 => ⟨S1024x768, .f32⟩
  | 5 => ⟨S1024x768, .f32⟩
  | 6 => ⟨S_, .f32⟩
  | 7 => ⟨S1024x768, .f32⟩
  | 8 => ⟨S1024x768, .f32⟩
  | 9 => ⟨S1024x768, .f32⟩
  | 10 => ⟨S_, .f32⟩
  | 11 => ⟨S1024x768, .f32⟩
  | 12 => ⟨S1024x768, .f32⟩
  | 13 => ⟨S_, .f32⟩
  | 14 => ⟨S1024x768, .f32⟩
  | 15 => ⟨S1024x768, .f32⟩
  | 16 => ⟨S1024x768, .f32⟩
  | 17 => ⟨S_, .f32⟩
  | 18 => ⟨S1024x768, .f32⟩
  | 19 => ⟨S1024x768, .f32⟩
  | 20 => ⟨S1024x768, .f32⟩
  | 21 => ⟨S_, .f32⟩
  | 22 => ⟨S1024x768, .f32⟩
  | 23 => ⟨S1024x768, .f32⟩
  | 24 => ⟨S1024x768, .f32⟩
  | 25 => ⟨S_, .f32⟩
  | 26 => ⟨S1024x768, .f32⟩
  | 27 => ⟨S1024x768, .f32⟩
  | 28 => ⟨S1x256x1024, .f32⟩
  | 29 => ⟨S256x1024, .f32⟩
  | 30 => ⟨S1x256x1024, .f32⟩
  | 31 => ⟨S256x1024, .f32⟩
  | 32 => ⟨S1x256x1024, .f32⟩
  | 33 => ⟨S256x1024, .f32⟩
  | 34 => ⟨S1x256x1024, .f32⟩
  | 35 => ⟨S256x1024, .f32⟩
  | 36 => ⟨S1x256x1024, .f32⟩
  | 37 => ⟨S256x1024, .f32⟩
  | 38 => ⟨S_, .f32⟩
  | 39 => ⟨S256x1024, .f32⟩
  | 40 => ⟨S256x1024, .f32⟩
  | 41 => ⟨S_, .f32⟩
  | 42 => ⟨S256x1024, .f32⟩
  | 43 => ⟨S256x1024, .f32⟩
  | 44 => ⟨S256x1024, .f32⟩
  | 45 => ⟨S_, .f32⟩
  | 46 => ⟨S256x1024, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S256x1024, .f32⟩
  | 53 => ⟨S_, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S1x1024, .f32⟩
  | 72 => ⟨S1x1024, .f32⟩
  | 73 => ⟨S1x1024, .f32⟩
  | 74 => ⟨S2x1024x768, .f32⟩
  | 75 => ⟨S1x1024x768, .f32⟩
  | 76 => ⟨S1x1024x768, .f32⟩
  | 77 => ⟨S4x1024x768, .f32⟩
  | 78 => ⟨S2x1024x768, .f32⟩
  | 79 => ⟨S1x1024x768, .f32⟩
  | 80 => ⟨S1x1024x768, .f32⟩
  | 81 => ⟨S4x1024x768, .f32⟩
  | 82 => ⟨S2x1024x768, .f32⟩
  | 83 => ⟨S1x1024x768, .f32⟩
  | 84 => ⟨S1x1024x768, .f32⟩
  | 85 => ⟨S4x1024x768, .f32⟩
  | 86 => ⟨S2x1024x768, .f32⟩
  | 87 => ⟨S1x1024x768, .f32⟩
  | 88 => ⟨S1x1024x768, .f32⟩
  | 89 => ⟨S4x1024x768, .f32⟩
  | 90 => ⟨S2x256x1024, .f32⟩
  | 91 => ⟨S1x256x1024, .f32⟩
  | 92 => ⟨S1x256x1024, .f32⟩
  | 93 => ⟨S4x256x1024, .f32⟩
  | 94 => ⟨S2x256x1024, .f32⟩
  | 95 => ⟨S1x256x1024, .f32⟩
  | 96 => ⟨S1x256x1024, .f32⟩
  | 97 => ⟨S4x256x1024, .f32⟩
  | 98 => ⟨S2x256x1024, .f32⟩
  | 99 => ⟨S1x256x1024, .f32⟩
  | 100 => ⟨S1x256x1024, .f32⟩
  | 101 => ⟨S4x256x1024, .f32⟩
  | 102 => ⟨S2x256x1024, .f32⟩
  | 103 => ⟨S1x256x1024, .f32⟩
  | 104 => ⟨S1x256x1024, .f32⟩
  | 105 => ⟨S4x256x1024, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_v42 : Ref sig .tc := ⟨.hbm, 76, rfl⟩
abbrev main_cst_6 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_7 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_cst_10 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_11 : Ref sig .tc := ⟨.hbm, 100, rfl⟩
abbrev main_v61 : Ref sig .tc := ⟨.hbm, 101, rfl⟩
abbrev main_v62 : Ref sig .tc := ⟨.hbm, 102, rfl⟩
abbrev main_cst_12 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_v83 : Ref sig .tc := ⟨.hbm, 125, rfl⟩
abbrev main_cst_14 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_16 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_17 : Ref sig .tc := ⟨.hbm, 138, rfl⟩
abbrev main_v93 : Ref sig .tc := ⟨.hbm, 139, rfl⟩
abbrev main_v94 : Ref sig .tc := ⟨.hbm, 140, rfl⟩
abbrev main_cst_18 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_19 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_20 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_21 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_22 : Ref sig .tc := ⟨.hbm, 166, rfl⟩
abbrev main_v116 : Ref sig .tc := ⟨.hbm, 167, rfl⟩
abbrev main_v117 : Ref sig .tc := ⟨.hbm, 168, rfl⟩
abbrev main_cst_23 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_24 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_25 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_26 : Ref sig .tc := ⟨.hbm, 181, rfl⟩
abbrev main_v127 : Ref sig .tc := ⟨.hbm, 182, rfl⟩
abbrev main_v128 : Ref sig .tc := ⟨.hbm, 183, rfl⟩
abbrev main_cst_27 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_28 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_29 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_30 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩

abbrev nD : Nat := 1
abbrev τ : Topo := Topo.v7x

variable {F : FTy → Type} [FloatOps F]
-- ==== Loss.lean ====
abbrev S2048x512 : Shape := ⟨2, ![2048, 512]⟩
abbrev S4x1024x1024 : Shape := ⟨3, ![4, 1024, 1024]⟩
abbrev S2048x1024 : Shape := ⟨2, ![2048, 1024]⟩
abbrev S4x3072 : Shape := ⟨2, ![4, 3072]⟩
abbrev S4x1024 : Shape := ⟨2, ![4, 1024]⟩
abbrev S1x1024x1024 : Shape := ⟨3, ![1, 1024, 1024]⟩
abbrev S1024x1024 : Shape := ⟨2, ![1024, 1024]⟩
abbrev S4x3x1x1024 : Shape := ⟨4, ![4, 3, 1, 1024]⟩
abbrev S4x1x1024 : Shape := ⟨3, ![4, 1, 1024]⟩
abbrev S8x128 : Shape := ⟨2, ![8, 128]⟩
abbrev S512x512 : Shape := ⟨2, ![512, 512]⟩
abbrev S512x1024 : Shape := ⟨2, ![512, 1024]⟩
abbrev S1x1x1x1024 : Shape := ⟨4, ![1, 1, 1, 1024]⟩
abbrev S1x1x1024 : Shape := ⟨3, ![1, 1, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 15
  | .vmem => 17
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S4x1024x1024, .f32⟩
  | .hbm, ⟨3, _⟩ => ⟨S2048x1024, .f32⟩
  | .hbm, ⟨4, _⟩ => ⟨S4x3072, .f32⟩
  | .hbm, ⟨5, _⟩ => ⟨S4x1024, .f32⟩
  | .hbm, ⟨6, _⟩ => ⟨S2048x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S4x3x1x1024, .f32⟩
  | .hbm, ⟨11, _⟩ => ⟨S4x1x1024, .f32⟩
  | .hbm, ⟨12, _⟩ => ⟨S2048x1024, .f32⟩
  | .hbm, ⟨13, _⟩ => ⟨S2048x1024, .bf16⟩
  | .hbm, ⟨14, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | .local _ .vmem, ⟨16, _⟩ => ⟨S8x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_32 : BitVec 32 := 0#32
  let v49 : BitVec 1 := Scalar.cmpi .ne v48 c0_i32_32
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S2048x512 : Shape := ⟨2, ![2048, 512]⟩
abbrev S4x1024x1024 : Shape := ⟨3, ![4, 1024, 1024]⟩
abbrev S2048x1024 : Shape := ⟨2, ![2048, 1024]⟩
abbrev S4x3072 : Shape := ⟨2, ![4, 3072]⟩
abbrev S4x1024 : Shape := ⟨2, ![4, 1024]⟩
abbrev S1x3072 : Shape := ⟨2, ![1, 3072]⟩
abbrev S3072 : Shape := ⟨1, ![3072]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S4x1024x1024, .f32⟩
  | .hbm, ⟨3, _⟩ => ⟨S2048x1024, .f32⟩
  | .hbm, ⟨4, _⟩ => ⟨S4x3072, .f32⟩
  | .hbm, ⟨5, _⟩ => ⟨S4x1024, .f32⟩
  | .hbm, ⟨6, _⟩ => ⟨S2048x1024, .f32⟩
  | .hbm, ⟨7, _⟩ => ⟨S1x3072, .f32⟩
  | .hbm, ⟨8, _⟩ => ⟨S3072, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S2048x512, .f32⟩
  | .hbm, ⟨13, _⟩ => ⟨S2048x512, .f32⟩
  | .hbm, ⟨14, _⟩ => ⟨S1x1024x1024, .f32⟩
  | .hbm, ⟨15, _⟩ => ⟨S1024x1024, .f32⟩
  | .hbm, ⟨16, _⟩ => ⟨S1x1024, .f32⟩
  | .hbm, ⟨17, _⟩ => ⟨S1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .bf16⟩
  | .hbm, ⟨64, _⟩ => ⟨S8x128, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== MixFwd.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S4x3x4x128 : Shape := ⟨4, ![4, 3, 4, 128]⟩
abbrev S4x4x3x128 : Shape := ⟨4, ![4, 4, 3, 128]⟩
abbrev S4x1x512 : Shape := ⟨3, ![4, 1, 512]⟩
abbrev S2048x512 : Shape := ⟨2, ![2048, 512]⟩
abbrev S2048x128 : Shape := ⟨2, ![2048, 128]⟩
abbrev S1x1x3x128 : Shape := ⟨4, ![1, 1, 3, 128]⟩
abbrev S1x1x128x128 : Shape := ⟨4, ![1, 1, 128, 128]⟩
abbrev S1x1x128 : Shape := ⟨3, ![1, 1, 128]⟩
abbrev S1x1x1x128 : Shape := ⟨4, ![1, 1, 1, 128]⟩
abbrev S1x128 : Shape := ⟨2, ![1, 128]⟩
abbrev S16x128 : Shape := ⟨2, ![16, 128]⟩
abbrev S128x128 : Shape := ⟨2, ![128, 128]⟩
abbrev S144x128 : Shape := ⟨2, ![144, 128]⟩

abbrev nBuf : Space → Nat
  | .hbm => 10
  | .vmem => 25
  | .smem => 0
  | _ => 0

abbrev bufTy : (tb : Table) → Fin (tcTables nBuf tb) → BufTy
  | .hbm, ⟨0, _⟩ => ⟨S2048x3072, .bf16⟩
  | .hbm, ⟨1, _⟩ => ⟨S4x3x512, .f32⟩
  | .hbm, ⟨2, _⟩ => ⟨S4x4x128x128, .f32⟩
  | .hbm, ⟨3, _⟩ => ⟨S4x512, .f32⟩
  | .hbm, ⟨4, _⟩ => ⟨S4x3x4x128, .f32⟩
  | .hbm, ⟨5, _⟩ => ⟨S4x4x3x128, .f32⟩
  | .hbm, ⟨6, _⟩ => ⟨S4x1x512, .f32⟩
  | .hbm, ⟨7, _⟩ => ⟨S2048x512, .bf16⟩
  | .hbm, ⟨8, _⟩ => ⟨S2048x512, .bf16⟩
  | .hbm, ⟨9, _⟩ => ⟨S2048x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x1x3x128, .f32⟩
  | .local _ .vmem, ⟨13, _⟩ => ⟨S1x1x3x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x128, .f32⟩
  | .local _ .vmem, ⟨17, _⟩ => ⟨S1x1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_14 : BitVec 32 := 0#32
  let c16_i32 : BitVec 32 := 16#32
  let v21 : BitVec 32 := Scalar.addi c0_i32_14 c16_i32
  let c1_i32 : BitVec 32 := 1#32
  ⟨c0_i32_14, v21, c1_i32⟩
def k0_mult1 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  v22
def k0_mult2 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  let v23 : BitVec 32 := v22
  let c16_i32_16 : BitVec 32 := 16#32
  let v24 : BitVec 32 := Scalar.subi v23 c16_i32_16
  let c0_i32_17 : BitVec 32 := 0#32
  let v25 : BitVec 32 := Scalar.maxsi v24 c0_i32_17
  v25
def k0_off1 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  let v23 : BitVec 32 := v22
  let c16_i32_16 : BitVec 32 := 16#32
  let v24 : BitVec 32 := Scalar.subi v23 c16_i32_16
  let c0_i32_17 : BitVec 32 := 0#32
  let v25 : BitVec 32 := Scalar.maxsi v24 c0_i32_17
  let v26 : BitVec 32 := v25
  let v28 : Index := Scalar.indexCast v26
  let c0_19 : Index := 0#32
  ![v28.toNat, 0]
def k0_off2 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  let v23 : BitVec 32 := v22
  let v33 : Index := Scalar.indexCast v23
  let c0_20 : Index := 0#32
  ![v33.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult3 (k0_t2 : Fin k0_t2_loop.trips) : BitVec 32 :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  v28
def k0_mult4 (k0_t2 : Fin k0_t2_loop.trips) : BitVec 32 :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off3 (k0_t2 : Fin k0_t2_loop.trips) : Fin 2 → Nat :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off4 (k0_t2 : Fin k0_t2_loop.trips) : Fin 2 → Nat :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t3_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult5 (k0_t3 : Fin k0_t3_loop.trips) : BitVec 32 :=
  let c0_i32_17 : BitVec 32 := 0#32
  let c1_i32_19 : BitVec 32 := 1#32
  let arg14 : BitVec 32 := Scf.iv c0_i32_17 c1_i32_19 k0_t3
  let c128_i32 : BitVec 32 := 128#32
  let v28 : BitVec 32 := Scalar.muli arg14 c128_i32
  v28
def k0_off5 (k0_t3 : Fin k0_t3_loop.trips) : Fin 2 → Nat :=
  let c0_i32_17 : BitVec 32 := 0#32
  let c1_i32_19 : BitVec 32 := 1#32
  let arg14 : BitVec 32 := Scf.iv c0_i32_17 c1_i32_19 k0_t3
  let c128_i32 : BitVec 32 := 128#32
  let v28 : BitVec 32 := Scalar.muli arg14 c128_i32
  let v29 : BitVec 32 := v28
  let v30 : Index := Scalar.indexCast v29
  let c0_21 : Index := 0#32
  ![v30.toNat, 0]
def k0_cond3 (i : grid0.Coords) : BitVec 1 :=
  let arg0 : BitVec 32 := BitVec.ofNat 32 (i 0).val
  let c5_i32 : BitVec 32 := 5#32
  let v6 : BitVec 1 := Scalar.cmpi .eq arg0 c5_i32
  let v7 : BitVec 32 := Scalar.extui v6
  let c0_i32_2 : BitVec 32 := 0#32
  let v8 : BitVec 1 := Scalar.cmpi .ne v7 c0_i32_2
  v8

@[reducible] def k0_t4_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult6 (k0_t4 : Fin k0_t4_loop.trips) : BitVec 32 :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  v28
def k0_mult7 (k0_t4 : Fin k0_t4_loop.trips) : BitVec 32 :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off6 (k0_t4 : Fin k0_t4_loop.trips) : Fin 2 → Nat :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off7 (k0_t4 : Fin k0_t4_loop.trips) : Fin 2 → Nat :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t5_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult8 (k0_t5 : Fin k0_t5_loop.trips) : BitVec 32 :=
  let c0_i32_17 : BitVec 32 := 0#32
  let c1_i32_19 : BitVec 32 := 1#32
  let arg14 : BitVec 32 := Scf.iv c0_i32_17 c1_i32_19 k0_t5
  let c128_i32 : BitVec 32 := 128#32
  let v28 : BitVec 32 := Scalar.muli arg14 c128_i32
  v28
def k0_off8 (k0_t5 : Fin k0_t5_loop.trips) : Fin 2 → Nat :=
  let c0_i32_17 : BitVec 32 := 0#32
  let c1_i32_19 : BitVec 32 := 1#32
  let arg14 : BitVec 32 := Scf.iv c0_i32_17 c1_i32_19 k0_t5
  let c128_i32 : BitVec 32 := 128#32
  let v28 : BitVec 32 := Scalar.muli arg14 c128_i32
  let v29 : BitVec 32 := v28
  let v30 : Index := Scalar.indexCast v29
  let c0_21 : Index := 0#32
  ![v30.toNat, 0]
def k0_cond4 (i : grid0.Coords) : BitVec 1 :=
  let arg0 : BitVec 32 := BitVec.ofNat 32 (i 0).val
  let c6_i32 : BitVec 32 := 6#32
  let v9 : BitVec 1 := Scalar.cmpi .eq arg0 c6_i32
  let v10 : BitVec 32 := Scalar.extui v9
  let c0_i32_3 : BitVec 32 := 0#32
  let v11 : BitVec 1 := Scalar.cmpi .ne v10 c0_i32_3
  v11

@[reducible] def k0_t6_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult9 (k0_t6 : Fin k0_t6_loop.trips) : BitVec 32 :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  v28
def k0_mult10 (k0_t6 : Fin k0_t6_loop.trips) : BitVec 32 :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off9 (k0_t6 : Fin k0_t6_loop.trips) : Fin 2 → Nat :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off10 (k0_t6 : Fin k0_t6_loop.trips) : Fin 2 → Nat :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t7_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult11 (k0_t7 : Fin k0_t7_loop.trips) : BitVec 32 :=
  let c0_i32_17 : BitVec 32 := 0#32
  let c1_i32_19 : BitVec 32 := 1#32
  let arg14 : BitVec 32 := Scf.iv c0_i32_17 c1_i32_19 k0_t7
  let c128_i32 : BitVec 32 := 128#32
  let v28 : BitVec 32 := Scalar.muli arg14 c128_i32
  v28
def k0_off11 (k0_t7 : Fin k0_t7_loop.trips) : Fin 2 → Nat :=
  let c0_i32_17 : BitVec 32 := 0#32
  let c1_i32_19 : BitVec 32 := 1#32
  let arg14 : BitVec 32 := Scf.iv c0_i32_17 c1_i32_19 k0_t7
  let c128_i32 : BitVec 32 := 128#32
  let v28 : BitVec 32 := Scalar.muli arg14 c128_i32
  let v29 : BitVec 32 := v28
  let v30 : Index := Scalar.indexCast v29
  let c0_21 : Index := 0#32
  ![v30.toNat, 0]
def k0_cond5 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_4 : BitVec 32 := 0#32
  let v14 : BitVec 1 := Scalar.cmpi .ne v13 c0_i32_4
  v14

@[reducible] def k0_t8_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult12 (k0_t8 : Fin k0_t8_loop.trips) : BitVec 32 :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  v28
def k0_mult13 (k0_t8 : Fin k0_t8_loop.trips) : BitVec 32 :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off12 (k0_t8 : Fin k0_t8_loop.trips) : Fin 2 → Nat :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off13 (k0_t8 : Fin k0_t8_loop.trips) : Fin 2 → Nat :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t9_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult14 (k0_t9 : Fin k0_t9_loop.trips) : BitVec 32 :=
  let c0_i32_17 : BitVec 32 := 0#32
  let c1_i32_19 : BitVec 32 := 1#32
  let arg14 : BitVec 32 := Scf.iv c0_i32_17 c1_i32_19 k0_t9
  let c128_i32 : BitVec 32 := 128#32
  let v28 : BitVec 32 := Scalar.muli arg14 c128_i32
  v28
def k0_off14 (k0_t9 : Fin k0_t9_loop.trips) : Fin 2 → Nat :=
  let c0_i32_17 : BitVec 32 := 0#32
  let c1_i32_19 : BitVec 32 := 1#32
  let arg14 : BitVec 32 := Scf.iv c0_i32_17 c1_i32_19 k0_t9
  let c128_i32 : BitVec 32 := 128#32
  let v28 : BitVec 32 := Scalar.muli arg14 c128_i32
  let v29 : BitVec 32 := v28
  let v30 : Index := Scalar.indexCast v29
  let c0_21 : Index := 0#32
  ![v30.toNat, 0]
def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.addi v0 c4_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c8_i32 : BitVec 32 := 8#32
  let v1 : BitVec 32 := Scalar.addi v0 c8_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c12_i32 : BitVec 32 := 12#32
  let v1 : BitVec 32 := Scalar.addi v0 c12_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c16_i32 : BitVec 32 := 16#32
  let v2 : BitVec 32 := Scalar.addi v1 c16_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c20_i32 : BitVec 32 := 20#32
  let v2 : BitVec 32 := Scalar.addi v1 c20_i32
  let c0_i32_0 : BitVec 32 := 0#32
  let c0_i32_1 : BitVec 32 := 0#32
  ![c0_i32_0.toNat, v2.toNat]

def cc0_transform_6 (i : grid0.Coords) : Fin 4 → Nat :=
  let arg0 : BitVec 32 := BitVec.ofNat 32 (i 0).val
  let c3_i32 : BitVec 32 := 3#32
  let v0 : BitVec 32 := Scalar.minsi arg0 c3_i32
  let c2_i32 : BitVec 32 := 2#32
  let c0_i32 : BitVec 32 := 0#32
  let c0_i32_0 : BitVec 32 := 0#32
  let c0_i32_1 : BitVec 32 := 0#32
  ![v0.toNat, c2_i32.toNat, c0_i32.toNat, c0_i32_0.toNat]

def cc0_transform_7 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  let c0_i32_2 : BitVec 32 := 0#32
  ![c2_i32.toNat, v1.toNat, c0_i32_0.toNat, c0_i32_1.toNat]

def cc0_transform_8 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, c0_i32_0.toNat, v1.toNat]

def cc0_transform_9 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixFwdRefIdeal.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S2048x512 : Shape := ⟨2, ![2048, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S2046x512 : Shape := ⟨2, ![2046, 512]⟩
abbrev S2047x512 : Shape := ⟨2, ![2047, 512]⟩
abbrev S1x4x128x128 : Shape := ⟨4, ![1, 4, 128, 128]⟩
abbrev S4x128x128 : Shape := ⟨3, ![4, 128, 128]⟩
abbrev S2048 : Shape := ⟨1, ![2048]⟩
abbrev S2048x1 : Shape := ⟨2, ![2048, 1]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩

abbrev nBuf : Space → Nat
  | .hbm => 221
  | .vmem => 0
  | .smem => 0
  | _ => 0

abbrev hbmTy0_0 (i : Nat) : BufTy := match i % 128 with
  | 0 => ⟨S2048x3072, .bf16⟩
  | 1 => ⟨S4x3x512, .f32⟩
  | 2 => ⟨S4x4x128x128, .f32⟩
  | 3 => ⟨S4x512, .f32⟩
  | 4 => ⟨S2048x512, .bf16⟩
  | 5 => ⟨S2048x512, .f32⟩
  | 6 => ⟨S2048x512, .bf16⟩
  | 7 => ⟨S2048x512, .f32⟩
  | 8 => ⟨S2048x512, .bf16⟩
  | 9 => ⟨S2048x512, .f32⟩
  | 10 => ⟨S2048x512, .bf16⟩
  | 11 => ⟨S2048x512, .f32⟩
  | 12 => ⟨S2048x512, .bf16⟩
  | 13 => ⟨S2048x512, .f32⟩
  | 14 => ⟨S2048x512, .bf16⟩
  | 15 => ⟨S2048x512, .f32⟩
  | 16 => ⟨S2048x512, .f32⟩
  | 17 => ⟨S1x3x512, .f32⟩
  | 18 => ⟨S3x512, .f32⟩
  | 19 => ⟨S1x512, .f32⟩
  | 20 => ⟨S512, .f32⟩
  | 21 => ⟨S_, .f32⟩
  | 22 => ⟨S2x512, .f32⟩
  | 23 => ⟨S2046x512, .f32⟩
  | 24 => ⟨S2048x512, .f32⟩
  | 25 => ⟨S1x512, .f32⟩
  | 26 => ⟨S2048x512, .f32⟩
  | 27 => ⟨S2048x512, .f32⟩
  | 28 => ⟨S1x512, .f32⟩
  | 29 => ⟨S512, .f32⟩
  | 30 => ⟨S_, .f32⟩
  | 31 => ⟨S1x512, .f32⟩
  | 32 => ⟨S2047x512, .f32⟩
  | 33 => ⟨S2048x512, .f32⟩
  | 34 => ⟨S1x512, .f32⟩
  | 35 => ⟨S2048x512, .f32⟩
  | 36 => ⟨S2048x512, .f32⟩
  | 37 => ⟨S2048x512, .f32⟩
  | 38 => ⟨S1x512, .f32⟩
  | 39 => ⟨S512, .f32⟩
  | 40 => ⟨S1x512, .f32⟩
  | 41 => ⟨S2048x512, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S_, .f32⟩
  | 48 => ⟨S2048x512, .f32⟩
  | 49 => ⟨S2048x512, .f32⟩
  | 50 => ⟨S_, .f32⟩
  | 51 => ⟨S2048x512, .f32⟩
  | 52 => ⟨S2048x512, .f32⟩
  | 53 => ⟨S2048x512, .f32⟩
  | 54 => ⟨S2048x512, .f32⟩
  | 55 => ⟨S1x4x128x128, .f32⟩
  | 56 => ⟨S4x128x128, .f32⟩
  | 57 => ⟨S1x512, .f32⟩
  | 58 => ⟨S512, .f32⟩
  | 59 => ⟨S2048, .i32⟩
  | 60 => ⟨S_, .i32⟩
  | 61 => ⟨S2048, .i32⟩
  | 62 => ⟨S2048, .i32⟩
  | 63 => ⟨S2048, .f32⟩
  | 64 => ⟨S2048x1, .f32⟩
  | 65 => ⟨S2048x128, .f32⟩
  | 66 => ⟨S_, .f32⟩
  | 67 => ⟨S_, .f32⟩
  | 68 => ⟨S2048x128, .f32⟩
  | 69 => ⟨S_, .f32⟩
  | 70 => ⟨S2x128, .f32⟩
  | 71 => ⟨S2046x128, .f32⟩
  | 72 => ⟨S2048x128, .f32⟩
  | 73 => ⟨S2048x128, .f32⟩
  | 74 => ⟨S_, .f32⟩
  | 75 => ⟨S2048x1, .f32⟩
  | 76 => ⟨S2048x1, .f32⟩
  | 77 => ⟨S2048x128, .f32⟩
  | 78 => ⟨S2048x128, .f32⟩
  | 79 => ⟨S2048x128, .f32⟩
  | 80 => ⟨S2048x128, .f32⟩
  | 81 => ⟨S_, .f32⟩
  | 82 => ⟨S_, .f32⟩
  | 83 => ⟨S2048x128, .f32⟩
  | 84 => ⟨S_, .f32⟩
  | 85 => ⟨S4x128, .f32⟩
  | 86 => ⟨S2044x128, .f32⟩
  | 87 => ⟨S2048x128, .f32⟩
  | 88 => ⟨S2048x128, .f32⟩
  | 89 => ⟨S_, .f32⟩
  | 90 => ⟨S2048x1, .f32⟩
  | 91 => ⟨S2048x1, .f32⟩
  | 92 => ⟨S2048x128, .f32⟩
  | 93 => ⟨S2048x128, .f32⟩
  | 94 => ⟨S2048x128, .f32⟩
  | 95 => ⟨S2048x128, .f32⟩
  | 96 => ⟨S_, .f32⟩
  | 97 => ⟨S_, .f32⟩
  | 98 => ⟨S2048x128, .f32⟩
  | 99 => ⟨S_, .f32⟩
  | 100 => ⟨S8x128, .f32⟩
  | 101 => ⟨S2040x128, .f32⟩
  | 102 => ⟨S2048x128, .f32⟩
  | 103 => ⟨S2048x128, .f32⟩
  | 104 => ⟨S_, .f32⟩
  | 105 => ⟨S2048x1, .f32⟩
  | 106 => ⟨S2048x1, .f32⟩
  | 107 => ⟨S2048x128, .f32⟩
  | 108 => ⟨S2048x128, .f32⟩
  | 109 => ⟨S2048x128, .f32⟩
  | 110 => ⟨S2048x128, .f32⟩
  | 111 => ⟨S_, .f32⟩
  | 112 => ⟨S_, .f32⟩
  | 113 => ⟨S2048x128, .f32⟩
  | 114 => ⟨S_, .f32⟩
  | 115 => ⟨S16x128, .f32⟩
  | 116 => ⟨S2032x128, .f32⟩
  | 117 => ⟨S2048x128, .f32⟩
  | 118 => ⟨S2048x128, .f32⟩
  | 119 => ⟨S_, .f32⟩
  | 120 => ⟨S2048x1, .f32⟩
  | 121 => ⟨S2048x1, .f32⟩
  | 122 => ⟨S2048x128, .f32⟩
  | 123 => ⟨S2048x128, .f32⟩
  | 124 => ⟨S2048x128, .f32⟩
  | 125 => ⟨S2048x1x128, .f32⟩
  | 126 => ⟨S2048x1x128, .f32⟩
  | 127 => ⟨S2048x1x128, .f32⟩
  | _ => ⟨S2048x3072, .bf16⟩

abbrev hbmTy0_1 (i : Nat) : BufTy := match i % 128 with
  | 0 => ⟨S2048x1x128, .f32⟩
  | 1 => ⟨S2048x4x128, .f32⟩
  | 2 => ⟨S4x128x2048, .f32⟩
  | 3 => ⟨S2048x4x128, .f32⟩
  | 4 => ⟨S2048x512, .f32⟩
  | 5 => ⟨S1x512, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S2048x512, .f32⟩
  | 17 => ⟨S2048x512, .f32⟩
  | 18 => ⟨S2048x512, .bf16⟩
  | 19 => ⟨S2048x512, .bf16⟩
  | 20 => ⟨S2048, .i32⟩
  | 21 => ⟨S_, .i32⟩
  | 22 => ⟨S2048, .i32⟩
  | 23 => ⟨S2048, .i32⟩
  | 24 => ⟨S2048, .f32⟩
  | 25 => ⟨S2048x1, .f32⟩
  | 26 => ⟨S2048x128, .f32⟩
  | 27 => ⟨S_, .f32⟩
  | 28 => ⟨S_, .f32⟩
  | 29 => ⟨S2048x128, .f32⟩
  | 30 => ⟨S_, .f32⟩
  | 31 => ⟨S2x128, .f32⟩
  | 32 => ⟨S2046x128, .f32⟩
  | 33 => ⟨S2048x128, .f32⟩
  | 34 => ⟨S2048x128, .f32⟩
  | 35 => ⟨S_, .f32⟩
  | 36 => ⟨S2048x1, .f32⟩
  | 37 => ⟨S2048x1, .f32⟩
  | 38 => ⟨S2048x128, .f32⟩
  | 39 => ⟨S2048x128, .f32⟩
  | 40 => ⟨S2048x128, .f32⟩
  | 41 => ⟨S2048x128, .f32⟩
  | 42 => ⟨S_, .f32⟩
  | 43 => ⟨S_, .f32⟩
  | 44 => ⟨S2048x128, .f32⟩
  | 45 => ⟨S_, .f32⟩
  | 46 => ⟨S4x128, .f32⟩
  | 47 => ⟨S2044x128, .f32⟩
  | 48 => ⟨S2048x128, .f32⟩
  | 49 => ⟨S2048x128, .f32⟩
  | 50 => ⟨S_, .f32⟩
  | 51 => ⟨S2048x1, .f32⟩
  | 52 => ⟨S2048x1, .f32⟩
  | 53 => ⟨S2048x128, .f32⟩
  | 54 => ⟨S2048x128, .f32⟩
  | 55 => ⟨S2048x128, .f32⟩
  | 56 => ⟨S2048x128, .f32⟩
  | 57 => ⟨S_, .f32⟩
  | 58 => ⟨S_, .f32⟩
  | 59 => ⟨S2048x128, .f32⟩
  | 60 => ⟨S_, .f32⟩
  | 61 => ⟨S8x128, .f32⟩
  | 62 => ⟨S2040x128, .f32⟩
  | 63 => ⟨S2048x128, .f32⟩
  | 64 => ⟨S2048x128, .f32⟩
  | 65 => ⟨S_, .f32⟩
  | 66 => ⟨S2048x1, .f32⟩
  | 67 => ⟨S2048x1, .f32⟩
  | 68 => ⟨S2048x128, .f32⟩
  | 69 => ⟨S2048x128, .f32⟩
  | 70 => ⟨S2048x128, .f32⟩
  | 71 => ⟨S2048x128, .f32⟩
  | 72 => ⟨S_, .f32⟩
  | 73 => ⟨S_, .f32⟩
  | 74 => ⟨S2048x128, .f32⟩
  | 75 => ⟨S_, .f32⟩
  | 76 => ⟨S16x128, .f32⟩
  | 77 => ⟨S2032x128, .f32⟩
  | 78 => ⟨S2048x128, .f32⟩
  | 79 => ⟨S2048x128, .f32⟩
  | 80 => ⟨S_, .f32⟩
  | 81 => ⟨S2048x1, .f32⟩
  | 82 => ⟨S2048x1, .f32⟩
  | 83 => ⟨S2048x128, .f32⟩
  | 84 => ⟨S2048x128, .f32⟩
  | 85 => ⟨S2048x128, .f32⟩
  | 86 => ⟨S2048x1x128, .f32⟩
  | 87 => ⟨S2048x1x128, .f32⟩
  | 88 => ⟨S2048x1x128, .f32⟩
  | 89 => ⟨S2048x1x128, .f32⟩
  | 90 => ⟨S2048x4x128, .f32⟩
  | 91 => ⟨S2048x512, .f32⟩
  | 92 => ⟨S2048x512, .bf16⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_call0_cst : Ref sig .tc := ⟨.hbm, 66, rfl⟩
abbrev main_call1_call0_v0 : Ref sig .tc := ⟨.hbm, 67, rfl⟩
abbrev main_v51 : Ref sig .tc := ⟨.hbm, 68, rfl⟩
abbrev main_cst_1 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_2 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call2_call0_cst : Ref sig .tc := ⟨.hbm, 81, rfl⟩
abbrev main_call2_call0_v0 : Ref sig .tc := ⟨.hbm, 82, rfl⟩
abbrev main_v62 : Ref sig .tc := ⟨.hbm, 83, rfl⟩
abbrev main_cst_3 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call3_call0_cst : Ref sig .tc := ⟨.hbm, 96, rfl⟩
abbrev main_call3_call0_v0 : Ref sig .tc := ⟨.hbm, 97, rfl⟩
abbrev main_v73 : Ref sig .tc := ⟨.hbm, 98, rfl⟩
abbrev main_cst_5 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_6 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call4_call0_cst : Ref sig .tc := ⟨.hbm, 111, rfl⟩
abbrev main_call4_call0_v0 : Ref sig .tc := ⟨.hbm, 112, rfl⟩
abbrev main_v84 : Ref sig .tc := ⟨.hbm, 113, rfl⟩
abbrev main_cst_7 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_8 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_9 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call6_call0_cst : Ref sig .tc := ⟨.hbm, 155, rfl⟩
abbrev main_call6_call0_v0 : Ref sig .tc := ⟨.hbm, 156, rfl⟩
abbrev main_v115 : Ref sig .tc := ⟨.hbm, 157, rfl⟩
abbrev main_cst_10 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_11 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_call7_call0_cst : Ref sig .tc := ⟨.hbm, 170, rfl⟩
abbrev main_call7_call0_v0 : Ref sig .tc := ⟨.hbm, 171, rfl⟩
abbrev main_v126 : Ref sig .tc := ⟨.hbm, 172, rfl⟩
abbrev main_cst_12 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_13 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_call8_call0_cst : Ref sig .tc := ⟨.hbm, 185, rfl⟩
abbrev main_call8_call0_v0 : Ref sig .tc := ⟨.hbm, 186, rfl⟩
abbrev main_v137 : Ref sig .tc := ⟨.hbm, 187, rfl⟩
abbrev main_cst_14 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_15 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_call9_call0_cst : Ref sig .tc := ⟨.hbm, 200, rfl⟩
abbrev main_call9_call0_v0 : Ref sig .tc := ⟨.hbm, 201, rfl⟩
abbrev main_v148 : Ref sig .tc := ⟨.hbm, 202, rfl⟩
abbrev main_cst_16 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_17 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩

abbrev nD : Nat := 1
abbrev τ : Topo := Topo.v7x

variable {F : FTy → Type} [FloatOps F]
-- ==== Proj.lean ====
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S4x3x1x1024 : Shape := ⟨4, ![4, 3, 1, 1024]⟩
abbrev S4x1x1024 : Shape := ⟨3, ![4, 1, 1024]⟩
abbrev S1x1024x3072 : Shape := ⟨3, ![1, 1024, 3072]⟩
abbrev S1024x3072 : Shape := ⟨2, ![1024, 3072]⟩
abbrev S2048x3072 : Shape := ⟨2, ![2048, 3072]⟩
abbrev S512x1024 : Shape := ⟨2, ![512, 1024]⟩
abbrev S1x1x1x1024 : Shape := ⟨4, ![1, 1, 1, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩
abbrev S1x1024 : Shape := ⟨2, ![1, 1024]⟩
abbrev S1024x768 : Shape := ⟨2, ![1024, 768]⟩
abbrev S512x768 : Shape := ⟨2, ![512, 768]⟩

abbrev nBuf : Space → Nat
  | .hbm => 10
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4x3072, .f32⟩
  | .hbm, ⟨2, _⟩ => ⟨S4x1024, .f32⟩
  | .hbm, ⟨3, _⟩ => ⟨S4x1024x3072, .f32⟩
  | .hbm, ⟨4, _⟩ => ⟨S4x3x1x1024, .f32⟩
  | .hbm, ⟨5, _⟩ => ⟨S4x1x1024, .f32⟩
  | .hbm, ⟨6, _⟩ => ⟨S1x1024x3072, .f32⟩
  | .hbm, ⟨7, _⟩ => ⟨S1024x3072, .f32⟩
  | .hbm, ⟨8, _⟩ => ⟨S1024x3072, .bf16⟩
  | .hbm, ⟨9, _⟩ => ⟨S2048x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_2 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S2048x1024 : Shape := ⟨2, ![2048, 1024]⟩
abbrev S4x3072 : Shape := ⟨2, ![4, 3072]⟩
abbrev S4x1024 : Shape := ⟨2, ![4, 1024]⟩
abbrev S4x1024x3072 : Shape := ⟨3, ![4, 1024, 3072]⟩
abbrev S1x3072 : Shape := ⟨2, ![1, 3072]⟩
abbrev S3072 : Shape := ⟨1, ![3072]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x1024x3072 : Shape := ⟨3, ![1, 1024, 3072]⟩
abbrev S1024x3072 : Shape := ⟨2, ![1024, 3072]⟩
abbrev S2048x3072 : Shape := ⟨2, ![2048, 3072]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x3072, .f32⟩
  | .hbm, ⟨2, _⟩ => ⟨S4x1024, .f32⟩
  | .hbm, ⟨3, _⟩ => ⟨S4x1024x3072, .f32⟩
  | .hbm, ⟨4, _⟩ => ⟨S1x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024x3072, .f32⟩
  | .hbm, ⟨37, _⟩ => ⟨S1024x3072, .f32⟩
  | .hbm, ⟨38, _⟩ => ⟨S2048x3072, .f32⟩
  | .hbm, ⟨39, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== OutFwd.lean ====
abbrev S2048x512 : Shape := ⟨2, ![2048, 512]⟩
abbrev S4x1024x1024 : Shape := ⟨3, ![4, 1024, 1024]⟩
abbrev S2048x1024 : Shape := ⟨2, ![2048, 1024]⟩
abbrev S4x3072 : Shape := ⟨2, ![4, 3072]⟩
abbrev S4x1024 : Shape := ⟨2, ![4, 1024]⟩
abbrev S1x1024x1024 : Shape := ⟨3, ![1, 1024, 1024]⟩
abbrev S1024x1024 : Shape := ⟨2, ![1024, 1024]⟩
abbrev S4x3x1x1024 : Shape := ⟨4, ![4, 3, 1, 1024]⟩
abbrev S4x1x1024 : Shape := ⟨3, ![4, 1, 1024]⟩
abbrev S_ : Shape := ⟨0, ![]⟩
abbrev S8x128 : Shape := ⟨2, ![8, 128]⟩
abbrev S512x512 : Shape := ⟨2, ![512, 512]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S4x1024x1024, .f32⟩
  | .hbm, ⟨3, _⟩ => ⟨S2048x1024, .f32⟩
  | .hbm, ⟨4, _⟩ => ⟨S4x3072, .f32⟩
  | .hbm, ⟨5, _⟩ => ⟨S4x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S4x3x1x1024, .f32⟩
  | .hbm, ⟨10, _⟩ => ⟨S4x1x1024, .f32⟩
  | .hbm, ⟨11, _⟩ => ⟨S_, .f32⟩
  | .hbm, ⟨12, _⟩ => ⟨S8x128, .f32⟩
  | .hbm, ⟨13, _⟩ => ⟨S2048x1024, .f32⟩
  | .hbm, ⟨14, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S2048x512 : Shape := ⟨2, ![2048, 512]⟩
abbrev S4x1024x1024 : Shape := ⟨3, ![4, 1024, 1024]⟩
abbrev S2048x1024 : Shape := ⟨2, ![2048, 1024]⟩
abbrev S4x3072 : Shape := ⟨2, ![4, 3072]⟩
abbrev S4x1024 : Shape := ⟨2, ![4, 1024]⟩
abbrev S1x3072 : Shape := ⟨2, ![1, 3072]⟩
abbrev S3072 : Shape := ⟨1, ![3072]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S4x1024x1024, .f32⟩
  | .hbm, ⟨3, _⟩ => ⟨S2048x1024, .f32⟩
  | .hbm, ⟨4, _⟩ => ⟨S4x3072, .f32⟩
  | .hbm, ⟨5, _⟩ => ⟨S4x1024, .f32⟩
  | .hbm, ⟨6, _⟩ => ⟨S1x3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048x1024, .bf16⟩
  | .hbm, ⟨12, _⟩ => ⟨S2048x1024, .f32⟩
  | .hbm, ⟨13, _⟩ => ⟨S1x1024x1024, .f32⟩
  | .hbm, ⟨14, _⟩ => ⟨S1024x1024, .f32⟩
  | .hbm, ⟨15, _⟩ => ⟨S2048x1024, .f32⟩
  | .hbm, ⟨16, _⟩ => ⟨S1x1024, .f32⟩
  | .hbm, ⟨17, _⟩ => ⟨S1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Ada.Value.lean ====
/- What the adaLN-weight kernel leaves in its four result arrays: the gradient of the weight, the AdamW
   step, and the two moments, each equal to the plain program's array. -/
module

public import proofs.«01_k».proof.Proof.Gen.AdaIdeal.Value
public import proofs.«01_k».proof.Proof.Gen.AdaRefIdeal.Read
public import Idealize.ShloMosaic.Lib.Pipeline.ValueKit

@[expose] public section

set_option maxRecDepth 16384

noncomputable section

namespace Cert.Proof.Ada

open Cert.AdaIdeal Cert.AdaIdeal.Gen Idealize.ShloMosaic Idealize.ShloMosaic.TcCoe Idealize.SL.Sem
open Cert.AdaRefIdeal.Read

variable (m : (ℓ : Loc nD τ sig) → Buf (Elt Ideal) ℓ)

/-- Every window's block index at every point: `l = t / 2` is the layer, `t % 2` the half of the rows. -/
theorem idx : ∀ t : Fin cfg0.N, win0_0.index t = ![0, t.val % 2] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

/-- One over one plus `e⁻ˣ`, as the plain program spells it, is the logistic function. -/
theorem logistic_spelt (x : EReal) : Ideal.div 1 (1 + Ideal.exp (-x)) = Ideal.logistic x := rfl

/-- The gradient block: rows of `silu c` against columns of `dmod`, the eight padding rows contributing nothing. -/
theorem grad_block (x0 : Vec Ideal S8x512 .f32) (x1 : Vec Ideal S1x8x768 .f32) (r : Fin 512) (l : Fin 768) :
    k0_pay4 x0 x1 (ix2 r l) = ∑ b : Fin 8, x1 (ix3 0 b l) * (x0 (ix2 b r) * Ideal.logistic (x0 (ix2 b r))) := by
  pointwise [k0_pay4]
  rw [mul_zero, Finset.sum_const_zero, add_zero]
  exact Finset.sum_congr rfl fun b _ => mul_comm _ _

/-- The plain program's gradient at an index. -/
theorem grad_ref (c : (⟨S8x1024, .f32⟩ : BufTy).Contents (Elt Ideal)) (d : (⟨S4x8x768, .f32⟩ : BufTy).Contents (Elt Ideal))
    (a : Fin 4) (r : Fin 1024) (l : Fin 768) :
    val_main_v5 c d (ix3 a r l) = ∑ b : Fin 8, d (ix3 a b l) * (c (ix2 b r) * Ideal.logistic (c (ix2 b r))) := by
  pointwise [val_main_v5, val_main_v4, val_main_v3, val_main_v0, val_main_call0_v5, val_main_call0_v4,
    val_main_call0_v3, val_main_call0_v2, val_main_call0_v1, val_main_call0_v0, val_main_call0_cst, val_main_call0_cst_0]
  rfl

/-- The gradient a point computes is the plain program's at the block's place. -/
theorem grad_point (c : Dev nD) (t : Fin cfg0.N) (r : Fin 512) (l : Fin 768) (i : S4x1024x768.Idx)
    (h0 : (i 0).val = t.val / 2) (h1 : (i 1).val = t.val % 2 * 512 + r.val) (h2 : (i 2).val = l.val) :
    k0_pay4 (iblk m c 0 t) (iblk m c 1 t) (ix2 r l)
      = val_main_v5 (F := Ideal) (m ((c : Thread nD τ).loc main_arg0)) (m ((c : Thread nD τ).loc main_arg1)) i := by
  idx_vars i
  rw [grad_block]
  refine Eq.trans ?_ (grad_ref _ _ _ _ _).symm
  blk_point [iblk, V, idx t]

/-- The arguments' names, shortened: the conditioning rows, the modulation's gradient, the weight and its two moments. -/
abbrev aC (c : Dev nD) := m ((c : Thread nD τ).loc main_arg0)
abbrev aD (c : Dev nD) := m ((c : Thread nD τ).loc main_arg1)
abbrev aW (c : Dev nD) := m ((c : Thread nD τ).loc main_arg2)
abbrev aM (c : Dev nD) := m ((c : Thread nD τ).loc main_arg3)
abbrev aV (c : Dev nD) := m ((c : Thread nD τ).loc main_arg4)

/-- First result: the gradient. -/
theorem final_grad (c : Dev nD) : (dats m 0 c).arrAt 5 (cfgs 0).N = val_main_v5 (F := Ideal) (aC m c) (aD m c) := by
  refine (dats m 0 c).arrAt_eq_of_covers 5 _ (by decide +kernel) fun t _ y => ?_
  blk_simp
  rw [after0_5]; frame_out
  obtain ⟨y0, r, l, rfl⟩ : ∃ (a : Fin 1) (r : Fin 512) (l : Fin 768), y = ix3 a r l := ⟨y 0, y 1, y 2, eq_ix3 y⟩
  pointwise [k0_pay5]
  refine grad_point m c t r l _ ?_ ?_ ?_ <;> (blk_simp [idx t]; try omega)

/-- The first moment a point computes. -/
theorem m_point (c : Dev nD) (t : Fin cfg0.N) (r : Fin 512) (l : Fin 768) (i : S4x1024x768.Idx)
    (h0 : (i 0).val = t.val / 2) (h1 : (i 1).val = t.val % 2 * 512 + r.val) (h2 : (i 2).val = l.val) :
    k0_pay7 (iblk m c 0 t) (iblk m c 1 t) (iblk m c 3 t) (ix2 r l) = val_main_v10 (F := Ideal) (aC m c) (aD m c) (aM m c) i := by
  have hg := grad_point m c t r l i h0 h1 h2
  idx_vars i
  pointwise [k0_pay7, val_main_v10, val_main_v9, val_main_v8, val_main_v7, val_main_v6, val_main_cst, val_main_cst_0]
  rw [hg]
  blk_point [iblk, V, idx t]

/-- The second moment a point computes. -/
theorem v_point (c : Dev nD) (t : Fin cfg0.N) (r : Fin 512) (l : Fin 768) (i : S4x1024x768.Idx)
    (h0 : (i 0).val = t.val / 2) (h1 : (i 1).val = t.val % 2 * 512 + r.val) (h2 : (i 2).val = l.val) :
    k0_pay8 (iblk m c 0 t) (iblk m c 1 t) (iblk m c 4 t) (ix2 r l) = val_main_v16 (F := Ideal) (aC m c) (aD m c) (aV m c) i := by
  have hg := grad_point m c t r l i h0 h1 h2
  idx_vars i
  pointwise [k0_pay8, val_main_v16, val_main_v15, val_main_v14, val_main_v13, val_main_v12, val_main_v11, val_main_cst_1, val_main_cst_2]
  rw [hg]
  blk_point [iblk, V, idx t]

/-- The step a point computes. -/
theorem step_point (c : Dev nD) (t : Fin cfg0.N) (a : Fin 1) (r : Fin 512) (l : Fin 768) (i : S4x1024x768.Idx)
    (h0 : (i 0).val = t.val / 2) (h1 : (i 1).val = t.val % 2 * 512 + r.val) (h2 : (i 2).val = l.val) :
    k0_pay1 (k0_pay6 (iblk m c 2 t)) (k0_pay7 (iblk m c 0 t) (iblk m c 1 t) (iblk m c 3 t))
        (k0_pay8 (iblk m c 0 t) (iblk m c 1 t) (iblk m c 4 t)) (Scalar.ofBits .f32 0x3F26BD02#32) (ix3 a r l)
      = val_main_v29 (F := Ideal) (aC m c) (aD m c) (aW m c) (aM m c) (aV m c) i := by
  have hm := m_point m c t r l i h0 h1 h2
  have hv := v_point m c t r l i h0 h1 h2
  idx_vars i
  pointwise [k0_pay1, k0_pay6, val_main_v29, val_main_v28, val_main_v27, val_main_v26, val_main_v25, val_main_v24, val_main_v23,
    val_main_v22, val_main_v21, val_main_v20, val_main_v19, val_main_v18, val_main_v17, val_main_cst_3, val_main_cst_4,
    val_main_cst_5, val_main_cst_6, val_main_cst_7]
  rw [hm, hv]
  blk_point [iblk, V, idx t]

/-- The generated names for the two moments of a whole block, over the blocks themselves. -/
theorem pay9_eq (x0 : Vec Ideal S8x512 .f32) (x1 : Vec Ideal S1x8x768 .f32) (x2 x3 x4 : Vec Ideal S1x512x768 .f32) :
    k0_pay9 x0 x1 x2 x3 x4 = k0_pay7 x0 x1 x3 := by
  unfold k0_pay9
  simp (disch := decide) only [View.ld_unit_lit]
theorem pay10_eq (x0 : Vec Ideal S8x512 .f32) (x1 : Vec Ideal S1x8x768 .f32) (x2 x3 x4 : Vec Ideal S1x512x768 .f32) :
    k0_pay10 x0 x1 x2 x3 x4 = k0_pay8 x0 x1 x4 := by
  unfold k0_pay10
  simp (disch := decide) only [View.ld_unit_lit]

/-- Third result: the first moment. -/
theorem final_m (c : Dev nD) : (dats m 0 c).arrAt 7 (cfgs 0).N = val_main_v10 (F := Ideal) (aC m c) (aD m c) (aM m c) := by
  refine (dats m 0 c).arrAt_eq_of_covers 7 _ (by decide +kernel) fun t _ y => ?_
  blk_simp
  rw [after0_7]; frame_out
  obtain ⟨y0, r, l, rfl⟩ : ∃ (a : Fin 1) (r : Fin 512) (l : Fin 768), y = ix3 a r l := ⟨y 0, y 1, y 2, eq_ix3 y⟩
  refine Eq.trans ?_ (m_point m c t r l _ ?_ ?_ ?_)
  · rw [pay9_eq]; pointwise [k0_pay2]
  all_goals (blk_simp [idx t]; try omega)

/-- Fourth result: the second moment. -/
theorem final_v (c : Dev nD) : (dats m 0 c).arrAt 8 (cfgs 0).N = val_main_v16 (F := Ideal) (aC m c) (aD m c) (aV m c) := by
  refine (dats m 0 c).arrAt_eq_of_covers 8 _ (by decide +kernel) fun t _ y => ?_
  blk_simp
  rw [after0_8]; frame_out
  obtain ⟨y0, r, l, rfl⟩ : ∃ (a : Fin 1) (r : Fin 512) (l : Fin 768), y = ix3 a r l := ⟨y 0, y 1, y 2, eq_ix3 y⟩
  refine Eq.trans ?_ (v_point m c t r l _ ?_ ?_ ?_)
  · rw [pay10_eq]; pointwise [k0_pay3]
  all_goals (blk_simp [idx t]; try omega)

/-- Second result: the step. -/
theorem final_step (c : Dev nD) : (dats m 0 c).arrAt 6 (cfgs 0).N
    = val_main_v29 (F := Ideal) (aC m c) (aD m c) (aW m c) (aM m c) (aV m c) := by
  refine (dats m 0 c).arrAt_eq_of_covers 6 _ (by decide +kernel) fun t _ y => ?_
  blk_simp
  rw [after0_6]; frame_out
  rw [pay9_eq, pay10_eq]
  obtain ⟨y0, r, l, rfl⟩ : ∃ (a : Fin 1) (r : Fin 512) (l : Fin 768), y = ix3 a r l := ⟨y 0, y 1, y 2, eq_ix3 y⟩
  refine Eq.trans ?_ (step_point m c t y0 r l _ ?_ ?_ ?_)
  · rfl
  all_goals (blk_simp [idx t]; try omega)

end Cert.Proof.Ada

end
-- ==== Proof.Ada.Claims.lean ====
/- The claims about the adaLN-weight kernel: its frames, and its four results equal to the plain program's. -/
module

public import proofs.«01_k».proof.Defs
public import proofs.«01_k».proof.Proof.Ada.Value
public import proofs.«01_k».proof.Proof.Gen.Ada.Frame
public import Idealize.ShloMosaic.Lib.Claim

@[expose] public section

set_option maxRecDepth 16384

noncomputable section

namespace Cert.Proof.Ada

open Idealize.ShloMosaic Idealize.ShloMosaic.TcCoe Idealize.SL.Sem

theorem frame_kernel : Cert.quiescent_Ada := fun m ρ _ => Cert.Ada.Gen.frame m ρ

theorem frame_ideal : Cert.quiescent_AdaIdeal := fun m ρ _ => Cert.AdaIdeal.Gen.frame m ρ

theorem frame_reference : Cert.quiescent_AdaRefIdeal := fun m g _ =>
  (θ_run Cert.AdaRefIdeal.defs _ _).mono
    (fun r h => ⟨fun c => (h c).2.2.2.2, sem_eq_zero_of_no_sems (by decide) r.2⟩) (Cert.AdaRefIdeal.Value.run m g)

theorem algebraic : Cert.algebraic_AdaIdeal_AdaRefIdeal := by
  pair_intro
  · run_from Cert.AdaIdeal.Gen.run_main m g
  · run_from Cert.AdaRefIdeal.Value.run m' g'
    · exact (Cert.AdaRefIdeal.Read.val_main_v5_eq _ _).trans (final_grad m c).symm
    · exact (Cert.AdaRefIdeal.Read.val_main_v29_eq _ _ _ _ _).trans (final_step m c).symm
    · exact (Cert.AdaRefIdeal.Read.val_main_v10_eq _ _ _).trans (final_m m c).symm
    · exact (Cert.AdaRefIdeal.Read.val_main_v16_eq _ _ _).trans (final_v m c).symm

end Cert.Proof.Ada

end
-- ==== Proof.Mix.Math.lean ====
/-
  Facts about extended reals the mixers' gradients need: finite values, the gate and its derivative, running sums over
  rows, and that a sum of differences from a row on is a sum over a window of rows.
-/
module

public import Idealize.ShloMosaic.Lib.Pipeline.ValueKit
public import Idealize.ShloMosaic.Lib.Routing.OpsOne

@[expose] public section

noncomputable section

namespace Cert.Proof

open Idealize.ShloMosaic Idealize.ShloMosaic.Routing

/-- A finite value. -/
def IsR (x : EReal) : Prop := ∃ r : ℝ, x = (r : EReal)

namespace IsR

theorem coe (r : ℝ) : IsR (r : EReal) := ⟨r, rfl⟩
theorem zero : IsR 0 := ⟨0, rfl⟩
theorem one : IsR 1 := ⟨1, rfl⟩
theorem add {x y : EReal} : IsR x → IsR y → IsR (x + y) := by
  rintro ⟨a, rfl⟩ ⟨b, rfl⟩; exact ⟨a + b, (EReal.coe_add a b).symm⟩
theorem mul {x y : EReal} : IsR x → IsR y → IsR (x * y) := by
  rintro ⟨a, rfl⟩ ⟨b, rfl⟩; exact ⟨a * b, (EReal.coe_mul a b).symm⟩
theorem sub {x y : EReal} : IsR x → IsR y → IsR (x - y) := by
  rintro ⟨a, rfl⟩ ⟨b, rfl⟩; exact ⟨a - b, (EReal.coe_sub a b).symm⟩
theorem neg {x : EReal} : IsR x → IsR (-x) := by
  rintro ⟨a, rfl⟩; exact ⟨-a, (EReal.coe_neg a).symm⟩
theorem div {x : EReal} {y : ℝ} (h : y ≠ 0) : IsR x → IsR (Ideal.div x (y : EReal)) := fun hx => by
  rw [Ideal.div_coe h]; exact hx.mul (coe _)
theorem ite {p : Prop} [Decidable p] {x y : EReal} (hx : IsR x) (hy : IsR y) : IsR (if p then x else y) := by
  split <;> assumption
theorem sum {ι : Type} (s : Finset ι) (f : ι → EReal) (h : ∀ i, IsR (f i)) : IsR (∑ i ∈ s, f i) := by
  classical
  induction s using Finset.induction_on with
  | empty => exact zero
  | insert a s ha ih => rw [Finset.sum_insert ha]; exact (h a).add ih

end IsR

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem half : Ideal.ofBits .f32 1056964608#32 = ((1 / 2 : ℝ) : EReal) := by
  simp [Ideal.ofBits, Ideal.ieee, -EReal.coe_mul]; norm_num

/-- The logistic function through the hyperbolic tangent. -/
theorem logistic_of_tanh (x : EReal) :
    Ideal.ofBits .f32 1056964608#32 * Ideal.tanh (Ideal.ofBits .f32 1056964608#32 * x) + Ideal.ofBits .f32 1056964608#32
      = Ideal.div 1 (1 + Ideal.exp (-x)) := by
  rw [half]
  refine Eq.trans ?_ (show Ideal.logistic x = _ from rfl)
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    refine congrArg _ ?_
    have e1 : Real.exp (-r) = Real.exp (-(1 / 2 * r)) * Real.exp (-(1 / 2 * r)) := by
      rw [← Real.exp_add]; ring_nf
    have e2 : Real.exp (1 / 2 * r) * Real.exp (-(1 / 2 * r)) = 1 := by rw [← Real.exp_add]; simp
    have p1 := Real.exp_pos (1 / 2 * r)
    have p2 := Real.exp_pos (-(1 / 2 * r))
    rw [Real.tanh_eq_sinh_div_cosh, Real.sinh_eq, Real.cosh_eq, e1]
    generalize Real.exp (1 / 2 * r) = a at *
    generalize Real.exp (-(1 / 2 * r)) = b at *
    field_simp
    linear_combination (2 * b) * e2

theorem isR_logistic {x : EReal} : IsR x → IsR (Ideal.div 1 (1 + Ideal.exp (-x))) := by
  rintro ⟨r, rfl⟩
  exact ⟨_, Ideal.logistic_coe r⟩

/-- The derivative of the gate `g·σ(g)`, times a factor: in one factor as the kernel has it, in two terms as the derivative
comes. -/
theorem gate_grad {v g s : EReal} (hv : IsR v) (hg : IsR g) (hs : IsR s) :
    v * (s + g * s * (1 - s)) = v * s + g * v * (s * (1 - s)) := by
  obtain ⟨v, rfl⟩ := hv
  obtain ⟨g, rfl⟩ := hg
  obtain ⟨s, rfl⟩ := hs
  rw [show (1 : EReal) = ((1 : ℝ) : EReal) from rfl]
  simp only [← EReal.coe_mul, ← EReal.coe_sub, ← EReal.coe_add]
  exact congrArg _ (by ring)

/-- A fold of sums is the sum. -/
theorem foldl_add (L : List EReal) (v : EReal) : L.foldl (· + ·) v = v + L.sum := by
  induction L generalizing v with
  | nil => exact (add_zero v).symm
  | cons a L ih => rw [List.foldl_cons, ih, List.sum_cons, add_assoc]

theorem foldl_add_finRange {n : ℕ} (f : Fin n → EReal) : (List.finRange n).foldl (fun r k => r + f k) 0 = ∑ k : Fin n, f k := by
  have h := foldl_add ((List.finRange n).map f) 0
  rw [List.foldl_map, zero_add, ← List.ofFn_eq_map, List.sum_ofFn] at h
  exact h

/-- The running sum down the rows, from the first row to the one asked for. -/
theorem cumsum_at {R Rm1 C : ℕ} (hR : Rm1 + 1 = R) (x : (shape2 R C).Idx → EReal) (init : (⟨0, ![]⟩ : Shape).Idx → EReal) (hi : ∀ i, init i = 0)
    (h : (shape2 R C).ReduceWindows (![R, 1] : Fin 2 → ℕ) ![1, 1] ![Rm1, 0] ![0, 0] (shape2 R C)) (hu : 0 < (⟨0, ![]⟩ : Shape).numel)
    (j : Fin R) (c : Fin C) :
    Host.reduceWindowAdd (F := Ideal) (φ := .f32) ![R, 1] ![1, 1] ![Rm1, 0] ![0, 0] x init h hu (ix2 j c)
      = ∑ i : Fin R, if i.val ≤ j.val then x (ix2 i c) else 0 := by
  subst hR
  have hj := j.isLt
  have hc := c.isLt
  show Host.reduceWindow (· + ·) ![Rm1 + 1, 1] ![1, 1] ![Rm1, 0] ![0, 0] x (fun _ : (⟨0, ![]⟩ : Shape).Idx => init (Shape.Idx.first hu)) h hu (ix2 j c) = _
  unfold Host.reduceWindow
  dsimp only
  rw [hi]
  refine (foldl_add_finRange _).trans ?_
  refine (Fintype.sum_equiv (finCongr (numel_col (Rm1 + 1))) _
    (fun n : Fin (Rm1 + 1) => if hn : Rm1 ≤ j.val + n.val then x (ix2 ⟨j.val + n.val - Rm1, by omega⟩ c) else 0) fun n => ?_).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    have hn : n.val < Rm1 + 1 := (n.cast (numel_col _)).isLt
    show _ = if hn : Rm1 ≤ j.val + n.val then x (ix2 ⟨j.val + n.val - Rm1, _⟩ c) else 0
    split
    · next hin =>
      have h0 := hin 0
      change Rm1 ≤ j.val * 1 + ((shape2 (Rm1 + 1) 1).rowMajor.symm n 0).val
        ∧ j.val * 1 + ((shape2 (Rm1 + 1) 1).rowMajor.symm n 0).val - Rm1 < Rm1 + 1 at h0
      rw [hw0] at h0
      rw [dif_pos (by omega)]
      refine congrArg x (funext fun a => Fin.ext ?_)
      match a with
      | ⟨0, _⟩ =>
        show j.val * 1 + ((shape2 (Rm1 + 1) 1).rowMajor.symm n 0).val - Rm1 = j.val + n.val - Rm1
        rw [hw0, Nat.mul_one]
      | ⟨1, _⟩ =>
        show c.val * 1 + ((shape2 (Rm1 + 1) 1).rowMajor.symm n 1).val - 0 = c.val
        rw [hw1]
        omega
    · next hin =>
      rw [dif_neg fun hle => hin fun a => by
        match a with
        | ⟨0, _⟩ =>
          show Rm1 ≤ j.val * 1 + ((shape2 (Rm1 + 1) 1).rowMajor.symm n 0).val
            ∧ j.val * 1 + ((shape2 (Rm1 + 1) 1).rowMajor.symm n 0).val - Rm1 < Rm1 + 1
          rw [hw0]
          omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]
          omega]
  · rw [← Finset.sum_filter]
    refine (Finset.sum_subset (Finset.subset_univ (Finset.univ.filter fun n : Fin (Rm1 + 1) => Rm1 ≤ j.val + n.val)) fun n _ hn => ?_).symm.trans ?_
    · rw [Finset.mem_filter] at hn
      exact dif_neg fun h => hn ⟨Finset.mem_univ _, h⟩
    · refine Finset.sum_bij' (fun n hn => ⟨j.val + n.val - Rm1, by omega⟩) (fun i hi => ⟨i.val + Rm1 - j.val, by
        rw [Finset.mem_filter] at hi; have := i.isLt; omega⟩) (fun n hn => ?_) (fun i hi => ?_) (fun n hn => ?_) (fun i hi => ?_) (fun n hn => ?_)
      · rw [Finset.mem_filter]; exact ⟨Finset.mem_univ _, by show j.val + n.val - Rm1 ≤ j.val; omega⟩
      · rw [Finset.mem_filter] at hi ⊢; exact ⟨Finset.mem_univ _, by show Rm1 ≤ j.val + (i.val + Rm1 - j.val); omega⟩
      · rw [Finset.mem_filter] at hn; exact Fin.ext (by show j.val + n.val - Rm1 + Rm1 - j.val = n.val; omega)
      · rw [Finset.mem_filter] at hi; exact Fin.ext (by show j.val + (i.val + Rm1 - j.val) - Rm1 = i.val; omega)
      · rw [Finset.mem_filter] at hn; exact dif_pos hn.2

/-- The running sum up the rows, from the last row to the one asked for. -/
theorem revsum_at {R Rm1 C : ℕ} (hR : Rm1 + 1 = R) (x : (shape2 R C).Idx → EReal) (init : (⟨0, ![]⟩ : Shape).Idx → EReal) (hi : ∀ i, init i = 0)
    (h : (shape2 R C).ReduceWindows (![R, 1] : Fin 2 → ℕ) ![1, 1] ![0, 0] ![Rm1, 0] (shape2 R C)) (hu : 0 < (⟨0, ![]⟩ : Shape).numel)
    (j : Fin R) (c : Fin C) :
    Host.reduceWindowAdd (F := Ideal) (φ := .f32) ![R, 1] ![1, 1] ![0, 0] ![Rm1, 0] x init h hu (ix2 j c)
      = ∑ i : Fin R, if j.val ≤ i.val then x (ix2 i c) else 0 := by
  subst hR
  have hj := j.isLt
  have hc := c.isLt
  show Host.reduceWindow (· + ·) ![Rm1 + 1, 1] ![1, 1] ![0, 0] ![Rm1, 0] x (fun _ : (⟨0, ![]⟩ : Shape).Idx => init (Shape.Idx.first hu)) h hu (ix2 j c) = _
  unfold Host.reduceWindow
  dsimp only
  rw [hi]
  refine (foldl_add_finRange _).trans ?_
  refine (Fintype.sum_equiv (finCongr (numel_col (Rm1 + 1))) _
    (fun n : Fin (Rm1 + 1) => if hn : j.val + n.val < Rm1 + 1 then x (ix2 ⟨j.val + n.val, hn⟩ c) else 0) fun n => ?_).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    show _ = if hn : j.val + n.val < Rm1 + 1 then x (ix2 ⟨j.val + n.val, hn⟩ c) else 0
    split
    · next hin =>
      have h0 := hin 0
      change 0 ≤ j.val * 1 + ((shape2 (Rm1 + 1) 1).rowMajor.symm n 0).val
        ∧ j.val * 1 + ((shape2 (Rm1 + 1) 1).rowMajor.symm n 0).val - 0 < Rm1 + 1 at h0
      rw [hw0] at h0
      rw [dif_pos (by omega)]
      refine congrArg x (funext fun a => Fin.ext ?_)
      match a with
      | ⟨0, _⟩ =>
        show j.val * 1 + ((shape2 (Rm1 + 1) 1).rowMajor.symm n 0).val - 0 = j.val + n.val
        rw [hw0, Nat.mul_one]; rfl
      | ⟨1, _⟩ =>
        show c.val * 1 + ((shape2 (Rm1 + 1) 1).rowMajor.symm n 1).val - 0 = c.val
        rw [hw1]
        omega
    · next hin =>
      rw [dif_neg fun hle => hin fun a => by
        match a with
        | ⟨0, _⟩ =>
          show 0 ≤ j.val * 1 + ((shape2 (Rm1 + 1) 1).rowMajor.symm n 0).val
            ∧ j.val * 1 + ((shape2 (Rm1 + 1) 1).rowMajor.symm n 0).val - 0 < Rm1 + 1
          rw [hw0]
          omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]
          omega]
  · rw [← Finset.sum_filter]
    refine (Finset.sum_subset (Finset.subset_univ (Finset.univ.filter fun n : Fin (Rm1 + 1) => j.val + n.val < Rm1 + 1)) fun n _ hn => ?_).symm.trans ?_
    · rw [Finset.mem_filter] at hn
      exact dif_neg fun h => hn ⟨Finset.mem_univ _, h⟩
    · refine Finset.sum_bij' (fun n hn => ⟨j.val + n.val, (Finset.mem_filter.mp hn).2⟩) (fun i hi => ⟨i.val - j.val, by
        have := i.isLt; omega⟩) (fun n hn => ?_) (fun i hi => ?_) (fun n hn => ?_) (fun i hi => ?_) (fun n hn => ?_)
      · rw [Finset.mem_filter]; exact ⟨Finset.mem_univ _, by show j.val ≤ j.val + n.val; omega⟩
      · rw [Finset.mem_filter] at hi ⊢
        have := i.isLt
        exact ⟨Finset.mem_univ _, by show j.val + (i.val - j.val) < Rm1 + 1; omega⟩
      · exact Fin.ext (by show j.val + n.val - j.val = n.val; omega)
      · rw [Finset.mem_filter] at hi; exact Fin.ext (by show j.val + (i.val - j.val) = i.val; omega)
      · rw [Finset.mem_filter] at hn; exact dif_pos hn.2

/-- The differences `q i − q (i + w)`, from row `j` on, sum to the window of `w` rows from `j`. -/
theorem window_of_differences {N : ℕ} (q : Fin N → EReal) (hq : ∀ i, IsR (q i)) (w : ℕ) (j : Fin N) :
    (∑ i : Fin N, if j.val ≤ i.val then q i + (if h : i.val + w < N then -q ⟨i.val + w, h⟩ else 0) else 0)
      = ∑ d : Fin w, if h : j.val + d.val < N then q ⟨j.val + d.val, h⟩ else 0 := by
  choose f hf using hq
  let g : ℕ → ℝ := fun n => if h : n < N then f ⟨n, h⟩ else 0
  have hj := j.isLt
  have e1 : ∀ n : ℕ, (if h : n < N then q ⟨n, h⟩ else 0) = ((g n : ℝ) : EReal) := fun n => by
    show _ = (((if h : n < N then f ⟨n, h⟩ else 0) : ℝ) : EReal)
    split
    · exact hf _
    · rfl
  have e2 : ∀ i : Fin N, (if j.val ≤ i.val then q i + (if h : i.val + w < N then -q ⟨i.val + w, h⟩ else 0) else 0)
      = ((if j.val ≤ i.val then g i.val - g (i.val + w) else 0 : ℝ) : EReal) := fun i => by
    split
    · have : (if h : i.val + w < N then -q ⟨i.val + w, h⟩ else 0) = -((g (i.val + w) : ℝ) : EReal) := by
        rw [← e1]; split
        · rfl
        · exact neg_zero.symm
      rw [this, EReal.coe_sub, sub_eq_add_neg, hf i]
      refine congrArg (· + _) ?_
      show ((f i : ℝ) : EReal) = ((g i.val : ℝ) : EReal)
      exact congrArg _ (show f i = g i.val from (dif_pos i.isLt : (if h : i.val < N then f ⟨i.val, h⟩ else 0) = f ⟨i.val, i.isLt⟩).symm)
    · rfl
  rw [Finset.sum_congr rfl fun i _ => e2 i, Finset.sum_congr rfl fun (d : Fin w) _ => e1 (j.val + d.val), ← coe_sum, ← coe_sum]
  refine congrArg _ ?_
  rw [Fin.sum_univ_eq_sum_range (fun n => if j.val ≤ n then g n - g (n + w) else 0) N, Fin.sum_univ_eq_sum_range (fun d => g (j.val + d)) w]
  have h0 : ∀ n, N ≤ n → g n = 0 := fun n hn => dif_neg (by omega)
  have a1 : (∑ n ∈ Finset.range N, if j.val ≤ n then g n - g (n + w) else 0) = ∑ n ∈ Finset.Ico j.val N, (g n - g (n + w)) := by
    rw [← Finset.sum_filter]
    refine Finset.sum_congr (Finset.ext fun n => ?_) fun _ _ => rfl
    rw [Finset.mem_filter, Finset.mem_range, Finset.mem_Ico]
    omega
  have a2 : ∑ n ∈ Finset.Ico N (N + w), g n = 0 := Finset.sum_eq_zero fun n hn => h0 n (Finset.mem_Ico.mp hn).1
  have a3 := Finset.sum_Ico_consecutive g hj.le (Nat.le_add_right N w)
  have a4 := Finset.sum_Ico_consecutive g (Nat.le_add_right j.val w) (by omega : j.val + w ≤ N + w)
  have a5 := Finset.sum_Ico_add' g j.val N w
  have a6 := Finset.sum_Ico_eq_sum_range g j.val (j.val + w)
  rw [Nat.add_sub_cancel_left] at a6
  rw [a1, Finset.sum_sub_distrib, a5, ← a6]
  linarith

/-- A sum over `a·b` rows, `b` at a time. -/
theorem sum_range_mul (F : ℕ → EReal) (a b : ℕ) :
    ∑ n ∈ Finset.range (a * b), F n = ∑ i ∈ Finset.range a, ∑ j ∈ Finset.range b, F (i * b + j) := by
  induction a with
  | zero => rw [Nat.zero_mul, Finset.sum_range_zero, Finset.sum_range_zero]
  | succ a ih => rw [Nat.succ_mul, Finset.sum_range_add, Finset.sum_range_succ, ih]

/-- A function on the rows, zero past the last. -/
def onRows {N : ℕ} (f : Fin N → EReal) (n : ℕ) : EReal := if h : n < N then f ⟨n, h⟩ else 0

theorem onRows_of_lt {N : ℕ} (f : Fin N → EReal) (n : ℕ) (h : n < N) : onRows f n = f ⟨n, h⟩ := dif_pos h

theorem sum_onRows {N : ℕ} (f : Fin N → EReal) : ∑ n ∈ Finset.range N, onRows f n = ∑ R : Fin N, f R := by
  rw [← Fin.sum_univ_eq_sum_range]
  exact Finset.sum_congr rfl fun R _ => onRows_of_lt f R.val R.isLt

/-- Eight partial sums, each over every eighth row of every tile, together are the sum over the rows. -/
theorem sum_of_eight {N : ℕ} (f : Fin N → EReal) (T Q : ℕ) (h : T * (Q * 8) = N) :
    ∑ b : Fin 8, ∑ k ∈ Finset.range T, ∑ q : Fin Q, onRows f (k * (Q * 8) + (q.val * 8 + b.val)) = ∑ R : Fin N, f R := by
  refine Eq.trans ?_ (sum_onRows f)
  rw [show Finset.range N = Finset.range (T * (Q * 8)) from congrArg _ h.symm, sum_range_mul, Finset.sum_comm]
  refine Finset.sum_congr rfl fun k _ => ?_
  rw [sum_range_mul (fun n => onRows f (k * (Q * 8) + n)), Finset.sum_comm,
    ← Fin.sum_univ_eq_sum_range (fun q => ∑ j ∈ Finset.range 8, onRows f (k * (Q * 8) + (q * 8 + j))) Q]
  exact Finset.sum_congr rfl fun q _ => Fin.sum_univ_eq_sum_range (fun b => onRows f (k * (Q * 8) + (q.val * 8 + b))) 8

end Cert.Proof

end
-- ==== Proof.Finite.lean ====
/-
  What the preconditions say at the ideal values: that every element of an argument is below infinity in absolute value
  makes each of them a real number.
-/
module

public import proofs.«01_k».proof.Proof.Mix.Math
public import Idealize.ShloMosaic.Lib.ReduceAll
public import Idealize.ShloMosaic.Lib.StableHlo

@[expose] public section

noncomputable section

namespace Cert.Proof

open Idealize.ShloMosaic

theorem infinity : Ideal.ofBits .f32 0x7F800000#32 = ⊤ := by simp [Ideal.ofBits, Ideal.ieee]

/-- A value below infinity in absolute value is a real number. -/
theorem isR_of_lt {x : EReal} (h : Ideal.cmp .olt (max x (-x)) (Ideal.ofBits .f32 0x7F800000#32) = 1#1) : IsR x := by
  rw [infinity] at h
  induction x with
  | bot => simp [Ideal.cmp] at h
  | top => simp [Ideal.cmp] at h
  | coe r => exact ⟨r, rfl⟩

/-- One argument's part of a precondition. -/
theorem isR_of_all {s : Shape} {axes : List (Fin s.rank)} (x : s.Idx → EReal)
    (hb : (⟨0, ![]⟩ : Shape).BroadcastsInDim s (![] : Fin 0 → Fin s.rank)) (hr : s.ReducesTo axes ⟨0, ![]⟩) (hu : 0 < (⟨0, ![]⟩ : Shape).numel)
    (init : (⟨0, ![]⟩ : Shape).Idx → BitVec 1) (j : (⟨0, ![]⟩ : Shape).Idx)
    (h : Host.reduce IntOp.andi (cmpf (F := Ideal) (φ := .f32) .olt (Host.absf x)
      (broadcastInDim s ![] hb (constant (F := Ideal) ⟨0, ![]⟩ .f32 0x7F800000#32))) init hr hu j = 1#1) (i : s.Idx) : IsR (x i) := by
  haveI : Subsingleton (⟨0, ![]⟩ : Shape).Idx := ⟨fun a b => funext fun k => k.elim0⟩
  have e := Host.reduce_andi_all _ init hr hu j h i
  exact isR_of_lt e

/-- A conjunction of parts. -/
theorem both {s : Shape} {a b : IVec s 1} {j : s.Idx} (h : andi a b j = 1#1) : a j = 1#1 ∧ b j = 1#1 := IntOp.andi_eq_one.1 h

end Cert.Proof

end
-- ==== Proof.Mix.Tiles.lean ====
/-
  An array of 2048 rows stored by a counted loop a tile of rows at a time: the pieces the trips store are one per
  trip, and together they leave the array whose rows are the tiles' rows.
-/
module

public import proofs.«01_k».proof.Proof.Gen.MixIdeal.Frame
public import Idealize.ShloMosaic.Lib.Pipeline.ValueKit

@[expose] public section

set_option maxRecDepth 16384

noncomputable section

namespace Cert.Proof.Mix

open Cert.MixIdeal Idealize.ShloMosaic

section Trips

variable {Val : EltTy → Type} {s : Shape} {e : EltTy} {T : ℕ}

/-- A list that each trip lengthens by one piece holds, after `n` trips, the first `n` trips' pieces. -/
theorem mem_trips (lst : ℕ → List (View.Piece Val s e)) (p : Fin T → View.Piece Val s e) (h0 : lst 0 = [])
    (hs : ∀ k : Fin T, lst (k.val + 1) = p k :: lst k.val) :
    ∀ n, n ≤ T → ∀ q, q ∈ lst n ↔ ∃ k : Fin T, k.val < n ∧ q = p k
  | 0, _, q => by rw [h0]; simp
  | n + 1, hn, q => by
    rw [hs ⟨n, hn⟩, List.mem_cons, mem_trips lst p h0 hs n (Nat.le_of_succ_le hn)]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact Or.inr ⟨k, h, rfl⟩
      · exact Or.inl (congrArg p (Fin.ext h))

end Trips

section Rows

variable {Val : EltTy → Type} [∀ e, Nonempty (Val e)] {e : EltTy} {R T : ℕ}

/-- The array whose rows are the tiles' rows, one tile after the other. -/
def tiled (h : T * R = 2048) (P : Fin T → (⟨2, ![R, 128]⟩ : Shape).Idx → Val e) : S2048x128.Idx → Val e := fun y =>
  P ⟨(y 0).val / R, Nat.div_lt_of_lt_mul (by have := (y 0).isLt; rw [Nat.mul_comm, h]; exact this)⟩
    (ix2 ⟨(y 0).val % R, Nat.mod_lt _ (Nat.pos_of_ne_zero fun h0 => by rw [h0] at h; omega)⟩ (y 1))

/-- Tile `k` of an array. -/
def tile (h : T * R = 2048) (x : S2048x128.Idx → Val e) (k : Fin T) : (⟨2, ![R, 128]⟩ : Shape).Idx → Val e := fun y =>
  x (ix2 ⟨k.val * R + (y 0).val, by
    have h1 : (k.val + 1) * R ≤ T * R := Nat.mul_le_mul_right R k.isLt
    have h2 : (y 0).val < R := (y 0).isLt
    rw [Nat.add_mul, Nat.one_mul, h] at h1; omega⟩ (y 1))

omit [∀ e, Nonempty (Val e)] in
/-- A row of a tile, in the array. -/
theorem tiled_at (h : T * R = 2048) (P : Fin T → (⟨2, ![R, 128]⟩ : Shape).Idx → Val e) (k : Fin T) (a : Fin R) (l : Fin 128)
    (y : S2048x128.Idx) (h0 : (y 0).val = k.val * R + a.val) (h1 : (y 1).val = l.val) : tiled h P y = P k (ix2 a l) := by
  have hR : 0 < R := Nat.lt_of_le_of_lt (Nat.zero_le _) a.isLt
  have e0 : (y 0).val / R = k.val := by
    rw [h0, Nat.add_comm, Nat.add_mul_div_right _ _ hR, Nat.div_eq_of_lt a.isLt, Nat.zero_add]
  have e1 : (y 0).val % R = a.val := by rw [h0, Nat.add_comm, Nat.add_mul_mod_self_right, Nat.mod_eq_of_lt a.isLt]
  unfold tiled
  have f0 : ∀ hh, (⟨(y 0).val / R, hh⟩ : Fin T) = k := fun hh => Fin.ext e0
  have f1 : ∀ hh, (⟨(y 0).val % R, hh⟩ : Fin R) = a := fun hh => Fin.ext e1
  rw [f0, f1]
  exact congrArg (P k) (congrArg (ix2 a) (Fin.ext h1))

/-- What tile stores leave, in whatever order the trips take the tiles: every row is stored, and the array is the
tiles' rows. -/
theorem rows_of_trips (h : T * R = 2048) (P : Fin T → (⟨2, ![R, 128]⟩ : Shape).Idx → Val e) {N : ℕ} (ρ : Fin N → Fin T) (hρ : Function.Surjective ρ)
    (off : Fin N → Fin 2 → ℕ) (hoff : ∀ k, off k = ![(ρ k).val * R, 0])
    (inb : ∀ k, ∀ a, off k a + (![R, 128] : Fin 2 → ℕ) a ≤ S2048x128.size a)
    (lst : ℕ → List (View.Piece Val S2048x128 e)) (h0 : lst 0 = [])
    (hs : ∀ k : Fin N, lst (k.val + 1) = ⟨Rect.unit (s := S2048x128) (off k) ![R, 128] (inb k), P (ρ k)⟩ :: lst k.val) :
    (∀ y, ∃ p ∈ lst N, y ∈ p.1.set) ∧ View.canon (lst N) = tiled h P := by
  have hm := mem_trips lst _ h0 hs N le_rfl
  have hR : 0 < R := Nat.pos_of_ne_zero fun h0 => by rw [h0] at h; omega
  have hc : ∀ y, ∃ p ∈ lst N, y ∈ p.1.set := fun y => by
    have hy : (y 0).val < 2048 := (y 0).isLt
    obtain ⟨k, hk⟩ := hρ ⟨(y 0).val / R, Nat.div_lt_of_lt_mul (by rw [Nat.mul_comm, h]; exact hy)⟩
    refine ⟨⟨Rect.unit (s := S2048x128) (off k) ![R, 128] (inb k), P (ρ k)⟩, (hm _).mpr ⟨k, k.isLt, rfl⟩, (Rect.mem_set_unit (inb := inb k)).mpr fun a => ?_⟩
    have hv : (ρ k).val = (y 0).val / R := congrArg Fin.val hk
    have hd := Nat.div_add_mod (y 0).val R
    have hl := Nat.mod_lt (y 0).val hR
    match a with
    | ⟨0, _⟩ =>
      have o0 : off k 0 = (ρ k).val * R := congrFun (hoff k) 0
      show off k 0 ≤ (y 0).val ∧ (y 0).val < off k 0 + R
      rw [o0, hv, Nat.mul_comm]; omega
    | ⟨1, _⟩ =>
      have h1 : (y 1).val < 128 := (y 1).isLt
      have o1 : off k 1 = 0 := congrFun (hoff k) 1
      show off k 1 ≤ (y 1).val ∧ (y 1).val < off k 1 + 128
      rw [o1]; omega
  refine ⟨hc, funext fun y => View.canon_apply_of_pieces _ _ (fun p hp x => ?_) y (hc y)⟩
  obtain ⟨k, -, rfl⟩ := (hm p).mp hp
  refine ((tiled_at h P (ρ k) (x 0) (x 1) _ ?_ ?_).trans (congrArg (P (ρ k)) (eq_ix2 x).symm)).symm
  · have o0 : off k 0 = (ρ k).val * R := congrFun (hoff k) 0
    show off k 0 + 1 * (x 0).val = (ρ k).val * R + (x 0).val
    rw [Nat.one_mul]; exact congrArg (· + (x 0).val) o0
  · have o1 : off k 1 = 0 := congrFun (hoff k) 1
    show off k 1 + 1 * (x 1).val = (x 1).val
    rw [Nat.one_mul]; exact (congrArg (· + (x 1).val) o1).trans (Nat.zero_add _)

omit [∀ e, Nonempty (Val e)] in
/-- A load of a tile, from a whole buffer that holds `x`. -/
theorem readAt_tile (h : T * R = 2048) {sig : RefSig} {κ : Kind} {sp : Space} {a : Memref sig κ sp S2048x128 e} (f : BufTy.Contents Val a.view.ty)
    (x : S2048x128.Idx → Val e) (hx : a.view.read Val f = x) (k : Fin T) (off : Fin 2 → ℕ) (hoff : off = ![k.val * R, 0])
    (inb : ∀ b, off b + (![R, 128] : Fin 2 → ℕ) b ≤ S2048x128.size b) :
    View.readAt Val a.view (Rect.unit (s := S2048x128) off ![R, 128] inb).toLoadRect f = tile h x k := by
  subst hoff
  subst hx
  funext y
  refine congrArg (a.view.read Val f) (funext fun b => ?_)
  match b with
  | ⟨0, _⟩ => exact Fin.ext (show k.val * R + 1 * (y 0).val = k.val * R + (y 0).val by omega)
  | ⟨1, _⟩ => exact Fin.ext (show 0 + 1 * (y 1).val = (y 1).val by omega)

end Rows

end Cert.Proof.Mix

end
-- ==== Proof.Mix.Closed.lean ====
/-
  What one group's POOLING gradients are as arrays: the arrays the loops over tiles of rows leave, in closed form,
  and that a loop whose trips store such tiles leaves them.
-/
module

public import proofs.«01_k».proof.Proof.Mix.Tiles
public import proofs.«01_k».proof.Proof.Gen.MixIdeal.Loops

@[expose] public section

set_option maxRecDepth 16384

noncomputable section

namespace Cert.Proof.Mix

open Cert.MixIdeal Cert.MixIdeal.Gen Idealize.ShloMosaic

variable {F : FTy → Type} [FloatOps F]

/-- A value every tile updates in turn, after the first `n` tiles. -/
def foldTiles {α : Type} {T : ℕ} (A : Fin T → α → α) (a : α) : ℕ → α
  | 0 => a
  | n + 1 => if h : n < T then A ⟨n, h⟩ (foldTiles A a n) else foldTiles A a n

theorem foldTiles_succ {α : Type} {T : ℕ} (A : Fin T → α → α) (a : α) (k : Fin T) :
    foldTiles A a (k.val + 1) = A k (foldTiles A a k.val) := dif_pos k.isLt

/-- Tiles of 128 rows. -/
abbrev t128 {Val : EltTy → Type} {e : EltTy} (x : S2048x128.Idx → Val e) (k : Fin 16) : S128x128.Idx → Val e :=
  tile (R := 128) (T := 16) rfl x k

/-- The array of tiles of 128 rows. -/
abbrev a128 {Val : EltTy → Type} {e : EltTy} (P : Fin 16 → S128x128.Idx → Val e) : S2048x128.Idx → Val e :=
  tiled (R := 128) (T := 16) rfl P

/-- The gate's gradient. -/
def poolDg (sc : Vec F S1x1x128 .f32) (g dy : Vec F S2048x128 .bf16) (mx : Vec F S2048x128 .f32) : Vec F S2048x128 .bf16 :=
  a128 fun k => k0_pay50 sc (t128 g k) (t128 dy k) (t128 mx k)

/-- The gradient of the mixed rows. -/
def poolDmix (sc : Vec F S1x1x128 .f32) (g dy : Vec F S2048x128 .bf16) : Vec F S2048x128 .bf16 :=
  a128 fun k => k0_pay52 sc (t128 g k) (t128 dy k)

/-- The scale's gradient, in eight partial rows, over the first `n` tiles. -/
def poolAcc (g dy : Vec F S2048x128 .bf16) (mx : Vec F S2048x128 .f32) : ℕ → FVec F S8x128 .f32 :=
  foldTiles (T := 16) (fun k acc => k0_pay53 acc (t128 g k) (t128 dy k) (t128 mx k)) k0_pay45

/-- The gradient of the pooled rows, and sixteen zero rows after them. -/
def poolDp (w : Vec F S1x1x128x128 .f32) (dm : Vec F S2048x128 .bf16) : Vec F S2064x128 .f32 := fun y =>
  if h : (y 0).val < 2048 then k0_pay55 w dm (ix2 ⟨(y 0).val, h⟩ (y 1))
  else k0_pay56 (ix2 ⟨(y 0).val - 2048, by have h2 : (y 0).val < 2064 := (y 0).isLt; omega⟩ (y 1))

/-- The rows tile `k` of the window sum's gradient takes: its own and the sixteen after them. -/
def rows144 (x : Vec F S2064x128 .f32) (k : Fin 16) : Vec F S144x128 .f32 := fun y =>
  x (ix2 ⟨k.val * 128 + (y 0).val, by have h1 : (y 0).val < 144 := (y 0).isLt; have := k.isLt; omega⟩ (y 1))

/-- The gradient of the group's input, tile by tile (`B`, one group's). -/
def poolDu (B : Fin 16 → Vec F S144x128 .f32 → FVec F S128x128 .bf16) (dp : Vec F S2064x128 .f32) : Vec F S2048x128 .bf16 :=
  a128 fun k => B k (rows144 dp k)

/-- One trip of the gate's loop: the state before it and the trip's three tiles of rows. -/
def gateStep (sc : Vec F S1x1x128 .f32) (r : FVec F S8x128 .f32 × List (View.Piece (Elt F) S2048x128 .bf16) × List (View.Piece (Elt F) S2048x128 .bf16))
    (off : Fin 2 → ℕ) (inb : ∀ a, off a + (![128, 128] : Fin 2 → ℕ) a ≤ S2048x128.size a) (g dy : Vec F S128x128 .bf16) (mx : Vec F S128x128 .f32) :
    FVec F S8x128 .f32 × List (View.Piece (Elt F) S2048x128 .bf16) × List (View.Piece (Elt F) S2048x128 .bf16) :=
  (k0_pay53 r.1 g dy mx, ⟨Rect.unit (s := S2048x128) off ![128, 128] inb, k0_pay50 sc g dy mx⟩ :: r.2.1,
    ⟨Rect.unit (s := S2048x128) off ![128, 128] inb, k0_pay52 sc g dy⟩ :: r.2.2)

/-- The loop over tiles that stores the gate's gradient and the mixed rows' and sums the scale's. -/
theorem gate_of_steps (sc : Vec F S1x1x128 .f32) (g dy : Vec F S2048x128 .bf16) (mx : Vec F S2048x128 .f32)
    (st : ℕ → FVec F S8x128 .f32 × List (View.Piece (Elt F) S2048x128 .bf16) × List (View.Piece (Elt F) S2048x128 .bf16))
    (off : Fin 16 → Fin 2 → ℕ) (hoff : ∀ k, off k = ![128 * k.val, 0])
    (inb : ∀ k, ∀ a, off k a + (![128, 128] : Fin 2 → ℕ) a ≤ S2048x128.size a)
    (h0 : st 0 = (k0_pay45, [], []))
    (hs : ∀ k : Fin 16, st (k.val + 1) = gateStep sc (st k.val) (off k) (inb k) (t128 g k) (t128 dy k) (t128 mx k)) :
    (st 16).1 = poolAcc g dy mx 16
      ∧ ((∀ y, ∃ p ∈ (st 16).2.1, y ∈ p.1.set) ∧ View.canon (st 16).2.1 = poolDg sc g dy mx)
      ∧ ((∀ y, ∃ p ∈ (st 16).2.2, y ∈ p.1.set) ∧ View.canon (st 16).2.2 = poolDmix sc g dy) := by
  have hoff' : ∀ k, off k = ![k.val * 128, 0] := fun k => by rw [hoff k, Nat.mul_comm]
  refine ⟨?_, ?_, ?_⟩
  · have : ∀ n, n ≤ 16 → (st n).1 = poolAcc g dy mx n := fun n => by
      induction n with
      | zero => intro _; rw [h0]; rfl
      | succ n ih =>
        intro hn
        rw [hs ⟨n, hn⟩, poolAcc, foldTiles_succ _ _ ⟨n, hn⟩]
        show k0_pay53 (st n).1 _ _ _ = _
        rw [ih (Nat.le_of_succ_le hn)]; rfl
    exact this 16 le_rfl
  · exact rows_of_trips (R := 128) (T := 16) rfl (fun k => k0_pay50 sc (t128 g k) (t128 dy k) (t128 mx k)) id Function.surjective_id off hoff' inb
      (fun n => (st n).2.1) (by show (st 0).2.1 = _; rw [h0]) (fun k => by show (st (k.val + 1)).2.1 = _; rw [hs k]; rfl)
  · exact rows_of_trips (R := 128) (T := 16) rfl (fun k => k0_pay52 sc (t128 g k) (t128 dy k)) id Function.surjective_id off hoff' inb
      (fun n => (st n).2.2) (by show (st 0).2.2 = _; rw [h0]) (fun k => by show (st (k.val + 1)).2.2 = _; rw [hs k]; rfl)

/-- The loop over tiles that stores the gradient of the group's input. -/
theorem back_of_steps (B : Fin 16 → Vec F S144x128 .f32 → FVec F S128x128 .bf16) (dp : Vec F S2064x128 .f32)
    (lst : ℕ → List (View.Piece (Elt F) S2048x128 .bf16))
    (off : Fin 16 → Fin 2 → ℕ) (hoff : ∀ k, off k = ![128 * k.val, 0])
    (inb : ∀ k, ∀ a, off k a + (![128, 128] : Fin 2 → ℕ) a ≤ S2048x128.size a)
    (h0 : lst 0 = [])
    (hs : ∀ k : Fin 16, lst (k.val + 1) = ⟨Rect.unit (s := S2048x128) (off k) ![128, 128] (inb k), B k (rows144 dp k)⟩ :: lst k.val) :
    (∀ y, ∃ p ∈ lst 16, y ∈ p.1.set) ∧ View.canon (lst 16) = poolDu B dp :=
  rows_of_trips (Val := Elt F) (e := .bf16) (R := 128) (T := 16) rfl (fun k => B k (rows144 dp k)) id Function.surjective_id off
    (fun k => by rw [hoff k, Nat.mul_comm]; rfl) inb lst h0 hs

/-- One store of a whole array. -/
theorem whole_piece {s : Shape} {e : EltTy} (off : Fin s.rank → ℕ) (hoff : off = fun _ => 0)
    (inb : ∀ a, off a + s.size a ≤ s.size a) (d : s.Idx → Elt F e) :
    (∀ y, ∃ p ∈ ([⟨Rect.unit off s.size inb, d⟩] : List (View.Piece (Elt F) s e)), y ∈ p.1.set)
      ∧ View.canon ([⟨Rect.unit off s.size inb, d⟩] : List (View.Piece (Elt F) s e)) = d := by
  have hc : ∀ y, ∃ p ∈ ([⟨Rect.unit off s.size inb, d⟩] : List (View.Piece (Elt F) s e)), y ∈ p.1.set :=
    fun y => ⟨_, List.mem_singleton.mpr rfl, View.mem_set_unit_zero hoff inb y⟩
  refine ⟨hc, funext fun y => View.canon_apply_of_pieces d _ (fun p hp x => ?_) y (hc y)⟩
  rw [List.mem_singleton] at hp
  subst hp; subst hoff
  refine congrArg d (funext fun a => Fin.ext ?_)
  show (x a).val = 0 + 1 * (x a).val
  omega

/-- A load of a whole array. -/
theorem readAt_whole {s : Shape} {e : EltTy} {κ : Kind} {sp : Space} (a : Memref sig κ sp s e) (f : BufTy.Contents (Elt F) a.view.ty)
    (off : Fin s.rank → ℕ) (hoff : off = fun _ => 0) (inb : ∀ a, off a + s.size a ≤ s.size a) :
    View.readAt (Elt F) a.view (Rect.unit off s.size inb).toLoadRect f = a.view.read (Elt F) f := by
  subst hoff
  funext y
  refine congrArg (a.view.read (Elt F) f) (funext fun b => Fin.ext ?_)
  show 0 + 1 * (y b).val = (y b).val
  omega

/-- The two stores of the pooled rows' gradient and the zero rows after it, and a tile's load of them. -/
theorem readAt_dp (w : Vec F S1x1x128x128 .f32) (dm : Vec F S2048x128 .bf16) (a : Memref sig .tc .vmem S2064x128 .f32)
    (L : List (View.Piece (Elt F) S2064x128 .f32))
    (hL : L = [⟨Rect.unit ![2048, 0] S16x128.size inb_S2064x128_S16x128_2048_0, k0_pay56⟩, ⟨Rect.unit ![0, 0] S2048x128.size inb_S2064x128_S2048x128_0_0, k0_pay55 w dm⟩])
    (k : Fin 16) (off : Fin 2 → ℕ) (hoff : off = ![128 * k.val, 0]) (inb : ∀ b, off b + (![144, 128] : Fin 2 → ℕ) b ≤ S2064x128.size b) :
    View.readAt (Elt F) a.view (Rect.unit (s := S2064x128) off ![144, 128] inb).toLoadRect (a.view.writes (Elt F) a.view.junk L)
      = rows144 (poolDp w dm) k := by
  subst hL; subst hoff
  rw [View.readAt_writes_junk_eq_canon]
  funext y
  have hi : (Rect.unit (s := S2064x128) ![128 * k.val, 0] ![144, 128] inb).toLoadRect.idx y
      = ix2 ⟨k.val * 128 + (y 0).val, by have h1 : (y 0).val < 144 := (y 0).isLt; have := k.isLt; omega⟩ (y 1) := by
    funext b
    match b with
    | ⟨0, _⟩ => exact Fin.ext (show 128 * k.val + 1 * (y 0).val = k.val * 128 + (y 0).val by omega)
    | ⟨1, _⟩ => exact Fin.ext (show 0 + 1 * (y 1).val = (y 1).val by omega)
  show View.canon _ ((Rect.unit (s := S2064x128) ![128 * k.val, 0] ![144, 128] inb).toLoadRect.idx y) = _
  rw [hi]
  refine View.canon_apply_of_pieces (poolDp w dm) _ (fun p hp x => ?_) _ ?_
  · simp only [List.mem_cons, List.not_mem_nil, or_false] at hp
    rcases hp with rfl | rfl
    · have e0 : (((Rect.unit (s := S2064x128) ![2048, 0] S16x128.size inb_S2064x128_S16x128_2048_0).emb x) 0).val = 2048 + (x 0).val := by
        show 2048 + 1 * (x 0).val = _; omega
      unfold poolDp
      rw [dif_neg (by rw [e0]; omega)]
      show k0_pay56 x = k0_pay56 _
      refine congrArg k0_pay56 (funext fun b => ?_)
      match b with
      | ⟨0, _⟩ => exact Fin.ext (show (x 0).val = (2048 + 1 * (x 0).val) - 2048 by omega)
      | ⟨1, _⟩ => exact Fin.ext (show (x 1).val = 0 + 1 * (x 1).val by omega)
    · have e0 : (((Rect.unit (s := S2064x128) ![0, 0] S2048x128.size inb_S2064x128_S2048x128_0_0).emb x) 0).val = (x 0).val := by
        show 0 + 1 * (x 0).val = _; omega
      have hx : (x 0).val < 2048 := (x 0).isLt
      unfold poolDp
      rw [dif_pos (by rw [e0]; exact hx)]
      show k0_pay55 w dm x = k0_pay55 w dm _
      refine congrArg (k0_pay55 w dm) (funext fun b => ?_)
      match b with
      | ⟨0, _⟩ => exact Fin.ext (show (x 0).val = 0 + 1 * (x 0).val by omega)
      | ⟨1, _⟩ => exact Fin.ext (show (x 1).val = 0 + 1 * (x 1).val by omega)
  · by_cases h : k.val * 128 + (y 0).val < 2048
    · refine ⟨_, List.mem_cons_of_mem _ (List.mem_singleton.mpr rfl), (Rect.mem_set_unit (inb := inb_S2064x128_S2048x128_0_0)).mpr fun b => ?_⟩
      match b with
      | ⟨0, _⟩ => exact show 0 ≤ k.val * 128 + (y 0).val ∧ k.val * 128 + (y 0).val < 0 + 2048 by omega
      | ⟨1, _⟩ => exact show 0 ≤ (y 1).val ∧ (y 1).val < 0 + 128 from ⟨Nat.zero_le _, by rw [Nat.zero_add]; exact (y 1).isLt⟩
    · refine ⟨_, List.mem_cons_self, (Rect.mem_set_unit (inb := inb_S2064x128_S16x128_2048_0)).mpr fun b => ?_⟩
      have h1 : (y 0).val < 144 := (y 0).isLt
      have := k.isLt
      match b with
      | ⟨0, _⟩ => exact show 2048 ≤ k.val * 128 + (y 0).val ∧ k.val * 128 + (y 0).val < 2048 + 16 by omega
      | ⟨1, _⟩ => exact show 0 ≤ (y 1).val ∧ (y 1).val < 0 + 128 from ⟨Nat.zero_le _, by rw [Nat.zero_add]; exact (y 1).isLt⟩

/-- What a list of stores leaves, of an equal list. -/
theorem left_of_eq {s : Shape} {e : EltTy} {L L' : List (View.Piece (Elt F) s e)} {d : s.Idx → Elt F e} (h : L = L')
    (h' : (∀ y, ∃ p ∈ L', y ∈ p.1.set) ∧ View.canon L' = d) : (∀ y, ∃ p ∈ L, y ∈ p.1.set) ∧ View.canon L = d := h ▸ h'

/-- What one group's four lists of stores leave, in closed form. -/
def PoolClosed (B : Fin 16 → Vec F S144x128 .f32 → FVec F S128x128 .bf16) (x4 x5 x7 : Vec F S2048x128 .bf16) (x9 : Vec F S1x1x128x128 .f32) (x10 : Vec F S1x1x128 .f32)
    (L15 L16 : List (View.Piece (Elt F) S2048x128 .bf16)) (L18 : List (View.Piece (Elt F) S1x128x128 .bf16)) (L19 : List (View.Piece (Elt F) S1x128 .f32)) : Prop :=
  ((∀ y, ∃ p ∈ L15, y ∈ p.1.set) ∧ View.canon L15 = poolDu B (poolDp x9 (poolDmix x10 x5 x7)))
    ∧ ((∀ y, ∃ p ∈ L16, y ∈ p.1.set) ∧ View.canon L16 = poolDg x10 x5 x7 (k0_pay43 x9 x4))
    ∧ ((∀ y, ∃ p ∈ L18, y ∈ p.1.set) ∧ View.canon L18 = k0_pay12 x4 (poolDmix x10 x5 x7))
    ∧ ((∀ y, ∃ p ∈ L19, y ∈ p.1.set) ∧ View.canon L19 = k0_pay54 (poolAcc x5 x7 (k0_pay43 x9 x4) 16))

end Cert.Proof.Mix

end
-- ==== Proof.Mix.Conv.lean ====
/-
  The body of the mixers' backward kernel on a point of its first half, where it computes one lane block of the
  CONVOLUTION mixer's gradients: what its stores leave in the five results of that half, as lists of stored
  pieces, with the proof that the body runs and leaves them.
-/
module

public import proofs.«01_k».proof.Proof.Gen.MixIdeal.Frame
public import proofs.«01_k».proof.Proof.Gen.MixIdeal.Loops

@[expose] public section

set_option maxRecDepth 16384

noncomputable section

namespace Cert.Proof.Mix

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Where `f` is written over some contents with the pieces `L`. -/
abbrev wrote (c : Dev nD) {sh : Shape} {e : EltTy} (a : Memref sig .tc .vmem sh e) (L : List (View.Piece (Elt F) sh e)) :
    sProp 𝕄 :=
  iprop(∃ f, a.view.loc (c : Thread nD τ) ↦[a.view.set]{fullShare} a.view.writes (Elt F) f L)

/-- A memref held at `x`. -/
abbrev held (c : Dev nD) {sh : Shape} {e : EltTy} (a : Memref sig .tc .vmem sh e) (x : Vec F sh e) : sProp 𝕄 :=
  owns (c : Thread nD τ) a fullShare x

/-- A memref held at some contents. -/
abbrev some' (c : Dev nD) {sh : Shape} {e : EltTy} (a : Memref sig .tc .vmem sh e) : sProp 𝕄 :=
  iprop(∃ d, owns (c : Thread nD τ) a fullShare d)

set_option maxHeartbeats 4000000 in
/-- The convolution mixer's half: the pieces the body leaves in the gradients of its four inputs and of its taps. -/
noncomputable def convRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 : k0_cond1 i = 1#1) (h2 : ¬k0_cond2 i = 1#1) (h3 : ¬k0_cond3 i = 1#1) (h4 : ¬k0_cond4 i = 1#1) (h5 : ¬k0_cond5 i = 1#1)
    (x0 x1 x2 x3 x6 : Vec F S2048x128 .bf16) (x8 : Vec F S1x1x3x128 .f32) :
    Σ' (L11 L12 L13 L14 : List (View.Piece (Elt F) S2048x128 .bf16)), { L17 : List (View.Piece (Elt F) S1x3x128 .f32) //
      ∀ (E : Set ℕ) (K : PUnit → sProp 𝕄),
        iprop(held c arg1 x0 ∗ held c arg2 x1 ∗ held c arg3 x2 ∗ held c arg4 x3 ∗ held c arg7 x6 ∗ held c arg9 x8
            ∗ some' c arg13 ∗ some' c arg14 ∗ some' c arg15 ∗ some' c arg16 ∗ some' c arg19
            ∗ (iprop(held c arg1 x0 ∗ held c arg2 x1 ∗ held c arg3 x2 ∗ held c arg4 x3 ∗ held c arg7 x6 ∗ held c arg9 x8
              ∗ wrote c arg13 L11 ∗ wrote c arg14 L12 ∗ wrote c arg15 L13 ∗ wrote c arg16 L14 ∗ wrote c arg19 L17) -∗ K ⟨⟩))
          ⊢ wp frame (wpE (defs₀ (F := F)) Variants.none c none) E
              (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0_mix_bwd_eq_skeleton]; unfold cc0_mix_bwd_skel
    unfold held some' wrote owns
    iintro ⟨⟨%f0, %hf0, H0⟩, ⟨%f1, %hf1, H1⟩, ⟨%f2, %hf2, H2⟩, ⟨%f3, %hf3, H3⟩, ⟨%f6, %hf6, H6⟩, ⟨%f8, %hf8, H8⟩, ⟨%d11, %f11, -, H11⟩, ⟨%d12, %f12, -, H12⟩, ⟨%d13, %f13, -, H13⟩, ⟨%d14, %f14, -, H14⟩, ⟨%d17, %f17, -, H17⟩, Hk⟩
    obtain rfl := harg1.eq_unread hf0; obtain rfl := harg2.eq_unread hf1; obtain rfl := harg3.eq_unread hf2; obtain rfl := harg4.eq_unread hf3; obtain rfl := harg7.eq_unread hf6; obtain rfl := harg9.eq_unread hf8
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H6]
    · iexists _; isplitr; · ipureintro; exact harg7.read_unread _
      iexact H6
    isplitl [H8]
    · iexists _; isplitr; · ipureintro; exact harg9.read_unread _
      iexact H8
    isplitl [H11]; · iexists _; iexact H11
    isplitl [H12]; · iexists _; iexact H12
    isplitl [H13]; · iexists _; iexact H13
    isplitl [H14]; · iexists _; iexact H14
    iexists _; iexact H17

end Cert.Proof.Mix

end
-- ==== Proof.Mix.ConvClosed.lean ====
/-
  What the CONVOLUTION mixer's half leaves, in closed form: it takes the rows in 32 chunks of 64, from the last to the
  first, and carries the first eight rows of the chunk's gradient and three partial sums from one chunk to the next.
-/
module

public import proofs.«01_k».proof.Proof.Mix.Closed
public import proofs.«01_k».proof.Proof.Mix.Conv

@[expose] public section

set_option maxRecDepth 16384

noncomputable section

namespace Cert.Proof.Mix

open Cert.MixIdeal Cert.MixIdeal.Gen Idealize.ShloMosaic

variable {F : FTy → Type} [FloatOps F]

/-- The carried state: the first eight rows of the last chunk's gradient, and the three taps' partial sums. -/
abbrev CSt (F : FTy → Type) [FloatOps F] := FVec F S8x128 .f32 × FVec F S8x128 .f32 × FVec F S8x128 .f32 × FVec F S8x128 .f32

/-- The taps. -/
abbrev tap0 (x8 : Vec F S1x1x3x128 .f32) : Vec F S1x1x1x128 .f32 :=
  View.ld x8 (Rect.unit (s := S1x1x3x128) ![0, 0, 0, 0] ![1, 1, 1, 128] inb_S1x1x3x128_S1x1x1x128_0_0_0_0)
abbrev tap1 (x8 : Vec F S1x1x3x128 .f32) : Vec F S1x1x1x128 .f32 :=
  View.ld x8 (Rect.unit (s := S1x1x3x128) ![0, 0, 1, 0] ![1, 1, 1, 128] inb_S1x1x3x128_S1x1x1x128_0_0_1_0)
abbrev tap2 (x8 : Vec F S1x1x3x128 .f32) : Vec F S1x1x1x128 .f32 :=
  View.ld x8 (Rect.unit (s := S1x1x3x128) ![0, 0, 2, 0] ![1, 1, 1, 128] inb_S1x1x3x128_S1x1x1x128_0_0_2_0)

/-- The chunk a trip takes, and the trip that takes a chunk. -/
abbrev rev (k : Fin 32) : Fin 32 := ⟨31 - k.val, by omega⟩

/-- A trip's rows. -/
abbrev t64 {Val : EltTy → Type} {e : EltTy} (x : S2048x128.Idx → Val e) (k : Fin 32) : S64x128.Idx → Val e :=
  tile (R := 64) (T := 32) rfl x (rev k)

/-- The sixteen rows before a trip's rows (the first sixteen where there are none). -/
def hist {Val : EltTy → Type} {e : EltTy} (x : S2048x128.Idx → Val e) (k : Fin 32) : S16x128.Idx → Val e := fun y =>
  x (ix2 ⟨(1984 - 64 * k.val) - 16 + (y 0).val, by have h : (y 0).val < 16 := (y 0).isLt; omega⟩ (y 1))

/-- The state after a trip. -/
def convState (k : Fin 32) (hu hc : Vec F S16x128 .bf16) (tu tb tc tg ty : Vec F S64x128 .bf16) (acc : CSt F) : CSt F :=
  (k0_pay8 (k0_pay35 (k0_pay27 tg) tb ty), k0_pay38 acc.2.1 (k0_pay25 0#32 1#32 k hu tu hc tc) (k0_pay27 tg) tb ty,
    k0_pay37 acc.2.2.1 (k0_pay24 0#32 1#32 k hu tu hc tc) (k0_pay27 tg) tb ty, k0_pay36 acc.2.2.2 (k0_pay23 0#32 1#32 k hu tu hc tc) (k0_pay27 tg) tb ty)

/-- What a trip stores for `u`, `b`, `c` and the gate. -/
def convU (w : Vec F S1x1x3x128 .f32) (k : Fin 32) (hc : Vec F S16x128 .bf16) (tb tc tg ty : Vec F S64x128 .bf16) (h : FVec F S8x128 .f32) : FVec F S64x128 .bf16 :=
  k0_pay6 (tap0 w) (k0_pay21 0#32 1#32 k hc tc) (k0_pay39 h (k0_pay27 tg) tb ty) (k0_pay40 (k0_pay3 (tap2 w)) (k0_pay27 tg) tb ty)
    (k0_pay41 (k0_pay2 (tap1 w)) h (k0_pay27 tg) tb ty)
def convB (w : Vec F S1x1x3x128 .f32) (k : Fin 32) (hu hc : Vec F S16x128 .bf16) (tu tc tg ty : Vec F S64x128 .bf16) : FVec F S64x128 .bf16 :=
  k0_pay33 (k0_pay26 (k0_pay1 (tap0 w)) (k0_pay2 (tap1 w)) (k0_pay3 (tap2 w)) 0#32 1#32 k hu tu hc tc) (k0_pay27 tg) ty
def convC (w : Vec F S1x1x3x128 .f32) (k : Fin 32) (hu : Vec F S16x128 .bf16) (tu tb tg ty : Vec F S64x128 .bf16) (h : FVec F S8x128 .f32) : FVec F S64x128 .bf16 :=
  k0_pay7 (tap0 w) (k0_pay20 0#32 1#32 k hu tu) (k0_pay39 h (k0_pay27 tg) tb ty) (k0_pay40 (k0_pay3 (tap2 w)) (k0_pay27 tg) tb ty)
    (k0_pay41 (k0_pay2 (tap1 w)) h (k0_pay27 tg) tb ty)
def convG (w : Vec F S1x1x3x128 .f32) (k : Fin 32) (hu hc : Vec F S16x128 .bf16) (tu tb tc tg ty : Vec F S64x128 .bf16) : FVec F S64x128 .bf16 :=
  k0_pay34 (k0_pay26 (k0_pay1 (tap0 w)) (k0_pay2 (tap1 w)) (k0_pay3 (tap2 w)) 0#32 1#32 k hu tu hc tc) (k0_pay27 tg) tb ty

/-- The state after the first `n` trips. -/
def convSt (x0 x1 x2 x3 x6 : Vec F S2048x128 .bf16) : ℕ → CSt F :=
  foldTiles (T := 32) (fun k acc => convState k (hist x0 k) (hist x2 k) (t64 x0 k) (t64 x1 k) (t64 x2 k) (t64 x3 k) (t64 x6 k) acc)
    (k0_pay4, k0_pay4, k0_pay4, k0_pay4)

/-- The array of the chunks the trips store. -/
abbrev a64 {Val : EltTy → Type} {e : EltTy} (P : Fin 32 → S64x128.Idx → Val e) : S2048x128.Idx → Val e :=
  tiled (R := 64) (T := 32) rfl fun j => P (rev j)

/-- The four gradients as arrays. -/
def convDu (x0 x1 x2 x3 x6 : Vec F S2048x128 .bf16) (x8 : Vec F S1x1x3x128 .f32) : Vec F S2048x128 .bf16 :=
  a64 fun k => convU x8 k (hist x2 k) (t64 x1 k) (t64 x2 k) (t64 x3 k) (t64 x6 k) (convSt x0 x1 x2 x3 x6 k.val).1
def convDb (x0 x1 x2 x3 x6 : Vec F S2048x128 .bf16) (x8 : Vec F S1x1x3x128 .f32) : Vec F S2048x128 .bf16 :=
  a64 fun k => convB x8 k (hist x0 k) (hist x2 k) (t64 x0 k) (t64 x2 k) (t64 x3 k) (t64 x6 k)
def convDc (x0 x1 x2 x3 x6 : Vec F S2048x128 .bf16) (x8 : Vec F S1x1x3x128 .f32) : Vec F S2048x128 .bf16 :=
  a64 fun k => convC x8 k (hist x0 k) (t64 x0 k) (t64 x1 k) (t64 x3 k) (t64 x6 k) (convSt x0 x1 x2 x3 x6 k.val).1
def convDg (x0 x1 x2 x3 x6 : Vec F S2048x128 .bf16) (x8 : Vec F S1x1x3x128 .f32) : Vec F S2048x128 .bf16 :=
  a64 fun k => convG x8 k (hist x0 k) (hist x2 k) (t64 x0 k) (t64 x1 k) (t64 x2 k) (t64 x3 k) (t64 x6 k)

/-- The taps' gradient, one row a tap. -/
def convDw (s : CSt F) : Vec F S1x3x128 .f32 := fun y =>
  if (y 1).val = 0 then k0_pay9 s.2.1 (ix3 (y 0) 0 (y 2)) else if (y 1).val = 1 then k0_pay10 s.2.2.1 (ix3 (y 0) 0 (y 2))
  else k0_pay11 s.2.2.2 (ix3 (y 0) 0 (y 2))

/-- The three stores of the taps' gradient. -/
abbrev tapPieces (s : CSt F) : List (View.Piece (Elt F) S1x3x128 .f32) :=
  [⟨Rect.unit ![0, 2, 0] ![1, 1, 128] inb_S1x3x128_S1x1x128_0_2_0, k0_pay11 s.2.2.2⟩,
    ⟨Rect.unit ![0, 1, 0] ![1, 1, 128] inb_S1x3x128_S1x1x128_0_1_0, k0_pay10 s.2.2.1⟩,
    ⟨Rect.unit ![0, 0, 0] ![1, 1, 128] inb_S1x3x128_S1x1x128_0_0_0, k0_pay9 s.2.1⟩]

theorem tap_pieces (s : CSt F) : (∀ y, ∃ p ∈ tapPieces s, y ∈ p.1.set) ∧ View.canon (tapPieces s) = convDw s := by
  have hc : ∀ y, ∃ p ∈ tapPieces s, y ∈ p.1.set := fun y => by
    have h0 : (y 0).val < 1 := (y 0).isLt
    have h1 : (y 1).val < 3 := (y 1).isLt
    have h2 : (y 2).val < 128 := (y 2).isLt
    have hm : (y 1).val = 0 ∨ (y 1).val = 1 ∨ (y 1).val = 2 := by omega
    rcases hm with h | h | h
    · refine ⟨_, List.mem_cons_of_mem _ (List.mem_cons_of_mem _ (List.mem_singleton.mpr rfl)), (Rect.mem_set_unit (inb := inb_S1x3x128_S1x1x128_0_0_0)).mpr fun a => ?_⟩
      match a with
      | ⟨0, _⟩ => exact show 0 ≤ (y 0).val ∧ (y 0).val < 0 + 1 by omega
      | ⟨1, _⟩ => exact show 0 ≤ (y 1).val ∧ (y 1).val < 0 + 1 by omega
      | ⟨2, _⟩ => exact show 0 ≤ (y 2).val ∧ (y 2).val < 0 + 128 by omega
    · refine ⟨_, List.mem_cons_of_mem _ List.mem_cons_self, (Rect.mem_set_unit (inb := inb_S1x3x128_S1x1x128_0_1_0)).mpr fun a => ?_⟩
      match a with
      | ⟨0, _⟩ => exact show 0 ≤ (y 0).val ∧ (y 0).val < 0 + 1 by omega
      | ⟨1, _⟩ => exact show 1 ≤ (y 1).val ∧ (y 1).val < 1 + 1 by omega
      | ⟨2, _⟩ => exact show 0 ≤ (y 2).val ∧ (y 2).val < 0 + 128 by omega
    · refine ⟨_, List.mem_cons_self, (Rect.mem_set_unit (inb := inb_S1x3x128_S1x1x128_0_2_0)).mpr fun a => ?_⟩
      match a with
      | ⟨0, _⟩ => exact show 0 ≤ (y 0).val ∧ (y 0).val < 0 + 1 by omega
      | ⟨1, _⟩ => exact show 2 ≤ (y 1).val ∧ (y 1).val < 2 + 1 by omega
      | ⟨2, _⟩ => exact show 0 ≤ (y 2).val ∧ (y 2).val < 0 + 128 by omega
  have row : ∀ (P : FVec F S1x1x128 .f32) (r : ℕ) (inb : ∀ a, (![0, r, 0] : Fin 3 → ℕ) a + (![1, 1, 128] : Fin 3 → ℕ) a ≤ S1x3x128.size a) (x : S1x1x128.Idx),
      P x = P (ix3 (((Rect.unit (s := S1x3x128) ![0, r, 0] ![1, 1, 128] inb).emb x) 0) 0 (((Rect.unit (s := S1x3x128) ![0, r, 0] ![1, 1, 128] inb).emb x) 2)) := by
    intro P r inb x
    refine congrArg P (funext fun b => ?_)
    match b with
    | ⟨0, _⟩ => exact Fin.ext (show (x 0).val = 0 + 1 * (x 0).val by omega)
    | ⟨1, _⟩ => exact Fin.ext (show (x 1).val = 0 from by have h : (x 1).val < 1 := (x 1).isLt; omega)
    | ⟨2, _⟩ => exact Fin.ext (show (x 2).val = 0 + 1 * (x 2).val by omega)
  refine ⟨hc, funext fun y => View.canon_apply_of_pieces (convDw s) _ (fun p hp x => ?_) y (hc y)⟩
  simp only [List.mem_cons, List.not_mem_nil, or_false] at hp
  have hx : ∀ (q : Fin 1), 1 * q.val = 0 := fun q => by omega
  rcases hp with rfl | rfl | rfl
  · have e : (((Rect.unit (s := S1x3x128) ![0, 2, 0] ![1, 1, 128] inb_S1x3x128_S1x1x128_0_2_0).emb x) 1).val = 2 :=
      show 2 + 1 * (x 1).val = 2 from by have h : (x 1).val < 1 := (x 1).isLt; omega
    unfold convDw
    rw [if_neg (by rw [e]; decide), if_neg (by rw [e]; decide)]
    exact row (k0_pay11 s.2.2.2) 2 inb_S1x3x128_S1x1x128_0_2_0 x
  · have e : (((Rect.unit (s := S1x3x128) ![0, 1, 0] ![1, 1, 128] inb_S1x3x128_S1x1x128_0_1_0).emb x) 1).val = 1 :=
      show 1 + 1 * (x 1).val = 1 from by have h : (x 1).val < 1 := (x 1).isLt; omega
    unfold convDw
    rw [if_neg (by rw [e]; decide), if_pos (by rw [e])]
    exact row (k0_pay10 s.2.2.1) 1 inb_S1x3x128_S1x1x128_0_1_0 x
  · have e : (((Rect.unit (s := S1x3x128) ![0, 0, 0] ![1, 1, 128] inb_S1x3x128_S1x1x128_0_0_0).emb x) 1).val = 0 :=
      show 0 + 1 * (x 1).val = 0 from by have h : (x 1).val < 1 := (x 1).isLt; omega
    unfold convDw
    rw [if_pos (by rw [e])]
    exact row (k0_pay9 s.2.1) 0 inb_S1x3x128_S1x1x128_0_0_0 x

/-- A load of the sixteen rows before a trip's. -/
theorem readAt_hist {sp : Space} {e : EltTy} {a : Memref Cert.MixIdeal.sig .tc sp S2048x128 e} (f : BufTy.Contents (Elt F) a.view.ty) (x : S2048x128.Idx → Elt F e)
    (hx : a.view.read (Elt F) f = x) (k : Fin 32) (off : Fin 2 → ℕ) (hoff : off = ![(1984 - 64 * k.val) - 16, 0])
    (inb : ∀ b, off b + (![16, 128] : Fin 2 → ℕ) b ≤ S2048x128.size b) :
    View.readAt (Elt F) a.view (Rect.unit (s := S2048x128) off ![16, 128] inb).toLoadRect f = hist (Val := Elt F) x k := by
  subst hoff; subst hx
  funext y
  refine congrArg (a.view.read (Elt F) f) (funext fun b => ?_)
  match b with
  | ⟨0, _⟩ => exact Fin.ext (show (1984 - 64 * k.val) - 16 + 1 * (y 0).val = (1984 - 64 * k.val) - 16 + (y 0).val by omega)
  | ⟨1, _⟩ => exact Fin.ext (show 0 + 1 * (y 1).val = (y 1).val by omega)

/-- The state and the lists after one more trip. -/
def convStep (w : Vec F S1x1x3x128 .f32) (k : Fin 32)
    (r : CSt F × List (View.Piece (Elt F) S2048x128 .bf16) × List (View.Piece (Elt F) S2048x128 .bf16) × List (View.Piece (Elt F) S2048x128 .bf16) × List (View.Piece (Elt F) S2048x128 .bf16))
    (off : Fin 2 → ℕ) (inb : ∀ a, off a + (![64, 128] : Fin 2 → ℕ) a ≤ S2048x128.size a)
    (hu hc : Vec F S16x128 .bf16) (tu tb tc tg ty : Vec F S64x128 .bf16) :
    CSt F × List (View.Piece (Elt F) S2048x128 .bf16) × List (View.Piece (Elt F) S2048x128 .bf16) × List (View.Piece (Elt F) S2048x128 .bf16) × List (View.Piece (Elt F) S2048x128 .bf16) :=
  (convState k hu hc tu tb tc tg ty r.1,
    ⟨Rect.unit (s := S2048x128) off ![64, 128] inb, convU w k hc tb tc tg ty r.1.1⟩ :: r.2.1,
    ⟨Rect.unit (s := S2048x128) off ![64, 128] inb, convB w k hu hc tu tc tg ty⟩ :: r.2.2.1,
    ⟨Rect.unit (s := S2048x128) off ![64, 128] inb, convC w k hu tu tb tg ty r.1.1⟩ :: r.2.2.2.1,
    ⟨Rect.unit (s := S2048x128) off ![64, 128] inb, convG w k hu hc tu tb tc tg ty⟩ :: r.2.2.2.2)

/-- The loop over chunks that stores the four gradients and sums the taps'. -/
theorem conv_of_steps (x0 x1 x2 x3 x6 : Vec F S2048x128 .bf16) (x8 : Vec F S1x1x3x128 .f32)
    (st : ℕ → CSt F × List (View.Piece (Elt F) S2048x128 .bf16) × List (View.Piece (Elt F) S2048x128 .bf16) × List (View.Piece (Elt F) S2048x128 .bf16) × List (View.Piece (Elt F) S2048x128 .bf16))
    (off : Fin 32 → Fin 2 → ℕ) (hoff : ∀ k, off k = ![1984 - 64 * k.val, 0])
    (inb : ∀ k, ∀ a, off k a + (![64, 128] : Fin 2 → ℕ) a ≤ S2048x128.size a)
    (h0 : st 0 = ((k0_pay4, k0_pay4, k0_pay4, k0_pay4), [], [], [], []))
    (hs : ∀ k : Fin 32, st (k.val + 1) = convStep x8 k (st k.val) (off k) (inb k) (hist x0 k) (hist x2 k) (t64 x0 k) (t64 x1 k) (t64 x2 k) (t64 x3 k) (t64 x6 k)) :
    (st 32).1 = convSt x0 x1 x2 x3 x6 32
      ∧ ((∀ y, ∃ p ∈ (st 32).2.1, y ∈ p.1.set) ∧ View.canon (st 32).2.1 = convDu x0 x1 x2 x3 x6 x8)
      ∧ ((∀ y, ∃ p ∈ (st 32).2.2.1, y ∈ p.1.set) ∧ View.canon (st 32).2.2.1 = convDb x0 x1 x2 x3 x6 x8)
      ∧ ((∀ y, ∃ p ∈ (st 32).2.2.2.1, y ∈ p.1.set) ∧ View.canon (st 32).2.2.2.1 = convDc x0 x1 x2 x3 x6 x8)
      ∧ ((∀ y, ∃ p ∈ (st 32).2.2.2.2, y ∈ p.1.set) ∧ View.canon (st 32).2.2.2.2 = convDg x0 x1 x2 x3 x6 x8) := by
  have hoff' : ∀ k, off k = ![(rev k).val * 64, 0] := fun k => by
    rw [hoff k]; exact congrArg (fun n => ![n, 0]) (by show 1984 - 64 * k.val = (31 - k.val) * 64; omega)
  have hρ : Function.Surjective rev := fun k => ⟨rev k, Fin.ext (show 31 - (31 - k.val) = k.val by omega)⟩
  have rr : ∀ k : Fin 32, rev (rev k) = k := fun k => Fin.ext (show 31 - (31 - k.val) = k.val by omega)
  have hst : ∀ n, n ≤ 32 → (st n).1 = convSt x0 x1 x2 x3 x6 n := fun n => by
    induction n with
    | zero => intro _; rw [h0]; rfl
    | succ n ih =>
      intro hn
      rw [hs ⟨n, hn⟩, convSt, foldTiles_succ _ _ ⟨n, hn⟩]
      show convState ⟨n, hn⟩ _ _ _ _ _ _ _ (st n).1 = _
      rw [ih (Nat.le_of_succ_le hn)]; rfl
  refine ⟨hst 32 le_rfl, ?_, ?_, ?_, ?_⟩
  · refine rows_of_trips (Val := Elt F) (e := .bf16) (R := 64) (T := 32) rfl (fun j => (fun k : Fin 32 => convU x8 k (hist x2 k) (t64 x1 k) (t64 x2 k) (t64 x3 k) (t64 x6 k) (convSt x0 x1 x2 x3 x6 k.val).1) (rev j)) rev hρ off hoff' inb
      (fun n => (st n).2.1) (by show (st 0).2.1 = _; rw [h0]) (fun k => by
        show (st (k.val + 1)).2.1 = _; rw [hs k]; beta_reduce; rw [rr k]; unfold convStep; dsimp only; rw [hst k.val k.isLt.le])
  · refine rows_of_trips (Val := Elt F) (e := .bf16) (R := 64) (T := 32) rfl (fun j => (fun k : Fin 32 => convB x8 k (hist x0 k) (hist x2 k) (t64 x0 k) (t64 x2 k) (t64 x3 k) (t64 x6 k)) (rev j)) rev hρ off hoff' inb
      (fun n => (st n).2.2.1) (by show (st 0).2.2.1 = _; rw [h0]) (fun k => by
        show (st (k.val + 1)).2.2.1 = _; rw [hs k]; beta_reduce; rw [rr k]; rfl)
  · refine rows_of_trips (Val := Elt F) (e := .bf16) (R := 64) (T := 32) rfl (fun j => (fun k : Fin 32 => convC x8 k (hist x0 k) (t64 x0 k) (t64 x1 k) (t64 x3 k) (t64 x6 k) (convSt x0 x1 x2 x3 x6 k.val).1) (rev j)) rev hρ off hoff' inb
      (fun n => (st n).2.2.2.1) (by show (st 0).2.2.2.1 = _; rw [h0]) (fun k => by
        show (st (k.val + 1)).2.2.2.1 = _; rw [hs k]; beta_reduce; rw [rr k]; unfold convStep; dsimp only; rw [hst k.val k.isLt.le])
  · refine rows_of_trips (Val := Elt F) (e := .bf16) (R := 64) (T := 32) rfl (fun j => (fun k : Fin 32 => convG x8 k (hist x0 k) (hist x2 k) (t64 x0 k) (t64 x1 k) (t64 x2 k) (t64 x3 k) (t64 x6 k)) (rev j)) rev hρ off hoff' inb
      (fun n => (st n).2.2.2.2) (by show (st 0).2.2.2.2 = _; rw [h0]) (fun k => by
        show (st (k.val + 1)).2.2.2.2 = _; rw [hs k]; beta_reduce; rw [rr k]; rfl)

/-- A list of stores covers its array and leaves `d`. -/
abbrev Leaves {s : Shape} {e : EltTy} (L : List (View.Piece (Elt F) s e)) (d : s.Idx → Elt F e) : Prop :=
  (∀ y, ∃ p ∈ L, y ∈ p.1.set) ∧ View.canon L = d

/-- The offsets of the rows before a trip's. -/
theorem off1_eq : ∀ k : Fin k0_t1_loop.trips, k0_off1 k = ![(1984 - 64 * k.val) - 16, 0] := by decide +kernel

/-- The convolution half's lists are the closed forms'. -/
theorem convRun_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 h2 h3 h4 h5) (x0 x1 x2 x3 x6 : Vec F S2048x128 .bf16) (x8 : Vec F S1x1x3x128 .f32) :
    let r := convRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x0 x1 x2 x3 x6 x8
    Leaves r.1 (convDu x0 x1 x2 x3 x6 x8) ∧ Leaves r.2.1 (convDb x0 x1 x2 x3 x6 x8) ∧ Leaves r.2.2.1 (convDc x0 x1 x2 x3 x6 x8)
      ∧ Leaves r.2.2.2.1 (convDg x0 x1 x2 x3 x6 x8) ∧ Leaves r.2.2.2.2.1 (convDw (convSt x0 x1 x2 x3 x6 32)) := by
  have w0 : View.readAt (Elt F) arg9.view (Rect.unit (s := S1x1x3x128) ![0, 0, 0, 0] ![1, 1, 1, 128] inb_S1x1x3x128_S1x1x1x128_0_0_0_0).toLoadRect (harg9.unread x8) = tap0 x8 :=
    (View.readAt_eq_ld _ _ _).trans (congrArg (tap0 (F := F)) (harg9.read_unread x8))
  have w1 : View.readAt (Elt F) arg9.view (Rect.unit (s := S1x1x3x128) ![0, 0, 1, 0] ![1, 1, 1, 128] inb_S1x1x3x128_S1x1x1x128_0_0_1_0).toLoadRect (harg9.unread x8) = tap1 x8 :=
    (View.readAt_eq_ld _ _ _).trans (congrArg (tap1 (F := F)) (harg9.read_unread x8))
  have w2 : View.readAt (Elt F) arg9.view (Rect.unit (s := S1x1x3x128) ![0, 0, 2, 0] ![1, 1, 1, 128] inb_S1x1x3x128_S1x1x1x128_0_0_2_0).toLoadRect (harg9.unread x8) = tap2 x8 :=
    (View.readAt_eq_ld _ _ _).trans (congrArg (tap2 (F := F)) (harg9.read_unread x8))
  have hg := conv_of_steps x0 x1 x2 x3 x6 x8 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (tap0 x8) (tap1 x8) (tap2 x8) (harg1.unread x0) (harg2.unread x1) (harg3.unread x2) (harg4.unread x3) (harg7.unread x6) (k0_pay4, k0_pay4, k0_pay4, k0_pay4)) k0_off2 k0_off2_eq (fun k => k0_off2_inb i k h1) rfl (fun k => by
    have e : k0_off2 k = ![(rev k).val * 64, 0] := (k0_off2_eq k).trans (congrArg (fun n => ![n, 0]) (by
      show 1984 - 64 * k.val = (31 - k.val) * 64
      have := k.isLt
      omega))
    have r0 : _ = t64 x0 k := readAt_tile (R := 64) (T := 32) rfl (harg1.unread x0) x0 (harg1.read_unread x0) (rev k) (k0_off2 k) e (k0_off2_inb i k h1)
    have r1 : _ = t64 x1 k := readAt_tile (R := 64) (T := 32) rfl (harg2.unread x1) x1 (harg2.read_unread x1) (rev k) (k0_off2 k) e (k0_off2_inb i k h1)
    have r2 : _ = t64 x2 k := readAt_tile (R := 64) (T := 32) rfl (harg3.unread x2) x2 (harg3.read_unread x2) (rev k) (k0_off2 k) e (k0_off2_inb i k h1)
    have r3 : _ = t64 x3 k := readAt_tile (R := 64) (T := 32) rfl (harg4.unread x3) x3 (harg4.read_unread x3) (rev k) (k0_off2 k) e (k0_off2_inb i k h1)
    have r6 : _ = t64 x6 k := readAt_tile (R := 64) (T := 32) rfl (harg7.unread x6) x6 (harg7.read_unread x6) (rev k) (k0_off2 k) e (k0_off2_inb i k h1)
    have g0 := readAt_hist (harg1.unread x0) x0 (harg1.read_unread x0) k (k0_off1 k) (off1_eq k) (k0_off1_inb i k h1)
    have g2 := readAt_hist (harg3.unread x2) x2 (harg3.read_unread x2) k (k0_off1 k) (off1_eq k) (k0_off1_inb i k h1)
    refine (st_k0_t1_succ ..).trans ?_
    unfold tripR_k0_t1 tripL_k0_t1 trip_k0_t1
    dsimp only
    rw [← r0, ← r1, ← r2, ← r3, ← r6, ← g0, ← g2]
    unfold convStep
    rfl)
  obtain ⟨ha, hu, hb, hcc, hgg⟩ := hg
  refine ⟨left_of_eq ?_ hu, left_of_eq ?_ hb, left_of_eq ?_ hcc, left_of_eq ?_ hgg, left_of_eq ?_ (tap_pieces _)⟩
  all_goals (unfold convRun; dsimp only; rw [w0, w1, w2])
  · rfl
  · rfl
  · rfl
  · rfl
  · exact congrArg tapPieces ha

end Cert.Proof.Mix

end
-- ==== Proof.Mix.PoolAt.lean ====
/-
  The pooling mixer's gradients at an index, over the extended reals: the arrays the loops leave, read at a row and a
  column.
-/
module

public import proofs.«01_k».proof.Proof.Mix.Closed
public import proofs.«01_k».proof.Proof.Mix.Math

@[expose] public section

set_option maxRecDepth 16384

noncomputable section

namespace Cert.Proof.Mix

open Cert.MixIdeal Cert.MixIdeal.Gen Idealize.ShloMosaic Idealize.ShloMosaic.Routing

/-- The logistic function. -/
abbrev sig (x : EReal) : EReal := Ideal.div 1 (1 + Ideal.exp (-x))

/-- Row `R` lies in a tile of 128 rows. -/
theorem row128 (R : Fin 2048) : ∃ (k : Fin 16) (a : Fin 128), R.val = k.val * 128 + a.val :=
  ⟨⟨R.val / 128, by omega⟩, ⟨R.val % 128, by omega⟩, by show R.val = R.val / 128 * 128 + R.val % 128; omega⟩

/-- A tile's row is the array's. -/
theorem t128_at {e : EltTy} (x : S2048x128.Idx → Elt Ideal e) (k : Fin 16) (a : Fin 128) (d : Fin 128) (R : Fin 2048) (h : R.val = k.val * 128 + a.val) :
    t128 (Val := Elt Ideal) (e := e) x k (ix2 a d) = x (ix2 R d) :=
  congrArg x (congrArg (fun r => ix2 r d) (Fin.ext h.symm))

theorem mixed_at (w : Vec Ideal S1x1x128x128 .f32) (p : Vec Ideal S2048x128 .bf16) (R : Fin 2048) (d : Fin 128) :
    k0_pay43 w p (ix2 R d) = ∑ c : Fin 128, p (ix2 R c) * w (ix4 0 0 c d) := by
  pointwise [k0_pay43, k0_pay42]

theorem gate_at (g : Vec Ideal S128x128 .bf16) (i : S128x128.Idx) : k0_pay48 g i = sig (g i) := by
  pointwise [k0_pay48, k0_pay46]
  exact logistic_of_tanh _

theorem dmix_at (sc : Vec Ideal S1x1x128 .f32) (g dy : Vec Ideal S2048x128 .bf16) (R : Fin 2048) (d : Fin 128) :
    poolDmix sc g dy (ix2 R d) = dy (ix2 R d) * (g (ix2 R d) * sig (g (ix2 R d))) * sc (ix3 0 0 d) := by
  obtain ⟨k, a, h⟩ := row128 R
  unfold poolDmix
  refine (tiled_at (R := 128) (T := 16) rfl _ k a d (ix2 R d) h rfl).trans ?_
  pointwise [k0_pay52, k0_pay51, k0_pay49, k0_pay47, k0_pay46, k0_pay44]
  rw [gate_at, t128_at g k a d R h, t128_at dy k a d R h]

theorem dg_at (sc : Vec Ideal S1x1x128 .f32) (g dy : Vec Ideal S2048x128 .bf16) (mx : Vec Ideal S2048x128 .f32) (R : Fin 2048) (d : Fin 128) :
    poolDg sc g dy mx (ix2 R d) = dy (ix2 R d) * mx (ix2 R d) * sc (ix3 0 0 d)
      * (sig (g (ix2 R d)) + g (ix2 R d) * sig (g (ix2 R d)) * (1 - sig (g (ix2 R d)))) := by
  obtain ⟨k, a, h⟩ := row128 R
  unfold poolDg
  refine (tiled_at (R := 128) (T := 16) rfl _ k a d (ix2 R d) h rfl).trans ?_
  pointwise [k0_pay50, k0_pay49, k0_pay47, k0_pay46, k0_pay44]
  rw [gate_at, t128_at g k a d R h, t128_at dy k a d R h, t128_at mx k a d R h]

theorem dwp_at (p dm : Vec Ideal S2048x128 .bf16) (c d : Fin 128) :
    k0_pay12 p dm (ix3 0 c d) = ∑ R : Fin 2048, p (ix2 R c) * dm (ix2 R d) := by
  pointwise [k0_pay12]

theorem dp_at (w : Vec Ideal S1x1x128x128 .f32) (dm : Vec Ideal S2048x128 .bf16) (R : Fin 2064) (c : Fin 128) :
    poolDp w dm (ix2 R c) = if h : R.val < 2048 then ∑ d : Fin 128, dm (ix2 ⟨R.val, h⟩ d) * w (ix4 0 0 c d) else 0 := by
  unfold poolDp
  show (if h : R.val < 2048 then _ else _) = _
  split
  · pointwise [k0_pay55, k0_pay42]
  · pointwise [k0_pay56]

/-- The number of rows a window of `w` rows ending at row `n` has. -/
abbrev cnt (w n : ℕ) : ℝ := ((min (n + 1) w : ℕ) : ℝ)

theorem cnt_ne {w n : ℕ} (hw : 0 < w) : cnt w n ≠ 0 := Nat.cast_ne_zero.mpr (by omega)

/-- A kernel's row count, a word, is the number. -/
theorem cnt_word (k : Fin 16) (a w : ℕ) (ha : a < 144) (hw : w ≤ 16) :
    FloatOps.sitofp (F := Ideal) FTy.f32 (IntOp.minsi (IntOp.addi (IntOp.addi (Scalar.muli (Scf.iv 0#32 1#32 k.val) 128#32) (BitVec.ofNat 32 a)) 1#32)
        (BitVec.ofNat 32 w)) = ((cnt w (k.val * 128 + a) : ℝ) : EReal) := by
  have e : IntOp.addi (IntOp.addi (Scalar.muli (Scf.iv 0#32 1#32 k.val) 128#32) (BitVec.ofNat 32 a)) 1#32 = BitVec.ofNat 32 (k.val * 128 + a + 1) := by
    show (0#32 + BitVec.ofNat 32 k.val * 1#32) * 128#32 + BitVec.ofNat 32 a + 1#32 = _
    refine BitVec.eq_of_toNat_eq ?_
    simp only [BitVec.toNat_add, BitVec.toNat_mul, BitVec.toNat_ofNat]
    omega
  rw [e]
  show ((((IntOp.minsi (BitVec.ofNat 32 (k.val * 128 + a + 1)) (BitVec.ofNat 32 w)).toInt : ℤ) : ℝ) : EReal) = _
  have h1 : (BitVec.ofNat 32 (k.val * 128 + a + 1)).toInt = ((k.val * 128 + a + 1 : ℕ) : ℤ) := Idealize.ShloMosaic.WordCmp.toInt_ofNat_of_lt (by omega)
  have h2 : (BitVec.ofNat 32 w).toInt = ((w : ℕ) : ℤ) := Idealize.ShloMosaic.WordCmp.toInt_ofNat_of_lt (by omega)
  have h3 : (IntOp.minsi (BitVec.ofNat 32 (k.val * 128 + a + 1)) (BitVec.ofNat 32 w)).toInt = ((min (k.val * 128 + a + 1) w : ℕ) : ℤ) := by
    unfold IntOp.minsi
    simp only [BitVec.slt, h1, h2, decide_eq_true_eq]
    split
    · rw [h1]; omega
    · rw [h2]; omega
  rw [h3]
  rfl

/-- A row of the divided rows, a tile at a time. -/
def divRow (w : ℕ) (k : Fin 16) (x : Vec Ideal S144x128 .f32) (l : Fin 128) (n : ℕ) : EReal :=
  if h : n < 144 then Ideal.div (x (ix2 ⟨n, h⟩ l)) ((cnt w (k.val * 128 + n) : ℝ) : EReal) else 0

theorem divRow_eq (w : ℕ) (hw : w ≤ 16) (k : Fin 16) (x : Vec Ideal S144x128 .f32) (l : Fin 128) (n : ℕ) (h : n < 144) :
    Ideal.div (x (ix2 ⟨n, h⟩ l))
      (FloatOps.sitofp (F := Ideal) FTy.f32 (IntOp.minsi (IntOp.addi (IntOp.addi (Scalar.muli (Scf.iv 0#32 1#32 k.val) 128#32) (BitVec.ofNat 32 n)) 1#32)
        (BitVec.ofNat 32 w))) = divRow w k x l n := by
  rw [cnt_word k n w h hw, divRow, dif_pos h]

theorem roll1 (n : ℕ) (h : n < 143) : (n + 144 - 143) % 144 = n + 1 := by omega
theorem roll2 (n : ℕ) (h : n < 142) : (n + 144 - 142) % 144 = n + 2 := by omega
theorem roll4 (n : ℕ) (h : n < 140) : (n + 144 - 140) % 144 = n + 4 := by omega
theorem roll8 (n : ℕ) (h : n < 136) : (n + 144 - 136) % 144 = n + 8 := by omega

/-- A tile of the window sum's gradient: the sum of the window of divided rows from the row on, less the row. -/
theorem b13 (k : Fin 16) (x : Vec Ideal S144x128 .f32) (a : Fin 128) (l : Fin 128) :
    k0_pay13 k x (ix2 a l) = (∑ d : Fin 2, divRow 2 k x l (a.val + d.val)) - x (ix2 ⟨a.val, by omega⟩ l) := by
  pointwise [k0_pay13]
  simp only [divRow_eq 2 (by decide)]
  simp (disch := omega) only [roll1]
  rw [Fin.sum_univ_eq_sum_range (fun d => divRow 2 k x l (a.val + d))]
  simp only [Finset.sum_range_succ, Finset.sum_range_zero, zero_add, add_zero]

theorem b15 (k : Fin 16) (x : Vec Ideal S144x128 .f32) (a : Fin 128) (l : Fin 128) :
    k0_pay15 k x (ix2 a l) = (∑ d : Fin 4, divRow 4 k x l (a.val + d.val)) - x (ix2 ⟨a.val, by omega⟩ l) := by
  pointwise [k0_pay15]
  simp only [divRow_eq 4 (by decide)]
  simp (disch := omega) only [roll1, roll2]
  rw [Fin.sum_univ_eq_sum_range (fun d => divRow 4 k x l (a.val + d))]
  simp only [Finset.sum_range_succ, Finset.sum_range_zero, zero_add, add_zero, add_assoc, Nat.reduceAdd]

theorem b17 (k : Fin 16) (x : Vec Ideal S144x128 .f32) (a : Fin 128) (l : Fin 128) :
    k0_pay17 k x (ix2 a l) = (∑ d : Fin 8, divRow 8 k x l (a.val + d.val)) - x (ix2 ⟨a.val, by omega⟩ l) := by
  pointwise [k0_pay17]
  simp only [divRow_eq 8 (by decide)]
  simp (disch := omega) only [roll1, roll2, roll4]
  rw [Fin.sum_univ_eq_sum_range (fun d => divRow 8 k x l (a.val + d))]
  simp only [Finset.sum_range_succ, Finset.sum_range_zero, zero_add, add_zero, add_assoc, Nat.reduceAdd]

theorem b19 (k : Fin 16) (x : Vec Ideal S144x128 .f32) (a : Fin 128) (l : Fin 128) :
    k0_pay19 k x (ix2 a l) = (∑ d : Fin 16, divRow 16 k x l (a.val + d.val)) - x (ix2 ⟨a.val, by omega⟩ l) := by
  pointwise [k0_pay19]
  simp only [divRow_eq 16 (by decide)]
  simp (disch := omega) only [roll1, roll2, roll4, roll8]
  rw [Fin.sum_univ_eq_sum_range (fun d => divRow 16 k x l (a.val + d))]
  simp only [Finset.sum_range_succ, Finset.sum_range_zero, zero_add, add_zero, add_assoc, Nat.reduceAdd]

/-- The gradient of a group's input: the sum of the window of divided rows from the row on, those past the last row left
out, less the row. -/
theorem du_at (w : ℕ) (hw : 0 < w ∧ w ≤ 16) (B : Fin 16 → Vec Ideal S144x128 .f32 → FVec Ideal S128x128 .bf16)
    (hB : ∀ (k : Fin 16) (x : Vec Ideal S144x128 .f32) (a : Fin 128) (l : Fin 128),
      B k x (ix2 a l) = (∑ d : Fin w, divRow w k x l (a.val + d.val)) - x (ix2 ⟨a.val, by omega⟩ l))
    (wt : Vec Ideal S1x1x128x128 .f32) (dm : Vec Ideal S2048x128 .bf16) (R : Fin 2048) (l : Fin 128)
    (p : Fin 2048 → EReal) (hp : ∀ n : Fin 2048, ∑ d : Fin 128, dm (ix2 n d) * wt (ix4 0 0 l d) = p n) :
    poolDu B (poolDp wt dm) (ix2 R l)
      = (∑ d : Fin w, if h : R.val + d.val < 2048 then Ideal.div (p ⟨R.val + d.val, h⟩) ((cnt w (R.val + d.val) : ℝ) : EReal) else 0) - p R := by
  obtain ⟨k, a, h⟩ := row128 R
  unfold poolDu
  refine (tiled_at (R := 128) (T := 16) rfl _ k a l (ix2 R l) h rfl).trans ?_
  rw [hB]
  have hr : ∀ (n : ℕ) (hn : n < 144), rows144 (poolDp wt dm) k (ix2 ⟨n, hn⟩ l) = if hh : k.val * 128 + n < 2048 then p ⟨k.val * 128 + n, hh⟩ else 0 := by
    intro n hn
    refine (dp_at wt dm ⟨k.val * 128 + n, by omega⟩ l).trans ?_
    split
    · exact hp _
    · rfl
  refine congrArg₂ (· - ·) (Finset.sum_congr rfl fun d _ => ?_) ?_
  · have hd := d.isLt
    have hn : a.val + d.val < 144 := by omega
    have e : k.val * 128 + (a.val + d.val) = R.val + d.val := by omega
    unfold divRow
    rw [dif_pos hn, hr _ hn]
    by_cases hh : R.val + d.val < 2048
    · rw [dif_pos hh, dif_pos (by omega)]
      congr 3
    · rw [dif_neg hh, dif_neg (by omega), Ideal.div_coe (cnt_ne hw.1), zero_mul]
  · rw [hr a.val (by omega), dif_pos (by omega)]
    exact congrArg p (Fin.ext h.symm)

/-- A value every tile adds to, after the first `n` tiles. -/
theorem fold_sum {α : Type} {T : ℕ} (A : Fin T → α → α) (a : α) (get : α → EReal) (f : ℕ → EReal) (h0 : get a = 0)
    (hA : ∀ k acc, get (A k acc) = get acc + f k.val) : ∀ n, n ≤ T → get (foldTiles A a n) = ∑ k ∈ Finset.range n, f k := by
  intro n
  induction n with
  | zero => intro _; rw [Finset.sum_range_zero]; exact h0
  | succ n ih =>
    intro hn
    rw [foldTiles_succ A a ⟨n, hn⟩, hA, ih (by omega), Finset.sum_range_succ]

/-- The scale's gradient. -/
theorem ds_at (g dy : Vec Ideal S2048x128 .bf16) (mx : Vec Ideal S2048x128 .f32) (l : Fin 128) :
    k0_pay54 (poolAcc g dy mx 16) (ix2 0 l) = ∑ R : Fin 2048, dy (ix2 R l) * (g (ix2 R l) * sig (g (ix2 R l))) * mx (ix2 R l) := by
  have hs : ∀ (b : Fin 8) (k : Fin 16) (acc : FVec Ideal S8x128 .f32), k0_pay53 acc (t128 g k) (t128 dy k) (t128 mx k) (ix2 b l)
      = acc (ix2 b l) + ∑ q : Fin 16, onRows (fun R : Fin 2048 => dy (ix2 R l) * (g (ix2 R l) * sig (g (ix2 R l))) * mx (ix2 R l)) (k.val * (16 * 8) + (q.val * 8 + b.val)) := by
    intro b k acc
    pointwise [k0_pay53, k0_pay51, k0_pay49, k0_pay47, k0_pay46]
    refine congrArg (acc (ix2 b l) + ·) (Fin.sum_fin_congr fun q => ?_)
    rw [onRows_of_lt _ _ (by have := k.isLt; have := q.isLt; have := b.isLt; omega), gate_at, t128_at g k _ l ⟨k.val * 128 + (q.val * 8 + b.val), by omega⟩ rfl, t128_at dy k _ l ⟨k.val * 128 + (q.val * 8 + b.val), by omega⟩ rfl, t128_at mx k _ l ⟨k.val * 128 + (q.val * 8 + b.val), by omega⟩ rfl]
  rw [← sum_of_eight _ 16 16 rfl]
  pointwise [k0_pay54]
  refine Fin.sum_fin_congr fun b => ?_
  exact fold_sum _ _ (fun acc : FVec Ideal S8x128 .f32 => acc (ix2 b l)) _ (by pointwise [k0_pay45]) (hs b) 16 le_rfl

end Cert.Proof.Mix

end
-- ==== Proof.Mix.ConvAt.lean ====
/-
  The convolution mixer's gradients at an index, over the extended reals: the arrays the loop over chunks leaves, read at
  a row and a column.
-/
module

public import proofs.«01_k».proof.Proof.Mix.ConvClosed
public import proofs.«01_k».proof.Proof.Mix.PoolAt

@[expose] public section

set_option maxRecDepth 16384

noncomputable section

namespace Cert.Proof.Mix

open Cert.MixIdeal Cert.MixIdeal.Gen Idealize.ShloMosaic

section At

variable (x0 x1 x2 x3 x6 : Vec Ideal S2048x128 .bf16) (x8 : Vec Ideal S1x1x3x128 .f32) (d : Fin 128)

/-- A column of the convolved product, and of the product `n` rows before, zero before the first row. -/
abbrev ca (R : Fin 2048) : EReal := x2 (ix2 R d) * x0 (ix2 R d)
abbrev lag (n : ℕ) (R : Fin 2048) : EReal := if h : n ≤ R.val then ca x0 x2 d ⟨R.val - n, by omega⟩ else 0
/-- A column of the convolution. -/
abbrev conv (R : Fin 2048) : EReal :=
  x8 (ix4 0 0 2 d) * ca x0 x2 d R + x8 (ix4 0 0 1 d) * lag x0 x2 d 1 R + x8 (ix4 0 0 0 d) * lag x0 x2 d 2 R
/-- A column of the convolution's gradient. -/
abbrev dconv (R : Fin 2048) : EReal := x6 (ix2 R d) * x1 (ix2 R d) * (x3 (ix2 R d) * sig (x3 (ix2 R d)))
/-- A column of the product's gradient: the taps against the rows from the row on, zero past the last row. -/
abbrev dca (R : Fin 2048) : EReal :=
  x8 (ix4 0 0 2 d) * dconv x1 x3 x6 d R + x8 (ix4 0 0 1 d) * onRows (dconv x1 x3 x6 d) (R.val + 1) + x8 (ix4 0 0 0 d) * onRows (dconv x1 x3 x6 d) (R.val + 2)

/-- Row `R` lies in a trip's chunk. -/
theorem row64 (R : Fin 2048) : ∃ (k : Fin 32) (a : Fin 64), R.val = (31 - k.val) * 64 + a.val :=
  ⟨⟨31 - R.val / 64, by omega⟩, ⟨R.val % 64, by omega⟩, by show R.val = (31 - (31 - R.val / 64)) * 64 + R.val % 64; omega⟩

/-- A chunk's row is the array's. -/
theorem t64_at {e : EltTy} (x : S2048x128.Idx → Elt Ideal e) (k : Fin 32) (a : Fin 64) (R : Fin 2048) (h : R.val = (31 - k.val) * 64 + a.val) :
    t64 (Val := Elt Ideal) (e := e) x k (ix2 a d) = x (ix2 R d) :=
  congrArg x (congrArg (fun r => ix2 r d) (Fin.ext h.symm))

/-- The word that says a chunk is the first. -/
theorem first_word : ∀ k : Fin 32, Scalar.cmpi .eq (Scalar.subi 31#32 (Scf.iv 0#32 1#32 k.val)) 0#32 = if k.val = 31 then 1#1 else 0#1 := by
  decide +kernel

/-- The rows a chunk reads, the sixteen before it included: zero before the first row. -/
abbrev wide (x : Vec Ideal S2048x128 .bf16) (m : ℕ) : EReal := if h : 16 ≤ m ∧ m < 2064 then x (ix2 ⟨m - 16, by omega⟩ d) else 0

theorem wide_of (x : Vec Ideal S2048x128 .bf16) (k : Fin 32) (n : Fin 80) :
    (if h : n.val < 16 then Scalar.select (Scalar.cmpi CmpIPredicate.eq (Scalar.subi (31#32) (Scf.iv 0#32 1#32 k.val)) 0#32) (0 : EReal) (hist x k (ix2 ⟨n.val, h⟩ d))
      else t64 x k (ix2 ⟨n.val - 16, by omega⟩ d)) = wide d x ((31 - k.val) * 64 + n.val) := by
  have hk := k.isLt
  have hn := n.isLt
  unfold wide
  rw [first_word]
  by_cases h : n.val < 16
  · rw [dif_pos h]
    by_cases h1 : k.val = 31
    · rw [if_pos h1, dif_neg (by omega)]
      rfl
    · rw [if_neg h1, dif_pos (by omega)]
      refine congrArg x (congrArg (fun r => ix2 r d) (Fin.ext ?_))
      show (1984 - 64 * k.val) - 16 + n.val = _
      dsimp only
      omega
  · rw [dif_neg h, dif_pos (by omega)]
    exact t64_at d x k _ _ (by dsimp only; omega)

theorem wide_u (k : Fin 32) (n : Fin 80) : k0_pay20 0#32 1#32 k (hist x0 k) (t64 x0 k) (ix2 n d) = wide d x0 ((31 - k.val) * 64 + n.val) := by
  rw [← wide_of]
  pointwise [k0_pay20]
theorem wide_c (k : Fin 32) (n : Fin 80) : k0_pay21 0#32 1#32 k (hist x2 k) (t64 x2 k) (ix2 n d) = wide d x2 ((31 - k.val) * 64 + n.val) := by
  rw [← wide_of]
  pointwise [k0_pay21]

theorem wide_row (x : Vec Ideal S2048x128 .bf16) (R : Fin 2048) (m : ℕ) (h : m = R.val + 16) : wide d x m = x (ix2 R d) := by
  unfold wide
  rw [dif_pos (by omega)]
  exact congrArg x (congrArg (fun r => ix2 r d) (Fin.ext (by dsimp only; omega)))

theorem wide_lag (n : ℕ) (hn : n ≤ 16) (R : Fin 2048) (m : ℕ) (h : m + n = R.val + 16) : wide d x2 m * wide d x0 m = lag x0 x2 d n R := by
  unfold wide lag
  by_cases h1 : n ≤ R.val
  · rw [dif_pos (by omega), dif_pos (by omega), dif_pos h1]
    have e : ∀ hh, (⟨m - 16, hh⟩ : Fin 2048) = ⟨R.val - n, by omega⟩ := fun hh => Fin.ext (by dsimp only; omega)
    rw [e]
  · rw [dif_neg (by omega), dif_neg (by omega), dif_neg h1, zero_mul]

theorem prod_at (k : Fin 32) (n : Fin 80) : k0_pay22 0#32 1#32 k (hist x0 k) (t64 x0 k) (hist x2 k) (t64 x2 k) (ix2 n d)
    = wide d x2 ((31 - k.val) * 64 + n.val) * wide d x0 ((31 - k.val) * 64 + n.val) := by
  pointwise [k0_pay22]
  rw [wide_u, wide_c]

theorem ca0_at (k : Fin 32) (a : Fin 64) (R : Fin 2048) (h : R.val = (31 - k.val) * 64 + a.val) :
    k0_pay23 0#32 1#32 k (hist x0 k) (t64 x0 k) (hist x2 k) (t64 x2 k) (ix2 a d) = ca x0 x2 d R := by
  pointwise [k0_pay23]
  rw [prod_at, wide_row d x0 R _ (by dsimp only; omega), wide_row d x2 R _ (by dsimp only; omega)]
theorem ca1_at (k : Fin 32) (a : Fin 64) (R : Fin 2048) (h : R.val = (31 - k.val) * 64 + a.val) :
    k0_pay24 0#32 1#32 k (hist x0 k) (t64 x0 k) (hist x2 k) (t64 x2 k) (ix2 a d) = lag x0 x2 d 1 R := by
  pointwise [k0_pay24]
  rw [prod_at, wide_lag x0 x2 d 1 (by decide) R _ (by dsimp only; omega)]
theorem ca2_at (k : Fin 32) (a : Fin 64) (R : Fin 2048) (h : R.val = (31 - k.val) * 64 + a.val) :
    k0_pay25 0#32 1#32 k (hist x0 k) (t64 x0 k) (hist x2 k) (t64 x2 k) (ix2 a d) = lag x0 x2 d 2 R := by
  pointwise [k0_pay25]
  rw [prod_at, wide_lag x0 x2 d 2 (by decide) R _ (by dsimp only; omega)]

theorem tap0_at : k0_pay1 (tap0 x8) (ix2 0 d) = x8 (ix4 0 0 0 d) := by
  pointwise [k0_pay1]
  exact congrArg x8 (by ext i; fin_cases i <;> first | rfl | exact Nat.zero_add d.val | (show 0 + d.val * 1 = d.val; omega) | (show 0 + 1 * d.val = d.val; omega))
theorem tap1_at : k0_pay2 (tap1 x8) (ix2 0 d) = x8 (ix4 0 0 1 d) := by
  pointwise [k0_pay2]
  exact congrArg x8 (by ext i; fin_cases i <;> first | rfl | exact Nat.zero_add d.val | (show 0 + d.val * 1 = d.val; omega) | (show 0 + 1 * d.val = d.val; omega))
theorem tap2_at : k0_pay3 (tap2 x8) (ix2 0 d) = x8 (ix4 0 0 2 d) := by
  pointwise [k0_pay3]
  exact congrArg x8 (by ext i; fin_cases i <;> first | rfl | exact Nat.zero_add d.val | (show 0 + d.val * 1 = d.val; omega) | (show 0 + 1 * d.val = d.val; omega))

theorem conv_at (k : Fin 32) (a : Fin 64) (R : Fin 2048) (h : R.val = (31 - k.val) * 64 + a.val) :
    k0_pay26 (k0_pay1 (tap0 x8)) (k0_pay2 (tap1 x8)) (k0_pay3 (tap2 x8)) 0#32 1#32 k (hist x0 k) (t64 x0 k) (hist x2 k) (t64 x2 k) (ix2 a d)
      = conv x0 x2 x8 d R := by
  pointwise [k0_pay26]
  rw [tap0_at, tap1_at, tap2_at, ca0_at x0 x2 d k a R h, ca1_at x0 x2 d k a R h, ca2_at x0 x2 d k a R h]

theorem sig_at (v : FVec Ideal S64x128 .f32) (i : S64x128.Idx) : k0_pay30 v i = Cert.Proof.Mix.sig (v i) := by
  pointwise [k0_pay30]
  exact logistic_of_tanh _

theorem dconv_at (k : Fin 32) (a : Fin 64) (R : Fin 2048) (h : R.val = (31 - k.val) * 64 + a.val) :
    k0_pay35 (k0_pay27 (t64 x3 k)) (t64 x1 k) (t64 x6 k) (ix2 a d) = dconv x1 x3 x6 d R := by
  pointwise [k0_pay35, k0_pay31, k0_pay29, k0_pay28]
  rw [sig_at]
  pointwise [k0_pay27]
  rw [t64_at d x1 k a R h, t64_at d x3 k a R h, t64_at d x6 k a R h]

/-- The first rows of the convolution's gradient, kept from the chunk after. -/
theorem head_at (n : ℕ) (hn : n ≤ 32) (b : Fin 8) :
    (convSt x0 x1 x2 x3 x6 n).1 (ix2 b d) = onRows (dconv x1 x3 x6 d) ((32 - n) * 64 + b.val) := by
  unfold convSt
  cases n with
  | zero =>
    unfold onRows
    rw [dif_neg (by omega)]
    show k0_pay4 (ix2 b d) = 0
    pointwise [k0_pay4]
  | succ n =>
    rw [foldTiles_succ (T := 32) _ _ ⟨n, hn⟩]
    show k0_pay8 (k0_pay35 (k0_pay27 (t64 x3 ⟨n, hn⟩)) (t64 x1 ⟨n, hn⟩) (t64 x6 ⟨n, hn⟩)) (ix2 b d) = _
    pointwise [k0_pay8]
    rw [dconv_at x1 x3 x6 d ⟨n, hn⟩ _ ⟨(31 - n) * 64 + b.val, by omega⟩ rfl]
    rw [onRows_of_lt _ _ (by omega)]
    exact congrArg (dconv x1 x3 x6 d) (Fin.ext (by dsimp only; omega))

/-- A chunk of the convolution's gradient with the rows after it. -/
theorem long_at (k : Fin 32) (n : Fin 72) :
    k0_pay39 (convSt x0 x1 x2 x3 x6 k.val).1 (k0_pay27 (t64 x3 k)) (t64 x1 k) (t64 x6 k) (ix2 n d)
      = onRows (dconv x1 x3 x6 d) ((31 - k.val) * 64 + n.val) := by
  have hk := k.isLt
  have hn := n.isLt
  pointwise [k0_pay39]
  split
  · rw [dconv_at x1 x3 x6 d k _ ⟨(31 - k.val) * 64 + n.val, by omega⟩ rfl, onRows_of_lt _ _ (by omega)]
  · rw [head_at x0 x1 x2 x3 x6 d k.val (by omega)]
    exact congrArg (onRows (dconv x1 x3 x6 d)) (by dsimp only; omega)

theorem dca_at (k : Fin 32) (a : Fin 64) (R : Fin 2048) (h : R.val = (31 - k.val) * 64 + a.val) :
    k0_pay5 (tap0 x8) (k0_pay39 (convSt x0 x1 x2 x3 x6 k.val).1 (k0_pay27 (t64 x3 k)) (t64 x1 k) (t64 x6 k))
        (k0_pay40 (k0_pay3 (tap2 x8)) (k0_pay27 (t64 x3 k)) (t64 x1 k) (t64 x6 k))
        (k0_pay41 (k0_pay2 (tap1 x8)) (convSt x0 x1 x2 x3 x6 k.val).1 (k0_pay27 (t64 x3 k)) (t64 x1 k) (t64 x6 k)) (ix2 a d)
      = dca x1 x3 x6 x8 d R := by
  pointwise [k0_pay5, k0_pay40, k0_pay41]
  rw [tap0_at, tap1_at, tap2_at, dconv_at x1 x3 x6 d k a R h, long_at, long_at]
  have e1 : (31 - k.val) * 64 + (a.val + 72 - 71) % 72 = R.val + 1 := by omega
  have e2 : (31 - k.val) * 64 + (a.val + 72 - 70) % 72 = R.val + 2 := by omega
  rw [e1, e2]

/-- A row of the array of chunks. -/
theorem a64_at (P : Fin 32 → S64x128.Idx → EReal) (k : Fin 32) (a : Fin 64) (R : Fin 2048) (h : R.val = (31 - k.val) * 64 + a.val) :
    a64 (Val := Elt Ideal) (e := .bf16) P (ix2 R d) = P k (ix2 a d) := by
  refine (tiled_at (Val := Elt Ideal) (e := .bf16) (R := 64) (T := 32) rfl (fun j => P (rev j)) (rev k) a d (ix2 R d) h rfl).trans ?_
  have e : rev (rev k) = k := Fin.ext (by have := k.isLt; show 31 - (31 - k.val) = k.val; omega)
  show P (rev (rev k)) (ix2 a d) = _
  rw [e]

theorem convDu_at (R : Fin 2048) : convDu x0 x1 x2 x3 x6 x8 (ix2 R d) = dca x1 x3 x6 x8 d R * x2 (ix2 R d) := by
  obtain ⟨k, a, h⟩ := row64 R
  unfold convDu
  refine (a64_at d _ k a R h).trans ?_
  pointwise [convU, k0_pay6]
  rw [dca_at x0 x1 x2 x3 x6 x8 d k a R h, wide_c, wide_row d x2 R _ (by dsimp only; omega)]
theorem convDc_at (R : Fin 2048) : convDc x0 x1 x2 x3 x6 x8 (ix2 R d) = dca x1 x3 x6 x8 d R * x0 (ix2 R d) := by
  obtain ⟨k, a, h⟩ := row64 R
  unfold convDc
  refine (a64_at d _ k a R h).trans ?_
  pointwise [convC, k0_pay7]
  rw [dca_at x0 x1 x2 x3 x6 x8 d k a R h, wide_u, wide_row d x0 R _ (by dsimp only; omega)]
theorem convDb_at (R : Fin 2048) : convDb x0 x1 x2 x3 x6 x8 (ix2 R d)
    = x6 (ix2 R d) * conv x0 x2 x8 d R * (x3 (ix2 R d) * Cert.Proof.Mix.sig (x3 (ix2 R d))) := by
  obtain ⟨k, a, h⟩ := row64 R
  unfold convDb
  refine (a64_at d _ k a R h).trans ?_
  pointwise [convB, k0_pay33, k0_pay32, k0_pay31, k0_pay29]
  rw [conv_at x0 x2 x8 d k a R h, sig_at]
  pointwise [k0_pay27]
  rw [t64_at d x3 k a R h, t64_at d x6 k a R h]
theorem convDg_at (R : Fin 2048) : convDg x0 x1 x2 x3 x6 x8 (ix2 R d)
    = x6 (ix2 R d) * conv x0 x2 x8 d R * x1 (ix2 R d) * (Cert.Proof.Mix.sig (x3 (ix2 R d))
      + x3 (ix2 R d) * Cert.Proof.Mix.sig (x3 (ix2 R d)) * (1 - Cert.Proof.Mix.sig (x3 (ix2 R d)))) := by
  obtain ⟨k, a, h⟩ := row64 R
  unfold convDg
  refine (a64_at d _ k a R h).trans ?_
  pointwise [convG, k0_pay34, k0_pay32, k0_pay31, k0_pay28, k0_pay29]
  rw [conv_at x0 x2 x8 d k a R h, sig_at]
  pointwise [k0_pay27]
  rw [t64_at d x1 k a R h, t64_at d x3 k a R h, t64_at d x6 k a R h]

/-- A tap's gradient: the sum over the rows of the convolution's gradient times the product the tap meets. -/
theorem tap_sum (L : Fin 2048 → EReal) (A : Fin 32 → CSt Ideal → CSt Ideal) (s0 : CSt Ideal) (get : CSt Ideal → FVec Ideal S8x128 .f32)
    (h0 : ∀ b : Fin 8, get s0 (ix2 b d) = 0)
    (hA : ∀ (b : Fin 8) k acc, get (A k acc) (ix2 b d) = get acc (ix2 b d)
      + ∑ q : Fin 8, onRows (fun R => dconv x1 x3 x6 d R * L R) ((31 - k.val) * (8 * 8) + (q.val * 8 + b.val))) :
    ∑ b : Fin 8, get (foldTiles A s0 32) (ix2 b d) = ∑ R : Fin 2048, dconv x1 x3 x6 d R * L R := by
  rw [← sum_of_eight _ 32 8 rfl]
  refine Finset.sum_congr rfl fun b _ => ?_
  rw [fold_sum A s0 (fun s => get s (ix2 b d))
    (fun k => ∑ q : Fin 8, onRows (fun R => dconv x1 x3 x6 d R * L R) ((31 - k) * (8 * 8) + (q.val * 8 + b.val))) (h0 b) (hA b) 32 le_rfl]
  exact Finset.sum_range_reflect (fun k => ∑ q : Fin 8, onRows (fun R => dconv x1 x3 x6 d R * L R) (k * (8 * 8) + (q.val * 8 + b.val))) 32

theorem convDw2_at : convDw (convSt x0 x1 x2 x3 x6 32) (ix3 0 2 d) = ∑ R : Fin 2048, dconv x1 x3 x6 d R * ca x0 x2 d R := by
  show k0_pay11 (convSt x0 x1 x2 x3 x6 32).2.2.2 (ix3 0 0 d) = _
  pointwise [k0_pay11]
  refine tap_sum x1 x3 x6 d (ca x0 x2 d) _ _ (fun s => s.2.2.2) (fun b => by pointwise [k0_pay4]) fun b k acc => ?_
  pointwise [convState, k0_pay36]
  refine congrArg (acc.2.2.2 (ix2 b d) + ·) (Fin.sum_fin_congr fun q => ?_)
  have hk := k.isLt
  have hq := q.isLt
  have hb := b.isLt
  rw [onRows_of_lt _ _ (by omega), dconv_at x1 x3 x6 d k _ ⟨(31 - k.val) * (8 * 8) + (q.val * 8 + b.val), by omega⟩ (by dsimp only), ca0_at x0 x2 d k _ ⟨(31 - k.val) * (8 * 8) + (q.val * 8 + b.val), by omega⟩ (by dsimp only)]
theorem convDw1_at : convDw (convSt x0 x1 x2 x3 x6 32) (ix3 0 1 d) = ∑ R : Fin 2048, dconv x1 x3 x6 d R * lag x0 x2 d 1 R := by
  show k0_pay10 (convSt x0 x1 x2 x3 x6 32).2.2.1 (ix3 0 0 d) = _
  pointwise [k0_pay10]
  refine tap_sum x1 x3 x6 d (lag x0 x2 d 1) _ _ (fun s => s.2.2.1) (fun b => by pointwise [k0_pay4]) fun b k acc => ?_
  pointwise [convState, k0_pay37]
  refine congrArg (acc.2.2.1 (ix2 b d) + ·) (Fin.sum_fin_congr fun q => ?_)
  have hk := k.isLt
  have hq := q.isLt
  have hb := b.isLt
  rw [onRows_of_lt _ _ (by omega), dconv_at x1 x3 x6 d k _ ⟨(31 - k.val) * (8 * 8) + (q.val * 8 + b.val), by omega⟩ (by dsimp only), ca1_at x0 x2 d k _ ⟨(31 - k.val) * (8 * 8) + (q.val * 8 + b.val), by omega⟩ (by dsimp only)]
theorem convDw0_at : convDw (convSt x0 x1 x2 x3 x6 32) (ix3 0 0 d) = ∑ R : Fin 2048, dconv x1 x3 x6 d R * lag x0 x2 d 2 R := by
  show k0_pay9 (convSt x0 x1 x2 x3 x6 32).2.1 (ix3 0 0 d) = _
  pointwise [k0_pay9]
  refine tap_sum x1 x3 x6 d (lag x0 x2 d 2) _ _ (fun s => s.2.1) (fun b => by pointwise [k0_pay4]) fun b k acc => ?_
  pointwise [convState, k0_pay38]
  refine congrArg (acc.2.1 (ix2 b d) + ·) (Fin.sum_fin_congr fun q => ?_)
  have hk := k.isLt
  have hq := q.isLt
  have hb := b.isLt
  rw [onRows_of_lt _ _ (by omega), dconv_at x1 x3 x6 d k _ ⟨(31 - k.val) * (8 * 8) + (q.val * 8 + b.val), by omega⟩ (by dsimp only), ca2_at x0 x2 d k _ ⟨(31 - k.val) * (8 * 8) + (q.val * 8 + b.val), by omega⟩ (by dsimp only)]

end At

end Cert.Proof.Mix

end
-- ==== Proof.Mix.Pool.lean ====
/-
  The body of the mixers' backward kernel on each of the four points of its second half, where it computes one
  group's POOLING mixer's gradients: what its stores leave in the four results of that half, from what the three
  scratch arrays hold when it starts, and that it gives the scratch arrays back. The statement is one for the four
  groups, whose bodies differ in the loops' names and in the width of the window.
-/
module

public import proofs.«01_k».proof.Proof.Mix.Conv

@[expose] public section

set_option maxRecDepth 16384

noncomputable section

namespace Cert.Proof.Mix

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The pieces the body leaves in the gradients of a group's input, gate, weight and scale, and that it leaves them. -/
abbrev PoolRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :=
    Σ' (L15 L16 : List (View.Piece (Elt F) S2048x128 .bf16)) (L18 : List (View.Piece (Elt F) S1x128x128 .bf16)), { L19 : List (View.Piece (Elt F) S1x128 .f32) //
      ∀ (E : Set ℕ) (K : PUnit → sProp 𝕄),
        iprop(held c arg5 x4 ∗ held c arg6 x5 ∗ held c arg8 x7 ∗ held c arg10 x9 ∗ held c arg11 x10
            ∗ some' c arg17 ∗ some' c arg18 ∗ some' c arg20 ∗ some' c arg21 ∗ held c arg22 e0 ∗ held c arg23 e1 ∗ held c arg24 e2
            ∗ (iprop(held c arg5 x4 ∗ held c arg6 x5 ∗ held c arg8 x7 ∗ held c arg10 x9 ∗ held c arg11 x10
              ∗ wrote c arg17 L15 ∗ wrote c arg18 L16 ∗ wrote c arg20 L18 ∗ wrote c arg21 L19
              ∗ some' c arg22 ∗ some' c arg23 ∗ some' c arg24) -∗ K ⟨⟩))
          ⊢ wp frame (wpE (defs₀ (F := F)) Variants.none c none) E
              (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K }

/-- A memref held whatever it holds, from its cells (`some'`, spelt out). -/
theorem some_of_cells (c : Dev nD) {sh : Shape} {e : EltTy} (a : Memref sig .tc .vmem sh e) (f : BufTy.Contents (Elt F) a.view.ty) :
    (a.view.loc (c : Thread nD τ) ↦[a.view.set]{fullShare} f : sProp 𝕄)
      ⊢ iprop(∃ d f, ⌜a.view.read (Elt F) f = d⌝ ∗ a.view.loc (c : Thread nD τ) ↦[a.view.set]{fullShare} f) := by
  iintro H; iexists _; iexists _; isplitr; swap; · iexact H
  ipureintro; rfl

/-- A memref held at the contents its cells were filled from, from its cells (`held`, spelt out). -/
theorem held_of_cells (c : Dev nD) {sh : Shape} {e : EltTy} (a : Memref sig .tc .vmem sh e) (h : a.IsWhole) (x : Vec F sh e) :
    (a.view.loc (c : Thread nD τ) ↦[a.view.set]{fullShare} h.unread x : sProp 𝕄)
      ⊢ iprop(∃ f, ⌜a.view.read (Elt F) f = x⌝ ∗ a.view.loc (c : Thread nD τ) ↦[a.view.set]{fullShare} f) := by
  iintro H; iexists _; isplitr; swap; · iexact H
  ipureintro; exact h.read_unread _

set_option maxHeartbeats 4000000 in
/-- Group 1. -/
noncomputable def poolRun1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 : ¬k0_cond1 i = 1#1) (h2 : k0_cond2 i = 1#1) (h3 : ¬k0_cond3 i = 1#1) (h4 : ¬k0_cond4 i = 1#1) (h5 : ¬k0_cond5 i = 1#1)
    (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x4 x5 x7 x9 x10 e0 e1 e2 := by
  refine ⟨?_, ?_, ?_, ?_, fun E K => ?run⟩
  case run =>
    simp only [cc0_mix_bwd_eq_skeleton]; unfold cc0_mix_bwd_skel
    simp only [k0_part3_eq_skeleton]
    unfold held some' wrote owns
    iintro ⟨⟨%f4, %hf4, H4⟩, ⟨%f5, %hf5, H5⟩, ⟨%f7, %hf7, H7⟩, ⟨%f9, %hf9, H9⟩, ⟨%f10, %hf10, H10⟩, ⟨%d15, %f15, -, H15⟩, ⟨%d16, %f16, -, H16⟩, ⟨%d18, %f18, -, H18⟩, ⟨%d19, %f19, -, H19⟩, ⟨%g0, %hg0, S0⟩, ⟨%g1, %hg1, S1⟩, ⟨%g2, %hg2, S2⟩, Hk⟩
    obtain rfl := harg5.eq_unread hf4; obtain rfl := harg6.eq_unread hf5; obtain rfl := harg8.eq_unread hf7; obtain rfl := harg10.eq_unread hf9; obtain rfl := harg11.eq_unread hf10
    obtain rfl := harg22.eq_unread hg0; obtain rfl := harg23.eq_unread hg1; obtain rfl := harg24.eq_unread hg2
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H9]; · iapply held_of_cells c arg10 harg10; iexact H9
    isplitl [H10]; · iapply held_of_cells c arg11 harg11; iexact H10
    isplitl [H15]; · iexists _; iexact H15
    isplitl [H16]; · iexists _; iexact H16
    isplitl [H18]; · iexists _; iexact H18
    isplitl [H19]; · iexists _; iexact H19
    isplitl [S0]; · iapply some_of_cells; iexact S0
    isplitl [S1]; · iapply some_of_cells; iexact S1
    iapply some_of_cells; iexact S2

set_option maxHeartbeats 4000000 in
/-- Group 2. -/
noncomputable def poolRun2 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 : ¬k0_cond1 i = 1#1) (h2 : ¬k0_cond2 i = 1#1) (h3 : k0_cond3 i = 1#1) (h4 : ¬k0_cond4 i = 1#1) (h5 : ¬k0_cond5 i = 1#1)
    (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x4 x5 x7 x9 x10 e0 e1 e2 := by
  refine ⟨?_, ?_, ?_, ?_, fun E K => ?run⟩
  case run =>
    simp only [cc0_mix_bwd_eq_skeleton]; unfold cc0_mix_bwd_skel
    simp only [k0_part4_eq_skeleton]
    unfold held some' wrote owns
    iintro ⟨⟨%f4, %hf4, H4⟩, ⟨%f5, %hf5, H5⟩, ⟨%f7, %hf7, H7⟩, ⟨%f9, %hf9, H9⟩, ⟨%f10, %hf10, H10⟩, ⟨%d15, %f15, -, H15⟩, ⟨%d16, %f16, -, H16⟩, ⟨%d18, %f18, -, H18⟩, ⟨%d19, %f19, -, H19⟩, ⟨%g0, %hg0, S0⟩, ⟨%g1, %hg1, S1⟩, ⟨%g2, %hg2, S2⟩, Hk⟩
    obtain rfl := harg5.eq_unread hf4; obtain rfl := harg6.eq_unread hf5; obtain rfl := harg8.eq_unread hf7; obtain rfl := harg10.eq_unread hf9; obtain rfl := harg11.eq_unread hf10
    obtain rfl := harg22.eq_unread hg0; obtain rfl := harg23.eq_unread hg1; obtain rfl := harg24.eq_unread hg2
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H9]; · iapply held_of_cells c arg10 harg10; iexact H9
    isplitl [H10]; · iapply held_of_cells c arg11 harg11; iexact H10
    isplitl [H15]; · iexists _; iexact H15
    isplitl [H16]; · iexists _; iexact H16
    isplitl [H18]; · iexists _; iexact H18
    isplitl [H19]; · iexists _; iexact H19
    isplitl [S0]; · iapply some_of_cells; iexact S0
    isplitl [S1]; · iapply some_of_cells; iexact S1
    iapply some_of_cells; iexact S2

set_option maxHeartbeats 4000000 in
/-- Group 3. -/
noncomputable def poolRun3 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 : ¬k0_cond1 i = 1#1) (h2 : ¬k0_cond2 i = 1#1) (h3 : ¬k0_cond3 i = 1#1) (h4 : k0_cond4 i = 1#1) (h5 : ¬k0_cond5 i = 1#1)
    (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x4 x5 x7 x9 x10 e0 e1 e2 := by
  refine ⟨?_, ?_, ?_, ?_, fun E K => ?run⟩
  case run =>
    simp only [cc0_mix_bwd_eq_skeleton]; unfold cc0_mix_bwd_skel
    simp only [k0_part5_eq_skeleton]
    unfold held some' wrote owns
    iintro ⟨⟨%f4, %hf4, H4⟩, ⟨%f5, %hf5, H5⟩, ⟨%f7, %hf7, H7⟩, ⟨%f9, %hf9, H9⟩, ⟨%f10, %hf10, H10⟩, ⟨%d15, %f15, -, H15⟩, ⟨%d16, %f16, -, H16⟩, ⟨%d18, %f18, -, H18⟩, ⟨%d19, %f19, -, H19⟩, ⟨%g0, %hg0, S0⟩, ⟨%g1, %hg1, S1⟩, ⟨%g2, %hg2, S2⟩, Hk⟩
    obtain rfl := harg5.eq_unread hf4; obtain rfl := harg6.eq_unread hf5; obtain rfl := harg8.eq_unread hf7; obtain rfl := harg10.eq_unread hf9; obtain rfl := harg11.eq_unread hf10
    obtain rfl := harg22.eq_unread hg0; obtain rfl := harg23.eq_unread hg1; obtain rfl := harg24.eq_unread hg2
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H9]; · iapply held_of_cells c arg10 harg10; iexact H9
    isplitl [H10]; · iapply held_of_cells c arg11 harg11; iexact H10
    isplitl [H15]; · iexists _; iexact H15
    isplitl [H16]; · iexists _; iexact H16
    isplitl [H18]; · iexists _; iexact H18
    isplitl [H19]; · iexists _; iexact H19
    isplitl [S0]; · iapply some_of_cells; iexact S0
    isplitl [S1]; · iapply some_of_cells; iexact S1
    iapply some_of_cells; iexact S2

set_option maxHeartbeats 4000000 in
/-- Group 4. -/
noncomputable def poolRun4 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 : ¬k0_cond1 i = 1#1) (h2 : ¬k0_cond2 i = 1#1) (h3 : ¬k0_cond3 i = 1#1) (h4 : ¬k0_cond4 i = 1#1) (h5 : k0_cond5 i = 1#1)
    (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x4 x5 x7 x9 x10 e0 e1 e2 := by
  refine ⟨?_, ?_, ?_, ?_, fun E K => ?run⟩
  case run =>
    simp only [cc0_mix_bwd_eq_skeleton]; unfold cc0_mix_bwd_skel
    simp only [k0_part6_eq_skeleton]
    unfold held some' wrote owns
    iintro ⟨⟨%f4, %hf4, H4⟩, ⟨%f5, %hf5, H5⟩, ⟨%f7, %hf7, H7⟩, ⟨%f9, %hf9, H9⟩, ⟨%f10, %hf10, H10⟩, ⟨%d15, %f15, -, H15⟩, ⟨%d16, %f16, -, H16⟩, ⟨%d18, %f18, -, H18⟩, ⟨%d19, %f19, -, H19⟩, ⟨%g0, %hg0, S0⟩, ⟨%g1, %hg1, S1⟩, ⟨%g2, %hg2, S2⟩, Hk⟩
    obtain rfl := harg5.eq_unread hf4; obtain rfl := harg6.eq_unread hf5; obtain rfl := harg8.eq_unread hf7; obtain rfl := harg10.eq_unread hf9; obtain rfl := harg11.eq_unread hf10
    obtain rfl := harg22.eq_unread hg0; obtain rfl := harg23.eq_unread hg1; obtain rfl := harg24.eq_unread hg2
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H9]; · iapply held_of_cells c arg10 harg10; iexact H9
    isplitl [H10]; · iapply held_of_cells c arg11 harg11; iexact H10
    isplitl [H15]; · iexists _; iexact H15
    isplitl [H16]; · iexists _; iexact H16
    isplitl [H18]; · iexists _; iexact H18
    isplitl [H19]; · iexists _; iexact H19
    isplitl [S0]; · iapply some_of_cells; iexact S0
    isplitl [S1]; · iapply some_of_cells; iexact S1
    iapply some_of_cells; iexact S2

end Cert.Proof.Mix

end
-- ==== Proof.Mix.PoolClosed.lean ====
/-
  Each group's run of the POOLING gradients leaves the arrays in closed form, whatever the scratch arrays held when
  it started.
-/
module

public import proofs.«01_k».proof.Proof.Mix.Closed
public import proofs.«01_k».proof.Proof.Mix.Pool

@[expose] public section

set_option maxRecDepth 16384

noncomputable section

namespace Cert.Proof.Mix

open Cert.MixIdeal Cert.MixIdeal.Gen Idealize.ShloMosaic

variable {F : FTy → Type} [FloatOps F]

/-- The scratch array of the mixed rows, once they are stored. -/
theorem read_mixed (a5 : Memref sig .tc .vmem S2048x128 .bf16) (h5 : a5.IsWhole) (a10 : Memref sig .tc .vmem S1x1x128x128 .f32) (h10 : a10.IsWhole)
    (a22 : Memref sig .tc .vmem S2048x128 .f32) (x4 : Vec F S2048x128 .bf16) (x9 : Vec F S1x1x128x128 .f32) :
    a22.view.read (Elt F) (a22.view.writes (Elt F) a22.view.junk [⟨Rect.unit ![0, 0] S2048x128.size inb_S2048x128_S2048x128_0_0,
      k0_pay43 (View.readAt (Elt F) a10.view (Rect.unit ![0, 0, 0, 0] S1x1x128x128.size inb_S1x1x128x128_S1x1x128x128_0_0_0_0).toLoadRect (h10.unread x9))
        (View.readAt (Elt F) a5.view (Rect.unit ![0, 0] S2048x128.size inb_S2048x128_S2048x128_0_0).toLoadRect (h5.unread x4))⟩])
      = k0_pay43 x9 x4 := by
  have hw := whole_piece (F := F) (s := S2048x128) (e := .f32) ![0, 0] (by decide) inb_S2048x128_S2048x128_0_0
  rw [View.read_writes_eq_canon _ _ _ (hw _).1, (hw _).2, readAt_whole _ _ _ (by decide), readAt_whole _ _ _ (by decide), h10.read_unread, h5.read_unread]

/-- The scratch array of the mixed rows' gradient, once every tile of it is stored. -/
theorem read_dmix (a23 : Memref sig .tc .vmem S2048x128 .bf16) (f : BufTy.Contents (Elt F) a23.view.ty) (L : List (View.Piece (Elt F) S2048x128 .bf16))
    (hL : ∀ y, ∃ p ∈ L, y ∈ p.1.set) :
    View.readAt (Elt F) a23.view (Rect.unit ![0, 0] S2048x128.size inb_S2048x128_S2048x128_0_0).toLoadRect (a23.view.writes (Elt F) f L) = View.canon L := by
  rw [readAt_whole _ _ _ (by decide), View.read_writes_eq_canon _ _ _ hL]

/-- The stores of the pooled rows' gradient and of the zero rows after it. -/
abbrev dpPieces (w : Vec F S1x1x128x128 .f32) (d : Vec F S2048x128 .bf16) : List (View.Piece (Elt F) S2064x128 .f32) :=
  [⟨Rect.unit ![2048, 0] S16x128.size inb_S2064x128_S16x128_2048_0, k0_pay56⟩, ⟨Rect.unit ![0, 0] S2048x128.size inb_S2064x128_S2048x128_0_0, k0_pay55 w d⟩]

/-- The store of the weight's gradient. -/
abbrev dwPieces (x d : Vec F S2048x128 .bf16) : List (View.Piece (Elt F) S1x128x128 .bf16) :=
  [⟨Rect.unit ![0, 0, 0] S1x128x128.size inb_S1x128x128_S1x128x128_0_0_0, k0_pay12 x d⟩]

/-- The store of the scale's gradient. -/
abbrev dsPieces (a : FVec F S8x128 .f32) : List (View.Piece (Elt F) S1x128 .f32) :=
  [⟨Rect.unit ![0, 0] S1x128.size inb_S1x128_S1x128_0_0, k0_pay54 a⟩]

/-- Group 1's lists are the closed forms'. -/
theorem poolRun1_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 h2 h3 h4 h5) (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    let r := poolRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x4 x5 x7 x9 x10 e0 e1 e2
    PoolClosed (fun k => k0_pay13 k) x4 x5 x7 x9 x10 r.1 r.2.1 r.2.2.1 r.2.2.2.1 := by
  have hc : k0_cond2 i = 1#1 := h2
  have hsc : View.readAt (Elt F) arg11.view (Rect.unit ![0, 0, 0] S1x1x128.size inb_S1x1x128_S1x1x128_0_0_0).toLoadRect (harg11.unread x10) = x10 := by
    rw [readAt_whole _ _ _ (by decide), harg11.read_unread]
  have hx4 : View.readAt (Elt F) arg5.view (Rect.unit ![0, 0] S2048x128.size inb_S2048x128_S2048x128_0_0).toLoadRect (harg5.unread x4) = x4 := by
    rw [readAt_whole _ _ _ (by decide), harg5.read_unread]
  have hx9 : View.readAt (Elt F) arg10.view (Rect.unit ![0, 0, 0, 0] S1x1x128x128.size inb_S1x1x128x128_S1x1x128x128_0_0_0_0).toLoadRect (harg10.unread x9) = x9 := by
    rw [readAt_whole _ _ _ (by decide), harg10.read_unread]
  have hmx : arg22.view.read (Elt F) (arg22.view.writes (Elt F) arg22.view.junk (poolRun1.sl.S0_1 c arg5 harg5 arg10 harg10 x4 x9)) = k0_pay43 x9 x4 := by
    unfold poolRun1.sl.S0_1
    exact read_mixed (F := F) arg5 harg5 arg10 harg10 arg22 x4 x9
  have hg := gate_of_steps x10 x5 x7 (k0_pay43 x9 x4) (st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x10 (harg6.unread x5) (harg8.unread x7) (arg22.view.writes (Elt F) arg22.view.junk (poolRun1.sl.S0_1 c arg5 harg5 arg10 harg10 x4 x9)) k0_pay45)
    k0_off3 k0_off3_eq (fun k => k0_off3_inb i k hc) rfl (fun k => by
      have e := k0_off3_eq k
      rw [Nat.mul_comm] at e
      have r6 : _ = t128 x5 k := readAt_tile (R := 128) (T := 16) rfl (harg6.unread x5) x5 (harg6.read_unread x5) k (k0_off3 k) e (k0_off3_inb i k hc)
      have r8 : _ = t128 x7 k := readAt_tile (R := 128) (T := 16) rfl (harg8.unread x7) x7 (harg8.read_unread x7) k (k0_off3 k) e (k0_off3_inb i k hc)
      have r22 : _ = t128 (Val := Elt F) (e := .f32) (k0_pay43 x9 x4) k := readAt_tile (R := 128) (T := 16) rfl _ _ hmx k (k0_off3 k) e (k0_off3_inb i k hc)
      refine (st_k0_t2_succ ..).trans ?_
      unfold tripR_k0_t2 tripL_k0_t2 trip_k0_t2
      dsimp only
      rw [← r6, ← r8, ← r22]
      unfold gateStep
      rfl)
  obtain ⟨ha, h16, ⟨hc23, h23⟩⟩ := hg
  have hdm := (read_dmix (F := F) arg23 (harg23.unread e1) _ hc23).trans h23
  have hb := back_of_steps (fun k => k0_pay13 k) (poolDp x9 (poolDmix x10 x5 x7))
    (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc (arg24.view.writes (Elt F) arg24.view.junk (poolRun1.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)))
    k0_off5 k0_off5_eq (fun k => k0_off5_inb i k hc) rfl (fun k => by
      have r24 := readAt_dp x9 (poolDmix x10 x5 x7) arg24 (poolRun1.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)
        (by unfold poolRun1.sl.S2_2 poolRun1.sl.v32; rw [hx9, hsc]; exact congrArg (dpPieces x9) hdm)
        k (k0_off4 k) (k0_off4_eq k) (k0_off4_inb i k hc)
      refine (pb_k0_t3_succ ..).trans ?_
      show (trip_k0_t3 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _).1 ++ _ = _
      unfold trip_k0_t3
      rw [← r24]
      rfl)
  refine ⟨hb, left_of_eq ?_ h16, left_of_eq ?_ (whole_piece (F := F) (s := S1x128x128) (e := .bf16) ![0, 0, 0] (by decide) inb_S1x128x128_S1x128x128_0_0_0 _),
    left_of_eq ?_ (whole_piece (F := F) (s := S1x128) (e := .f32) ![0, 0] (by decide) inb_S1x128_S1x128_0_0 _)⟩
  · exact congrArg (fun v => (st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc v (harg6.unread x5) (harg8.unread x7) (arg22.view.writes (Elt F) arg22.view.junk (poolRun1.sl.S0_1 c arg5 harg5 arg10 harg10 x4 x9)) k0_pay45 16).2.1) hsc
  · show poolRun1.sl.H18_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1 = _
    unfold poolRun1.sl.H18_1 poolRun1.sl.v43
    rw [hsc]
    exact (congrArg (fun d => dwPieces d _) hx4).trans (congrArg (dwPieces x4) hdm)
  · show poolRun1.sl.H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 = _
    unfold poolRun1.sl.H19_1
    rw [hsc]
    exact congrArg dsPieces ha

/-- Group 2's lists are the closed forms'. -/
theorem poolRun2_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 h2 h3 h4 h5) (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    let r := poolRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x4 x5 x7 x9 x10 e0 e1 e2
    PoolClosed (fun k => k0_pay15 k) x4 x5 x7 x9 x10 r.1 r.2.1 r.2.2.1 r.2.2.2.1 := by
  have hc : k0_cond3 i = 1#1 := h3
  have hsc : View.readAt (Elt F) arg11.view (Rect.unit ![0, 0, 0] S1x1x128.size inb_S1x1x128_S1x1x128_0_0_0).toLoadRect (harg11.unread x10) = x10 := by
    rw [readAt_whole _ _ _ (by decide), harg11.read_unread]
  have hx4 : View.readAt (Elt F) arg5.view (Rect.unit ![0, 0] S2048x128.size inb_S2048x128_S2048x128_0_0).toLoadRect (harg5.unread x4) = x4 := by
    rw [readAt_whole _ _ _ (by decide), harg5.read_unread]
  have hx9 : View.readAt (Elt F) arg10.view (Rect.unit ![0, 0, 0, 0] S1x1x128x128.size inb_S1x1x128x128_S1x1x128x128_0_0_0_0).toLoadRect (harg10.unread x9) = x9 := by
    rw [readAt_whole _ _ _ (by decide), harg10.read_unread]
  have hmx : arg22.view.read (Elt F) (arg22.view.writes (Elt F) arg22.view.junk (poolRun2.sl.S0_1 c arg5 harg5 arg10 harg10 x4 x9)) = k0_pay43 x9 x4 := by
    unfold poolRun2.sl.S0_1
    exact read_mixed (F := F) arg5 harg5 arg10 harg10 arg22 x4 x9
  have hg := gate_of_steps x10 x5 x7 (k0_pay43 x9 x4) (st_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x10 (harg6.unread x5) (harg8.unread x7) (arg22.view.writes (Elt F) arg22.view.junk (poolRun2.sl.S0_1 c arg5 harg5 arg10 harg10 x4 x9)) k0_pay45)
    k0_off6 k0_off6_eq (fun k => k0_off6_inb i k hc) rfl (fun k => by
      have e := k0_off6_eq k
      rw [Nat.mul_comm] at e
      have r6 : _ = t128 x5 k := readAt_tile (R := 128) (T := 16) rfl (harg6.unread x5) x5 (harg6.read_unread x5) k (k0_off6 k) e (k0_off6_inb i k hc)
      have r8 : _ = t128 x7 k := readAt_tile (R := 128) (T := 16) rfl (harg8.unread x7) x7 (harg8.read_unread x7) k (k0_off6 k) e (k0_off6_inb i k hc)
      have r22 : _ = t128 (Val := Elt F) (e := .f32) (k0_pay43 x9 x4) k := readAt_tile (R := 128) (T := 16) rfl _ _ hmx k (k0_off6 k) e (k0_off6_inb i k hc)
      refine (st_k0_t4_succ ..).trans ?_
      unfold tripR_k0_t4 tripL_k0_t4 trip_k0_t4
      dsimp only
      rw [← r6, ← r8, ← r22]
      unfold gateStep
      rfl)
  obtain ⟨ha, h16, ⟨hc23, h23⟩⟩ := hg
  have hdm := (read_dmix (F := F) arg23 (harg23.unread e1) _ hc23).trans h23
  have hb := back_of_steps (fun k => k0_pay15 k) (poolDp x9 (poolDmix x10 x5 x7))
    (pb_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc (arg24.view.writes (Elt F) arg24.view.junk (poolRun2.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)))
    k0_off8 k0_off8_eq (fun k => k0_off8_inb i k hc) rfl (fun k => by
      have r24 := readAt_dp x9 (poolDmix x10 x5 x7) arg24 (poolRun2.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)
        (by unfold poolRun2.sl.S2_2 poolRun2.sl.v32; rw [hx9, hsc]; exact congrArg (dpPieces x9) hdm)
        k (k0_off7 k) (k0_off7_eq k) (k0_off7_inb i k hc)
      refine (pb_k0_t5_succ ..).trans ?_
      show (trip_k0_t5 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _).1 ++ _ = _
      unfold trip_k0_t5
      rw [← r24]
      rfl)
  refine ⟨hb, left_of_eq ?_ h16, left_of_eq ?_ (whole_piece (F := F) (s := S1x128x128) (e := .bf16) ![0, 0, 0] (by decide) inb_S1x128x128_S1x128x128_0_0_0 _),
    left_of_eq ?_ (whole_piece (F := F) (s := S1x128) (e := .f32) ![0, 0] (by decide) inb_S1x128_S1x128_0_0 _)⟩
  · exact congrArg (fun v => (st_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc v (harg6.unread x5) (harg8.unread x7) (arg22.view.writes (Elt F) arg22.view.junk (poolRun2.sl.S0_1 c arg5 harg5 arg10 harg10 x4 x9)) k0_pay45 16).2.1) hsc
  · show poolRun2.sl.H18_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1 = _
    unfold poolRun2.sl.H18_1 poolRun2.sl.v43
    rw [hsc]
    exact (congrArg (fun d => dwPieces d _) hx4).trans (congrArg (dwPieces x4) hdm)
  · show poolRun2.sl.H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 = _
    unfold poolRun2.sl.H19_1
    rw [hsc]
    exact congrArg dsPieces ha

/-- Group 3's lists are the closed forms'. -/
theorem poolRun3_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 h2 h3 h4 h5) (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    let r := poolRun3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x4 x5 x7 x9 x10 e0 e1 e2
    PoolClosed (fun k => k0_pay17 k) x4 x5 x7 x9 x10 r.1 r.2.1 r.2.2.1 r.2.2.2.1 := by
  have hc : k0_cond4 i = 1#1 := h4
  have hsc : View.readAt (Elt F) arg11.view (Rect.unit ![0, 0, 0] S1x1x128.size inb_S1x1x128_S1x1x128_0_0_0).toLoadRect (harg11.unread x10) = x10 := by
    rw [readAt_whole _ _ _ (by decide), harg11.read_unread]
  have hx4 : View.readAt (Elt F) arg5.view (Rect.unit ![0, 0] S2048x128.size inb_S2048x128_S2048x128_0_0).toLoadRect (harg5.unread x4) = x4 := by
    rw [readAt_whole _ _ _ (by decide), harg5.read_unread]
  have hx9 : View.readAt (Elt F) arg10.view (Rect.unit ![0, 0, 0, 0] S1x1x128x128.size inb_S1x1x128x128_S1x1x128x128_0_0_0_0).toLoadRect (harg10.unread x9) = x9 := by
    rw [readAt_whole _ _ _ (by decide), harg10.read_unread]
  have hmx : arg22.view.read (Elt F) (arg22.view.writes (Elt F) arg22.view.junk (poolRun3.sl.S0_1 c arg5 harg5 arg10 harg10 x4 x9)) = k0_pay43 x9 x4 := by
    unfold poolRun3.sl.S0_1
    exact read_mixed (F := F) arg5 harg5 arg10 harg10 arg22 x4 x9
  have hg := gate_of_steps x10 x5 x7 (k0_pay43 x9 x4) (st_k0_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x10 (harg6.unread x5) (harg8.unread x7) (arg22.view.writes (Elt F) arg22.view.junk (poolRun3.sl.S0_1 c arg5 harg5 arg10 harg10 x4 x9)) k0_pay45)
    k0_off9 k0_off9_eq (fun k => k0_off9_inb i k hc) rfl (fun k => by
      have e := k0_off9_eq k
      rw [Nat.mul_comm] at e
      have r6 : _ = t128 x5 k := readAt_tile (R := 128) (T := 16) rfl (harg6.unread x5) x5 (harg6.read_unread x5) k (k0_off9 k) e (k0_off9_inb i k hc)
      have r8 : _ = t128 x7 k := readAt_tile (R := 128) (T := 16) rfl (harg8.unread x7) x7 (harg8.read_unread x7) k (k0_off9 k) e (k0_off9_inb i k hc)
      have r22 : _ = t128 (Val := Elt F) (e := .f32) (k0_pay43 x9 x4) k := readAt_tile (R := 128) (T := 16) rfl _ _ hmx k (k0_off9 k) e (k0_off9_inb i k hc)
      refine (st_k0_t6_succ ..).trans ?_
      unfold tripR_k0_t6 tripL_k0_t6 trip_k0_t6
      dsimp only
      rw [← r6, ← r8, ← r22]
      unfold gateStep
      rfl)
  obtain ⟨ha, h16, ⟨hc23, h23⟩⟩ := hg
  have hdm := (read_dmix (F := F) arg23 (harg23.unread e1) _ hc23).trans h23
  have hb := back_of_steps (fun k => k0_pay17 k) (poolDp x9 (poolDmix x10 x5 x7))
    (pb_k0_t7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc (arg24.view.writes (Elt F) arg24.view.junk (poolRun3.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)))
    k0_off11 k0_off11_eq (fun k => k0_off11_inb i k hc) rfl (fun k => by
      have r24 := readAt_dp x9 (poolDmix x10 x5 x7) arg24 (poolRun3.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)
        (by unfold poolRun3.sl.S2_2 poolRun3.sl.v32; rw [hx9, hsc]; exact congrArg (dpPieces x9) hdm)
        k (k0_off10 k) (k0_off10_eq k) (k0_off10_inb i k hc)
      refine (pb_k0_t7_succ ..).trans ?_
      show (trip_k0_t7 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _).1 ++ _ = _
      unfold trip_k0_t7
      rw [← r24]
      rfl)
  refine ⟨hb, left_of_eq ?_ h16, left_of_eq ?_ (whole_piece (F := F) (s := S1x128x128) (e := .bf16) ![0, 0, 0] (by decide) inb_S1x128x128_S1x128x128_0_0_0 _),
    left_of_eq ?_ (whole_piece (F := F) (s := S1x128) (e := .f32) ![0, 0] (by decide) inb_S1x128_S1x128_0_0 _)⟩
  · exact congrArg (fun v => (st_k0_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc v (harg6.unread x5) (harg8.unread x7) (arg22.view.writes (Elt F) arg22.view.junk (poolRun3.sl.S0_1 c arg5 harg5 arg10 harg10 x4 x9)) k0_pay45 16).2.1) hsc
  · show poolRun3.sl.H18_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1 = _
    unfold poolRun3.sl.H18_1 poolRun3.sl.v43
    rw [hsc]
    exact (congrArg (fun d => dwPieces d _) hx4).trans (congrArg (dwPieces x4) hdm)
  · show poolRun3.sl.H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 = _
    unfold poolRun3.sl.H19_1
    rw [hsc]
    exact congrArg dsPieces ha

/-- Group 4's lists are the closed forms'. -/
theorem poolRun4_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (h1 h2 h3 h4 h5) (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    let r := poolRun4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x4 x5 x7 x9 x10 e0 e1 e2
    PoolClosed (fun k => k0_pay19 k) x4 x5 x7 x9 x10 r.1 r.2.1 r.2.2.1 r.2.2.2.1 := by
  have hc : k0_cond5 i = 1#1 := h5
  have hsc : View.readAt (Elt F) arg11.view (Rect.unit ![0, 0, 0] S1x1x128.size inb_S1x1x128_S1x1x128_0_0_0).toLoadRect (harg11.unread x10) = x10 := by
    rw [readAt_whole _ _ _ (by decide), harg11.read_unread]
  have hx4 : View.readAt (Elt F) arg5.view (Rect.unit ![0, 0] S2048x128.size inb_S2048x128_S2048x128_0_0).toLoadRect (harg5.unread x4) = x4 := by
    rw [readAt_whole _ _ _ (by decide), harg5.read_unread]
  have hx9 : View.readAt (Elt F) arg10.view (Rect.unit ![0, 0, 0, 0] S1x1x128x128.size inb_S1x1x128x128_S1x1x128x128_0_0_0_0).toLoadRect (harg10.unread x9) = x9 := by
    rw [readAt_whole _ _ _ (by decide), harg10.read_unread]
  have hmx : arg22.view.read (Elt F) (arg22.view.writes (Elt F) arg22.view.junk (poolRun4.sl.S0_1 c arg5 harg5 arg10 harg10 x4 x9)) = k0_pay43 x9 x4 := by
    unfold poolRun4.sl.S0_1
    exact read_mixed (F := F) arg5 harg5 arg10 harg10 arg22 x4 x9
  have hg := gate_of_steps x10 x5 x7 (k0_pay43 x9 x4) (st_k0_t8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x10 (harg6.unread x5) (harg8.unread x7) (arg22.view.writes (Elt F) arg22.view.junk (poolRun4.sl.S0_1 c arg5 harg5 arg10 harg10 x4 x9)) k0_pay45)
    k0_off12 k0_off12_eq (fun k => k0_off12_inb i k hc) rfl (fun k => by
      have e := k0_off12_eq k
      rw [Nat.mul_comm] at e
      have r6 : _ = t128 x5 k := readAt_tile (R := 128) (T := 16) rfl (harg6.unread x5) x5 (harg6.read_unread x5) k (k0_off12 k) e (k0_off12_inb i k hc)
      have r8 : _ = t128 x7 k := readAt_tile (R := 128) (T := 16) rfl (harg8.unread x7) x7 (harg8.read_unread x7) k (k0_off12 k) e (k0_off12_inb i k hc)
      have r22 : _ = t128 (Val := Elt F) (e := .f32) (k0_pay43 x9 x4) k := readAt_tile (R := 128) (T := 16) rfl _ _ hmx k (k0_off12 k) e (k0_off12_inb i k hc)
      refine (st_k0_t8_succ ..).trans ?_
      unfold tripR_k0_t8 tripL_k0_t8 trip_k0_t8
      dsimp only
      rw [← r6, ← r8, ← r22]
      unfold gateStep
      rfl)
  obtain ⟨ha, h16, ⟨hc23, h23⟩⟩ := hg
  have hdm := (read_dmix (F := F) arg23 (harg23.unread e1) _ hc23).trans h23
  have hb := back_of_steps (fun k => k0_pay19 k) (poolDp x9 (poolDmix x10 x5 x7))
    (pb_k0_t9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc (arg24.view.writes (Elt F) arg24.view.junk (poolRun4.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)))
    k0_off14 k0_off14_eq (fun k => k0_off14_inb i k hc) rfl (fun k => by
      have r24 := readAt_dp x9 (poolDmix x10 x5 x7) arg24 (poolRun4.sl.S2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1)
        (by unfold poolRun4.sl.S2_2 poolRun4.sl.v32; rw [hx9, hsc]; exact congrArg (dpPieces x9) hdm)
        k (k0_off13 k) (k0_off13_eq k) (k0_off13_inb i k hc)
      refine (pb_k0_t9_succ ..).trans ?_
      show (trip_k0_t9 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _).1 ++ _ = _
      unfold trip_k0_t9
      rw [← r24]
      rfl)
  refine ⟨hb, left_of_eq ?_ h16, left_of_eq ?_ (whole_piece (F := F) (s := S1x128x128) (e := .bf16) ![0, 0, 0] (by decide) inb_S1x128x128_S1x128x128_0_0_0 _),
    left_of_eq ?_ (whole_piece (F := F) (s := S1x128) (e := .f32) ![0, 0] (by decide) inb_S1x128_S1x128_0_0 _)⟩
  · exact congrArg (fun v => (st_k0_t8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc v (harg6.unread x5) (harg8.unread x7) (arg22.view.writes (Elt F) arg22.view.junk (poolRun4.sl.S0_1 c arg5 harg5 arg10 harg10 x4 x9)) k0_pay45 16).2.1) hsc
  · show poolRun4.sl.H18_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 e1 = _
    unfold poolRun4.sl.H18_1 poolRun4.sl.v43
    rw [hsc]
    exact (congrArg (fun d => dwPieces d _) hx4).trans (congrArg (dwPieces x4) hdm)
  · show poolRun4.sl.H19_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x4 x5 x7 x9 x10 = _
    unfold poolRun4.sl.H19_1
    rw [hsc]
    exact congrArg dsPieces ha

end Cert.Proof.Mix

end
-- ==== Proof.Mix.Frame.lean ====
/-
  The run of the mixers' backward kernel: what its body leaves at every point of its grid (the CONVOLUTION half's five
  results at the first four points, one group's four POOLING results at each of the last four), that every point of the
  body leaves it, and that the program runs. The five results of the first half keep what the fourth point left until
  the last point, where they are written back.
-/
module

public import proofs.«01_k».proof.Proof.Mix.ConvClosed
public import proofs.«01_k».proof.Proof.Mix.PoolClosed
public import Idealize.ShloMosaic.Lib.Pipeline.TableIdle
public import Idealize.ShloMosaic.Lib.Claim

@[expose] public section

set_option maxRecDepth 16384

noncomputable section

namespace Cert.Proof.Mix

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref whose stores cover it and leave `d` is held at `d`. -/
theorem held_of_wrote (c : Dev nD) {sh : Shape} {e : EltTy} (a : Memref sig .tc .vmem sh e) {L : List (View.Piece (Elt F) sh e)} {d : Vec F sh e}
    (h : Leaves L d) : (wrote c a L : sProp 𝕄) ⊢ held c a d := by
  unfold held owns wrote
  iintro ⟨%f, H⟩; iexists _; isplitr; swap; · iexact H
  ipureintro; exact (View.read_writes_eq_canon _ _ _ h.1).trans h.2

/-- What one group's window sum gives back, by the point that computes it. -/
def group (t : ℕ) : Fin 16 → Vec F S144x128 .f32 → FVec F S128x128 .bf16 :=
  if t = 4 then fun k => k0_pay13 k else if t = 5 then fun k => k0_pay15 k else if t = 6 then fun k => k0_pay17 k else fun k => k0_pay19 k

/-- Which half a point computes. -/
theorem cond_conv : ∀ t : Fin grid0.N, t.val < 4 → k0_cond1 (grid0.coords t) = 1#1 ∧ ¬k0_cond2 (grid0.coords t) = 1#1
    ∧ ¬k0_cond3 (grid0.coords t) = 1#1 ∧ ¬k0_cond4 (grid0.coords t) = 1#1 ∧ ¬k0_cond5 (grid0.coords t) = 1#1 := by decide +kernel
theorem cond_pool : ∀ t : Fin grid0.N, 4 ≤ t.val → ¬k0_cond1 (grid0.coords t) = 1#1
    ∧ (k0_cond2 (grid0.coords t) = 1#1 ↔ t.val = 4) ∧ (k0_cond3 (grid0.coords t) = 1#1 ↔ t.val = 5)
    ∧ (k0_cond4 (grid0.coords t) = 1#1 ↔ t.val = 6) ∧ (k0_cond5 (grid0.coords t) = 1#1 ↔ t.val = 7) := by decide +kernel

set_option maxHeartbeats 1000000 in
/-- The convolution half at a point of it. -/
theorem conv_wp (c : Dev nD) (t : Fin grid0.N) (ht : t.val < 4) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (x0 x1 x2 x3 x6 : Vec F S2048x128 .bf16) (x8 : Vec F S1x1x3x128 .f32) (E : Set ℕ) (K : PUnit → sProp 𝕄) :
    iprop(held c arg1 x0 ∗ held c arg2 x1 ∗ held c arg3 x2 ∗ held c arg4 x3 ∗ held c arg7 x6 ∗ held c arg9 x8
        ∗ some' c arg13 ∗ some' c arg14 ∗ some' c arg15 ∗ some' c arg16 ∗ some' c arg19
        ∗ (iprop(held c arg1 x0 ∗ held c arg2 x1 ∗ held c arg3 x2 ∗ held c arg4 x3 ∗ held c arg7 x6 ∗ held c arg9 x8
          ∗ held c arg13 (convDu x0 x1 x2 x3 x6 x8) ∗ held c arg14 (convDb x0 x1 x2 x3 x6 x8) ∗ held c arg15 (convDc x0 x1 x2 x3 x6 x8)
          ∗ held c arg16 (convDg x0 x1 x2 x3 x6 x8) ∗ held c arg19 (convDw (convSt x0 x1 x2 x3 x6 32))) -∗ K ⟨⟩))
      ⊢ wp frame (wpE (defs₀ (F := F)) Variants.none c none) E (cc0_mix_bwd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  obtain ⟨h1, h2, h3, h4, h5⟩ := cond_conv t ht
  have hr := convRun_closed (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x0 x1 x2 x3 x6 x8
  dsimp only at hr
  obtain ⟨e1, e2, e3, e4, e5⟩ := hr
  generalize convRun (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 h3 h4 h5 x0 x1 x2 x3 x6 x8 = r at e1 e2 e3 e4 e5
  iintro ⟨H0, H1, H2, H3, H6, H8, H11, H12, H13, H14, H17, Hk⟩
  iapply (r.2.2.2.2.2 E K)
  isplitl [H0]; · iexact H0
  isplitl [H1]; · iexact H1
  isplitl [H2]; · iexact H2
  isplitl [H3]; · iexact H3
  isplitl [H6]; · iexact H6
  isplitl [H8]; · iexact H8
  isplitl [H11]; · iexact H11
  isplitl [H12]; · iexact H12
  isplitl [H13]; · iexact H13
  isplitl [H14]; · iexact H14
  isplitl [H17]; · iexact H17
  iintro ⟨H0, H1, H2, H3, H6, H8, H11, H12, H13, H14, H17⟩
  iapply Hk
  isplitl [H0]; · iexact H0
  isplitl [H1]; · iexact H1
  isplitl [H2]; · iexact H2
  isplitl [H3]; · iexact H3
  isplitl [H6]; · iexact H6
  isplitl [H8]; · iexact H8
  isplitl [H11]; · iapply (held_of_wrote c arg13 e1); iexact H11
  isplitl [H12]; · iapply (held_of_wrote c arg14 e2); iexact H12
  isplitl [H13]; · iapply (held_of_wrote c arg15 e3); iexact H13
  isplitl [H14]; · iapply (held_of_wrote c arg16 e4); iexact H14
  iapply (held_of_wrote c arg19 e5); iexact H17

set_option maxHeartbeats 4000000 in
/-- One group's pooling half at its point: the lists its stores leave, closed. -/
theorem pool_run (c : Dev nD) (t : Fin grid0.N) (ht : 4 ≤ t.val) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (x4 x5 x7 : Vec F S2048x128 .bf16) (x9 : Vec F S1x1x128x128 .f32) (x10 : Vec F S1x1x128 .f32)
    (e0 : Vec F S2048x128 .f32) (e1 : Vec F S2048x128 .bf16) (e2 : Vec F S2064x128 .f32) :
    ∃ r : PoolRun (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x4 x5 x7 x9 x10 e0 e1 e2,
      PoolClosed (group t.val) x4 x5 x7 x9 x10 r.1 r.2.1 r.2.2.1 r.2.2.2.1 := by
  obtain ⟨h1, h2, h3, h4, h5⟩ := cond_pool t ht
  have h8 : t.val < 8 := lt_of_lt_of_eq t.isLt N_0
  have hm : t.val = 4 ∨ t.val = 5 ∨ t.val = 6 ∨ t.val = 7 := by omega
  unfold group
  rcases hm with h | h | h | h
  · rw [if_pos h]
    exact ⟨poolRun1 (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (h2.mpr h) (fun e => by have := h3.mp e; omega) (fun e => by have := h4.mp e; omega) (fun e => by have := h5.mp e; omega) x4 x5 x7 x9 x10 e0 e1 e2, poolRun1_closed (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (h2.mpr h) (fun e => by have := h3.mp e; omega) (fun e => by have := h4.mp e; omega) (fun e => by have := h5.mp e; omega) x4 x5 x7 x9 x10 e0 e1 e2⟩
  · rw [if_neg (by omega), if_pos h]
    exact ⟨poolRun2 (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (fun e => by have := h2.mp e; omega) (h3.mpr h) (fun e => by have := h4.mp e; omega) (fun e => by have := h5.mp e; omega) x4 x5 x7 x9 x10 e0 e1 e2, poolRun2_closed (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (fun e => by have := h2.mp e; omega) (h3.mpr h) (fun e => by have := h4.mp e; omega) (fun e => by have := h5.mp e; omega) x4 x5 x7 x9 x10 e0 e1 e2⟩
  · rw [if_neg (by omega), if_neg (by omega), if_pos h]
    exact ⟨poolRun3 (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (fun e => by have := h2.mp e; omega) (fun e => by have := h3.mp e; omega) (h4.mpr h) (fun e => by have := h5.mp e; omega) x4 x5 x7 x9 x10 e0 e1 e2, poolRun3_closed (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (fun e => by have := h2.mp e; omega) (fun e => by have := h3.mp e; omega) (h4.mpr h) (fun e => by have := h5.mp e; omega) x4 x5 x7 x9 x10 e0 e1 e2⟩
  · rw [if_neg (by omega), if_neg (by omega), if_neg (by omega)]
    exact ⟨poolRun4 (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (fun e => by have := h2.mp e; omega) (fun e => by have := h3.mp e; omega) (fun e => by have := h4.mp e; omega) (h5.mpr h) x4 x5 x7 x9 x10 e0 e1 e2, poolRun4_closed (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 (fun e => by have := h2.mp e; omega) (fun e => by have := h3.mp e; omega) (fun e => by have := h4.mp e; omega) (h5.mpr h) x4 x5 x7 x9 x10 e0 e1 e2⟩

set_option maxHeartbeats 1000000 in
/-- One group's pooling half at its point. -/
theorem pool_wp (c : Dev nD) (t : Fin grid0.N) (ht : 4 ≤ t.val) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x3x128 .f32) (harg9 : arg9.IsWhole) (arg10 : Memref sig .tc .vmem S1x1x128x128 .f32) (harg10 : arg10.IsWhole) (arg11 : Memref sig .tc .vmem S1x1x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S1x3x128 .f32) (harg19 : arg19.IsWhole) (arg20 : Memref sig .tc .vmem S1x128x128 .bf16) (harg20 : arg20.IsWhole) (arg21 : Memref sig .tc .vmem S1x128 .f32) (harg21 : arg21.IsWhole) (arg22 : Memref sig .tc .vmem S2048x128 .f32) (harg22 : arg22.IsWhole) (arg23 : Memref sig .tc .vmem S2048x128 .bf16) (harg23 : arg23.IsWhole) (arg24 : Memref sig .tc .vmem S2064x128 .f32) (harg24 : arg24.IsWhole)
    (x4 x5 x7 : Vec F S2048x128 .bf16) (x9 : Vec F S1x1x128x128 .f32) (x10 : Vec F S1x1x128 .f32) (E : Set ℕ) (K : PUnit → sProp 𝕄) :
    iprop(held c arg5 x4 ∗ held c arg6 x5 ∗ held c arg8 x7 ∗ held c arg10 x9 ∗ held c arg11 x10
        ∗ some' c arg17 ∗ some' c arg18 ∗ some' c arg20 ∗ some' c arg21 ∗ some' c arg22 ∗ some' c arg23 ∗ some' c arg24
        ∗ (iprop(held c arg5 x4 ∗ held c arg6 x5 ∗ held c arg8 x7 ∗ held c arg10 x9 ∗ held c arg11 x10
          ∗ held c arg17 (poolDu (group t.val) (poolDp x9 (poolDmix x10 x5 x7))) ∗ held c arg18 (poolDg x10 x5 x7 (k0_pay43 x9 x4))
          ∗ held c arg20 (k0_pay12 x4 (poolDmix x10 x5 x7)) ∗ held c arg21 (k0_pay54 (poolAcc x5 x7 (k0_pay43 x9 x4) 16))
          ∗ some' c arg22 ∗ some' c arg23 ∗ some' c arg24) -∗ K ⟨⟩))
      ⊢ wp frame (wpE (defs₀ (F := F)) Variants.none c none) E (cc0_mix_bwd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  iintro ⟨H4, H5, H7, H9, H10, H15, H16, H18, H19, ⟨%s0, S0⟩, ⟨%s1, S1⟩, ⟨%s2, S2⟩, Hk⟩
  obtain ⟨r, e1, e2, e3, e4⟩ := pool_run (F := F) c t ht arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x4 x5 x7 x9 x10 s0 s1 s2
  iapply (r.2.2.2.2 E K)
  isplitl [H4]; · iexact H4
  isplitl [H5]; · iexact H5
  isplitl [H7]; · iexact H7
  isplitl [H9]; · iexact H9
  isplitl [H10]; · iexact H10
  isplitl [H15]; · iexact H15
  isplitl [H16]; · iexact H16
  isplitl [H18]; · iexact H18
  isplitl [H19]; · iexact H19
  isplitl [S0]; · iexact S0
  isplitl [S1]; · iexact S1
  isplitl [S2]; · iexact S2
  iintro ⟨H4, H5, H7, H9, H10, H15, H16, H18, H19, S0, S1, S2⟩
  iapply Hk
  isplitl [H4]; · iexact H4
  isplitl [H5]; · iexact H5
  isplitl [H7]; · iexact H7
  isplitl [H9]; · iexact H9
  isplitl [H10]; · iexact H10
  isplitl [H15]; · iapply (held_of_wrote c arg17 e1); iexact H15
  isplitl [H16]; · iapply (held_of_wrote c arg18 e2); iexact H16
  isplitl [H18]; · iapply (held_of_wrote c arg20 e3); iexact H18
  isplitl [H19]; · iapply (held_of_wrote c arg21 e4); iexact H19
  isplitl [S0]; · iexact S0
  isplitl [S1]; · iexact S1
  iexact S2

variable (m : (ℓ : Loc nD τ sig) → Buf (Elt F) ℓ) (ρ : Dev nD → PrngReg)

/-- The point whose convolution results a point's buffers hold: itself in the first half, the fourth after it. -/
def kept (t : Fin cfg0.N) : Fin cfg0.N := if t.val < 4 then t else t0_3

/-- The windows' blocks, at the body's types. -/
abbrev b0 (c : Dev nD) (t : Fin cfg0.N) : Vec F S2048x128 .bf16 := iblk m c 0 t
abbrev b1 (c : Dev nD) (t : Fin cfg0.N) : Vec F S2048x128 .bf16 := iblk m c 1 t
abbrev b2 (c : Dev nD) (t : Fin cfg0.N) : Vec F S2048x128 .bf16 := iblk m c 2 t
abbrev b3 (c : Dev nD) (t : Fin cfg0.N) : Vec F S2048x128 .bf16 := iblk m c 3 t
abbrev b4 (c : Dev nD) (t : Fin cfg0.N) : Vec F S2048x128 .bf16 := iblk m c 4 t
abbrev b5 (c : Dev nD) (t : Fin cfg0.N) : Vec F S2048x128 .bf16 := iblk m c 5 t
abbrev b6 (c : Dev nD) (t : Fin cfg0.N) : Vec F S2048x128 .bf16 := iblk m c 6 t
abbrev b7 (c : Dev nD) (t : Fin cfg0.N) : Vec F S2048x128 .bf16 := iblk m c 7 t
abbrev b8 (c : Dev nD) (t : Fin cfg0.N) : Vec F S1x1x3x128 .f32 := iblk m c 8 t
abbrev b9 (c : Dev nD) (t : Fin cfg0.N) : Vec F S1x1x128x128 .f32 := iblk m c 9 t
abbrev b10 (c : Dev nD) (t : Fin cfg0.N) : Vec F S1x1x128 .f32 := iblk m c 10 t

/-- What each result's buffer holds after a point of the half that computes it. -/
def o11 (c : Dev nD) (t : Fin cfg0.N) : Vec F S2048x128 .bf16 := convDu (b0 m c t) (b1 m c t) (b2 m c t) (b3 m c t) (b6 m c t) (b8 m c t)
def o12 (c : Dev nD) (t : Fin cfg0.N) : Vec F S2048x128 .bf16 := convDb (b0 m c t) (b1 m c t) (b2 m c t) (b3 m c t) (b6 m c t) (b8 m c t)
def o13 (c : Dev nD) (t : Fin cfg0.N) : Vec F S2048x128 .bf16 := convDc (b0 m c t) (b1 m c t) (b2 m c t) (b3 m c t) (b6 m c t) (b8 m c t)
def o14 (c : Dev nD) (t : Fin cfg0.N) : Vec F S2048x128 .bf16 := convDg (b0 m c t) (b1 m c t) (b2 m c t) (b3 m c t) (b6 m c t) (b8 m c t)
def o17 (c : Dev nD) (t : Fin cfg0.N) : Vec F S1x3x128 .f32 := convDw (convSt (b0 m c t) (b1 m c t) (b2 m c t) (b3 m c t) (b6 m c t) 32)
def o15 (c : Dev nD) (t : Fin cfg0.N) : Vec F S2048x128 .bf16 := poolDu (group t.val) (poolDp (b9 m c t) (poolDmix (b10 m c t) (b5 m c t) (b7 m c t)))
def o16 (c : Dev nD) (t : Fin cfg0.N) : Vec F S2048x128 .bf16 := poolDg (b10 m c t) (b5 m c t) (b7 m c t) (k0_pay43 (b9 m c t) (b4 m c t))
def o18 (c : Dev nD) (t : Fin cfg0.N) : Vec F S1x128x128 .bf16 := k0_pay12 (b4 m c t) (poolDmix (b10 m c t) (b5 m c t) (b7 m c t))
def o19 (c : Dev nD) (t : Fin cfg0.N) : Vec F S1x128 .f32 := k0_pay54 (poolAcc (b5 m c t) (b7 m c t) (k0_pay43 (b9 m c t) (b4 m c t)) 16)

/-- The proof data: what every window's buffer holds after every point. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => o11 m c (kept t)
    | ⟨12, _⟩ => o12 m c (kept t)
    | ⟨13, _⟩ => o13 m c (kept t)
    | ⟨14, _⟩ => o14 m c (kept t)
    | ⟨15, _⟩ => o15 m c t
    | ⟨16, _⟩ => o16 m c t
    | ⟨17, _⟩ => o17 m c (kept t)
    | ⟨18, _⟩ => o18 m c t
    | ⟨19, _⟩ => o19 m c t
    | ⟨_ + 20, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = b0 m c t := by dsimp only [dats]
theorem after_1 (c : Dev nD) (t : Fin cfg0.N) : (dats m 0 c).after 1 t = b1 m c t := by dsimp only [dats]
theorem after_2 (c : Dev nD) (t : Fin cfg0.N) : (dats m 0 c).after 2 t = b2 m c t := by dsimp only [dats]
theorem after_3 (c : Dev nD) (t : Fin cfg0.N) : (dats m 0 c).after 3 t = b3 m c t := by dsimp only [dats]
theorem after_4 (c : Dev nD) (t : Fin cfg0.N) : (dats m 0 c).after 4 t = b4 m c t := by dsimp only [dats]
theorem after_5 (c : Dev nD) (t : Fin cfg0.N) : (dats m 0 c).after 5 t = b5 m c t := by dsimp only [dats]
theorem after_6 (c : Dev nD) (t : Fin cfg0.N) : (dats m 0 c).after 6 t = b6 m c t := by dsimp only [dats]
theorem after_7 (c : Dev nD) (t : Fin cfg0.N) : (dats m 0 c).after 7 t = b7 m c t := by dsimp only [dats]
theorem after_8 (c : Dev nD) (t : Fin cfg0.N) : (dats m 0 c).after 8 t = b8 m c t := by dsimp only [dats]
theorem after_9 (c : Dev nD) (t : Fin cfg0.N) : (dats m 0 c).after 9 t = b9 m c t := by dsimp only [dats]
theorem after_10 (c : Dev nD) (t : Fin cfg0.N) : (dats m 0 c).after 10 t = b10 m c t := by dsimp only [dats]
theorem after_11 (c : Dev nD) (t : Fin cfg0.N) : (dats m 0 c).after 11 t = o11 m c (kept t) := by dsimp only [dats]
theorem after_12 (c : Dev nD) (t : Fin cfg0.N) : (dats m 0 c).after 12 t = o12 m c (kept t) := by dsimp only [dats]
theorem after_13 (c : Dev nD) (t : Fin cfg0.N) : (dats m 0 c).after 13 t = o13 m c (kept t) := by dsimp only [dats]
theorem after_14 (c : Dev nD) (t : Fin cfg0.N) : (dats m 0 c).after 14 t = o14 m c (kept t) := by dsimp only [dats]
theorem after_15 (c : Dev nD) (t : Fin cfg0.N) : (dats m 0 c).after 15 t = o15 m c t := by dsimp only [dats]
theorem after_16 (c : Dev nD) (t : Fin cfg0.N) : (dats m 0 c).after 16 t = o16 m c t := by dsimp only [dats]
theorem after_17 (c : Dev nD) (t : Fin cfg0.N) : (dats m 0 c).after 17 t = o17 m c (kept t) := by dsimp only [dats]
theorem after_18 (c : Dev nD) (t : Fin cfg0.N) : (dats m 0 c).after 18 t = o18 m c t := by dsimp only [dats]
theorem after_19 (c : Dev nD) (t : Fin cfg0.N) : (dats m 0 c).after 19 t = o19 m c t := by dsimp only [dats]

theorem before_0 (c : Dev nD) (t : Fin cfg0.N) (d) : (dats m 0 c).before 0 t d = b0 m c t := before0_0_of m (dats m 0 c) (A_eq m c 0) (after_0 m c) t d
theorem before_1 (c : Dev nD) (t : Fin cfg0.N) (d) : (dats m 0 c).before 1 t d = b1 m c t := before0_1_of m (dats m 0 c) (A_eq m c 1) (after_1 m c) t d
theorem before_2 (c : Dev nD) (t : Fin cfg0.N) (d) : (dats m 0 c).before 2 t d = b2 m c t := before0_2_of m (dats m 0 c) (A_eq m c 2) (after_2 m c) t d
theorem before_3 (c : Dev nD) (t : Fin cfg0.N) (d) : (dats m 0 c).before 3 t d = b3 m c t := before0_3_of m (dats m 0 c) (A_eq m c 3) (after_3 m c) t d
theorem before_4 (c : Dev nD) (t : Fin cfg0.N) (d) : (dats m 0 c).before 4 t d = b4 m c t := before0_4_of m (dats m 0 c) (A_eq m c 4) (after_4 m c) t d
theorem before_5 (c : Dev nD) (t : Fin cfg0.N) (d) : (dats m 0 c).before 5 t d = b5 m c t := before0_5_of m (dats m 0 c) (A_eq m c 5) (after_5 m c) t d
theorem before_6 (c : Dev nD) (t : Fin cfg0.N) (d) : (dats m 0 c).before 6 t d = b6 m c t := before0_6_of m (dats m 0 c) (A_eq m c 6) (after_6 m c) t d
theorem before_7 (c : Dev nD) (t : Fin cfg0.N) (d) : (dats m 0 c).before 7 t d = b7 m c t := before0_7_of m (dats m 0 c) (A_eq m c 7) (after_7 m c) t d
theorem before_8 (c : Dev nD) (t : Fin cfg0.N) (d) : (dats m 0 c).before 8 t d = b8 m c t := before0_8_of m (dats m 0 c) (A_eq m c 8) (after_8 m c) t d
theorem before_9 (c : Dev nD) (t : Fin cfg0.N) (d) : (dats m 0 c).before 9 t d = b9 m c t := before0_9_of m (dats m 0 c) (A_eq m c 9) (after_9 m c) t d
theorem before_10 (c : Dev nD) (t : Fin cfg0.N) (d) : (dats m 0 c).before 10 t d = b10 m c t := before0_10_of m (dats m 0 c) (A_eq m c 10) (after_10 m c) t d

/-- The current staging memref of each window. -/
abbrev ms0 (t : Fin cfg0.N) := (cfg0.win 0).stage (cfg0.slots t 0)
abbrev ms1 (t : Fin cfg0.N) := (cfg0.win 1).stage (cfg0.slots t 1)
abbrev ms2 (t : Fin cfg0.N) := (cfg0.win 2).stage (cfg0.slots t 2)
abbrev ms3 (t : Fin cfg0.N) := (cfg0.win 3).stage (cfg0.slots t 3)
abbrev ms4 (t : Fin cfg0.N) := (cfg0.win 4).stage (cfg0.slots t 4)
abbrev ms5 (t : Fin cfg0.N) := (cfg0.win 5).stage (cfg0.slots t 5)
abbrev ms6 (t : Fin cfg0.N) := (cfg0.win 6).stage (cfg0.slots t 6)
abbrev ms7 (t : Fin cfg0.N) := (cfg0.win 7).stage (cfg0.slots t 7)
abbrev ms8 (t : Fin cfg0.N) := (cfg0.win 8).stage (cfg0.slots t 8)
abbrev ms9 (t : Fin cfg0.N) := (cfg0.win 9).stage (cfg0.slots t 9)
abbrev ms10 (t : Fin cfg0.N) := (cfg0.win 10).stage (cfg0.slots t 10)
abbrev ms11 (t : Fin cfg0.N) := (cfg0.win 11).stage (cfg0.slots t 11)
abbrev ms12 (t : Fin cfg0.N) := (cfg0.win 12).stage (cfg0.slots t 12)
abbrev ms13 (t : Fin cfg0.N) := (cfg0.win 13).stage (cfg0.slots t 13)
abbrev ms14 (t : Fin cfg0.N) := (cfg0.win 14).stage (cfg0.slots t 14)
abbrev ms15 (t : Fin cfg0.N) := (cfg0.win 15).stage (cfg0.slots t 15)
abbrev ms16 (t : Fin cfg0.N) := (cfg0.win 16).stage (cfg0.slots t 16)
abbrev ms17 (t : Fin cfg0.N) := (cfg0.win 17).stage (cfg0.slots t 17)
abbrev ms18 (t : Fin cfg0.N) := (cfg0.win 18).stage (cfg0.slots t 18)
abbrev ms19 (t : Fin cfg0.N) := (cfg0.win 19).stage (cfg0.slots t 19)

/-- When the first half's results are kept, and when they are written back; and the second half's. -/
theorem sched : ∀ t : Fin grid0.N, (t.val < 4 →
    (cfg0.idle 11 (grid0.coords t) = false ∧ cfg0.idle 12 (grid0.coords t) = false ∧ cfg0.idle 13 (grid0.coords t) = false ∧ cfg0.idle 14 (grid0.coords t) = false ∧ cfg0.idle 17 (grid0.coords t) = false)
    ∧ (cfg0.idle 15 (grid0.coords t) = true ∧ cfg0.idle 16 (grid0.coords t) = true ∧ cfg0.idle 18 (grid0.coords t) = true ∧ cfg0.idle 19 (grid0.coords t) = true)) ∧ (4 ≤ t.val →
    (cfg0.idle 11 (grid0.coords t) = true ∧ cfg0.idle 12 (grid0.coords t) = true ∧ cfg0.idle 13 (grid0.coords t) = true ∧ cfg0.idle 14 (grid0.coords t) = true ∧ cfg0.idle 17 (grid0.coords t) = true)
    ∧ (cfg0.idle 15 (grid0.coords t) = false ∧ cfg0.idle 16 (grid0.coords t) = false ∧ cfg0.idle 18 (grid0.coords t) = false ∧ cfg0.idle 19 (grid0.coords t) = false)) := by
  decide +kernel

/-- A window the body stores into is left at what it stores. -/
theorem leaves_stored (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window the body leaves alone keeps what it held (`hb`: where it is written back, that is what the proof data say). -/
theorem leaves_kept (c : Dev nD) (w : Fin cfg0.W) (t : Fin cfg0.N) (h : cfg0.idle w (cfg0.grid.coords t) = true)
    (hb : (cfg0.win w).flush t = true → ∀ d, (dats m 0 c).before w t d = (dats m 0 c).after w t) :
    (iprop(∃ d, owns (c : Thread nD τ) ((cfg0.win w).stage (cfg0.slots t w)) fullShare ((dats m 0 c).before w t d)) : sProp 𝕄) ⊢ (dats m 0 c).leavesExact w t := by
  cases hf : (cfg0.win w).flush t
  · rw [Dat.leavesExact_idle (dats m 0 c) w t h hf]
  · have e : (dats m 0 c).leavesExact w t = owns (c : Thread nD τ) ((cfg0.win w).stage (cfg0.slots t w)) fullShare ((dats m 0 c).after w t) := by
      unfold Dat.leavesExact; rw [h, hf]
    rw [e]
    iintro ⟨%d, H⟩
    rw [hb hf d]
    iexact H

/-- Where a first-half result's buffer holds nothing the body stored. -/
abbrev tab (n : ℕ) : Bool := decide (n ≤ 3) || decide (n = 8)

/-- A first-half result's buffer at a point of the second half holds what the fourth point left. -/
theorem kept_before (c : Dev nD) (w : Fin cfg0.W) (hout : (cfg0.win w).isOut = true) (hclip : ∀ (i : cfg0.grid.Coords) a, (cfg0.win w).clip i a = none)
    (htab : ∀ t : Fin cfg0.N, tab (t.val + 1) = ((cfg0.win w).flush t || (cfg0.idle w (cfg0.grid.coords t) && tab t.val)))
    (hidle : ∀ t : Fin cfg0.N, t.val < 4 → cfg0.idle w (cfg0.grid.coords t) = false)
    (hafter : ∀ t t' : Fin cfg0.N, kept t = kept t' → (dats m 0 c).after w t = (dats m 0 c).after w t')
    (t : Fin cfg0.N) (ht : 4 ≤ t.val) (d) : (dats m 0 c).before w t d = (dats m 0 c).after w t := by
  have hk : ∀ t : Fin cfg0.N, 4 ≤ t.val → (dats m 0 c).after w t = (dats m 0 c).after w ⟨t.val - 1, by omega⟩ := fun t ht => hafter _ _ (by
    unfold kept
    rw [if_neg (by omega)]
    by_cases h : t.val = 4
    · rw [if_pos (show t.val - 1 < 4 by omega)]; exact Fin.ext (show 3 = t.val - 1 by omega)
    · rw [if_neg (show ¬ t.val - 1 < 4 by omega)])
  have h8 : t.val < 8 := lt_of_lt_of_eq t.isLt N_0
  rw [Dat.before_out_traj (dats m 0 c) w hout hclip (fun t _ hi _ => hk t (by
      by_contra h; rw [hidle t (by omega)] at hi; exact Bool.false_ne_true hi)) t.val t rfl d,
    Pipeline.Cfg.fresh_tab cfg0 w tab rfl htab t.val t.isLt.le, if_neg (by simp only [tab, Bool.or_eq_true, decide_eq_true_eq]; omega)]
  exact (hk t ht).symm

theorem before_11 (c : Dev nD) (t : Fin cfg0.N) (ht : 4 ≤ t.val) (d) : (dats m 0 c).before 11 t d = (dats m 0 c).after 11 t :=
  kept_before m c 11 rfl (fun _ _ => rfl) (by decide +kernel : ∀ t : Fin grid0.N, _) (by decide +kernel : ∀ t : Fin grid0.N, _)
    (fun t t' e => by rw [after_11, after_11, e]) t ht d
theorem before_12 (c : Dev nD) (t : Fin cfg0.N) (ht : 4 ≤ t.val) (d) : (dats m 0 c).before 12 t d = (dats m 0 c).after 12 t :=
  kept_before m c 12 rfl (fun _ _ => rfl) (by decide +kernel : ∀ t : Fin grid0.N, _) (by decide +kernel : ∀ t : Fin grid0.N, _)
    (fun t t' e => by rw [after_12, after_12, e]) t ht d
theorem before_13 (c : Dev nD) (t : Fin cfg0.N) (ht : 4 ≤ t.val) (d) : (dats m 0 c).before 13 t d = (dats m 0 c).after 13 t :=
  kept_before m c 13 rfl (fun _ _ => rfl) (by decide +kernel : ∀ t : Fin grid0.N, _) (by decide +kernel : ∀ t : Fin grid0.N, _)
    (fun t t' e => by rw [after_13, after_13, e]) t ht d
theorem before_14 (c : Dev nD) (t : Fin cfg0.N) (ht : 4 ≤ t.val) (d) : (dats m 0 c).before 14 t d = (dats m 0 c).after 14 t :=
  kept_before m c 14 rfl (fun _ _ => rfl) (by decide +kernel : ∀ t : Fin grid0.N, _) (by decide +kernel : ∀ t : Fin grid0.N, _)
    (fun t t' e => by rw [after_14, after_14, e]) t ht d
theorem before_17 (c : Dev nD) (t : Fin cfg0.N) (ht : 4 ≤ t.val) (d) : (dats m 0 c).before 17 t d = (dats m 0 c).after 17 t :=
  kept_before m c 17 rfl (fun _ _ => rfl) (by decide +kernel : ∀ t : Fin grid0.N, _) (by decide +kernel : ∀ t : Fin grid0.N, _)
    (fun t t' e => by rw [after_17, after_17, e]) t ht d

/-- The second half's results are not written back in the first half. -/
theorem unflushed : ∀ t : Fin grid0.N, t.val < 4 →
    (cfg0.win 15).flush t = false ∧ (cfg0.win 16).flush t = false ∧ (cfg0.win 18).flush t = false ∧ (cfg0.win 19).flush t = false := by
  decide +kernel

/-- The scratch arrays, each whole at some contents, with the generator's register. -/
theorem scratch_eq (c : Dev nD) :
    (Pipeline.ΦA spec0 c : sProp 𝕄)
      = iprop(iprop(some' c (Memref.whole cc0_scratch0) ∗ some' c (Memref.whole cc0_scratch1) ∗ some' c (Memref.whole cc0_scratch2)) ∗ (∃ r, prngReg c r)) := by
  unfold Pipeline.ΦA; rw [scopedRest0_eq]; simp only [some', owns_whole]; try rfl

/-- What the body takes at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 8000000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, scratch_eq]
  rw [leaves_stored m c 0 t rfl, after_0, leaves_stored m c 1 t rfl, after_1, leaves_stored m c 2 t rfl, after_2, leaves_stored m c 3 t rfl, after_3, leaves_stored m c 4 t rfl, after_4, leaves_stored m c 5 t rfl, after_5, leaves_stored m c 6 t rfl, after_6, leaves_stored m c 7 t rfl, after_7, leaves_stored m c 8 t rfl, after_8, leaves_stored m c 9 t rfl, after_9, leaves_stored m c 10 t rfl, after_10]
  by_cases ht : t.val < 4
  · have ek : kept t = t := if_pos ht
    obtain ⟨⟨i11, i12, i13, i14, i17⟩, i15, i16, i18, i19⟩ := (sched t).1 ht
    obtain ⟨n15, n16, n18, n19⟩ := unflushed t ht
    rw [leaves_stored m c 11 t i11, after_11, leaves_stored m c 12 t i12, after_12, leaves_stored m c 13 t i13, after_13, leaves_stored m c 14 t i14, after_14, leaves_stored m c 17 t i17, after_17, ek]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, ⟨%d17, H17⟩, H18, H19⟩
    iapply (conv_wp (F := F) c t ht _ _ _ _ _ _ _ _ _ _ _ _ _ _ _ _ _ _ _ _ _ _ _ _ _ _ _ _ _ _ _ _ _ _ _ _ _ _ _ _ _ _ _ _ _ _ _ _ (b0 m c t) (b1 m c t) (b2 m c t) (b3 m c t) (b6 m c t) (b8 m c t) Set.univ _)
    isplitl [H0]; · iexact H0
    isplitl [H1]; · iexact H1
    isplitl [H2]; · iexact H2
    isplitl [H3]; · iexact H3
    isplitl [H6]; · iexact H6
    isplitl [H8]; · iexact H8
    isplitl [H11]; · iexists _; iexact H11
    isplitl [H12]; · iexists _; iexact H12
    isplitl [H13]; · iexists _; iexact H13
    isplitl [H14]; · iexists _; iexact H14
    isplitl [H17]; · iexists _; iexact H17
    iintro ⟨H0, H1, H2, H3, H6, H8, H11, H12, H13, H14, H17⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iapply (leaves_kept m c 15 t i15 (fun h => absurd h (by rw [n15]; exact Bool.false_ne_true))); iexact H15
    isplitl [H16]; · iapply (leaves_kept m c 16 t i16 (fun h => absurd h (by rw [n16]; exact Bool.false_ne_true))); iexact H16
    isplitl [H17]; · iexact H17
    isplitl [H18]; · iapply (leaves_kept m c 18 t i18 (fun h => absurd h (by rw [n18]; exact Bool.false_ne_true))); iexact H18
    iapply (leaves_kept m c 19 t i19 (fun h => absurd h (by rw [n19]; exact Bool.false_ne_true))); iexact H19
  · have ht' : 4 ≤ t.val := by omega
    obtain ⟨⟨i11, i12, i13, i14, i17⟩, i15, i16, i18, i19⟩ := (sched t).2 ht'
    rw [leaves_stored m c 15 t i15, after_15, leaves_stored m c 16 t i16, after_16, leaves_stored m c 18 t i18, after_18, leaves_stored m c 19 t i19, after_19]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, ⟨%d15, H15⟩, ⟨%d16, H16⟩, H17, ⟨%d18, H18⟩, ⟨%d19, H19⟩⟩
    iapply (pool_wp (F := F) c t ht' _ _ _ _ _ _ _ _ _ _ _ _ _ _ _ _ _ _ _ _ _ _ _ _ _ _ _ _ _ _ _ _ _ _ _ _ _ _ _ _ _ _ _ _ _ _ _ _ (b4 m c t) (b5 m c t) (b7 m c t) (b9 m c t) (b10 m c t) Set.univ _)
    isplitl [H4]; · iexact H4
    isplitl [H5]; · iexact H5
    isplitl [H7]; · iexact H7
    isplitl [H9]; · iexact H9
    isplitl [H10]; · iexact H10
    isplitl [H15]; · iexists _; iexact H15
    isplitl [H16]; · iexists _; iexact H16
    isplitl [H18]; · iexists _; iexact H18
    isplitl [H19]; · iexists _; iexact H19
    isplitl [S0]; · iexact S0
    isplitl [S1]; · iexact S1
    isplitl [S2]; · iexact S2
    iintro ⟨H4, H5, H7, H9, H10, H15, H16, H18, H19, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_kept m c 11 t i11 (fun _ => before_11 m c t ht')); iexact H11
    isplitl [H12]; · iapply (leaves_kept m c 12 t i12 (fun _ => before_12 m c t ht')); iexact H12
    isplitl [H13]; · iapply (leaves_kept m c 13 t i13 (fun _ => before_13 m c t ht')); iexact H13
    isplitl [H14]; · iapply (leaves_kept m c 14 t i14 (fun _ => before_14 m c t ht')); iexact H14
    isplitl [H15]; · iexact H15
    isplitl [H16]; · iexact H16
    isplitl [H17]; · iapply (leaves_kept m c 17 t i17 (fun _ => before_17 m c t ht')); iexact H17
    isplitl [H18]; · iexact H18
    iexact H19

/-- The body as the region calls it. -/
theorem defs_row (t : Fin cfg0.N) : defs₀ (F := F) .tc cfg0.body (cfg0.bodyArgs t (cfg0.slots t)) = bodyAt0 t := by
  unfold defs₀; rw [Defs.onTc_tc]

set_option maxHeartbeats 8000000 in
/-- The body obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The program runs, and every counter ends at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiescent m ρ)

set_option maxHeartbeats 2000000 in
/-- The argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_quiescent m ρ))

end Cert.Proof.Mix

end
-- ==== Proof.Mix.RefAt.lean ====
/-
  The plain program's gradients of the convolution mixer and of the pooling mixer at an index, over the extended reals.
-/
module

public import proofs.«01_k».proof.Proof.Gen.MixRefIdeal.Read
public import proofs.«01_k».proof.Proof.Mix.ConvAt
public import proofs.«01_k».proof.Proof.Mix.Frame

@[expose] public section

set_option maxRecDepth 16384

noncomputable section

namespace Cert.Proof.Mix

open Cert.MixIdeal Cert.MixIdeal.Gen Cert.MixRefIdeal.Read Idealize.ShloMosaic Idealize.ShloMosaic.TcCoe Idealize.SL.Sem

section Ref

variable (x0 : (⟨S2048x3072, .bf16⟩ : BufTy).Contents (Elt Ideal)) (x1 : (⟨S4x3x512, .f32⟩ : BufTy).Contents (Elt Ideal))
  (x2 : (⟨S4x4x128x128, .f32⟩ : BufTy).Contents (Elt Ideal)) (x3 : (⟨S4x512, .f32⟩ : BufTy).Contents (Elt Ideal))
  (x4 x5 : (⟨S2048x512, .bf16⟩ : BufTy).Contents (Elt Ideal))

/-- The column of a group among the 512. -/
abbrev at512 (j : Fin 4) (d : Fin 128) : Fin 512 := ⟨j.val * 128 + d.val, by omega⟩
/-- A block of 128 columns of the projection, and of a gradient. -/
def cols (s : ℕ) (hs : s < 24) : Vec Ideal S2048x128 .bf16 := fun y => x0 (ix2 (y 0) ⟨s * 128 + (y 1).val, by have h : (y 1).val < 128 := (y 1).isLt; omega⟩)
def cols4 (x : (⟨S2048x512, .bf16⟩ : BufTy).Contents (Elt Ideal)) (j : Fin 4) : Vec Ideal S2048x128 .bf16 := fun y => x (ix2 (y 0) (at512 j (y 1)))
/-- A group's taps, weight and scale of the layer. -/
def tapsOf (j : Fin 4) : Vec Ideal S1x1x3x128 .f32 := fun y => x1 (ix3 2 (y 2) (at512 j (y 3)))
def weightOf (j : Fin 4) : Vec Ideal S1x1x128x128 .f32 := fun y => x2 (ix4 2 j (y 2) (y 3))
def scaleOf (j : Fin 4) : Vec Ideal S1x1x128 .f32 := fun y => x3 (ix2 2 (at512 j (y 2)))
/-- A group's pooled columns. -/
def pooledOf (j : Fin 4) : Vec Ideal S2048x128 .bf16 := fun y => val_main_v101 x0 (ix3 (y 0) j (y 1))

section Sections

variable (R : Fin 2048) (l : Fin 512)

theorem sec0 : val_main_v236 x0 x1 x2 x3 x4 x5 (ix2 R l) = val_main_v222 x0 x1 x4 x5 (ix2 R l) := by
  pointwise [val_main_v236, val_main_v235, val_main_v234, val_main_v232, val_main_v230, val_main_v228, val_main_v226,
    val_main_v224, val_main_v225, val_main_v227, val_main_v229, val_main_v231, val_main_v233, val_main_cst_36, val_main_cst_37, val_main_cst_38, val_main_cst_39, val_main_cst_40, val_main_cst_41]
  simp (disch := omega) only [dif_neg, zero_add, add_zero]
  rw [dif_neg (fun h => h.1), zero_add]
theorem sec1 : val_main_v238 x0 x1 x2 x3 x4 x5 (ix2 R l) = val_main_v187 x0 x1 x4 x5 (ix2 R l) := by
  pointwise [val_main_v238, val_main_v237, val_main_v234, val_main_v232, val_main_v230, val_main_v228, val_main_v226,
    val_main_v224, val_main_v225, val_main_v227, val_main_v229, val_main_v231, val_main_v233, val_main_cst_36, val_main_cst_37, val_main_cst_38, val_main_cst_39, val_main_cst_40, val_main_cst_41]
  simp (disch := omega) only [dif_neg, dif_pos, zero_add, add_zero, Nat.add_sub_cancel_left]
theorem sec2 : val_main_v240 x0 x1 x2 x3 x4 x5 (ix2 R l) = val_main_v223 x0 x1 x4 x5 (ix2 R l) := by
  pointwise [val_main_v240, val_main_v239, val_main_v234, val_main_v232, val_main_v230, val_main_v228, val_main_v226,
    val_main_v224, val_main_v225, val_main_v227, val_main_v229, val_main_v231, val_main_v233, val_main_cst_36, val_main_cst_37, val_main_cst_38, val_main_cst_39, val_main_cst_40, val_main_cst_41]
  simp (disch := omega) only [dif_neg, dif_pos, zero_add, add_zero, Nat.add_sub_cancel_left]
theorem sec3 : val_main_v242 x0 x1 x2 x3 x4 x5 (ix2 R l) = val_main_v185 x0 x1 x4 x5 (ix2 R l) := by
  pointwise [val_main_v242, val_main_v241, val_main_v234, val_main_v232, val_main_v230, val_main_v228, val_main_v226,
    val_main_v224, val_main_v225, val_main_v227, val_main_v229, val_main_v231, val_main_v233, val_main_cst_36, val_main_cst_37, val_main_cst_38, val_main_cst_39, val_main_cst_40, val_main_cst_41]
  simp (disch := omega) only [dif_neg, dif_pos, zero_add, add_zero, Nat.add_sub_cancel_left]
theorem sec4 : val_main_v244 x0 x1 x2 x3 x4 x5 (ix2 R l) = val_main_v182 x0 x2 x3 x4 x5 (ix2 R l) := by
  pointwise [val_main_v244, val_main_v243, val_main_v234, val_main_v232, val_main_v230, val_main_v228, val_main_v226,
    val_main_v224, val_main_v225, val_main_v227, val_main_v229, val_main_v231, val_main_v233, val_main_cst_36, val_main_cst_37, val_main_cst_38, val_main_cst_39, val_main_cst_40, val_main_cst_41]
  simp (disch := omega) only [dif_neg, dif_pos, zero_add, add_zero, Nat.add_sub_cancel_left]
theorem sec5 : val_main_v246 x0 x1 x2 x3 x4 x5 (ix2 R l) = val_main_v115 x0 x2 x3 x4 x5 (ix2 R l) := by
  pointwise [val_main_v246, val_main_v245, val_main_v234, val_main_v232, val_main_v230, val_main_v228, val_main_v226,
    val_main_v224, val_main_v225, val_main_v227, val_main_v229, val_main_v231, val_main_v233, val_main_cst_36, val_main_cst_37, val_main_cst_38, val_main_cst_39, val_main_cst_40, val_main_cst_41]
  simp (disch := omega) only [dif_neg, dif_pos, zero_add, add_zero, Nat.add_sub_cancel_left]

end Sections

theorem ref_dya (R : Fin 2048) (l : Fin 512) : val_main_v111 x4 x5 (ix2 R l) = x4 (ix2 R l) := by
  pointwise [val_main_v111, val_main_v1, val_main_v0]
theorem ref_dyp (R : Fin 2048) (l : Fin 512) : val_main_v112 x4 x5 (ix2 R l) = x5 (ix2 R l) := by
  pointwise [val_main_v112, val_main_v1, val_main_v0]
theorem ref_sig (i : S2048x512.Idx) : val_main_v42_2 x0 i = sig (val_main_v12 x0 i) := by
  pointwise [val_main_v42_2, val_main_call0_v4, val_main_call0_v3, val_main_call0_v2, val_main_call0_v1, val_main_call0_v0, val_main_call0_cst, val_main_call0_cst_0]
theorem ref_sigp (i : S2048x512.Idx) : val_main_v108_2 x0 i = sig (val_main_v14 x0 i) := by
  pointwise [val_main_v108_2, val_main_call5_v4, val_main_call5_v3, val_main_call5_v2, val_main_call5_v1, val_main_call5_v0, val_main_call5_cst, val_main_call5_cst_0]

section Group

variable (j : Fin 4) (d : Fin 128)

/-- The group's blocks of columns: `u`, `b`, `c`, the gate, the pooled mixer's gate. -/
abbrev colU := cols x0 (0 * 4 + j.val) (by omega)
abbrev colB := cols x0 (1 * 4 + j.val) (by omega)
abbrev colC := cols x0 (2 * 4 + j.val) (by omega)
abbrev colG := cols x0 (3 * 4 + j.val) (by omega)
abbrev colQ := cols x0 (5 * 4 + j.val) (by omega)

theorem ref_u (R : Fin 2048) : val_main_v9 x0 (ix2 R (at512 j d)) = colU x0 j (ix2 R d) := by
  pointwise [val_main_v9, val_main_v2]
  exact congrArg x0 (congrArg (ix2 R) (Fin.ext (by show _ = (0 * 4 + j.val) * 128 + d.val; dsimp only; omega)))
theorem ref_b (R : Fin 2048) : val_main_v10 x0 (ix2 R (at512 j d)) = colB x0 j (ix2 R d) := by
  pointwise [val_main_v10, val_main_v2]
  exact congrArg x0 (congrArg (ix2 R) (Fin.ext (by show _ = (1 * 4 + j.val) * 128 + d.val; dsimp only; omega)))
theorem ref_c (R : Fin 2048) : val_main_v11 x0 (ix2 R (at512 j d)) = colC x0 j (ix2 R d) := by
  pointwise [val_main_v11, val_main_v2]
  exact congrArg x0 (congrArg (ix2 R) (Fin.ext (by show _ = (2 * 4 + j.val) * 128 + d.val; dsimp only; omega)))
theorem ref_g (R : Fin 2048) : val_main_v12 x0 (ix2 R (at512 j d)) = colG x0 j (ix2 R d) := by
  pointwise [val_main_v12, val_main_v2]
  exact congrArg x0 (congrArg (ix2 R) (Fin.ext (by show _ = (3 * 4 + j.val) * 128 + d.val; dsimp only; omega)))
theorem ref_q (R : Fin 2048) : val_main_v14 x0 (ix2 R (at512 j d)) = colQ x0 j (ix2 R d) := by
  pointwise [val_main_v14, val_main_v2]
  exact congrArg x0 (congrArg (ix2 R) (Fin.ext (by show _ = (5 * 4 + j.val) * 128 + d.val; dsimp only; omega)))

theorem ref_ca (R : Fin 2048) : val_main_v15 x0 (ix2 R (at512 j d)) = ca (colU x0 j) (colC x0 j) d R := by
  pointwise [val_main_v15]
  rw [ref_u, ref_c]

theorem ref_lag1 (R : Fin 2048) : val_main_v29 x0 (ix2 R (at512 j d)) = lag (colU x0 j) (colC x0 j) d 1 R := by
  pointwise [val_main_v29, val_main_v27, val_main_v28, val_main_cst_1]
  unfold lag
  by_cases h : R.val < 1
  · rw [dif_pos h, dif_neg (by omega)]
  · rw [dif_neg h, dif_pos (by omega)]
    exact ref_ca x0 j d _
theorem ref_lag2 (R : Fin 2048) : val_main_v20 x0 (ix2 R (at512 j d)) = lag (colU x0 j) (colC x0 j) d 2 R := by
  pointwise [val_main_v20, val_main_v18, val_main_v19, val_main_cst]
  unfold lag
  by_cases h : R.val < 2
  · rw [dif_pos h, dif_neg (by omega)]
  · rw [dif_neg h, dif_pos (by omega)]
    exact ref_ca x0 j d _

theorem ref_conv (R : Fin 2048) : val_main_v40 x0 x1 (ix2 R (at512 j d)) = conv (colU x0 j) (colC x0 j) (tapsOf x1 j) d R := by
  pointwise [val_main_v40, val_main_v34, val_main_v39, val_main_v24, val_main_v33, val_main_v23, val_main_v22, val_main_v17, val_main_v16, val_main_v32, val_main_v31, val_main_v26, val_main_v25,
    val_main_v38, val_main_v37, val_main_v36, val_main_v35, val_main_v4, val_main_v3]
  try rw [show ∀ h, (⟨j.val * 128 + d.val, h⟩ : Fin 512) = at512 j d from fun _ => rfl]
  rw [ref_ca, ref_lag1, ref_lag2]
  unfold conv tapsOf
  exact (add_comm _ _).trans ((congrArg _ (add_comm _ _)).trans (add_assoc _ _ _).symm)

theorem ref_dconv (R : Fin 2048) : val_main_v186 x0 x4 x5 (ix2 R (at512 j d)) = dconv (colB x0 j) (colG x0 j) (cols4 x4 j) d R := by
  pointwise [val_main_v186, val_main_v184, val_main_v42_0]
  try rw [show ∀ h, (⟨j.val * 128 + d.val, h⟩ : Fin 512) = at512 j d from fun _ => rfl]
  rw [ref_dya, ref_sig, ref_g, ref_b]
  exact mul_left_comm _ _ _ |>.trans (mul_assoc _ _ _).symm

theorem ref_dca_any (R : Fin 2048) (l : Fin 512) : val_main_v218 x0 x1 x4 x5 (ix2 R l)
    = (x1 (ix3 2 2 l) * val_main_v186 x0 x4 x5 (ix2 R l)
        + if h : R.val < 2047 then x1 (ix3 2 1 l) * val_main_v186 x0 x4 x5 (ix2 ⟨1 + R.val, by omega⟩ l) else 0)
      + if h : R.val < 2046 then x1 (ix3 2 0 l) * val_main_v186 x0 x4 x5 (ix2 ⟨2 + R.val, by omega⟩ l) else 0 := by
  pointwise [val_main_v218, val_main_v205, val_main_v217, val_main_v189, val_main_v204, val_main_v203, val_main_v197, val_main_v216, val_main_v210, val_main_v209, val_main_v196, val_main_v188, val_main_cst_34, val_main_cst_30,
    val_main_v37, val_main_v36, val_main_v35, val_main_v31, val_main_v26, val_main_v25, val_main_v22, val_main_v17, val_main_v16, val_main_v4, val_main_v3]

theorem ref_dca (R : Fin 2048) : val_main_v218 x0 x1 x4 x5 (ix2 R (at512 j d))
    = dca (colB x0 j) (colG x0 j) (cols4 x4 j) (tapsOf x1 j) d R := by
  rw [ref_dca_any]
  simp only [ref_dconv]
  unfold dca
  refine congrArg₂ (· + ·) (congrArg₂ (· + ·) rfl ?_) ?_
  · unfold onRows
    by_cases h : R.val < 2047
    · rw [dif_pos h, dif_pos (by omega)]
      exact congrArg (fun r => _ * dconv (colB x0 j) (colG x0 j) (cols4 x4 j) d r) (Fin.ext (Nat.add_comm _ _))
    · rw [dif_neg h, dif_neg (by omega), mul_zero]
  · unfold onRows
    by_cases h : R.val < 2046
    · rw [dif_pos h, dif_pos (by omega)]
      exact congrArg (fun r => _ * dconv (colB x0 j) (colG x0 j) (cols4 x4 j) d r) (Fin.ext (Nat.add_comm _ _))
    · rw [dif_neg h, dif_neg (by omega), mul_zero]

/-- The gradient of `u`. -/
theorem du_eq (R : Fin 2048) : val_main_v236 x0 x1 x2 x3 x4 x5 (ix2 R (at512 j d))
    = convDu (colU x0 j) (colB x0 j) (colC x0 j) (colG x0 j) (cols4 x4 j) (tapsOf x1 j) (ix2 R d) := by
  rw [sec0, convDu_at]
  pointwise [val_main_v222]
  try rw [show ∀ h, (⟨j.val * 128 + d.val, h⟩ : Fin 512) = at512 j d from fun _ => rfl]
  rw [ref_dca, ref_c]
  exact mul_comm _ _
/-- The gradient of `b`. -/
theorem db_eq (R : Fin 2048) : val_main_v238 x0 x1 x2 x3 x4 x5 (ix2 R (at512 j d))
    = convDb (colU x0 j) (colB x0 j) (colC x0 j) (colG x0 j) (cols4 x4 j) (tapsOf x1 j) (ix2 R d) := by
  rw [sec1, convDb_at]
  pointwise [val_main_v187, val_main_v184, val_main_v42_0]
  try rw [show ∀ h, (⟨j.val * 128 + d.val, h⟩ : Fin 512) = at512 j d from fun _ => rfl]
  rw [ref_dya, ref_sig, ref_g, ref_conv]
  exact mul_right_comm _ _ _
/-- The gradient of `c`. -/
theorem dc_eq (R : Fin 2048) : val_main_v240 x0 x1 x2 x3 x4 x5 (ix2 R (at512 j d))
    = convDc (colU x0 j) (colB x0 j) (colC x0 j) (colG x0 j) (cols4 x4 j) (tapsOf x1 j) (ix2 R d) := by
  rw [sec2, convDc_at]
  pointwise [val_main_v223]
  try rw [show ∀ h, (⟨j.val * 128 + d.val, h⟩ : Fin 512) = at512 j d from fun _ => rfl]
  rw [ref_dca, ref_u]

/-- The gradient of the taps. -/
theorem dw_eq (s : Fin 3) : val_main_v248 x0 x4 x5 (ix3 j s d)
    = convDw (convSt (colU x0 j) (colB x0 j) (colC x0 j) (colG x0 j) (cols4 x4 j) 32) (ix3 0 s d) := by
  have hl : j.val * 128 + d.val < 512 := (at512 j d).isLt
  pointwise [val_main_v248, val_main_v247, val_main_v221, val_main_v220, val_main_v208, val_main_v195, val_main_v207, val_main_v194, val_main_v193, val_main_v206, val_main_v201, val_main_v219, val_main_v214, val_main_v192, val_main_v191, val_main_v200, val_main_v199, val_main_v213, val_main_v212, val_main_v190, val_main_v198, val_main_v211,
   val_main_cst_25, val_main_cst_26, val_main_cst_27, val_main_cst_28, val_main_cst_29, val_main_cst_31, val_main_cst_32, val_main_cst_33, val_main_cst_35]
  simp only [show ∀ h, (⟨j.val * 128 + d.val, h⟩ : Fin 512) = at512 j d from fun _ => rfl, ref_dconv, ref_ca, ref_lag1, ref_lag2]
  match s with
  | ⟨0, _⟩ =>
    refine Eq.trans ?_ (convDw0_at (colU x0 j) (colB x0 j) (colC x0 j) (colG x0 j) (cols4 x4 j) d).symm
    rw [dif_neg (by dsimp only; omega), dif_neg (by dsimp only; omega), dif_pos (by dsimp only; omega), zero_add, zero_add]
    exact Fin.sum_univ_one _
  | ⟨1, _⟩ =>
    refine Eq.trans ?_ (convDw1_at (colU x0 j) (colB x0 j) (colC x0 j) (colG x0 j) (cols4 x4 j) d).symm
    rw [dif_neg (by dsimp only; omega), dif_pos (by dsimp only; omega), dif_neg (by dsimp only; omega), zero_add, add_zero]
    exact Fin.sum_univ_one _
  | ⟨2, _⟩ =>
    refine Eq.trans ?_ (convDw2_at (colU x0 j) (colB x0 j) (colC x0 j) (colG x0 j) (cols4 x4 j) d).symm
    rw [dif_pos (by dsimp only; omega), dif_neg (by dsimp only; omega), dif_neg (by dsimp only; omega), add_zero, add_zero]
    exact Fin.sum_univ_one _

theorem div128 : (j.val * 128 + d.val) / 128 = j.val := by omega
theorem mod128 : (j.val * 128 + d.val) % 128 = d.val := by omega

theorem ref_mixed (R : Fin 2048) : val_main_v104 x0 x2 (ix2 R (at512 j d)) = k0_pay43 (weightOf x2 j) (pooledOf x0 j) (ix2 R d) := by
  rw [mixed_at]
  pointwise [val_main_v104, val_main_v103, val_main_v102, val_main_v6, val_main_v5]
  refine Fin.sum_fin_congr fun c => ?_
  simp only [div128, mod128]
  exact mul_comm _ _

theorem ref_dmix (R : Fin 2048) : val_main_v120 x0 x3 x4 x5 (ix2 R (at512 j d)) = poolDmix (scaleOf x3 j) (colQ x0 j) (cols4 x5 j) (ix2 R d) := by
  rw [dmix_at]
  pointwise [val_main_v120, val_main_v119, val_main_v105, val_main_v8, val_main_v7, val_main_v114, val_main_v108_0]
  try rw [show ∀ h, (⟨j.val * 128 + d.val, h⟩ : Fin 512) = at512 j d from fun _ => rfl]
  rw [ref_dyp, ref_sigp, ref_q]
  rfl

/-- The gradient of the pooled mixer's weight. -/
theorem dwp_eq (c : Fin 128) : val_main_v249 x0 x3 x4 x5 (ix3 j c d)
    = k0_pay12 (pooledOf x0 j) (poolDmix (scaleOf x3 j) (colQ x0 j) (cols4 x5 j)) (ix3 0 c d) := by
  rw [dwp_at]
  pointwise [val_main_v249, val_main_v127, val_main_v126, val_main_v123, val_main_v122]
  refine Fin.sum_fin_congr fun R => ?_
  try rw [show ∀ h, (⟨j.val * 128 + d.val, h⟩ : Fin 512) = at512 j d from fun _ => rfl]
  rw [ref_dmix]
  exact mul_comm _ _

/-- The gradient of the pooled mixer's scale. -/
theorem ds_eq : val_main_v250 x0 x2 x4 x5 (ix2 0 (at512 j d))
    = k0_pay54 (poolAcc (colQ x0 j) (cols4 x5 j) (k0_pay43 (weightOf x2 j) (pooledOf x0 j)) 16) (ix2 0 d) := by
  rw [ds_at]
  pointwise [val_main_v250, val_main_v121, val_main_v118, val_main_v117, val_main_v116, val_main_cst_15, val_main_cst_16]
  refine (Fin.sum_univ_one _).trans (Fin.sum_fin_congr fun R => ?_)
  try rw [show ∀ h, (⟨j.val * 128 + d.val, h⟩ : Fin 512) = at512 j d from fun _ => rfl]
  rw [ref_mixed]
  pointwise [val_main_v114, val_main_v108_0]
  try rw [show ∀ h, (⟨j.val * 128 + d.val, h⟩ : Fin 512) = at512 j d from fun _ => rfl]
  rw [ref_dyp, ref_sigp, ref_q]
  exact mul_comm _ _

/-- A row count as the plain program spells it. -/
theorem cnt_ref (w n : ℕ) (hn : n < 2048) :
    min (FloatOps.sitofp (F := Ideal) FTy.f32 (IntOp.addi 1#32 (BitVec.ofNat 32 n))) (((w : ℕ) : ℝ) : EReal) = ((cnt w n : ℝ) : EReal) := by
  have e : IntOp.addi 1#32 (BitVec.ofNat 32 n) = BitVec.ofNat 32 (n + 1) := by
    show 1#32 + BitVec.ofNat 32 n = _
    refine BitVec.eq_of_toNat_eq ?_
    simp only [BitVec.toNat_add, BitVec.toNat_ofNat]
    omega
  rw [e]
  show min ((((BitVec.ofNat 32 (n + 1)).toInt : ℤ) : ℝ) : EReal) _ = _
  rw [Idealize.ShloMosaic.WordCmp.toInt_ofNat_of_lt (by omega)]
  unfold cnt
  rw [Nat.cast_min]
  exact (EReal.coe_strictMono.monotone.map_min).symm

theorem two_bits : Ideal.ofBits FTy.f32 1073741824#32 = (((2 : ℕ) : ℝ) : EReal) := by
  simp [Ideal.ofBits, Ideal.ieee, -EReal.coe_mul]; norm_num
theorem four_bits : Ideal.ofBits FTy.f32 1082130432#32 = (((4 : ℕ) : ℝ) : EReal) := by
  simp [Ideal.ofBits, Ideal.ieee, -EReal.coe_mul]; norm_num
theorem eight_bits : Ideal.ofBits FTy.f32 1090519040#32 = (((8 : ℕ) : ℝ) : EReal) := by
  simp [Ideal.ofBits, Ideal.ieee, -EReal.coe_mul]; norm_num
theorem sixteen_bits : Ideal.ofBits FTy.f32 1098907648#32 = (((16 : ℕ) : ℝ) : EReal) := by
  simp [Ideal.ofBits, Ideal.ieee, -EReal.coe_mul]; norm_num

/-- The gradient of a window's mean less the row, from the sum over the rows from the row on of differences of the divided
rows. -/
theorem window_grad (w : ℕ) (hw : 0 < w) (p : Fin 2048 → EReal) (hp : ∀ R, IsR (p R)) (f : Fin 2048 → EReal)
    (hf : ∀ R, f R = Ideal.div (p R) ((cnt w R.val : ℝ) : EReal)
      + if h : R.val + w < 2048 then -Ideal.div (p ⟨R.val + w, h⟩) ((cnt w (R.val + w) : ℝ) : EReal) else 0) (R : Fin 2048) :
    -p R + (∑ i : Fin 2048, if R.val ≤ i.val then f i else 0)
      = (∑ e : Fin w, if h : R.val + e.val < 2048 then Ideal.div (p ⟨R.val + e.val, h⟩) ((cnt w (R.val + e.val) : ℝ) : EReal) else 0) - p R := by
  rw [add_comm, sub_eq_add_neg]
  refine congrArg (· + -p R) ?_
  refine Eq.trans (Finset.sum_congr rfl fun i _ => ?_)
    (window_of_differences (fun i : Fin 2048 => Ideal.div (p i) ((cnt w i.val : ℝ) : EReal)) (fun i => (hp i).div (cnt_ne hw)) w R)
  rw [hf]

/-- One row of those differences as the plain program spells it. -/
theorem difference_ref (w : ℕ) (W : ℕ) (hW : W + w = 2048) (p : Fin 2048 → EReal) (R : Fin 2048) :
    (Ideal.div (p R) (min (FloatOps.sitofp (F := Ideal) FTy.f32 (IntOp.addi 1#32 (BitVec.ofNat 32 R.val))) (((w : ℕ) : ℝ) : EReal))
      + if h : R.val < W then -Ideal.div (p ⟨w + R.val, by omega⟩) (min (FloatOps.sitofp (F := Ideal) FTy.f32 (IntOp.addi 1#32 (BitVec.ofNat 32 (w + R.val)))) (((w : ℕ) : ℝ) : EReal)) else 0)
    = Ideal.div (p R) ((cnt w R.val : ℝ) : EReal)
      + if h : R.val + w < 2048 then -Ideal.div (p ⟨R.val + w, h⟩) ((cnt w (R.val + w) : ℝ) : EReal) else 0 := by
  rw [cnt_ref w R.val R.isLt]
  refine congrArg₂ (· + ·) rfl ?_
  by_cases h : R.val < W
  · rw [dif_pos h, dif_pos (by omega), cnt_ref w _ (by omega)]
    simp only [Nat.add_comm w R.val]
  · rw [dif_neg h, dif_neg (by omega)]

/-- A column of the pooled columns' gradient. -/
abbrev dpool (c : Fin 128) (R : Fin 2048) : EReal :=
  ∑ d : Fin 128, poolDmix (scaleOf x3 j) (colQ x0 j) (cols4 x5 j) (ix2 R d) * weightOf x2 j (ix4 0 0 c d)

theorem ref_dpool (R : Fin 2048) (c : Fin 128) : val_main_v125 x0 x2 x3 x4 x5 (ix3 R j c) = dpool x0 x2 x3 x5 j c R := by
  pointwise [val_main_v125, val_main_v124, val_main_v123, val_main_v122, val_main_v6, val_main_v5]
  refine Fin.sum_fin_congr fun x => ?_
  rw [show ∀ h, (⟨j.val * 128 + x.val, h⟩ : Fin 512) = at512 j x from fun _ => rfl, ref_dmix]
  rfl

end Group

section Finite

variable (h0 : ∀ i, IsR (x0 i)) (h1 : ∀ i, IsR (x1 i)) (h2 : ∀ i, IsR (x2 i)) (h3 : ∀ i, IsR (x3 i)) (h4 : ∀ i, IsR (x4 i)) (h5 : ∀ i, IsR (x5 i))

include h0 h2 h3 h5 in
theorem isR_dpool (j : Fin 4) (c : Fin 128) (R : Fin 2048) : IsR (dpool x0 x2 x3 x5 j c R) := by
  unfold dpool
  refine IsR.sum _ _ fun d => ?_
  rw [dmix_at]
  exact ((((h5 _).mul ((h0 _).mul (isR_logistic (h0 _)))).mul (h3 _)).mul (h2 _))

include h0 h2 h3 h5 in
/-- The gradient of the columns the window of 2 rows reads. -/
theorem group0 (R : Fin 2048) (c : Fin 128) : val_main_v180 x0 x2 x3 x4 x5 (ix2 R c)
    = poolDu k0_pay13 (poolDp (weightOf x2 0) (poolDmix (scaleOf x3 0) (colQ x0 0) (cols4 x5 0))) (ix2 R c) := by
  rw [du_at 2 (by decide) _ b13 _ _ R c (dpool x0 x2 x3 x5 0 c) (fun _ => rfl)]
  have hp : ∀ R, val_main_v129 x0 x2 x3 x4 x5 (ix2 R c) = dpool x0 x2 x3 x5 0 c R := fun R => by
    rw [← ref_dpool (x4 := x4)]
    pointwise [val_main_v129, val_main_v128]
  pointwise [val_main_v180, val_main_v171]
  rw [hp, ← window_grad 2 (by decide) (dpool x0 x2 x3 x5 0 c) (isR_dpool x0 x2 x3 x5 h0 h2 h3 h5 0 c) (fun R => val_main_v178 x0 x2 x3 x4 x5 (ix2 R c)) ?_ R]
  · refine congrArg (-dpool x0 x2 x3 x5 0 c R + ·) ?_
    exact revsum_at (R := 2048) (Rm1 := 2047) (C := 128) rfl _ _ (fun i => by pointwise [val_main_call10_call0_v0, val_main_call10_call0_cst]) _ _ R c
  · intro R
    pointwise [val_main_v178, val_main_v177, val_main_v176, val_main_v174, val_main_v173, val_main_v172, val_main_v57, val_main_v48, val_main_v47, val_main_v46, val_main_v45, val_main_v44, val_main_c, val_main_v56, val_main_cst_5, val_main_cst_23]
    simp only [hp, two_bits]
    exact difference_ref 2 2046 rfl _ R

include h0 h2 h3 h5 in
/-- The gradient of the columns the window of 4 rows reads. -/
theorem group1 (R : Fin 2048) (c : Fin 128) : val_main_v168 x0 x2 x3 x4 x5 (ix2 R c)
    = poolDu k0_pay15 (poolDp (weightOf x2 1) (poolDmix (scaleOf x3 1) (colQ x0 1) (cols4 x5 1))) (ix2 R c) := by
  rw [du_at 4 (by decide) _ b15 _ _ R c (dpool x0 x2 x3 x5 1 c) (fun _ => rfl)]
  have hp : ∀ R, val_main_v131 x0 x2 x3 x4 x5 (ix2 R c) = dpool x0 x2 x3 x5 1 c R := fun R => by
    rw [← ref_dpool (x4 := x4)]
    pointwise [val_main_v131, val_main_v130]
  pointwise [val_main_v168, val_main_v159]
  rw [hp, ← window_grad 4 (by decide) (dpool x0 x2 x3 x5 1 c) (isR_dpool x0 x2 x3 x5 h0 h2 h3 h5 1 c) (fun R => val_main_v166 x0 x2 x3 x4 x5 (ix2 R c)) ?_ R]
  · refine congrArg (-dpool x0 x2 x3 x5 1 c R + ·) ?_
    exact revsum_at (R := 2048) (Rm1 := 2047) (C := 128) rfl _ _ (fun i => by pointwise [val_main_call9_call0_v0, val_main_call9_call0_cst]) _ _ R c
  · intro R
    pointwise [val_main_v166, val_main_v165, val_main_v164, val_main_v162, val_main_v161, val_main_v160, val_main_v69, val_main_v48, val_main_v47, val_main_v46, val_main_v45, val_main_v44, val_main_c, val_main_v68, val_main_cst_8, val_main_cst_21]
    simp only [hp, four_bits]
    exact difference_ref 4 2044 rfl _ R

include h0 h2 h3 h5 in
/-- The gradient of the columns the window of 8 rows reads. -/
theorem group2 (R : Fin 2048) (c : Fin 128) : val_main_v156 x0 x2 x3 x4 x5 (ix2 R c)
    = poolDu k0_pay17 (poolDp (weightOf x2 2) (poolDmix (scaleOf x3 2) (colQ x0 2) (cols4 x5 2))) (ix2 R c) := by
  rw [du_at 8 (by decide) _ b17 _ _ R c (dpool x0 x2 x3 x5 2 c) (fun _ => rfl)]
  have hp : ∀ R, val_main_v133 x0 x2 x3 x4 x5 (ix2 R c) = dpool x0 x2 x3 x5 2 c R := fun R => by
    rw [← ref_dpool (x4 := x4)]
    pointwise [val_main_v133, val_main_v132]
  pointwise [val_main_v156, val_main_v147]
  rw [hp, ← window_grad 8 (by decide) (dpool x0 x2 x3 x5 2 c) (isR_dpool x0 x2 x3 x5 h0 h2 h3 h5 2 c) (fun R => val_main_v154 x0 x2 x3 x4 x5 (ix2 R c)) ?_ R]
  · refine congrArg (-dpool x0 x2 x3 x5 2 c R + ·) ?_
    exact revsum_at (R := 2048) (Rm1 := 2047) (C := 128) rfl _ _ (fun i => by pointwise [val_main_call8_call0_v0, val_main_call8_call0_cst]) _ _ R c
  · intro R
    pointwise [val_main_v154, val_main_v153, val_main_v152, val_main_v150, val_main_v149, val_main_v148, val_main_v81, val_main_v48, val_main_v47, val_main_v46, val_main_v45, val_main_v44, val_main_c, val_main_v80, val_main_cst_11, val_main_cst_19]
    simp only [hp, eight_bits]
    exact difference_ref 8 2040 rfl _ R

include h0 h2 h3 h5 in
/-- The gradient of the columns the window of 16 rows reads. -/
theorem group3 (R : Fin 2048) (c : Fin 128) : val_main_v145 x0 x2 x3 x4 x5 (ix2 R c)
    = poolDu k0_pay19 (poolDp (weightOf x2 3) (poolDmix (scaleOf x3 3) (colQ x0 3) (cols4 x5 3))) (ix2 R c) := by
  rw [du_at 16 (by decide) _ b19 _ _ R c (dpool x0 x2 x3 x5 3 c) (fun _ => rfl)]
  have hp : ∀ R, val_main_v135 x0 x2 x3 x4 x5 (ix2 R c) = dpool x0 x2 x3 x5 3 c R := fun R => by
    rw [← ref_dpool (x4 := x4)]
    pointwise [val_main_v135, val_main_v134]
  pointwise [val_main_v145, val_main_v136]
  rw [hp, ← window_grad 16 (by decide) (dpool x0 x2 x3 x5 3 c) (isR_dpool x0 x2 x3 x5 h0 h2 h3 h5 3 c) (fun R => val_main_v143 x0 x2 x3 x4 x5 (ix2 R c)) ?_ R]
  · refine congrArg (-dpool x0 x2 x3 x5 3 c R + ·) ?_
    exact revsum_at (R := 2048) (Rm1 := 2047) (C := 128) rfl _ _ (fun i => by pointwise [val_main_call7_call0_v0, val_main_call7_call0_cst]) _ _ R c
  · intro R
    pointwise [val_main_v143, val_main_v142, val_main_v141, val_main_v139, val_main_v138, val_main_v137, val_main_v93, val_main_v48, val_main_v47, val_main_v46, val_main_v45, val_main_v44, val_main_c, val_main_v92, val_main_cst_14, val_main_cst_17]
    simp only [hp, sixteen_bits]
    exact difference_ref 16 2032 rfl _ R

include h0 h2 h3 h5 in
/-- The gradient of the pooled mixer's input. -/
theorem dup_eq (j : Fin 4) (R : Fin 2048) (c : Fin 128) : val_main_v244 x0 x1 x2 x3 x4 x5 (ix2 R (at512 j c))
    = poolDu (group (4 + j.val)) (poolDp (weightOf x2 j) (poolDmix (scaleOf x3 j) (colQ x0 j) (cols4 x5 j))) (ix2 R c) := by
  rw [sec4]
  pointwise [val_main_v182, val_main_v170, val_main_v158, val_main_v146, val_main_v157, val_main_v169, val_main_v181, val_main_cst_18, val_main_cst_20, val_main_cst_22, val_main_cst_24]
  have hc := c.isLt
  match j with
  | ⟨0, _⟩ =>
    refine Eq.trans ?_ (group0 x0 x2 x3 x4 x5 h0 h2 h3 h5 R c)
    simp (disch := omega) only [dif_neg, dif_pos, zero_add, add_zero]
    exact congrArg (fun l => val_main_v180 x0 x2 x3 x4 x5 (ix2 R l)) (Fin.ext (by first | (dsimp only; omega) | dsimp only))
  | ⟨1, _⟩ =>
    refine Eq.trans ?_ (group1 x0 x2 x3 x4 x5 h0 h2 h3 h5 R c)
    simp (disch := omega) only [dif_neg, dif_pos, zero_add, add_zero]
    exact congrArg (fun l => val_main_v168 x0 x2 x3 x4 x5 (ix2 R l)) (Fin.ext (by first | (dsimp only; omega) | dsimp only))
  | ⟨2, _⟩ =>
    refine Eq.trans ?_ (group2 x0 x2 x3 x4 x5 h0 h2 h3 h5 R c)
    simp (disch := omega) only [dif_neg, dif_pos, zero_add, add_zero]
    exact congrArg (fun l => val_main_v156 x0 x2 x3 x4 x5 (ix2 R l)) (Fin.ext (by first | (dsimp only; omega) | dsimp only))
  | ⟨3, _⟩ =>
    refine Eq.trans ?_ (group3 x0 x2 x3 x4 x5 h0 h2 h3 h5 R c)
    simp (disch := omega) only [dif_neg, dif_pos, zero_add, add_zero]
    exact congrArg (fun l => val_main_v145 x0 x2 x3 x4 x5 (ix2 R l)) (Fin.ext (by first | (dsimp only; omega) | dsimp only))

/-! The reality of the forward stages. -/

theorem cumsum_isR (x : S2048x128.Idx → EReal) (hx : ∀ i, IsR (x i)) (init : (⟨0, ![]⟩ : Shape).Idx → EReal) (hi : ∀ i, init i = 0) (h) (hu) (R : Fin 2048) (c : Fin 128) :
    IsR (Host.reduceWindowAdd (F := Ideal) (φ := .f32) (s := S2048x128) (t := S2048x128) (u := ⟨0, ![]⟩) ![2048, 1] ![1, 1] ![2047, 0] ![0, 0] x init h hu (ix2 R c)) := by
  rw [cumsum_at (R := 2048) (Rm1 := 2047) (C := 128) rfl x init hi h hu R c]
  exact IsR.sum _ _ fun i => IsR.ite (hx _) IsR.zero

theorem IsR.dite {p : Prop} [Decidable p] {f : p → EReal} {b : EReal} (hf : ∀ h, IsR (f h)) (hb : IsR b) :
    IsR (if h : p then f h else b) := by
  split
  · exact hf _
  · exact hb

/-- A window's mean less the row is real. -/
theorem mean_isR (w : ℕ) (hw : 0 < w) (s : Fin 2048 → EReal) (hs : ∀ R, IsR (s R)) (x : EReal) (hx : IsR x) (R : Fin 2048) :
    IsR (Ideal.div (s R - if h : R.val < w then 0 else s ⟨R.val - w, by omega⟩)
      (min (FloatOps.sitofp (F := Ideal) FTy.f32 (IntOp.addi 1#32 (BitVec.ofNat 32 R.val))) (((w : ℕ) : ℝ) : EReal)) - x) := by
  rw [cnt_ref w R.val R.isLt]
  refine ((IsR.sub (hs _) ?_).div (cnt_ne hw)).sub hx
  split
  · exact IsR.zero
  · exact hs _

include h0 in
theorem isR_sec (R : Fin 2048) (l : Fin 512) : IsR (val_main_v13 x0 (ix2 R l)) := by
  pointwise [val_main_v13, val_main_v2]
  exact h0 _

include h0 in
theorem isR_pooled0 (R : Fin 2048) (c : Fin 128) : IsR (val_main_v60 x0 (ix2 R c)) := by
  have hx : ∀ i, IsR (val_main_v49 x0 i) := fun i => by
    idx_vars i
    pointwise [val_main_v49]
    exact isR_sec x0 h0 _ _
  have hs : ∀ R, IsR (val_main_v50 x0 (ix2 R c)) := fun R =>
    cumsum_isR _ hx _ (fun i => by pointwise [val_main_call1_call0_v0, val_main_call1_call0_cst]) _ _ R c
  have h := mean_isR 2 (by decide) (fun R => val_main_v50 x0 (ix2 R c)) hs _ (hx (ix2 R c)) R
  rw [← two_bits] at h
  refine (congrArg IsR ?_).mpr h
  pointwise [val_main_v60, val_main_v59, val_main_v55, val_main_v53, val_main_v51, val_main_v52, val_main_v58, val_main_v57, val_main_v48, val_main_v47, val_main_v46, val_main_v45, val_main_v44, val_main_c, val_main_v56, val_main_cst_5, val_main_cst_3]

include h0 in
theorem isR_pooled1 (R : Fin 2048) (c : Fin 128) : IsR (val_main_v72 x0 (ix2 R c)) := by
  have hx : ∀ i, IsR (val_main_v61 x0 i) := fun i => by
    idx_vars i
    pointwise [val_main_v61]
    exact isR_sec x0 h0 _ _
  have hs : ∀ R, IsR (val_main_v62 x0 (ix2 R c)) := fun R =>
    cumsum_isR _ hx _ (fun i => by pointwise [val_main_call2_call0_v0, val_main_call2_call0_cst]) _ _ R c
  have h := mean_isR 4 (by decide) (fun R => val_main_v62 x0 (ix2 R c)) hs _ (hx (ix2 R c)) R
  rw [← four_bits] at h
  refine (congrArg IsR ?_).mpr h
  pointwise [val_main_v72, val_main_v71, val_main_v67, val_main_v65, val_main_v63, val_main_v64, val_main_v70, val_main_v69, val_main_v48, val_main_v47, val_main_v46, val_main_v45, val_main_v44, val_main_c, val_main_v68, val_main_cst_8, val_main_cst_6]

include h0 in
theorem isR_pooled2 (R : Fin 2048) (c : Fin 128) : IsR (val_main_v84 x0 (ix2 R c)) := by
  have hx : ∀ i, IsR (val_main_v73 x0 i) := fun i => by
    idx_vars i
    pointwise [val_main_v73]
    exact isR_sec x0 h0 _ _
  have hs : ∀ R, IsR (val_main_v74 x0 (ix2 R c)) := fun R =>
    cumsum_isR _ hx _ (fun i => by pointwise [val_main_call3_call0_v0, val_main_call3_call0_cst]) _ _ R c
  have h := mean_isR 8 (by decide) (fun R => val_main_v74 x0 (ix2 R c)) hs _ (hx (ix2 R c)) R
  rw [← eight_bits] at h
  refine (congrArg IsR ?_).mpr h
  pointwise [val_main_v84, val_main_v83, val_main_v79, val_main_v77, val_main_v75, val_main_v76, val_main_v82, val_main_v81, val_main_v48, val_main_v47, val_main_v46, val_main_v45, val_main_v44, val_main_c, val_main_v80, val_main_cst_11, val_main_cst_9]

include h0 in
theorem isR_pooled3 (R : Fin 2048) (c : Fin 128) : IsR (val_main_v96 x0 (ix2 R c)) := by
  have hx : ∀ i, IsR (val_main_v85 x0 i) := fun i => by
    idx_vars i
    pointwise [val_main_v85]
    exact isR_sec x0 h0 _ _
  have hs : ∀ R, IsR (val_main_v86 x0 (ix2 R c)) := fun R =>
    cumsum_isR _ hx _ (fun i => by pointwise [val_main_call4_call0_v0, val_main_call4_call0_cst]) _ _ R c
  have h := mean_isR 16 (by decide) (fun R => val_main_v86 x0 (ix2 R c)) hs _ (hx (ix2 R c)) R
  rw [← sixteen_bits] at h
  refine (congrArg IsR ?_).mpr h
  pointwise [val_main_v96, val_main_v95, val_main_v91, val_main_v89, val_main_v87, val_main_v88, val_main_v94, val_main_v93, val_main_v48, val_main_v47, val_main_v46, val_main_v45, val_main_v44, val_main_c, val_main_v92, val_main_cst_14, val_main_cst_12]

include h0 in
theorem isR_pooled (j : Fin 4) (i : S2048x128.Idx) : IsR (pooledOf x0 j i) := by
  idx_vars i
  show IsR (val_main_v101 x0 (ix3 _ j _))
  pointwise [val_main_v101, val_main_v97, val_main_v98, val_main_v99, val_main_v100]
  exact IsR.dite (fun _ => isR_pooled0 x0 h0 _ _) (IsR.dite (fun _ => isR_pooled1 x0 h0 _ _) (IsR.dite (fun _ => isR_pooled2 x0 h0 _ _) (isR_pooled3 x0 h0 _ _)))

include h0 h2 in
theorem isR_mixed (j : Fin 4) (R : Fin 2048) (d : Fin 128) : IsR (k0_pay43 (weightOf x2 j) (pooledOf x0 j) (ix2 R d)) := by
  rw [mixed_at]
  exact IsR.sum _ _ fun c => (isR_pooled x0 h0 j _).mul (h2 _)

include h0 h2 h3 h5 in
/-- The gradient of the pooled mixer's gate. -/
theorem dgp_eq (j : Fin 4) (R : Fin 2048) (d : Fin 128) : val_main_v246 x0 x1 x2 x3 x4 x5 (ix2 R (at512 j d))
    = poolDg (scaleOf x3 j) (colQ x0 j) (cols4 x5 j) (k0_pay43 (weightOf x2 j) (pooledOf x0 j)) (ix2 R d) := by
  have hy : IsR (cols4 x5 j (ix2 R d)) := h5 _
  have hs : IsR (scaleOf x3 j (ix3 0 0 d)) := h3 _
  have hq : IsR (colQ x0 j (ix2 R d)) := h0 _
  rw [sec5, dg_at, gate_grad ((hy.mul (isR_mixed x0 x2 h0 h2 j R d)).mul hs) hq (isR_logistic hq)]
  pointwise [val_main_v115, val_main_call6_v1, val_main_call6_v2, val_main_call6_v0, val_main_v113, val_main_v107, val_main_v106, val_main_v105, val_main_v8, val_main_v7, val_main_v108_1, val_main_call5_v7, val_main_call5_v6, val_main_call5_cst_1]
  rw [ref_mixed, ref_dyp, ref_sigp, ref_q]
  have e : ∀ a b c : EReal, a * b * c = c * a * b := fun a b c => (mul_comm _ _).trans (mul_assoc _ _ _).symm
  rw [e _ (x3 _) (x5 _)]
  rfl

include h0 h1 in
theorem isR_conv (j : Fin 4) (R : Fin 2048) (d : Fin 128) : IsR (conv (colU x0 j) (colC x0 j) (tapsOf x1 j) d R) := by
  have hl : ∀ n, IsR (lag (colU x0 j) (colC x0 j) d n R) := fun n => IsR.dite (fun _ => (h0 _).mul (h0 _)) IsR.zero
  exact (((h1 _).mul ((h0 _).mul (h0 _))).add ((h1 _).mul (hl 1))).add ((h1 _).mul (hl 2))

include h0 h1 h4 in
/-- The gradient of the convolution's gate. -/
theorem dg_eq (j : Fin 4) (R : Fin 2048) (d : Fin 128) : val_main_v242 x0 x1 x2 x3 x4 x5 (ix2 R (at512 j d))
    = convDg (colU x0 j) (colB x0 j) (colC x0 j) (colG x0 j) (cols4 x4 j) (tapsOf x1 j) (ix2 R d) := by
  have hy : IsR (cols4 x4 j (ix2 R d)) := h4 _
  have hb : IsR (colB x0 j (ix2 R d)) := h0 _
  have hg : IsR (colG x0 j (ix2 R d)) := h0 _
  rw [sec3, convDg_at, gate_grad ((hy.mul (isR_conv x0 x1 h0 h1 j R d)).mul hb) hg (isR_logistic hg)]
  pointwise [val_main_v185, val_main_call11_v1, val_main_call11_v2, val_main_call11_v0, val_main_v183, val_main_v41, val_main_v42_1, val_main_call0_v7, val_main_call0_v6, val_main_call0_cst_1]
  rw [ref_conv, ref_dya, ref_sig, ref_g, ref_b]
  have e : ∀ a b c : EReal, a * b * c = c * b * a := fun a b c => (mul_comm _ _).trans (by rw [mul_comm a b, mul_assoc])
  rw [e (colB x0 j _) _ (x4 _)]
  rfl

end Finite

end Ref

end Cert.Proof.Mix

end
-- ==== Proof.Mix.Blocks.lean ====
/-
  What the mixers' gradient kernel reads: every window's block at a point is one group's columns of the arguments.
-/
module

public import proofs.«01_k».proof.Proof.Mix.RefAt
public import Idealize.ShloMosaic.Lib.Pipeline.ValueKit
public import Idealize.ShloMosaic.Lib.StableHlo.RunRead

@[expose] public section

set_option maxRecDepth 16384

noncomputable section

namespace Cert.Proof.Mix

open Cert.MixIdeal Cert.MixIdeal.Gen Idealize.ShloMosaic Idealize.ShloMosaic.TcCoe Idealize.SL.Sem
open Cert.MixRefIdeal.Read

variable (m : (ℓ : Loc nD τ Cert.MixIdeal.sig) → Buf (Elt Ideal) ℓ)

abbrev aP (c : Dev nD) := m ((c : Thread nD τ).loc main_arg0)
abbrev aW (c : Dev nD) := m ((c : Thread nD τ).loc main_arg1)
abbrev aM (c : Dev nD) := m ((c : Thread nD τ).loc main_arg2)
abbrev aS (c : Dev nD) := m ((c : Thread nD τ).loc main_arg3)
abbrev aA (c : Dev nD) := m ((c : Thread nD τ).loc main_arg4)
abbrev aQ (c : Dev nD) := m ((c : Thread nD τ).loc main_arg5)

/-- The scales the host hands over: the argument with a unit axis in it. -/
theorem host_scale (c : Dev nD) : V m c main_v60 = fun i => aS m c (ix2 (i 0) (i 2)) := by
  show StableHlo.after _ _ (Proc.devRef .tc main_v60) = _
  after_reads_simp
  funext i
  idx_vars i
  pointwise
theorem host_taps (c : Dev nD) (j : Fin 4) (y : Fin 4) (s : Fin 3) (d : Fin 128) : V m c main_v59 (ix4 j y s d) = aW m c (ix3 y s (at512 j d)) := by
  show StableHlo.after _ _ (Proc.devRef .tc main_v59) _ = _
  after_reads_simp
  pointwise

/-- The pooled rows the host hands over are the plain program's. -/
theorem host_pool (c : Dev nD) : V m c main_v55 = val_main_v101 (F := Ideal) (aP m c) := by
  show StableHlo.after _ _ (Proc.devRef .tc main_v55) = _
  after_reads_simp
  rfl
set_option maxHeartbeats 2000000 in
theorem host_rows (c : Dev nD) (R : Fin 2048) (j : Fin 4) (d : Fin 128) :
    V m c main_v57 (ix2 R (at512 j d)) = val_main_v101 (F := Ideal) (aP m c) (ix3 R j d) := by
  have h : V m c main_v57 (ix2 R (at512 j d)) = shapeCast (s := S2048x4x128) S2048x512 (V m c main_v55) shapeCasts_S2048x4x128_S2048x512 (ix2 R (at512 j d)) := by
    refine Eq.trans (b := shapeCast (s := S2048x4x128) S2048x512 (fun i => V m c main_v55 i) shapeCasts_S2048x4x128_S2048x512 (ix2 R (at512 j d))) ?_ rfl
    unfold V
    after_reads_simp
    rfl
  rw [h, host_pool]
  generalize val_main_v101 (F := Ideal) (aP m c) = x
  pointwise
  have hj : (⟨(j.val * 128 + d.val) / 128, by omega⟩ : Fin 4) = j := Fin.ext (by show _ / 128 = _; omega)
  have hd : (⟨(j.val * 128 + d.val) % 128, by omega⟩ : Fin 128) = d := Fin.ext (by show _ % 128 = _; omega)
  rw [hj, hd]

/-- The windows' block indices: a convolution point's are its own column block, a pooling point's its group's. -/
theorem idx_conv : ∀ t : Fin cfg0.N, t.val < 4 → win0_0.index t = ![0, 0 * 4 + t.val] ∧ win0_1.index t = ![0, 1 * 4 + t.val]
    ∧ win0_2.index t = ![0, 2 * 4 + t.val] ∧ win0_3.index t = ![0, 3 * 4 + t.val] ∧ win0_6.index t = ![0, t.val]
    ∧ win0_8.index t = ![t.val, 2, 0, 0] ∧ win0_11.index t = ![0, t.val] ∧ win0_12.index t = ![0, t.val]
    ∧ win0_13.index t = ![0, t.val] ∧ win0_14.index t = ![0, t.val] ∧ win0_17.index t = ![t.val, 0, 0] :=
  (by decide +kernel : ∀ t : Fin grid0.N, _)
theorem idx_pool : ∀ t : Fin cfg0.N, 4 ≤ t.val → win0_4.index t = ![0, t.val - 4] ∧ win0_5.index t = ![0, 5 * 4 + (t.val - 4)]
    ∧ win0_7.index t = ![0, t.val - 4] ∧ win0_9.index t = ![2, t.val - 4, 0, 0] ∧ win0_10.index t = ![2, 0, t.val - 4]
    ∧ win0_15.index t = ![0, t.val - 4] ∧ win0_16.index t = ![0, t.val - 4] ∧ win0_18.index t = ![t.val - 4, 0, 0]
    ∧ win0_19.index t = ![0, t.val - 4] :=
  (by decide +kernel : ∀ t : Fin grid0.N, _)

variable (c : Dev nD) (t : Fin cfg0.N) (j : Fin 4)

/-- A convolution point's blocks are its group's columns. -/
theorem b0_eq (h : t.val = j.val) : b0 m c t = colU (aP m c) j := by
  obtain ⟨e, _⟩ := idx_conv t (by omega)
  rw [h] at e
  funext y
  obtain ⟨r, l, rfl⟩ : ∃ (r : Fin 2048) (l : Fin 128), y = ix2 r l := ⟨y 0, y 1, eq_ix2 y⟩
  simp only [b0, cols, cols4]
  blk_point [iblk, V, e]
theorem b1_eq (h : t.val = j.val) : b1 m c t = colB (aP m c) j := by
  obtain ⟨_, e, _⟩ := idx_conv t (by omega)
  rw [h] at e
  funext y
  obtain ⟨r, l, rfl⟩ : ∃ (r : Fin 2048) (l : Fin 128), y = ix2 r l := ⟨y 0, y 1, eq_ix2 y⟩
  simp only [b1, cols, cols4]
  blk_point [iblk, V, e]
theorem b2_eq (h : t.val = j.val) : b2 m c t = colC (aP m c) j := by
  obtain ⟨_, _, e, _⟩ := idx_conv t (by omega)
  rw [h] at e
  funext y
  obtain ⟨r, l, rfl⟩ : ∃ (r : Fin 2048) (l : Fin 128), y = ix2 r l := ⟨y 0, y 1, eq_ix2 y⟩
  simp only [b2, cols, cols4]
  blk_point [iblk, V, e]
theorem b3_eq (h : t.val = j.val) : b3 m c t = colG (aP m c) j := by
  obtain ⟨_, _, _, e, _⟩ := idx_conv t (by omega)
  rw [h] at e
  funext y
  obtain ⟨r, l, rfl⟩ : ∃ (r : Fin 2048) (l : Fin 128), y = ix2 r l := ⟨y 0, y 1, eq_ix2 y⟩
  simp only [b3, cols, cols4]
  blk_point [iblk, V, e]
theorem b6_eq (h : t.val = j.val) : b6 m c t = cols4 (aA m c) j := by
  obtain ⟨_, _, _, _, e, _⟩ := idx_conv t (by omega)
  rw [h] at e
  funext y
  obtain ⟨r, l, rfl⟩ : ∃ (r : Fin 2048) (l : Fin 128), y = ix2 r l := ⟨y 0, y 1, eq_ix2 y⟩
  simp only [b6, cols, cols4]
  blk_point [iblk, V, e]
  rfl
theorem b8_eq (h : t.val = j.val) : b8 m c t = tapsOf (aW m c) j := by
  obtain ⟨_, _, _, _, _, e, _⟩ := idx_conv t (by omega)
  rw [h] at e
  funext y
  obtain ⟨z, w, s, d, rfl⟩ : ∃ (z w : Fin 1) (s : Fin 3) (d : Fin 128), y = ix4 z w s d := ⟨y 0, y 1, y 2, y 3, eq_ix4 y⟩
  refine Eq.trans ?_ (host_taps m c j 2 s d)
  blk_point [b8, iblk, e]

/-- A pooling point's blocks are its group's. -/
theorem b4_eq (h : t.val = 4 + j.val) : b4 m c t = pooledOf (aP m c) j := by
  obtain ⟨e, _⟩ := idx_pool t (by omega)
  rw [h, Nat.add_sub_cancel_left] at e
  funext y
  obtain ⟨r, l, rfl⟩ : ∃ (r : Fin 2048) (l : Fin 128), y = ix2 r l := ⟨y 0, y 1, eq_ix2 y⟩
  refine Eq.trans ?_ (host_rows m c r j l)
  blk_point [b4, iblk, e]
theorem b5_eq (h : t.val = 4 + j.val) : b5 m c t = colQ (aP m c) j := by
  obtain ⟨_, e, _⟩ := idx_pool t (by omega)
  rw [h, Nat.add_sub_cancel_left] at e
  funext y
  obtain ⟨r, l, rfl⟩ : ∃ (r : Fin 2048) (l : Fin 128), y = ix2 r l := ⟨y 0, y 1, eq_ix2 y⟩
  simp only [b5, cols, cols4]
  blk_point [iblk, V, e]
theorem b7_eq (h : t.val = 4 + j.val) : b7 m c t = cols4 (aQ m c) j := by
  obtain ⟨_, _, e, _⟩ := idx_pool t (by omega)
  rw [h, Nat.add_sub_cancel_left] at e
  funext y
  obtain ⟨r, l, rfl⟩ : ∃ (r : Fin 2048) (l : Fin 128), y = ix2 r l := ⟨y 0, y 1, eq_ix2 y⟩
  simp only [b7, cols, cols4]
  blk_point [iblk, V, e]
  rfl
theorem b9_eq (h : t.val = 4 + j.val) : b9 m c t = weightOf (aM m c) j := by
  obtain ⟨_, _, _, e, _⟩ := idx_pool t (by omega)
  rw [h, Nat.add_sub_cancel_left] at e
  funext y
  obtain ⟨z, w, a, d, rfl⟩ : ∃ (z w : Fin 1) (a : Fin 128) (d : Fin 128), y = ix4 z w a d := ⟨y 0, y 1, y 2, y 3, eq_ix4 y⟩
  simp only [b9, weightOf]
  blk_point [iblk, V, e]
theorem b10_eq (h : t.val = 4 + j.val) : b10 m c t = scaleOf (aS m c) j := by
  obtain ⟨_, _, _, _, e, _⟩ := idx_pool t (by omega)
  rw [h, Nat.add_sub_cancel_left] at e
  funext y
  obtain ⟨z, w, d, rfl⟩ : ∃ (z w : Fin 1) (d : Fin 128), y = ix3 z w d := ⟨y 0, y 1, y 2, eq_ix3 y⟩
  have hs := congrFun (host_scale m c) (ix3 2 w (at512 j d))
  refine Eq.trans ?_ hs
  blk_point [b10, iblk, e]

/-- The five results of the convolution at its points. -/
theorem conv_blocks (h : t.val = j.val) :
    o11 m c t = convDu (colU (aP m c) j) (colB (aP m c) j) (colC (aP m c) j) (colG (aP m c) j) (cols4 (aA m c) j) (tapsOf (aW m c) j)
    ∧ o12 m c t = convDb (colU (aP m c) j) (colB (aP m c) j) (colC (aP m c) j) (colG (aP m c) j) (cols4 (aA m c) j) (tapsOf (aW m c) j)
    ∧ o13 m c t = convDc (colU (aP m c) j) (colB (aP m c) j) (colC (aP m c) j) (colG (aP m c) j) (cols4 (aA m c) j) (tapsOf (aW m c) j)
    ∧ o14 m c t = convDg (colU (aP m c) j) (colB (aP m c) j) (colC (aP m c) j) (colG (aP m c) j) (cols4 (aA m c) j) (tapsOf (aW m c) j)
    ∧ o17 m c t = convDw (convSt (colU (aP m c) j) (colB (aP m c) j) (colC (aP m c) j) (colG (aP m c) j) (cols4 (aA m c) j) 32) := by
  unfold o11 o12 o13 o14 o17
  rw [b0_eq m c t j h, b1_eq m c t j h, b2_eq m c t j h, b3_eq m c t j h, b6_eq m c t j h, b8_eq m c t j h]
  exact ⟨rfl, rfl, rfl, rfl, rfl⟩

/-- The four results of the pooling at its points. -/
theorem pool_blocks (h : t.val = 4 + j.val) :
    o15 m c t = poolDu (group (4 + j.val)) (poolDp (weightOf (aM m c) j) (poolDmix (scaleOf (aS m c) j) (colQ (aP m c) j) (cols4 (aQ m c) j)))
    ∧ o16 m c t = poolDg (scaleOf (aS m c) j) (colQ (aP m c) j) (cols4 (aQ m c) j) (k0_pay43 (weightOf (aM m c) j) (pooledOf (aP m c) j))
    ∧ o18 m c t = k0_pay12 (pooledOf (aP m c) j) (poolDmix (scaleOf (aS m c) j) (colQ (aP m c) j) (cols4 (aQ m c) j))
    ∧ o19 m c t = k0_pay54 (poolAcc (colQ (aP m c) j) (cols4 (aQ m c) j) (k0_pay43 (weightOf (aM m c) j) (pooledOf (aP m c) j)) 16) := by
  unfold o15 o16 o18 o19
  rw [h, b4_eq m c t j h, b5_eq m c t j h, b7_eq m c t j h, b9_eq m c t j h, b10_eq m c t j h]
  exact ⟨rfl, rfl, rfl, rfl⟩

/-- Where the results are written back: the convolution's at its first three points and, kept since the fourth, at
the last; the pooling's at its own points. -/
theorem kept_lt (t : Fin cfg0.N) : (kept t).val < 4 := by
  unfold kept; split
  · assumption
  · decide
theorem kept_index : ∀ t : Fin cfg0.N, win0_11.index t = ![0, (kept t).val] ∧ win0_12.index t = ![0, (kept t).val]
    ∧ win0_13.index t = ![0, (kept t).val] ∧ win0_14.index t = ![0, (kept t).val] ∧ win0_17.index t = ![(kept t).val, 0, 0] := by
  decide +kernel

end Cert.Proof.Mix

end
-- ==== Proof.Index.lean ====
/- An index of an array from its components; a function of equal arguments. -/
module

public import Idealize.ShloMosaic.Lib.Pipeline.ValueKit

@[expose] public section

namespace Cert.Proof

open Idealize.ShloMosaic

/-- An index with given components. -/
theorem ix2_of {n k : ℕ} {a : Fin n} {b : Fin k} {i : (⟨2, ![n, k]⟩ : Shape).Idx} (h0 : a.val = (i 0).val) (h1 : b.val = (i 1).val) :
    ix2 a b = i := by
  rw [eq_ix2 i, Fin.ext h0, Fin.ext h1]
theorem ix3_of {n k l : ℕ} {a : Fin n} {b : Fin k} {d : Fin l} {i : (⟨3, ![n, k, l]⟩ : Shape).Idx} (h0 : a.val = (i 0).val)
    (h1 : b.val = (i 1).val) (h2 : d.val = (i 2).val) : ix3 a b d = i := by
  rw [eq_ix3 i, Fin.ext h0, Fin.ext h1, Fin.ext h2]

/-- A function of equal arguments. -/
theorem same_args_6 {A B C D E G H : Type} {f : A → B → C → D → E → G → H} {a a' b b' c c' d d' e e' g g'} (h0 : a = a') (h1 : b = b')
    (h2 : c = c') (h3 : d = d') (h4 : e = e') (h5 : g = g') : f a b c d e g = f a' b' c' d' e' g' := by rw [h0, h1, h2, h3, h4, h5]
theorem same_args_5 {A B C D E H : Type} {f : A → B → C → D → E → H} {a a' b b' c c' d d' e e'} (h0 : a = a') (h1 : b = b')
    (h2 : c = c') (h3 : d = d') (h4 : e = e') : f a b c d e = f a' b' c' d' e' := by rw [h0, h1, h2, h3, h4]
theorem same_args_4 {A B C D H : Type} {f : A → B → C → D → H} {a a' b b' c c' d d'} (h0 : a = a') (h1 : b = b')
    (h2 : c = c') (h3 : d = d') : f a b c d = f a' b' c' d' := by rw [h0, h1, h2, h3]
theorem same_args_3 {A B C H : Type} {f : A → B → C → H} {a a' b b' c c'} (h0 : a = a') (h1 : b = b')
    (h2 : c = c') : f a b c = f a' b' c' := by rw [h0, h1, h2]

end Cert.Proof

end
-- ==== Proof.Mix.Value.lean ====
/-
  What the mixers' gradient kernel leaves in its nine result arrays, each equal to the plain program's array.
-/
module

public import proofs.«01_k».proof.Proof.Mix.Blocks
public import proofs.«01_k».proof.Proof.Index

@[expose] public section

set_option maxRecDepth 16384

noncomputable section

namespace Cert.Proof.Mix

open Cert.MixIdeal Cert.MixIdeal.Gen Idealize.ShloMosaic Idealize.ShloMosaic.TcCoe Idealize.SL.Sem
open Cert.MixRefIdeal.Read

variable (m : (ℓ : Loc nD τ Cert.MixIdeal.sig) → Buf (Elt Ideal) ℓ)

variable (c : Dev nD)

/-- The convolution's results. -/
theorem final_du : (dats m 0 c).arrAt 11 (cfgs 0).N = val_main_v236 (F := Ideal) (aP m c) (aW m c) (aM m c) (aS m c) (aA m c) (aQ m c) := by
  refine (dats m 0 c).arrAt_eq_of_covers 11 _ (by decide +kernel) fun t hf y => ?_
  obtain ⟨e, _⟩ := kept_index t
  rw [after_11, (conv_blocks m c (kept t) ⟨(kept t).val, kept_lt t⟩ rfl).1]
  blk_simp
  obtain ⟨r, l, rfl⟩ : ∃ (r : Fin 2048) (l : Fin 128), y = ix2 r l := ⟨y 0, y 1, eq_ix2 y⟩
  refine (du_eq (aP m c) (aW m c) (aM m c) (aS m c) (aA m c) (aQ m c) ⟨(kept t).val, kept_lt t⟩ l r).symm.trans (congrArg _ (ix2_of ?_ ?_))
  all_goals blk_simp [e]
theorem final_db : (dats m 0 c).arrAt 12 (cfgs 0).N = val_main_v238 (F := Ideal) (aP m c) (aW m c) (aM m c) (aS m c) (aA m c) (aQ m c) := by
  refine (dats m 0 c).arrAt_eq_of_covers 12 _ (by decide +kernel) fun t hf y => ?_
  obtain ⟨_, e, _⟩ := kept_index t
  rw [after_12, (conv_blocks m c (kept t) ⟨(kept t).val, kept_lt t⟩ rfl).2.1]
  blk_simp
  obtain ⟨r, l, rfl⟩ : ∃ (r : Fin 2048) (l : Fin 128), y = ix2 r l := ⟨y 0, y 1, eq_ix2 y⟩
  refine (db_eq (aP m c) (aW m c) (aM m c) (aS m c) (aA m c) (aQ m c) ⟨(kept t).val, kept_lt t⟩ l r).symm.trans (congrArg _ (ix2_of ?_ ?_))
  all_goals blk_simp [e]
theorem final_dc : (dats m 0 c).arrAt 13 (cfgs 0).N = val_main_v240 (F := Ideal) (aP m c) (aW m c) (aM m c) (aS m c) (aA m c) (aQ m c) := by
  refine (dats m 0 c).arrAt_eq_of_covers 13 _ (by decide +kernel) fun t hf y => ?_
  obtain ⟨_, _, e, _⟩ := kept_index t
  rw [after_13, (conv_blocks m c (kept t) ⟨(kept t).val, kept_lt t⟩ rfl).2.2.1]
  blk_simp
  obtain ⟨r, l, rfl⟩ : ∃ (r : Fin 2048) (l : Fin 128), y = ix2 r l := ⟨y 0, y 1, eq_ix2 y⟩
  refine (dc_eq (aP m c) (aW m c) (aM m c) (aS m c) (aA m c) (aQ m c) ⟨(kept t).val, kept_lt t⟩ l r).symm.trans (congrArg _ (ix2_of ?_ ?_))
  all_goals blk_simp [e]
theorem final_dw : (dats m 0 c).arrAt 17 (cfgs 0).N = val_main_v248 (F := Ideal) (aP m c) (aA m c) (aQ m c) := by
  refine (dats m 0 c).arrAt_eq_of_covers 17 _ (by decide +kernel) fun t hf y => ?_
  obtain ⟨_, _, _, _, e⟩ := kept_index t
  rw [after_17, (conv_blocks m c (kept t) ⟨(kept t).val, kept_lt t⟩ rfl).2.2.2.2]
  blk_simp
  obtain ⟨z, s, l, rfl⟩ : ∃ (z : Fin 1) (s : Fin 3) (l : Fin 128), y = ix3 z s l := ⟨y 0, y 1, y 2, eq_ix3 y⟩
  obtain rfl : z = 0 := Subsingleton.elim _ _
  refine (dw_eq (aP m c) (aA m c) (aQ m c) ⟨(kept t).val, kept_lt t⟩ l s).symm.trans (congrArg _ (ix3_of ?_ ?_ ?_))
  · blk_simp [e]; rfl
  all_goals blk_simp [e]

theorem pool_flush : ∀ t : Fin cfg0.N, (win0_15.flush t = true ∨ win0_16.flush t = true ∨ win0_18.flush t = true ∨ win0_19.flush t = true)
    → 4 ≤ t.val ∧ t.val - 4 < 4 := by decide +kernel

/-- The pooling's results. -/
theorem final_dwp : (dats m 0 c).arrAt 18 (cfgs 0).N = val_main_v249 (F := Ideal) (aP m c) (aS m c) (aA m c) (aQ m c) := by
  refine (dats m 0 c).arrAt_eq_of_covers 18 _ (by decide +kernel) fun t hf y => ?_
  obtain ⟨ht, jl⟩ := pool_flush t (by first | exact Or.inl hf | exact Or.inr (Or.inl hf) | exact Or.inr (Or.inr (Or.inl hf)) | exact Or.inr (Or.inr (Or.inr hf)))
  obtain ⟨_, _, _, _, _, _, _, e, _⟩ := idx_pool t ht
  rw [after_18, (pool_blocks m c t ⟨t.val - 4, jl⟩ (by dsimp only; omega)).2.2.1]
  blk_simp
  obtain ⟨z, r, l, rfl⟩ : ∃ (z : Fin 1) (r : Fin 128) (l : Fin 128), y = ix3 z r l := ⟨y 0, y 1, y 2, eq_ix3 y⟩
  obtain rfl : z = 0 := Subsingleton.elim _ _
  refine (dwp_eq (aP m c) (aS m c) (aA m c) (aQ m c) ⟨t.val - 4, jl⟩ l r).symm.trans (congrArg _ (ix3_of ?_ ?_ ?_))
  · blk_simp [e]; rfl
  all_goals blk_simp [e]
theorem final_ds : (dats m 0 c).arrAt 19 (cfgs 0).N = val_main_v250 (F := Ideal) (aP m c) (aM m c) (aA m c) (aQ m c) := by
  refine (dats m 0 c).arrAt_eq_of_covers 19 _ (by decide +kernel) fun t hf y => ?_
  obtain ⟨ht, jl⟩ := pool_flush t (by first | exact Or.inl hf | exact Or.inr (Or.inl hf) | exact Or.inr (Or.inr (Or.inl hf)) | exact Or.inr (Or.inr (Or.inr hf)))
  obtain ⟨_, _, _, _, _, _, _, _, e⟩ := idx_pool t ht
  rw [after_19, (pool_blocks m c t ⟨t.val - 4, jl⟩ (by dsimp only; omega)).2.2.2]
  blk_simp
  obtain ⟨z, l, rfl⟩ : ∃ (z : Fin 1) (l : Fin 128), y = ix2 z l := ⟨y 0, y 1, eq_ix2 y⟩
  obtain rfl : z = 0 := Subsingleton.elim _ _
  refine (ds_eq (aP m c) (aM m c) (aA m c) (aQ m c) ⟨t.val - 4, jl⟩ l).symm.trans (congrArg _ (ix2_of ?_ ?_))
  all_goals blk_simp [e]

/-- The three results that need the arguments to be finite. -/
theorem final_dg (h0 : ∀ i, IsR (aP m c i)) (h1 : ∀ i, IsR (aW m c i)) (h4 : ∀ i, IsR (aA m c i)) : (dats m 0 c).arrAt 14 (cfgs 0).N = val_main_v242 (F := Ideal) (aP m c) (aW m c) (aM m c) (aS m c) (aA m c) (aQ m c) := by
  refine (dats m 0 c).arrAt_eq_of_covers 14 _ (by decide +kernel) fun t hf y => ?_
  obtain ⟨_, _, _, e, _⟩ := kept_index t
  rw [after_14, (conv_blocks m c (kept t) ⟨(kept t).val, kept_lt t⟩ rfl).2.2.2.1]
  blk_simp
  obtain ⟨r, l, rfl⟩ : ∃ (r : Fin 2048) (l : Fin 128), y = ix2 r l := ⟨y 0, y 1, eq_ix2 y⟩
  refine (dg_eq (aP m c) (aW m c) (aM m c) (aS m c) (aA m c) (aQ m c) h0 h1 h4 ⟨(kept t).val, kept_lt t⟩ r l).symm.trans (congrArg _ (ix2_of ?_ ?_))
  all_goals blk_simp [e]
theorem final_dup (h0 : ∀ i, IsR (aP m c i)) (h2 : ∀ i, IsR (aM m c i)) (h3 : ∀ i, IsR (aS m c i)) (h5 : ∀ i, IsR (aQ m c i)) : (dats m 0 c).arrAt 15 (cfgs 0).N = val_main_v244 (F := Ideal) (aP m c) (aW m c) (aM m c) (aS m c) (aA m c) (aQ m c) := by
  refine (dats m 0 c).arrAt_eq_of_covers 15 _ (by decide +kernel) fun t hf y => ?_
  obtain ⟨ht, jl⟩ := pool_flush t (by first | exact Or.inl hf | exact Or.inr (Or.inl hf) | exact Or.inr (Or.inr (Or.inl hf)) | exact Or.inr (Or.inr (Or.inr hf)))
  obtain ⟨_, _, _, _, _, e, _⟩ := idx_pool t ht
  rw [after_15, (pool_blocks m c t ⟨t.val - 4, jl⟩ (by dsimp only; omega)).1]
  blk_simp
  obtain ⟨r, l, rfl⟩ : ∃ (r : Fin 2048) (l : Fin 128), y = ix2 r l := ⟨y 0, y 1, eq_ix2 y⟩
  refine (dup_eq (aP m c) (aW m c) (aM m c) (aS m c) (aA m c) (aQ m c) h0 h2 h3 h5 ⟨t.val - 4, jl⟩ r l).symm.trans (congrArg _ (ix2_of ?_ ?_))
  all_goals blk_simp [e]
theorem final_dgp (h0 : ∀ i, IsR (aP m c i)) (h2 : ∀ i, IsR (aM m c i)) (h3 : ∀ i, IsR (aS m c i)) (h5 : ∀ i, IsR (aQ m c i)) : (dats m 0 c).arrAt 16 (cfgs 0).N = val_main_v246 (F := Ideal) (aP m c) (aW m c) (aM m c) (aS m c) (aA m c) (aQ m c) := by
  refine (dats m 0 c).arrAt_eq_of_covers 16 _ (by decide +kernel) fun t hf y => ?_
  obtain ⟨ht, jl⟩ := pool_flush t (by first | exact Or.inl hf | exact Or.inr (Or.inl hf) | exact Or.inr (Or.inr (Or.inl hf)) | exact Or.inr (Or.inr (Or.inr hf)))
  obtain ⟨_, _, _, _, _, _, e, _⟩ := idx_pool t ht
  rw [after_16, (pool_blocks m c t ⟨t.val - 4, jl⟩ (by dsimp only; omega)).2.1]
  blk_simp
  obtain ⟨r, l, rfl⟩ : ∃ (r : Fin 2048) (l : Fin 128), y = ix2 r l := ⟨y 0, y 1, eq_ix2 y⟩
  refine (dgp_eq (aP m c) (aW m c) (aM m c) (aS m c) (aA m c) (aQ m c) h0 h2 h3 h5 ⟨t.val - 4, jl⟩ r l).symm.trans (congrArg _ (ix2_of ?_ ?_))
  all_goals blk_simp [e]

end Cert.Proof.Mix

end
-- ==== Proof.Mix.Claims.lean ====
/- The claims about the mixers' gradients: the frames, and the nine results equal to the plain program's. -/
module

public import proofs.«01_k».proof.Defs
public import proofs.«01_k».proof.Proof.Finite
public import proofs.«01_k».proof.Proof.Mix.Value
public import proofs.«01_k».proof.Proof.Gen.Mix.Frame
public import proofs.«01_k».proof.Proof.Gen.MixRefIdeal.Run
public import Idealize.ShloMosaic.Lib.Claim

@[expose] public section

set_option maxRecDepth 16384

noncomputable section

namespace Cert.Proof.Mix

open Idealize.ShloMosaic Idealize.ShloMosaic.TcCoe Idealize.SL.Sem

theorem facts_pre : Cert.Pre_mix_pre.Facts := by
  constructor <;> decide

/-- The precondition makes every argument's elements real numbers. -/
theorem finite [Cert.Pre_mix_pre.Facts] (x0 : FVec Ideal Cert.Pre_mix_pre.S2048x3072 .bf16) (x1 : FVec Ideal Cert.Pre_mix_pre.S4x3x512 .f32)
    (x2 : FVec Ideal Cert.Pre_mix_pre.S4x4x128x128 .f32) (x3 : FVec Ideal Cert.Pre_mix_pre.S4x512 .f32)
    (x4 x5 : FVec Ideal Cert.Pre_mix_pre.S2048x512 .bf16) (h : Cert.Pre_mix_pre.fn (F := Ideal) x0 x1 x2 x3 x4 x5 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) := by
  have h := congrFun h (fun k => k.elim0)
  dsimp only [Cert.Pre_mix_pre.fn, Cert.Pre_mix_pre.fn_part1] at h
  obtain ⟨h, e5⟩ := both h
  obtain ⟨h, e4⟩ := both h
  obtain ⟨h, e3⟩ := both h
  obtain ⟨h, e2⟩ := both h
  obtain ⟨e0, e1⟩ := both h
  exact ⟨isR_of_all x0 _ _ _ _ _ e0, isR_of_all x1 _ _ _ _ _ e1, isR_of_all x2 _ _ _ _ _ e2, isR_of_all x3 _ _ _ _ _ e3,
    isR_of_all x4 _ _ _ _ _ e4, isR_of_all x5 _ _ _ _ _ e5⟩

/-- The run over the words. The two printed programs differ in nothing but their names. -/
abbrev RunsOverBits : Prop := ∀ (m : (ℓ : Loc Cert.MixIdeal.nD Cert.MixIdeal.τ Cert.MixIdeal.sig) → Buf (Elt Bits) ℓ) (ρ : Dev Cert.MixIdeal.nD → PrngReg), True →
    θ_run (Cert.MixIdeal.defs (F := Bits)) (onTc (τ := Cert.MixIdeal.τ) (Cert.MixIdeal.main (F := Bits))) ⟨m, fun _ => 0, ρ⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)
theorem runs_over_bits : RunsOverBits := fun m ρ _ => frame_any (F := Bits) m ρ
theorem same_program : RunsOverBits = @Cert.quiescent_Mix Cert.Mix.Gen.facts := by sl_kernel_rfl
theorem frame_kernel : Cert.quiescent_Mix := cast same_program runs_over_bits

theorem frame_ideal : Cert.quiescent_MixIdeal := fun m ρ _ => frame_any m ρ

theorem frame_ideal_pre [Cert.Pre_mix_pre.Facts] : Cert.quiescent_MixIdeal_pre_mix_pre := fun m ρ _ => frame_any m ρ

theorem frame_reference : Cert.quiescent_MixRefIdeal := fun m g _ =>
  (θ_run Cert.MixRefIdeal.defs _ _).mono
    (fun r h => ⟨fun c => (h c).2.2.2.2.2.2.2.2.2, sem_eq_zero_of_no_sems (by decide) r.2⟩) (Cert.MixRefIdeal.Value.run m g)

theorem frame_reference_pre [Cert.Pre_mix_pre.Facts] : Cert.quiescent_MixRefIdeal_pre_mix_pre := fun m g _ => frame_reference m g trivial

set_option maxHeartbeats 1000000 in
/-- What the kernel's run leaves: the nine arrays and the arguments. -/
theorem run_arrays (m : (ℓ : Loc Cert.MixIdeal.nD Cert.MixIdeal.τ Cert.MixIdeal.sig) → Buf (Elt Ideal) ℓ) (g : Dev Cert.MixIdeal.nD → PrngReg) :
    θ_run Cert.MixIdeal.defs (onTc (τ := Cert.MixIdeal.τ) (Cert.MixIdeal.main (F := Ideal))) ⟨m, fun _ => 0, g⟩ (fun r => ∀ c : Dev Cert.MixIdeal.nD,
      r.2.mem ((c.tc : Thread Cert.MixIdeal.nD Cert.MixIdeal.τ).loc Cert.MixIdeal.main_v62_0) = (dats m 0 c).arrAt 11 (Cert.MixIdeal.cfgs 0).N
      ∧ r.2.mem ((c.tc : Thread Cert.MixIdeal.nD Cert.MixIdeal.τ).loc Cert.MixIdeal.main_v62_1) = (dats m 0 c).arrAt 12 (Cert.MixIdeal.cfgs 0).N
      ∧ r.2.mem ((c.tc : Thread Cert.MixIdeal.nD Cert.MixIdeal.τ).loc Cert.MixIdeal.main_v62_2) = (dats m 0 c).arrAt 13 (Cert.MixIdeal.cfgs 0).N
      ∧ r.2.mem ((c.tc : Thread Cert.MixIdeal.nD Cert.MixIdeal.τ).loc Cert.MixIdeal.main_v62_3) = (dats m 0 c).arrAt 14 (Cert.MixIdeal.cfgs 0).N
      ∧ r.2.mem ((c.tc : Thread Cert.MixIdeal.nD Cert.MixIdeal.τ).loc Cert.MixIdeal.main_v62_4) = (dats m 0 c).arrAt 15 (Cert.MixIdeal.cfgs 0).N
      ∧ r.2.mem ((c.tc : Thread Cert.MixIdeal.nD Cert.MixIdeal.τ).loc Cert.MixIdeal.main_v62_5) = (dats m 0 c).arrAt 16 (Cert.MixIdeal.cfgs 0).N
      ∧ r.2.mem ((c.tc : Thread Cert.MixIdeal.nD Cert.MixIdeal.τ).loc Cert.MixIdeal.main_v62_6) = (dats m 0 c).arrAt 17 (Cert.MixIdeal.cfgs 0).N
      ∧ r.2.mem ((c.tc : Thread Cert.MixIdeal.nD Cert.MixIdeal.τ).loc Cert.MixIdeal.main_v62_7) = (dats m 0 c).arrAt 18 (Cert.MixIdeal.cfgs 0).N
      ∧ r.2.mem ((c.tc : Thread Cert.MixIdeal.nD Cert.MixIdeal.τ).loc Cert.MixIdeal.main_v62_8) = (dats m 0 c).arrAt 19 (Cert.MixIdeal.cfgs 0).N
      ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)) :=
  (θ_run _ _ _).mono (fun r h c => ⟨(h.1 c).1 11, (h.1 c).1 12, (h.1 c).1 13, (h.1 c).1 14, (h.1 c).1 15, (h.1 c).1 16, (h.1 c).1 17, (h.1 c).1 18, (h.1 c).1 19, h.2.1 c⟩)
    (θ_run_and (run_main m g) (frame_any m g))

set_option maxHeartbeats 1000000 in
theorem algebraic [Cert.Pre_mix_pre.Facts] : Cert.algebraic_MixIdeal_MixRefIdeal_pre_mix_pre := by
  intro m g m' g' hpre hagree
  refine ⟨_, _, _, _, _, _, _, _, _, run_arrays m g, ?_⟩
  refine (θ_run _ _ _).mono (fun r h c => ?_) (Cert.MixRefIdeal.Value.run m' g')
  obtain ⟨h0, h1, h2, h3, h4, h5⟩ := hagree c
  obtain ⟨f0, f1, f2, f3, f4, f5⟩ := finite _ _ _ _ _ _ (hpre c)
  obtain ⟨e0, e1, e2, e3, e4, e5, e6, e7, e8, ha⟩ := h c
  refine ⟨?_, ?_, ?_, ?_, ?_, ?_, ?_, ?_, ?_, ha⟩
  · refine e0.trans ((Cert.MixRefIdeal.Read.val_main_v236_eq (StableHlo.launchContents m' c)).trans (Eq.trans ?_ (final_du m c ).symm))
    exact same_args_6 h0 h1 h2 h3 h4 h5
  · refine e1.trans ((Cert.MixRefIdeal.Read.val_main_v238_eq (StableHlo.launchContents m' c)).trans (Eq.trans ?_ (final_db m c ).symm))
    exact same_args_6 h0 h1 h2 h3 h4 h5
  · refine e2.trans ((Cert.MixRefIdeal.Read.val_main_v240_eq (StableHlo.launchContents m' c)).trans (Eq.trans ?_ (final_dc m c ).symm))
    exact same_args_6 h0 h1 h2 h3 h4 h5
  · refine e3.trans ((Cert.MixRefIdeal.Read.val_main_v242_eq (StableHlo.launchContents m' c)).trans (Eq.trans ?_ (final_dg m c f0 f1 f4).symm))
    exact same_args_6 h0 h1 h2 h3 h4 h5
  · refine e4.trans ((Cert.MixRefIdeal.Read.val_main_v244_eq (StableHlo.launchContents m' c)).trans (Eq.trans ?_ (final_dup m c f0 f2 f3 f5).symm))
    exact same_args_6 h0 h1 h2 h3 h4 h5
  · refine e5.trans ((Cert.MixRefIdeal.Read.val_main_v246_eq (StableHlo.launchContents m' c)).trans (Eq.trans ?_ (final_dgp m c f0 f2 f3 f5).symm))
    exact same_args_6 h0 h1 h2 h3 h4 h5
  · refine e6.trans ((Cert.MixRefIdeal.Read.val_main_v248_eq (StableHlo.launchContents m' c)).trans (Eq.trans ?_ (final_dw m c ).symm))
    exact same_args_3 h0 h4 h5
  · refine e7.trans ((Cert.MixRefIdeal.Read.val_main_v249_eq (StableHlo.launchContents m' c)).trans (Eq.trans ?_ (final_dwp m c ).symm))
    exact same_args_4 h0 h3 h4 h5
  · refine e8.trans ((Cert.MixRefIdeal.Read.val_main_v250_eq (StableHlo.launchContents m' c)).trans (Eq.trans ?_ (final_ds m c ).symm))
    exact same_args_4 h0 h2 h4 h5

end Cert.Proof.Mix

end
-- ==== Proof.Norm.lean ====
/-
  The derivative of the RMS norm over finite values: the kernels' one formula and the two terms the derivative comes in
  are the same number.
-/
module

public import proofs.«01_k».proof.Proof.Mix.Math

@[expose] public section

noncomputable section

namespace Cert.Proof

open Idealize.ShloMosaic

theorem c1024 : Ideal.ofBits .f32 1149239296#32 = ((1024 : ℝ) : EReal) := by
  simp [Ideal.ofBits, Ideal.ieee, -EReal.coe_mul]; norm_num
theorem minus_half : Ideal.ofBits .f32 3204448256#32 = ((-(1 / 2) : ℝ) : EReal) := by
  simp [Ideal.ofBits, Ideal.ieee, -EReal.coe_mul]; norm_num
theorem small_eps : Ideal.ofBits .f32 897988541#32 = ((8796093 / 8796093022208 : ℝ) : EReal) := by
  simp [Ideal.ofBits, Ideal.ieee, -EReal.coe_mul]; norm_num

/-- A row's mean square with the small constant. -/
abbrev meanSq {n : ℕ} (y : Fin n → EReal) : EReal :=
  Ideal.div (∑ k, y k * y k) (Ideal.ofBits .f32 1149239296#32) + Ideal.ofBits .f32 897988541#32

/-- It is positive, and the reciprocal root squared is its reciprocal. -/
theorem meanSq_real {n : ℕ} (y : Fin n → EReal) (hy : ∀ k, IsR (y k)) :
    ∃ μ ρ : ℝ, 0 < μ ∧ meanSq y = (μ : EReal) ∧ Ideal.rsqrt (meanSq y) = (ρ : EReal) ∧ ρ * ρ * μ = 1 := by
  choose v hv using hy
  have e : meanSq y = (((∑ k, v k * v k) * (1 / 1024) + 8796093 / 8796093022208 : ℝ) : EReal) := by
    rw [EReal.coe_add, EReal.coe_mul, coe_sum, ← small_eps, ← Ideal.div_coe (by norm_num), ← c1024]
    exact congrArg (fun z => Ideal.div z _ + _) (Finset.sum_congr rfl fun k _ => by rw [hv, EReal.coe_mul])
  have p : (0 : ℝ) < (∑ k, v k * v k) * (1 / 1024) + 8796093 / 8796093022208 := by
    have : (0 : ℝ) ≤ ∑ k, v k * v k := Finset.sum_nonneg fun k _ => mul_self_nonneg _
    positivity
  generalize (∑ k, v k * v k) * (1 / 1024) + (8796093 / 8796093022208 : ℝ) = μ at e p
  refine ⟨μ, (Real.sqrt μ)⁻¹, p, e, ?_, ?_⟩
  · rw [e, Ideal.rsqrt_coe, if_neg (not_lt.mpr p.le), if_neg p.ne']
  · have := Real.mul_self_sqrt p.le
    have h := (Real.sqrt_pos.mpr p).ne'
    field_simp
    nlinarith [this]

theorem isR_rms {n : ℕ} (y : Fin n → EReal) (hy : ∀ k, IsR (y k)) : IsR (Ideal.rsqrt (meanSq y)) := by
  obtain ⟨_, ρ, _, _, h, _⟩ := meanSq_real y hy
  exact ⟨ρ, h⟩

/-- The norm's derivative: `y` the row, `d` what arrives at the row times its reciprocal root, `p` the products the kernel
adds up. -/
theorem norm_grad {n : ℕ} (y d p : Fin n → EReal) (hy : ∀ k, IsR (y k)) (hd : ∀ k, IsR (d k))
    (hp : ∀ k, p k = d k * (y k * Ideal.rsqrt (meanSq y))) (l : Fin n) :
    Ideal.rsqrt (meanSq y) * (d l - y l * Ideal.rsqrt (meanSq y) * Ideal.div (∑ k, p k) (Ideal.ofBits .f32 1149239296#32))
      = d l * Ideal.rsqrt (meanSq y)
        + y l * Ideal.div ((∑ k, y k * d k) * (Ideal.ofBits .f32 3204448256#32 * Ideal.div (Ideal.rsqrt (meanSq y)) (meanSq y)))
          (Ideal.ofBits .f32 1149239296#32)
        + Ideal.div ((∑ k, y k * d k) * (Ideal.ofBits .f32 3204448256#32 * Ideal.div (Ideal.rsqrt (meanSq y)) (meanSq y)))
          (Ideal.ofBits .f32 1149239296#32) * y l := by
  obtain ⟨μ, ρ, hμ, e1, e2, e3⟩ := meanSq_real y hy
  rw [Finset.sum_congr rfl fun k _ => hp k, e2, e1, c1024, minus_half]
  choose v hv using hy
  choose w hw using hd
  have s1 : ∑ k, d k * (y k * (ρ : EReal)) = ((ρ * ∑ k, v k * w k : ℝ) : EReal) := by
    rw [Finset.mul_sum, coe_sum]
    exact Finset.sum_congr rfl fun k _ => by rw [hv, hw, ← EReal.coe_mul, ← EReal.coe_mul]; exact congrArg _ (by ring)
  have s2 : ∑ k, y k * d k = ((∑ k, v k * w k : ℝ) : EReal) := by
    rw [coe_sum]
    exact Finset.sum_congr rfl fun k _ => by rw [hv, hw, ← EReal.coe_mul]
  rw [s1, s2, hv l, hw l, Ideal.div_coe (by norm_num), Ideal.div_coe (by norm_num), Ideal.div_coe hμ.ne']
  simp only [← EReal.coe_mul, ← EReal.coe_sub, ← EReal.coe_add]
  refine congrArg _ ?_
  generalize ∑ k, v k * w k = S
  have e4 : 1 / μ = ρ * ρ := by field_simp; linarith
  rw [e4]
  ring

/-- A finite factor moves into a sum of finite values. -/
theorem mul_sum_isR {ι : Type} [Fintype ι] (g : EReal) (p : ι → EReal) (hg : IsR g) (hp : ∀ i, IsR (p i)) :
    g * ∑ i, p i = ∑ i, g * p i := by
  obtain ⟨a, rfl⟩ := hg
  choose b hb using hp
  rw [Finset.sum_congr rfl fun i _ => hb i, ← coe_sum, ← EReal.coe_mul, Finset.mul_sum, coe_sum]
  exact Finset.sum_congr rfl fun i _ => by rw [hb, EReal.coe_mul]

end Cert.Proof

end
-- ==== Proof.Out.Value.lean ====
/- What a middle layer's output projection leaves in its gradient's five result arrays, each equal to the plain
   program's array where the arguments are finite. -/
module

public import proofs.«01_k».proof.Proof.Gen.OutIdeal.Value
public import proofs.«01_k».proof.Proof.Gen.OutRefIdeal.Read
public import proofs.«01_k».proof.Proof.Norm
public import proofs.«01_k».proof.Proof.Index
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.Out

open Cert.OutIdeal Cert.OutIdeal.Gen Idealize.ShloMosaic Idealize.ShloMosaic.TcCoe Idealize.SL.Sem
open Cert.OutRefIdeal.Read

variable (m : (ℓ : Loc nD τ Cert.OutIdeal.sig) → Buf (Elt Ideal) ℓ)

/-- Every window's block index at every point: the point is the row block. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![2, 2, 0, 0] ∧ win0_6.index t = ![2, 0, 0]
    ∧ win0_7.index t = ![t.val, 0] ∧ win0_8.index t = ![t.val, 0]
    ∧ win0_9.index t = ![0, 0] ∧ win0_10.index t = ![0, 0] ∧ win0_11.index t = ![0, 0] :=
  (by decide +kernel : ∀ t : Fin grid0.N, _)

/-- The arguments' names, shortened: what arrives at the layer's output, the two mixers' rows, the weight, the
modulation and the norm's scale. -/
abbrev aD (c : Dev nD) : S2048x1024.Idx → EReal := m ((c : Thread nD τ).loc main_arg0)
abbrev aA (c : Dev nD) : S2048x512.Idx → EReal := m ((c : Thread nD τ).loc main_arg1)
abbrev aP (c : Dev nD) : S2048x512.Idx → EReal := m ((c : Thread nD τ).loc main_arg2)
abbrev aW (c : Dev nD) : S4x1024x1024.Idx → EReal := m ((c : Thread nD τ).loc main_arg3)
abbrev aMod (c : Dev nD) : S4x3072.Idx → EReal := m ((c : Thread nD τ).loc main_arg4)
abbrev aG (c : Dev nD) : S4x1024.Idx → EReal := m ((c : Thread nD τ).loc main_arg5)

variable (c : Dev nD)

/-- The projection the host hands over is the plain program's. -/
theorem host_y : V m c main_v9 = val_main_v12 (F := Ideal) (aA m c) (aP m c) (aW m c) := by
  show StableHlo.after _ _ (Proc.devRef .tc main_v9) = _
  after_reads_simp
  funext i
  idx_vars i
  pointwise [val_main_v12, val_main_v11, val_main_v8, val_main_v7, val_main_v5, val_main_v6]

/-- A block of the projection. -/
theorem y_point (t : Fin cfg0.N) (r : Fin 512) (l : Fin 1024) (i : S2048x1024.Idx)
    (h0 : (i 0).val = t.val * 512 + r.val) (h1 : (i 1).val = l.val) :
    iblk m c 1 t (ix2 r l) = val_main_v12 (F := Ideal) (aA m c) (aP m c) (aW m c) i := by
  rw [← host_y m c]
  idx_vars i
  blk_point [iblk, idx t]

/-- The gate's columns of the modulation. -/
abbrev gateCol (k : Fin 1024) : Fin 3072 := ⟨2048 + k.val, by omega⟩

/-- A row of the projection, and what arrives at the norm's row. -/
abbrev yRow (R : Fin 2048) : Fin 1024 → EReal := fun k => val_main_v12 (F := Ideal) (aA m c) (aP m c) (aW m c) (ix2 R k)
abbrev dRow (R : Fin 2048) : Fin 1024 → EReal := fun k => aMod m c (ix2 2 (gateCol k)) * aD m c (ix2 R k) * aG m c (ix2 2 k)

/-- The plain program's gradient of the projection, written out. -/
theorem ref_dy (R : Fin 2048) (l : Fin 1024) :
    val_main_v57 (F := Ideal) (aD m c) (aA m c) (aP m c) (aW m c) (aMod m c) (aG m c) (ix2 R l)
      = dRow m c R l * Ideal.rsqrt (meanSq (yRow m c R))
        + yRow m c R l * Ideal.div ((∑ k, yRow m c R k * dRow m c R k) * (Ideal.ofBits .f32 3204448256#32
          * Ideal.div (Ideal.rsqrt (meanSq (yRow m c R))) (meanSq (yRow m c R)))) (Ideal.ofBits .f32 1149239296#32)
        + Ideal.div ((∑ k, yRow m c R k * dRow m c R k) * (Ideal.ofBits .f32 3204448256#32
          * Ideal.div (Ideal.rsqrt (meanSq (yRow m c R))) (meanSq (yRow m c R)))) (Ideal.ofBits .f32 1149239296#32) * yRow m c R l := by
  pointwise [val_main_v57, val_main_v56, val_main_v55, val_main_v54, val_main_v53, val_main_v52, val_main_v51, val_main_v50, val_main_v49,
    val_main_v48, val_main_v47, val_main_v46, val_main_v45, val_main_v44, val_main_v42, val_main_v41, val_main_v33, val_main_v32, val_main_v29,
    val_main_v26, val_main_v23, val_main_v22, val_main_v21, val_main_v20, val_main_v19, val_main_v18, val_main_v17, val_main_v16,
    val_main_v15, val_main_v14, val_main_v13, val_main_v10, val_main_v9, val_main_v4, val_main_v1, val_main_v0, val_main_cst, val_main_cst_0,
    val_main_cst_1, val_main_cst_2, val_main_cst_7, val_main_cst_8, val_main_cst_9]
  simp only [Finset.sum_const, Finset.card_univ, Fintype.card_fin, one_smul]

/-- The blocks a point reads of what arrives, of the gate and of the norm's scale. -/
theorem d_blk (t : Fin cfg0.N) (r : Fin 512) (l : Fin 1024) (R : Fin 2048) (h : R.val = t.val * 512 + r.val) :
    iblk m c 0 t (ix2 r l) = aD m c (ix2 R l) := by
  blk_point [iblk, V, idx t]
theorem gate_blk (t : Fin cfg0.N) (l : Fin 1024) : iblk m c 5 t (ix4 0 0 0 l) = aMod m c (ix2 2 (gateCol l)) := by
  blk_point [iblk, V, idx t]
theorem g_blk (t : Fin cfg0.N) (l : Fin 1024) : iblk m c 6 t (ix3 0 0 l) = aG m c (ix2 2 l) := by
  blk_point [iblk, V, idx t]

/-- A point's gradient of the projection. -/
abbrev dyBlk (t : Fin cfg0.N) : FVec Ideal S512x1024 .bf16 :=
  k0_pay15 (k0_pay9 (iblk m c 1 t)) (k0_pay10 (iblk m c 1 t)) (k0_pay13 (iblk m c 0 t) (iblk m c 5 t) (iblk m c 6 t))
    (k0_pay14 (iblk m c 1 t) (iblk m c 0 t) (iblk m c 5 t) (iblk m c 6 t))

/-- All arguments hold finite values. -/
structure Finite : Prop where
  d : ∀ i, IsR (aD m c i)
  a : ∀ i, IsR (aA m c i)
  p : ∀ i, IsR (aP m c i)
  w : ∀ i, IsR (aW m c i)
  mod : ∀ i, IsR (aMod m c i)
  g : ∀ i, IsR (aG m c i)

variable {m c}

theorem Finite.y (h : Finite m c) (R : Fin 2048) (k : Fin 1024) : IsR (yRow m c R k) := by
  unfold yRow
  pointwise [val_main_v12, val_main_v11, val_main_v8, val_main_v7, val_main_v5, val_main_v6]
  exact (IsR.sum _ _ fun _ => (h.a _).mul (h.w _)).add (IsR.sum _ _ fun _ => (h.p _).mul (h.w _))
theorem Finite.drow (h : Finite m c) (R : Fin 2048) (k : Fin 1024) : IsR (dRow m c R k) :=
  ((h.mod _).mul (h.d _)).mul (h.g _)

/-- The order of four factors. -/
theorem products (a d x g : EReal) : d * x * (a * g) = a * d * g * x := by ac_rfl

/-- It is the plain program's at the block's place. -/
theorem dy_point (h : Finite m c) (t : Fin cfg0.N) (r : Fin 512) (l : Fin 1024) (R : Fin 2048) (hR : R.val = t.val * 512 + r.val) :
    dyBlk m c t (ix2 r l) = val_main_v57 (F := Ideal) (aD m c) (aA m c) (aP m c) (aW m c) (aMod m c) (aG m c) (ix2 R l) := by
  rw [ref_dy, ← norm_grad (yRow m c R) (dRow m c R) (fun k => aD m c (ix2 R k) * (yRow m c R k * Ideal.rsqrt (meanSq (yRow m c R)))
    * (aMod m c (ix2 2 (gateCol k)) * aG m c (ix2 2 k))) (h.y R) (h.drow R) (fun k => products _ _ _ _)]
  have hy : ∀ k, iblk m c 1 t (ix2 r k) = yRow m c R k := fun k => y_point m c t r k (ix2 R k) hR rfl
  have hd : ∀ k, iblk m c 0 t (ix2 r k) = aD m c (ix2 R k) := fun k => d_blk m c t r k R hR
  pointwise [dyBlk, k0_pay15, k0_pay14, k0_pay13, k0_pay11, k0_pay10, k0_pay9, k0_pay8, k0_pay7]
  simp only [hy, hd, gate_blk m c t, g_blk m c t]
  rw [show aD m c (ix2 R l) * (aMod m c (ix2 2 (gateCol l)) * aG m c (ix2 2 l)) = dRow m c R l
    from (mul_left_comm _ _ _).trans (mul_assoc _ _ _).symm]

variable (m c)

/-- The weight's block is the layer's weight. -/
theorem w_blk (t : Fin cfg0.N) (i l : Fin 1024) : iblk m c 4 t (ix2 i l) = aW m c (ix3 2 i l) := by
  blk_point [iblk, V, idx t]
/-- The mixers' rows. -/
theorem a_blk (t : Fin cfg0.N) (r l : Fin 512) (R : Fin 2048) (h : R.val = t.val * 512 + r.val) :
    iblk m c 2 t (ix2 r l) = aA m c (ix2 R l) := by
  blk_point [iblk, V, idx t]
theorem p_blk (t : Fin cfg0.N) (r l : Fin 512) (R : Fin 2048) (h : R.val = t.val * 512 + r.val) :
    iblk m c 3 t (ix2 r l) = aP m c (ix2 R l) := by
  blk_point [iblk, V, idx t]

variable {m c}

/-- First result: the gradient of the convolution mixer's rows. -/
theorem final_dya (h : Finite m c) : (dats m 0 c).arrAt 7 (cfgs 0).N
    = val_main_v63 (F := Ideal) (aD m c) (aA m c) (aP m c) (aW m c) (aMod m c) (aG m c) := by
  refine (dats m 0 c).arrAt_eq_of_covers 7 _ (by decide +kernel) fun t _ y => ?_
  blk_simp
  have hy : (outsAt0 m c t.val t.isLt).1 = k0_pay17 (k0_pay9 (iblk m c 1 t)) (k0_pay10 (iblk m c 1 t))
      (k0_pay13 (iblk m c 0 t) (iblk m c 5 t) (iblk m c 6 t))
      (k0_pay14 (iblk m c 1 t) (iblk m c 0 t) (iblk m c 5 t) (iblk m c 6 t)) (iblk m c 4 t) := by
    by_cases h0 : t.val % 4 = 0
    · rw [outsAt0_A m c t h0 (by omega)]; frame_out; try rfl
    · by_cases h1 : t.val % 4 = 3
      · rw [outsAt0_C m c t h0 h1]; frame_out; try rfl
      · rw [outsAt0_B m c t h0 h1]; frame_out; try rfl
  rw [after0_7, hy]
  obtain ⟨r, l, rfl⟩ : ∃ (r : Fin 512) (l : Fin 512), y = ix2 r l := ⟨y 0, y 1, eq_ix2 y⟩
  have ht : t.val < 4 := lt_of_lt_of_eq t.isLt N_0
  have hd := fun k => dy_point h t r k ⟨t.val * 512 + r.val, by omega⟩ rfl
  rw [show ((cfg0.win 7).blk t).view.emb (ix2 r l) = ix2 (⟨t.val * 512 + r.val, by omega⟩ : Fin 2048) l from by
    refine (ix2_of ?_ ?_).symm <;> (blk_simp [idx t]; try omega)]
  pointwise [k0_pay17, k0_pay16, val_main_v63, val_main_v61, val_main_v60]
  refine Fin.sum_fin_congr fun k => ?_
  refine congrArg₂ (· * ·) (hd k) ?_
  rw [w_blk]
  pointwise [val_main_v8, val_main_v7]

/-- Second result: the gradient of the attention mixer's rows. -/
theorem final_dyp (h : Finite m c) : (dats m 0 c).arrAt 8 (cfgs 0).N
    = val_main_v64 (F := Ideal) (aD m c) (aA m c) (aP m c) (aW m c) (aMod m c) (aG m c) := by
  refine (dats m 0 c).arrAt_eq_of_covers 8 _ (by decide +kernel) fun t _ y => ?_
  blk_simp
  have hy : (outsAt0 m c t.val t.isLt).2.1 = k0_pay18 (k0_pay9 (iblk m c 1 t)) (k0_pay10 (iblk m c 1 t))
      (k0_pay13 (iblk m c 0 t) (iblk m c 5 t) (iblk m c 6 t))
      (k0_pay14 (iblk m c 1 t) (iblk m c 0 t) (iblk m c 5 t) (iblk m c 6 t)) (iblk m c 4 t) := by
    by_cases h0 : t.val % 4 = 0
    · rw [outsAt0_A m c t h0 (by omega)]; frame_out; try rfl
    · by_cases h1 : t.val % 4 = 3
      · rw [outsAt0_C m c t h0 h1]; frame_out; try rfl
      · rw [outsAt0_B m c t h0 h1]; frame_out; try rfl
  rw [after0_8, hy]
  obtain ⟨r, l, rfl⟩ : ∃ (r : Fin 512) (l : Fin 512), y = ix2 r l := ⟨y 0, y 1, eq_ix2 y⟩
  have ht : t.val < 4 := lt_of_lt_of_eq t.isLt N_0
  have hd := fun k => dy_point h t r k ⟨t.val * 512 + r.val, by omega⟩ rfl
  rw [show ((cfg0.win 8).blk t).view.emb (ix2 r l) = ix2 (⟨t.val * 512 + r.val, by omega⟩ : Fin 2048) l from by
    refine (ix2_of ?_ ?_).symm <;> (blk_simp [idx t]; try omega)]
  pointwise [k0_pay18, k0_pay16, val_main_v64, val_main_v62, val_main_v60]
  refine Fin.sum_fin_congr fun k => ?_
  refine congrArg₂ (· * ·) (hd k) ?_
  rw [w_blk]
  pointwise [val_main_v8, val_main_v7]

/-- What a point adds to the weight's gradient. -/
abbrev wTerm (m : (ℓ : Loc nD τ Cert.OutIdeal.sig) → Buf (Elt Ideal) ℓ) (c : Dev nD) (t : Fin cfg0.N) (i l : Fin 1024) : EReal :=
  ∑ q : Fin 512, val_main_v11 (F := Ideal) (aA m c) (aP m c) (ix2 (⟨t.val * 512 + q.val, by have := lt_of_lt_of_eq t.isLt N_0; omega⟩ : Fin 2048) i)
    * dyBlk m c t (ix2 q l)

/-- The weight's running gradient after a point: what a point adds, over what the point before left. -/
theorem pay19_at (x9 : FVec Ideal S512x1 .f32) (x10 x13 : FVec Ideal S512x1024 .f32) (x14 : FVec Ideal S512 .f32)
    (acc : Vec Ideal S512x1024 .f32) (ya : Vec Ideal S512x512 .bf16) (i : Fin 512) (l : Fin 1024) :
    k0_pay19 x9 x10 x13 x14 acc ya (ix2 i l) = acc (ix2 i l) + ∑ q : Fin 512, ya (ix2 q i) * k0_pay15 x9 x10 x13 x14 (ix2 q l) := by
  generalize hd : k0_pay15 x9 x10 x13 x14 = d
  pointwise [k0_pay19, hd]
theorem pay20_at (x9 : FVec Ideal S512x1 .f32) (x10 x13 : FVec Ideal S512x1024 .f32) (x14 : FVec Ideal S512 .f32)
    (acc : Vec Ideal S512x1024 .f32) (ya : Vec Ideal S512x512 .bf16) (i : Fin 512) (l : Fin 1024) :
    k0_pay20 x9 x10 x13 x14 acc ya (ix2 i l) = acc (ix2 i l) + ∑ q : Fin 512, ya (ix2 q i) * k0_pay15 x9 x10 x13 x14 (ix2 q l) := by
  generalize hd : k0_pay15 x9 x10 x13 x14 = d
  pointwise [k0_pay20, hd]

/-- What two stores of half the rows leave at an index. -/
theorem halves (P Q : S512x1024.Idx → EReal) (L : List (View.Piece (Elt Ideal) S1024x1024 .f32))
    (b : ∀ a, (![512, 0] : Fin 2 → ℕ) a + (![512, 1024] : Fin 2 → ℕ) a ≤ S1024x1024.size a)
    (b' : ∀ a, (![0, 0] : Fin 2 → ℕ) a + (![512, 1024] : Fin 2 → ℕ) a ≤ S1024x1024.size a) (i l : Fin 1024) :
    View.canon (Val := Elt Ideal) ((⟨Rect.unit (s := S1024x1024) ![512, 0] ![512, 1024] b, P⟩ : View.Piece (Elt Ideal) S1024x1024 .f32)
        :: (⟨Rect.unit (s := S1024x1024) ![0, 0] ![512, 1024] b', Q⟩ : View.Piece (Elt Ideal) S1024x1024 .f32) :: L) (ix2 i l)
      = if h : i.val < 512 then Q (ix2 ⟨i.val, h⟩ l) else P (ix2 ⟨i.val - 512, by omega⟩ l) := by
  split
  · rename_i h
    rw [View.canon_cons_of_not_mem _ _ (by
      rw [Rect.mem_set_unit]; intro hc; have := (hc 0).1; change 512 ≤ i.val at this; omega)]
    have e : (ix2 i l : S1024x1024.Idx) = (Rect.unit (s := S1024x1024) ![0, 0] ![512, 1024] b').emb (ix2 (⟨i.val, h⟩ : Fin 512) l) := by
      funext a
      fin_cases a <;> exact Fin.ext (by simp [ix2])
    rw [e]
    exact View.canon_cons_emb _ _ _ _
  · rename_i h
    have e : (ix2 i l : S1024x1024.Idx)
        = (Rect.unit (s := S1024x1024) ![512, 0] ![512, 1024] b).emb (ix2 (⟨i.val - 512, by omega⟩ : Fin 512) l) := by
      funext a
      fin_cases a
      · exact Fin.ext (by simp [ix2]; omega)
      · exact Fin.ext (by simp [ix2])
    rw [e]
    exact View.canon_cons_emb _ _ _ _

/-- A point's block of the mixers' rows. -/
abbrev aBlk (m : (ℓ : Loc nD τ Cert.OutIdeal.sig) → Buf (Elt Ideal) ℓ) (c : Dev nD) (t : Fin cfg0.N) : S512x512.Idx → EReal := iblk m c 2 t
abbrev pBlk (m : (ℓ : Loc nD τ Cert.OutIdeal.sig) → Buf (Elt Ideal) ℓ) (c : Dev nD) (t : Fin cfg0.N) : S512x512.Idx → EReal := iblk m c 3 t

/-- A half's terms. -/
theorem term_a (t : Fin cfg0.N) (i l : Fin 1024) (hi : i.val < 512) :
    ∑ q : Fin 512, aBlk m c t (ix2 q ⟨i.val, hi⟩) * dyBlk m c t (ix2 q l) = wTerm m c t i l := by
  refine Fin.sum_fin_congr fun q => congrArg (· * _) ?_
  rw [aBlk, a_blk m c t q ⟨i.val, hi⟩ ⟨t.val * 512 + q.val, by have := lt_of_lt_of_eq t.isLt N_0; omega⟩ rfl]
  pointwise [val_main_v11, val_main_v5, val_main_v6]
  simp (disch := omega) only [dif_pos]
theorem term_p (t : Fin cfg0.N) (i l : Fin 1024) (hi : ¬ i.val < 512) :
    ∑ q : Fin 512, pBlk m c t (ix2 q ⟨i.val - 512, by omega⟩) * dyBlk m c t (ix2 q l) = wTerm m c t i l := by
  refine Fin.sum_fin_congr fun q => congrArg (· * _) ?_
  rw [pBlk, p_blk m c t q ⟨i.val - 512, by omega⟩ ⟨t.val * 512 + q.val, by have := lt_of_lt_of_eq t.isLt N_0; omega⟩ rfl]
  pointwise [val_main_v11, val_main_v5, val_main_v6]
  simp (disch := omega) only [dif_neg]

/-- The running gradient starts at zero. -/
theorem pay5_at (j) : k0_pay5 (F := Ideal) j = 0 := by pointwise [k0_pay5]
theorem pay6_at (j) : k0_pay6 (F := Ideal) j = 0 := by pointwise [k0_pay6]

/-- The lower half's first running sum is zero, whatever stands in the upper half. -/
theorem lower_zero {κ : Kind} {sp : Space} (v : View Cert.OutIdeal.sig κ sp S1024x1024 .f32) (P : S512x1024.Idx → EReal)
    (b : ∀ a, (![512, 0] : Fin 2 → ℕ) a + (![512, 1024] : Fin 2 → ℕ) a ≤ S1024x1024.size a)
    (b' : ∀ a, (![0, 0] : Fin 2 → ℕ) a + (![512, 1024] : Fin 2 → ℕ) a ≤ S1024x1024.size a)
    (b'' : ∀ a, (![0, 0] : Fin 2 → ℕ) a + S1024x1024.size a ≤ S1024x1024.size a) (j : S512x1024.Idx) :
    v.readCov (Val := Elt Ideal) [⟨Rect.unit (s := S1024x1024) ![0, 0] ![512, 1024] b', P⟩,
      ⟨Rect.unit (s := S1024x1024) ![0, 0] S1024x1024.size b'', k0_pay5 (F := Ideal)⟩] (Rect.unit (s := S1024x1024) ![512, 0] ![512, 1024] b).toLoadRect j = 0 := by
  rw [View.readCov_skip _ _ _ _ _ rfl, View.readCov_fill _ b'' _ _ _ (by decide)]
  exact pay5_at _
/-- A half of the rows, read. -/
theorem ld_upper (X : S1024x1024.Idx → EReal) (i l : Fin 1024) (hi : i.val < 512)
    (b : ∀ a, (![0, 0] : Fin 2 → ℕ) a + (![512, 1024] : Fin 2 → ℕ) a ≤ S1024x1024.size a) :
    View.ld (Val := Elt Ideal) (e' := .f32) X (Rect.unit (s := S1024x1024) ![0, 0] ![512, 1024] b) (ix2 (⟨i.val, hi⟩ : Fin 512) l) = X (ix2 i l) :=
  congrArg X (ix2_of (by simp [ix2]) (by simp [ix2])).symm
theorem ld_lower (X : S1024x1024.Idx → EReal) (i l : Fin 1024) (hi : ¬ i.val < 512)
    (b : ∀ a, (![512, 0] : Fin 2 → ℕ) a + (![512, 1024] : Fin 2 → ℕ) a ≤ S1024x1024.size a) :
    View.ld (Val := Elt Ideal) (e' := .f32) X (Rect.unit (s := S1024x1024) ![512, 0] ![512, 1024] b) (ix2 (⟨i.val - 512, by omega⟩ : Fin 512) l)
      = X (ix2 i l) :=
  congrArg X (ix2_of (by simp [ix2]; omega) (by simp [ix2])).symm

/-- The first point's running gradient is its own terms. -/
theorem first_w (t : Fin cfg0.N) (h : t.val % 4 = 0) (i l : Fin 1024) :
   (outsAt0 m c t.val t.isLt).2.2.2.2.2.1 (ix2 i l) = 0 + wTerm m c t i l := by
  rw [outsAt0_A m c t h (by omega)]; frame_out
  refine (halves _ _ _ _ _ _ _).trans ?_
  split
  · rename_i hi
    refine (pay19_at _ _ _ _ _ _ _ _).trans (congrArg₂ (· + ·) ?_ (term_a t i l hi))
    exact (congrFun (View.readCov_fill _ _ _ _ _ (by decide)) _).trans (pay5_at _)
  · rename_i hi
    exact (pay20_at _ _ _ _ _ _ _ _).trans (congrArg₂ (· + ·) (lower_zero _ _ _ _ _ _) (term_p t i l hi))

/-- A later point adds its terms. -/
theorem next_w (t : Fin cfg0.N) (h : ¬ t.val % 4 = 0) (i l : Fin 1024) :
   (outsAt0 m c t.val t.isLt).2.2.2.2.2.1 (ix2 i l)
     = (outsAt0 m c (t.val - 1) (by omega)).2.2.2.2.2.1 (ix2 i l) + wTerm m c t i l := by
  by_cases h' : t.val % 4 = 3
  · rw [outsAt0_C m c t h h']; frame_out
    refine (halves _ _ _ _ _ _ _).trans ?_
    split
    · rename_i hi
      refine (pay19_at _ _ _ _ _ _ _ _).trans (congrArg₂ (· + ·) ?_ (term_a t i l hi))
      rw [read_unread_whole]
      exact ld_upper _ i l hi _
    · rename_i hi
      refine (pay20_at _ _ _ _ _ _ _ _).trans (congrArg₂ (· + ·) ?_ (term_p t i l hi))
      rw [read_unread_whole]
      exact ld_lower _ i l hi _
  · rw [outsAt0_B m c t h h']; frame_out
    refine (halves _ _ _ _ _ _ _).trans ?_
    split
    · rename_i hi
      refine (pay19_at _ _ _ _ _ _ _ _).trans (congrArg₂ (· + ·) ?_ (term_a t i l hi))
      rw [read_unread_whole]
      exact ld_upper _ i l hi _
    · rename_i hi
      refine (pay20_at _ _ _ _ _ _ _ _).trans (congrArg₂ (· + ·) ?_ (term_p t i l hi))
      rw [read_unread_whole]
      exact ld_lower _ i l hi _

/-- The weight's running gradient after the last point: all points' terms. -/
theorem last_w (i l : Fin 1024) : (outsAt0 m c t0_3.val t0_3.isLt).2.2.2.2.2.1 (ix2 i l) = ∑ p : Fin cfg0.N, wTerm m c p i l := by
  rw [Pipeline.eq_sum_fin_of_reset_step_apply_last (fun n h => (outsAt0 m c n h).2.2.2.2.2.1) 4 (fun _ => 0)
    (fun p j => wTerm m c p (j 0) (j 1))
    (fun t h j => by
      obtain ⟨i, l, rfl⟩ : ∃ (i l : Fin 1024), j = ix2 i l := ⟨j 0, j 1, eq_ix2 j⟩
      exact first_w t h i l)
    (fun t h j => by
      obtain ⟨i, l, rfl⟩ : ∃ (i l : Fin 1024), j = ix2 i l := ⟨j 0, j 1, eq_ix2 j⟩
      exact next_w t h i l)
    (le_of_eq N_0) t0_3 rfl (ix2 i l), zero_add]
  rfl

/-- The points' rows are all rows. -/
theorem sum_rows (f : Fin 2048 → EReal) :
    ∑ p : Fin cfg0.N, ∑ q : Fin 512, f ⟨p.val * 512 + q.val, by have := lt_of_lt_of_eq p.isLt N_0; omega⟩ = ∑ R, f R := by
  rw [← Fin.sum_mul_add_fin (M := EReal) 4 512 f]
  exact Fintype.sum_equiv (finCongr N_0) _ _ fun p => rfl

/-- Third result: the weight's gradient. -/
theorem final_dwo (h : Finite m c) : (dats m 0 c).arrAt 9 (cfgs 0).N
    = val_main_v65 (F := Ideal) (aD m c) (aA m c) (aP m c) (aW m c) (aMod m c) (aG m c) := by
  refine (dats m 0 c).arrAt_eq_of_after_last 9 t0_3 (by decide +kernel) _ fun j => ?_
  blk_simp
  have hl : (outsAt0 m c t0_3.val t0_3.isLt).2.2.1 = k0_pay1 (outsAt0 m c t0_3.val t0_3.isLt).2.2.2.2.2.1 := by
    rw [outsAt0_C m c t0_3 (by decide) (by decide)]; frame_out
    exact congrArg k0_pay1 ((View.readCov_eq_canon' _ _ _).trans (View.ld_unit_lit _ _ (by decide)))
  rw [after0_9, hl]
  obtain ⟨i, l, rfl⟩ : ∃ (i l : Fin 1024), j = ix2 i l := ⟨j 0, j 1, eq_ix2 j⟩
  pointwise [k0_pay1, val_main_v65, val_main_v59, val_main_v58]
  rw [last_w]
  refine Eq.trans ?_ (sum_rows _)
  refine Fin.sum_fin_congr fun p => Fin.sum_fin_congr fun q => ?_
  rw [dy_point h p q l ⟨p.val * 512 + q.val, by have := lt_of_lt_of_eq p.isLt N_0; omega⟩ rfl]
  exact mul_comm (G := EReal) _ _

/-- What the gate's and the norm's scale's gradients share: a row's part of their column sums. -/
abbrev pTerm (m : (ℓ : Loc nD τ Cert.OutIdeal.sig) → Buf (Elt Ideal) ℓ) (c : Dev nD) (R : Fin 2048) (l : Fin 1024) : EReal :=
  aD m c (ix2 R l) * (yRow m c R l * Ideal.rsqrt (meanSq (yRow m c R)))
abbrev pBlock (m : (ℓ : Loc nD τ Cert.OutIdeal.sig) → Buf (Elt Ideal) ℓ) (c : Dev nD) (t : Fin cfg0.N) : S512x1024.Idx → EReal :=
  k0_pay11 (iblk m c 1 t) (iblk m c 0 t)
theorem p_point (t : Fin cfg0.N) (r : Fin 512) (l : Fin 1024) (R : Fin 2048) (hR : R.val = t.val * 512 + r.val) :
    pBlock m c t (ix2 r l) = pTerm m c R l := by
  have hy : ∀ k, iblk m c 1 t (ix2 r k) = yRow m c R k := fun k => y_point m c t r k (ix2 R k) hR rfl
  have hd : ∀ k, iblk m c 0 t (ix2 r k) = aD m c (ix2 R k) := fun k => d_blk m c t r k R hR
  pointwise [pBlock, k0_pay11, k0_pay10, k0_pay9, k0_pay8, k0_pay7]
  simp only [hy, hd]

/-- What a point adds to the eight partial sums of a column. -/
theorem pay12_at (y : Vec Ideal S512x1024 .bf16) (d : Vec Ideal S512x1024 .f32) (acc : Vec Ideal S8x1024 .f32) (a : Fin 8) (l : Fin 1024) :
    k0_pay12 y d acc (ix2 a l) = acc (ix2 a l) + ∑ k : Fin 64, k0_pay11 y d (ix2 ⟨k.val * 8 + a.val, by omega⟩ l) := by
  generalize hp : k0_pay11 y d = p
  pointwise [k0_pay12, hp]

/-- The partial sums after the last point. -/
theorem last_p (a : Fin 8) (l : Fin 1024) : (outsAt0 m c t0_3.val t0_3.isLt).2.2.2.2.2.2 (ix2 a l)
    = ∑ p : Fin cfg0.N, ∑ k : Fin 64, pBlock m c p (ix2 ⟨k.val * 8 + a.val, by omega⟩ l) := by
  rw [Pipeline.eq_sum_fin_of_reset_step_apply_last (fun n h => (outsAt0 m c n h).2.2.2.2.2.2) 4 (fun _ => 0)
    (fun p j => ∑ k : Fin 64, pBlock m c p (ix2 ⟨k.val * 8 + (j 0).val, by have := (j 0).isLt; change _ < 8 at this; omega⟩ (j 1)))
    (fun t h j => by
      rw [outsAt0_A m c t h (by omega)]; frame_out
      obtain ⟨a, l, rfl⟩ : ∃ (a : Fin 8) (l : Fin 1024), j = ix2 a l := ⟨j 0, j 1, eq_ix2 j⟩
      rw [pay12_at, pay6_at]; rfl)
    (fun t h j => by
      obtain ⟨a, l, rfl⟩ : ∃ (a : Fin 8) (l : Fin 1024), j = ix2 a l := ⟨j 0, j 1, eq_ix2 j⟩
      by_cases h1 : t.val % 4 = 3
      · rw [outsAt0_C m c t h h1]; frame_out; rw [pay12_at]; exact congrArg (· + _) (congrFun ((Memref.isWhole_whole _).read_unread _) _)
      · rw [outsAt0_B m c t h h1]; frame_out; rw [pay12_at]; exact congrArg (· + _) (congrFun ((Memref.isWhole_whole _).read_unread _) _))
    (le_of_eq N_0) t0_3 rfl (ix2 a l), zero_add]
  rfl

/-- The partial sums of a column added up are the sum over all rows. -/
theorem total_p (l : Fin 1024) : ∑ a : Fin 8, (outsAt0 m c t0_3.val t0_3.isLt).2.2.2.2.2.2 (ix2 a l) = ∑ R, pTerm m c R l := by
  refine Eq.trans ?_ (sum_rows _)
  simp only [last_p]
  refine Finset.sum_comm.trans ?_
  refine Fin.sum_fin_congr fun p => ?_
  refine Finset.sum_comm.trans ?_
  rw [← Fin.sum_mul_add_fin (M := EReal) 64 8 (fun q : Fin 512 => pTerm m c ⟨p.val * 512 + q.val, by have := lt_of_lt_of_eq p.isLt N_0; omega⟩ l)]
  refine Fin.sum_fin_congr fun k => Fin.sum_fin_congr fun a => ?_
  exact p_point p _ l _ rfl

theorem isR_p (h : Finite m c) (R : Fin 2048) (l : Fin 1024) : IsR (pTerm m c R l) :=
  (h.d _).mul ((h.y R l).mul (isR_rms _ (h.y R)))

/-- The orders in which a row's part is multiplied. -/
theorem dgate_term (g d y r : EReal) : g * (d * (y * r)) = d * (y * r * g) := by ac_rfl
theorem dg_term (g d y r : EReal) : g * (d * (y * r)) = y * r * (g * d) := by ac_rfl

/-- Fourth result: the gate's gradient. -/
theorem final_dgate (h : Finite m c) : (dats m 0 c).arrAt 10 (cfgs 0).N
    = val_main_v66 (F := Ideal) (aD m c) (aA m c) (aP m c) (aW m c) (aG m c) := by
  refine (dats m 0 c).arrAt_eq_of_after_last 10 t0_3 (by decide +kernel) _ fun j => ?_
  blk_simp
  have hl : (outsAt0 m c t0_3.val t0_3.isLt).2.2.2.1 = k0_pay3 (outsAt0 m c t0_3.val t0_3.isLt).2.2.2.2.2.2 (iblk m c 6 t0_3) := by
    rw [outsAt0_C m c t0_3 (by decide) (by decide)]; frame_out
  rw [after0_10, hl]
  obtain ⟨i, l, rfl⟩ : ∃ (i : Fin 1) (l : Fin 1024), j = ix2 i l := ⟨j 0, j 1, eq_ix2 j⟩
  pointwise [k0_pay3, k0_pay2]
  rw [total_p, g_blk, mul_sum_isR _ _ (h.g _) fun R => isR_p h R l]
  pointwise [val_main_v66, val_main_v37, val_main_v36, val_main_v35, val_main_v34, val_main_v28, val_main_v27, val_main_v26,
    val_main_v25, val_main_v24, val_main_v23, val_main_v22, val_main_v21, val_main_v20, val_main_v19, val_main_v18, val_main_v17, val_main_v16,
    val_main_v15, val_main_v14, val_main_v13, val_main_v10, val_main_v9, val_main_cst, val_main_cst_0, val_main_cst_1, val_main_cst_2,
    val_main_cst_3, val_main_cst_4]
  simp only [Finset.sum_const, Finset.card_univ, Fintype.card_fin, one_smul]
  exact Fin.sum_fin_congr fun R => dgate_term _ _ _ _

/-- Fifth result: the gradient of the norm's scale. -/
theorem final_dg (h : Finite m c) : (dats m 0 c).arrAt 11 (cfgs 0).N
    = val_main_v67 (F := Ideal) (aD m c) (aA m c) (aP m c) (aW m c) (aMod m c) := by
  refine (dats m 0 c).arrAt_eq_of_after_last 11 t0_3 (by decide +kernel) _ fun j => ?_
  blk_simp
  have hl : (outsAt0 m c t0_3.val t0_3.isLt).2.2.2.2.1 = k0_pay4 (outsAt0 m c t0_3.val t0_3.isLt).2.2.2.2.2.2 (iblk m c 5 t0_3) := by
    rw [outsAt0_C m c t0_3 (by decide) (by decide)]; frame_out
  rw [after0_11, hl]
  obtain ⟨i, l, rfl⟩ : ∃ (i : Fin 1) (l : Fin 1024), j = ix2 i l := ⟨j 0, j 1, eq_ix2 j⟩
  pointwise [k0_pay4, k0_pay2]
  rw [total_p, gate_blk, mul_sum_isR _ _ (h.mod _) fun R => isR_p h R l]
  pointwise [val_main_v67, val_main_v43, val_main_v40, val_main_v39, val_main_v38, val_main_v33, val_main_v32, val_main_v29,
    val_main_v25, val_main_v24, val_main_v23, val_main_v22, val_main_v21, val_main_v20, val_main_v19, val_main_v18, val_main_v17, val_main_v16,
    val_main_v15, val_main_v14, val_main_v13, val_main_v4, val_main_v1, val_main_v0, val_main_cst, val_main_cst_0, val_main_cst_1, val_main_cst_2,
    val_main_cst_5, val_main_cst_6]
  simp only [Finset.sum_const, Finset.card_univ, Fintype.card_fin, one_smul]
  exact Fin.sum_fin_congr fun R => dg_term _ _ _ _

end Cert.Proof.Out

end
-- ==== Proof.Out.Claims.lean ====
/- The claims about the output projection's gradients: the frames, and the five results equal to the plain program's. -/
module

public import proofs.«01_k».proof.Defs
public import proofs.«01_k».proof.Proof.Finite
public import proofs.«01_k».proof.Proof.Out.Value
public import proofs.«01_k».proof.Proof.Gen.Out.Frame
public import proofs.«01_k».proof.Proof.Gen.OutRefIdeal.Run
public import Idealize.ShloMosaic.Lib.Claim

@[expose] public section

set_option maxRecDepth 16384

noncomputable section

namespace Cert.Proof.Out

open Idealize.ShloMosaic Idealize.ShloMosaic.TcCoe Idealize.SL.Sem

theorem frame_kernel : Cert.quiescent_Out := fun m ρ _ => Cert.Out.Gen.frame m ρ

theorem frame_ideal : Cert.quiescent_OutIdeal := fun m ρ _ => Cert.OutIdeal.Gen.frame m ρ

theorem frame_reference : Cert.quiescent_OutRefIdeal := fun m g _ =>
  (θ_run Cert.OutRefIdeal.defs _ _).mono
    (fun r h => ⟨fun c => (h c).2.2.2.2.2, sem_eq_zero_of_no_sems (by decide) r.2⟩) (Cert.OutRefIdeal.Value.run m g)

theorem facts_pre : Cert.Pre_out_pre.Facts := by
  constructor <;> decide

/-- The precondition makes every argument's elements real numbers. -/
theorem finite [Cert.Pre_out_pre.Facts] (x0 : FVec Ideal Cert.Pre_out_pre.S2048x1024 .f32) (x1 x2 : FVec Ideal Cert.Pre_out_pre.S2048x512 .bf16)
    (x3 : FVec Ideal Cert.Pre_out_pre.S4x1024x1024 .f32) (x4 : FVec Ideal Cert.Pre_out_pre.S4x3072 .f32)
    (x5 : FVec Ideal Cert.Pre_out_pre.S4x1024 .f32) (h : Cert.Pre_out_pre.fn (F := Ideal) x0 x1 x2 x3 x4 x5 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) := by
  have h := congrFun h (fun k => k.elim0)
  dsimp only [Cert.Pre_out_pre.fn, Cert.Pre_out_pre.fn_part1] at h
  obtain ⟨h, e5⟩ := both h
  obtain ⟨h, e4⟩ := both h
  obtain ⟨h, e3⟩ := both h
  obtain ⟨h, e2⟩ := both h
  obtain ⟨e0, e1⟩ := both h
  exact ⟨isR_of_all x0 _ _ _ _ _ e0, isR_of_all x1 _ _ _ _ _ e1, isR_of_all x2 _ _ _ _ _ e2, isR_of_all x3 _ _ _ _ _ e3,
    isR_of_all x4 _ _ _ _ _ e4, isR_of_all x5 _ _ _ _ _ e5⟩

theorem frame_ideal_pre [Cert.Pre_out_pre.Facts] : Cert.quiescent_OutIdeal_pre_out_pre := fun m ρ _ => Cert.OutIdeal.Gen.frame m ρ

theorem frame_reference_pre [Cert.Pre_out_pre.Facts] : Cert.quiescent_OutRefIdeal_pre_out_pre := fun m g _ => frame_reference m g trivial

set_option maxHeartbeats 1000000 in
/-- What the kernel's run leaves: the five arrays and the arguments. -/
theorem run_arrays (m : (ℓ : Loc Cert.OutIdeal.nD Cert.OutIdeal.τ Cert.OutIdeal.sig) → Buf (Elt Ideal) ℓ) (g : Dev Cert.OutIdeal.nD → PrngReg) :
    θ_run Cert.OutIdeal.defs (onTc (τ := Cert.OutIdeal.τ) (Cert.OutIdeal.main (F := Ideal))) ⟨m, fun _ => 0, g⟩ (fun r => ∀ c : Dev Cert.OutIdeal.nD,
      r.2.mem ((c.tc : Thread Cert.OutIdeal.nD Cert.OutIdeal.τ).loc Cert.OutIdeal.main_v16_0) = (Cert.OutIdeal.Gen.dats m 0 c).arrAt 7 (Cert.OutIdeal.cfgs 0).N
      ∧ r.2.mem ((c.tc : Thread Cert.OutIdeal.nD Cert.OutIdeal.τ).loc Cert.OutIdeal.main_v16_1) = (Cert.OutIdeal.Gen.dats m 0 c).arrAt 8 (Cert.OutIdeal.cfgs 0).N
      ∧ r.2.mem ((c.tc : Thread Cert.OutIdeal.nD Cert.OutIdeal.τ).loc Cert.OutIdeal.main_v16_2) = (Cert.OutIdeal.Gen.dats m 0 c).arrAt 9 (Cert.OutIdeal.cfgs 0).N
      ∧ r.2.mem ((c.tc : Thread Cert.OutIdeal.nD Cert.OutIdeal.τ).loc Cert.OutIdeal.main_v16_3) = (Cert.OutIdeal.Gen.dats m 0 c).arrAt 10 (Cert.OutIdeal.cfgs 0).N
      ∧ r.2.mem ((c.tc : Thread Cert.OutIdeal.nD Cert.OutIdeal.τ).loc Cert.OutIdeal.main_v16_4) = (Cert.OutIdeal.Gen.dats m 0 c).arrAt 11 (Cert.OutIdeal.cfgs 0).N
      ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)) :=
  (θ_run _ _ _).mono (fun r h c => ⟨(h.1 c).1 7, (h.1 c).1 8, (h.1 c).1 9, (h.1 c).1 10, (h.1 c).1 11, h.2.1 c⟩)
    (θ_run_and (Cert.OutIdeal.Gen.run_main m g) (Cert.OutIdeal.Gen.frame m g))

set_option maxHeartbeats 1000000 in
theorem algebraic [Cert.Pre_out_pre.Facts] : Cert.algebraic_OutIdeal_OutRefIdeal_pre_out_pre := by
  intro m g m' g' hpre hagree
  refine ⟨_, _, _, _, _, run_arrays m g, ?_⟩
  refine (θ_run _ _ _).mono (fun r h c => ?_) (Cert.OutRefIdeal.Value.run m' g')
  obtain ⟨h0, h1, h2, h3, h4, h5⟩ := hagree c
  obtain ⟨f0, f1, f2, f3, f4, f5⟩ := finite _ _ _ _ _ _ (hpre c)
  have f : Finite m c := ⟨f0, f1, f2, f3, f4, f5⟩
  obtain ⟨e0, e1, e2, e3, e4, ha⟩ := h c
  refine ⟨?_, ?_, ?_, ?_, ?_, ha⟩
  · refine e0.trans ((Cert.OutRefIdeal.Read.val_main_v63_eq m' c).trans (Eq.trans ?_ (final_dya f).symm))
    exact same_args_6 h0 h1 h2 h3 h4 h5
  · refine e1.trans ((Cert.OutRefIdeal.Read.val_main_v64_eq m' c).trans (Eq.trans ?_ (final_dyp f).symm))
    exact same_args_6 h0 h1 h2 h3 h4 h5
  · refine e2.trans ((Cert.OutRefIdeal.Read.val_main_v65_eq m' c).trans (Eq.trans ?_ (final_dwo f).symm))
    exact same_args_6 h0 h1 h2 h3 h4 h5
  · refine e3.trans ((Cert.OutRefIdeal.Read.val_main_v66_eq _ _ _ _ _).trans (Eq.trans ?_ (final_dgate f).symm))
    exact same_args_5 h0 h1 h2 h3 h5
  · refine e4.trans ((Cert.OutRefIdeal.Read.val_main_v67_eq _ _ _ _ _).trans (Eq.trans ?_ (final_dg f).symm))
    exact same_args_5 h0 h1 h2 h3 h4

end Cert.Proof.Out

end
-- ==== Proof.In.Value.lean ====
/- What a middle layer's input projection leaves in its gradient's five result arrays, each equal to the plain
   program's array where the arguments it multiplies are finite. -/
module

public import proofs.«01_k».proof.Proof.Gen.InIdeal.Value
public import proofs.«01_k».proof.Proof.Gen.InRefIdeal.Read
public import proofs.«01_k».proof.Proof.Norm
public import proofs.«01_k».proof.Proof.Index
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.In

open Cert.InIdeal Cert.InIdeal.Gen Idealize.ShloMosaic Idealize.ShloMosaic.TcCoe Idealize.SL.Sem
open Cert.InRefIdeal.Read

variable (m : (ℓ : Loc nD τ Cert.InIdeal.sig) → Buf (Elt Ideal) ℓ)

/-- Every window's block index at every point: the point is the row block. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![0, 0] ∧ win0_7.index t = ![t.val, 0] ∧ win0_8.index t = ![t.val, 0]
    ∧ win0_9.index t = ![2, 0, 0, 0] ∧ win0_10.index t = ![2, 1, 0, 0] ∧ win0_11.index t = ![2, 0, 0]
    ∧ win0_12.index t = ![t.val, 0] ∧ win0_13.index t = ![0, 0, 0]
    ∧ win0_14.index t = ![0, 0] ∧ win0_15.index t = ![0, 0] ∧ win0_16.index t = ![0, 0] :=
  (by decide +kernel : ∀ t : Fin grid0.N, _)

/-- The arguments' names, shortened: the projection's six arriving parts, the layer's input, what arrives past the
layer, the modulation, the norm's scale and the weight. -/
abbrev aD0 (c : Dev nD) : S2048x512.Idx → EReal := m ((c : Thread nD τ).loc main_arg0)
abbrev aD1 (c : Dev nD) : S2048x512.Idx → EReal := m ((c : Thread nD τ).loc main_arg1)
abbrev aD2 (c : Dev nD) : S2048x512.Idx → EReal := m ((c : Thread nD τ).loc main_arg2)
abbrev aD3 (c : Dev nD) : S2048x512.Idx → EReal := m ((c : Thread nD τ).loc main_arg3)
abbrev aD4 (c : Dev nD) : S2048x512.Idx → EReal := m ((c : Thread nD τ).loc main_arg4)
abbrev aD5 (c : Dev nD) : S2048x512.Idx → EReal := m ((c : Thread nD τ).loc main_arg5)
abbrev aX (c : Dev nD) : S2048x1024.Idx → EReal := m ((c : Thread nD τ).loc main_arg6)
abbrev aO (c : Dev nD) : S2048x1024.Idx → EReal := m ((c : Thread nD τ).loc main_arg7)
abbrev aMod (c : Dev nD) : S4x3072.Idx → EReal := m ((c : Thread nD τ).loc main_arg8)
abbrev aG (c : Dev nD) : S4x1024.Idx → EReal := m ((c : Thread nD τ).loc main_arg9)
abbrev aW (c : Dev nD) : S4x1024x3072.Idx → EReal := m ((c : Thread nD τ).loc main_arg10)

variable (c : Dev nD)

/-- The shift's and the scale's columns of the modulation, and the norm's factor. -/
abbrev shiftCol (k : Fin 1024) : Fin 3072 := ⟨k.val, by omega⟩
abbrev scaleCol (k : Fin 1024) : Fin 3072 := ⟨1024 + k.val, by omega⟩
abbrev onePlus (l : Fin 1024) : EReal := 1 + aMod m c (ix2 2 (scaleCol l))

/-- The six arriving parts side by side, as the plain program joins them. -/
abbrev cat : Cert.InRefIdeal.S2048x3072.Idx → EReal :=
  val_main_v6 (F := Ideal) (aD0 m c) (aD1 m c) (aD2 m c) (aD3 m c) (aD4 m c) (aD5 m c)
/-- What arrives at the projection's input. -/
abbrev dh : S2048x1024.Idx → EReal :=
  val_main_v38 (F := Ideal) (aD0 m c) (aD1 m c) (aD2 m c) (aD3 m c) (aD4 m c) (aD5 m c) (aW m c)
/-- The projection's input. -/
abbrev hid : S2048x1024.Idx → EReal := val_main_v34 (F := Ideal) (aX m c) (aMod m c) (aG m c)

/-- The parts by number. -/
abbrev part : Fin 6 → S2048x512.Idx → EReal := ![aD0 m c, aD1 m c, aD2 m c, aD3 m c, aD4 m c, aD5 m c]
theorem cat_at (R : Fin 2048) (i : Fin 6) (k : Fin 512) (b : i.val * 512 + k.val < 3072) :
    cat m c (ix2 R ⟨i.val * 512 + k.val, b⟩) = part m c i (ix2 R k) := by
  have same : ∀ (A : S2048x512.Idx → EReal) (q : Fin 512), q.val = k.val → A (ix2 R q) = A (ix2 R k) := fun A q hq => by rw [Fin.ext hq]
  pointwise [cat, val_main_v6, val_main_v5]
  fin_cases i <;> simp (disch := omega) only [dif_pos, dif_neg]
  all_goals exact same _ _ (by dsimp only; omega)

/-- The product with the weight, part by part. -/
theorem dh_at (R : Fin 2048) (l : Fin 1024) :
    dh m c (ix2 R l) = ∑ i : Fin 6, ∑ k : Fin 512, part m c i (ix2 R k) * aW m c (ix3 2 l ⟨i.val * 512 + k.val, by omega⟩) := by
  have e : dh m c (ix2 R l) = ∑ k : Fin 3072, cat m c (ix2 R k) * aW m c (ix3 2 l k) := by
    pointwise [dh, val_main_v38, val_main_v10, val_main_v9]
  rw [e, ← Fin.sum_mul_add_fin (M := EReal) 6 512 (fun k => cat m c (ix2 R k) * aW m c (ix3 2 l k))]
  exact Fin.sum_fin_congr fun i => Fin.sum_fin_congr fun k => congrArg (· * _) (cat_at m c R i k _)

/-- The blocks a point reads. -/
theorem w_blk (t : Fin cfg0.N) (l : Fin 1024) (k : Fin 3072) : iblk m c 6 t (ix2 l k) = aW m c (ix3 2 l k) := by
  blk_point [iblk, V, idx t]
theorem d0_blk (t : Fin cfg0.N) (r : Fin 256) (l : Fin 512) (R : Fin 2048) (h : R.val = t.val * 256 + r.val) :
    iblk m c 0 t (ix2 r l) = aD0 m c (ix2 R l) := by
  blk_point [iblk, V, idx t]
theorem d1_blk (t : Fin cfg0.N) (r : Fin 256) (l : Fin 512) (R : Fin 2048) (h : R.val = t.val * 256 + r.val) :
    iblk m c 1 t (ix2 r l) = aD1 m c (ix2 R l) := by
  blk_point [iblk, V, idx t]
theorem d2_blk (t : Fin cfg0.N) (r : Fin 256) (l : Fin 512) (R : Fin 2048) (h : R.val = t.val * 256 + r.val) :
    iblk m c 2 t (ix2 r l) = aD2 m c (ix2 R l) := by
  blk_point [iblk, V, idx t]
theorem d3_blk (t : Fin cfg0.N) (r : Fin 256) (l : Fin 512) (R : Fin 2048) (h : R.val = t.val * 256 + r.val) :
    iblk m c 3 t (ix2 r l) = aD3 m c (ix2 R l) := by
  blk_point [iblk, V, idx t]
theorem d4_blk (t : Fin cfg0.N) (r : Fin 256) (l : Fin 512) (R : Fin 2048) (h : R.val = t.val * 256 + r.val) :
    iblk m c 4 t (ix2 r l) = aD4 m c (ix2 R l) := by
  blk_point [iblk, V, idx t]
theorem d5_blk (t : Fin cfg0.N) (r : Fin 256) (l : Fin 512) (R : Fin 2048) (h : R.val = t.val * 256 + r.val) :
    iblk m c 5 t (ix2 r l) = aD5 m c (ix2 R l) := by
  blk_point [iblk, V, idx t]
theorem x_blk (t : Fin cfg0.N) (r : Fin 256) (l : Fin 1024) (R : Fin 2048) (h : R.val = t.val * 256 + r.val) :
    iblk m c 7 t (ix2 r l) = aX m c (ix2 R l) := by
  blk_point [iblk, V, idx t]
theorem o_blk (t : Fin cfg0.N) (r : Fin 256) (l : Fin 1024) (R : Fin 2048) (h : R.val = t.val * 256 + r.val) :
    iblk m c 8 t (ix2 r l) = aO m c (ix2 R l) := by
  blk_point [iblk, V, idx t]
theorem shift_blk (t : Fin cfg0.N) (l : Fin 1024) : iblk m c 9 t (ix4 0 0 0 l) = aMod m c (ix2 2 (shiftCol l)) := by
  blk_point [iblk, V, idx t]
theorem scale_blk (t : Fin cfg0.N) (l : Fin 1024) : iblk m c 10 t (ix4 0 0 0 l) = aMod m c (ix2 2 (scaleCol l)) := by
  blk_point [iblk, V, idx t]
theorem g_blk (t : Fin cfg0.N) (l : Fin 1024) : iblk m c 11 t (ix3 0 0 l) = aG m c (ix2 2 l) := by
  blk_point [iblk, V, idx t]

/-- A point's gradient of the projection's input. -/
abbrev dhBlk (t : Fin cfg0.N) : FVec Ideal S256x1024 .f32 :=
  k0_pay15
    (k0_pay14 (iblk m c 0 t) (View.ld (iblk m c 6 t) (Rect.unit ![0, 0] ![1024, 512] inb_S1024x3072_S1024x512_0_0)))
    (iblk m c 1 t) (View.ld (iblk m c 6 t) (Rect.unit ![0, 512] ![1024, 512] inb_S1024x3072_S1024x512_0_512))
    (iblk m c 2 t) (View.ld (iblk m c 6 t) (Rect.unit ![0, 1024] ![1024, 512] inb_S1024x3072_S1024x512_0_1024))
    (iblk m c 3 t) (View.ld (iblk m c 6 t) (Rect.unit ![0, 1536] ![1024, 512] inb_S1024x3072_S1024x512_0_1536))
    (iblk m c 4 t) (View.ld (iblk m c 6 t) (Rect.unit ![0, 2048] ![1024, 512] inb_S1024x3072_S1024x512_0_2048))
    (iblk m c 5 t) (View.ld (iblk m c 6 t) (Rect.unit ![0, 2560] ![1024, 512] inb_S1024x3072_S1024x512_0_2560))

/-- The six products added up. -/
theorem pay15_at (d0 d1 d2 d3 d4 d5 : Vec Ideal S256x512 .bf16) (w0 w1 w2 w3 w4 w5 : Vec Ideal S1024x512 .bf16) (r : Fin 256) (l : Fin 1024) :
    k0_pay15 (k0_pay14 d0 w0) d1 w1 d2 w2 d3 w3 d4 w4 d5 w5 (ix2 r l)
      = (∑ k : Fin 512, d0 (ix2 r k) * w0 (ix2 l k)) + (∑ k : Fin 512, d1 (ix2 r k) * w1 (ix2 l k))
        + (∑ k : Fin 512, d2 (ix2 r k) * w2 (ix2 l k)) + (∑ k : Fin 512, d3 (ix2 r k) * w3 (ix2 l k))
        + (∑ k : Fin 512, d4 (ix2 r k) * w4 (ix2 l k)) + (∑ k : Fin 512, d5 (ix2 r k) * w5 (ix2 l k)) := by
  pointwise [k0_pay15, k0_pay14]

/-- Columns of the weight's block, read. -/
theorem ld_w (t : Fin cfg0.N) (n : ℕ) (b : ∀ a, (![0, n] : Fin 2 → ℕ) a + (![1024, 512] : Fin 2 → ℕ) a ≤ S1024x3072.size a)
    (l : Fin 1024) (k : Fin 512) (K : Fin 3072) (hK : K.val = n + k.val) :
    View.ld (Val := Elt Ideal) (e' := .bf16) (iblk m c 6 t) (Rect.unit (s := S1024x3072) ![0, n] ![1024, 512] b) (ix2 l k) = aW m c (ix3 2 l K) :=
  (congrArg (iblk m c 6 t) (ix2_of (by simp [ix2]) (by simp [ix2]; omega)).symm).trans (w_blk m c t l K)

/-- It is the plain program's at the block's place. -/
theorem dh_point (t : Fin cfg0.N) (r : Fin 256) (l : Fin 1024) (R : Fin 2048) (hR : R.val = t.val * 256 + r.val) :
    dhBlk m c t (ix2 r l) = dh m c (ix2 R l) := by
  rw [dh_at, Fin.sum_univ_six]
  refine (pay15_at _ _ _ _ _ _ _ _ _ _ _ _ r l).trans ?_
  refine congrArg₂ (· + ·) (congrArg₂ (· + ·) (congrArg₂ (· + ·) (congrArg₂ (· + ·) (congrArg₂ (· + ·) ?_ ?_) ?_) ?_) ?_) ?_
  · exact Fin.sum_fin_congr fun k => congrArg₂ (· * ·) (d0_blk m c t r k R hR) (ld_w m c t 0 _ l k _ rfl)
  · exact Fin.sum_fin_congr fun k => congrArg₂ (· * ·) (d1_blk m c t r k R hR) (ld_w m c t 512 _ l k _ rfl)
  · exact Fin.sum_fin_congr fun k => congrArg₂ (· * ·) (d2_blk m c t r k R hR) (ld_w m c t 1024 _ l k _ rfl)
  · exact Fin.sum_fin_congr fun k => congrArg₂ (· * ·) (d3_blk m c t r k R hR) (ld_w m c t 1536 _ l k _ rfl)
  · exact Fin.sum_fin_congr fun k => congrArg₂ (· * ·) (d4_blk m c t r k R hR) (ld_w m c t 2048 _ l k _ rfl)
  · exact Fin.sum_fin_congr fun k => congrArg₂ (· * ·) (d5_blk m c t r k R hR) (ld_w m c t 2560 _ l k _ rfl)

/-- A row of the layer's input, and what arrives at the norm's row. -/
abbrev xRow (R : Fin 2048) : Fin 1024 → EReal := fun k => aX m c (ix2 R k)
abbrev dRow (R : Fin 2048) : Fin 1024 → EReal := fun k => dh m c (ix2 R k) * onePlus m c k * aG m c (ix2 2 k)

/-- A point's block of the projection's input. -/
abbrev hBlk (t : Fin cfg0.N) : FVec Ideal S256x1024 .bf16 := k0_pay13 (iblk m c 7 t) (iblk m c 11 t) (iblk m c 10 t) (iblk m c 9 t)
theorem h_point (t : Fin cfg0.N) (r : Fin 256) (l : Fin 1024) (R : Fin 2048) (hR : R.val = t.val * 256 + r.val) :
    hBlk m c t (ix2 r l) = hid m c (ix2 R l) := by
  have hx : ∀ k, iblk m c 7 t (ix2 r k) = xRow m c R k := fun k => x_blk m c t r k R hR
  pointwise [hBlk, hid, k0_pay13, k0_pay12, k0_pay11, k0_pay10, val_main_v34, val_main_v33, val_main_v32, val_main_v31, val_main_v30,
    val_main_v29, val_main_v28, val_main_v27, val_main_v26, val_main_v25, val_main_v24, val_main_v23, val_main_v22, val_main_v18, val_main_v17,
    val_main_v16, val_main_v15, val_main_v14, val_main_v13, val_main_v12, val_main_v11, val_main_v8, val_main_v7, val_main_v3, val_main_v2,
    val_main_v1, val_main_v0, val_main_cst, val_main_cst_0, val_main_cst_1, val_main_cst_3]
  simp only [hx, g_blk m c t, shift_blk m c t, scale_blk m c t]
  exact congrArg (· + _) (mul_assoc _ _ _).symm

/-- The plain program's gradient of the layer's input, written out. -/
theorem ref_dx (R : Fin 2048) (l : Fin 1024) :
    val_main_v68 (F := Ideal) (aD0 m c) (aD1 m c) (aD2 m c) (aD3 m c) (aD4 m c) (aD5 m c) (aX m c) (aO m c) (aMod m c) (aG m c) (aW m c) (ix2 R l)
      = aO m c (ix2 R l) + dRow m c R l * Ideal.rsqrt (meanSq (xRow m c R))
        + xRow m c R l * Ideal.div ((∑ k, xRow m c R k * dRow m c R k) * (Ideal.ofBits .f32 3204448256#32
          * Ideal.div (Ideal.rsqrt (meanSq (xRow m c R))) (meanSq (xRow m c R)))) (Ideal.ofBits .f32 1149239296#32)
        + Ideal.div ((∑ k, xRow m c R k * dRow m c R k) * (Ideal.ofBits .f32 3204448256#32
          * Ideal.div (Ideal.rsqrt (meanSq (xRow m c R))) (meanSq (xRow m c R)))) (Ideal.ofBits .f32 1149239296#32) * xRow m c R l := by
  simp only [dRow, xRow, onePlus]
  generalize hd : dh m c = d
  pointwise [val_main_v68, val_main_v67, val_main_v66, val_main_v65, val_main_v64, val_main_v63, val_main_v62, val_main_v61, val_main_v60,
    val_main_v59, val_main_v58, val_main_v57, val_main_v56, val_main_v55, val_main_v54, val_main_v52, val_main_v51, val_main_v46, val_main_v45,
    val_main_v29, val_main_v28, val_main_v27, val_main_v24, val_main_v21, val_main_v20, val_main_v19, val_main_v18, val_main_v17,
    val_main_v16, val_main_v15, val_main_v14, val_main_v13, val_main_v12, val_main_v11, val_main_v8, val_main_v7, val_main_v3,
    val_main_v1, val_main_v0, val_main_cst, val_main_cst_0, val_main_cst_1, val_main_cst_2, val_main_cst_3, val_main_cst_10, val_main_cst_11,
    val_main_cst_12, hd]
  simp only [Finset.sum_const, Finset.card_univ, Fintype.card_fin, one_smul]

/-- The arguments the gradient multiplies hold finite values. -/
structure Finite : Prop where
  d : ∀ n i, IsR (part m c n i)
  x : ∀ i, IsR (aX m c i)
  mod : ∀ i, IsR (aMod m c i)
  g : ∀ i, IsR (aG m c i)
  w : ∀ i, IsR (aW m c i)

variable {m c}

theorem Finite.dh (h : Finite m c) (R : Fin 2048) (l : Fin 1024) : IsR (In.dh m c (ix2 R l)) := by
  rw [dh_at]
  exact IsR.sum _ _ fun i => IsR.sum _ _ fun k => (h.d _ _).mul (h.w _)
theorem Finite.onePlus (h : Finite m c) (l : Fin 1024) : IsR (In.onePlus m c l) := IsR.add ⟨1, rfl⟩ (h.mod _)
theorem Finite.drow (h : Finite m c) (R : Fin 2048) (k : Fin 1024) : IsR (dRow m c R k) :=
  ((h.dh R k).mul (h.onePlus k)).mul (h.g _)

/-- The order of a term's factors. -/
theorem products (d s g x : EReal) : d * x * (g * s) = d * s * g * x := by ac_rfl

/-- First result: the gradient of the layer's input. -/
theorem final_dx (h : Finite m c) : (dats m 0 c).arrAt 12 (cfgs 0).N
    = val_main_v68 (F := Ideal) (aD0 m c) (aD1 m c) (aD2 m c) (aD3 m c) (aD4 m c) (aD5 m c) (aX m c) (aO m c) (aMod m c) (aG m c) (aW m c) := by
  refine (dats m 0 c).arrAt_eq_of_covers 12 _ (by decide +kernel) fun t _ y => ?_
  blk_simp
  have hy : (outsAt0 m c t.val t.isLt).1 = k0_pay1 (k0_pay10 (iblk m c 7 t)) (k0_pay11 (iblk m c 7 t)) (iblk m c 8 t)
      (k0_pay34 (k0_pay12 (iblk m c 11 t) (iblk m c 10 t)) (dhBlk m c t))
      (k0_pay35 (k0_pay11 (iblk m c 7 t)) (k0_pay12 (iblk m c 11 t) (iblk m c 10 t)) (dhBlk m c t)) := by
    by_cases h0 : t.val % 8 = 0
    · rw [outsAt0_A m c t h0 (by omega)]; frame_out; try rfl
    · by_cases h1 : t.val % 8 = 7
      · rw [outsAt0_C m c t h0 h1]; frame_out; try rfl
      · rw [outsAt0_B m c t h0 h1]; frame_out; try rfl
  rw [after0_12, hy]
  obtain ⟨r, l, rfl⟩ : ∃ (r : Fin 256) (l : Fin 1024), y = ix2 r l := ⟨y 0, y 1, eq_ix2 y⟩
  have ht : t.val < 8 := lt_of_lt_of_eq t.isLt N_0
  rw [show ((cfg0.win 12).blk t).view.emb (ix2 r l) = ix2 (⟨t.val * 256 + r.val, by omega⟩ : Fin 2048) l from by
    refine (ix2_of ?_ ?_).symm <;> (blk_simp [idx t]; try omega)]
  generalize hR : (⟨t.val * 256 + r.val, by omega⟩ : Fin 2048) = R
  have hR' : R.val = t.val * 256 + r.val := by rw [← hR]
  rw [ref_dx, add_assoc (G := EReal), add_assoc (G := EReal), ← add_assoc (G := EReal) (dRow m c R l * _),
    ← norm_grad (xRow m c R) (dRow m c R) (fun k => dh m c (ix2 R k) * (xRow m c R k * Ideal.rsqrt (meanSq (xRow m c R)))
      * (aG m c (ix2 2 k) * onePlus m c k)) (fun k => h.x _) (h.drow R) (fun k => products _ _ _ _)]
  have hx : ∀ k, iblk m c 7 t (ix2 r k) = xRow m c R k := fun k => x_blk m c t r k R hR'
  have hd := fun k => dh_point m c t r k R hR'
  generalize dhBlk m c t = b at hd ⊢
  pointwise [k0_pay1, k0_pay34, k0_pay35, k0_pay31, k0_pay12, k0_pay11, k0_pay10]
  simp only [hx, hd, o_blk m c t r l R hR', g_blk m c t, scale_blk m c t]
  rw [show dh m c (ix2 R l) * (aG m c (ix2 2 l) * onePlus m c l) = dRow m c R l
    from (congrArg _ (mul_comm (G := EReal) _ _)).trans (mul_assoc _ _ _).symm]

/-- The points' rows are all rows. -/
theorem sum_rows (f : Fin 2048 → EReal) :
    ∑ p : Fin cfg0.N, ∑ q : Fin 256, f ⟨p.val * 256 + q.val, by have := lt_of_lt_of_eq p.isLt N_0; omega⟩ = ∑ R, f R := by
  rw [← Fin.sum_mul_add_fin (M := EReal) 8 256 f]
  exact Fintype.sum_equiv (finCongr N_0) _ _ fun p => rfl

/-- The partial sums start at zero. -/
theorem pay7_at (j) : k0_pay7 (F := Ideal) j = 0 := by pointwise [k0_pay7]
theorem pay8_at (j) : k0_pay8 (F := Ideal) j = 0 := by pointwise [k0_pay8]
theorem pay9_at (j) : k0_pay9 (F := Ideal) j = 0 := by pointwise [k0_pay9]

/-- What a point adds to the eight partial sums of a column: of what arrives, and of its product with the normed row. -/
theorem pay32_at (d : FVec Ideal S256x1024 .f32) (acc : Vec Ideal S8x1024 .f32) (a : Fin 8) (l : Fin 1024) :
    k0_pay32 d acc (ix2 a l) = acc (ix2 a l) + ∑ k : Fin 32, d (ix2 ⟨k.val * 8 + a.val, by omega⟩ l) := by
  pointwise [k0_pay32]
theorem pay33_at (x d : FVec Ideal S256x1024 .f32) (acc : Vec Ideal S8x1024 .f32) (a : Fin 8) (l : Fin 1024) :
    k0_pay33 x d acc (ix2 a l) = acc (ix2 a l) + ∑ k : Fin 32, d (ix2 ⟨k.val * 8 + a.val, by omega⟩ l) * x (ix2 ⟨k.val * 8 + a.val, by omega⟩ l) := by
  pointwise [k0_pay33, k0_pay31]

/-- A row of the product. -/
abbrev qTerm (m : (ℓ : Loc nD τ Cert.InIdeal.sig) → Buf (Elt Ideal) ℓ) (c : Dev nD) (R : Fin 2048) (l : Fin 1024) : EReal :=
  dh m c (ix2 R l) * (xRow m c R l * Ideal.rsqrt (meanSq (xRow m c R)))
/-- What a point holds of the normed rows. -/
abbrev xBlk (m : (ℓ : Loc nD τ Cert.InIdeal.sig) → Buf (Elt Ideal) ℓ) (c : Dev nD) (t : Fin cfg0.N) : FVec Ideal S256x1024 .f32 :=
  k0_pay11 (iblk m c 7 t)
theorem xh_point (t : Fin cfg0.N) (r : Fin 256) (l : Fin 1024) (R : Fin 2048) (hR : R.val = t.val * 256 + r.val) :
    xBlk m c t (ix2 r l) = xRow m c R l * Ideal.rsqrt (meanSq (xRow m c R)) := by
  have hx : ∀ k, iblk m c 7 t (ix2 r k) = xRow m c R k := fun k => x_blk m c t r k R hR
  pointwise [xBlk, k0_pay11, k0_pay10]
  simp only [hx]

/-- The partial sums after the last point. -/
theorem last_d (a : Fin 8) (l : Fin 1024) : (outsAt0 m c t0_7.val t0_7.isLt).2.2.2.2.2.2.1 (ix2 a l)
    = ∑ p : Fin cfg0.N, ∑ k : Fin 32, dhBlk m c p (ix2 ⟨k.val * 8 + a.val, by omega⟩ l) := by
  rw [Pipeline.eq_sum_fin_of_reset_step_apply_last (fun n h => (outsAt0 m c n h).2.2.2.2.2.2.1) 8 (fun _ => 0)
    (fun p j => ∑ k : Fin 32, dhBlk m c p (ix2 ⟨k.val * 8 + (j 0).val, by have := (j 0).isLt; change _ < 8 at this; omega⟩ (j 1)))
    (fun t h j => by
      rw [outsAt0_A m c t h (by omega)]; frame_out
      obtain ⟨a, l, rfl⟩ : ∃ (a : Fin 8) (l : Fin 1024), j = ix2 a l := ⟨j 0, j 1, eq_ix2 j⟩
      rw [pay32_at, pay8_at]; rfl)
    (fun t h j => by
      obtain ⟨a, l, rfl⟩ : ∃ (a : Fin 8) (l : Fin 1024), j = ix2 a l := ⟨j 0, j 1, eq_ix2 j⟩
      by_cases h1 : t.val % 8 = 7
      · rw [outsAt0_C m c t h h1]; frame_out; rw [pay32_at]; exact congrArg (· + _) (congrFun ((Memref.isWhole_whole _).read_unread _) _)
      · rw [outsAt0_B m c t h h1]; frame_out; rw [pay32_at]; exact congrArg (· + _) (congrFun ((Memref.isWhole_whole _).read_unread _) _))
    (le_of_eq N_0) t0_7 rfl (ix2 a l), zero_add]
  rfl
theorem last_q (a : Fin 8) (l : Fin 1024) : (outsAt0 m c t0_7.val t0_7.isLt).2.2.2.2.2.2.2 (ix2 a l)
    = ∑ p : Fin cfg0.N, ∑ k : Fin 32, (dhBlk m c p (ix2 ⟨k.val * 8 + a.val, by omega⟩ l) : EReal) * xBlk m c p (ix2 ⟨k.val * 8 + a.val, by omega⟩ l) := by
  rw [Pipeline.eq_sum_fin_of_reset_step_apply_last (fun n h => (outsAt0 m c n h).2.2.2.2.2.2.2) 8 (fun _ => 0)
    (fun p j => ∑ k : Fin 32, (dhBlk m c p (ix2 ⟨k.val * 8 + (j 0).val, by have := (j 0).isLt; change _ < 8 at this; omega⟩ (j 1)) : EReal)
      * xBlk m c p (ix2 ⟨k.val * 8 + (j 0).val, by have := (j 0).isLt; change _ < 8 at this; omega⟩ (j 1)))
    (fun t h j => by
      rw [outsAt0_A m c t h (by omega)]; frame_out
      obtain ⟨a, l, rfl⟩ : ∃ (a : Fin 8) (l : Fin 1024), j = ix2 a l := ⟨j 0, j 1, eq_ix2 j⟩
      rw [pay33_at, pay9_at]; rfl)
    (fun t h j => by
      obtain ⟨a, l, rfl⟩ : ∃ (a : Fin 8) (l : Fin 1024), j = ix2 a l := ⟨j 0, j 1, eq_ix2 j⟩
      by_cases h1 : t.val % 8 = 7
      · rw [outsAt0_C m c t h h1]; frame_out; rw [pay33_at]; exact congrArg (· + _) (congrFun ((Memref.isWhole_whole _).read_unread _) _)
      · rw [outsAt0_B m c t h h1]; frame_out; rw [pay33_at]; exact congrArg (· + _) (congrFun ((Memref.isWhole_whole _).read_unread _) _))
    (le_of_eq N_0) t0_7 rfl (ix2 a l), zero_add]
  rfl

/-- Partial sums of eight rows each, added up, are the sum over all rows. -/
theorem total (f : Fin 2048 → EReal) (g : Fin cfg0.N → Fin 256 → EReal)
    (h : ∀ (p : Fin cfg0.N) (q : Fin 256) (R : Fin 2048), R.val = p.val * 256 + q.val → g p q = f R) :
    ∑ a : Fin 8, ∑ p : Fin cfg0.N, ∑ k : Fin 32, g p ⟨k.val * 8 + a.val, by omega⟩ = ∑ R, f R := by
  refine Eq.trans ?_ (sum_rows f)
  refine Finset.sum_comm.trans ?_
  refine Fin.sum_fin_congr fun p => ?_
  refine Finset.sum_comm.trans ?_
  rw [← Fin.sum_mul_add_fin (M := EReal) 32 8 (fun q : Fin 256 => f ⟨p.val * 256 + q.val, by have := lt_of_lt_of_eq p.isLt N_0; omega⟩)]
  exact Fin.sum_fin_congr fun k => Fin.sum_fin_congr fun a => h p _ _ rfl
theorem total_d (l : Fin 1024) : ∑ a : Fin 8, (outsAt0 m c t0_7.val t0_7.isLt).2.2.2.2.2.2.1 (ix2 a l) = ∑ R, dh m c (ix2 R l) := by
  simp only [last_d]
  exact total _ (fun p q => dhBlk m c p (ix2 q l)) fun p q R hR => dh_point m c p q l R hR
theorem total_q (l : Fin 1024) : ∑ a : Fin 8, (outsAt0 m c t0_7.val t0_7.isLt).2.2.2.2.2.2.2 (ix2 a l) = ∑ R, qTerm m c R l := by
  simp only [last_q]
  exact total _ (fun p q => (dhBlk m c p (ix2 q l) : EReal) * xBlk m c p (ix2 q l))
    fun p q R hR => congrArg₂ (· * ·) (dh_point m c p q l R hR) (xh_point p q l R hR)

theorem isR_q (h : Finite m c) (R : Fin 2048) (l : Fin 1024) : IsR (qTerm m c R l) :=
  (h.dh R l).mul ((h.x _).mul (isR_rms _ fun k => h.x _))

/-- The orders in which a row's part is multiplied. -/
theorem dscale_term (g d y r : EReal) : g * (d * (y * r)) = y * r * g * d := by ac_rfl
theorem dg_term (s d y r : EReal) : s * (d * (y * r)) = y * r * (d * s) := by ac_rfl

/-- Third result: the shift's gradient. -/
theorem final_dshift : (dats m 0 c).arrAt 14 (cfgs 0).N
    = val_main_v72 (F := Ideal) (aD0 m c) (aD1 m c) (aD2 m c) (aD3 m c) (aD4 m c) (aD5 m c) (aW m c) := by
  refine (dats m 0 c).arrAt_eq_of_after_last 14 t0_7 (by decide +kernel) _ fun j => ?_
  blk_simp
  have hl : (outsAt0 m c t0_7.val t0_7.isLt).2.2.1 = k0_pay4 (outsAt0 m c t0_7.val t0_7.isLt).2.2.2.2.2.2.1 := by
    rw [outsAt0_C m c t0_7 (by decide) (by decide)]; frame_out
  rw [after0_14, hl]
  obtain ⟨i, l, rfl⟩ : ∃ (i : Fin 1) (l : Fin 1024), j = ix2 i l := ⟨j 0, j 1, eq_ix2 j⟩
  pointwise [k0_pay4]
  rw [total_d]
  unfold dh
  generalize hd : val_main_v38 (F := Ideal) (aD0 m c) (aD1 m c) (aD2 m c) (aD3 m c) (aD4 m c) (aD5 m c) (aW m c) = d
  pointwise [val_main_v72, val_main_v41, val_main_v40, val_main_v39, val_main_cst_4, val_main_cst_5, hd]
  simp only [Finset.sum_const, Finset.card_univ, Fintype.card_fin, one_smul]

/-- Fourth result: the scale's gradient. -/
theorem final_dscale (h : Finite m c) : (dats m 0 c).arrAt 15 (cfgs 0).N
    = val_main_v73 (F := Ideal) (aD0 m c) (aD1 m c) (aD2 m c) (aD3 m c) (aD4 m c) (aD5 m c) (aX m c) (aG m c) (aW m c) := by
  refine (dats m 0 c).arrAt_eq_of_after_last 15 t0_7 (by decide +kernel) _ fun j => ?_
  blk_simp
  have hl : (outsAt0 m c t0_7.val t0_7.isLt).2.2.2.1 = k0_pay5 (outsAt0 m c t0_7.val t0_7.isLt).2.2.2.2.2.2.2 (iblk m c 11 t0_7) := by
    rw [outsAt0_C m c t0_7 (by decide) (by decide)]; frame_out
  rw [after0_15, hl]
  obtain ⟨i, l, rfl⟩ : ∃ (i : Fin 1) (l : Fin 1024), j = ix2 i l := ⟨j 0, j 1, eq_ix2 j⟩
  pointwise [k0_pay5, k0_pay3]
  rw [total_q, g_blk, mul_sum_isR _ _ (h.g _) fun R => isR_q h R l]
  unfold qTerm dh
  generalize hd : val_main_v38 (F := Ideal) (aD0 m c) (aD1 m c) (aD2 m c) (aD3 m c) (aD4 m c) (aD5 m c) (aW m c) = d
  pointwise [val_main_v73, val_main_v47, val_main_v44, val_main_v43, val_main_v42, val_main_v26, val_main_v25, val_main_v24, val_main_v23,
    val_main_v22, val_main_v18, val_main_v17, val_main_v16, val_main_v15, val_main_v14, val_main_v13, val_main_v12, val_main_v11, val_main_v8,
    val_main_v7, val_main_cst, val_main_cst_0, val_main_cst_1, val_main_cst_6, val_main_cst_7, hd]
  simp only [Finset.sum_const, Finset.card_univ, Fintype.card_fin, one_smul]
  exact Fin.sum_fin_congr fun R => dscale_term _ _ _ _

/-- Fifth result: the gradient of the norm's scale. -/
theorem final_dg (h : Finite m c) : (dats m 0 c).arrAt 16 (cfgs 0).N
    = val_main_v74 (F := Ideal) (aD0 m c) (aD1 m c) (aD2 m c) (aD3 m c) (aD4 m c) (aD5 m c) (aX m c) (aMod m c) (aW m c) := by
  refine (dats m 0 c).arrAt_eq_of_after_last 16 t0_7 (by decide +kernel) _ fun j => ?_
  blk_simp
  have hl : (outsAt0 m c t0_7.val t0_7.isLt).2.2.2.2.1 = k0_pay6 (outsAt0 m c t0_7.val t0_7.isLt).2.2.2.2.2.2.2 (iblk m c 10 t0_7) := by
    rw [outsAt0_C m c t0_7 (by decide) (by decide)]; frame_out
  rw [after0_16, hl]
  obtain ⟨i, l, rfl⟩ : ∃ (i : Fin 1) (l : Fin 1024), j = ix2 i l := ⟨j 0, j 1, eq_ix2 j⟩
  pointwise [k0_pay6, k0_pay3]
  rw [total_q, scale_blk]
  rw [show 1 + aMod m c (ix2 2 (scaleCol l)) = onePlus m c l from rfl,
    mul_sum_isR _ _ (h.onePlus _) fun R => isR_q h R l]
  unfold qTerm dh
  generalize hd : val_main_v38 (F := Ideal) (aD0 m c) (aD1 m c) (aD2 m c) (aD3 m c) (aD4 m c) (aD5 m c) (aW m c) = d
  pointwise [val_main_v74, val_main_v53, val_main_v50, val_main_v49, val_main_v48, val_main_v46, val_main_v45, val_main_v29, val_main_v28,
    val_main_v27, val_main_v23,
    val_main_v22, val_main_v18, val_main_v17, val_main_v16, val_main_v15, val_main_v14, val_main_v13, val_main_v12, val_main_v11,
    val_main_v3, val_main_v1, val_main_v0, val_main_cst, val_main_cst_0, val_main_cst_1, val_main_cst_3, val_main_cst_8, val_main_cst_9, hd]
  simp only [Finset.sum_const, Finset.card_univ, Fintype.card_fin, one_smul]
  exact Fin.sum_fin_congr fun R => dg_term _ _ _ _

/-- Twelve stores of a chip's 256 columns each leave an array they all agree with. -/
theorem tiles (G : S4x1024x768.Idx → EReal) (P0 P1 P2 P3 P4 P5 P6 P7 P8 P9 P10 P11 : S1x1024x256.Idx → EReal) (L : List (View.Piece (Elt Ideal) S4x1024x768 .f32))
    (h0 : ∀ (i : Fin 1024) (l : Fin 256), P0 (ix3 0 i l) = G (ix3 0 i ⟨0 + l.val, by omega⟩))
    (h1 : ∀ (i : Fin 1024) (l : Fin 256), P1 (ix3 0 i l) = G (ix3 0 i ⟨256 + l.val, by omega⟩))
    (h2 : ∀ (i : Fin 1024) (l : Fin 256), P2 (ix3 0 i l) = G (ix3 0 i ⟨512 + l.val, by omega⟩))
    (h3 : ∀ (i : Fin 1024) (l : Fin 256), P3 (ix3 0 i l) = G (ix3 1 i ⟨0 + l.val, by omega⟩))
    (h4 : ∀ (i : Fin 1024) (l : Fin 256), P4 (ix3 0 i l) = G (ix3 1 i ⟨256 + l.val, by omega⟩))
    (h5 : ∀ (i : Fin 1024) (l : Fin 256), P5 (ix3 0 i l) = G (ix3 1 i ⟨512 + l.val, by omega⟩))
    (h6 : ∀ (i : Fin 1024) (l : Fin 256), P6 (ix3 0 i l) = G (ix3 2 i ⟨0 + l.val, by omega⟩))
    (h7 : ∀ (i : Fin 1024) (l : Fin 256), P7 (ix3 0 i l) = G (ix3 2 i ⟨256 + l.val, by omega⟩))
    (h8 : ∀ (i : Fin 1024) (l : Fin 256), P8 (ix3 0 i l) = G (ix3 2 i ⟨512 + l.val, by omega⟩))
    (h9 : ∀ (i : Fin 1024) (l : Fin 256), P9 (ix3 0 i l) = G (ix3 3 i ⟨0 + l.val, by omega⟩))
    (h10 : ∀ (i : Fin 1024) (l : Fin 256), P10 (ix3 0 i l) = G (ix3 3 i ⟨256 + l.val, by omega⟩))
    (h11 : ∀ (i : Fin 1024) (l : Fin 256), P11 (ix3 0 i l) = G (ix3 3 i ⟨512 + l.val, by omega⟩))
    (y : S4x1024x768.Idx) :
    View.canon (Val := Elt Ideal)
      ((⟨Rect.unit (s := S4x1024x768) ![3, 0, 512] ![1, 1024, 256] inb_S4x1024x768_S1x1024x256_3_0_512, P11⟩ : View.Piece (Elt Ideal) S4x1024x768 .f32) ::
        (⟨Rect.unit (s := S4x1024x768) ![3, 0, 256] ![1, 1024, 256] inb_S4x1024x768_S1x1024x256_3_0_256, P10⟩ : View.Piece (Elt Ideal) S4x1024x768 .f32) ::
        (⟨Rect.unit (s := S4x1024x768) ![3, 0, 0] ![1, 1024, 256] inb_S4x1024x768_S1x1024x256_3_0_0, P9⟩ : View.Piece (Elt Ideal) S4x1024x768 .f32) ::
        (⟨Rect.unit (s := S4x1024x768) ![2, 0, 512] ![1, 1024, 256] inb_S4x1024x768_S1x1024x256_2_0_512, P8⟩ : View.Piece (Elt Ideal) S4x1024x768 .f32) ::
        (⟨Rect.unit (s := S4x1024x768) ![2, 0, 256] ![1, 1024, 256] inb_S4x1024x768_S1x1024x256_2_0_256, P7⟩ : View.Piece (Elt Ideal) S4x1024x768 .f32) ::
        (⟨Rect.unit (s := S4x1024x768) ![2, 0, 0] ![1, 1024, 256] inb_S4x1024x768_S1x1024x256_2_0_0, P6⟩ : View.Piece (Elt Ideal) S4x1024x768 .f32) ::
        (⟨Rect.unit (s := S4x1024x768) ![1, 0, 512] ![1, 1024, 256] inb_S4x1024x768_S1x1024x256_1_0_512, P5⟩ : View.Piece (Elt Ideal) S4x1024x768 .f32) ::
        (⟨Rect.unit (s := S4x1024x768) ![1, 0, 256] ![1, 1024, 256] inb_S4x1024x768_S1x1024x256_1_0_256, P4⟩ : View.Piece (Elt Ideal) S4x1024x768 .f32) ::
        (⟨Rect.unit (s := S4x1024x768) ![1, 0, 0] ![1, 1024, 256] inb_S4x1024x768_S1x1024x256_1_0_0, P3⟩ : View.Piece (Elt Ideal) S4x1024x768 .f32) ::
        (⟨Rect.unit (s := S4x1024x768) ![0, 0, 512] ![1, 1024, 256] inb_S4x1024x768_S1x1024x256_0_0_512, P2⟩ : View.Piece (Elt Ideal) S4x1024x768 .f32) ::
        (⟨Rect.unit (s := S4x1024x768) ![0, 0, 256] ![1, 1024, 256] inb_S4x1024x768_S1x1024x256_0_0_256, P1⟩ : View.Piece (Elt Ideal) S4x1024x768 .f32) ::
        (⟨Rect.unit (s := S4x1024x768) ![0, 0, 0] ![1, 1024, 256] inb_S4x1024x768_S1x1024x256_0_0_0, P0⟩ : View.Piece (Elt Ideal) S4x1024x768 .f32) :: L) y = G y := by
  have place : ∀ (a C : ℕ) (b : ∀ d, (![a, 0, C] : Fin 3 → ℕ) d + (![1, 1024, 256] : Fin 3 → ℕ) d ≤ S4x1024x768.size d)
      (A : Fin 4) (hA : A.val = a) (P : S1x1024x256.Idx → EReal)
      (hP : ∀ (i : Fin 1024) (l : Fin 256), P (ix3 0 i l) = G (ix3 A i ⟨C + l.val, by have := b 2; change C + 256 ≤ 768 at this; omega⟩))
      (x : S1x1024x256.Idx), P x = G ((Rect.unit (s := S4x1024x768) ![a, 0, C] ![1, 1024, 256] b).emb x) := fun a C b A hA P hP x => by
    obtain ⟨z, i, l, rfl⟩ : ∃ (z : Fin 1) (i : Fin 1024) (l : Fin 256), x = ix3 z i l := ⟨x 0, x 1, x 2, eq_ix3 x⟩
    obtain rfl : z = 0 := Subsingleton.elim _ _
    refine (hP i l).trans (congrArg G (ix3_of ?_ ?_ ?_))
    · simp [ix3, hA]
    · simp [ix3]
    · simp [ix3]
  have hp : View.PiecesOf (Val := Elt Ideal) (s := S4x1024x768) (e := .f32) G
      [(⟨Rect.unit (s := S4x1024x768) ![3, 0, 512] ![1, 1024, 256] inb_S4x1024x768_S1x1024x256_3_0_512, P11⟩ : View.Piece (Elt Ideal) S4x1024x768 .f32),
        (⟨Rect.unit (s := S4x1024x768) ![3, 0, 256] ![1, 1024, 256] inb_S4x1024x768_S1x1024x256_3_0_256, P10⟩ : View.Piece (Elt Ideal) S4x1024x768 .f32),
        (⟨Rect.unit (s := S4x1024x768) ![3, 0, 0] ![1, 1024, 256] inb_S4x1024x768_S1x1024x256_3_0_0, P9⟩ : View.Piece (Elt Ideal) S4x1024x768 .f32),
        (⟨Rect.unit (s := S4x1024x768) ![2, 0, 512] ![1, 1024, 256] inb_S4x1024x768_S1x1024x256_2_0_512, P8⟩ : View.Piece (Elt Ideal) S4x1024x768 .f32),
        (⟨Rect.unit (s := S4x1024x768) ![2, 0, 256] ![1, 1024, 256] inb_S4x1024x768_S1x1024x256_2_0_256, P7⟩ : View.Piece (Elt Ideal) S4x1024x768 .f32),
        (⟨Rect.unit (s := S4x1024x768) ![2, 0, 0] ![1, 1024, 256] inb_S4x1024x768_S1x1024x256_2_0_0, P6⟩ : View.Piece (Elt Ideal) S4x1024x768 .f32),
        (⟨Rect.unit (s := S4x1024x768) ![1, 0, 512] ![1, 1024, 256] inb_S4x1024x768_S1x1024x256_1_0_512, P5⟩ : View.Piece (Elt Ideal) S4x1024x768 .f32),
        (⟨Rect.unit (s := S4x1024x768) ![1, 0, 256] ![1, 1024, 256] inb_S4x1024x768_S1x1024x256_1_0_256, P4⟩ : View.Piece (Elt Ideal) S4x1024x768 .f32),
        (⟨Rect.unit (s := S4x1024x768) ![1, 0, 0] ![1, 1024, 256] inb_S4x1024x768_S1x1024x256_1_0_0, P3⟩ : View.Piece (Elt Ideal) S4x1024x768 .f32),
        (⟨Rect.unit (s := S4x1024x768) ![0, 0, 512] ![1, 1024, 256] inb_S4x1024x768_S1x1024x256_0_0_512, P2⟩ : View.Piece (Elt Ideal) S4x1024x768 .f32),
        (⟨Rect.unit (s := S4x1024x768) ![0, 0, 256] ![1, 1024, 256] inb_S4x1024x768_S1x1024x256_0_0_256, P1⟩ : View.Piece (Elt Ideal) S4x1024x768 .f32),
        (⟨Rect.unit (s := S4x1024x768) ![0, 0, 0] ![1, 1024, 256] inb_S4x1024x768_S1x1024x256_0_0_0, P0⟩ : View.Piece (Elt Ideal) S4x1024x768 .f32)] :=
    ⟨place 3 512 inb_S4x1024x768_S1x1024x256_3_0_512 3 rfl P11 h11,
      place 3 256 inb_S4x1024x768_S1x1024x256_3_0_256 3 rfl P10 h10,
      place 3 0 inb_S4x1024x768_S1x1024x256_3_0_0 3 rfl P9 h9,
      place 2 512 inb_S4x1024x768_S1x1024x256_2_0_512 2 rfl P8 h8,
      place 2 256 inb_S4x1024x768_S1x1024x256_2_0_256 2 rfl P7 h7,
      place 2 0 inb_S4x1024x768_S1x1024x256_2_0_0 2 rfl P6 h6,
      place 1 512 inb_S4x1024x768_S1x1024x256_1_0_512 1 rfl P5 h5,
      place 1 256 inb_S4x1024x768_S1x1024x256_1_0_256 1 rfl P4 h4,
      place 1 0 inb_S4x1024x768_S1x1024x256_1_0_0 1 rfl P3 h3,
      place 0 512 inb_S4x1024x768_S1x1024x256_0_0_512 0 rfl P2 h2,
      place 0 256 inb_S4x1024x768_S1x1024x256_0_0_256 0 rfl P1 h1,
      place 0 0 inb_S4x1024x768_S1x1024x256_0_0_0 0 rfl P0 h0, trivial⟩
  refine View.canon_append_of_piecesOf (Val := Elt Ideal) (s := S4x1024x768) (e := .f32) G L _ hp y ?_
  have h0 : (y 0).val < 4 := (y 0).isLt
  have h1 : (y 1).val < 1024 := (y 1).isLt
  have h2 : (y 2).val < 768 := (y 2).isLt
  by_contra hn
  simp only [List.mem_cons, List.not_mem_nil, or_false, exists_eq_or_imp, exists_eq_left, Rect.mem_set_unit, Fin.forall_fin_succ] at hn
  simp at hn
  omega

/-- One store's payload: what was there, and the product of the projection's input with 256 columns. -/
theorem pay18_at (h : FVec Ideal S256x1024 .bf16) (acc : Vec Ideal S1x1024x256 .f32) (d : Vec Ideal S256x256 .bf16) (i : Fin 1024) (l : Fin 256) :
    k0_pay18 h acc d (ix3 0 i l) = acc (ix3 0 i l) + ∑ q : Fin 256, h (ix2 q i) * d (ix2 q l) := by
  pointwise [k0_pay18]

/-- What a point adds to the weight's gradient. -/
abbrev wTerm (m : (ℓ : Loc nD τ Cert.InIdeal.sig) → Buf (Elt Ideal) ℓ) (c : Dev nD) (t : Fin cfg0.N) (a : Fin 4) (i : Fin 1024) (l : Fin 768) : EReal :=
  ∑ q : Fin 256, hid m c (ix2 (⟨t.val * 256 + q.val, by have := lt_of_lt_of_eq t.isLt N_0; omega⟩ : Fin 2048) i)
    * cat m c (ix2 (⟨t.val * 256 + q.val, by have := lt_of_lt_of_eq t.isLt N_0; omega⟩ : Fin 2048) ⟨a.val * 768 + l.val, by omega⟩)

/-- A block of a part's rows. -/
abbrev IsPart (m : (ℓ : Loc nD τ Cert.InIdeal.sig) → Buf (Elt Ideal) ℓ) (c : Dev nD) (t : Fin cfg0.N) (n : Fin 6) (X : S256x512.Idx → EReal) : Prop :=
  ∀ (r : Fin 256) (k : Fin 512) (R : Fin 2048), R.val = t.val * 256 + r.val → X (ix2 r k) = part m c n (ix2 R k)

/-- 256 columns of a part's block are those of the parts side by side. -/
theorem cols_at (t : Fin cfg0.N) (n : Fin 6) (X : S256x512.Idx → EReal) (hX : IsPart m c t n X) (D : ℕ)
    (b : ∀ a, (![0, D] : Fin 2 → ℕ) a + (![256, 256] : Fin 2 → ℕ) a ≤ S256x512.size a) (q l : Fin 256) (K : Fin 3072)
    (hK : K.val = n.val * 512 + D + l.val) (R : Fin 2048) (hR : R.val = t.val * 256 + q.val) :
    View.ld (Val := Elt Ideal) (e' := .bf16) X (Rect.unit (s := S256x512) ![0, D] ![256, 256] b) (ix2 q l) = cat m c (ix2 R K) := by
  have hD : D + l.val < 512 := by have := b 1; change D + 256 ≤ 512 at this; omega
  refine (congrArg X (ix2_of (by simp [ix2]) (by simp [ix2])).symm).trans ((hX q ⟨D + l.val, hD⟩ R hR).trans ?_)
  rw [← cat_at m c R n ⟨D + l.val, hD⟩ (by have := n.isLt; omega)]
  exact congrArg (fun K => cat m c (ix2 R K)) (Fin.ext (by dsimp only; omega))

/-- One store adds a point's terms to what was there. -/
theorem piece (t : Fin cfg0.N) (n : Fin 6) (X : S256x512.Idx → EReal) (hX : IsPart m c t n X) (D : ℕ)
    (b : ∀ a, (![0, D] : Fin 2 → ℕ) a + (![256, 256] : Fin 2 → ℕ) a ≤ S256x512.size a) (acc : S1x1024x256.Idx → EReal) (i : Fin 1024) (l : Fin 256)
    (a : Fin 4) (L : Fin 768) (hL : a.val * 768 + L.val = n.val * 512 + D + l.val) (z : EReal) (hz : acc (ix3 0 i l) = z) :
    k0_pay18 (hBlk m c t) acc (View.ld (Val := Elt Ideal) (e' := .bf16) X (Rect.unit (s := S256x512) ![0, D] ![256, 256] b)) (ix3 0 i l)
      = z + wTerm m c t a i L := by
  refine (pay18_at _ _ _ i l).trans (congrArg₂ (· + ·) hz (Fin.sum_fin_congr fun q => congrArg₂ (· * ·) (h_point m c t q i _ rfl) ?_))
  exact cols_at t n X hX D b q l _ hL _ rfl

/-- A chip's 256 columns, read. -/
theorem ld_acc (X : S4x1024x768.Idx → EReal) (a C : ℕ) (b : ∀ d, (![a, 0, C] : Fin 3 → ℕ) d + (![1, 1024, 256] : Fin 3 → ℕ) d ≤ S4x1024x768.size d)
    (A : Fin 4) (hA : A.val = a) (i : Fin 1024) (l : Fin 256) (L : Fin 768) (hL : L.val = C + l.val) :
    View.ld (Val := Elt Ideal) (e' := .f32) X (Rect.unit (s := S4x1024x768) ![a, 0, C] ![1, 1024, 256] b) (ix3 0 i l) = X (ix3 A i L) :=
  congrArg X (ix3_of (by simp [ix3, hA]) (by simp [ix3]) (by simp [ix3, hL])).symm

/-- A load that a store does not touch reads what was there before it. -/
theorem skip_zero {κ : Kind} {sp : Space} (v : View Cert.InIdeal.sig κ sp S4x1024x768 .f32) (r : Rect S4x1024x768) (w : r.shape.Idx → EReal)
    (L : List (View.Piece (Elt Ideal) S4x1024x768 .f32)) (B : LoadRect S4x1024x768) (j) (h : LoadRect.disj r B = true)
    (hz : v.readCov (Val := Elt Ideal) L B j = (0 : EReal)) : v.readCov (Val := Elt Ideal) (⟨r, w⟩ :: L) B j = (0 : EReal) := by
  rw [View.readCov_skip _ _ _ _ _ h]
  exact hz
theorem fill_zero {κ : Kind} {sp : Space} (v : View Cert.InIdeal.sig κ sp S4x1024x768 .f32) (r : Rect S4x1024x768)
    (b : ∀ a, (![0, 0, 0] : Fin 3 → ℕ) a + S4x1024x768.size a ≤ S4x1024x768.size a) (j) :
    v.readCov (Val := Elt Ideal) [⟨Rect.unit (s := S4x1024x768) ![0, 0, 0] S4x1024x768.size b, k0_pay7 (F := Ideal)⟩] r.toLoadRect j = (0 : EReal) := by
  rw [View.readCov_fill _ b _ _ _ (by decide)]
  exact pay7_at _

/-- The first point's running gradient is its own terms. -/
theorem first_w (t : Fin cfg0.N) (h : t.val % 8 = 0) (y : S4x1024x768.Idx) :
    (outsAt0 m c t.val t.isLt).2.2.2.2.2.1 y = 0 + wTerm m c t (y 0) (y 1) (y 2) := by
  rw [outsAt0_A m c t h (by omega)]; frame_out
  refine tiles (fun y => 0 + wTerm m c t (y 0) (y 1) (y 2)) _ _ _ _ _ _ _ _ _ _ _ _ _ ?_ ?_ ?_ ?_ ?_ ?_ ?_ ?_ ?_ ?_ ?_ ?_ y
  · exact fun i l => piece t 0 _ (d0_blk m c t) 0 _ _ i l 0 _ (by simp <;> omega) _ (by
      repeat refine skip_zero _ _ _ _ _ _ rfl ?_
      exact fill_zero _ _ _ _)
  · exact fun i l => piece t 0 _ (d0_blk m c t) 256 _ _ i l 0 _ (by simp <;> omega) _ (by
      repeat refine skip_zero _ _ _ _ _ _ rfl ?_
      exact fill_zero _ _ _ _)
  · exact fun i l => piece t 1 _ (d1_blk m c t) 0 _ _ i l 0 _ (by simp <;> omega) _ (by
      repeat refine skip_zero _ _ _ _ _ _ rfl ?_
      exact fill_zero _ _ _ _)
  · exact fun i l => piece t 1 _ (d1_blk m c t) 256 _ _ i l 1 _ (by simp <;> omega) _ (by
      repeat refine skip_zero _ _ _ _ _ _ rfl ?_
      exact fill_zero _ _ _ _)
  · exact fun i l => piece t 2 _ (d2_blk m c t) 0 _ _ i l 1 _ (by simp <;> omega) _ (by
      repeat refine skip_zero _ _ _ _ _ _ rfl ?_
      exact fill_zero _ _ _ _)
  · exact fun i l => piece t 2 _ (d2_blk m c t) 256 _ _ i l 1 _ (by simp <;> omega) _ (by
      repeat refine skip_zero _ _ _ _ _ _ rfl ?_
      exact fill_zero _ _ _ _)
  · exact fun i l => piece t 3 _ (d3_blk m c t) 0 _ _ i l 2 _ (by simp <;> omega) _ (by
      repeat refine skip_zero _ _ _ _ _ _ rfl ?_
      exact fill_zero _ _ _ _)
  · exact fun i l => piece t 3 _ (d3_blk m c t) 256 _ _ i l 2 _ (by simp <;> omega) _ (by
      repeat refine skip_zero _ _ _ _ _ _ rfl ?_
      exact fill_zero _ _ _ _)
  · exact fun i l => piece t 4 _ (d4_blk m c t) 0 _ _ i l 2 _ (by simp <;> omega) _ (by
      repeat refine skip_zero _ _ _ _ _ _ rfl ?_
      exact fill_zero _ _ _ _)
  · exact fun i l => piece t 4 _ (d4_blk m c t) 256 _ _ i l 3 _ (by simp <;> omega) _ (by
      repeat refine skip_zero _ _ _ _ _ _ rfl ?_
      exact fill_zero _ _ _ _)
  · exact fun i l => piece t 5 _ (d5_blk m c t) 0 _ _ i l 3 _ (by simp <;> omega) _ (by
      repeat refine skip_zero _ _ _ _ _ _ rfl ?_
      exact fill_zero _ _ _ _)
  · exact fun i l => piece t 5 _ (d5_blk m c t) 256 _ _ i l 3 _ (by simp <;> omega) _ (by
      repeat refine skip_zero _ _ _ _ _ _ rfl ?_
      exact fill_zero _ _ _ _)

/-- A later point adds its terms. -/
theorem next_w (t : Fin cfg0.N) (h : ¬ t.val % 8 = 0) (y : S4x1024x768.Idx) :
    (outsAt0 m c t.val t.isLt).2.2.2.2.2.1 y = (outsAt0 m c (t.val - 1) (by omega)).2.2.2.2.2.1 y + wTerm m c t (y 0) (y 1) (y 2) := by
  by_cases h' : t.val % 8 = 7
  · rw [outsAt0_C m c t h h']; frame_out
    generalize hp : (outsAt0 m c (t.val - 1) _).2.2.2.2.2.1 = prev
    rw [read_unread_whole]
    refine tiles (fun y => prev y + wTerm m c t (y 0) (y 1) (y 2)) _ _ _ _ _ _ _ _ _ _ _ _ _ ?_ ?_ ?_ ?_ ?_ ?_ ?_ ?_ ?_ ?_ ?_ ?_ y
    · exact fun i l => piece t 0 _ (d0_blk m c t) 0 _ _ i l 0 _ (by simp <;> omega) _ (ld_acc prev 0 0 _ 0 rfl i l _ rfl)
    · exact fun i l => piece t 0 _ (d0_blk m c t) 256 _ _ i l 0 _ (by simp <;> omega) _ (ld_acc prev 0 256 _ 0 rfl i l _ rfl)
    · exact fun i l => piece t 1 _ (d1_blk m c t) 0 _ _ i l 0 _ (by simp <;> omega) _ (ld_acc prev 0 512 _ 0 rfl i l _ rfl)
    · exact fun i l => piece t 1 _ (d1_blk m c t) 256 _ _ i l 1 _ (by simp <;> omega) _ (ld_acc prev 1 0 _ 1 rfl i l _ rfl)
    · exact fun i l => piece t 2 _ (d2_blk m c t) 0 _ _ i l 1 _ (by simp <;> omega) _ (ld_acc prev 1 256 _ 1 rfl i l _ rfl)
    · exact fun i l => piece t 2 _ (d2_blk m c t) 256 _ _ i l 1 _ (by simp <;> omega) _ (ld_acc prev 1 512 _ 1 rfl i l _ rfl)
    · exact fun i l => piece t 3 _ (d3_blk m c t) 0 _ _ i l 2 _ (by simp <;> omega) _ (ld_acc prev 2 0 _ 2 rfl i l _ rfl)
    · exact fun i l => piece t 3 _ (d3_blk m c t) 256 _ _ i l 2 _ (by simp <;> omega) _ (ld_acc prev 2 256 _ 2 rfl i l _ rfl)
    · exact fun i l => piece t 4 _ (d4_blk m c t) 0 _ _ i l 2 _ (by simp <;> omega) _ (ld_acc prev 2 512 _ 2 rfl i l _ rfl)
    · exact fun i l => piece t 4 _ (d4_blk m c t) 256 _ _ i l 3 _ (by simp <;> omega) _ (ld_acc prev 3 0 _ 3 rfl i l _ rfl)
    · exact fun i l => piece t 5 _ (d5_blk m c t) 0 _ _ i l 3 _ (by simp <;> omega) _ (ld_acc prev 3 256 _ 3 rfl i l _ rfl)
    · exact fun i l => piece t 5 _ (d5_blk m c t) 256 _ _ i l 3 _ (by simp <;> omega) _ (ld_acc prev 3 512 _ 3 rfl i l _ rfl)
  · rw [outsAt0_B m c t h h']; frame_out
    generalize hp : (outsAt0 m c (t.val - 1) _).2.2.2.2.2.1 = prev
    rw [read_unread_whole]
    refine tiles (fun y => prev y + wTerm m c t (y 0) (y 1) (y 2)) _ _ _ _ _ _ _ _ _ _ _ _ _ ?_ ?_ ?_ ?_ ?_ ?_ ?_ ?_ ?_ ?_ ?_ ?_ y
    · exact fun i l => piece t 0 _ (d0_blk m c t) 0 _ _ i l 0 _ (by simp <;> omega) _ (ld_acc prev 0 0 _ 0 rfl i l _ rfl)
    · exact fun i l => piece t 0 _ (d0_blk m c t) 256 _ _ i l 0 _ (by simp <;> omega) _ (ld_acc prev 0 256 _ 0 rfl i l _ rfl)
    · exact fun i l => piece t 1 _ (d1_blk m c t) 0 _ _ i l 0 _ (by simp <;> omega) _ (ld_acc prev 0 512 _ 0 rfl i l _ rfl)
    · exact fun i l => piece t 1 _ (d1_blk m c t) 256 _ _ i l 1 _ (by simp <;> omega) _ (ld_acc prev 1 0 _ 1 rfl i l _ rfl)
    · exact fun i l => piece t 2 _ (d2_blk m c t) 0 _ _ i l 1 _ (by simp <;> omega) _ (ld_acc prev 1 256 _ 1 rfl i l _ rfl)
    · exact fun i l => piece t 2 _ (d2_blk m c t) 256 _ _ i l 1 _ (by simp <;> omega) _ (ld_acc prev 1 512 _ 1 rfl i l _ rfl)
    · exact fun i l => piece t 3 _ (d3_blk m c t) 0 _ _ i l 2 _ (by simp <;> omega) _ (ld_acc prev 2 0 _ 2 rfl i l _ rfl)
    · exact fun i l => piece t 3 _ (d3_blk m c t) 256 _ _ i l 2 _ (by simp <;> omega) _ (ld_acc prev 2 256 _ 2 rfl i l _ rfl)
    · exact fun i l => piece t 4 _ (d4_blk m c t) 0 _ _ i l 2 _ (by simp <;> omega) _ (ld_acc prev 2 512 _ 2 rfl i l _ rfl)
    · exact fun i l => piece t 4 _ (d4_blk m c t) 256 _ _ i l 3 _ (by simp <;> omega) _ (ld_acc prev 3 0 _ 3 rfl i l _ rfl)
    · exact fun i l => piece t 5 _ (d5_blk m c t) 0 _ _ i l 3 _ (by simp <;> omega) _ (ld_acc prev 3 256 _ 3 rfl i l _ rfl)
    · exact fun i l => piece t 5 _ (d5_blk m c t) 256 _ _ i l 3 _ (by simp <;> omega) _ (ld_acc prev 3 512 _ 3 rfl i l _ rfl)

/-- The weight's running gradient after the last point: all points' terms. -/
theorem last_w (a : Fin 4) (i : Fin 1024) (l : Fin 768) :
    (outsAt0 m c t0_7.val t0_7.isLt).2.2.2.2.2.1 (ix3 a i l) = ∑ p : Fin cfg0.N, wTerm m c p a i l := by
  rw [Pipeline.eq_sum_fin_of_reset_step_apply_last (fun n h => (outsAt0 m c n h).2.2.2.2.2.1) 8 (fun _ => 0)
    (fun p y => wTerm m c p (y 0) (y 1) (y 2)) (fun t h y => first_w t h y) (fun t h y => next_w t h y)
    (le_of_eq N_0) t0_7 rfl (ix3 a i l), zero_add]
  rfl

/-- Second result: the weight's gradient, by chips. -/
theorem final_dw : (dats m 0 c).arrAt 13 (cfgs 0).N
    = val_main_v71 (F := Ideal) (aD0 m c) (aD1 m c) (aD2 m c) (aD3 m c) (aD4 m c) (aD5 m c) (aX m c) (aMod m c) (aG m c) := by
  refine (dats m 0 c).arrAt_eq_of_after_last 13 t0_7 (by decide +kernel) _ fun j => ?_
  blk_simp
  have hl : (outsAt0 m c t0_7.val t0_7.isLt).2.1 = k0_pay2 (outsAt0 m c t0_7.val t0_7.isLt).2.2.2.2.2.1 := by
    rw [outsAt0_C m c t0_7 (by decide) (by decide)]; frame_out
    exact congrArg k0_pay2 ((View.readCov_eq_canon' _ _ _).trans (View.ld_unit_lit _ _ (by decide)))
  rw [after0_13, hl]
  obtain ⟨a, i, l, rfl⟩ : ∃ (a : Fin 4) (i : Fin 1024) (l : Fin 768), j = ix3 a i l := ⟨j 0, j 1, j 2, eq_ix3 j⟩
  pointwise [k0_pay2]
  rw [last_w]
  refine (sum_rows (fun R => hid m c (ix2 R i) * cat m c (ix2 R ⟨a.val * 768 + l.val, by omega⟩))).trans ?_
  unfold hid cat
  generalize hh : val_main_v34 (F := Ideal) (aX m c) (aMod m c) (aG m c) = h
  generalize hc : val_main_v6 (F := Ideal) (aD0 m c) (aD1 m c) (aD2 m c) (aD3 m c) (aD4 m c) (aD5 m c) = d
  pointwise [val_main_v71, val_main_v70, val_main_v69, val_main_v37, val_main_v36, hh, hc]
  exact Fin.sum_fin_congr fun R => mul_comm (G := EReal) _ _

end Cert.Proof.In

end
-- ==== Proof.In.Claims.lean ====
/- The claims about the input projection's gradients: the frames, and the five results equal to the plain program's. -/
module

public import proofs.«01_k».proof.Defs
public import proofs.«01_k».proof.Proof.Finite
public import proofs.«01_k».proof.Proof.In.Value
public import proofs.«01_k».proof.Proof.Gen.In.Frame
public import proofs.«01_k».proof.Proof.Gen.InRefIdeal.Run
public import Idealize.ShloMosaic.Lib.Claim

@[expose] public section

set_option maxRecDepth 16384

noncomputable section

namespace Cert.Proof.In

open Idealize.ShloMosaic Idealize.ShloMosaic.TcCoe Idealize.SL.Sem

theorem frame_kernel : Cert.quiescent_In := fun m ρ _ => Cert.In.Gen.frame m ρ

theorem frame_ideal : Cert.quiescent_InIdeal := fun m ρ _ => Cert.InIdeal.Gen.frame m ρ

theorem frame_reference : Cert.quiescent_InRefIdeal := fun m g _ =>
  (θ_run Cert.InRefIdeal.defs _ _).mono
    (fun r h => ⟨fun c => (h c).2.2.2.2.2, sem_eq_zero_of_no_sems (by decide) r.2⟩) (Cert.InRefIdeal.Value.run m g)

theorem facts_pre : Cert.Pre_in_pre.Facts := by
  constructor <;> decide

/-- The precondition makes the elements of every argument it names real numbers. -/
theorem finite [Cert.Pre_in_pre.Facts] (x0 x1 x2 x3 x4 x5 : FVec Ideal Cert.Pre_in_pre.S2048x512 .bf16)
    (x6 x7 : FVec Ideal Cert.Pre_in_pre.S2048x1024 .f32) (x8 : FVec Ideal Cert.Pre_in_pre.S4x3072 .f32)
    (x9 : FVec Ideal Cert.Pre_in_pre.S4x1024 .f32) (x10 : FVec Ideal Cert.Pre_in_pre.S4x1024x3072 .f32)
    (h : Cert.Pre_in_pre.fn (F := Ideal) x0 x1 x2 x3 x4 x5 x6 x7 x8 x9 x10 = fun _ => 1#1) :
    ((∀ i, IsR (x0 i)) ∧ (∀ i, IsR (x1 i)) ∧ (∀ i, IsR (x2 i)) ∧ (∀ i, IsR (x3 i)) ∧ (∀ i, IsR (x4 i)) ∧ (∀ i, IsR (x5 i)))
      ∧ (∀ i, IsR (x6 i)) ∧ (∀ i, IsR (x8 i)) ∧ (∀ i, IsR (x9 i)) ∧ (∀ i, IsR (x10 i)) := by
  have h := congrFun h (fun k => k.elim0)
  dsimp only [Cert.Pre_in_pre.fn, Cert.Pre_in_pre.fn_part1, Cert.Pre_in_pre.fn_part2, Cert.Pre_in_pre.fn_part3] at h
  obtain ⟨h, e10⟩ := both h
  obtain ⟨h, e9⟩ := both h
  obtain ⟨h, e8⟩ := both h
  obtain ⟨h, e6⟩ := both h
  obtain ⟨h, e5⟩ := both h
  obtain ⟨h, e4⟩ := both h
  obtain ⟨h, e3⟩ := both h
  obtain ⟨h, e2⟩ := both h
  obtain ⟨e0, e1⟩ := both h
  exact ⟨⟨isR_of_all x0 _ _ _ _ _ e0, isR_of_all x1 _ _ _ _ _ e1, isR_of_all x2 _ _ _ _ _ e2, isR_of_all x3 _ _ _ _ _ e3,
    isR_of_all x4 _ _ _ _ _ e4, isR_of_all x5 _ _ _ _ _ e5⟩, isR_of_all x6 _ _ _ _ _ e6, isR_of_all x8 _ _ _ _ _ e8,
    isR_of_all x9 _ _ _ _ _ e9, isR_of_all x10 _ _ _ _ _ e10⟩

theorem frame_ideal_pre [Cert.Pre_in_pre.Facts] : Cert.quiescent_InIdeal_pre_in_pre := fun m ρ _ => Cert.InIdeal.Gen.frame m ρ

theorem frame_reference_pre [Cert.Pre_in_pre.Facts] : Cert.quiescent_InRefIdeal_pre_in_pre := fun m g _ => frame_reference m g trivial

set_option maxHeartbeats 1000000 in
/-- What the kernel's run leaves: the five arrays and the arguments. -/
theorem run_arrays (m : (ℓ : Loc Cert.InIdeal.nD Cert.InIdeal.τ Cert.InIdeal.sig) → Buf (Elt Ideal) ℓ) (g : Dev Cert.InIdeal.nD → PrngReg) :
    θ_run Cert.InIdeal.defs (onTc (τ := Cert.InIdeal.τ) (Cert.InIdeal.main (F := Ideal))) ⟨m, fun _ => 0, g⟩ (fun r => ∀ c : Dev Cert.InIdeal.nD,
      r.2.mem ((c.tc : Thread Cert.InIdeal.nD Cert.InIdeal.τ).loc Cert.InIdeal.main_v5_0) = (Cert.InIdeal.Gen.dats m 0 c).arrAt 12 (Cert.InIdeal.cfgs 0).N
      ∧ r.2.mem ((c.tc : Thread Cert.InIdeal.nD Cert.InIdeal.τ).loc Cert.InIdeal.main_v5_1) = (Cert.InIdeal.Gen.dats m 0 c).arrAt 13 (Cert.InIdeal.cfgs 0).N
      ∧ r.2.mem ((c.tc : Thread Cert.InIdeal.nD Cert.InIdeal.τ).loc Cert.InIdeal.main_v5_2) = (Cert.InIdeal.Gen.dats m 0 c).arrAt 14 (Cert.InIdeal.cfgs 0).N
      ∧ r.2.mem ((c.tc : Thread Cert.InIdeal.nD Cert.InIdeal.τ).loc Cert.InIdeal.main_v5_3) = (Cert.InIdeal.Gen.dats m 0 c).arrAt 15 (Cert.InIdeal.cfgs 0).N
      ∧ r.2.mem ((c.tc : Thread Cert.InIdeal.nD Cert.InIdeal.τ).loc Cert.InIdeal.main_v5_4) = (Cert.InIdeal.Gen.dats m 0 c).arrAt 16 (Cert.InIdeal.cfgs 0).N
      ∧ r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)) :=
  (θ_run _ _ _).mono (fun r h c => ⟨(h.1 c).1 12, (h.1 c).1 13, (h.1 c).1 14, (h.1 c).1 15, (h.1 c).1 16, h.2.1 c⟩)
    (θ_run_and (Cert.InIdeal.Gen.run_main m g) (Cert.InIdeal.Gen.frame m g))

set_option maxHeartbeats 1000000 in
theorem algebraic [Cert.Pre_in_pre.Facts] : Cert.algebraic_InIdeal_InRefIdeal_pre_in_pre := by
  intro m g m' g' hpre hagree
  refine ⟨_, _, _, _, _, run_arrays m g, ?_⟩
  refine (θ_run _ _ _).mono (fun r h c => ?_) (Cert.InRefIdeal.Value.run m' g')
  obtain ⟨h0, h1, h2, h3, h4, h5, h6, h7, h8, h9, h10⟩ := hagree c
  obtain ⟨⟨f0, f1, f2, f3, f4, f5⟩, f6, f8, f9, f10⟩ := finite _ _ _ _ _ _ _ _ _ _ _ (hpre c)
  have f : Finite m c := ⟨fun n => by fin_cases n <;> assumption, f6, f8, f9, f10⟩
  obtain ⟨e0, e1, e2, e3, e4, ha⟩ := h c
  refine ⟨?_, ?_, ?_, ?_, ?_, ha⟩
  · refine e0.trans ((Cert.InRefIdeal.Read.val_main_v68_eq m' c).trans (Eq.trans ?_ (final_dx f).symm))
    exact congr (congr (congr (congr (congr (same_args_6 h0 h1 h2 h3 h4 h5) h6) h7) h8) h9) h10
  · refine e1.trans ((Cert.InRefIdeal.Read.val_main_v71_eq _ _ _ _ _ _ _ _ _).trans (Eq.trans ?_ final_dw.symm))
    exact congr (congr (congr (same_args_6 h0 h1 h2 h3 h4 h5) h6) h8) h9
  · refine e2.trans ((Cert.InRefIdeal.Read.val_main_v72_eq _ _ _ _ _ _ _).trans (Eq.trans ?_ final_dshift.symm))
    exact congr (same_args_6 h0 h1 h2 h3 h4 h5) h10
  · refine e3.trans ((Cert.InRefIdeal.Read.val_main_v73_eq _ _ _ _ _ _ _ _ _).trans (Eq.trans ?_ (final_dscale f).symm))
    exact congr (congr (congr (same_args_6 h0 h1 h2 h3 h4 h5) h6) h9) h10
  · refine e4.trans ((Cert.InRefIdeal.Read.val_main_v74_eq _ _ _ _ _ _ _ _ _).trans (Eq.trans ?_ (final_dg f).symm))
    exact congr (congr (congr (same_args_6 h0 h1 h2 h3 h4 h5) h6) h8) h10

end Cert.Proof.In

end
-- ==== Proof.InFirst.Run.lean ====
/-
  The run of the input projection's backward kernel with the AdamW update of another layer's weights: from every buffer
  at some contents its body runs and leaves every buffer at some contents, at every point of the grid. What the buffers
  hold is forgotten at every point, which is all that the frame needs: the arrays that are only read keep their contents.
-/
module

public import proofs.«01_k».proof.Proof.Gen.InFirstIdeal.Frame.Runs
public import Idealize.ShloMosaic.Lib.Claim

@[expose] public section

set_option maxRecDepth 16384

noncomputable section

namespace Cert.Proof.InFirst

open Cert.InFirstIdeal Cert.InFirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref held at some contents. -/
abbrev some' (c : Dev nD) {sh : Shape} {e : EltTy} (a : Memref sig .tc .vmem sh e) : sProp 𝕄 :=
  iprop(∃ d, owns (c : Thread nD τ) a fullShare d)

/-- A memref held at some contents, from its cells (`some'`, spelt out). -/
theorem some_of_cells (c : Dev nD) {sh : Shape} {e : EltTy} (a : Memref sig .tc .vmem sh e) (f : BufTy.Contents (Elt F) a.view.ty) :
    (a.view.loc (c : Thread nD τ) ↦[a.view.set]{fullShare} f : sProp 𝕄)
      ⊢ iprop(∃ d f, ⌜a.view.read (Elt F) f = d⌝ ∗ a.view.loc (c : Thread nD τ) ↦[a.view.set]{fullShare} f) := by
  iintro H; iexists _; iexists _; isplitr; swap; · iexact H
  ipureintro; rfl

/-- Every buffer of the body at some contents: its windows, then its three accumulators. -/
abbrev buffers (c : Dev nD) (arg1 : Memref sig .tc .vmem S256x512 .bf16) (arg2 : Memref sig .tc .vmem S256x512 .bf16) (arg3 : Memref sig .tc .vmem S256x512 .bf16) (arg4 : Memref sig .tc .vmem S256x512 .bf16) (arg5 : Memref sig .tc .vmem S256x512 .bf16) (arg6 : Memref sig .tc .vmem S256x512 .bf16) (arg7 : Memref sig .tc .vmem S1024x3072 .bf16) (arg8 : Memref sig .tc .vmem S256x1024 .f32) (arg9 : Memref sig .tc .vmem S256x1024 .f32) (arg10 : Memref sig .tc .vmem S1x1x1x1024 .f32) (arg11 : Memref sig .tc .vmem S1x1x1x1024 .f32) (arg12 : Memref sig .tc .vmem S1x1x1024 .f32) (arg13 : Memref sig .tc .vmem S1x128x768 .f32) (arg14 : Memref sig .tc .vmem S1x128x768 .f32) (arg15 : Memref sig .tc .vmem S1x128x768 .f32) (arg16 : Memref sig .tc .vmem S1x128x768 .f32) (arg17 : Memref sig .tc .vmem S1x32x1024 .f32) (arg18 : Memref sig .tc .vmem S1x32x1024 .f32) (arg19 : Memref sig .tc .vmem S1x32x1024 .f32) (arg20 : Memref sig .tc .vmem S1x32x1024 .f32) (arg21 : Memref sig .tc .vmem S256x1024 .f32) (arg22 : Memref sig .tc .vmem S4x1024x768 .bf16) (arg23 : Memref sig .tc .vmem S1x1024 .f32) (arg24 : Memref sig .tc .vmem S1x1024 .f32) (arg25 : Memref sig .tc .vmem S1x1024 .f32) (arg26 : Memref sig .tc .vmem S1x128x768 .f32) (arg27 : Memref sig .tc .vmem S1x128x768 .f32) (arg28 : Memref sig .tc .vmem S1x128x768 .f32) (arg29 : Memref sig .tc .vmem S1x128x768 .f32) (arg30 : Memref sig .tc .vmem S1x32x1024 .f32) (arg31 : Memref sig .tc .vmem S1x32x1024 .f32) (arg32 : Memref sig .tc .vmem S1x32x1024 .f32) (arg33 : Memref sig .tc .vmem S1x32x1024 .f32) (arg34 : Memref sig .tc .vmem S4x1024x768 .f32) (arg35 : Memref sig .tc .vmem S8x1024 .f32) (arg36 : Memref sig .tc .vmem S8x1024 .f32) : sProp 𝕄 :=
  iprop(some' c arg1 ∗ some' c arg2 ∗ some' c arg3 ∗ some' c arg4 ∗ some' c arg5 ∗ some' c arg6 ∗ some' c arg7 ∗ some' c arg8 ∗ some' c arg9 ∗ some' c arg10 ∗ some' c arg11 ∗ some' c arg12 ∗ some' c arg13 ∗ some' c arg14 ∗ some' c arg15 ∗ some' c arg16 ∗ some' c arg17 ∗ some' c arg18 ∗ some' c arg19 ∗ some' c arg20 ∗ some' c arg21 ∗ some' c arg22 ∗ some' c arg23 ∗ some' c arg24 ∗ some' c arg25 ∗ some' c arg26 ∗ some' c arg27 ∗ some' c arg28 ∗ some' c arg29 ∗ some' c arg30 ∗ some' c arg31 ∗ some' c arg32 ∗ some' c arg33 ∗ some' c arg34 ∗ some' c arg35 ∗ some' c arg36)

/-- Which of the body's conditional parts a point runs: the first point clears the accumulators, the last one writes the
    sums out. -/
abbrev Part (i : grid0.Coords) : Prop := (cond0_0 i ∧ ¬cond0_1 i) ∨ (¬cond0_0 i ∧ ¬cond0_1 i) ∨ (¬cond0_0 i ∧ cond0_1 i)

set_option maxHeartbeats 16000000 in
/-- The body runs from every buffer at some contents and leaves every buffer so. -/
theorem run_body (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1024x3072 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1x1x1024 .f32) (harg10 : arg10.IsWhole) (arg11 : Memref sig .tc .vmem S1x1x1x1024 .f32) (harg11 : arg11.IsWhole) (arg12 : Memref sig .tc .vmem S1x1x1024 .f32) (harg12 : arg12.IsWhole) (arg13 : Memref sig .tc .vmem S1x128x768 .f32) (harg13 : arg13.IsWhole) (arg14 : Memref sig .tc .vmem S1x128x768 .f32) (harg14 : arg14.IsWhole) (arg15 : Memref sig .tc .vmem S1x128x768 .f32) (harg15 : arg15.IsWhole) (arg16 : Memref sig .tc .vmem S1x128x768 .f32) (harg16 : arg16.IsWhole) (arg17 : Memref sig .tc .vmem S1x32x1024 .f32) (harg17 : arg17.IsWhole) (arg18 : Memref sig .tc .vmem S1x32x1024 .f32) (harg18 : arg18.IsWhole) (arg19 : Memref sig .tc .vmem S1x32x1024 .f32) (harg19 : arg19.IsWhole) (arg20 : Memref sig .tc .vmem S1x32x1024 .f32) (harg20 : arg20.IsWhole) (arg21 : Memref sig .tc .vmem S256x1024 .f32) (harg21 : arg21.IsWhole) (arg22 : Memref sig .tc .vmem S4x1024x768 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x128x768 .f32) (harg26 : arg26.IsWhole) (arg27 : Memref sig .tc .vmem S1x128x768 .f32) (harg27 : arg27.IsWhole) (arg28 : Memref sig .tc .vmem S1x128x768 .f32) (harg28 : arg28.IsWhole) (arg29 : Memref sig .tc .vmem S1x128x768 .f32) (harg29 : arg29.IsWhole) (arg30 : Memref sig .tc .vmem S1x32x1024 .f32) (harg30 : arg30.IsWhole) (arg31 : Memref sig .tc .vmem S1x32x1024 .f32) (harg31 : arg31.IsWhole) (arg32 : Memref sig .tc .vmem S1x32x1024 .f32) (harg32 : arg32.IsWhole) (arg33 : Memref sig .tc .vmem S1x32x1024 .f32) (harg33 : arg33.IsWhole) (arg34 : Memref sig .tc .vmem S4x1024x768 .f32) (harg34 : arg34.IsWhole) (arg35 : Memref sig .tc .vmem S8x1024 .f32) (harg35 : arg35.IsWhole) (arg36 : Memref sig .tc .vmem S8x1024 .f32) (harg36 : arg36.IsWhole)
    (h : Part i) (E : Set ℕ) (K : PUnit → sProp 𝕄) :
    iprop(buffers (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36
        ∗ (buffers (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 -∗ K ⟨⟩))
      ⊢ wp frame (wpE (defs₀ (F := F)) Variants.none c none) E
          (cc0_in_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_in_bwd_eq_skeleton]; unfold cc0_in_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold buffers some' owns
  rcases h with ⟨hc0, hc1⟩ | ⟨hc0, hc1⟩ | ⟨hc0, hc1⟩
  all_goals
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩⟩, Hk⟩
    sl_exec (disch := first | sl_exact hc0 | sl_exact hc1)
    sl_step
    iapply Hk
    isplitl [H0]; · iapply some_of_cells; iexact H0
    isplitl [H1]; · iapply some_of_cells; iexact H1
    isplitl [H2]; · iapply some_of_cells; iexact H2
    isplitl [H3]; · iapply some_of_cells; iexact H3
    isplitl [H4]; · iapply some_of_cells; iexact H4
    isplitl [H5]; · iapply some_of_cells; iexact H5
    isplitl [H6]; · iapply some_of_cells; iexact H6
    isplitl [H7]; · iapply some_of_cells; iexact H7
    isplitl [H8]; · iapply some_of_cells; iexact H8
    isplitl [H9]; · iapply some_of_cells; iexact H9
    isplitl [H10]; · iapply some_of_cells; iexact H10
    isplitl [H11]; · iapply some_of_cells; iexact H11
    isplitl [H12]; · iapply some_of_cells; iexact H12
    isplitl [H13]; · iapply some_of_cells; iexact H13
    isplitl [H14]; · iapply some_of_cells; iexact H14
    isplitl [H15]; · iapply some_of_cells; iexact H15
    isplitl [H16]; · iapply some_of_cells; iexact H16
    isplitl [H17]; · iapply some_of_cells; iexact H17
    isplitl [H18]; · iapply some_of_cells; iexact H18
    isplitl [H19]; · iapply some_of_cells; iexact H19
    isplitl [H20]; · iapply some_of_cells; iexact H20
    isplitl [H21]; · iapply some_of_cells; iexact H21
    isplitl [H22]; · iapply some_of_cells; iexact H22
    isplitl [H23]; · iapply some_of_cells; iexact H23
    isplitl [H24]; · iapply some_of_cells; iexact H24
    isplitl [H25]; · iapply some_of_cells; iexact H25
    isplitl [H26]; · iapply some_of_cells; iexact H26
    isplitl [H27]; · iapply some_of_cells; iexact H27
    isplitl [H28]; · iapply some_of_cells; iexact H28
    isplitl [H29]; · iapply some_of_cells; iexact H29
    isplitl [H30]; · iapply some_of_cells; iexact H30
    isplitl [H31]; · iapply some_of_cells; iexact H31
    isplitl [H32]; · iapply some_of_cells; iexact H32
    isplitl [H33]; · iapply some_of_cells; iexact H33
    isplitl [H34]; · iapply some_of_cells; iexact H34
    iapply some_of_cells; iexact H35

end Cert.Proof.InFirst

end
-- ==== Proof.InFirst.Frame.lean ====
/-
  The frame of the input projection's backward kernel with the AdamW update of another layer's weights: the program runs,
  its argument arrays end unchanged and every counter at zero. Every window and accumulator is forgotten at every point.
-/
module

public import proofs.«01_k».proof.Proof.InFirst.Run

@[expose] public section

set_option maxRecDepth 16384

noncomputable section

namespace Cert.Proof.InFirst

open Cert.InFirstIdeal Cert.InFirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays at the region's entry; what a buffer holds after a point is named nowhere (`forget`). -/
def dats (_p : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q w := Pipeline.shareOf spec0 w
  owed _ := 0

/-- Every window is forgotten. -/
abbrev forget : Fin cfg0.W → Bool := fun _ => true

/-- Which conditional parts each point runs. -/
theorem part_of (t : Fin cfg0.N) : Part (grid0.coords t) := by
  unfold Part
  rw [hcond0_0 t, hcond0_1 t]
  omega

/-- What the body takes at a point and gives back. -/
def bodyHeld (c : Dev nD) (t : Fin cfg0.N) : sProp 𝕄 :=
  iprop(Pipeline.ΦA spec0 c ∗ (dats m 0 c).owesAt () t.castSucc
    ∗ (∃ X, owns (c : Thread nD τ) (ms0_0 t) fullShare X)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X)
    ∗ (∃ X, owns (c : Thread nD τ) (ms0_13 t) fullShare X)
    ∗ (∃ X, owns (c : Thread nD τ) (ms0_14 t) fullShare X)
    ∗ (∃ X, owns (c : Thread nD τ) (ms0_15 t) fullShare X)
    ∗ (∃ X, owns (c : Thread nD τ) (ms0_16 t) fullShare X)
    ∗ (∃ X, owns (c : Thread nD τ) (ms0_17 t) fullShare X)
    ∗ (∃ X, owns (c : Thread nD τ) (ms0_18 t) fullShare X)
    ∗ (∃ X, owns (c : Thread nD τ) (ms0_19 t) fullShare X)
    ∗ (∃ X, owns (c : Thread nD τ) (ms0_20 t) fullShare X)
    ∗ (∃ X, owns (c : Thread nD τ) (ms0_21 t) fullShare X)
    ∗ (∃ X, owns (c : Thread nD τ) (ms0_22 t) fullShare X)
    ∗ (∃ X, owns (c : Thread nD τ) (ms0_23 t) fullShare X)
    ∗ (∃ X, owns (c : Thread nD τ) (ms0_24 t) fullShare X)
    ∗ (∃ X, owns (c : Thread nD τ) (ms0_25 t) fullShare X)
    ∗ (∃ X, owns (c : Thread nD τ) (ms0_26 t) fullShare X)
    ∗ (∃ X, owns (c : Thread nD τ) (ms0_27 t) fullShare X)
    ∗ (∃ X, owns (c : Thread nD τ) (ms0_28 t) fullShare X)
    ∗ (∃ X, owns (c : Thread nD τ) (ms0_29 t) fullShare X)
    ∗ (∃ X, owns (c : Thread nD τ) (ms0_30 t) fullShare X)
    ∗ (∃ X, owns (c : Thread nD τ) (ms0_31 t) fullShare X)
    ∗ (∃ X, owns (c : Thread nD τ) (ms0_32 t) fullShare X))

set_option maxHeartbeats 4000000 in
/-- The body at every point. -/
theorem sound_body (c : Dev nD) (t : Fin cfg0.N) :
    bodyHeld m c t ⊢ wp frame (wpE (defs₀ (F := F)) Variants.none c none) Set.univ (bodyAt0 t) (fun _ => bodyHeld m c t) := by
  unfold bodyHeld bodyAt0
  rw [PhiA0_eq]
  iintro ⟨⟨⟨S0, S1, S2⟩, Hg⟩, Ho, H0, H1, H2, H3, H4, H5, H6, H7, H8, H9, H10, H11, H12, H13, H14, H15, H16, H17, H18, H19, H20, H21, H22, H23, H24, H25, H26, H27, H28, H29, H30, H31, H32⟩
  iapply (run_body (F := F) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (part_of t) Set.univ _)
  isplitl [H0 H1 H2 H3 H4 H5 H6 H7 H8 H9 H10 H11 H12 H13 H14 H15 H16 H17 H18 H19 H20 H21 H22 H23 H24 H25 H26 H27 H28 H29 H30 H31 H32 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [S0]; · iexact S0
    isplitl [S1]; · iexact S1
    iexact S2
  iintro ⟨H0, H1, H2, H3, H4, H5, H6, H7, H8, H9, H10, H11, H12, H13, H14, H15, H16, H17, H18, H19, H20, H21, H22, H23, H24, H25, H26, H27, H28, H29, H30, H31, H32, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body as the region calls it. -/
theorem defs_row (t : Fin cfg0.N) : defs₀ (F := F) .tc cfg0.body (cfg0.bodyArgs t (cfg0.slots t)) = bodyAt0 t := by
  unfold defs₀; rw [Defs.onTc_tc]

set_option maxHeartbeats 4000000 in
/-- The body obligation at every point. -/
theorem body_obligation (c : Dev nD) : BodyObligation (dats (F := F) m 0 c) (defs₀ (F := F)) Variants.none () Set.univ forget := fun t => by
  dsimp only [forget]; rw [bigSep_W0, defs_row]
  exact triple_restated (sound_body m c t) rfl .rfl fun _ => .rfl

set_option backward.isDefEq.respectTransparency.types false in
/-- The program runs, and every counter ends at zero. -/
theorem run_quiescent : θ_run defs (onTc (τ := τ) (main (F := F))) (s₀ m ρ)
    (fun r => RDat.FramePost cfg0 (fun c => (dats m 0 c).toRForget forget) (V m) r ∧ r.2.sem = fun _ => 0) :=
  Pipeline.θ_run_frame_forget_shared (Q' := _) cfgs (dats m) (0 : Fin 1) launch₀0 defs₀ Variants.none forget m ρ main
    (hbody := fun c => (body_obligation m c).loose) (hq := fun _ _ _ => rfl)
    (howed := fun _ _ => rfl) (V := V m) (hmain := hmain m Variants.none) (hA := fun _ _ => rfl) (hΦ := fun _ _ => rfl)

set_option maxHeartbeats 2000000 in
/-- The argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  (θ_run defs _ _).mono (fun r hr => ⟨fun c => by
    obtain ⟨h, -⟩ := hr
    exact ⟨(h.arr_in c 0 rfl).trans (V_main_arg0 m c),
      (h.arr_in c 1 rfl).trans (V_main_arg1 m c),
      (h.arr_in c 2 rfl).trans (V_main_arg2 m c),
      (h.arr_in c 3 rfl).trans (V_main_arg3 m c),
      (h.arr_in c 4 rfl).trans (V_main_arg4 m c),
      (h.arr_in c 5 rfl).trans (V_main_arg5 m c),
      (h.arr_in c 7 rfl).trans (V_main_arg6 m c),
      (h.arr_in c 8 rfl).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (h.arr_in c 12 rfl).trans (V_main_arg11 m c),
      (h.arr_in c 13 rfl).trans (V_main_arg12 m c),
      (h.arr_in c 14 rfl).trans (V_main_arg13 m c),
      (h.arr_in c 15 rfl).trans (V_main_arg14 m c),
      (h.arr_in c 16 rfl).trans (V_main_arg15 m c),
      (h.arr_in c 17 rfl).trans (V_main_arg16 m c),
      (h.arr_in c 18 rfl).trans (V_main_arg17 m c),
      (h.arr_in c 19 rfl).trans (V_main_arg18 m c)⟩, hr.2⟩) (run_quiescent m ρ)

end Cert.Proof.InFirst

end
-- ==== Proof.InFirst.Claims.lean ====
/- The claims about the input projection's backward kernel with the AdamW update of another layer's weights: the frames. -/
module

public import proofs.«01_k».proof.Defs
public import proofs.«01_k».proof.Proof.InFirst.Frame
public import proofs.«01_k».proof.Proof.Gen.InFirst
public import proofs.«01_k».proof.Proof.Gen.InFirstRefIdeal.Run
public import Idealize.ShloMosaic.Lib.Claim

@[expose] public section

set_option maxRecDepth 16384

noncomputable section

namespace Cert.Proof.InFirst

open Idealize.ShloMosaic Idealize.ShloMosaic.TcCoe Idealize.SL.Sem

/-- The run over the words. The two printed programs differ in nothing but their names. -/
abbrev RunsOverBits : Prop := ∀ (m : (ℓ : Loc Cert.InFirstIdeal.nD Cert.InFirstIdeal.τ Cert.InFirstIdeal.sig) → Buf (Elt Bits) ℓ) (ρ : Dev Cert.InFirstIdeal.nD → PrngReg), True →
    θ_run (Cert.InFirstIdeal.defs (F := Bits)) (onTc (τ := Cert.InFirstIdeal.τ) (Cert.InFirstIdeal.main (F := Bits))) ⟨m, fun _ => 0, ρ⟩ (fun r => (∀ c : Dev Cert.InFirstIdeal.nD,
      r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
      ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
      ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
      ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3)
      ∧ r.2.mem ((c.tc : Thread Cert.InFirstIdeal.nD Cert.InFirstIdeal.τ).loc Cert.InFirstIdeal.main_arg4) = m ((c.tc : Thread Cert.InFirstIdeal.nD Cert.InFirstIdeal.τ).loc Cert.InFirstIdeal.main_arg4)
      ∧ r.2.mem ((c.tc : Thread Cert.InFirstIdeal.nD Cert.InFirstIdeal.τ).loc Cert.InFirstIdeal.main_arg5) = m ((c.tc : Thread Cert.InFirstIdeal.nD Cert.InFirstIdeal.τ).loc Cert.InFirstIdeal.main_arg5)
      ∧ r.2.mem ((c.tc : Thread Cert.InFirstIdeal.nD Cert.InFirstIdeal.τ).loc Cert.InFirstIdeal.main_arg6) = m ((c.tc : Thread Cert.InFirstIdeal.nD Cert.InFirstIdeal.τ).loc Cert.InFirstIdeal.main_arg6)
      ∧ r.2.mem ((c.tc : Thread Cert.InFirstIdeal.nD Cert.InFirstIdeal.τ).loc Cert.InFirstIdeal.main_arg7) = m ((c.tc : Thread Cert.InFirstIdeal.nD Cert.InFirstIdeal.τ).loc Cert.InFirstIdeal.main_arg7)
      ∧ r.2.mem ((c.tc : Thread Cert.InFirstIdeal.nD Cert.InFirstIdeal.τ).loc Cert.InFirstIdeal.main_arg8) = m ((c.tc : Thread Cert.InFirstIdeal.nD Cert.InFirstIdeal.τ).loc Cert.InFirstIdeal.main_arg8)
      ∧ r.2.mem ((c.tc : Thread Cert.InFirstIdeal.nD Cert.InFirstIdeal.τ).loc Cert.InFirstIdeal.main_arg9) = m ((c.tc : Thread Cert.InFirstIdeal.nD Cert.InFirstIdeal.τ).loc Cert.InFirstIdeal.main_arg9)
      ∧ r.2.mem ((c.tc : Thread Cert.InFirstIdeal.nD Cert.InFirstIdeal.τ).loc Cert.InFirstIdeal.main_arg10) = m ((c.tc : Thread Cert.InFirstIdeal.nD Cert.InFirstIdeal.τ).loc Cert.InFirstIdeal.main_arg10)
      ∧ r.2.mem ((c.tc : Thread Cert.InFirstIdeal.nD Cert.InFirstIdeal.τ).loc Cert.InFirstIdeal.main_arg11) = m ((c.tc : Thread Cert.InFirstIdeal.nD Cert.InFirstIdeal.τ).loc Cert.InFirstIdeal.main_arg11)
      ∧ r.2.mem ((c.tc : Thread Cert.InFirstIdeal.nD Cert.InFirstIdeal.τ).loc Cert.InFirstIdeal.main_arg12) = m ((c.tc : Thread Cert.InFirstIdeal.nD Cert.InFirstIdeal.τ).loc Cert.InFirstIdeal.main_arg12)
      ∧ r.2.mem ((c.tc : Thread Cert.InFirstIdeal.nD Cert.InFirstIdeal.τ).loc Cert.InFirstIdeal.main_arg13) = m ((c.tc : Thread Cert.InFirstIdeal.nD Cert.InFirstIdeal.τ).loc Cert.InFirstIdeal.main_arg13)
      ∧ r.2.mem ((c.tc : Thread Cert.InFirstIdeal.nD Cert.InFirstIdeal.τ).loc Cert.InFirstIdeal.main_arg14) = m ((c.tc : Thread Cert.InFirstIdeal.nD Cert.InFirstIdeal.τ).loc Cert.InFirstIdeal.main_arg14)
      ∧ r.2.mem ((c.tc : Thread Cert.InFirstIdeal.nD Cert.InFirstIdeal.τ).loc Cert.InFirstIdeal.main_arg15) = m ((c.tc : Thread Cert.InFirstIdeal.nD Cert.InFirstIdeal.τ).loc Cert.InFirstIdeal.main_arg15)
      ∧ r.2.mem ((c.tc : Thread Cert.InFirstIdeal.nD Cert.InFirstIdeal.τ).loc Cert.InFirstIdeal.main_arg16) = m ((c.tc : Thread Cert.InFirstIdeal.nD Cert.InFirstIdeal.τ).loc Cert.InFirstIdeal.main_arg16)
      ∧ r.2.mem ((c.tc : Thread Cert.InFirstIdeal.nD Cert.InFirstIdeal.τ).loc Cert.InFirstIdeal.main_arg17) = m ((c.tc : Thread Cert.InFirstIdeal.nD Cert.InFirstIdeal.τ).loc Cert.InFirstIdeal.main_arg17)
      ∧ r.2.mem ((c.tc : Thread Cert.InFirstIdeal.nD Cert.InFirstIdeal.τ).loc Cert.InFirstIdeal.main_arg18) = m ((c.tc : Thread Cert.InFirstIdeal.nD Cert.InFirstIdeal.τ).loc Cert.InFirstIdeal.main_arg18))
      ∧ r.2.sem = fun _ => 0)
theorem runs_over_bits : RunsOverBits := fun m ρ _ => frame_any (F := Bits) m ρ
theorem same_program : RunsOverBits = @Cert.quiescent_InFirst Cert.InFirst.Gen.facts := by sl_kernel_rfl
theorem frame_kernel : Cert.quiescent_InFirst := cast same_program runs_over_bits

theorem frame_ideal : Cert.quiescent_InFirstIdeal := fun m ρ _ => frame_any m ρ

theorem frame_reference : Cert.quiescent_InFirstRefIdeal := fun m g _ =>
  (θ_run Cert.InFirstRefIdeal.defs _ _).mono
    (fun r h => ⟨fun c => (h c).2.2.2.2.2.2.2.2.2.2.2.2.2, sem_eq_zero_of_no_sems (by decide) r.2⟩) (Cert.InFirstRefIdeal.Value.run m g)

end Cert.Proof.InFirst

end
-- ==== Proof.InLast.Run.lean ====
/-
  The run of the input projection's backward kernel with the AdamW update of another layer's weights into shared
  arrays: from every buffer at some contents its body runs and leaves every buffer at some contents, at every point of the grid. What the buffers
  hold is forgotten at every point, which is all that the frame needs: the arrays that are only read keep their contents.
-/
module

public import proofs.«01_k».proof.Proof.Gen.InLastIdeal.Frame.Runs
public import Idealize.ShloMosaic.Lib.Claim

@[expose] public section

set_option maxRecDepth 16384

noncomputable section

namespace Cert.Proof.InLast

open Cert.InLastIdeal Cert.InLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref held at some contents. -/
abbrev some' (c : Dev nD) {sh : Shape} {e : EltTy} (a : Memref sig .tc .vmem sh e) : sProp 𝕄 :=
  iprop(∃ d, owns (c : Thread nD τ) a fullShare d)

/-- A memref held at some contents, from its cells (`some'`, spelt out). -/
theorem some_of_cells (c : Dev nD) {sh : Shape} {e : EltTy} (a : Memref sig .tc .vmem sh e) (f : BufTy.Contents (Elt F) a.view.ty) :
    (a.view.loc (c : Thread nD τ) ↦[a.view.set]{fullShare} f : sProp 𝕄)
      ⊢ iprop(∃ d f, ⌜a.view.read (Elt F) f = d⌝ ∗ a.view.loc (c : Thread nD τ) ↦[a.view.set]{fullShare} f) := by
  iintro H; iexists _; iexists _; isplitr; swap; · iexact H
  ipureintro; rfl

/-- Every buffer of the body at some contents: its windows, then its three accumulators. -/
abbrev buffers (c : Dev nD) (arg1 : Memref sig .tc .vmem S256x512 .bf16) (arg2 : Memref sig .tc .vmem S256x512 .bf16) (arg3 : Memref sig .tc .vmem S256x512 .bf16) (arg4 : Memref sig .tc .vmem S256x512 .bf16) (arg5 : Memref sig .tc .vmem S256x512 .bf16) (arg6 : Memref sig .tc .vmem S256x512 .bf16) (arg7 : Memref sig .tc .vmem S1024x3072 .bf16) (arg8 : Memref sig .tc .vmem S256x1024 .f32) (arg9 : Memref sig .tc .vmem S256x1024 .f32) (arg10 : Memref sig .tc .vmem S1x1x1x1024 .f32) (arg11 : Memref sig .tc .vmem S1x1x1x1024 .f32) (arg12 : Memref sig .tc .vmem S1x1x1024 .f32) (arg13 : Memref sig .tc .vmem S1x128x768 .f32) (arg14 : Memref sig .tc .vmem S1x128x768 .f32) (arg15 : Memref sig .tc .vmem S1x128x768 .f32) (arg16 : Memref sig .tc .vmem S1x128x768 .f32) (arg17 : Memref sig .tc .vmem S1x32x1024 .f32) (arg18 : Memref sig .tc .vmem S1x32x1024 .f32) (arg19 : Memref sig .tc .vmem S1x32x1024 .f32) (arg20 : Memref sig .tc .vmem S1x32x1024 .f32) (arg29 : Memref sig .tc .vmem S256x1024 .f32) (arg30 : Memref sig .tc .vmem S4x1024x768 .bf16) (arg31 : Memref sig .tc .vmem S1x1024 .f32) (arg32 : Memref sig .tc .vmem S1x1024 .f32) (arg33 : Memref sig .tc .vmem S1x1024 .f32) (arg34 : Memref sig .tc .vmem S1x128x768 .f32) (arg35 : Memref sig .tc .vmem S1x128x768 .f32) (arg36 : Memref sig .tc .vmem S1x128x768 .f32) (arg37 : Memref sig .tc .vmem S1x128x768 .f32) (arg38 : Memref sig .tc .vmem S1x32x1024 .f32) (arg39 : Memref sig .tc .vmem S1x32x1024 .f32) (arg40 : Memref sig .tc .vmem S1x32x1024 .f32) (arg41 : Memref sig .tc .vmem S1x32x1024 .f32) (arg42 : Memref sig .tc .vmem S4x1024x768 .f32) (arg43 : Memref sig .tc .vmem S8x1024 .f32) (arg44 : Memref sig .tc .vmem S8x1024 .f32) : sProp 𝕄 :=
  iprop(some' c arg1 ∗ some' c arg2 ∗ some' c arg3 ∗ some' c arg4 ∗ some' c arg5 ∗ some' c arg6 ∗ some' c arg7 ∗ some' c arg8 ∗ some' c arg9 ∗ some' c arg10 ∗ some' c arg11 ∗ some' c arg12 ∗ some' c arg13 ∗ some' c arg14 ∗ some' c arg15 ∗ some' c arg16 ∗ some' c arg17 ∗ some' c arg18 ∗ some' c arg19 ∗ some' c arg20 ∗ some' c arg29 ∗ some' c arg30 ∗ some' c arg31 ∗ some' c arg32 ∗ some' c arg33 ∗ some' c arg34 ∗ some' c arg35 ∗ some' c arg36 ∗ some' c arg37 ∗ some' c arg38 ∗ some' c arg39 ∗ some' c arg40 ∗ some' c arg41 ∗ some' c arg42 ∗ some' c arg43 ∗ some' c arg44)

/-- Which of the body's conditional parts a point runs: the first point clears the accumulators, the last one writes the
    sums out. -/
abbrev Part (i : grid0.Coords) : Prop := (cond0_0 i ∧ ¬cond0_1 i) ∨ (¬cond0_0 i ∧ ¬cond0_1 i) ∨ (¬cond0_0 i ∧ cond0_1 i)

set_option maxHeartbeats 16000000 in
/-- The body runs from every buffer at some contents and leaves every buffer so. -/
theorem run_body (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1024x3072 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1x1x1024 .f32) (harg10 : arg10.IsWhole) (arg11 : Memref sig .tc .vmem S1x1x1x1024 .f32) (harg11 : arg11.IsWhole) (arg12 : Memref sig .tc .vmem S1x1x1024 .f32) (harg12 : arg12.IsWhole) (arg13 : Memref sig .tc .vmem S1x128x768 .f32) (harg13 : arg13.IsWhole) (arg14 : Memref sig .tc .vmem S1x128x768 .f32) (harg14 : arg14.IsWhole) (arg15 : Memref sig .tc .vmem S1x128x768 .f32) (harg15 : arg15.IsWhole) (arg16 : Memref sig .tc .vmem S1x128x768 .f32) (harg16 : arg16.IsWhole) (arg17 : Memref sig .tc .vmem S1x32x1024 .f32) (harg17 : arg17.IsWhole) (arg18 : Memref sig .tc .vmem S1x32x1024 .f32) (harg18 : arg18.IsWhole) (arg19 : Memref sig .tc .vmem S1x32x1024 .f32) (harg19 : arg19.IsWhole) (arg20 : Memref sig .tc .vmem S1x32x1024 .f32) (harg20 : arg20.IsWhole) (arg21 : Memref sig .tc .hbm S4x1024x768 .f32) (harg21 : arg21.IsWhole) (arg22 : Memref sig .tc .hbm S4x1024x768 .f32) (harg22 : arg22.IsWhole) (arg23 : Memref sig .tc .hbm S4x1024x768 .f32) (harg23 : arg23.IsWhole) (arg24 : Memref sig .tc .hbm S4x1024x768 .f32) (harg24 : arg24.IsWhole) (arg25 : Memref sig .tc .hbm S4x256x1024 .f32) (harg25 : arg25.IsWhole) (arg26 : Memref sig .tc .hbm S4x256x1024 .f32) (harg26 : arg26.IsWhole) (arg27 : Memref sig .tc .hbm S4x256x1024 .f32) (harg27 : arg27.IsWhole) (arg28 : Memref sig .tc .hbm S4x256x1024 .f32) (harg28 : arg28.IsWhole) (arg29 : Memref sig .tc .vmem S256x1024 .f32) (harg29 : arg29.IsWhole) (arg30 : Memref sig .tc .vmem S4x1024x768 .bf16) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x128x768 .f32) (harg34 : arg34.IsWhole) (arg35 : Memref sig .tc .vmem S1x128x768 .f32) (harg35 : arg35.IsWhole) (arg36 : Memref sig .tc .vmem S1x128x768 .f32) (harg36 : arg36.IsWhole) (arg37 : Memref sig .tc .vmem S1x128x768 .f32) (harg37 : arg37.IsWhole) (arg38 : Memref sig .tc .vmem S1x32x1024 .f32) (harg38 : arg38.IsWhole) (arg39 : Memref sig .tc .vmem S1x32x1024 .f32) (harg39 : arg39.IsWhole) (arg40 : Memref sig .tc .vmem S1x32x1024 .f32) (harg40 : arg40.IsWhole) (arg41 : Memref sig .tc .vmem S1x32x1024 .f32) (harg41 : arg41.IsWhole) (arg42 : Memref sig .tc .vmem S4x1024x768 .f32) (harg42 : arg42.IsWhole) (arg43 : Memref sig .tc .vmem S8x1024 .f32) (harg43 : arg43.IsWhole) (arg44 : Memref sig .tc .vmem S8x1024 .f32) (harg44 : arg44.IsWhole)
    (h : Part i) (E : Set ℕ) (K : PUnit → sProp 𝕄) :
    iprop(buffers (F := F) c arg1 arg2 arg3 arg4 arg5 arg6 arg7 arg8 arg9 arg10 arg11 arg12 arg13 arg14 arg15 arg16 arg17 arg18 arg19 arg20 arg29 arg30 arg31 arg32 arg33 arg34 arg35 arg36 arg37 arg38 arg39 arg40 arg41 arg42 arg43 arg44
        ∗ (buffers (F := F) c arg1 arg2 arg3 arg4 arg5 arg6 arg7 arg8 arg9 arg10 arg11 arg12 arg13 arg14 arg15 arg16 arg17 arg18 arg19 arg20 arg29 arg30 arg31 arg32 arg33 arg34 arg35 arg36 arg37 arg38 arg39 arg40 arg41 arg42 arg43 arg44 -∗ K ⟨⟩))
      ⊢ wp frame (wpE (defs₀ (F := F)) Variants.none c none) E
          (cc0_in_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_in_bwd_eq_skeleton]; unfold cc0_in_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold buffers some' owns
  rcases h with ⟨hc0, hc1⟩ | ⟨hc0, hc1⟩ | ⟨hc0, hc1⟩
  all_goals
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩⟩, Hk⟩
    sl_exec (disch := first | sl_exact hc0 | sl_exact hc1)
    sl_step
    iapply Hk
    isplitl [H0]; · iapply some_of_cells; iexact H0
    isplitl [H1]; · iapply some_of_cells; iexact H1
    isplitl [H2]; · iapply some_of_cells; iexact H2
    isplitl [H3]; · iapply some_of_cells; iexact H3
    isplitl [H4]; · iapply some_of_cells; iexact H4
    isplitl [H5]; · iapply some_of_cells; iexact H5
    isplitl [H6]; · iapply some_of_cells; iexact H6
    isplitl [H7]; · iapply some_of_cells; iexact H7
    isplitl [H8]; · iapply some_of_cells; iexact H8
    isplitl [H9]; · iapply some_of_cells; iexact H9
    isplitl [H10]; · iapply some_of_cells; iexact H10
    isplitl [H11]; · iapply some_of_cells; iexact H11
    isplitl [H12]; · iapply some_of_cells; iexact H12
    isplitl [H13]; · iapply some_of_cells; iexact H13
    isplitl [H14]; · iapply some_of_cells; iexact H14
    isplitl [H15]; · iapply some_of_cells; iexact H15
    isplitl [H16]; · iapply some_of_cells; iexact H16
    isplitl [H17]; · iapply some_of_cells; iexact H17
    isplitl [H18]; · iapply some_of_cells; iexact H18
    isplitl [H19]; · iapply some_of_cells; iexact H19
    isplitl [H20]; · iapply some_of_cells; iexact H20
    isplitl [H21]; · iapply some_of_cells; iexact H21
    isplitl [H22]; · iapply some_of_cells; iexact H22
    isplitl [H23]; · iapply some_of_cells; iexact H23
    isplitl [H24]; · iapply some_of_cells; iexact H24
    isplitl [H25]; · iapply some_of_cells; iexact H25
    isplitl [H26]; · iapply some_of_cells; iexact H26
    isplitl [H27]; · iapply some_of_cells; iexact H27
    isplitl [H28]; · iapply some_of_cells; iexact H28
    isplitl [H29]; · iapply some_of_cells; iexact H29
    isplitl [H30]; · iapply some_of_cells; iexact H30
    isplitl [H31]; · iapply some_of_cells; iexact H31
    isplitl [H32]; · iapply some_of_cells; iexact H32
    isplitl [H33]; · iapply some_of_cells; iexact H33
    isplitl [H34]; · iapply some_of_cells; iexact H34
    iapply some_of_cells; iexact H35

end Cert.Proof.InLast

end
-- ==== Proof.InLast.Frame.lean ====
/-
  The frame of the input projection's backward kernel with the AdamW update of another layer's weights into shared
  arrays: the program runs, its argument arrays end unchanged and every counter at zero. Every window and accumulator is forgotten at every point.
-/
module

public import proofs.«01_k».proof.Proof.InLast.Run

@[expose] public section

set_option maxRecDepth 16384

noncomputable section

namespace Cert.Proof.InLast

open Cert.InLastIdeal Cert.InLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays at the region's entry; what a buffer holds after a point is named nowhere (`forget`). -/
def dats (_p : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q w := Pipeline.shareOf spec0 w
  owed _ := 0

/-- Every window is forgotten. -/
abbrev forget : Fin cfg0.W → Bool := fun _ => true

/-- Which conditional parts each point runs. -/
theorem part_of (t : Fin cfg0.N) : Part (grid0.coords t) := by
  unfold Part
  rw [hcond0_0 t, hcond0_1 t]
  omega

/-- What the body takes at a point and gives back. -/
def bodyHeld (c : Dev nD) (t : Fin cfg0.N) : sProp 𝕄 :=
  iprop(Pipeline.ΦA spec0 c ∗ (dats m 0 c).owesAt () t.castSucc
    ∗ (∃ X, owns (c : Thread nD τ) (ms0_0 t) fullShare X)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X)
    ∗ (∃ X, owns (c : Thread nD τ) (ms0_13 t) fullShare X)
    ∗ (∃ X, owns (c : Thread nD τ) (ms0_14 t) fullShare X)
    ∗ (∃ X, owns (c : Thread nD τ) (ms0_15 t) fullShare X)
    ∗ (∃ X, owns (c : Thread nD τ) (ms0_16 t) fullShare X)
    ∗ (∃ X, owns (c : Thread nD τ) (ms0_17 t) fullShare X)
    ∗ (∃ X, owns (c : Thread nD τ) (ms0_18 t) fullShare X)
    ∗ (∃ X, owns (c : Thread nD τ) (ms0_19 t) fullShare X)
    ∗ (∃ X, owns (c : Thread nD τ) (ms0_20 t) fullShare X)
    ∗ (∃ X, owns (c : Thread nD τ) (ms0_21 t) fullShare X)
    ∗ (∃ X, owns (c : Thread nD τ) (ms0_22 t) fullShare X)
    ∗ (∃ X, owns (c : Thread nD τ) (ms0_23 t) fullShare X)
    ∗ (∃ X, owns (c : Thread nD τ) (ms0_24 t) fullShare X)
    ∗ (∃ X, owns (c : Thread nD τ) (ms0_25 t) fullShare X)
    ∗ (∃ X, owns (c : Thread nD τ) (ms0_26 t) fullShare X)
    ∗ (∃ X, owns (c : Thread nD τ) (ms0_27 t) fullShare X)
    ∗ (∃ X, owns (c : Thread nD τ) (ms0_28 t) fullShare X)
    ∗ (∃ X, owns (c : Thread nD τ) (ms0_29 t) fullShare X)
    ∗ (∃ X, owns (c : Thread nD τ) (ms0_30 t) fullShare X)
    ∗ (∃ X, owns (c : Thread nD τ) (ms0_31 t) fullShare X)
    ∗ (∃ X, owns (c : Thread nD τ) (ms0_32 t) fullShare X))

set_option maxHeartbeats 4000000 in
/-- The body at every point. -/
theorem sound_body (c : Dev nD) (t : Fin cfg0.N) :
    bodyHeld m c t ⊢ wp frame (wpE (defs₀ (F := F)) Variants.none c none) Set.univ (bodyAt0 t) (fun _ => bodyHeld m c t) := by
  unfold bodyHeld bodyAt0
  rw [PhiA0_eq]
  iintro ⟨⟨⟨S0, S1, S2⟩, Hg⟩, Ho, H0, H1, H2, H3, H4, H5, H6, H7, H8, H9, H10, H11, H12, H13, H14, H15, H16, H17, H18, H19, H20, H21, H22, H23, H24, H25, H26, H27, H28, H29, H30, H31, H32⟩
  iapply (run_body (F := F) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (part_of t) Set.univ _)
  isplitl [H0 H1 H2 H3 H4 H5 H6 H7 H8 H9 H10 H11 H12 H13 H14 H15 H16 H17 H18 H19 H20 H21 H22 H23 H24 H25 H26 H27 H28 H29 H30 H31 H32 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [S0]; · iexact S0
    isplitl [S1]; · iexact S1
    iexact S2
  iintro ⟨H0, H1, H2, H3, H4, H5, H6, H7, H8, H9, H10, H11, H12, H13, H14, H15, H16, H17, H18, H19, H20, H21, H22, H23, H24, H25, H26, H27, H28, H29, H30, H31, H32, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body as the region calls it. -/
theorem defs_row (t : Fin cfg0.N) : defs₀ (F := F) .tc cfg0.body (cfg0.bodyArgs t (cfg0.slots t)) = bodyAt0 t := by
  unfold defs₀; rw [Defs.onTc_tc]

set_option maxHeartbeats 4000000 in
/-- The body obligation at every point. -/
theorem body_obligation (c : Dev nD) : BodyObligation (dats (F := F) m 0 c) (defs₀ (F := F)) Variants.none () Set.univ forget := fun t => by
  dsimp only [forget]; rw [bigSep_W0, defs_row]
  exact triple_restated (sound_body m c t) rfl .rfl fun _ => .rfl

set_option backward.isDefEq.respectTransparency.types false in
/-- The program runs, and every counter ends at zero. -/
theorem run_quiescent : θ_run defs (onTc (τ := τ) (main (F := F))) (s₀ m ρ)
    (fun r => RDat.FramePost cfg0 (fun c => (dats m 0 c).toRForget forget) (V m) r ∧ r.2.sem = fun _ => 0) :=
  Pipeline.θ_run_frame_forget_shared (Q' := _) cfgs (dats m) (0 : Fin 1) launch₀0 defs₀ Variants.none forget m ρ main
    (hbody := fun c => (body_obligation m c).loose) (hq := fun _ _ _ => rfl)
    (howed := fun _ _ => rfl) (V := V m) (hmain := hmain m Variants.none) (hA := fun _ _ => rfl) (hΦ := fun _ _ => rfl)

set_option maxHeartbeats 2000000 in
/-- The argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) ∧ r.2.sem = fun _ => 0) :=
  (θ_run defs _ _).mono (fun r hr => ⟨fun c => by
    obtain ⟨h, -⟩ := hr
    exact ⟨(h.arr_in c 0 rfl).trans (V_main_arg0 m c),
      (h.arr_in c 1 rfl).trans (V_main_arg1 m c),
      (h.arr_in c 2 rfl).trans (V_main_arg2 m c),
      (h.arr_in c 3 rfl).trans (V_main_arg3 m c),
      (h.arr_in c 4 rfl).trans (V_main_arg4 m c),
      (h.arr_in c 5 rfl).trans (V_main_arg5 m c),
      (h.arr_in c 7 rfl).trans (V_main_arg6 m c),
      (h.arr_in c 8 rfl).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (h.arr_in c 12 rfl).trans (V_main_arg11 m c),
      (h.arr_in c 13 rfl).trans (V_main_arg12 m c),
      (h.arr_in c 14 rfl).trans (V_main_arg13 m c),
      (h.arr_in c 15 rfl).trans (V_main_arg14 m c),
      (h.arr_in c 16 rfl).trans (V_main_arg15 m c),
      (h.arr_in c 17 rfl).trans (V_main_arg16 m c),
      (h.arr_in c 18 rfl).trans (V_main_arg17 m c),
      (h.arr_in c 19 rfl).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩, hr.2⟩) (run_quiescent m ρ)

end Cert.Proof.InLast

end
-- ==== Proof.InLast.Claims.lean ====
/- The claims about the input projection's backward kernel with the AdamW update of another layer's weights into
   shared arrays: the frames. -/
module

public import proofs.«01_k».proof.Defs
public import proofs.«01_k».proof.Proof.InLast.Frame
public import proofs.«01_k».proof.Proof.Gen.InLast
public import proofs.«01_k».proof.Proof.Gen.InLastRefIdeal.Run
public import Idealize.ShloMosaic.Lib.Claim

@[expose] public section

set_option maxRecDepth 16384

noncomputable section

namespace Cert.Proof.InLast

open Idealize.ShloMosaic Idealize.ShloMosaic.TcCoe Idealize.SL.Sem

/-- The run over the words. The two printed programs differ in nothing but their names. -/
abbrev RunsOverBits : Prop := ∀ (m : (ℓ : Loc Cert.InLastIdeal.nD Cert.InLastIdeal.τ Cert.InLastIdeal.sig) → Buf (Elt Bits) ℓ) (ρ : Dev Cert.InLastIdeal.nD → PrngReg), True →
    θ_run (Cert.InLastIdeal.defs (F := Bits)) (onTc (τ := Cert.InLastIdeal.τ) (Cert.InLastIdeal.main (F := Bits))) ⟨m, fun _ => 0, ρ⟩ (fun r => (∀ c : Dev Cert.InLastIdeal.nD,
      r.2.mem ((c.tc : Thread Cert.InLastIdeal.nD Cert.InLastIdeal.τ).loc Cert.InLastIdeal.main_arg0) = m ((c.tc : Thread Cert.InLastIdeal.nD Cert.InLastIdeal.τ).loc Cert.InLastIdeal.main_arg0)
      ∧ r.2.mem ((c.tc : Thread Cert.InLastIdeal.nD Cert.InLastIdeal.τ).loc Cert.InLastIdeal.main_arg1) = m ((c.tc : Thread Cert.InLastIdeal.nD Cert.InLastIdeal.τ).loc Cert.InLastIdeal.main_arg1)
      ∧ r.2.mem ((c.tc : Thread Cert.InLastIdeal.nD Cert.InLastIdeal.τ).loc Cert.InLastIdeal.main_arg2) = m ((c.tc : Thread Cert.InLastIdeal.nD Cert.InLastIdeal.τ).loc Cert.InLastIdeal.main_arg2)
      ∧ r.2.mem ((c.tc : Thread Cert.InLastIdeal.nD Cert.InLastIdeal.τ).loc Cert.InLastIdeal.main_arg3) = m ((c.tc : Thread Cert.InLastIdeal.nD Cert.InLastIdeal.τ).loc Cert.InLastIdeal.main_arg3)
      ∧ r.2.mem ((c.tc : Thread Cert.InLastIdeal.nD Cert.InLastIdeal.τ).loc Cert.InLastIdeal.main_arg4) = m ((c.tc : Thread Cert.InLastIdeal.nD Cert.InLastIdeal.τ).loc Cert.InLastIdeal.main_arg4)
      ∧ r.2.mem ((c.tc : Thread Cert.InLastIdeal.nD Cert.InLastIdeal.τ).loc Cert.InLastIdeal.main_arg5) = m ((c.tc : Thread Cert.InLastIdeal.nD Cert.InLastIdeal.τ).loc Cert.InLastIdeal.main_arg5)
      ∧ r.2.mem ((c.tc : Thread Cert.InLastIdeal.nD Cert.InLastIdeal.τ).loc Cert.InLastIdeal.main_arg6) = m ((c.tc : Thread Cert.InLastIdeal.nD Cert.InLastIdeal.τ).loc Cert.InLastIdeal.main_arg6)
      ∧ r.2.mem ((c.tc : Thread Cert.InLastIdeal.nD Cert.InLastIdeal.τ).loc Cert.InLastIdeal.main_arg7) = m ((c.tc : Thread Cert.InLastIdeal.nD Cert.InLastIdeal.τ).loc Cert.InLastIdeal.main_arg7)
      ∧ r.2.mem ((c.tc : Thread Cert.InLastIdeal.nD Cert.InLastIdeal.τ).loc Cert.InLastIdeal.main_arg8) = m ((c.tc : Thread Cert.InLastIdeal.nD Cert.InLastIdeal.τ).loc Cert.InLastIdeal.main_arg8)
      ∧ r.2.mem ((c.tc : Thread Cert.InLastIdeal.nD Cert.InLastIdeal.τ).loc Cert.InLastIdeal.main_arg9) = m ((c.tc : Thread Cert.InLastIdeal.nD Cert.InLastIdeal.τ).loc Cert.InLastIdeal.main_arg9)
      ∧ r.2.mem ((c.tc : Thread Cert.InLastIdeal.nD Cert.InLastIdeal.τ).loc Cert.InLastIdeal.main_arg10) = m ((c.tc : Thread Cert.InLastIdeal.nD Cert.InLastIdeal.τ).loc Cert.InLastIdeal.main_arg10)
      ∧ r.2.mem ((c.tc : Thread Cert.InLastIdeal.nD Cert.InLastIdeal.τ).loc Cert.InLastIdeal.main_arg11) = m ((c.tc : Thread Cert.InLastIdeal.nD Cert.InLastIdeal.τ).loc Cert.InLastIdeal.main_arg11)
      ∧ r.2.mem ((c.tc : Thread Cert.InLastIdeal.nD Cert.InLastIdeal.τ).loc Cert.InLastIdeal.main_arg12) = m ((c.tc : Thread Cert.InLastIdeal.nD Cert.InLastIdeal.τ).loc Cert.InLastIdeal.main_arg12)
      ∧ r.2.mem ((c.tc : Thread Cert.InLastIdeal.nD Cert.InLastIdeal.τ).loc Cert.InLastIdeal.main_arg13) = m ((c.tc : Thread Cert.InLastIdeal.nD Cert.InLastIdeal.τ).loc Cert.InLastIdeal.main_arg13)
      ∧ r.2.mem ((c.tc : Thread Cert.InLastIdeal.nD Cert.InLastIdeal.τ).loc Cert.InLastIdeal.main_arg14) = m ((c.tc : Thread Cert.InLastIdeal.nD Cert.InLastIdeal.τ).loc Cert.InLastIdeal.main_arg14)
      ∧ r.2.mem ((c.tc : Thread Cert.InLastIdeal.nD Cert.InLastIdeal.τ).loc Cert.InLastIdeal.main_arg15) = m ((c.tc : Thread Cert.InLastIdeal.nD Cert.InLastIdeal.τ).loc Cert.InLastIdeal.main_arg15)
      ∧ r.2.mem ((c.tc : Thread Cert.InLastIdeal.nD Cert.InLastIdeal.τ).loc Cert.InLastIdeal.main_arg16) = m ((c.tc : Thread Cert.InLastIdeal.nD Cert.InLastIdeal.τ).loc Cert.InLastIdeal.main_arg16)
      ∧ r.2.mem ((c.tc : Thread Cert.InLastIdeal.nD Cert.InLastIdeal.τ).loc Cert.InLastIdeal.main_arg17) = m ((c.tc : Thread Cert.InLastIdeal.nD Cert.InLastIdeal.τ).loc Cert.InLastIdeal.main_arg17)
      ∧ r.2.mem ((c.tc : Thread Cert.InLastIdeal.nD Cert.InLastIdeal.τ).loc Cert.InLastIdeal.main_arg18) = m ((c.tc : Thread Cert.InLastIdeal.nD Cert.InLastIdeal.τ).loc Cert.InLastIdeal.main_arg18)
      ∧ r.2.mem ((c.tc : Thread Cert.InLastIdeal.nD Cert.InLastIdeal.τ).loc Cert.InLastIdeal.main_arg19) = m ((c.tc : Thread Cert.InLastIdeal.nD Cert.InLastIdeal.τ).loc Cert.InLastIdeal.main_arg19)
      ∧ r.2.mem ((c.tc : Thread Cert.InLastIdeal.nD Cert.InLastIdeal.τ).loc Cert.InLastIdeal.main_arg20) = m ((c.tc : Thread Cert.InLastIdeal.nD Cert.InLastIdeal.τ).loc Cert.InLastIdeal.main_arg20)
      ∧ r.2.mem ((c.tc : Thread Cert.InLastIdeal.nD Cert.InLastIdeal.τ).loc Cert.InLastIdeal.main_arg21) = m ((c.tc : Thread Cert.InLastIdeal.nD Cert.InLastIdeal.τ).loc Cert.InLastIdeal.main_arg21)
      ∧ r.2.mem ((c.tc : Thread Cert.InLastIdeal.nD Cert.InLastIdeal.τ).loc Cert.InLastIdeal.main_arg22) = m ((c.tc : Thread Cert.InLastIdeal.nD Cert.InLastIdeal.τ).loc Cert.InLastIdeal.main_arg22)
      ∧ r.2.mem ((c.tc : Thread Cert.InLastIdeal.nD Cert.InLastIdeal.τ).loc Cert.InLastIdeal.main_arg23) = m ((c.tc : Thread Cert.InLastIdeal.nD Cert.InLastIdeal.τ).loc Cert.InLastIdeal.main_arg23)
      ∧ r.2.mem ((c.tc : Thread Cert.InLastIdeal.nD Cert.InLastIdeal.τ).loc Cert.InLastIdeal.main_arg24) = m ((c.tc : Thread Cert.InLastIdeal.nD Cert.InLastIdeal.τ).loc Cert.InLastIdeal.main_arg24)
      ∧ r.2.mem ((c.tc : Thread Cert.InLastIdeal.nD Cert.InLastIdeal.τ).loc Cert.InLastIdeal.main_arg25) = m ((c.tc : Thread Cert.InLastIdeal.nD Cert.InLastIdeal.τ).loc Cert.InLastIdeal.main_arg25)
      ∧ r.2.mem ((c.tc : Thread Cert.InLastIdeal.nD Cert.InLastIdeal.τ).loc Cert.InLastIdeal.main_arg26) = m ((c.tc : Thread Cert.InLastIdeal.nD Cert.InLastIdeal.τ).loc Cert.InLastIdeal.main_arg26))
      ∧ r.2.sem = fun _ => 0)
theorem runs_over_bits : RunsOverBits := fun m ρ _ => frame_any (F := Bits) m ρ
theorem same_program : RunsOverBits = @Cert.quiescent_InLast Cert.InLast.Gen.facts := by sl_kernel_rfl
theorem frame_kernel : Cert.quiescent_InLast := cast same_program runs_over_bits

theorem frame_ideal : Cert.quiescent_InLastIdeal := fun m ρ _ => frame_any m ρ

theorem frame_reference : Cert.quiescent_InLastRefIdeal := fun m g _ =>
  (θ_run Cert.InLastRefIdeal.defs _ _).mono
    (fun r h => ⟨fun c => (h c).2.2.2.2.2.2.2.2.2.2.2.2.2, sem_eq_zero_of_no_sems (by decide) r.2⟩) (Cert.InLastRefIdeal.Value.run m g)

end Cert.Proof.InLast

end
-- ==== Proof.Loss.Value.lean ====
/- What the last layer's output projection leaves in its three result arrays: the gradient of the loss, the
   projection, and the loss, each equal to the plain program's array. -/
module

public import proofs.«01_k».proof.Proof.Gen.LossIdeal.Value
public import proofs.«01_k».proof.Proof.Gen.LossRefIdeal.Read
public import Idealize.ShloMosaic.Lib.Pipeline.ValueKit

@[expose] public section

set_option maxRecDepth 16384

noncomputable section

namespace Cert.Proof.Loss

open Cert.LossIdeal Cert.LossIdeal.Gen Idealize.ShloMosaic Idealize.ShloMosaic.TcCoe Idealize.SL.Sem
open Cert.LossRefIdeal.Read

variable (m : (ℓ : Loc nD τ sig) → Buf (Elt Ideal) ℓ)

/-- Every window's block index at every point: the point is the row block. -/
theorem idx : ∀ t : Fin cfg0.N, win0_0.index t = ![t.val, 0] ∧ win0_1.index t = ![t.val, 0]
    ∧ win0_2.index t = ![0, 0] ∧ win0_3.index t = ![t.val, 0]
    ∧ win0_4.index t = ![3, 2, 0, 0] ∧ win0_5.index t = ![3, 0, 0]
    ∧ win0_6.index t = ![t.val, 0] ∧ win0_7.index t = ![t.val, 0]
    ∧ win0_8.index t = ![t.val, 0] ∧ win0_9.index t = ![0, 0] :=
  (by decide +kernel : ∀ t : Fin grid0.N, _)

/-- The arguments' names, shortened: the two mixers' rows, the weight, the layer's input, the modulation, the
norm's scale, and the target. -/
abbrev aA (c : Dev nD) := m ((c : Thread nD τ).loc main_arg0)
abbrev aP (c : Dev nD) := m ((c : Thread nD τ).loc main_arg1)
abbrev aW (c : Dev nD) := m ((c : Thread nD τ).loc main_arg2)
abbrev aX (c : Dev nD) := m ((c : Thread nD τ).loc main_arg3)
abbrev aMod (c : Dev nD) := m ((c : Thread nD τ).loc main_arg4)
abbrev aG (c : Dev nD) := m ((c : Thread nD τ).loc main_arg5)
abbrev aT (c : Dev nD) := m ((c : Thread nD τ).loc main_arg6)

/-- The two halves of the weight a point multiplies by. -/
abbrev wA (c : Dev nD) (t : Fin cfg0.N) : Vec Ideal S512x1024 .bf16 :=
  View.ld (iblk m c 2 t) (Rect.unit (s := S1024x1024) ![0, 0] ![512, 1024] inb_S1024x1024_S512x1024_0_0)
abbrev wP (c : Dev nD) (t : Fin cfg0.N) : Vec Ideal S512x1024 .bf16 :=
  View.ld (iblk m c 2 t) (Rect.unit (s := S1024x1024) ![512, 0] ![512, 1024] inb_S1024x1024_S512x1024_512_0)

/-- The projection a point computes is the plain program's at the block's place. -/
theorem y_point (c : Dev nD) (t : Fin cfg0.N) (r : Fin 512) (l : Fin 1024) (i : S2048x1024.Idx)
    (h0 : (i 0).val = t.val * 512 + r.val) (h1 : (i 1).val = l.val) :
    k0_pay6 (iblk m c 0 t) (wA m c t) (iblk m c 1 t) (wP m c t) (ix2 r l)
      = val_main_v12 (F := Ideal) (aA m c) (aP m c) (aW m c) i := by
  idx_vars i
  pointwise [k0_pay6, wA, wP, val_main_v12, val_main_v11, val_main_v8, val_main_v7, val_main_v5, val_main_v6]
  blk_point [iblk, wA, wP, V, idx t]

/-- Second result: the projection. -/
theorem final_y (c : Dev nD) : (dats m 0 c).arrAt 8 (cfgs 0).N = val_main_v45 (F := Ideal) (aA m c) (aP m c) (aW m c) := by
  refine (dats m 0 c).arrAt_eq_of_covers 8 _ (by decide +kernel) fun t _ y => ?_
  blk_simp
  have hy : (outsAt0 m c t.val t.isLt).2.1 = k0_pay7 (iblk m c 0 t) (wA m c t) (iblk m c 1 t) (wP m c t) := by
    by_cases h0 : t.val % 4 = 0
    · rw [outsAt0_A m c t h0 (by omega)]; frame_out; try rfl
    · by_cases h1 : t.val % 4 = 3
      · rw [outsAt0_C m c t h0 h1]; frame_out; try rfl
      · rw [outsAt0_B m c t h0 h1]; frame_out; try rfl
  rw [after0_8, hy]
  obtain ⟨r, l, rfl⟩ : ∃ (r : Fin 512) (l : Fin 1024), y = ix2 r l := ⟨y 0, y 1, eq_ix2 y⟩
  pointwise [k0_pay7, val_main_v45]
  refine y_point m c t r l _ ?_ ?_ <;> (blk_simp [idx t]; try omega)

/-- A row's mean square. -/
theorem ss_point (c : Dev nD) (t : Fin cfg0.N) (r : Fin 512) (R : Fin 2048) (h0 : R.val = t.val * 512 + r.val) :
    ∑ l : Fin 1024, k0_pay6 (iblk m c 0 t) (wA m c t) (iblk m c 1 t) (wP m c t) (ix2 r l)
        * k0_pay6 (iblk m c 0 t) (wA m c t) (iblk m c 1 t) (wP m c t) (ix2 r l)
      = ∑ l : Fin 1024, val_main_v12 (F := Ideal) (aA m c) (aP m c) (aW m c) (ix2 R l)
        * val_main_v12 (F := Ideal) (aA m c) (aP m c) (aW m c) (ix2 R l) :=
  Finset.sum_congr rfl fun l _ => by rw [y_point m c t r l (ix2 R l) h0 rfl]

/-- The layer's output less the target, as a point computes it. -/
abbrev dBlk (c : Dev nD) (t : Fin cfg0.N) : Vec Ideal S512x1024 .f32 :=
  k0_pay1 (iblk m c 3 t) (k0_pay8 (iblk m c 4 t))
    (k0_pay9 (iblk m c 0 t) (wA m c t) (iblk m c 1 t) (wP m c t) (iblk m c 5 t)) (iblk m c 6 t)

/-- It is the plain program's at the block's place. -/
theorem d_point (c : Dev nD) (t : Fin cfg0.N) (r : Fin 512) (l : Fin 1024) (i : S2048x1024.Idx)
    (h0 : (i 0).val = t.val * 512 + r.val) (h1 : (i 1).val = l.val) :
    dBlk m c t (ix2 r l)
      = val_main_v30 (F := Ideal) (aA m c) (aP m c) (aW m c) (aX m c) (aMod m c) (aG m c) (aT m c) i := by
  idx_vars i
  have hy := y_point m c t r l (ix2 i0 i1) h0 h1
  have hs := ss_point m c t r i0 h0
  pointwise [dBlk, k0_pay1, k0_pay8, k0_pay9, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v10, val_main_v9, val_main_v4, val_main_v1, val_main_v0,
    val_main_cst, val_main_cst_0, val_main_cst_1]
  rw [hy, hs]
  blk_point [iblk, V, idx t]

/-- Half of a mean of 1024 squares has the derivative a 1024-th. -/
theorem const_dx : Ideal.div (Ideal.ofBits .f32 1056964608#32) (Ideal.ofBits .f32 1149239296#32) * Ideal.ofBits .f32 1073741824#32
    = Ideal.ofBits .f32 981467136#32 := by
  rw [show Ideal.ofBits .f32 1056964608#32 = ((1 / 2 : ℝ) : EReal) by simp [Ideal.ofBits, Ideal.ieee, -EReal.coe_mul]; norm_num,
    show Ideal.ofBits .f32 1149239296#32 = ((1024 : ℝ) : EReal) by simp [Ideal.ofBits, Ideal.ieee, -EReal.coe_mul]; norm_num,
    show Ideal.ofBits .f32 1073741824#32 = ((2 : ℝ) : EReal) by simp [Ideal.ofBits, Ideal.ieee, -EReal.coe_mul]; norm_num,
    show Ideal.ofBits .f32 981467136#32 = ((1 / 1024 : ℝ) : EReal) by simp [Ideal.ofBits, Ideal.ieee, -EReal.coe_mul]; norm_num,
    Ideal.div_coe (by norm_num), ← EReal.coe_mul, ← EReal.coe_mul]
  norm_num

/-- First result: the gradient of the loss. -/
theorem final_dx (c : Dev nD) : (dats m 0 c).arrAt 7 (cfgs 0).N
    = val_main_v44 (F := Ideal) (aA m c) (aP m c) (aW m c) (aX m c) (aMod m c) (aG m c) (aT m c) := by
  refine (dats m 0 c).arrAt_eq_of_covers 7 _ (by decide +kernel) fun t _ y => ?_
  blk_simp
  have hy : (outsAt0 m c t.val t.isLt).1 = k0_pay2 (iblk m c 3 t) (k0_pay8 (iblk m c 4 t))
    (k0_pay9 (iblk m c 0 t) (wA m c t) (iblk m c 1 t) (wP m c t) (iblk m c 5 t)) (iblk m c 6 t) := by
    by_cases h0 : t.val % 4 = 0
    · rw [outsAt0_A m c t h0 (by omega)]; frame_out; try rfl
    · by_cases h1 : t.val % 4 = 3
      · rw [outsAt0_C m c t h0 h1]; frame_out; try rfl
      · rw [outsAt0_B m c t h0 h1]; frame_out; try rfl
  rw [after0_7, hy]
  obtain ⟨r, l, rfl⟩ : ∃ (r : Fin 512) (l : Fin 1024), y = ix2 r l := ⟨y 0, y 1, eq_ix2 y⟩
  have hd := d_point m c t r l (((cfg0.win 7).blk t).view.emb (ix2 r l)) (by blk_simp [idx t]; try omega) (by blk_simp [idx t]; try omega)
  pointwise [k0_pay2, val_main_v44, val_main_v43, val_main_v42, val_main_v41, val_main_v40, val_main_v39, val_main_v33, val_main_v32,
   val_main_cst_2, val_main_cst_7, val_main_cst_8, val_main_cst_9]
  rw [← hd, ← mul_assoc, const_dx, mul_comm]

/-- The squares a point adds to the eight partial sums of a column. -/
theorem pay3_at (x3 : Vec Ideal S512x1024 .f32) (x4 : FVec Ideal S1x1024 .f32) (x9 x6 : FVec Ideal S512x1024 .f32)
    (acc : Vec Ideal S8x1024 .f32) (a : Fin 8) (l : Fin 1024) :
    k0_pay3 x3 x4 x9 x6 acc (ix2 a l)
      = acc (ix2 a l) + ∑ k : Fin 64, k0_pay1 x3 x4 x9 x6 (ix2 ⟨k.val * 8 + a.val, by omega⟩ l)
          * k0_pay1 x3 x4 x9 x6 (ix2 ⟨k.val * 8 + a.val, by omega⟩ l) := by
  pointwise [k0_pay3]

/-- The partial sums start at zero. -/
theorem pay5_at (j) : k0_pay5 (F := Ideal) j = 0 := by pointwise [k0_pay5]

/-- The partial sums after the last point. -/
theorem acc_last (c : Dev nD) (a : Fin 8) (l : Fin 1024) :
    (outsAt0 m c t0_3.val t0_3.isLt).2.2.2 (ix2 a l)
      = ∑ p : Fin cfg0.N, ∑ k : Fin 64, dBlk m c p (ix2 ⟨k.val * 8 + a.val, by omega⟩ l)
          * dBlk m c p (ix2 ⟨k.val * 8 + a.val, by omega⟩ l) := by
  rw [Pipeline.eq_sum_fin_of_reset_step_apply_last (fun n h => (outsAt0 m c n h).2.2.2) 4 (fun _ => 0)
    (fun p j => ∑ k : Fin 64, dBlk m c p (ix2 ⟨k.val * 8 + (j 0).val, by have := (j 0).isLt; change _ < 8 at this; omega⟩ (j 1))
          * dBlk m c p (ix2 ⟨k.val * 8 + (j 0).val, by have := (j 0).isLt; change _ < 8 at this; omega⟩ (j 1)))
    (fun t h j => by
      rw [outsAt0_A m c t h (by omega)]; frame_out
      obtain ⟨a, l, rfl⟩ : ∃ (a : Fin 8) (l : Fin 1024), j = ix2 a l := ⟨j 0, j 1, eq_ix2 j⟩
      rw [pay3_at, pay5_at]; rfl)
    (fun t h j => by
      obtain ⟨a, l, rfl⟩ : ∃ (a : Fin 8) (l : Fin 1024), j = ix2 a l := ⟨j 0, j 1, eq_ix2 j⟩
      by_cases h1 : t.val % 4 = 3
      · rw [outsAt0_C m c t h h1]; frame_out; rw [pay3_at]; exact congrArg (· + _) (congrFun ((Memref.isWhole_whole _).read_unread _) _)
      · rw [outsAt0_B m c t h h1]; frame_out; rw [pay3_at]; exact congrArg (· + _) (congrFun ((Memref.isWhole_whole _).read_unread _) _))
    (le_of_eq N_0) t0_3 rfl (ix2 a l), zero_add]
  rfl

/-- The partial sums of all columns added up are the sum over all rows of a row's squares. -/
theorem acc_total (c : Dev nD) (f : Fin 2048 → Fin 1024 → EReal)
    (hf : ∀ (p : Fin cfg0.N) (r : Fin 512) (l : Fin 1024) (R : Fin 2048), R.val = p.val * 512 + r.val →
      dBlk m c p (ix2 r l) * dBlk m c p (ix2 r l) = f R l) :
    ∑ a : Fin 8, ∑ l : Fin 1024, (outsAt0 m c t0_3.val t0_3.isLt).2.2.2 (ix2 a l) = ∑ R : Fin 2048, ∑ l : Fin 1024, f R l := by
  rw [← Fin.sum_mul_add_fin (M := EReal) 4 512 (fun R : Fin 2048 => ∑ l : Fin 1024, f R l)]
  have e : ∀ p : Fin 4, ∑ q : Fin 512, ∑ l : Fin 1024, f ⟨p.val * 512 + q.val, by omega⟩ l
      = ∑ a : Fin 8, ∑ l : Fin 1024, ∑ k : Fin 64, f ⟨p.val * 512 + (k.val * 8 + a.val), by omega⟩ l := fun p => by
    rw [← Fin.sum_mul_add_fin (M := EReal) 64 8 (fun q : Fin 512 => ∑ l : Fin 1024, f ⟨p.val * 512 + q.val, by omega⟩ l), Finset.sum_comm]
    exact Finset.sum_congr rfl fun a _ => Finset.sum_comm
  refine Eq.trans ?_ (Finset.sum_congr rfl fun p _ => (e p).symm)
  refine Eq.trans ?_ Finset.sum_comm
  refine Fin.sum_fin_congr fun a => ?_
  refine Eq.trans ?_ Finset.sum_comm
  refine Fin.sum_fin_congr fun l => ?_
  rw [acc_last]
  refine Fintype.sum_equiv (finCongr N_0) _ _ fun p => Finset.sum_congr rfl fun k _ => ?_
  exact hf p _ l _ rfl

/-- A square is not negative. -/
theorem square_nonneg (x : EReal) : 0 ≤ x * x :=
  (le_total 0 x).elim (fun h => EReal.mul_nonneg h h) fun h => EReal.mul_nonneg_iff.mpr (.inr ⟨h, h⟩)

/-- Half the sum of the rows' means is the sum of all squares over 2048. -/
theorem loss_scale (s : Fin 2048 → EReal) (hs : ∀ R, 0 ≤ s R) :
    (∑ R, s R) * Ideal.ofBits .f32 973078528#32
      = Ideal.ofBits .f32 1056964608#32 * ∑ R, Ideal.div (s R) (Ideal.ofBits .f32 1149239296#32) := by
  rw [show Ideal.ofBits .f32 973078528#32 = ((1 / 2048 : ℝ) : EReal) by simp [Ideal.ofBits, Ideal.ieee, -EReal.coe_mul]; norm_num,
    show Ideal.ofBits .f32 1056964608#32 = ((1 / 2 : ℝ) : EReal) by simp [Ideal.ofBits, Ideal.ieee, -EReal.coe_mul]; norm_num,
    show Ideal.ofBits .f32 1149239296#32 = ((1024 : ℝ) : EReal) by simp [Ideal.ofBits, Ideal.ieee, -EReal.coe_mul]; norm_num]
  have e : ∀ (k : ℝ) (T : Finset (Fin 2048)), 0 ≤ k → (∑ R ∈ T, s R) * (k : EReal) = ∑ R ∈ T, s R * (k : EReal) := fun k T hk => by
    induction T using Finset.cons_induction with
    | empty => simp
    | cons a T ha ih =>
      rw [Finset.sum_cons, Finset.sum_cons, EReal.right_distrib_of_nonneg (hs a) (Finset.sum_nonneg fun R _ => hs R), ih]
  rw [Finset.sum_congr rfl fun R _ => Ideal.div_coe (by norm_num) (s R), ← e _ _ (by norm_num), mul_comm ((1 / 2 : ℝ) : EReal),
    mul_assoc, ← EReal.coe_mul]
  norm_num

/-- The square of an entry of the layer's output less the target. -/
abbrev sq (c : Dev nD) (R : Fin 2048) (l : Fin 1024) : EReal :=
  val_main_v30 (F := Ideal) (aA m c) (aP m c) (aW m c) (aX m c) (aMod m c) (aG m c) (aT m c) (ix2 R l)
    * val_main_v30 (F := Ideal) (aA m c) (aP m c) (aW m c) (aX m c) (aMod m c) (aG m c) (aT m c) (ix2 R l)

/-- Third result: the loss. -/
theorem final_loss (c : Dev nD) : (dats m 0 c).arrAt 9 (cfgs 0).N
    = val_main_v46 (F := Ideal) (aA m c) (aP m c) (aW m c) (aX m c) (aMod m c) (aG m c) (aT m c) := by
  refine (dats m 0 c).arrAt_eq_of_after_last 9 t0_3 (by decide +kernel) _ fun j => ?_
  blk_simp
  have hl : (outsAt0 m c t0_3.val t0_3.isLt).2.2.1 = k0_pay4 (outsAt0 m c t0_3.val t0_3.isLt).2.2.2 := by
    rw [outsAt0_C m c t0_3 (by decide) (by decide)]; frame_out
  rw [after0_9, hl]
  pointwise [k0_pay4, val_main_v46, val_main_v38, val_main_v37, val_main_v36, val_main_v35, val_main_v34, val_main_v31, val_main_cst_3,
    val_main_cst_4, val_main_cst_5, val_main_cst_6]
  have h1 := acc_total m c (sq m c) fun p r l R h => by rw [d_point m c p r l (ix2 R l) h rfl]
  have h2 := loss_scale (fun R => ∑ l : Fin 1024, sq m c R l) fun R => Finset.sum_nonneg fun l _ => square_nonneg _
  rw [h1]
  exact h2

end Cert.Proof.Loss

end
-- ==== Proof.Loss.Claims.lean ====
/- The claims about the last layer's output projection with the loss and its gradient: its frames, and its three results equal to the plain program's. -/
module

public import proofs.«01_k».proof.Defs
public import proofs.«01_k».proof.Proof.Loss.Value
public import proofs.«01_k».proof.Proof.Gen.Loss.Frame
public import Idealize.ShloMosaic.Lib.Claim

@[expose] public section

set_option maxRecDepth 16384

noncomputable section

namespace Cert.Proof.Loss

open Idealize.ShloMosaic Idealize.ShloMosaic.TcCoe Idealize.SL.Sem

theorem frame_kernel : Cert.quiescent_Loss := fun m ρ _ => Cert.Loss.Gen.frame m ρ

theorem frame_ideal : Cert.quiescent_LossIdeal := fun m ρ _ => Cert.LossIdeal.Gen.frame m ρ

theorem frame_reference : Cert.quiescent_LossRefIdeal := fun m g _ =>
  (θ_run Cert.LossRefIdeal.defs _ _).mono
    (fun r h => ⟨fun c => (h c).2.2.2, sem_eq_zero_of_no_sems (by decide) r.2⟩) (Cert.LossRefIdeal.Value.run m g)

theorem algebraic : Cert.algebraic_LossIdeal_LossRefIdeal := by
  pair_intro
  · run_from Cert.LossIdeal.Gen.run_main m g
  · run_from Cert.LossRefIdeal.Value.run m' g'
    · exact (Cert.LossRefIdeal.Read.val_main_v44_eq _ _ _ _ _ _ _).trans (final_dx m c).symm
    · exact (Cert.LossRefIdeal.Read.val_main_v45_eq _ _ _).trans (final_y m c).symm
    · obtain ⟨h0, h1, h2, h3, h4, h5, h6⟩ := hagree c
      rw [Cert.LossRefIdeal.Read.val_main_v46_eq, h0, h1, h2, h3, h4, h5, h6]
      exact (final_loss m c).symm

end Cert.Proof.Loss

end
-- ==== Proof.MixFwd.Run.lean ====
/-
  The body of the mixers' forward kernel at one point of its grid: what its stores leave. At a point of the first half it
  computes one lane block of the CONVOLUTION mixer; at a point of the second half one group of the POOLING mixer, whose
  four bodies differ in the loops' names and in the width of the window. The body reads the pooled rows back, so they
  and the scratch array are held at named contents when it starts.
-/
module

public import proofs.«01_k».proof.Proof.Gen.MixFwdIdeal.Frame
public import proofs.«01_k».proof.Proof.Gen.MixFwdIdeal.Loops

@[expose] public section

set_option maxRecDepth 16384

noncomputable section

namespace Cert.Proof.MixFwd

open Cert.MixFwdIdeal Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Where `f` is written over some contents with the pieces `L`. -/
abbrev wrote (c : Dev nD) {sh : Shape} {e : EltTy} (a : Memref sig .tc .vmem sh e) (L : List (View.Piece (Elt F) sh e)) :
    sProp 𝕄 :=
  iprop(∃ f, a.view.loc (c : Thread nD τ) ↦[a.view.set]{fullShare} a.view.writes (Elt F) f L)

/-- A memref held at `x`. -/
abbrev held (c : Dev nD) {sh : Shape} {e : EltTy} (a : Memref sig .tc .vmem sh e) (x : Vec F sh e) : sProp 𝕄 :=
  owns (c : Thread nD τ) a fullShare x

/-- A memref held at some contents. -/
abbrev some' (c : Dev nD) {sh : Shape} {e : EltTy} (a : Memref sig .tc .vmem sh e) : sProp 𝕄 :=
  iprop(∃ d, owns (c : Thread nD τ) a fullShare d)

/-- A memref held whatever it holds, from its cells (`some'`, spelt out). -/
theorem some_of_cells (c : Dev nD) {sh : Shape} {e : EltTy} (a : Memref sig .tc .vmem sh e) (f : BufTy.Contents (Elt F) a.view.ty) :
    (a.view.loc (c : Thread nD τ) ↦[a.view.set]{fullShare} f : sProp 𝕄)
      ⊢ iprop(∃ d f, ⌜a.view.read (Elt F) f = d⌝ ∗ a.view.loc (c : Thread nD τ) ↦[a.view.set]{fullShare} f) := by
  iintro H; iexists _; iexists _; isplitr; swap; · iexact H
  ipureintro; rfl

/-- A memref held at the contents its cells were filled from, from its cells (`held`, spelt out). -/
theorem held_of_cells (c : Dev nD) {sh : Shape} {e : EltTy} (a : Memref sig .tc .vmem sh e) (h : a.IsWhole) (x : Vec F sh e) :
    (a.view.loc (c : Thread nD τ) ↦[a.view.set]{fullShare} h.unread x : sProp 𝕄)
      ⊢ iprop(∃ f, ⌜a.view.read (Elt F) f = x⌝ ∗ a.view.loc (c : Thread nD τ) ↦[a.view.set]{fullShare} f) := by
  iintro H; iexists _; isplitr; swap; · iexact H
  ipureintro; exact h.read_unread _

set_option maxHeartbeats 4000000 in
/-- The convolution mixer's half: the pieces the body leaves in its result. -/
noncomputable def convRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 : k0_cond1 i = 1#1) (h2 : ¬k0_cond2 i = 1#1) (h3 : ¬k0_cond3 i = 1#1) (h4 : ¬k0_cond4 i = 1#1) (h5 : ¬k0_cond5 i = 1#1)
    (x0 x1 x2 x3 : Vec F S2048x128 .bf16) (x6 : Vec F S1x1x3x128 .f32) :
    { L9 : List (View.Piece (Elt F) S2048x128 .bf16) //
      ∀ (E : Set ℕ) (K : PUnit → sProp 𝕄),
        iprop(held c arg1 x0 ∗ held c arg2 x1 ∗ held c arg3 x2 ∗ held c arg4 x3 ∗ held c arg7 x6 ∗ some' c arg10
            ∗ (iprop(held c arg1 x0 ∗ held c arg2 x1 ∗ held c arg3 x2 ∗ held c arg4 x3 ∗ held c arg7 x6 ∗ wrote c arg10 L9) -∗ K ⟨⟩))
          ⊢ wp frame (wpE (defs₀ (F := F)) Variants.none c none) E
              (cc0_mix_fwd i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_mix_fwd_eq_skeleton]; unfold cc0_mix_fwd_skel
    unfold held some' wrote owns
    iintro ⟨⟨%f0, %hf0, H0⟩, ⟨%f1, %hf1, H1⟩, ⟨%f2, %hf2, H2⟩, ⟨%f3, %hf3, H3⟩, ⟨%f6, %hf6, H6⟩, ⟨%d9, %f9, -, H9⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact h1 | sl_exact h2 | sl_exact h3 | sl_exact h4 | sl_exact h5)
    sl_step
    iapply Hk
    isplitl [H0]; · iapply held_of_cells c arg1 harg1; iexact H0
    isplitl [H1]; · iapply held_of_cells c arg2 harg2; iexact H1
    isplitl [H2]; · iapply held_of_cells c arg3 harg3; iexact H2
    isplitl [H3]; · iapply held_of_cells c arg4 harg4; iexact H3
    isplitl [H6]; · iapply held_of_cells c arg7 harg7; iexact H6
    iexists _; iexact H9

/-- The pieces the body leaves in a group's mixed and pooled rows, and that it leaves them. -/
abbrev PoolRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (x4 x5 : Vec F S2048x128 .bf16) (x7 : Vec F S1x1x128x128 .f32) (x8 : Vec F S1x1x128 .f32)
    (o11 : Vec F S2048x128 .bf16) (e0 : Vec F S2048x128 .f32) :=
    Σ' (L10 : List (View.Piece (Elt F) S2048x128 .bf16)), { L11 : List (View.Piece (Elt F) S2048x128 .bf16) //
      ∀ (E : Set ℕ) (K : PUnit → sProp 𝕄),
        iprop(held c arg5 x4 ∗ held c arg6 x5 ∗ held c arg8 x7 ∗ held c arg9 x8
            ∗ some' c arg11 ∗ held c arg12 o11 ∗ held c arg13 e0
            ∗ (iprop(held c arg5 x4 ∗ held c arg6 x5 ∗ held c arg8 x7 ∗ held c arg9 x8
              ∗ wrote c arg11 L10 ∗ wrote c arg12 L11 ∗ some' c arg13) -∗ K ⟨⟩))
          ⊢ wp frame (wpE (defs₀ (F := F)) Variants.none c none) E
              (cc0_mix_fwd i arg1 harg1 arg2 harg2 arg3 harg3 arg4 harg4 arg5 harg5 arg6 harg6 arg7 harg7 arg8 harg8 arg9 harg9 arg10 harg10 arg11 harg11 arg12 harg12 arg13 harg13) K }

set_option maxHeartbeats 4000000 in
/-- Group 1. -/
noncomputable def poolRun1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 : ¬k0_cond1 i = 1#1) (h2 : k0_cond2 i = 1#1) (h3 : ¬k0_cond3 i = 1#1) (h4 : ¬k0_cond4 i = 1#1) (h5 : ¬k0_cond5 i = 1#1)
    (x4 x5 : Vec F S2048x128 .bf16) (x7 : Vec F S1x1x128x128 .f32) (x8 : Vec F S1x1x128 .f32)
    (o11 : Vec F S2048x128 .bf16) (e0 : Vec F S2048x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 x4 x5 x7 x8 o11 e0 := by
  refine ⟨?_, ?_, fun E K => ?run⟩
  case run =>
    simp only [cc0_mix_fwd_eq_skeleton]; unfold cc0_mix_fwd_skel
    unfold held some' wrote owns
    iintro ⟨⟨%f4, %hf4, H4⟩, ⟨%f5, %hf5, H5⟩, ⟨%f7, %hf7, H7⟩, ⟨%f8, %hf8, H8⟩, ⟨%d10, %f10, -, H10⟩, ⟨%f11, %hf11, H11⟩, ⟨%g0, %hg0, S0⟩, Hk⟩
    obtain rfl := harg5.eq_unread hf4; obtain rfl := harg6.eq_unread hf5; obtain rfl := harg8.eq_unread hf7; obtain rfl := harg9.eq_unread hf8
    obtain rfl := harg12.eq_unread hf11; obtain rfl := harg13.eq_unread hg0
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H8]; · iapply held_of_cells c arg9 harg9; iexact H8
    isplitl [H10]; · iexists _; iexact H10
    isplitl [H11]; · iexists _; iexact H11
    iapply some_of_cells; iexact S0

set_option maxHeartbeats 4000000 in
/-- Group 2. -/
noncomputable def poolRun2 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 : ¬k0_cond1 i = 1#1) (h2 : ¬k0_cond2 i = 1#1) (h3 : k0_cond3 i = 1#1) (h4 : ¬k0_cond4 i = 1#1) (h5 : ¬k0_cond5 i = 1#1)
    (x4 x5 : Vec F S2048x128 .bf16) (x7 : Vec F S1x1x128x128 .f32) (x8 : Vec F S1x1x128 .f32)
    (o11 : Vec F S2048x128 .bf16) (e0 : Vec F S2048x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 x4 x5 x7 x8 o11 e0 := by
  refine ⟨?_, ?_, fun E K => ?run⟩
  case run =>
    simp only [cc0_mix_fwd_eq_skeleton]; unfold cc0_mix_fwd_skel
    unfold held some' wrote owns
    iintro ⟨⟨%f4, %hf4, H4⟩, ⟨%f5, %hf5, H5⟩, ⟨%f7, %hf7, H7⟩, ⟨%f8, %hf8, H8⟩, ⟨%d10, %f10, -, H10⟩, ⟨%f11, %hf11, H11⟩, ⟨%g0, %hg0, S0⟩, Hk⟩
    obtain rfl := harg5.eq_unread hf4; obtain rfl := harg6.eq_unread hf5; obtain rfl := harg8.eq_unread hf7; obtain rfl := harg9.eq_unread hf8
    obtain rfl := harg12.eq_unread hf11; obtain rfl := harg13.eq_unread hg0
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H8]; · iapply held_of_cells c arg9 harg9; iexact H8
    isplitl [H10]; · iexists _; iexact H10
    isplitl [H11]; · iexists _; iexact H11
    iapply some_of_cells; iexact S0

set_option maxHeartbeats 4000000 in
/-- Group 3. -/
noncomputable def poolRun3 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 : ¬k0_cond1 i = 1#1) (h2 : ¬k0_cond2 i = 1#1) (h3 : ¬k0_cond3 i = 1#1) (h4 : k0_cond4 i = 1#1) (h5 : ¬k0_cond5 i = 1#1)
    (x4 x5 : Vec F S2048x128 .bf16) (x7 : Vec F S1x1x128x128 .f32) (x8 : Vec F S1x1x128 .f32)
    (o11 : Vec F S2048x128 .bf16) (e0 : Vec F S2048x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 x4 x5 x7 x8 o11 e0 := by
  refine ⟨?_, ?_, fun E K => ?run⟩
  case run =>
    simp only [cc0_mix_fwd_eq_skeleton]; unfold cc0_mix_fwd_skel
    unfold held some' wrote owns
    iintro ⟨⟨%f4, %hf4, H4⟩, ⟨%f5, %hf5, H5⟩, ⟨%f7, %hf7, H7⟩, ⟨%f8, %hf8, H8⟩, ⟨%d10, %f10, -, H10⟩, ⟨%f11, %hf11, H11⟩, ⟨%g0, %hg0, S0⟩, Hk⟩
    obtain rfl := harg5.eq_unread hf4; obtain rfl := harg6.eq_unread hf5; obtain rfl := harg8.eq_unread hf7; obtain rfl := harg9.eq_unread hf8
    obtain rfl := harg12.eq_unread hf11; obtain rfl := harg13.eq_unread hg0
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H8]; · iapply held_of_cells c arg9 harg9; iexact H8
    isplitl [H10]; · iexists _; iexact H10
    isplitl [H11]; · iexists _; iexact H11
    iapply some_of_cells; iexact S0

set_option maxHeartbeats 4000000 in
/-- Group 4. -/
noncomputable def poolRun4 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 : ¬k0_cond1 i = 1#1) (h2 : ¬k0_cond2 i = 1#1) (h3 : ¬k0_cond3 i = 1#1) (h4 : ¬k0_cond4 i = 1#1) (h5 : k0_cond5 i = 1#1)
    (x4 x5 : Vec F S2048x128 .bf16) (x7 : Vec F S1x1x128x128 .f32) (x8 : Vec F S1x1x128 .f32)
    (o11 : Vec F S2048x128 .bf16) (e0 : Vec F S2048x128 .f32) :
    PoolRun (F := F) c i arg1 harg1 arg2 harg2 arg3 harg3 arg4 harg4 arg5 harg5 arg6 harg6 arg7 harg7 arg8 harg8 arg9 harg9 arg10 harg10 arg11 harg11 arg12 harg12 arg13 harg13 x4 x5 x7 x8 o11 e0 := by
  refine ⟨?_, ?_, fun E K => ?run⟩
  case run =>
    simp only [cc0_mix_fwd_eq_skeleton]; unfold cc0_mix_fwd_skel
    unfold held some' wrote owns
    iintro ⟨⟨%f4, %hf4, H4⟩, ⟨%f5, %hf5, H5⟩, ⟨%f7, %hf7, H7⟩, ⟨%f8, %hf8, H8⟩, ⟨%d10, %f10, -, H10⟩, ⟨%f11, %hf11, H11⟩, ⟨%g0, %hg0, S0⟩, Hk⟩
    obtain rfl := harg5.eq_unread hf4; obtain rfl := harg6.eq_unread hf5; obtain rfl := harg8.eq_unread hf7; obtain rfl := harg9.eq_unread hf8
    obtain rfl := harg12.eq_unread hf11; obtain rfl := harg13.eq_unread hg0
    sl_exec (disch := first | sl_exact h1 | sl_exact h2 | sl_exact h3 | sl_exact h4 | sl_exact h5)
    sl_step
    iapply Hk
    isplitl [H4]; · iapply held_of_cells c arg5 harg5; iexact H4
    isplitl [H5]; · iapply held_of_cells c arg6 harg6; iexact H5
    isplitl [H7]; · iapply held_of_cells c arg8 harg8; iexact H7
    isplitl [H8]; · iapply held_of_cells c arg9 harg9; iexact H8
    isplitl [H10]; · iexists _; iexact H10
    isplitl [H11]; · iexists _; iexact H11
    iapply some_of_cells; iexact S0

end Cert.Proof.MixFwd

end
-- ==== Proof.MixFwd.Closed.lean ====
/-
  What the runs of the mixers' forward kernel leave, as arrays: the loops over tiles of rows leave the tiles' rows, the
  pooled rows are read back whole, and the mixed rows are one product.
-/
module

public import proofs.«01_k».proof.Proof.Mix.Closed
public import proofs.«01_k».proof.Proof.MixFwd.Run

@[expose] public section

set_option maxRecDepth 16384

noncomputable section

namespace Cert.Proof.MixFwd

open Cert.MixFwdIdeal Cert.MixFwdIdeal.Gen Idealize.ShloMosaic
open Cert.Proof.Mix (t128 a128 rows_of_trips readAt_tile whole_piece left_of_eq)

variable {F : FTy → Type} [FloatOps F]

/-- A list of stores covers its array and leaves `d`. -/
abbrev Leaves {s : Shape} {e : EltTy} (L : List (View.Piece (Elt F) s e)) (d : s.Idx → Elt F e) : Prop :=
  (∀ y, ∃ p ∈ L, y ∈ p.1.set) ∧ View.canon L = d

/-- The taps. -/
abbrev tap0 (w : Vec F S1x1x3x128 .f32) : Vec F S1x1x1x128 .f32 :=
  View.ld w (Rect.unit (s := S1x1x3x128) ![0, 0, 0, 0] ![1, 1, 1, 128] inb_S1x1x3x128_S1x1x1x128_0_0_0_0)
abbrev tap1 (w : Vec F S1x1x3x128 .f32) : Vec F S1x1x1x128 .f32 :=
  View.ld w (Rect.unit (s := S1x1x3x128) ![0, 0, 1, 0] ![1, 1, 1, 128] inb_S1x1x3x128_S1x1x1x128_0_0_1_0)
abbrev tap2 (w : Vec F S1x1x3x128 .f32) : Vec F S1x1x1x128 .f32 :=
  View.ld w (Rect.unit (s := S1x1x3x128) ![0, 0, 2, 0] ![1, 1, 1, 128] inb_S1x1x3x128_S1x1x1x128_0_0_2_0)

/-- The sixteen rows before a tile (the first sixteen where there are none). -/
def before {Val : EltTy → Type} {e : EltTy} (x : S2048x128.Idx → Val e) (k : Fin 16) : S16x128.Idx → Val e := fun y =>
  x (ix2 ⟨128 * k.val - 16 + (y 0).val, by have h : (y 0).val < 16 := (y 0).isLt; omega⟩ (y 1))

/-- A load of the sixteen rows before a tile. -/
theorem readAt_before {sp : Space} {e : EltTy} {a : Memref Cert.MixFwdIdeal.sig .tc sp S2048x128 e} (f : BufTy.Contents (Elt F) a.view.ty) (x : S2048x128.Idx → Elt F e)
    (hx : a.view.read (Elt F) f = x) (k : Fin 16) (off : Fin 2 → ℕ) (hoff : off = ![128 * k.val - 16, 0])
    (inb : ∀ b, off b + (![16, 128] : Fin 2 → ℕ) b ≤ S2048x128.size b) :
    View.readAt (Elt F) a.view (Rect.unit (s := S2048x128) off ![16, 128] inb).toLoadRect f = before (Val := Elt F) x k := by
  subst hoff; subst hx
  funext y
  refine congrArg (a.view.read (Elt F) f) (funext fun b => ?_)
  match b with
  | ⟨0, _⟩ => exact Fin.ext (show 128 * k.val - 16 + 1 * (y 0).val = 128 * k.val - 16 + (y 0).val by omega)
  | ⟨1, _⟩ => exact Fin.ext (show 0 + 1 * (y 1).val = (y 1).val by omega)

/-- A load of a whole array. -/
theorem readAt_whole {s : Shape} {e : EltTy} {κ : Kind} {sp : Space} (a : Memref Cert.MixFwdIdeal.sig κ sp s e) (f : BufTy.Contents (Elt F) a.view.ty)
    (off : Fin s.rank → ℕ) (hoff : off = fun _ => 0) (inb : ∀ a, off a + s.size a ≤ s.size a) :
    View.readAt (Elt F) a.view (Rect.unit off s.size inb).toLoadRect f = a.view.read (Elt F) f := by
  subst hoff
  exact funext fun y => congrArg (a.view.read (Elt F) f) (funext fun b => Fin.ext (show 0 + 1 * (y b).val = (y b).val by omega))

/-- A tile of the convolution mixer's result. -/
def convTile (w : Vec F S1x1x3x128 .f32) (k : Fin 16) (hu hc : Vec F S16x128 .bf16) (tu tb tc tg : Vec F S128x128 .bf16) : FVec F S128x128 .bf16 :=
  k0_pay4 (k0_pay17 tg) (k0_pay18 (k0_pay1 (tap0 w)) (k0_pay2 (tap1 w)) (k0_pay3 (tap2 w)) 0#32 1#32 k hc tc hu tu tb)

/-- The convolution mixer's result. -/
def convY (x0 x1 x2 x3 : Vec F S2048x128 .bf16) (w : Vec F S1x1x3x128 .f32) : Vec F S2048x128 .bf16 :=
  a128 fun k => convTile w k (before x0 k) (before x2 k) (t128 x0 k) (t128 x1 k) (t128 x2 k) (t128 x3 k)

/-- The pooled rows: `B` is what a tile and the rows before it give. -/
def pooledY (B : Fin 16 → Vec F S16x128 .bf16 → Vec F S128x128 .bf16 → FVec F S128x128 .bf16) (x4 : Vec F S2048x128 .bf16) : Vec F S2048x128 .bf16 :=
  a128 fun k => B k (before x4 k) (t128 x4 k)

/-- The pooling mixer's result, from the mixed rows. -/
def poolY (s : Vec F S1x1x128 .f32) (g : Vec F S2048x128 .bf16) (mx : Vec F S2048x128 .f32) : Vec F S2048x128 .bf16 :=
  a128 fun k => k0_pay7 s (t128 g k) (t128 mx k)

/-- A loop over tiles of 128 rows. -/
theorem tiles_of_steps (P : Fin 16 → Vec F S128x128 .bf16) (lst : ℕ → List (View.Piece (Elt F) S2048x128 .bf16))
    (off : Fin 16 → Fin 2 → ℕ) (hoff : ∀ k, off k = ![128 * k.val, 0])
    (inb : ∀ k, ∀ a, off k a + (![128, 128] : Fin 2 → ℕ) a ≤ S2048x128.size a) (h0 : lst 0 = [])
    (hs : ∀ k : Fin 16, lst (k.val + 1) = ⟨Rect.unit (s := S2048x128) (off k) ![128, 128] (inb k), P k⟩ :: lst k.val) :
    Leaves (lst 16) (a128 (Val := Elt F) (e := .bf16) P) :=
  rows_of_trips (Val := Elt F) (e := .bf16) (R := 128) (T := 16) rfl P id Function.surjective_id off
    (fun k => by rw [hoff k, Nat.mul_comm]; rfl) inb lst h0 hs

/-- A tile's load, of a whole buffer that holds `x`. -/
theorem load_tile {e : EltTy} {a : Memref Cert.MixFwdIdeal.sig .tc .vmem S2048x128 e} (f : BufTy.Contents (Elt F) a.view.ty)
    (x : S2048x128.Idx → Elt F e) (hx : a.view.read (Elt F) f = x) (k : Fin 16) (off : Fin 2 → ℕ) (hoff : off = ![128 * k.val, 0])
    (inb : ∀ b, off b + (![128, 128] : Fin 2 → ℕ) b ≤ S2048x128.size b) :
    View.readAt (Elt F) a.view (Rect.unit (s := S2048x128) off ![128, 128] inb).toLoadRect f = t128 (Val := Elt F) x k :=
  readAt_tile (R := 128) (T := 16) rfl f x hx k off (by rw [hoff, Nat.mul_comm]) inb

/-- The offsets of the rows before a trip's. -/
theorem off1_eq : ∀ k : Fin k0_t1_loop.trips, k0_off1 k = ![128 * k.val - 16, 0] := by decide +kernel
theorem off3_eq : ∀ k : Fin k0_t2_loop.trips, k0_off3 k = ![128 * k.val - 16, 0] := by decide +kernel
theorem off6_eq : ∀ k : Fin k0_t4_loop.trips, k0_off6 k = ![128 * k.val - 16, 0] := by decide +kernel
theorem off9_eq : ∀ k : Fin k0_t6_loop.trips, k0_off9 k = ![128 * k.val - 16, 0] := by decide +kernel
theorem off12_eq : ∀ k : Fin k0_t8_loop.trips, k0_off12 k = ![128 * k.val - 16, 0] := by decide +kernel

set_option maxHeartbeats 1000000 in
/-- The convolution half's list is the closed form's. -/
theorem convRun_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 h2 h3 h4 h5) (x0 x1 x2 x3 : Vec F S2048x128 .bf16) (x6 : Vec F S1x1x3x128 .f32) :
    Leaves (convRun c i arg1 harg1 arg2 harg2 arg3 harg3 arg4 harg4 arg5 harg5 arg6 harg6 arg7 harg7 arg8 harg8 arg9 harg9 arg10 harg10 arg11 harg11 arg12 harg12 arg13 harg13 h1 h2 h3 h4 h5 x0 x1 x2 x3 x6).1 (convY x0 x1 x2 x3 x6) := by
  have w0 : View.readAt (Elt F) arg7.view (Rect.unit (s := S1x1x3x128) ![0, 0, 0, 0] ![1, 1, 1, 128] inb_S1x1x3x128_S1x1x1x128_0_0_0_0).toLoadRect (harg7.unread x6) = tap0 x6 :=
    (View.readAt_eq_ld _ _ _).trans (congrArg (tap0 (F := F)) (harg7.read_unread x6))
  have w1 : View.readAt (Elt F) arg7.view (Rect.unit (s := S1x1x3x128) ![0, 0, 1, 0] ![1, 1, 1, 128] inb_S1x1x3x128_S1x1x1x128_0_0_1_0).toLoadRect (harg7.unread x6) = tap1 x6 :=
    (View.readAt_eq_ld _ _ _).trans (congrArg (tap1 (F := F)) (harg7.read_unread x6))
  have w2 : View.readAt (Elt F) arg7.view (Rect.unit (s := S1x1x3x128) ![0, 0, 2, 0] ![1, 1, 1, 128] inb_S1x1x3x128_S1x1x1x128_0_0_2_0).toLoadRect (harg7.unread x6) = tap2 x6 :=
    (View.readAt_eq_ld _ _ _).trans (congrArg (tap2 (F := F)) (harg7.read_unread x6))
  have hg := tiles_of_steps (fun k => convTile x6 k (before x0 k) (before x2 k) (t128 x0 k) (t128 x1 k) (t128 x2 k) (t128 x3 k))
    (pb_k0_t1 Variants.none c none i arg1 harg1 arg2 harg2 arg3 harg3 arg4 harg4 arg5 harg5 arg6 harg6 arg7 harg7 arg8 harg8 arg9 harg9 arg10 harg10 arg11 harg11 arg12 harg12 arg13 harg13 h1 (tap0 x6) (tap1 x6) (tap2 x6) (harg1.unread x0) (harg2.unread x1) (harg3.unread x2) (harg4.unread x3))
    k0_off2 k0_off2_eq (fun k => k0_off2_inb i k h1) rfl (fun k => by
    have r0 : _ = t128 x0 k := load_tile (harg1.unread x0) x0 (harg1.read_unread x0) k (k0_off2 k) (k0_off2_eq k) (k0_off2_inb i k h1)
    have r1 : _ = t128 x1 k := load_tile (harg2.unread x1) x1 (harg2.read_unread x1) k (k0_off2 k) (k0_off2_eq k) (k0_off2_inb i k h1)
    have r2 : _ = t128 x2 k := load_tile (harg3.unread x2) x2 (harg3.read_unread x2) k (k0_off2 k) (k0_off2_eq k) (k0_off2_inb i k h1)
    have r3 : _ = t128 x3 k := load_tile (harg4.unread x3) x3 (harg4.read_unread x3) k (k0_off2 k) (k0_off2_eq k) (k0_off2_inb i k h1)
    have g0 := readAt_before (harg1.unread x0) x0 (harg1.read_unread x0) k (k0_off1 k) (off1_eq k) (k0_off1_inb i k h1)
    have g2 := readAt_before (harg3.unread x2) x2 (harg3.read_unread x2) k (k0_off1 k) (off1_eq k) (k0_off1_inb i k h1)
    refine (pb_k0_t1_succ ..).trans ?_
    unfold tripL_k0_t1 trip_k0_t1
    rw [← r0, ← r1, ← r2, ← r3, ← g0, ← g2]
    unfold convTile
    rfl)
  refine left_of_eq ?_ hg
  unfold convRun; dsimp only; rw [w0, w1, w2]
  rfl

/-- The mixed rows' scratch array, once they are stored. -/
theorem read_mixed (a8 : Memref sig .tc .vmem S1x1x128x128 .f32) (h8 : a8.IsWhole) (a13 : Memref sig .tc .vmem S2048x128 .f32)
    (x7 : Vec F S1x1x128x128 .f32) (p p' : Vec F S2048x128 .bf16) (hp : p' = p) :
    a13.view.read (Elt F) (a13.view.writes (Elt F) a13.view.junk [⟨Rect.unit ![0, 0] S2048x128.size inb_S2048x128_S2048x128_0_0,
      k0_pay6 p' (View.readAt (Elt F) a8.view (Rect.unit ![0, 0, 0, 0] S1x1x128x128.size inb_S1x1x128x128_S1x1x128x128_0_0_0_0).toLoadRect (h8.unread x7))⟩])
      = k0_pay6 p x7 := by
  have hw := whole_piece (F := F) (s := S2048x128) (e := .f32) ![0, 0] (by decide) inb_S2048x128_S2048x128_0_0
  rw [View.read_writes_eq_canon _ _ _ (hw _).1, (hw _).2, readAt_whole _ _ _ (by decide), h8.read_unread, hp]

/-- A whole array read back once every tile of it is stored. -/
theorem read_back (a : Memref sig .tc .vmem S2048x128 .bf16) (f : BufTy.Contents (Elt F) a.view.ty) (L : List (View.Piece (Elt F) S2048x128 .bf16))
    (d : Vec F S2048x128 .bf16) (hL : Leaves L d) :
    View.readAt (Elt F) a.view (Rect.unit ![0, 0] S2048x128.size inb_S2048x128_S2048x128_0_0).toLoadRect (a.view.writes (Elt F) f L) = d := by
  rw [readAt_whole _ _ _ (by decide), View.read_writes_eq_canon _ _ _ hL.1, hL.2]

/-- What one group's two lists of stores leave. -/
abbrev PoolClosed (B : Fin 16 → Vec F S16x128 .bf16 → Vec F S128x128 .bf16 → FVec F S128x128 .bf16) (x4 x5 : Vec F S2048x128 .bf16)
    (x7 : Vec F S1x1x128x128 .f32) (x8 : Vec F S1x1x128 .f32) (L10 L11 : List (View.Piece (Elt F) S2048x128 .bf16)) : Prop :=
  Leaves L10 (poolY x8 x5 (k0_pay6 (pooledY B x4) x7)) ∧ Leaves L11 (pooledY B x4)

set_option maxHeartbeats 1000000 in
/-- Group 1's lists are the closed forms'. -/
theorem poolRun1_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 h2 h3 h4 h5) (x4 x5 : Vec F S2048x128 .bf16) (x7 : Vec F S1x1x128x128 .f32) (x8 : Vec F S1x1x128 .f32)
    (o11 : Vec F S2048x128 .bf16) (e0 : Vec F S2048x128 .f32) :
    let r := poolRun1 c i arg1 harg1 arg2 harg2 arg3 harg3 arg4 harg4 arg5 harg5 arg6 harg6 arg7 harg7 arg8 harg8 arg9 harg9 arg10 harg10 arg11 harg11 arg12 harg12 arg13 harg13 h1 h2 h3 h4 h5 x4 x5 x7 x8 o11 e0
    PoolClosed (fun k => k0_pay5 k) x4 x5 x7 x8 r.1 r.2.1 := by
  have hc : k0_cond2 i = 1#1 := h2
  have hsc : View.readAt (Elt F) arg9.view (Rect.unit ![0, 0, 0] S1x1x128.size inb_S1x1x128_S1x1x128_0_0_0).toLoadRect (harg9.unread x8) = x8 := by
    rw [readAt_whole _ _ _ (by decide), harg9.read_unread]
  have hp := tiles_of_steps (fun k => k0_pay5 k (before x4 k) (t128 x4 k)) (pb_k0_t2 Variants.none c none i arg1 harg1 arg2 harg2 arg3 harg3 arg4 harg4 arg5 harg5 arg6 harg6 arg7 harg7 arg8 harg8 arg9 harg9 arg10 harg10 arg11 harg11 arg12 harg12 arg13 harg13 hc (harg5.unread x4))
    k0_off4 k0_off4_eq (fun k => k0_off4_inb i k hc) rfl (fun k => by
      have r4 : _ = t128 x4 k := load_tile (harg5.unread x4) x4 (harg5.read_unread x4) k (k0_off4 k) (k0_off4_eq k) (k0_off4_inb i k hc)
      have g4 := readAt_before (harg5.unread x4) x4 (harg5.read_unread x4) k (k0_off3 k) (off3_eq k) (k0_off3_inb i k hc)
      refine (pb_k0_t2_succ ..).trans ?_
      unfold tripL_k0_t2 trip_k0_t2
      rw [← r4, ← g4]
      rfl)
  have hmx : arg13.view.read (Elt F) (arg13.view.writes (Elt F) arg13.view.junk (poolRun1.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) = k0_pay6 (pooledY (fun k => k0_pay5 k) x4) x7 := by
    unfold poolRun1.sl.S0_1
    exact read_mixed (F := F) arg8 harg8 arg13 x7 _ _ (read_back arg12 _ _ _ hp)
  have hy := tiles_of_steps (fun k => k0_pay7 x8 (t128 x5 k) (t128 (Val := Elt F) (e := .f32) (k0_pay6 (pooledY (fun k => k0_pay5 k) x4) x7) k))
    (pb_k0_t3 Variants.none c none i arg1 harg1 arg2 harg2 arg3 harg3 arg4 harg4 arg5 harg5 arg6 harg6 arg7 harg7 arg8 harg8 arg9 harg9 arg10 harg10 arg11 harg11 arg12 harg12 arg13 harg13 hc x8 (harg6.unread x5) (arg13.view.writes (Elt F) arg13.view.junk (poolRun1.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)))
    k0_off5 k0_off5_eq (fun k => k0_off5_inb i k hc) rfl (fun k => by
      have r5 : _ = t128 x5 k := load_tile (harg6.unread x5) x5 (harg6.read_unread x5) k (k0_off5 k) (k0_off5_eq k) (k0_off5_inb i k hc)
      have rm : _ = t128 (Val := Elt F) (e := .f32) (k0_pay6 (pooledY (fun k => k0_pay5 k) x4) x7) k := load_tile _ _ hmx k (k0_off5 k) (k0_off5_eq k) (k0_off5_inb i k hc)
      refine (pb_k0_t3_succ ..).trans ?_
      unfold tripL_k0_t3 trip_k0_t3
      rw [← r5, ← rm]
      rfl)
  refine ⟨left_of_eq ?_ hy, left_of_eq rfl hp⟩
  exact congrArg (fun v => pb_k0_t3 Variants.none c none i arg1 harg1 arg2 harg2 arg3 harg3 arg4 harg4 arg5 harg5 arg6 harg6 arg7 harg7 arg8 harg8 arg9 harg9 arg10 harg10 arg11 harg11 arg12 harg12 arg13 harg13 hc v (harg6.unread x5) (arg13.view.writes (Elt F) arg13.view.junk (poolRun1.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) 16) hsc

set_option maxHeartbeats 1000000 in
/-- Group 2's lists are the closed forms'. -/
theorem poolRun2_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 h2 h3 h4 h5) (x4 x5 : Vec F S2048x128 .bf16) (x7 : Vec F S1x1x128x128 .f32) (x8 : Vec F S1x1x128 .f32)
    (o11 : Vec F S2048x128 .bf16) (e0 : Vec F S2048x128 .f32) :
    let r := poolRun2 c i arg1 harg1 arg2 harg2 arg3 harg3 arg4 harg4 arg5 harg5 arg6 harg6 arg7 harg7 arg8 harg8 arg9 harg9 arg10 harg10 arg11 harg11 arg12 harg12 arg13 harg13 h1 h2 h3 h4 h5 x4 x5 x7 x8 o11 e0
    PoolClosed (fun k => k0_pay8 k) x4 x5 x7 x8 r.1 r.2.1 := by
  have hc : k0_cond3 i = 1#1 := h3
  have hsc : View.readAt (Elt F) arg9.view (Rect.unit ![0, 0, 0] S1x1x128.size inb_S1x1x128_S1x1x128_0_0_0).toLoadRect (harg9.unread x8) = x8 := by
    rw [readAt_whole _ _ _ (by decide), harg9.read_unread]
  have hp := tiles_of_steps (fun k => k0_pay8 k (before x4 k) (t128 x4 k)) (pb_k0_t4 Variants.none c none i arg1 harg1 arg2 harg2 arg3 harg3 arg4 harg4 arg5 harg5 arg6 harg6 arg7 harg7 arg8 harg8 arg9 harg9 arg10 harg10 arg11 harg11 arg12 harg12 arg13 harg13 hc (harg5.unread x4))
    k0_off7 k0_off7_eq (fun k => k0_off7_inb i k hc) rfl (fun k => by
      have r4 : _ = t128 x4 k := load_tile (harg5.unread x4) x4 (harg5.read_unread x4) k (k0_off7 k) (k0_off7_eq k) (k0_off7_inb i k hc)
      have g4 := readAt_before (harg5.unread x4) x4 (harg5.read_unread x4) k (k0_off6 k) (off6_eq k) (k0_off6_inb i k hc)
      refine (pb_k0_t4_succ ..).trans ?_
      unfold tripL_k0_t4 trip_k0_t4
      rw [← r4, ← g4]
      rfl)
  have hmx : arg13.view.read (Elt F) (arg13.view.writes (Elt F) arg13.view.junk (poolRun2.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) = k0_pay6 (pooledY (fun k => k0_pay8 k) x4) x7 := by
    unfold poolRun2.sl.S0_1
    exact read_mixed (F := F) arg8 harg8 arg13 x7 _ _ (read_back arg12 _ _ _ hp)
  have hy := tiles_of_steps (fun k => k0_pay7 x8 (t128 x5 k) (t128 (Val := Elt F) (e := .f32) (k0_pay6 (pooledY (fun k => k0_pay8 k) x4) x7) k))
    (pb_k0_t5 Variants.none c none i arg1 harg1 arg2 harg2 arg3 harg3 arg4 harg4 arg5 harg5 arg6 harg6 arg7 harg7 arg8 harg8 arg9 harg9 arg10 harg10 arg11 harg11 arg12 harg12 arg13 harg13 hc x8 (harg6.unread x5) (arg13.view.writes (Elt F) arg13.view.junk (poolRun2.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)))
    k0_off8 k0_off8_eq (fun k => k0_off8_inb i k hc) rfl (fun k => by
      have r5 : _ = t128 x5 k := load_tile (harg6.unread x5) x5 (harg6.read_unread x5) k (k0_off8 k) (k0_off8_eq k) (k0_off8_inb i k hc)
      have rm : _ = t128 (Val := Elt F) (e := .f32) (k0_pay6 (pooledY (fun k => k0_pay8 k) x4) x7) k := load_tile _ _ hmx k (k0_off8 k) (k0_off8_eq k) (k0_off8_inb i k hc)
      refine (pb_k0_t5_succ ..).trans ?_
      unfold tripL_k0_t5 trip_k0_t5
      rw [← r5, ← rm]
      rfl)
  refine ⟨left_of_eq ?_ hy, left_of_eq rfl hp⟩
  exact congrArg (fun v => pb_k0_t5 Variants.none c none i arg1 harg1 arg2 harg2 arg3 harg3 arg4 harg4 arg5 harg5 arg6 harg6 arg7 harg7 arg8 harg8 arg9 harg9 arg10 harg10 arg11 harg11 arg12 harg12 arg13 harg13 hc v (harg6.unread x5) (arg13.view.writes (Elt F) arg13.view.junk (poolRun2.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) 16) hsc

set_option maxHeartbeats 1000000 in
/-- Group 3's lists are the closed forms'. -/
theorem poolRun3_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 h2 h3 h4 h5) (x4 x5 : Vec F S2048x128 .bf16) (x7 : Vec F S1x1x128x128 .f32) (x8 : Vec F S1x1x128 .f32)
    (o11 : Vec F S2048x128 .bf16) (e0 : Vec F S2048x128 .f32) :
    let r := poolRun3 c i arg1 harg1 arg2 harg2 arg3 harg3 arg4 harg4 arg5 harg5 arg6 harg6 arg7 harg7 arg8 harg8 arg9 harg9 arg10 harg10 arg11 harg11 arg12 harg12 arg13 harg13 h1 h2 h3 h4 h5 x4 x5 x7 x8 o11 e0
    PoolClosed (fun k => k0_pay11 k) x4 x5 x7 x8 r.1 r.2.1 := by
  have hc : k0_cond4 i = 1#1 := h4
  have hsc : View.readAt (Elt F) arg9.view (Rect.unit ![0, 0, 0] S1x1x128.size inb_S1x1x128_S1x1x128_0_0_0).toLoadRect (harg9.unread x8) = x8 := by
    rw [readAt_whole _ _ _ (by decide), harg9.read_unread]
  have hp := tiles_of_steps (fun k => k0_pay11 k (before x4 k) (t128 x4 k)) (pb_k0_t6 Variants.none c none i arg1 harg1 arg2 harg2 arg3 harg3 arg4 harg4 arg5 harg5 arg6 harg6 arg7 harg7 arg8 harg8 arg9 harg9 arg10 harg10 arg11 harg11 arg12 harg12 arg13 harg13 hc (harg5.unread x4))
    k0_off10 k0_off10_eq (fun k => k0_off10_inb i k hc) rfl (fun k => by
      have r4 : _ = t128 x4 k := load_tile (harg5.unread x4) x4 (harg5.read_unread x4) k (k0_off10 k) (k0_off10_eq k) (k0_off10_inb i k hc)
      have g4 := readAt_before (harg5.unread x4) x4 (harg5.read_unread x4) k (k0_off9 k) (off9_eq k) (k0_off9_inb i k hc)
      refine (pb_k0_t6_succ ..).trans ?_
      unfold tripL_k0_t6 trip_k0_t6
      rw [← r4, ← g4]
      rfl)
  have hmx : arg13.view.read (Elt F) (arg13.view.writes (Elt F) arg13.view.junk (poolRun3.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) = k0_pay6 (pooledY (fun k => k0_pay11 k) x4) x7 := by
    unfold poolRun3.sl.S0_1
    exact read_mixed (F := F) arg8 harg8 arg13 x7 _ _ (read_back arg12 _ _ _ hp)
  have hy := tiles_of_steps (fun k => k0_pay7 x8 (t128 x5 k) (t128 (Val := Elt F) (e := .f32) (k0_pay6 (pooledY (fun k => k0_pay11 k) x4) x7) k))
    (pb_k0_t7 Variants.none c none i arg1 harg1 arg2 harg2 arg3 harg3 arg4 harg4 arg5 harg5 arg6 harg6 arg7 harg7 arg8 harg8 arg9 harg9 arg10 harg10 arg11 harg11 arg12 harg12 arg13 harg13 hc x8 (harg6.unread x5) (arg13.view.writes (Elt F) arg13.view.junk (poolRun3.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)))
    k0_off11 k0_off11_eq (fun k => k0_off11_inb i k hc) rfl (fun k => by
      have r5 : _ = t128 x5 k := load_tile (harg6.unread x5) x5 (harg6.read_unread x5) k (k0_off11 k) (k0_off11_eq k) (k0_off11_inb i k hc)
      have rm : _ = t128 (Val := Elt F) (e := .f32) (k0_pay6 (pooledY (fun k => k0_pay11 k) x4) x7) k := load_tile _ _ hmx k (k0_off11 k) (k0_off11_eq k) (k0_off11_inb i k hc)
      refine (pb_k0_t7_succ ..).trans ?_
      unfold tripL_k0_t7 trip_k0_t7
      rw [← r5, ← rm]
      rfl)
  refine ⟨left_of_eq ?_ hy, left_of_eq rfl hp⟩
  exact congrArg (fun v => pb_k0_t7 Variants.none c none i arg1 harg1 arg2 harg2 arg3 harg3 arg4 harg4 arg5 harg5 arg6 harg6 arg7 harg7 arg8 harg8 arg9 harg9 arg10 harg10 arg11 harg11 arg12 harg12 arg13 harg13 hc v (harg6.unread x5) (arg13.view.writes (Elt F) arg13.view.junk (poolRun3.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) 16) hsc

set_option maxHeartbeats 1000000 in
/-- Group 4's lists are the closed forms'. -/
theorem poolRun4_closed (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (h1 h2 h3 h4 h5) (x4 x5 : Vec F S2048x128 .bf16) (x7 : Vec F S1x1x128x128 .f32) (x8 : Vec F S1x1x128 .f32)
    (o11 : Vec F S2048x128 .bf16) (e0 : Vec F S2048x128 .f32) :
    let r := poolRun4 c i arg1 harg1 arg2 harg2 arg3 harg3 arg4 harg4 arg5 harg5 arg6 harg6 arg7 harg7 arg8 harg8 arg9 harg9 arg10 harg10 arg11 harg11 arg12 harg12 arg13 harg13 h1 h2 h3 h4 h5 x4 x5 x7 x8 o11 e0
    PoolClosed (fun k => k0_pay14 k) x4 x5 x7 x8 r.1 r.2.1 := by
  have hc : k0_cond5 i = 1#1 := h5
  have hsc : View.readAt (Elt F) arg9.view (Rect.unit ![0, 0, 0] S1x1x128.size inb_S1x1x128_S1x1x128_0_0_0).toLoadRect (harg9.unread x8) = x8 := by
    rw [readAt_whole _ _ _ (by decide), harg9.read_unread]
  have hp := tiles_of_steps (fun k => k0_pay14 k (before x4 k) (t128 x4 k)) (pb_k0_t8 Variants.none c none i arg1 harg1 arg2 harg2 arg3 harg3 arg4 harg4 arg5 harg5 arg6 harg6 arg7 harg7 arg8 harg8 arg9 harg9 arg10 harg10 arg11 harg11 arg12 harg12 arg13 harg13 hc (harg5.unread x4))
    k0_off13 k0_off13_eq (fun k => k0_off13_inb i k hc) rfl (fun k => by
      have r4 : _ = t128 x4 k := load_tile (harg5.unread x4) x4 (harg5.read_unread x4) k (k0_off13 k) (k0_off13_eq k) (k0_off13_inb i k hc)
      have g4 := readAt_before (harg5.unread x4) x4 (harg5.read_unread x4) k (k0_off12 k) (off12_eq k) (k0_off12_inb i k hc)
      refine (pb_k0_t8_succ ..).trans ?_
      unfold tripL_k0_t8 trip_k0_t8
      rw [← r4, ← g4]
      rfl)
  have hmx : arg13.view.read (Elt F) (arg13.view.writes (Elt F) arg13.view.junk (poolRun4.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) = k0_pay6 (pooledY (fun k => k0_pay14 k) x4) x7 := by
    unfold poolRun4.sl.S0_1
    exact read_mixed (F := F) arg8 harg8 arg13 x7 _ _ (read_back arg12 _ _ _ hp)
  have hy := tiles_of_steps (fun k => k0_pay7 x8 (t128 x5 k) (t128 (Val := Elt F) (e := .f32) (k0_pay6 (pooledY (fun k => k0_pay14 k) x4) x7) k))
    (pb_k0_t9 Variants.none c none i arg1 harg1 arg2 harg2 arg3 harg3 arg4 harg4 arg5 harg5 arg6 harg6 arg7 harg7 arg8 harg8 arg9 harg9 arg10 harg10 arg11 harg11 arg12 harg12 arg13 harg13 hc x8 (harg6.unread x5) (arg13.view.writes (Elt F) arg13.view.junk (poolRun4.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)))
    k0_off14 k0_off14_eq (fun k => k0_off14_inb i k hc) rfl (fun k => by
      have r5 : _ = t128 x5 k := load_tile (harg6.unread x5) x5 (harg6.read_unread x5) k (k0_off14 k) (k0_off14_eq k) (k0_off14_inb i k hc)
      have rm : _ = t128 (Val := Elt F) (e := .f32) (k0_pay6 (pooledY (fun k => k0_pay14 k) x4) x7) k := load_tile _ _ hmx k (k0_off14 k) (k0_off14_eq k) (k0_off14_inb i k hc)
      refine (pb_k0_t9_succ ..).trans ?_
      unfold tripL_k0_t9 trip_k0_t9
      rw [← r5, ← rm]
      rfl)
  refine ⟨left_of_eq ?_ hy, left_of_eq rfl hp⟩
  exact congrArg (fun v => pb_k0_t9 Variants.none c none i arg1 harg1 arg2 harg2 arg3 harg3 arg4 harg4 arg5 harg5 arg6 harg6 arg7 harg7 arg8 harg8 arg9 harg9 arg10 harg10 arg11 harg11 arg12 harg12 arg13 harg13 hc v (harg6.unread x5) (arg13.view.writes (Elt F) arg13.view.junk (poolRun4.sl.S0_1 c i arg1 harg1 arg2 harg2 arg3 harg3 arg4 harg4 arg5 harg5 arg6 harg6 arg7 harg7 arg8 harg8 arg9 harg9 arg10 harg10 arg11 harg11 arg12 harg12 arg13 harg13 hc x4 x7 o11)) 16) hsc

end Cert.Proof.MixFwd

end
-- ==== Proof.MixFwd.At.lean ====
/-
  The mixers' forward results at an index, over the extended reals: the arrays the loops over tiles leave, read at a row and
  a column.
-/
module

public import proofs.«01_k».proof.Proof.MixFwd.Closed
public import proofs.«01_k».proof.Proof.Mix.RefAt

@[expose] public section

set_option maxRecDepth 16384

noncomputable section

namespace Cert.Proof.MixFwd

open Cert.MixFwdIdeal Cert.MixFwdIdeal.Gen Idealize.ShloMosaic
open Cert.Proof.Mix (t128 a128 ca lag conv wide wide_row wide_lag cnt cnt_ne cnt_word row128 t128_at)

/-- The word that says a tile is the first. -/
theorem first_word : ∀ k : Fin 16, Scalar.cmpi .eq (Scf.iv 0#32 1#32 k.val) 0#32 = if k.val = 0 then 1#1 else 0#1 := by
  decide +kernel

section At

variable (x0 x1 x2 x3 : Vec Ideal S2048x128 .bf16) (w : Vec Ideal S1x1x3x128 .f32) (d : Fin 128)

/-- A tile's rows with the sixteen before it, zero before the first. -/
theorem wide_of (x : Vec Ideal S2048x128 .bf16) (k : Fin 16) (n : Fin 144) :
    (if h : n.val < 16 then Scalar.select (Scalar.cmpi CmpIPredicate.eq (Scf.iv 0#32 1#32 k.val) 0#32) (0 : EReal) (before x k (ix2 ⟨n.val, h⟩ d))
      else t128 x k (ix2 ⟨n.val - 16, by omega⟩ d)) = wide d x (k.val * 128 + n.val) := by
  have hk := k.isLt
  have hn := n.isLt
  unfold wide
  rw [first_word]
  by_cases h : n.val < 16
  · rw [dif_pos h]
    by_cases h1 : k.val = 0
    · rw [if_pos h1, dif_neg (by omega)]
      rfl
    · rw [if_neg h1, dif_pos (by omega)]
      refine congrArg x (congrArg (fun r => ix2 r d) (Fin.ext ?_))
      show 128 * k.val - 16 + n.val = k.val * 128 + n.val - 16
      omega
  · rw [dif_neg h, dif_pos (by omega)]
    exact t128_at x k _ d _ (by dsimp only; omega)

theorem tap0_at : k0_pay1 (tap0 w) (ix2 0 d) = w (ix4 0 0 0 d) := by
  pointwise [k0_pay1]
  exact congrArg w (by ext i; fin_cases i <;> first | rfl | exact Nat.zero_add d.val | (show 0 + d.val * 1 = d.val; omega) | (show 0 + 1 * d.val = d.val; omega))
theorem tap1_at : k0_pay2 (tap1 w) (ix2 0 d) = w (ix4 0 0 1 d) := by
  pointwise [k0_pay2]
  exact congrArg w (by ext i; fin_cases i <;> first | rfl | exact Nat.zero_add d.val | (show 0 + d.val * 1 = d.val; omega) | (show 0 + 1 * d.val = d.val; omega))
theorem tap2_at : k0_pay3 (tap2 w) (ix2 0 d) = w (ix4 0 0 2 d) := by
  pointwise [k0_pay3]
  exact congrArg w (by ext i; fin_cases i <;> first | rfl | exact Nat.zero_add d.val | (show 0 + d.val * 1 = d.val; omega) | (show 0 + 1 * d.val = d.val; omega))

theorem a128_at (P : Fin 16 → S128x128.Idx → EReal) (k : Fin 16) (a : Fin 128) (R : Fin 2048) (h : R.val = k.val * 128 + a.val) :
    a128 (Val := Elt Ideal) (e := .bf16) P (ix2 R d) = P k (ix2 a d) :=
  Cert.Proof.Mix.tiled_at (Val := Elt Ideal) (e := .bf16) (R := 128) (T := 16) rfl P k a d (ix2 R d) h rfl

/-- Turning the rows down by `s`. -/
theorem roll (n s : ℕ) (h : s ≤ n) (hn : n < 144) : (n + 144 - s) % 144 = n - s := by omega

/-- A tile with the sixteen rows before it. -/
theorem rows_at (k : Fin 16) (x : Vec Ideal S2048x128 .bf16) (z : S144x128.Idx → EReal)
    (hz : concatenate S144x128 0 [⟨S16x128, Scalar.select (Scalar.cmpi CmpIPredicate.eq (Scf.iv 0#32 1#32 k.val) 0#32)
        (broadcast S16x128 (Scalar.ofBits (F := Ideal) FTy.f32 0#32)) (extf FTy.f32 (before x k) bitsLt_bf16_f32)⟩,
      ⟨S128x128, extf FTy.f32 (t128 x k) bitsLt_bf16_f32⟩] concatenates_S16x128_S128x128_S144x128_d0 = z) (n : ℕ) (hn : n < 144) :
    z (ix2 ⟨n, hn⟩ d) = wide d x (k.val * 128 + n) := by
  subst hz
  rw [← wide_of d x k ⟨n, hn⟩]
  pointwise

theorem conv_at (k : Fin 16) (a : Fin 128) (R : Fin 2048) (h : R.val = k.val * 128 + a.val) :
    k0_pay18 (k0_pay1 (tap0 w)) (k0_pay2 (tap1 w)) (k0_pay3 (tap2 w)) 0#32 1#32 k (before x2 k) (t128 x2 k) (before x0 k) (t128 x0 k) (t128 x1 k) (ix2 a d)
      = x1 (ix2 R d) * conv x0 x2 w d R := by
  unfold k0_pay18
  dsimp only
  generalize hz : concatenate S144x128 0 _ _ = z
  generalize hy : concatenate S144x128 0 _ _ = y
  pointwise
  simp (disch := omega) only [rows_at d k x2 z hz, rows_at d k x0 y hy, roll, tap0_at, tap1_at, tap2_at]
  rw [t128_at x1 k a d R h, wide_row d x0 R _ (by omega), wide_row d x2 R _ (by omega), wide_lag x0 x2 d 1 (by decide) R _ (by omega),
    wide_lag x0 x2 d 2 (by decide) R _ (by omega)]

theorem convY_at (R : Fin 2048) : convY x0 x1 x2 x3 w (ix2 R d)
    = x1 (ix2 R d) * conv x0 x2 w d R * (x3 (ix2 R d) * Cert.Proof.Mix.sig (x3 (ix2 R d))) := by
  obtain ⟨k, a, h⟩ := row128 R
  unfold convY
  refine (a128_at d _ k a R h).trans ?_
  pointwise [convTile, k0_pay4, k0_pay17]
  rw [conv_at x0 x1 x2 w d k a R h, logistic_of_tanh, t128_at x3 k a d R h]

/-- The sum of a window of rows ending at a row. -/
abbrev window (n : ℕ) (x : Vec Ideal S2048x128 .bf16) (R : Fin 2048) : EReal := ∑ i : Fin n, wide d x (R.val + 16 - i.val)

theorem pool2_at (k : Fin 16) (a : Fin 128) (R : Fin 2048) (h : R.val = k.val * 128 + a.val) (x : Vec Ideal S2048x128 .bf16) :
    k0_pay5 k (before x k) (t128 x k) (ix2 a d) = Ideal.div (window d 2 x R) ((cnt 2 R.val : ℝ) : EReal) - x (ix2 R d) := by
  have e0 : wide d x (k.val * 128 + (16 + a.val)) = x (ix2 R d) := wide_row d x R _ (by omega)
  have e : ∀ i, 0 < i → i ≤ 16 → wide d x (k.val * 128 + (16 + a.val - i)) = wide d x (R.val + 16 - i) := fun i _ hi =>
    congrArg (wide d x) (by omega)
  have e1 : wide d x (R.val + 16) = x (ix2 R d) := wide_row d x R _ rfl
  unfold k0_pay5
  dsimp only
  generalize hz : concatenate S144x128 0 _ _ = z
  pointwise
  rw [cnt_word k a.val 2 (by omega) (by decide), ← h]
  simp (disch := omega) only [rows_at d k x z hz, roll, Nat.sub_sub, Nat.reduceAdd, e0, e]
  rw [window, Fin.sum_univ_eq_sum_range (fun i => wide d x (R.val + 16 - i))]
  simp only [Finset.sum_range_succ, Finset.sum_range_zero, zero_add, add_assoc, Nat.sub_zero, e1]

theorem pool4_at (k : Fin 16) (a : Fin 128) (R : Fin 2048) (h : R.val = k.val * 128 + a.val) (x : Vec Ideal S2048x128 .bf16) :
    k0_pay8 k (before x k) (t128 x k) (ix2 a d) = Ideal.div (window d 4 x R) ((cnt 4 R.val : ℝ) : EReal) - x (ix2 R d) := by
  have e0 : wide d x (k.val * 128 + (16 + a.val)) = x (ix2 R d) := wide_row d x R _ (by omega)
  have e : ∀ i, 0 < i → i ≤ 16 → wide d x (k.val * 128 + (16 + a.val - i)) = wide d x (R.val + 16 - i) := fun i _ hi =>
    congrArg (wide d x) (by omega)
  have e1 : wide d x (R.val + 16) = x (ix2 R d) := wide_row d x R _ rfl
  unfold k0_pay8
  dsimp only
  generalize hz : concatenate S144x128 0 _ _ = z
  pointwise
  rw [cnt_word k a.val 4 (by omega) (by decide), ← h]
  simp (disch := omega) only [rows_at d k x z hz, roll, Nat.sub_sub, Nat.reduceAdd, e0, e]
  rw [window, Fin.sum_univ_eq_sum_range (fun i => wide d x (R.val + 16 - i))]
  simp only [Finset.sum_range_succ, Finset.sum_range_zero, zero_add, add_assoc, Nat.sub_zero, e1]

theorem pool8_at (k : Fin 16) (a : Fin 128) (R : Fin 2048) (h : R.val = k.val * 128 + a.val) (x : Vec Ideal S2048x128 .bf16) :
    k0_pay11 k (before x k) (t128 x k) (ix2 a d) = Ideal.div (window d 8 x R) ((cnt 8 R.val : ℝ) : EReal) - x (ix2 R d) := by
  have e0 : wide d x (k.val * 128 + (16 + a.val)) = x (ix2 R d) := wide_row d x R _ (by omega)
  have e : ∀ i, 0 < i → i ≤ 16 → wide d x (k.val * 128 + (16 + a.val - i)) = wide d x (R.val + 16 - i) := fun i _ hi =>
    congrArg (wide d x) (by omega)
  have e1 : wide d x (R.val + 16) = x (ix2 R d) := wide_row d x R _ rfl
  unfold k0_pay11
  dsimp only
  generalize hz : concatenate S144x128 0 _ _ = z
  pointwise
  rw [cnt_word k a.val 8 (by omega) (by decide), ← h]
  simp (disch := omega) only [rows_at d k x z hz, roll, Nat.sub_sub, Nat.reduceAdd, e0, e]
  rw [window, Fin.sum_univ_eq_sum_range (fun i => wide d x (R.val + 16 - i))]
  simp only [Finset.sum_range_succ, Finset.sum_range_zero, zero_add, add_assoc, Nat.sub_zero, e1]

set_option maxHeartbeats 2000000 in
theorem pool16_at (k : Fin 16) (a : Fin 128) (R : Fin 2048) (h : R.val = k.val * 128 + a.val) (x : Vec Ideal S2048x128 .bf16) :
    k0_pay14 k (before x k) (t128 x k) (ix2 a d) = Ideal.div (window d 16 x R) ((cnt 16 R.val : ℝ) : EReal) - x (ix2 R d) := by
  have e0 : wide d x (k.val * 128 + (16 + a.val)) = x (ix2 R d) := wide_row d x R _ (by omega)
  have e : ∀ i, 0 < i → i ≤ 16 → wide d x (k.val * 128 + (16 + a.val - i)) = wide d x (R.val + 16 - i) := fun i _ hi =>
    congrArg (wide d x) (by omega)
  have e1 : wide d x (R.val + 16) = x (ix2 R d) := wide_row d x R _ rfl
  unfold k0_pay14
  dsimp only
  generalize hz : concatenate S144x128 0 _ _ = z
  pointwise
  rw [cnt_word k a.val 16 (by omega) (by decide), ← h]
  simp (disch := omega) only [rows_at d k x z hz, roll, Nat.sub_sub, Nat.reduceAdd, e0, e]
  rw [window, Fin.sum_univ_eq_sum_range (fun i => wide d x (R.val + 16 - i))]
  simp only [Finset.sum_range_succ, Finset.sum_range_zero, zero_add, add_assoc, Nat.sub_zero, e1]

theorem mixed_at (wt : Vec Ideal S1x1x128x128 .f32) (p : Vec Ideal S2048x128 .bf16) (R : Fin 2048) :
    k0_pay6 p wt (ix2 R d) = ∑ c : Fin 128, p (ix2 R c) * wt (ix4 0 0 c d) := by
  pointwise [k0_pay6]

theorem poolY_at (sc : Vec Ideal S1x1x128 .f32) (g : Vec Ideal S2048x128 .bf16) (mx : Vec Ideal S2048x128 .f32) (R : Fin 2048) :
    poolY sc g mx (ix2 R d) = mx (ix2 R d) * sc (ix3 0 0 d) * (g (ix2 R d) * Cert.Proof.Mix.sig (g (ix2 R d))) := by
  obtain ⟨k, a, h⟩ := row128 R
  unfold poolY
  refine (a128_at d _ k a R h).trans ?_
  pointwise [k0_pay7]
  rw [logistic_of_tanh, t128_at g k a d R h, t128_at mx k a d R h]

end At

end Cert.Proof.MixFwd

end
-- ==== Proof.MixFwd.Frame.lean ====
/-
  The run of the mixers' forward kernel: what its body leaves at every point of its grid (the CONVOLUTION mixer's result
  at the first four points, one group's POOLING result and pooled rows at each of the last four), that every point of
  the body leaves it, and that the program runs. The first half's result keeps what the fourth point left until the last
  point, where it is written back.
-/
module

public import proofs.«01_k».proof.Proof.MixFwd.Closed
public import Idealize.ShloMosaic.Lib.Pipeline.TableIdle
public import Idealize.ShloMosaic.Lib.Claim

@[expose] public section

set_option maxRecDepth 16384

noncomputable section

namespace Cert.Proof.MixFwd

open Cert.MixFwdIdeal Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref whose stores cover it and leave `d` is held at `d`. -/
theorem held_of_wrote (c : Dev nD) {sh : Shape} {e : EltTy} (a : Memref sig .tc .vmem sh e) {L : List (View.Piece (Elt F) sh e)} {d : Vec F sh e}
    (h : Leaves L d) : (wrote c a L : sProp 𝕄) ⊢ held c a d := by
  unfold held owns wrote
  iintro ⟨%f, H⟩; iexists _; isplitr; swap; · iexact H
  ipureintro; exact (View.read_writes_eq_canon _ _ _ h.1).trans h.2

/-- What a tile and the rows before it give, by the point that computes them. -/
def group (t : ℕ) : Fin 16 → Vec F S16x128 .bf16 → Vec F S128x128 .bf16 → FVec F S128x128 .bf16 :=
  if t = 4 then fun k => k0_pay5 k else if t = 5 then fun k => k0_pay8 k else if t = 6 then fun k => k0_pay11 k else fun k => k0_pay14 k

/-- Which half a point computes. -/
theorem cond_conv : ∀ t : Fin grid0.N, t.val < 4 → k0_cond1 (grid0.coords t) = 1#1 ∧ ¬k0_cond2 (grid0.coords t) = 1#1
    ∧ ¬k0_cond3 (grid0.coords t) = 1#1 ∧ ¬k0_cond4 (grid0.coords t) = 1#1 ∧ ¬k0_cond5 (grid0.coords t) = 1#1 := by decide +kernel
theorem cond_pool : ∀ t : Fin grid0.N, 4 ≤ t.val → ¬k0_cond1 (grid0.coords t) = 1#1
    ∧ (k0_cond2 (grid0.coords t) = 1#1 ↔ t.val = 4) ∧ (k0_cond3 (grid0.coords t) = 1#1 ↔ t.val = 5)
    ∧ (k0_cond4 (grid0.coords t) = 1#1 ↔ t.val = 6) ∧ (k0_cond5 (grid0.coords t) = 1#1 ↔ t.val = 7) := by decide +kernel

set_option maxHeartbeats 1000000 in
/-- The convolution half at a point of it. -/
theorem conv_wp (c : Dev nD) (t : Fin grid0.N) (ht : t.val < 4) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (x0 x1 x2 x3 : Vec F S2048x128 .bf16) (x6 : Vec F S1x1x3x128 .f32) (E : Set ℕ) (K : PUnit → sProp 𝕄) :
    iprop(held c arg1 x0 ∗ held c arg2 x1 ∗ held c arg3 x2 ∗ held c arg4 x3 ∗ held c arg7 x6 ∗ some' c arg10
        ∗ (iprop(held c arg1 x0 ∗ held c arg2 x1 ∗ held c arg3 x2 ∗ held c arg4 x3 ∗ held c arg7 x6
          ∗ held c arg10 (convY x0 x1 x2 x3 x6)) -∗ K ⟨⟩))
      ⊢ wp frame (wpE (defs₀ (F := F)) Variants.none c none) E (cc0_mix_fwd (grid0.coords t) arg1 harg1 arg2 harg2 arg3 harg3 arg4 harg4 arg5 harg5 arg6 harg6 arg7 harg7 arg8 harg8 arg9 harg9 arg10 harg10 arg11 harg11 arg12 harg12 arg13 harg13) K := by
  obtain ⟨h1, h2, h3, h4, h5⟩ := cond_conv t ht
  have hr := convRun_closed (F := F) c (grid0.coords t) arg1 harg1 arg2 harg2 arg3 harg3 arg4 harg4 arg5 harg5 arg6 harg6 arg7 harg7 arg8 harg8 arg9 harg9 arg10 harg10 arg11 harg11 arg12 harg12 arg13 harg13 h1 h2 h3 h4 h5 x0 x1 x2 x3 x6
  generalize convRun (F := F) c (grid0.coords t) arg1 harg1 arg2 harg2 arg3 harg3 arg4 harg4 arg5 harg5 arg6 harg6 arg7 harg7 arg8 harg8 arg9 harg9 arg10 harg10 arg11 harg11 arg12 harg12 arg13 harg13 h1 h2 h3 h4 h5 x0 x1 x2 x3 x6 = r at hr
  iintro ⟨H0, H1, H2, H3, H6, H9, Hk⟩
  iapply (r.2 E K)
  isplitl [H0]; · iexact H0
  isplitl [H1]; · iexact H1
  isplitl [H2]; · iexact H2
  isplitl [H3]; · iexact H3
  isplitl [H6]; · iexact H6
  isplitl [H9]; · iexact H9
  iintro ⟨H0, H1, H2, H3, H6, H9⟩
  iapply Hk
  isplitl [H0]; · iexact H0
  isplitl [H1]; · iexact H1
  isplitl [H2]; · iexact H2
  isplitl [H3]; · iexact H3
  isplitl [H6]; · iexact H6
  iapply (held_of_wrote c arg10 hr); iexact H9

set_option maxHeartbeats 4000000 in
/-- One group's pooling half at its point: the lists its stores leave, closed. -/
theorem pool_run (c : Dev nD) (t : Fin grid0.N) (ht : 4 ≤ t.val) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (x4 x5 : Vec F S2048x128 .bf16) (x7 : Vec F S1x1x128x128 .f32) (x8 : Vec F S1x1x128 .f32)
    (o : Vec F S2048x128 .bf16) (e0 : Vec F S2048x128 .f32) :
    ∃ r : PoolRun (F := F) c (grid0.coords t) arg1 harg1 arg2 harg2 arg3 harg3 arg4 harg4 arg5 harg5 arg6 harg6 arg7 harg7 arg8 harg8 arg9 harg9 arg10 harg10 arg11 harg11 arg12 harg12 arg13 harg13 x4 x5 x7 x8 o e0,
      PoolClosed (group t.val) x4 x5 x7 x8 r.1 r.2.1 := by
  obtain ⟨h1, h2, h3, h4, h5⟩ := cond_pool t ht
  have h8 : t.val < 8 := lt_of_lt_of_eq t.isLt N_0
  have hm : t.val = 4 ∨ t.val = 5 ∨ t.val = 6 ∨ t.val = 7 := by omega
  unfold group
  rcases hm with h | h | h | h
  · rw [if_pos h]
    exact ⟨poolRun1 (F := F) c (grid0.coords t) arg1 harg1 arg2 harg2 arg3 harg3 arg4 harg4 arg5 harg5 arg6 harg6 arg7 harg7 arg8 harg8 arg9 harg9 arg10 harg10 arg11 harg11 arg12 harg12 arg13 harg13 h1 (h2.mpr h) (fun e => by have := h3.mp e; omega) (fun e => by have := h4.mp e; omega) (fun e => by have := h5.mp e; omega) x4 x5 x7 x8 o e0, poolRun1_closed (F := F) c (grid0.coords t) arg1 harg1 arg2 harg2 arg3 harg3 arg4 harg4 arg5 harg5 arg6 harg6 arg7 harg7 arg8 harg8 arg9 harg9 arg10 harg10 arg11 harg11 arg12 harg12 arg13 harg13 h1 (h2.mpr h) (fun e => by have := h3.mp e; omega) (fun e => by have := h4.mp e; omega) (fun e => by have := h5.mp e; omega) x4 x5 x7 x8 o e0⟩
  · rw [if_neg (by omega), if_pos h]
    exact ⟨poolRun2 (F := F) c (grid0.coords t) arg1 harg1 arg2 harg2 arg3 harg3 arg4 harg4 arg5 harg5 arg6 harg6 arg7 harg7 arg8 harg8 arg9 harg9 arg10 harg10 arg11 harg11 arg12 harg12 arg13 harg13 h1 (fun e => by have := h2.mp e; omega) (h3.mpr h) (fun e => by have := h4.mp e; omega) (fun e => by have := h5.mp e; omega) x4 x5 x7 x8 o e0, poolRun2_closed (F := F) c (grid0.coords t) arg1 harg1 arg2 harg2 arg3 harg3 arg4 harg4 arg5 harg5 arg6 harg6 arg7 harg7 arg8 harg8 arg9 harg9 arg10 harg10 arg11 harg11 arg12 harg12 arg13 harg13 h1 (fun e => by have := h2.mp e; omega) (h3.mpr h) (fun e => by have := h4.mp e; omega) (fun e => by have := h5.mp e; omega) x4 x5 x7 x8 o e0⟩
  · rw [if_neg (by omega), if_neg (by omega), if_pos h]
    exact ⟨poolRun3 (F := F) c (grid0.coords t) arg1 harg1 arg2 harg2 arg3 harg3 arg4 harg4 arg5 harg5 arg6 harg6 arg7 harg7 arg8 harg8 arg9 harg9 arg10 harg10 arg11 harg11 arg12 harg12 arg13 harg13 h1 (fun e => by have := h2.mp e; omega) (fun e => by have := h3.mp e; omega) (h4.mpr h) (fun e => by have := h5.mp e; omega) x4 x5 x7 x8 o e0, poolRun3_closed (F := F) c (grid0.coords t) arg1 harg1 arg2 harg2 arg3 harg3 arg4 harg4 arg5 harg5 arg6 harg6 arg7 harg7 arg8 harg8 arg9 harg9 arg10 harg10 arg11 harg11 arg12 harg12 arg13 harg13 h1 (fun e => by have := h2.mp e; omega) (fun e => by have := h3.mp e; omega) (h4.mpr h) (fun e => by have := h5.mp e; omega) x4 x5 x7 x8 o e0⟩
  · rw [if_neg (by omega), if_neg (by omega), if_neg (by omega)]
    exact ⟨poolRun4 (F := F) c (grid0.coords t) arg1 harg1 arg2 harg2 arg3 harg3 arg4 harg4 arg5 harg5 arg6 harg6 arg7 harg7 arg8 harg8 arg9 harg9 arg10 harg10 arg11 harg11 arg12 harg12 arg13 harg13 h1 (fun e => by have := h2.mp e; omega) (fun e => by have := h3.mp e; omega) (fun e => by have := h4.mp e; omega) (h5.mpr h) x4 x5 x7 x8 o e0, poolRun4_closed (F := F) c (grid0.coords t) arg1 harg1 arg2 harg2 arg3 harg3 arg4 harg4 arg5 harg5 arg6 harg6 arg7 harg7 arg8 harg8 arg9 harg9 arg10 harg10 arg11 harg11 arg12 harg12 arg13 harg13 h1 (fun e => by have := h2.mp e; omega) (fun e => by have := h3.mp e; omega) (fun e => by have := h4.mp e; omega) (h5.mpr h) x4 x5 x7 x8 o e0⟩

set_option maxHeartbeats 1000000 in
/-- One group's pooling half at its point. -/
theorem pool_wp (c : Dev nD) (t : Fin grid0.N) (ht : 4 ≤ t.val) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x1x3x128 .f32) (harg7 : arg7.IsWhole) (arg8 : Memref sig .tc .vmem S1x1x128x128 .f32) (harg8 : arg8.IsWhole) (arg9 : Memref sig .tc .vmem S1x1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole)
    (x4 x5 : Vec F S2048x128 .bf16) (x7 : Vec F S1x1x128x128 .f32) (x8 : Vec F S1x1x128 .f32) (E : Set ℕ) (K : PUnit → sProp 𝕄) :
    iprop(held c arg5 x4 ∗ held c arg6 x5 ∗ held c arg8 x7 ∗ held c arg9 x8 ∗ some' c arg11 ∗ some' c arg12 ∗ some' c arg13
        ∗ (iprop(held c arg5 x4 ∗ held c arg6 x5 ∗ held c arg8 x7 ∗ held c arg9 x8
          ∗ held c arg11 (poolY x8 x5 (k0_pay6 (pooledY (group t.val) x4) x7)) ∗ held c arg12 (pooledY (group t.val) x4) ∗ some' c arg13) -∗ K ⟨⟩))
      ⊢ wp frame (wpE (defs₀ (F := F)) Variants.none c none) E (cc0_mix_fwd (grid0.coords t) arg1 harg1 arg2 harg2 arg3 harg3 arg4 harg4 arg5 harg5 arg6 harg6 arg7 harg7 arg8 harg8 arg9 harg9 arg10 harg10 arg11 harg11 arg12 harg12 arg13 harg13) K := by
  iintro ⟨H4, H5, H7, H8, H10, ⟨%o, H11⟩, ⟨%s0, S0⟩, Hk⟩
  obtain ⟨r, e1, e2⟩ := pool_run (F := F) c t ht arg1 harg1 arg2 harg2 arg3 harg3 arg4 harg4 arg5 harg5 arg6 harg6 arg7 harg7 arg8 harg8 arg9 harg9 arg10 harg10 arg11 harg11 arg12 harg12 arg13 harg13 x4 x5 x7 x8 o s0
  iapply (r.2.2 E K)
  isplitl [H4]; · iexact H4
  isplitl [H5]; · iexact H5
  isplitl [H7]; · iexact H7
  isplitl [H8]; · iexact H8
  isplitl [H10]; · iexact H10
  isplitl [H11]; · iexact H11
  isplitl [S0]; · iexact S0
  iintro ⟨H4, H5, H7, H8, H10, H11, S0⟩
  iapply Hk
  isplitl [H4]; · iexact H4
  isplitl [H5]; · iexact H5
  isplitl [H7]; · iexact H7
  isplitl [H8]; · iexact H8
  isplitl [H10]; · iapply (held_of_wrote c arg11 e1); iexact H10
  isplitl [H11]; · iapply (held_of_wrote c arg12 e2); iexact H11
  iexact S0

variable (m : (ℓ : Loc nD τ sig) → Buf (Elt F) ℓ) (ρ : Dev nD → PrngReg)

/-- The point whose convolution result a point's buffer holds: itself in the first half, the fourth after it. -/
def kept (t : Fin cfg0.N) : Fin cfg0.N := if t.val < 4 then t else t0_3

/-- The windows' blocks, at the body's types. -/
abbrev b0 (c : Dev nD) (t : Fin cfg0.N) : Vec F S2048x128 .bf16 := iblk m c 0 t
abbrev b1 (c : Dev nD) (t : Fin cfg0.N) : Vec F S2048x128 .bf16 := iblk m c 1 t
abbrev b2 (c : Dev nD) (t : Fin cfg0.N) : Vec F S2048x128 .bf16 := iblk m c 2 t
abbrev b3 (c : Dev nD) (t : Fin cfg0.N) : Vec F S2048x128 .bf16 := iblk m c 3 t
abbrev b4 (c : Dev nD) (t : Fin cfg0.N) : Vec F S2048x128 .bf16 := iblk m c 4 t
abbrev b5 (c : Dev nD) (t : Fin cfg0.N) : Vec F S2048x128 .bf16 := iblk m c 5 t
abbrev b6 (c : Dev nD) (t : Fin cfg0.N) : Vec F S1x1x3x128 .f32 := iblk m c 6 t
abbrev b7 (c : Dev nD) (t : Fin cfg0.N) : Vec F S1x1x128x128 .f32 := iblk m c 7 t
abbrev b8 (c : Dev nD) (t : Fin cfg0.N) : Vec F S1x1x128 .f32 := iblk m c 8 t

/-- What each result's buffer holds after a point of the half that computes it. -/
def o9 (c : Dev nD) (t : Fin cfg0.N) : Vec F S2048x128 .bf16 := convY (b0 m c t) (b1 m c t) (b2 m c t) (b3 m c t) (b6 m c t)
def o10 (c : Dev nD) (t : Fin cfg0.N) : Vec F S2048x128 .bf16 := poolY (b8 m c t) (b5 m c t) (k0_pay6 (pooledY (group t.val) (b4 m c t)) (b7 m c t))
def o11 (c : Dev nD) (t : Fin cfg0.N) : Vec F S2048x128 .bf16 := pooledY (group t.val) (b4 m c t)

/-- The proof data: what every window's buffer holds after every point. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => o9 m c (kept t)
    | ⟨10, _⟩ => o10 m c t
    | ⟨11, _⟩ => o11 m c t
    | ⟨_ + 12, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = b0 m c t := by dsimp only [dats]
theorem after_1 (c : Dev nD) (t : Fin cfg0.N) : (dats m 0 c).after 1 t = b1 m c t := by dsimp only [dats]
theorem after_2 (c : Dev nD) (t : Fin cfg0.N) : (dats m 0 c).after 2 t = b2 m c t := by dsimp only [dats]
theorem after_3 (c : Dev nD) (t : Fin cfg0.N) : (dats m 0 c).after 3 t = b3 m c t := by dsimp only [dats]
theorem after_4 (c : Dev nD) (t : Fin cfg0.N) : (dats m 0 c).after 4 t = b4 m c t := by dsimp only [dats]
theorem after_5 (c : Dev nD) (t : Fin cfg0.N) : (dats m 0 c).after 5 t = b5 m c t := by dsimp only [dats]
theorem after_6 (c : Dev nD) (t : Fin cfg0.N) : (dats m 0 c).after 6 t = b6 m c t := by dsimp only [dats]
theorem after_7 (c : Dev nD) (t : Fin cfg0.N) : (dats m 0 c).after 7 t = b7 m c t := by dsimp only [dats]
theorem after_8 (c : Dev nD) (t : Fin cfg0.N) : (dats m 0 c).after 8 t = b8 m c t := by dsimp only [dats]
theorem after_9 (c : Dev nD) (t : Fin cfg0.N) : (dats m 0 c).after 9 t = o9 m c (kept t) := by dsimp only [dats]
theorem after_10 (c : Dev nD) (t : Fin cfg0.N) : (dats m 0 c).after 10 t = o10 m c t := by dsimp only [dats]
theorem after_11 (c : Dev nD) (t : Fin cfg0.N) : (dats m 0 c).after 11 t = o11 m c t := by dsimp only [dats]

theorem before_0 (c : Dev nD) (t : Fin cfg0.N) (d) : (dats m 0 c).before 0 t d = b0 m c t := before0_0_of m (dats m 0 c) (A_eq m c 0) (after_0 m c) t d
theorem before_1 (c : Dev nD) (t : Fin cfg0.N) (d) : (dats m 0 c).before 1 t d = b1 m c t := before0_1_of m (dats m 0 c) (A_eq m c 1) (after_1 m c) t d
theorem before_2 (c : Dev nD) (t : Fin cfg0.N) (d) : (dats m 0 c).before 2 t d = b2 m c t := before0_2_of m (dats m 0 c) (A_eq m c 2) (after_2 m c) t d
theorem before_3 (c : Dev nD) (t : Fin cfg0.N) (d) : (dats m 0 c).before 3 t d = b3 m c t := before0_3_of m (dats m 0 c) (A_eq m c 3) (after_3 m c) t d
theorem before_4 (c : Dev nD) (t : Fin cfg0.N) (d) : (dats m 0 c).before 4 t d = b4 m c t := before0_4_of m (dats m 0 c) (A_eq m c 4) (after_4 m c) t d
theorem before_5 (c : Dev nD) (t : Fin cfg0.N) (d) : (dats m 0 c).before 5 t d = b5 m c t := before0_5_of m (dats m 0 c) (A_eq m c 5) (after_5 m c) t d
theorem before_6 (c : Dev nD) (t : Fin cfg0.N) (d) : (dats m 0 c).before 6 t d = b6 m c t := before0_6_of m (dats m 0 c) (A_eq m c 6) (after_6 m c) t d
theorem before_7 (c : Dev nD) (t : Fin cfg0.N) (d) : (dats m 0 c).before 7 t d = b7 m c t := before0_7_of m (dats m 0 c) (A_eq m c 7) (after_7 m c) t d
theorem before_8 (c : Dev nD) (t : Fin cfg0.N) (d) : (dats m 0 c).before 8 t d = b8 m c t := before0_8_of m (dats m 0 c) (A_eq m c 8) (after_8 m c) t d

/-- The current staging memref of each window. -/
abbrev ms0 (t : Fin cfg0.N) := (cfg0.win 0).stage (cfg0.slots t 0)
abbrev ms1 (t : Fin cfg0.N) := (cfg0.win 1).stage (cfg0.slots t 1)
abbrev ms2 (t : Fin cfg0.N) := (cfg0.win 2).stage (cfg0.slots t 2)
abbrev ms3 (t : Fin cfg0.N) := (cfg0.win 3).stage (cfg0.slots t 3)
abbrev ms4 (t : Fin cfg0.N) := (cfg0.win 4).stage (cfg0.slots t 4)
abbrev ms5 (t : Fin cfg0.N) := (cfg0.win 5).stage (cfg0.slots t 5)
abbrev ms6 (t : Fin cfg0.N) := (cfg0.win 6).stage (cfg0.slots t 6)
abbrev ms7 (t : Fin cfg0.N) := (cfg0.win 7).stage (cfg0.slots t 7)
abbrev ms8 (t : Fin cfg0.N) := (cfg0.win 8).stage (cfg0.slots t 8)
abbrev ms9 (t : Fin cfg0.N) := (cfg0.win 9).stage (cfg0.slots t 9)
abbrev ms10 (t : Fin cfg0.N) := (cfg0.win 10).stage (cfg0.slots t 10)
abbrev ms11 (t : Fin cfg0.N) := (cfg0.win 11).stage (cfg0.slots t 11)

/-- When each result is stored, and that the second half's are not written back in the first half. -/
theorem sched : ∀ t : Fin grid0.N, (t.val < 4 → cfg0.idle 9 (grid0.coords t) = false
      ∧ cfg0.idle 10 (grid0.coords t) = true ∧ cfg0.idle 11 (grid0.coords t) = true
      ∧ (cfg0.win 10).flush t = false ∧ (cfg0.win 11).flush t = false)
    ∧ (4 ≤ t.val → cfg0.idle 9 (grid0.coords t) = true ∧ cfg0.idle 10 (grid0.coords t) = false ∧ cfg0.idle 11 (grid0.coords t) = false) := by
  decide +kernel

/-- A window the body stores into is left at what it stores. -/
theorem leaves_stored (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window the body leaves alone keeps what it held (`hb`: where it is written back, that is what the proof data say). -/
theorem leaves_kept (c : Dev nD) (w : Fin cfg0.W) (t : Fin cfg0.N) (h : cfg0.idle w (cfg0.grid.coords t) = true)
    (hb : (cfg0.win w).flush t = true → ∀ d, (dats m 0 c).before w t d = (dats m 0 c).after w t) :
    (iprop(∃ d, owns (c : Thread nD τ) ((cfg0.win w).stage (cfg0.slots t w)) fullShare ((dats m 0 c).before w t d)) : sProp 𝕄) ⊢ (dats m 0 c).leavesExact w t := by
  cases hf : (cfg0.win w).flush t
  · rw [Dat.leavesExact_idle (dats m 0 c) w t h hf]
  · have e : (dats m 0 c).leavesExact w t = owns (c : Thread nD τ) ((cfg0.win w).stage (cfg0.slots t w)) fullShare ((dats m 0 c).after w t) := by
      unfold Dat.leavesExact; rw [h, hf]
    rw [e]
    iintro ⟨%d, H⟩
    rw [hb hf d]
    iexact H

/-- Where a first-half result's buffer holds nothing the body stored. -/
abbrev tab (n : ℕ) : Bool := decide (n ≤ 3) || decide (n = 8)

/-- A first-half result's buffer at a point of the second half holds what the fourth point left. -/
theorem kept_before (c : Dev nD) (w : Fin cfg0.W) (hout : (cfg0.win w).isOut = true) (hclip : ∀ (i : cfg0.grid.Coords) a, (cfg0.win w).clip i a = none)
    (htab : ∀ t : Fin cfg0.N, tab (t.val + 1) = ((cfg0.win w).flush t || (cfg0.idle w (cfg0.grid.coords t) && tab t.val)))
    (hidle : ∀ t : Fin cfg0.N, t.val < 4 → cfg0.idle w (cfg0.grid.coords t) = false)
    (hafter : ∀ t t' : Fin cfg0.N, kept t = kept t' → (dats m 0 c).after w t = (dats m 0 c).after w t')
    (t : Fin cfg0.N) (ht : 4 ≤ t.val) (d) : (dats m 0 c).before w t d = (dats m 0 c).after w t := by
  have hk : ∀ t : Fin cfg0.N, 4 ≤ t.val → (dats m 0 c).after w t = (dats m 0 c).after w ⟨t.val - 1, by omega⟩ := fun t ht => hafter _ _ (by
    unfold kept
    rw [if_neg (by omega)]
    by_cases h : t.val = 4
    · rw [if_pos (show t.val - 1 < 4 by omega)]; exact Fin.ext (show 3 = t.val - 1 by omega)
    · rw [if_neg (show ¬ t.val - 1 < 4 by omega)])
  have h8 : t.val < 8 := lt_of_lt_of_eq t.isLt N_0
  rw [Dat.before_out_traj (dats m 0 c) w hout hclip (fun t _ hi _ => hk t (by
      by_contra h; rw [hidle t (by omega)] at hi; exact Bool.false_ne_true hi)) t.val t rfl d,
    Pipeline.Cfg.fresh_tab cfg0 w tab rfl htab t.val t.isLt.le, if_neg (by simp only [tab, Bool.or_eq_true, decide_eq_true_eq]; omega)]
  exact (hk t ht).symm

theorem before_9 (c : Dev nD) (t : Fin cfg0.N) (ht : 4 ≤ t.val) (d) : (dats m 0 c).before 9 t d = (dats m 0 c).after 9 t :=
  kept_before m c 9 rfl (fun _ _ => rfl) (by decide +kernel : ∀ t : Fin grid0.N, _) (by decide +kernel : ∀ t : Fin grid0.N, _)
    (fun t t' e => by rw [after_9, after_9, e]) t ht d

/-- The scratch array, whole at some contents, with the generator's register. -/
theorem scratch_eq (c : Dev nD) :
    (Pipeline.ΦA spec0 c : sProp 𝕄) = iprop(some' c (Memref.whole cc0_scratch0) ∗ (∃ r, prngReg c r)) := by
  unfold Pipeline.ΦA; rw [scopedRest0_eq]; simp only [some', owns_whole]; try rfl

/-- What the body takes at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, scratch_eq]
  rw [leaves_stored m c 0 t rfl, after_0, leaves_stored m c 1 t rfl, after_1, leaves_stored m c 2 t rfl, after_2, leaves_stored m c 3 t rfl, after_3, leaves_stored m c 4 t rfl, after_4, leaves_stored m c 5 t rfl, after_5, leaves_stored m c 6 t rfl, after_6, leaves_stored m c 7 t rfl, after_7, leaves_stored m c 8 t rfl, after_8]
  by_cases ht : t.val < 4
  · have ek : kept t = t := if_pos ht
    obtain ⟨i9, i10, i11, n10, n11⟩ := (sched t).1 ht
    rw [leaves_stored m c 9 t i9, after_9, ek]
    iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
    iapply (conv_wp (F := F) c t ht _ _ _ _ _ _ _ _ _ _ _ _ _ _ _ _ _ _ _ _ _ _ _ _ _ _ (b0 m c t) (b1 m c t) (b2 m c t) (b3 m c t) (b6 m c t) Set.univ _)
    isplitl [H0]; · iexact H0
    isplitl [H1]; · iexact H1
    isplitl [H2]; · iexact H2
    isplitl [H3]; · iexact H3
    isplitl [H6]; · iexact H6
    isplitl [H9]; · iexists _; iexact H9
    iintro ⟨H0, H1, H2, H3, H6, H9⟩
    isplitl [S0 Hg]
    · isplitl [S0]; · iexact S0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_kept m c 10 t i10 (fun h => absurd h (by rw [n10]; exact Bool.false_ne_true))); iexact H10
    iapply (leaves_kept m c 11 t i11 (fun h => absurd h (by rw [n11]; exact Bool.false_ne_true))); iexact H11
  · have ht' : 4 ≤ t.val := by omega
    obtain ⟨i9, i10, i11⟩ := (sched t).2 ht'
    rw [leaves_stored m c 10 t i10, after_10, leaves_stored m c 11 t i11, after_11]
    iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩⟩
    iapply (pool_wp (F := F) c t ht' _ _ _ _ _ _ _ _ _ _ _ _ _ _ _ _ _ _ _ _ _ _ _ _ _ _ (b4 m c t) (b5 m c t) (b7 m c t) (b8 m c t) Set.univ _)
    isplitl [H4]; · iexact H4
    isplitl [H5]; · iexact H5
    isplitl [H7]; · iexact H7
    isplitl [H8]; · iexact H8
    isplitl [H10]; · iexists _; iexact H10
    isplitl [H11]; · iexists _; iexact H11
    isplitl [S0]; · iexact S0
    iintro ⟨H4, H5, H7, H8, H10, H11, S0⟩
    isplitl [S0 Hg]
    · isplitl [S0]; · iexact S0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves_kept m c 9 t i9 (fun _ => before_9 m c t ht')); iexact H9
    isplitl [H10]; · iexact H10
    iexact H11

/-- The body as the region calls it. -/
theorem defs_row (t : Fin cfg0.N) : defs₀ (F := F) .tc cfg0.body (cfg0.bodyArgs t (cfg0.slots t)) = bodyAt0 t := by
  unfold defs₀; rw [Defs.onTc_tc]

set_option maxHeartbeats 8000000 in
/-- The body obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The program runs, and every counter ends at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiescent m ρ)

set_option maxHeartbeats 2000000 in
/-- The argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_quiescent m ρ))

end Cert.Proof.MixFwd

end
-- ==== Proof.MixFwd.RefAt.lean ====
/-
  The plain program's forward results of the convolution mixer and of the pooling mixer at an index, over the extended
  reals: the kernel's closed forms.
-/
module

public import proofs.«01_k».proof.Proof.Gen.MixFwdRefIdeal.Read
public import proofs.«01_k».proof.Proof.MixFwd.At
public import proofs.«01_k».proof.Proof.MixFwd.Frame

@[expose] public section

set_option maxRecDepth 16384

noncomputable section

namespace Cert.Proof.MixFwd

open Cert.MixFwdIdeal Cert.MixFwdIdeal.Gen Cert.MixFwdRefIdeal.Read Idealize.ShloMosaic Idealize.ShloMosaic.TcCoe Idealize.SL.Sem
open Cert.Proof.Mix (ca lag conv wide wide_row wide_lag cnt cnt_ne row128 at512 cols tapsOf weightOf scaleOf colU colB colC colG colQ div128 mod128
  cnt_ref two_bits four_bits eight_bits sixteen_bits)

/-- The difference of two running sums, `w` rows apart, is the sum over the window. -/
theorem window_eq (x : Vec Ideal S2048x128 .bf16) (hx : ∀ i, IsR (x i)) (c : Fin 128) (w : ℕ) (hw : w ≤ 16) (s : Fin 2048 → EReal)
    (hs : ∀ R : Fin 2048, s R = ∑ i : Fin 2048, if i.val ≤ R.val then x (ix2 i c) else 0) (R : Fin 2048) :
    s R - (if h : R.val < w then 0 else s ⟨R.val - w, by omega⟩) = window c w x R := by
  choose f hf using fun i : Fin 2048 => hx (ix2 i c)
  let g : ℕ → ℝ := fun n => if h : n < 2048 then f ⟨n, h⟩ else 0
  have hR := R.isLt
  have hg : ∀ (n : ℕ) (h : n < 2048), x (ix2 ⟨n, h⟩ c) = ((g n : ℝ) : EReal) := fun n h => by
    rw [hf]
    exact congrArg _ (show f ⟨n, h⟩ = g n from (dif_pos h : (if h : n < 2048 then f ⟨n, h⟩ else 0) = _).symm)
  have hsum : ∀ Q : Fin 2048, s Q = ((∑ n ∈ Finset.range (Q.val + 1), g n : ℝ) : EReal) := fun Q => by
    have e : ∀ i : Fin 2048, (if i.val ≤ Q.val then x (ix2 i c) else 0) = ((if i.val ≤ Q.val then g i.val else 0 : ℝ) : EReal) := fun i => by
      split
      · exact hg i.val i.isLt
      · rfl
    rw [hs, Finset.sum_congr rfl fun i _ => e i, ← coe_sum, Fin.sum_univ_eq_sum_range (fun n => if n ≤ Q.val then g n else 0), ← Finset.sum_filter]
    refine congrArg _ (Finset.sum_congr (Finset.ext fun n => ?_) fun _ _ => rfl)
    have := Q.isLt
    rw [Finset.mem_filter, Finset.mem_range, Finset.mem_range]
    omega
  have h1 : (if h : R.val < w then (0 : EReal) else s ⟨R.val - w, by omega⟩) = ((∑ n ∈ Finset.range (R.val + 1 - w), g n : ℝ) : EReal) := by
    split
    · rw [show R.val + 1 - w = 0 by omega, Finset.sum_range_zero]; rfl
    · rw [hsum, show R.val + 1 - w = R.val - w + 1 by omega]
  have h2 : ∀ i : ℕ, wide c x (R.val + 16 - i) = if i ≤ 16 then ((if i ≤ R.val then g (R.val - i) else 0 : ℝ) : EReal) else wide c x (R.val + 16 - i) := fun i => by
    split
    · unfold wide
      split
      · rw [hg, if_pos (by omega), show R.val + 16 - i - 16 = R.val - i by omega]
      · rw [if_neg (by omega)]; rfl
    · rfl
  have h3 : ∀ v : ℕ, v ≤ 16 → ∑ i ∈ Finset.range v, wide c x (R.val + 16 - i)
      = ((∑ n ∈ Finset.range (R.val + 1), g n - ∑ n ∈ Finset.range (R.val + 1 - v), g n : ℝ) : EReal) := by
    intro v
    induction v with
    | zero => intro _; rw [Finset.sum_range_zero, Nat.sub_zero, sub_self]; rfl
    | succ v ih =>
      intro hv
      rw [Finset.sum_range_succ, ih (by omega), h2 v, if_pos (by omega), ← EReal.coe_add]
      refine congrArg _ ?_
      split
      · rw [show R.val + 1 - v = (R.val - v) + 1 by omega, Finset.sum_range_succ g (R.val - v), show R.val + 1 - (v + 1) = R.val - v by omega]; ring
      · rw [show R.val + 1 - v = 0 by omega, show R.val + 1 - (v + 1) = 0 by omega]; ring
  rw [hsum, h1, window, Fin.sum_univ_eq_sum_range (fun i => wide c x (R.val + 16 - i)), h3 w hw, EReal.coe_sub]

section Ref

variable (x0 : (⟨S2048x3072, .bf16⟩ : BufTy).Contents (Elt Ideal)) (x1 : (⟨S4x3x512, .f32⟩ : BufTy).Contents (Elt Ideal))
  (x2 : (⟨S4x4x128x128, .f32⟩ : BufTy).Contents (Elt Ideal)) (x3 : (⟨S4x512, .f32⟩ : BufTy).Contents (Elt Ideal))

/-- The pooled mixer's group of columns. -/
abbrev colP (j : Fin 4) := cols x0 (4 * 4 + j.val) (by omega)

theorem ref_sig (i : S2048x512.Idx) : val_main_call0_v5 x0 i = Cert.Proof.Mix.sig (val_main_v7 x0 i) := by
  pointwise [val_main_call0_v5, val_main_call0_v4, val_main_call0_v3, val_main_call0_v2, val_main_call0_v1, val_main_call0_v0, val_main_call0_cst, val_main_call0_cst_0]
theorem ref_sigp (i : S2048x512.Idx) : val_main_call5_v5 x0 i = Cert.Proof.Mix.sig (val_main_v11 x0 i) := by
  pointwise [val_main_call5_v5, val_main_call5_v4, val_main_call5_v3, val_main_call5_v2, val_main_call5_v1, val_main_call5_v0, val_main_call5_cst, val_main_call5_cst_0]

section Group

variable (j : Fin 4) (d : Fin 128)

theorem ref_u (R : Fin 2048) : val_main_v1 x0 (ix2 R (at512 j d)) = colU x0 j (ix2 R d) := by
  pointwise [val_main_v1, val_main_v0]
  exact congrArg x0 (congrArg (ix2 R) (Fin.ext (by show _ = (0 * 4 + j.val) * 128 + d.val; dsimp only; omega)))
theorem ref_b (R : Fin 2048) : val_main_v3 x0 (ix2 R (at512 j d)) = colB x0 j (ix2 R d) := by
  pointwise [val_main_v3, val_main_v2]
  exact congrArg x0 (congrArg (ix2 R) (Fin.ext (by show _ = (1 * 4 + j.val) * 128 + d.val; dsimp only; omega)))
theorem ref_c (R : Fin 2048) : val_main_v5 x0 (ix2 R (at512 j d)) = colC x0 j (ix2 R d) := by
  pointwise [val_main_v5, val_main_v4]
  exact congrArg x0 (congrArg (ix2 R) (Fin.ext (by show _ = (2 * 4 + j.val) * 128 + d.val; dsimp only; omega)))
theorem ref_g (R : Fin 2048) : val_main_v7 x0 (ix2 R (at512 j d)) = colG x0 j (ix2 R d) := by
  pointwise [val_main_v7, val_main_v6]
  exact congrArg x0 (congrArg (ix2 R) (Fin.ext (by show _ = (3 * 4 + j.val) * 128 + d.val; dsimp only; omega)))
theorem ref_p (R : Fin 2048) : val_main_v9 x0 (ix2 R (at512 j d)) = colP x0 j (ix2 R d) := by
  pointwise [val_main_v9, val_main_v8]
  exact congrArg x0 (congrArg (ix2 R) (Fin.ext (by show _ = (4 * 4 + j.val) * 128 + d.val; dsimp only; omega)))
theorem ref_q (R : Fin 2048) : val_main_v11 x0 (ix2 R (at512 j d)) = colQ x0 j (ix2 R d) := by
  pointwise [val_main_v11, val_main_v10]
  exact congrArg x0 (congrArg (ix2 R) (Fin.ext (by show _ = (5 * 4 + j.val) * 128 + d.val; dsimp only; omega)))

theorem ref_ca (R : Fin 2048) : val_main_v12 x0 (ix2 R (at512 j d)) = ca (colU x0 j) (colC x0 j) d R := by
  pointwise [val_main_v12]
  rw [ref_u, ref_c]
theorem ref_lag1 (R : Fin 2048) : val_main_v27 x0 (ix2 R (at512 j d)) = lag (colU x0 j) (colC x0 j) d 1 R := by
  pointwise [val_main_v27, val_main_v25, val_main_v26, val_main_cst_0]
  unfold lag
  by_cases h : R.val < 1
  · rw [dif_pos h, dif_neg (by omega)]
  · rw [dif_neg h, dif_pos (by omega)]
    exact ref_ca x0 j d _
theorem ref_lag2 (R : Fin 2048) : val_main_v19 x0 (ix2 R (at512 j d)) = lag (colU x0 j) (colC x0 j) d 2 R := by
  pointwise [val_main_v19, val_main_v17, val_main_v18, val_main_cst]
  unfold lag
  by_cases h : R.val < 2
  · rw [dif_pos h, dif_neg (by omega)]
  · rw [dif_neg h, dif_pos (by omega)]
    exact ref_ca x0 j d _

theorem ref_conv (R : Fin 2048) : val_main_v37 x0 x1 (ix2 R (at512 j d)) = conv (colU x0 j) (colC x0 j) (tapsOf x1 j) d R := by
  pointwise [val_main_v37, val_main_v31, val_main_v36, val_main_v22, val_main_v30, val_main_v21, val_main_v20, val_main_v16, val_main_v15, val_main_v29, val_main_v28, val_main_v24, val_main_v23,
    val_main_v35, val_main_v34, val_main_v33, val_main_v32, val_main_v14, val_main_v13]
  try rw [show ∀ h, (⟨j.val * 128 + d.val, h⟩ : Fin 512) = at512 j d from fun _ => rfl]
  rw [ref_ca, ref_lag1, ref_lag2]
  unfold conv tapsOf
  exact (add_comm _ _).trans ((congrArg _ (add_comm _ _)).trans (add_assoc _ _ _).symm)

/-- The convolution mixer's result. -/
theorem ya_eq (R : Fin 2048) : val_main_v107 x0 x1 (ix2 R (at512 j d))
    = convY (colU x0 j) (colB x0 j) (colC x0 j) (colG x0 j) (tapsOf x1 j) (ix2 R d) := by
  rw [convY_at]
  pointwise [val_main_v107, val_main_v40, val_main_v38, val_main_v39]
  try rw [show ∀ h, (⟨j.val * 128 + d.val, h⟩ : Fin 512) = at512 j d from fun _ => rfl]
  rw [ref_conv, ref_sig, ref_g, ref_b]

end Group

section Finite

variable (h0 : ∀ i, IsR (x0 i))

/-- A group's pooled rows at an index. -/
theorem pooledY_at (n : ℕ) (B : Fin 16 → Vec Ideal S16x128 .bf16 → Vec Ideal S128x128 .bf16 → FVec Ideal S128x128 .bf16) (x : Vec Ideal S2048x128 .bf16) (d : Fin 128)
    (hB : ∀ (k : Fin 16) (a : Fin 128) (R : Fin 2048), R.val = k.val * 128 + a.val →
      B k (before x k) (Cert.Proof.Mix.t128 x k) (ix2 a d) = Ideal.div (window d n x R) ((cnt n R.val : ℝ) : EReal) - x (ix2 R d)) (R : Fin 2048) :
    pooledY B x (ix2 R d) = Ideal.div (window d n x R) ((cnt n R.val : ℝ) : EReal) - x (ix2 R d) := by
  obtain ⟨k, a, h⟩ := row128 R
  unfold pooledY
  exact (a128_at d _ k a R h).trans (hB k a R h)

/-- A window's mean less the row as the plain program spells it. -/
theorem mean_ref (w : ℕ) (hw : w ≤ 16) (x : Vec Ideal S2048x128 .bf16) (hx : ∀ i, IsR (x i)) (c : Fin 128) (s : Fin 2048 → EReal)
    (hs : ∀ R : Fin 2048, s R = ∑ i : Fin 2048, if i.val ≤ R.val then x (ix2 i c) else 0) (R : Fin 2048) :
    Ideal.div (s R - if h : R.val < w then 0 else s ⟨R.val - w, by omega⟩)
      (min (FloatOps.sitofp (F := Ideal) FTy.f32 (IntOp.addi 1#32 (BitVec.ofNat 32 R.val))) (((w : ℕ) : ℝ) : EReal)) - x (ix2 R c)
      = Ideal.div (window c w x R) ((cnt w R.val : ℝ) : EReal) - x (ix2 R c) := by
  rw [cnt_ref w R.val R.isLt, window_eq x hx c w hw s hs R]

include h0 in
theorem isR_colP (j : Fin 4) (i : S2048x128.Idx) : IsR (colP x0 j i) := h0 _

include h0 in
/-- The pooled columns of the window of 2 rows. -/
theorem group0 (R : Fin 2048) (c : Fin 128) : val_main_v60 x0 (ix2 R c) = pooledY k0_pay5 (colP x0 0) (ix2 R c) := by
  have hx : ∀ R : Fin 2048, val_main_v50 x0 (ix2 R c) = colP x0 0 (ix2 R c) := fun R => by
    rw [← ref_p]; pointwise [val_main_v50]
    exact congrArg (fun l => val_main_v9 x0 (ix2 R l)) (Fin.ext (by first | (dsimp only; omega) | dsimp only))
  rw [pooledY_at 2 _ _ c (fun k a R h => pool2_at c k a R h _), ← mean_ref 2 (by decide) _ (isR_colP x0 h0 0) c (fun R => val_main_v51 x0 (ix2 R c)) (fun R => ?_) R, ← two_bits, ← hx]
  · pointwise [val_main_v60, val_main_v59, val_main_v55, val_main_v54, val_main_v53, val_main_v52, val_main_v58, val_main_v57, val_main_v56, val_main_cst_1, val_main_cst_2, val_main_v49, val_main_v48, val_main_v47, val_main_v46, val_main_v45, val_main_c]
  · refine (cumsum_at (R := 2048) (Rm1 := 2047) (C := 128) rfl _ _ (fun i => by pointwise [val_main_call1_call0_v0, val_main_call1_call0_cst]) _ _ R c).trans ?_
    simp only [hx]

include h0 in
/-- The pooled columns of the window of 4 rows. -/
theorem group1 (R : Fin 2048) (c : Fin 128) : val_main_v71 x0 (ix2 R c) = pooledY k0_pay8 (colP x0 1) (ix2 R c) := by
  have hx : ∀ R : Fin 2048, val_main_v61 x0 (ix2 R c) = colP x0 1 (ix2 R c) := fun R => by
    rw [← ref_p]; pointwise [val_main_v61]
    exact congrArg (fun l => val_main_v9 x0 (ix2 R l)) (Fin.ext (by first | (dsimp only; omega) | dsimp only))
  rw [pooledY_at 4 _ _ c (fun k a R h => pool4_at c k a R h _), ← mean_ref 4 (by decide) _ (isR_colP x0 h0 1) c (fun R => val_main_v62 x0 (ix2 R c)) (fun R => ?_) R, ← four_bits, ← hx]
  · pointwise [val_main_v71, val_main_v70, val_main_v66, val_main_v65, val_main_v64, val_main_v63, val_main_v69, val_main_v68, val_main_v67, val_main_cst_3, val_main_cst_4, val_main_v49, val_main_v48, val_main_v47, val_main_v46, val_main_v45, val_main_c]
  · refine (cumsum_at (R := 2048) (Rm1 := 2047) (C := 128) rfl _ _ (fun i => by pointwise [val_main_call2_call0_v0, val_main_call2_call0_cst]) _ _ R c).trans ?_
    simp only [hx]

include h0 in
/-- The pooled columns of the window of 8 rows. -/
theorem group2 (R : Fin 2048) (c : Fin 128) : val_main_v82 x0 (ix2 R c) = pooledY k0_pay11 (colP x0 2) (ix2 R c) := by
  have hx : ∀ R : Fin 2048, val_main_v72 x0 (ix2 R c) = colP x0 2 (ix2 R c) := fun R => by
    rw [← ref_p]; pointwise [val_main_v72]
    exact congrArg (fun l => val_main_v9 x0 (ix2 R l)) (Fin.ext (by first | (dsimp only; omega) | dsimp only))
  rw [pooledY_at 8 _ _ c (fun k a R h => pool8_at c k a R h _), ← mean_ref 8 (by decide) _ (isR_colP x0 h0 2) c (fun R => val_main_v73 x0 (ix2 R c)) (fun R => ?_) R, ← eight_bits, ← hx]
  · pointwise [val_main_v82, val_main_v81, val_main_v77, val_main_v76, val_main_v75, val_main_v74, val_main_v80, val_main_v79, val_main_v78, val_main_cst_5, val_main_cst_6, val_main_v49, val_main_v48, val_main_v47, val_main_v46, val_main_v45, val_main_c]
  · refine (cumsum_at (R := 2048) (Rm1 := 2047) (C := 128) rfl _ _ (fun i => by pointwise [val_main_call3_call0_v0, val_main_call3_call0_cst]) _ _ R c).trans ?_
    simp only [hx]

include h0 in
/-- The pooled columns of the window of 16 rows. -/
theorem group3 (R : Fin 2048) (c : Fin 128) : val_main_v93 x0 (ix2 R c) = pooledY k0_pay14 (colP x0 3) (ix2 R c) := by
  have hx : ∀ R : Fin 2048, val_main_v83 x0 (ix2 R c) = colP x0 3 (ix2 R c) := fun R => by
    rw [← ref_p]; pointwise [val_main_v83]
    exact congrArg (fun l => val_main_v9 x0 (ix2 R l)) (Fin.ext (by first | (dsimp only; omega) | dsimp only))
  rw [pooledY_at 16 _ _ c (fun k a R h => pool16_at c k a R h _), ← mean_ref 16 (by decide) _ (isR_colP x0 h0 3) c (fun R => val_main_v84 x0 (ix2 R c)) (fun R => ?_) R, ← sixteen_bits, ← hx]
  · pointwise [val_main_v93, val_main_v92, val_main_v88, val_main_v87, val_main_v86, val_main_v85, val_main_v91, val_main_v90, val_main_v89, val_main_cst_7, val_main_cst_8, val_main_v49, val_main_v48, val_main_v47, val_main_v46, val_main_v45, val_main_c]
  · refine (cumsum_at (R := 2048) (Rm1 := 2047) (C := 128) rfl _ _ (fun i => by pointwise [val_main_call4_call0_v0, val_main_call4_call0_cst]) _ _ R c).trans ?_
    simp only [hx]

include h0 in
/-- The pooled columns. -/
theorem ref_pooled (j : Fin 4) (R : Fin 2048) (c : Fin 128) : val_main_v98 x0 (ix3 R j c) = pooledY (group (4 + j.val)) (colP x0 j) (ix2 R c) := by
  pointwise [val_main_v98, val_main_v94, val_main_v95, val_main_v96, val_main_v97]
  match j with
  | ⟨0, _⟩ => exact group0 x0 h0 R c
  | ⟨1, _⟩ => exact group1 x0 h0 R c
  | ⟨2, _⟩ => exact group2 x0 h0 R c
  | ⟨3, _⟩ => exact group3 x0 h0 R c

/-- The pooled columns are computed twice. -/
theorem again : val_main_v162 x0 = val_main_v98 x0 := rfl

include h0 in
/-- The pooled rows the program returns. -/
theorem pooled_eq (j : Fin 4) (R : Fin 2048) (d : Fin 128) : val_main_v164 x0 (ix2 R (at512 j d)) = pooledY (group (4 + j.val)) (colP x0 j) (ix2 R d) := by
  rw [← ref_pooled x0 h0]
  pointwise [val_main_v164, val_main_v163]
  rw [again]
  simp only [div128, mod128]

include h0 in
theorem ref_mixed (j : Fin 4) (R : Fin 2048) (d : Fin 128) : val_main_v101 x0 x2 (ix2 R (at512 j d))
    = k0_pay6 (pooledY (group (4 + j.val)) (colP x0 j)) (weightOf x2 j) (ix2 R d) := by
  rw [mixed_at]
  pointwise [val_main_v101, val_main_v100, val_main_v99, val_main_v42, val_main_v41]
  refine Fin.sum_fin_congr fun c => ?_
  simp only [div128, mod128]
  rw [← ref_pooled x0 h0]
  exact mul_comm _ _

include h0 in
/-- The pooling mixer's result. -/
theorem yp_eq (j : Fin 4) (R : Fin 2048) (d : Fin 128) : val_main_v108 x0 x2 x3 (ix2 R (at512 j d))
    = poolY (scaleOf x3 j) (colQ x0 j) (k0_pay6 (pooledY (group (4 + j.val)) (colP x0 j)) (weightOf x2 j)) (ix2 R d) := by
  rw [poolY_at]
  pointwise [val_main_v108, val_main_v106, val_main_v105, val_main_v104, val_main_v103, val_main_v102, val_main_v44, val_main_v43]
  try rw [show ∀ h, (⟨j.val * 128 + d.val, h⟩ : Fin 512) = at512 j d from fun _ => rfl]
  rw [ref_mixed x0 x2 h0, ref_sigp, ref_q]
  rfl

end Finite

end Ref

end Cert.Proof.MixFwd

end
-- ==== Proof.MixFwd.Value.lean ====
/-
  What the mixers' forward kernel reads and leaves: every window's block at a point is one group's columns of the
  arguments, and each of the three result arrays equals the plain program's.
-/
module

public import proofs.«01_k».proof.Proof.MixFwd.RefAt
public import proofs.«01_k».proof.Proof.Index
public import Idealize.ShloMosaic.Lib.Pipeline.ValueKit
public import Idealize.ShloMosaic.Lib.StableHlo.RunRead

@[expose] public section

set_option maxRecDepth 16384

noncomputable section

namespace Cert.Proof.MixFwd

open Cert.MixFwdIdeal Cert.MixFwdIdeal.Gen Idealize.ShloMosaic Idealize.ShloMosaic.TcCoe Idealize.SL.Sem
open Cert.MixFwdRefIdeal.Read
open Cert.Proof.Mix (at512 cols tapsOf weightOf scaleOf colU colB colC colG colQ)

variable (m : (ℓ : Loc nD τ Cert.MixFwdIdeal.sig) → Buf (Elt Ideal) ℓ)

abbrev aP (c : Dev nD) := m ((c : Thread nD τ).loc main_arg0)
abbrev aW (c : Dev nD) := m ((c : Thread nD τ).loc main_arg1)
abbrev aM (c : Dev nD) := m ((c : Thread nD τ).loc main_arg2)
abbrev aS (c : Dev nD) := m ((c : Thread nD τ).loc main_arg3)

/-- The scales the host hands over: the argument with a unit axis in it. -/
theorem host_scale (c : Dev nD) : V m c main_v2 = fun i => aS m c (ix2 (i 0) (i 2)) := by
  show StableHlo.after _ _ (Proc.devRef .tc main_v2) = _
  after_reads_simp
  funext i
  idx_vars i
  pointwise
theorem host_taps (c : Dev nD) (j : Fin 4) (y : Fin 4) (s : Fin 3) (d : Fin 128) : V m c main_v1 (ix4 j y s d) = aW m c (ix3 y s (at512 j d)) := by
  show StableHlo.after _ _ (Proc.devRef .tc main_v1) _ = _
  after_reads_simp
  pointwise

/-- The windows' block indices: a convolution point's are its own column block, a pooling point's its group's. -/
theorem idx_conv : ∀ t : Fin cfg0.N, t.val < 4 → win0_0.index t = ![0, 0 * 4 + t.val] ∧ win0_1.index t = ![0, 1 * 4 + t.val]
    ∧ win0_2.index t = ![0, 2 * 4 + t.val] ∧ win0_3.index t = ![0, 3 * 4 + t.val] ∧ win0_6.index t = ![t.val, 2, 0, 0] :=
  (by decide +kernel : ∀ t : Fin grid0.N, _)
theorem idx_pool : ∀ t : Fin cfg0.N, 4 ≤ t.val → win0_4.index t = ![0, 4 * 4 + (t.val - 4)] ∧ win0_5.index t = ![0, 5 * 4 + (t.val - 4)]
    ∧ win0_7.index t = ![2, t.val - 4, 0, 0] ∧ win0_8.index t = ![2, 0, t.val - 4]
    ∧ win0_10.index t = ![0, t.val - 4] ∧ win0_11.index t = ![0, t.val - 4] :=
  (by decide +kernel : ∀ t : Fin grid0.N, _)

variable (c : Dev nD)

section Blocks

variable (t : Fin cfg0.N) (j : Fin 4)

theorem b0_eq (h : t.val = j.val) : b0 m c t = colU (aP m c) j := by
  obtain ⟨e, _⟩ := idx_conv t (by omega)
  rw [h] at e
  funext y
  obtain ⟨r, l, rfl⟩ : ∃ (r : Fin 2048) (l : Fin 128), y = ix2 r l := ⟨y 0, y 1, eq_ix2 y⟩
  simp only [b0, cols]
  blk_point [iblk, V, e]
theorem b1_eq (h : t.val = j.val) : b1 m c t = colB (aP m c) j := by
  obtain ⟨_, e, _⟩ := idx_conv t (by omega)
  rw [h] at e
  funext y
  obtain ⟨r, l, rfl⟩ : ∃ (r : Fin 2048) (l : Fin 128), y = ix2 r l := ⟨y 0, y 1, eq_ix2 y⟩
  simp only [b1, cols]
  blk_point [iblk, V, e]
theorem b2_eq (h : t.val = j.val) : b2 m c t = colC (aP m c) j := by
  obtain ⟨_, _, e, _⟩ := idx_conv t (by omega)
  rw [h] at e
  funext y
  obtain ⟨r, l, rfl⟩ : ∃ (r : Fin 2048) (l : Fin 128), y = ix2 r l := ⟨y 0, y 1, eq_ix2 y⟩
  simp only [b2, cols]
  blk_point [iblk, V, e]
theorem b3_eq (h : t.val = j.val) : b3 m c t = colG (aP m c) j := by
  obtain ⟨_, _, _, e, _⟩ := idx_conv t (by omega)
  rw [h] at e
  funext y
  obtain ⟨r, l, rfl⟩ : ∃ (r : Fin 2048) (l : Fin 128), y = ix2 r l := ⟨y 0, y 1, eq_ix2 y⟩
  simp only [b3, cols]
  blk_point [iblk, V, e]
theorem b4_eq (h : t.val = 4 + j.val) : b4 m c t = colP (aP m c) j := by
  obtain ⟨e, _⟩ := idx_pool t (by omega)
  rw [h, Nat.add_sub_cancel_left] at e
  funext y
  obtain ⟨r, l, rfl⟩ : ∃ (r : Fin 2048) (l : Fin 128), y = ix2 r l := ⟨y 0, y 1, eq_ix2 y⟩
  simp only [b4, cols]
  blk_point [iblk, V, e]
theorem b5_eq (h : t.val = 4 + j.val) : b5 m c t = colQ (aP m c) j := by
  obtain ⟨_, e, _⟩ := idx_pool t (by omega)
  rw [h, Nat.add_sub_cancel_left] at e
  funext y
  obtain ⟨r, l, rfl⟩ : ∃ (r : Fin 2048) (l : Fin 128), y = ix2 r l := ⟨y 0, y 1, eq_ix2 y⟩
  simp only [b5, cols]
  blk_point [iblk, V, e]
theorem b6_eq (h : t.val = j.val) : b6 m c t = tapsOf (aW m c) j := by
  obtain ⟨_, _, _, _, e⟩ := idx_conv t (by omega)
  rw [h] at e
  funext y
  obtain ⟨z, w, s, d, rfl⟩ : ∃ (z w : Fin 1) (s : Fin 3) (d : Fin 128), y = ix4 z w s d := ⟨y 0, y 1, y 2, y 3, eq_ix4 y⟩
  refine Eq.trans ?_ (host_taps m c j 2 s d)
  blk_point [b6, iblk, e]
theorem b7_eq (h : t.val = 4 + j.val) : b7 m c t = weightOf (aM m c) j := by
  obtain ⟨_, _, e, _⟩ := idx_pool t (by omega)
  rw [h, Nat.add_sub_cancel_left] at e
  funext y
  obtain ⟨z, w, a, d, rfl⟩ : ∃ (z w : Fin 1) (a : Fin 128) (d : Fin 128), y = ix4 z w a d := ⟨y 0, y 1, y 2, y 3, eq_ix4 y⟩
  simp only [b7, weightOf]
  blk_point [iblk, V, e]
theorem b8_eq (h : t.val = 4 + j.val) : b8 m c t = scaleOf (aS m c) j := by
  obtain ⟨_, _, _, e, _⟩ := idx_pool t (by omega)
  rw [h, Nat.add_sub_cancel_left] at e
  funext y
  obtain ⟨z, w, d, rfl⟩ : ∃ (z w : Fin 1) (d : Fin 128), y = ix3 z w d := ⟨y 0, y 1, y 2, eq_ix3 y⟩
  have hs := congrFun (host_scale m c) (ix3 2 w (at512 j d))
  refine Eq.trans ?_ hs
  blk_point [b8, iblk, e]

/-- The results at their points. -/
theorem conv_block (h : t.val = j.val) :
    o9 m c t = convY (colU (aP m c) j) (colB (aP m c) j) (colC (aP m c) j) (colG (aP m c) j) (tapsOf (aW m c) j) := by
  unfold o9
  rw [b0_eq m c t j h, b1_eq m c t j h, b2_eq m c t j h, b3_eq m c t j h, b6_eq m c t j h]
theorem pool_block (h : t.val = 4 + j.val) :
    o10 m c t = poolY (scaleOf (aS m c) j) (colQ (aP m c) j) (k0_pay6 (pooledY (group (4 + j.val)) (colP (aP m c) j)) (weightOf (aM m c) j))
    ∧ o11 m c t = pooledY (group (4 + j.val)) (colP (aP m c) j) := by
  unfold o10 o11
  rw [h, b4_eq m c t j h, b5_eq m c t j h, b7_eq m c t j h, b8_eq m c t j h]
  exact ⟨rfl, rfl⟩

end Blocks

/-- Where the results are written back: the convolution's at its first three points and, kept since the fourth, at
the last; the pooling's at its own points. -/
theorem kept_lt (t : Fin cfg0.N) : (kept t).val < 4 := by
  unfold kept; split
  · assumption
  · decide
theorem kept_index : ∀ t : Fin cfg0.N, win0_9.index t = ![0, (kept t).val] := by
  decide +kernel
theorem pool_flush : ∀ t : Fin cfg0.N, (win0_10.flush t = true ∨ win0_11.flush t = true) → 4 ≤ t.val ∧ t.val - 4 < 4 := by decide +kernel

/-- The convolution mixer's result. -/
theorem final_ya : (dats m 0 c).arrAt 9 (cfgs 0).N = val_main_v107 (F := Ideal) (aP m c) (aW m c) := by
  refine (dats m 0 c).arrAt_eq_of_covers 9 _ (by decide +kernel) fun t hf y => ?_
  have e := kept_index t
  rw [after_9, conv_block m c (kept t) ⟨(kept t).val, kept_lt t⟩ rfl]
  blk_simp
  obtain ⟨r, l, rfl⟩ : ∃ (r : Fin 2048) (l : Fin 128), y = ix2 r l := ⟨y 0, y 1, eq_ix2 y⟩
  refine (ya_eq (aP m c) (aW m c) ⟨(kept t).val, kept_lt t⟩ l r).symm.trans (congrArg _ (ix2_of ?_ ?_))
  all_goals blk_simp [e]

/-- The pooling mixer's result, and the pooled rows. -/
theorem final_yp (h0 : ∀ i, IsR (aP m c i)) : (dats m 0 c).arrAt 10 (cfgs 0).N = val_main_v108 (F := Ideal) (aP m c) (aM m c) (aS m c) := by
  refine (dats m 0 c).arrAt_eq_of_covers 10 _ (by decide +kernel) fun t hf y => ?_
  obtain ⟨ht, jl⟩ := pool_flush t (Or.inl hf)
  obtain ⟨_, _, _, _, e, _⟩ := idx_pool t ht
  rw [after_10, (pool_block m c t ⟨t.val - 4, jl⟩ (by dsimp only; omega)).1]
  blk_simp
  obtain ⟨r, l, rfl⟩ : ∃ (r : Fin 2048) (l : Fin 128), y = ix2 r l := ⟨y 0, y 1, eq_ix2 y⟩
  refine (yp_eq (aP m c) (aM m c) (aS m c) h0 ⟨t.val - 4, jl⟩ r l).symm.trans (congrArg _ (ix2_of ?_ ?_))
  all_goals blk_simp [e]
theorem final_pooled (h0 : ∀ i, IsR (aP m c i)) : (dats m 0 c).arrAt 11 (cfgs 0).N = val_main_v164 (F := Ideal) (aP m c) := by
  refine (dats m 0 c).arrAt_eq_of_covers 11 _ (by decide +kernel) fun t hf y => ?_
  obtain ⟨ht, jl⟩ := pool_flush t (Or.inr hf)
  obtain ⟨_, _, _, _, _, e⟩ := idx_pool t ht
  rw [after_11, (pool_block m c t ⟨t.val - 4, jl⟩ (by dsimp only; omega)).2]
  blk_simp
  obtain ⟨r, l, rfl⟩ : ∃ (r : Fin 2048) (l : Fin 128), y = ix2 r l := ⟨y 0, y 1, eq_ix2 y⟩
  refine (pooled_eq (aP m c) h0 ⟨t.val - 4, jl⟩ r l).symm.trans (congrArg _ (ix2_of ?_ ?_))
  all_goals blk_simp [e]

end Cert.Proof.MixFwd

end
-- ==== Proof.MixFwd.Claims.lean ====
/- The claims about the mixers' forward kernel: the frames, and the three results equal to the plain program's. -/
module

public import proofs.«01_k».proof.Defs
public import proofs.«01_k».proof.Proof.Finite
public import proofs.«01_k».proof.Proof.MixFwd.Value
public import proofs.«01_k».proof.Proof.Gen.MixFwd.Frame
public import proofs.«01_k».proof.Proof.Gen.MixFwdRefIdeal.Run
public import Idealize.ShloMosaic.Lib.Claim

@[expose] public section

set_option maxRecDepth 16384

noncomputable section

namespace Cert.Proof.MixFwd

open Idealize.ShloMosaic Idealize.ShloMosaic.TcCoe Idealize.SL.Sem

theorem facts_pre : Cert.Pre_mix_fwd_pre.Facts := by
  constructor <;> decide

/-- The precondition makes the projection's elements real numbers. -/
theorem finite [Cert.Pre_mix_fwd_pre.Facts] (x0 : FVec Ideal Cert.Pre_mix_fwd_pre.S2048x3072 .bf16) (x1 : FVec Ideal Cert.Pre_mix_fwd_pre.S4x3x512 .f32)
    (x2 : FVec Ideal Cert.Pre_mix_fwd_pre.S4x4x128x128 .f32) (x3 : FVec Ideal Cert.Pre_mix_fwd_pre.S4x512 .f32)
    (h : Cert.Pre_mix_fwd_pre.fn (F := Ideal) x0 x1 x2 x3 = fun _ => 1#1) : ∀ i, IsR (x0 i) := by
  have h := congrFun h (fun k => k.elim0)
  dsimp only [Cert.Pre_mix_fwd_pre.fn] at h
  exact isR_of_all x0 _ _ _ _ _ h

/-- The run over the words. The two printed programs differ in nothing but their names. -/
abbrev RunsOverBits : Prop := ∀ (m : (ℓ : Loc Cert.MixFwdIdeal.nD Cert.MixFwdIdeal.τ Cert.MixFwdIdeal.sig) → Buf (Elt Bits) ℓ) (ρ : Dev Cert.MixFwdIdeal.nD → PrngReg), True →
    θ_run (Cert.MixFwdIdeal.defs (F := Bits)) (onTc (τ := Cert.MixFwdIdeal.τ) (Cert.MixFwdIdeal.main (F := Bits))) ⟨m, fun _ => 0, ρ⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)
theorem runs_over_bits : RunsOverBits := fun m ρ _ => frame_any (F := Bits) m ρ
theorem same_program : RunsOverBits = @Cert.quiescent_MixFwd Cert.MixFwd.Gen.facts := by sl_kernel_rfl
theorem frame_kernel : Cert.quiescent_MixFwd := cast same_program runs_over_bits

theorem frame_ideal : Cert.quiescent_MixFwdIdeal := fun m ρ _ => frame_any m ρ

theorem frame_ideal_pre [Cert.Pre_mix_fwd_pre.Facts] : Cert.quiescent_MixFwdIdeal_pre_mix_fwd_pre := fun m ρ _ => frame_any m ρ

theorem frame_reference : Cert.quiescent_MixFwdRefIdeal := fun m g _ =>
  (θ_run Cert.MixFwdRefIdeal.defs _ _).mono
    (fun r h => ⟨fun c => (h c).2.2.2, sem_eq_zero_of_no_sems (by decide) r.2⟩) (Cert.MixFwdRefIdeal.Value.run m g)

theorem frame_reference_pre [Cert.Pre_mix_fwd_pre.Facts] : Cert.quiescent_MixFwdRefIdeal_pre_mix_fwd_pre := fun m g _ => frame_reference m g trivial

set_option maxHeartbeats 1000000 in
/-- What the kernel's run leaves: the three arrays and the arguments. -/
theorem run_arrays (m : (ℓ : Loc Cert.MixFwdIdeal.nD Cert.MixFwdIdeal.τ Cert.MixFwdIdeal.sig) → Buf (Elt Ideal) ℓ) (g : Dev Cert.MixFwdIdeal.nD → PrngReg) :
    θ_run Cert.MixFwdIdeal.defs (onTc (τ := Cert.MixFwdIdeal.τ) (Cert.MixFwdIdeal.main (F := Ideal))) ⟨m, fun _ => 0, g⟩ (fun r => ∀ c : Dev Cert.MixFwdIdeal.nD,
      r.2.mem ((c.tc : Thread Cert.MixFwdIdeal.nD Cert.MixFwdIdeal.τ).loc Cert.MixFwdIdeal.main_v3_0) = (dats m 0 c).arrAt 9 (Cert.MixFwdIdeal.cfgs 0).N
      ∧ r.2.mem ((c.tc : Thread Cert.MixFwdIdeal.nD Cert.MixFwdIdeal.τ).loc Cert.MixFwdIdeal.main_v3_1) = (dats m 0 c).arrAt 10 (Cert.MixFwdIdeal.cfgs 0).N
      ∧ r.2.mem ((c.tc : Thread Cert.MixFwdIdeal.nD Cert.MixFwdIdeal.τ).loc Cert.MixFwdIdeal.main_v3_2) = (dats m 0 c).arrAt 11 (Cert.MixFwdIdeal.cfgs 0).N
      ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)) :=
  (θ_run _ _ _).mono (fun r h c => ⟨(h.1 c).1 9, (h.1 c).1 10, (h.1 c).1 11, h.2.1 c⟩)
    (θ_run_and (run_main m g) (frame_any m g))

set_option maxHeartbeats 1000000 in
theorem algebraic [Cert.Pre_mix_fwd_pre.Facts] : Cert.algebraic_MixFwdIdeal_MixFwdRefIdeal_pre_mix_fwd_pre := by
  intro m g m' g' hpre hagree
  refine ⟨_, _, _, run_arrays m g, ?_⟩
  refine (θ_run _ _ _).mono (fun r h c => ?_) (Cert.MixFwdRefIdeal.Value.run m' g')
  obtain ⟨h0, h1, h2, h3⟩ := hagree c
  have f0 := finite _ _ _ _ (hpre c)
  obtain ⟨e0, e1, e2, ha⟩ := h c
  refine ⟨?_, ?_, ?_, ha⟩
  · refine e0.trans ((Cert.MixFwdRefIdeal.Read.val_main_v107_eq (StableHlo.launchContents m' c)).trans (Eq.trans ?_ (final_ya m c).symm))
    exact congrArg₂ _ h0 h1
  · refine e1.trans ((Cert.MixFwdRefIdeal.Read.val_main_v108_eq (StableHlo.launchContents m' c)).trans (Eq.trans ?_ (final_yp m c f0).symm))
    exact same_args_3 h0 h2 h3
  · refine e2.trans ((Cert.MixFwdRefIdeal.Read.val_main_v164_eq (StableHlo.launchContents m' c)).trans (Eq.trans ?_ (final_pooled m c f0).symm))
    exact congrArg _ h0

end Cert.Proof.MixFwd

end
-- ==== Proof.Proj.Value.lean ====
/- What a layer's input projection leaves in its result array: the modulated norm of the layer's input times the weight,
   equal to the plain program's array. -/
module

public import proofs.«01_k».proof.Proof.Gen.ProjIdeal.Value
public import proofs.«01_k».proof.Proof.Gen.ProjRefIdeal.Read
public import proofs.«01_k».proof.Proof.Index
public import Idealize.ShloMosaic.Lib.Pipeline.ValueKit
public import Idealize.ShloMosaic.Lib.Pipeline.ReadBack

@[expose] public section

set_option maxRecDepth 16384

noncomputable section

namespace Cert.Proof.Proj

open Cert.ProjIdeal Cert.ProjIdeal.Gen Idealize.ShloMosaic Idealize.ShloMosaic.TcCoe Idealize.SL.Sem
open Cert.ProjRefIdeal.Read

variable (m : (ℓ : Loc nD τ Cert.ProjIdeal.sig) → Buf (Elt Ideal) ℓ)

/-- Every window's block index at every point: the point is the row block. -/
theorem idx : ∀ t : Fin cfg0.N, win0_0.index t = ![t.val, 0] ∧ win0_1.index t = ![2, 0, 0, 0]
    ∧ win0_2.index t = ![2, 1, 0, 0] ∧ win0_3.index t = ![2, 0, 0] ∧ win0_4.index t = ![0, 0]
    ∧ win0_5.index t = ![t.val, 0] :=
  (by decide +kernel : ∀ t : Fin grid0.N, _)

/-- The arguments, shortened: the layer's input, the modulation, the norm's scale, the weight. -/
abbrev input (c : Dev nD) : S2048x1024.Idx → EReal := m ((c : Thread nD τ).loc main_arg0)
abbrev mods (c : Dev nD) : S4x3072.Idx → EReal := m ((c : Thread nD τ).loc main_arg1)
abbrev scales (c : Dev nD) : S4x1024.Idx → EReal := m ((c : Thread nD τ).loc main_arg2)
abbrev weight (c : Dev nD) : S4x1024x3072.Idx → EReal := m ((c : Thread nD τ).loc main_arg3)

variable (c : Dev nD)

/-- The projection's input, as the plain program writes it. -/
abbrev hid : S2048x1024.Idx → EReal := val_main_v27 (F := Ideal) (input m c) (mods m c) (scales m c)

/-- A point's block of the layer's input. -/
theorem x_blk (t : Fin cfg0.N) (r : Fin 512) (k : Fin 1024) (R : Fin 2048) (h : R.val = t.val * 512 + r.val) :
    iblk m c 0 t (ix2 r k) = input m c (ix2 R k) := by
  blk_point [iblk, V, idx t]

/-- A point's block of the projection's input. -/
abbrev hBlk (t : Fin cfg0.N) : FVec Ideal S512x1024 .bf16 := k0_pay4 (iblk m c 0 t) (iblk m c 3 t) (iblk m c 2 t) (iblk m c 1 t)
theorem h_point (t : Fin cfg0.N) (r : Fin 512) (k : Fin 1024) (R : Fin 2048) (hR : R.val = t.val * 512 + r.val) :
    hBlk m c t (ix2 r k) = hid m c (ix2 R k) := by
  have hx : ∀ k, iblk m c 0 t (ix2 r k) = input m c (ix2 R k) := fun k => x_blk m c t r k R hR
  pointwise [hBlk, hid, k0_pay4, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v3, val_main_v2,
    val_main_v1, val_main_v0, val_main_cst, val_main_cst_0, val_main_cst_1, val_main_cst_2]
  simp only [hx]
  rw [← mul_assoc (G := EReal)]
  blk_point [iblk, V, idx t]

/-- What a point leaves at a place of its block: a row of the projection's input times a column of the weight. -/
abbrev term (t : Fin cfg0.N) (r : Fin 512) (l : Fin 3072) : EReal := ∑ k : Fin 1024, hBlk m c t (ix2 r k) * weight m c (ix3 2 k l)

/-- Columns of the weight's block, read. -/
theorem ld_w (t : Fin cfg0.N) (n : ℕ) (b : ∀ a, (![0, n] : Fin 2 → ℕ) a + (![1024, 768] : Fin 2 → ℕ) a ≤ S1024x3072.size a)
    (k : Fin 1024) (l : Fin 768) (L : Fin 3072) (hL : L.val = n + l.val) :
    View.ld (Val := Elt Ideal) (e' := .bf16) (iblk m c 4 t) (Rect.unit (s := S1024x3072) ![0, n] ![1024, 768] b) (ix2 k l)
      = weight m c (ix3 2 k L) := by
  refine (congrArg (iblk m c 4 t) (ix2_of (by simp [ix2]) (by simp [ix2]; omega)).symm).trans (?_ : iblk m c 4 t (ix2 k L) = _)
  blk_point [iblk, V, idx t]

/-- A column block's product. -/
theorem pay2_at (h : FVec Ideal S512x1024 .bf16) (w : Vec Ideal S1024x768 .bf16) (r : Fin 512) (l : Fin 768) :
    k0_pay2 h w (ix2 r l) = ∑ k : Fin 1024, h (ix2 r k) * w (ix2 k l) := by
  pointwise [k0_pay2]

theorem piece (t : Fin cfg0.N) (n : ℕ) (b : ∀ a, (![0, n] : Fin 2 → ℕ) a + (![1024, 768] : Fin 2 → ℕ) a ≤ S1024x3072.size a)
    (r : Fin 512) (l : Fin 768) (L : Fin 3072) (hL : L.val = n + l.val) :
    k0_pay2 (hBlk m c t) (View.ld (Val := Elt Ideal) (e' := .bf16) (iblk m c 4 t) (Rect.unit (s := S1024x3072) ![0, n] ![1024, 768] b)) (ix2 r l)
      = term m c t r L :=
  (pay2_at _ _ r l).trans (Fin.sum_fin_congr fun k => congrArg (_ * ·) (ld_w m c t n b k l L hL))

/-- Four stores of 768 columns each leave an array they all agree with. -/
theorem columns (G : S512x3072.Idx → EReal) (P0 P1 P2 P3 : S512x768.Idx → EReal)
    (h0 : ∀ (r : Fin 512) (l : Fin 768), P0 (ix2 r l) = G (ix2 r ⟨0 + l.val, by omega⟩))
    (h1 : ∀ (r : Fin 512) (l : Fin 768), P1 (ix2 r l) = G (ix2 r ⟨768 + l.val, by omega⟩))
    (h2 : ∀ (r : Fin 512) (l : Fin 768), P2 (ix2 r l) = G (ix2 r ⟨1536 + l.val, by omega⟩))
    (h3 : ∀ (r : Fin 512) (l : Fin 768), P3 (ix2 r l) = G (ix2 r ⟨2304 + l.val, by omega⟩)) (y : S512x3072.Idx) :
    View.canon (Val := Elt Ideal)
      [(⟨Rect.unit (s := S512x3072) ![0, 2304] ![512, 768] inb_S512x3072_S512x768_0_2304, P3⟩ : View.Piece (Elt Ideal) S512x3072 .bf16),
        (⟨Rect.unit (s := S512x3072) ![0, 1536] ![512, 768] inb_S512x3072_S512x768_0_1536, P2⟩ : View.Piece (Elt Ideal) S512x3072 .bf16),
        (⟨Rect.unit (s := S512x3072) ![0, 768] ![512, 768] inb_S512x3072_S512x768_0_768, P1⟩ : View.Piece (Elt Ideal) S512x3072 .bf16),
        (⟨Rect.unit (s := S512x3072) ![0, 0] ![512, 768] inb_S512x3072_S512x768_0_0, P0⟩ : View.Piece (Elt Ideal) S512x3072 .bf16)] y = G y := by
  have place : ∀ (C : ℕ) (b : ∀ d, (![0, C] : Fin 2 → ℕ) d + (![512, 768] : Fin 2 → ℕ) d ≤ S512x3072.size d) (P : S512x768.Idx → EReal)
      (hP : ∀ (r : Fin 512) (l : Fin 768), P (ix2 r l) = G (ix2 r ⟨C + l.val, by have := b 1; change C + 768 ≤ 3072 at this; omega⟩))
      (x : S512x768.Idx), P x = G ((Rect.unit (s := S512x3072) ![0, C] ![512, 768] b).emb x) := fun C b P hP x => by
    obtain ⟨r, l, rfl⟩ : ∃ (r : Fin 512) (l : Fin 768), x = ix2 r l := ⟨x 0, x 1, eq_ix2 x⟩
    refine (hP r l).trans (congrArg G (ix2_of ?_ ?_)) <;> simp [ix2]
  have hp : View.PiecesOf (Val := Elt Ideal) (s := S512x3072) (e := .bf16) G
      [(⟨Rect.unit (s := S512x3072) ![0, 2304] ![512, 768] inb_S512x3072_S512x768_0_2304, P3⟩ : View.Piece (Elt Ideal) S512x3072 .bf16),
        (⟨Rect.unit (s := S512x3072) ![0, 1536] ![512, 768] inb_S512x3072_S512x768_0_1536, P2⟩ : View.Piece (Elt Ideal) S512x3072 .bf16),
        (⟨Rect.unit (s := S512x3072) ![0, 768] ![512, 768] inb_S512x3072_S512x768_0_768, P1⟩ : View.Piece (Elt Ideal) S512x3072 .bf16),
        (⟨Rect.unit (s := S512x3072) ![0, 0] ![512, 768] inb_S512x3072_S512x768_0_0, P0⟩ : View.Piece (Elt Ideal) S512x3072 .bf16)] :=
    ⟨place 2304 inb_S512x3072_S512x768_0_2304 P3 h3, place 1536 inb_S512x3072_S512x768_0_1536 P2 h2,
      place 768 inb_S512x3072_S512x768_0_768 P1 h1, place 0 inb_S512x3072_S512x768_0_0 P0 h0, trivial⟩
  refine View.canon_append_of_piecesOf (Val := Elt Ideal) (s := S512x3072) (e := .bf16) G [] _ hp y ?_
  have h0 : (y 0).val < 512 := (y 0).isLt
  have h1 : (y 1).val < 3072 := (y 1).isLt
  by_contra hn
  simp only [List.mem_cons, List.not_mem_nil, or_false, exists_eq_or_imp, exists_eq_left, Rect.mem_set_unit, Fin.forall_fin_succ] at hn
  simp at hn
  omega

/-- Every column block is the same product. -/
theorem pay3_eq (h : FVec Ideal S512x1024 .bf16) (w : Vec Ideal S1024x768 .bf16) : k0_pay3 h w = k0_pay2 h w := rfl
theorem pay5_eq (x : Vec Ideal S512x1024 .f32) (g : Vec Ideal S1x1x1024 .f32) (s b : Vec Ideal S1x1x1x1024 .f32) (w : Vec Ideal S1024x768 .bf16) :
    k0_pay5 x g s b w = k0_pay2 (k0_pay4 x g s b) w := rfl
theorem pay6_eq (x : Vec Ideal S512x1024 .f32) (g : Vec Ideal S1x1x1024 .f32) (s b : Vec Ideal S1x1x1x1024 .f32) (w : Vec Ideal S1024x768 .bf16) :
    k0_pay1 (k0_pay6 x g s b w) = k0_pay2 (k0_pay4 x g s b) w := rfl

/-- The body's stores: four column blocks of the product. -/
theorem stores (x0 : Vec Ideal S512x1024 .f32) (x1 x2 : Vec Ideal S1x1x1x1024 .f32) (x3 : Vec Ideal S1x1x1024 .f32) (x4 : Vec Ideal S1024x3072 .bf16) :
    out0_5 x0 x1 x2 x3 x4 = View.canon (Val := Elt Ideal) [⟨r0_10, k0_pay2 (k0_pay4 x0 x3 x2 x1) (View.ld x4 r0_9)⟩,
      ⟨r0_8, k0_pay2 (k0_pay4 x0 x3 x2 x1) (View.ld x4 r0_7)⟩, ⟨r0_6, k0_pay2 (k0_pay4 x0 x3 x2 x1) (View.ld x4 r0_5)⟩,
      ⟨r0_4, k0_pay2 (k0_pay4 x0 x3 x2 x1) (View.ld x4 r0_3)⟩] := by
  have e0 : View.ld x0 r0_0 = x0 := View.ld_unit_lit _ _ (by decide)
  have e1 : View.ld x1 r0_2 = x1 := View.ld_unit_lit _ _ (by decide)
  have e2 : View.ld x2 r0_2 = x2 := View.ld_unit_lit _ _ (by decide)
  have e3 : View.ld x3 r0_1 = x3 := View.ld_unit_lit _ _ (by decide)
  unfold_out out0_5
  rw [pay3_eq, pay5_eq, pay6_eq, e0, e1, e2, e3]

/-- What a point leaves in its block. -/
theorem point (t : Fin cfg0.N) (y : S512x3072.Idx) :
    out0_5 (iblk m c 0 t) (iblk m c 1 t) (iblk m c 2 t) (iblk m c 3 t) (iblk m c 4 t) y = term m c t (y 0) (y 1) := by
  refine (congrFun (stores _ _ _ _ _) y).trans ?_
  refine columns (fun y => term m c t (y 0) (y 1)) _ _ _ _ ?_ ?_ ?_ ?_ y
  · exact fun r l => piece m c t 0 _ r l _ rfl
  · exact fun r l => piece m c t 768 _ r l _ rfl
  · exact fun r l => piece m c t 1536 _ r l _ rfl
  · exact fun r l => piece m c t 2304 _ r l _ rfl

/-- The result: the projection. -/
theorem final : (dats m 0 c).arrAt 5 (cfgs 0).N
    = val_main_v31 (F := Ideal) (input m c) (mods m c) (scales m c) (weight m c) := by
  refine (dats m 0 c).arrAt_eq_of_covers 5 _ (by decide +kernel) fun t _ y => ?_
  blk_simp
  rw [after0_5, point]
  obtain ⟨r, l, rfl⟩ : ∃ (r : Fin 512) (l : Fin 3072), y = ix2 r l := ⟨y 0, y 1, eq_ix2 y⟩
  have ht : t.val < 4 := lt_of_lt_of_eq t.isLt N_0
  rw [show ((cfg0.win 5).blk t).view.emb (ix2 r l) = ix2 (⟨t.val * 512 + r.val, by omega⟩ : Fin 2048) l from by
    refine (ix2_of ?_ ?_).symm <;> (blk_simp [idx t]; try omega)]
  refine (Fin.sum_fin_congr fun k => congrArg (· * _) (h_point m c t r k ⟨t.val * 512 + r.val, by omega⟩ rfl)).trans ?_
  unfold hid
  generalize hh : val_main_v27 (F := Ideal) (input m c) (mods m c) (scales m c) = h
  pointwise [val_main_v31, val_main_v30, val_main_v29, val_main_v28, hh]

end Cert.Proof.Proj

end
-- ==== Proof.Proj.Claims.lean ====
/- The claims about a layer's input projection: its frames, and its result equal to the plain program's. -/
module

public import proofs.«01_k».proof.Defs
public import proofs.«01_k».proof.Proof.Proj.Value
public import proofs.«01_k».proof.Proof.Gen.Proj.Frame
public import Idealize.ShloMosaic.Lib.Claim

@[expose] public section

set_option maxRecDepth 16384

noncomputable section

namespace Cert.Proof.Proj

open Idealize.ShloMosaic Idealize.ShloMosaic.TcCoe Idealize.SL.Sem

theorem frame_kernel : Cert.quiescent_Proj := fun m ρ _ => Cert.Proj.Gen.frame m ρ

theorem frame_ideal : Cert.quiescent_ProjIdeal := fun m ρ _ => Cert.ProjIdeal.Gen.frame m ρ

theorem frame_reference : Cert.quiescent_ProjRefIdeal := fun m g _ =>
  (θ_run Cert.ProjRefIdeal.defs _ _).mono
    (fun r h => ⟨fun c => (h c).2, sem_eq_zero_of_no_sems (by decide) r.2⟩) (Cert.ProjRefIdeal.Value.run m g)

theorem algebraic : Cert.algebraic_ProjIdeal_ProjRefIdeal := by
  pair_intro
  · run_from Cert.ProjIdeal.Gen.run_main m g
  · run_from Cert.ProjRefIdeal.Value.run m' g'
    · exact (Cert.ProjRefIdeal.Read.val_main_v31_eq _ _ _ _).trans (final m c).symm

end Cert.Proof.Proj

end
-- ==== Proof.OutFwd.Value.lean ====
/- What a middle layer's output projection leaves in its two result arrays: the layer's output and the projection, each
   equal to the plain program's array. -/
module

public import proofs.«01_k».proof.Proof.Gen.OutFwdIdeal.Value
public import proofs.«01_k».proof.Proof.Gen.OutFwdRefIdeal.Read
public import Idealize.ShloMosaic.Lib.Pipeline.ValueKit

@[expose] public section

set_option maxRecDepth 16384

noncomputable section

namespace Cert.Proof.OutFwd

open Cert.OutFwdIdeal Cert.OutFwdIdeal.Gen Idealize.ShloMosaic Idealize.ShloMosaic.TcCoe Idealize.SL.Sem
open Cert.OutFwdRefIdeal.Read

variable (m : (ℓ : Loc nD τ sig) → Buf (Elt Ideal) ℓ)

/-- Every window's block index at every point: the point is the row block. -/
theorem idx : ∀ t : Fin cfg0.N, win0_0.index t = ![t.val, 0] ∧ win0_1.index t = ![t.val, 0]
    ∧ win0_2.index t = ![0, 0] ∧ win0_3.index t = ![t.val, 0] ∧ win0_4.index t = ![2, 2, 0, 0]
    ∧ win0_5.index t = ![2, 0, 0] ∧ win0_6.index t = ![t.val, 0] ∧ win0_7.index t = ![t.val, 0] :=
  (by decide +kernel : ∀ t : Fin grid0.N, _)

/-- The arguments, shortened: the two mixers' rows, the weight, the layer's input, the modulation, the norm's scale. -/
abbrev rowsA (c : Dev nD) := m ((c : Thread nD τ).loc main_arg0)
abbrev rowsP (c : Dev nD) := m ((c : Thread nD τ).loc main_arg1)
abbrev weight (c : Dev nD) := m ((c : Thread nD τ).loc main_arg2)
abbrev input (c : Dev nD) := m ((c : Thread nD τ).loc main_arg3)
abbrev mods (c : Dev nD) := m ((c : Thread nD τ).loc main_arg4)
abbrev scales (c : Dev nD) := m ((c : Thread nD τ).loc main_arg5)

/-- The weight's upper and lower half as a point reads them. -/
abbrev upper (c : Dev nD) (t : Fin cfg0.N) : Vec Ideal S512x1024 .bf16 :=
  View.ld (iblk m c 2 t) (Rect.unit (s := S1024x1024) ![0, 0] ![512, 1024] inb_S1024x1024_S512x1024_0_0)
abbrev lower (c : Dev nD) (t : Fin cfg0.N) : Vec Ideal S512x1024 .bf16 :=
  View.ld (iblk m c 2 t) (Rect.unit (s := S1024x1024) ![512, 0] ![512, 1024] inb_S1024x1024_S512x1024_512_0)

/-- A point's block of the projection is the plain program's at the block's place. -/
theorem proj_at (c : Dev nD) (t : Fin cfg0.N) (r : Fin 512) (l : Fin 1024) (i : S2048x1024.Idx)
    (h0 : (i 0).val = t.val * 512 + r.val) (h1 : (i 1).val = l.val) :
    k0_pay1 (iblk m c 0 t) (upper m c t) (iblk m c 1 t) (lower m c t) (ix2 r l)
      = val_main_v9 (F := Ideal) (rowsA m c) (rowsP m c) (weight m c) i := by
  idx_vars i
  pointwise [k0_pay1, upper, lower, val_main_v9, val_main_v8, val_main_v7, val_main_v6, val_main_v5]
  blk_point [iblk, upper, lower, V, idx t]

/-- Second result: the projection. -/
theorem final_y (c : Dev nD) :
    (dats m 0 c).arrAt 7 (cfgs 0).N = val_main_v29 (F := Ideal) (rowsA m c) (rowsP m c) (weight m c) := by
  refine (dats m 0 c).arrAt_eq_of_covers 7 _ (by decide +kernel) fun t _ y => ?_
  blk_simp
  have hy : (outsAt0 m c t).2 = k0_pay3 (iblk m c 0 t) (upper m c t) (iblk m c 1 t) (lower m c t) := by
    unfold outsAt0; frame_out; try rfl
  rw [after0_7, hy]
  obtain ⟨r, l, rfl⟩ : ∃ (r : Fin 512) (l : Fin 1024), y = ix2 r l := ⟨y 0, y 1, eq_ix2 y⟩
  pointwise [k0_pay3, val_main_v29]
  refine proj_at m c t r l _ ?_ ?_ <;> (blk_simp [idx t]; try omega)

/-- A row's sum of squares. -/
theorem squares (c : Dev nD) (t : Fin cfg0.N) (r : Fin 512) (R : Fin 2048) (h : R.val = t.val * 512 + r.val) :
    ∑ l : Fin 1024, k0_pay1 (iblk m c 0 t) (upper m c t) (iblk m c 1 t) (lower m c t) (ix2 r l)
        * k0_pay1 (iblk m c 0 t) (upper m c t) (iblk m c 1 t) (lower m c t) (ix2 r l)
      = ∑ l : Fin 1024, val_main_v9 (F := Ideal) (rowsA m c) (rowsP m c) (weight m c) (ix2 R l)
        * val_main_v9 (F := Ideal) (rowsA m c) (rowsP m c) (weight m c) (ix2 R l) :=
  Finset.sum_congr rfl fun l _ => by rw [proj_at m c t r l (ix2 R l) h rfl]

/-- First result: the layer's output, the input and the gated norm of the projection. -/
theorem final_x (c : Dev nD) : (dats m 0 c).arrAt 6 (cfgs 0).N
    = val_main_v28 (F := Ideal) (rowsA m c) (rowsP m c) (weight m c) (input m c) (mods m c) (scales m c) := by
  refine (dats m 0 c).arrAt_eq_of_covers 6 _ (by decide +kernel) fun t _ y => ?_
  blk_simp
  have hy : (outsAt0 m c t).1 = k0_pay2 (iblk m c 0 t) (upper m c t) (iblk m c 1 t) (lower m c t) (iblk m c 3 t)
      (iblk m c 4 t) (iblk m c 5 t) := by
    unfold outsAt0; frame_out; try rfl
  rw [after0_6, hy]
  obtain ⟨r, l, rfl⟩ : ∃ (r : Fin 512) (l : Fin 1024), y = ix2 r l := ⟨y 0, y 1, eq_ix2 y⟩
  generalize hi : ((cfg0.win 6).blk t).view.emb (ix2 r l) = i
  have h0 : (i 0).val = t.val * 512 + r.val := by rw [← hi]; blk_simp [idx t]
  have h1 : (i 1).val = l.val := by rw [← hi]; blk_simp [idx t]
  clear hi
  idx_vars i
  have hp := proj_at m c t r l (ix2 i0 i1) h0 h1
  have hs := squares m c t r i0 h0
  pointwise [k0_pay2, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v4, val_main_v1, val_main_v0, val_main_cst,
    val_main_cst_0, val_main_cst_1]
  rw [hp, hs]
  blk_point [iblk, V, idx t]

end Cert.Proof.OutFwd

end
-- ==== Proof.OutFwd.Claims.lean ====
/- The claims about a middle layer's output projection: its frames, and its two results equal to the plain program's. -/
module

public import proofs.«01_k».proof.Defs
public import proofs.«01_k».proof.Proof.OutFwd.Value
public import proofs.«01_k».proof.Proof.Gen.OutFwd.Frame
public import Idealize.ShloMosaic.Lib.Claim

@[expose] public section

set_option maxRecDepth 16384

noncomputable section

namespace Cert.Proof.OutFwd

open Idealize.ShloMosaic Idealize.ShloMosaic.TcCoe Idealize.SL.Sem

theorem frame_kernel : Cert.quiescent_OutFwd := fun m ρ _ => Cert.OutFwd.Gen.frame m ρ

theorem frame_ideal : Cert.quiescent_OutFwdIdeal := fun m ρ _ => Cert.OutFwdIdeal.Gen.frame m ρ

theorem frame_reference : Cert.quiescent_OutFwdRefIdeal := fun m g _ =>
  (θ_run Cert.OutFwdRefIdeal.defs _ _).mono
    (fun r h => ⟨fun c => (h c).2.2, sem_eq_zero_of_no_sems (by decide) r.2⟩) (Cert.OutFwdRefIdeal.Value.run m g)

theorem algebraic : Cert.algebraic_OutFwdIdeal_OutFwdRefIdeal := by
  pair_intro
  · run_from Cert.OutFwdIdeal.Gen.run_main m g
  · run_from Cert.OutFwdRefIdeal.Value.run m' g'
    · exact (Cert.OutFwdRefIdeal.Read.val_main_v28_eq _ _ _ _ _ _).trans (final_x m c).symm
    · exact (Cert.OutFwdRefIdeal.Read.val_main_v29_eq _ _ _).trans (final_y m c).symm

end Cert.Proof.OutFwd

end
-- ==== Proof.lean ====
/- The certificate: every claim about every program of the training step, put together. -/
module

public import proofs.«01_k».proof.Defs
public import proofs.«01_k».proof.Proof.Ada.Claims
public import proofs.«01_k».proof.Proof.Mix.Claims
public import proofs.«01_k».proof.Proof.Out.Claims
public import proofs.«01_k».proof.Proof.In.Claims
public import proofs.«01_k».proof.Proof.InFirst.Claims
public import proofs.«01_k».proof.Proof.InLast.Claims
public import proofs.«01_k».proof.Proof.Loss.Claims
public import proofs.«01_k».proof.Proof.MixFwd.Claims
public import proofs.«01_k».proof.Proof.Proj.Claims
public import proofs.«01_k».proof.Proof.OutFwd.Claims
public import Idealize.ShloMosaic.Adequacy
public import Idealize.ShloMosaic.Init

@[expose] public section

noncomputable section

namespace Cert.Proof

theorem claim : Cert.Claim :=
  ⟨Cert.Ada.Gen.facts, Cert.AdaIdeal.Gen.facts, Cert.AdaRefIdeal.Gen.facts, Cert.Mix.Gen.facts,
  Cert.MixIdeal.Gen.facts, Cert.MixRefIdeal.Gen.facts, Cert.Out.Gen.facts, Cert.OutIdeal.Gen.facts,
  Cert.OutRefIdeal.Gen.facts, Cert.In.Gen.facts, Cert.InIdeal.Gen.facts, Cert.InRefIdeal.Gen.facts,
  Cert.InFirst.Gen.facts, Cert.InFirstIdeal.Gen.facts, Cert.InFirstRefIdeal.Gen.facts, Cert.InLast.Gen.facts,
  Cert.InLastIdeal.Gen.facts, Cert.InLastRefIdeal.Gen.facts, Cert.Loss.Gen.facts, Cert.LossIdeal.Gen.facts,
  Cert.LossRefIdeal.Gen.facts, Cert.MixFwd.Gen.facts, Cert.MixFwdIdeal.Gen.facts, Cert.MixFwdRefIdeal.Gen.facts,
  Cert.Proj.Gen.facts, Cert.ProjIdeal.Gen.facts, Cert.ProjRefIdeal.Gen.facts, Cert.OutFwd.Gen.facts,
  Cert.OutFwdIdeal.Gen.facts, Cert.OutFwdRefIdeal.Gen.facts, Mix.facts_pre, Out.facts_pre, In.facts_pre,
  MixFwd.facts_pre, Ada.frame_kernel, Ada.frame_ideal, Ada.frame_reference, Mix.frame_kernel, Mix.frame_ideal,
  @Mix.frame_ideal_pre Mix.facts_pre, Mix.frame_reference, @Mix.frame_reference_pre Mix.facts_pre, Out.frame_kernel,
  Out.frame_ideal, @Out.frame_ideal_pre Out.facts_pre, Out.frame_reference, @Out.frame_reference_pre Out.facts_pre,
  In.frame_kernel, In.frame_ideal, @In.frame_ideal_pre In.facts_pre, In.frame_reference, @In.frame_reference_pre
  In.facts_pre, InFirst.frame_kernel, InFirst.frame_ideal, InFirst.frame_reference, InLast.frame_kernel,
  InLast.frame_ideal, InLast.frame_reference, Loss.frame_kernel, Loss.frame_ideal, Loss.frame_reference,
  MixFwd.frame_kernel, MixFwd.frame_ideal, @MixFwd.frame_ideal_pre MixFwd.facts_pre, MixFwd.frame_reference,
  @MixFwd.frame_reference_pre MixFwd.facts_pre, Proj.frame_kernel, Proj.frame_ideal, Proj.frame_reference,
  OutFwd.frame_kernel, OutFwd.frame_ideal, OutFwd.frame_reference, trivial, Ada.algebraic, trivial, @Mix.algebraic
  Mix.facts_pre, trivial, @Out.algebraic Out.facts_pre, trivial, @In.algebraic In.facts_pre, trivial, trivial,
  trivial, Loss.algebraic, trivial, @MixFwd.algebraic MixFwd.facts_pre, trivial, Proj.algebraic, trivial,
  OutFwd.algebraic⟩

end Cert.Proof

end
